-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3))).1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3))).2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3))).2.2 = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3))).1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3))).2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3))).2.2 = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Kernel25Ideal_finite9 [hPre_finite9 : Cert.Pre_finite9.Facts] (m : (ℓ : Loc Cert.Kernel25Ideal.nD Cert.Kernel25Ideal.τ Cert.Kernel25Ideal.sig) → Buf (Elt Ideal) ℓ) : Prop :=
  ∀ c : Dev Cert.Kernel25Ideal.nD,
    (Cert.Pre_finite9.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3))).1 = (fun _ => 1#1)
    ∧ (Cert.Pre_finite9.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3))).2.1 = (fun _ => 1#1)
    ∧ (Cert.Pre_finite9.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3))).2.2 = (fun _ => 1#1)

def Pre_Reference25Ideal (m : (ℓ : Loc Cert.Reference25Ideal.nD Cert.Reference25Ideal.τ Cert.Reference25Ideal.sig) → Buf (Elt Ideal) ℓ) : Prop :=
  True

def Pre_Reference25Ideal_finite9 [hPre_finite9 : Cert.Pre_finite9.Facts] (m : (ℓ : Loc Cert.Reference25Ideal.nD Cert.Reference25Ideal.τ Cert.Reference25Ideal.sig) → Buf (Elt Ideal) ℓ) : Prop :=
  ∀ c : Dev Cert.Reference25Ideal.nD,
    (Cert.Pre_finite9.fn (F := Ideal) (m ((c.tc : Thread Cert.Reference25Ideal.nD Cert.Reference25Ideal.τ).loc Cert.Reference25Ideal.main_arg0)) (m ((c.tc : Thread Cert.Reference25Ideal.nD Cert.Reference25Ideal.τ).loc Cert.Reference25Ideal.main_arg1)) (m ((c.tc : Thread Cert.Reference25Ideal.nD Cert.Reference25Ideal.τ).loc Cert.Reference25Ideal.main_arg2)) (m ((c.tc : Thread Cert.Reference25Ideal.nD Cert.Reference25Ideal.τ).loc Cert.Reference25Ideal.main_arg3))).1 = (fun _ => 1#1)
    ∧ (Cert.Pre_finite9.fn (F := Ideal) (m ((c.tc : Thread Cert.Reference25Ideal.nD Cert.Reference25Ideal.τ).loc Cert.Reference25Ideal.main_arg0)) (m ((c.tc : Thread Cert.Reference25Ideal.nD Cert.Reference25Ideal.τ).loc Cert.Reference25Ideal.main_arg1)) (m ((c.tc : Thread Cert.Reference25Ideal.nD Cert.Reference25Ideal.τ).loc Cert.Reference25Ideal.main_arg2)) (m ((c.tc : Thread Cert.Reference25Ideal.nD Cert.Reference25Ideal.τ).loc Cert.Reference25Ideal.main_arg3))).2.1 = (fun _ => 1#1)
    ∧ (Cert.Pre_finite9.fn (F := Ideal) (m ((c.tc : Thread Cert.Reference25Ideal.nD Cert.Reference25Ideal.τ).loc Cert.Reference25Ideal.main_arg0)) (m ((c.tc : Thread Cert.Reference25Ideal.nD Cert.Reference25Ideal.τ).loc Cert.Reference25Ideal.main_arg1)) (m ((c.tc : Thread Cert.Reference25Ideal.nD Cert.Reference25Ideal.τ).loc Cert.Reference25Ideal.main_arg2)) (m ((c.tc : Thread Cert.Reference25Ideal.nD Cert.Reference25Ideal.τ).loc Cert.Reference25Ideal.main_arg3))).2.2 = (fun _ => 1#1)

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Kernel25Ideal_pre_finite9 [hKernel25Ideal : Cert.Kernel25Ideal.Facts] [hPre_finite9 : Cert.Pre_finite9.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal_finite9 m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Reference25Ideal_pre_finite9 [hReference25Ideal : Cert.Reference25Ideal.Facts] [hPre_finite9 : Cert.Pre_finite9.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal_finite9 m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v26_0)) (v1 : (c : Dev Cert.KernelIdeal.nD) → Buf (Elt Ideal) ((c.tc : Thread Cert.KernelIdeal.nD Cert.KernelIdeal.τ).loc Cert.KernelIdeal.main_v26_1)) (v2 : (c : Dev Cert.KernelIdeal.nD) → Buf (Elt Ideal) ((c.tc : Thread Cert.KernelIdeal.nD Cert.KernelIdeal.τ).loc Cert.KernelIdeal.main_v26_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_0) = v0 c
          ∧ r.2.mem ((c.tc : Thread Cert.KernelIdeal.nD Cert.KernelIdeal.τ).loc Cert.KernelIdeal.main_v26_1) = v1 c
          ∧ r.2.mem ((c.tc : Thread Cert.KernelIdeal.nD Cert.KernelIdeal.τ).loc Cert.KernelIdeal.main_v26_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v194) = v0 c
          ∧ r.2.mem ((c.tc : Thread Cert.ReferenceIdeal.nD Cert.ReferenceIdeal.τ).loc Cert.ReferenceIdeal.main_v196) = v1 c
          ∧ r.2.mem ((c.tc : Thread Cert.ReferenceIdeal.nD Cert.ReferenceIdeal.τ).loc Cert.ReferenceIdeal.main_v198) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)) (v2 : (c : Dev Cert.Kernel2Ideal.nD) → Buf (Elt Ideal) ((c.tc : Thread Cert.Kernel2Ideal.nD Cert.Kernel2Ideal.τ).loc Cert.Kernel2Ideal.main_v8_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_v8_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_v10) = v1 c
          ∧ r.2.mem ((c.tc : Thread Cert.Reference2Ideal.nD Cert.Reference2Ideal.τ).loc Cert.Reference2Ideal.main_v16) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v14)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v14) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v9) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v9_0)) (v1 : (c : Dev Cert.Kernel9Ideal.nD) → Buf (Elt Ideal) ((c.tc : Thread Cert.Kernel9Ideal.nD Cert.Kernel9Ideal.τ).loc Cert.Kernel9Ideal.main_v9_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v9_0) = v0 c
          ∧ r.2.mem ((c.tc : Thread Cert.Kernel9Ideal.nD Cert.Kernel9Ideal.τ).loc Cert.Kernel9Ideal.main_v9_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v13) = v0 c
          ∧ r.2.mem ((c.tc : Thread Cert.Reference9Ideal.nD Cert.Reference9Ideal.τ).loc Cert.Reference9Ideal.main_v17) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v3_0)) (v1 : (c : Dev Cert.Kernel10Ideal.nD) → Buf (Elt Ideal) ((c.tc : Thread Cert.Kernel10Ideal.nD Cert.Kernel10Ideal.τ).loc Cert.Kernel10Ideal.main_v3_1)) (v2 : (c : Dev Cert.Kernel10Ideal.nD) → Buf (Elt Ideal) ((c.tc : Thread Cert.Kernel10Ideal.nD Cert.Kernel10Ideal.τ).loc Cert.Kernel10Ideal.main_v3_2)) (v3 : (c : Dev Cert.Kernel10Ideal.nD) → Buf (Elt Ideal) ((c.tc : Thread Cert.Kernel10Ideal.nD Cert.Kernel10Ideal.τ).loc Cert.Kernel10Ideal.main_v3_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3_0) = v0 c
          ∧ r.2.mem ((c.tc : Thread Cert.Kernel10Ideal.nD Cert.Kernel10Ideal.τ).loc Cert.Kernel10Ideal.main_v3_1) = v1 c
          ∧ r.2.mem ((c.tc : Thread Cert.Kernel10Ideal.nD Cert.Kernel10Ideal.τ).loc Cert.Kernel10Ideal.main_v3_2) = v2 c
          ∧ r.2.mem ((c.tc : Thread Cert.Kernel10Ideal.nD Cert.Kernel10Ideal.τ).loc Cert.Kernel10Ideal.main_v3_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v36) = v0 c
          ∧ r.2.mem ((c.tc : Thread Cert.Reference10Ideal.nD Cert.Reference10Ideal.τ).loc Cert.Reference10Ideal.main_v37) = v1 c
          ∧ r.2.mem ((c.tc : Thread Cert.Reference10Ideal.nD Cert.Reference10Ideal.τ).loc Cert.Reference10Ideal.main_v38) = v2 c
          ∧ r.2.mem ((c.tc : Thread Cert.Reference10Ideal.nD Cert.Reference10Ideal.τ).loc Cert.Reference10Ideal.main_v39) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v9) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v9) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v8) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v9) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v9) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v3) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v3) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v4) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v4)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v4) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v5) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v7_0)) (v1 : (c : Dev Cert.Kernel19Ideal.nD) → Buf (Elt Ideal) ((c.tc : Thread Cert.Kernel19Ideal.nD Cert.Kernel19Ideal.τ).loc Cert.Kernel19Ideal.main_v7_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v7_0) = v0 c
          ∧ r.2.mem ((c.tc : Thread Cert.Kernel19Ideal.nD Cert.Kernel19Ideal.τ).loc Cert.Kernel19Ideal.main_v7_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v5) = v0 c
          ∧ r.2.mem ((c.tc : Thread Cert.Reference19Ideal.nD Cert.Reference19Ideal.τ).loc Cert.Reference19Ideal.main_v12) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v38) = v0 c
          ∧ r.2.mem ((c.tc : Thread Cert.Reference22Ideal.nD Cert.Reference22Ideal.τ).loc Cert.Reference22Ideal.main_v41) = v1 c
          ∧ r.2.mem ((c.tc : Thread Cert.Reference22Ideal.nD Cert.Reference22Ideal.τ).loc Cert.Reference22Ideal.main_v42) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v38) = v0 c
          ∧ r.2.mem ((c.tc : Thread Cert.Reference23Ideal.nD Cert.Reference23Ideal.τ).loc Cert.Reference23Ideal.main_v39) = v1 c
          ∧ r.2.mem ((c.tc : Thread Cert.Reference23Ideal.nD Cert.Reference23Ideal.τ).loc Cert.Reference23Ideal.main_v40) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v6)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v6) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v4) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal_pre_finite9 [hKernel25Ideal : Cert.Kernel25Ideal.Facts] [hReference25Ideal : Cert.Reference25Ideal.Facts] [hPre_finite9 : Cert.Pre_finite9.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal_finite9 m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v9_0)) (v1 : (c : Dev Cert.Kernel25Ideal.nD) → Buf (Elt Ideal) ((c.tc : Thread Cert.Kernel25Ideal.nD Cert.Kernel25Ideal.τ).loc Cert.Kernel25Ideal.main_v9_1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v9_0) = v0 c
          ∧ r.2.mem ((c.tc : Thread Cert.Kernel25Ideal.nD Cert.Kernel25Ideal.τ).loc Cert.Kernel25Ideal.main_v9_1) = v1 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v13) = v0 c
          ∧ r.2.mem ((c.tc : Thread Cert.Reference25Ideal.nD Cert.Reference25Ideal.τ).loc Cert.Reference25Ideal.main_v17) = v1 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v14)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v14) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v8) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v3) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v9) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v3) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v9) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v3) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v8) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hPre_finite : Cert.Pre_finite.Facts) (hPre_finite9 : Cert.Pre_finite9.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Kernel25Ideal_pre_finite9 (hKernel25Ideal := hKernel25Ideal) (hPre_finite9 := hPre_finite9)
    ∧ quiescent_Reference25Ideal (hReference25Ideal := hReference25Ideal)
    ∧ quiescent_Reference25Ideal_pre_finite9 (hReference25Ideal := hReference25Ideal) (hPre_finite9 := hPre_finite9)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal_pre_finite9 (hKernel25Ideal := hKernel25Ideal) (hReference25Ideal := hReference25Ideal) (hPre_finite9 := hPre_finite9)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
-- ==== Pre_finite.lean ====
abbrev S4096x11264 : Shape := ⟨2, ![4096, 11264]⟩
abbrev S8x257 : Shape := ⟨2, ![8, 257]⟩
abbrev S4096x1024 : Shape := ⟨2, ![4096, 1024]⟩
abbrev S4096x2048 : Shape := ⟨2, ![4096, 2048]⟩
abbrev S_ : Shape := ⟨0, ![]⟩

class Facts : Prop where
  slices_S4096x11264_S4096x2048_0_0 : S4096x11264.Slices ![0, 0] S4096x2048
  bcast_S_S4096x2048 : S_.BroadcastsInDim S4096x2048 (![] : Fin 0 → Fin S4096x2048.rank)
  bcast_S_S8x257 : S_.BroadcastsInDim S8x257 (![] : Fin 0 → Fin S8x257.rank)

variable [Facts]

def fn {F : FTy → Type} [FloatOps F] (main_arg0 : FVec F S4096x11264 .bf16) (main_arg1 : FVec F S8x257 .f32) (main_arg2 : FVec F S4096x1024 .bf16) : IVec S4096x2048 1 × IVec S8x257 1 :=
  let main_v0 : FVec F S4096x2048 .bf16 := (extractStridedSlice S4096x2048 ![0, 0] · slices_S4096x11264_S4096x2048_0_0) main_arg0
  let main_v1 : FVec F S4096x2048 .bf16 := Host.absf main_v0
  let main_cst : FVec F S_ .bf16 := constant S_ .bf16 0x7F80#16
  let main_v2 : FVec F S4096x2048 .bf16 := broadcastInDim S4096x2048 ![] bcast_S_S4096x2048 main_cst
  let main_v3 : IVec S4096x2048 1 := cmpf .olt main_v1 main_v2
  let main_v4 : FVec F S8x257 .f32 := Host.absf main_arg1
  let main_cst_0 : FVec F S_ .f32 := constant S_ .f32 0x7F800000#32
  let main_v5 : FVec F S8x257 .f32 := broadcastInDim S8x257 ![] bcast_S_S8x257 main_cst_0
  let main_v6 : IVec S8x257 1 := cmpf .olt main_v4 main_v5
  (main_v3, main_v6)
-- ==== Pre_finite9.lean ====
abbrev S4096x5632 : Shape := ⟨2, ![4096, 5632]⟩
abbrev S5632x2048 : Shape := ⟨2, ![5632, 2048]⟩
abbrev S4096x2048 : Shape := ⟨2, ![4096, 2048]⟩
abbrev S_ : Shape := ⟨0, ![]⟩

class Facts : Prop where
  bcast_S_S4096x5632 : S_.BroadcastsInDim S4096x5632 (![] : Fin 0 → Fin S4096x5632.rank)
  bcast_S_S5632x2048 : S_.BroadcastsInDim S5632x2048 (![] : Fin 0 → Fin S5632x2048.rank)
  bcast_S_S4096x2048 : S_.BroadcastsInDim S4096x2048 (![] : Fin 0 → Fin S4096x2048.rank)

variable [Facts]

def fn {F : FTy → Type} [FloatOps F] (main_arg0 : FVec F S4096x5632 .bf16) (main_arg1 : FVec F S4096x5632 .bf16) (main_arg2 : FVec F S5632x2048 .f32) (main_arg3 : FVec F S4096x2048 .bf16) : IVec S4096x5632 1 × IVec S5632x2048 1 × IVec S4096x2048 1 :=
  let main_v0 : FVec F S4096x5632 .bf16 := Host.absf main_arg1
  let main_cst : FVec F S_ .bf16 := constant S_ .bf16 0x7F80#16
  let main_v1 : FVec F S4096x5632 .bf16 := broadcastInDim S4096x5632 ![] bcast_S_S4096x5632 main_cst
  let main_v2 : IVec S4096x5632 1 := cmpf .olt main_v0 main_v1
  let main_v3 : FVec F S5632x2048 .f32 := Host.absf main_arg2
  let main_cst_0 : FVec F S_ .f32 := constant S_ .f32 0x7F800000#32
  let main_v4 : FVec F S5632x2048 .f32 := broadcastInDim S5632x2048 ![] bcast_S_S5632x2048 main_cst_0
  let main_v5 : IVec S5632x2048 1 := cmpf .olt main_v3 main_v4
  let main_v6 : FVec F S4096x2048 .bf16 := Host.absf main_arg3
  let main_cst_1 : FVec F S_ .bf16 := constant S_ .bf16 0x7F80#16
  let main_v7 : FVec F S4096x2048 .bf16 := broadcastInDim S4096x2048 ![] bcast_S_S4096x2048 main_cst_1
  let main_v8 : IVec S4096x2048 1 := cmpf .olt main_v6 main_v7
  (main_v2, main_v5, main_v8)
-- ==== Kernel.lean ====
abbrev S4096x11264 : Shape := ⟨2, ![4096, 11264]⟩
abbrev S8x257 : Shape := ⟨2, ![8, 257]⟩
abbrev S4096x1024 : Shape := ⟨2, ![4096, 1024]⟩
abbrev S_ : Shape := ⟨0, ![]⟩
abbrev S256x768 : Shape := ⟨2, ![256, 768]⟩
abbrev S1x256x768 : Shape := ⟨3, ![1, 256, 768]⟩
abbrev S256x768x1 : Shape := ⟨3, ![256, 768, 1]⟩
abbrev S8x256x768 : Shape := ⟨3, ![8, 256, 768]⟩
abbrev S256x128 : Shape := ⟨2, ![256, 128]⟩
abbrev S4096x128 : Shape := ⟨2, ![4096, 128]⟩
abbrev S4608x128 : Shape := ⟨2, ![4608, 128]⟩
abbrev S512x128 : Shape := ⟨2, ![512, 128]⟩
abbrev S768x128 : Shape := ⟨2, ![768, 128]⟩
abbrev S256 : Shape := ⟨1, ![256]⟩
abbrev S256x1 : Shape := ⟨2, ![256, 1]⟩

abbrev nBuf : Space → Nat
  | .hbm => 83
  | .vmem => 22
  | .smem => 0
  | _ => 0

abbrev bufTy : (tb : Table) → Fin (tcTables nBuf tb) → BufTy
  | .hbm, ⟨0, _⟩ => ⟨S4096x11264, .bf16⟩
  | .hbm, ⟨1, _⟩ => ⟨S8x257, .f32⟩
  | .hbm, ⟨2, _⟩ => ⟨S4096x1024, .bf16⟩
  | .hbm, ⟨3, _⟩ => ⟨S_, .f32⟩
  | .hbm, ⟨4, _⟩ => ⟨S256x768, .i32⟩
  | .hbm, ⟨5, _⟩ => ⟨S256x768, .i32⟩
  | .hbm, ⟨6, _⟩ => ⟨S_, .i32⟩
  | .hbm, ⟨7, _⟩ => ⟨S256x768, .i32⟩
  | .hbm, ⟨8, _⟩ => ⟨S256x768, .i32⟩
  | .hbm, ⟨9, _⟩ => ⟨S256x768, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S256x768, .i32⟩
  | .hbm, ⟨14, _⟩ => ⟨S256x768, .i32⟩
  | .hbm, ⟨15, _⟩ => ⟨S_, .i32⟩
  | .hbm, ⟨16, _⟩ => ⟨S256x768, .i32⟩
  | .hbm, ⟨17, _⟩ => ⟨S256x768, .i32⟩
  | .hbm, ⟨18, _⟩ => ⟨S_, .i32⟩
  | .hbm, ⟨19, _⟩ => ⟨S256x768, .i32⟩
  | .hbm, ⟨20, _⟩ => ⟨S256x768, .i32⟩
  | .hbm, ⟨21, _⟩ => ⟨S_, .i32⟩
  | .hbm, ⟨22, _⟩ => ⟨S_, .i32⟩
  | .hbm, ⟨23, _⟩ => ⟨S256x768, .i32⟩
  | .hbm, ⟨24, _⟩ => ⟨S256x768, .i32⟩
  | .hbm, ⟨25, _⟩ => ⟨S256x768, .i32⟩
  | .hbm, ⟨26, _⟩ => ⟨S_, .i32⟩
  | .hbm, ⟨27, _⟩ => ⟨S256x768, .i32⟩
  | .hbm, ⟨28, _⟩ => ⟨S256x768, .i1⟩
  | .hbm, ⟨29, _⟩ => ⟨S256x768, .i32⟩
  | .hbm, ⟨30, _⟩ => ⟨S256x768, .i32⟩
  | .hbm, ⟨31, _⟩ => ⟨S_, .i32⟩
  | .hbm, ⟨32, _⟩ => ⟨S256x768, .i32⟩
  | .hbm, ⟨33, _⟩ => ⟨S256x768, .i1⟩
  | .hbm, ⟨34, _⟩ => ⟨S256x768, .i1⟩
  | .hbm, ⟨35, _⟩ => ⟨S_, .i32⟩
  | .hbm, ⟨36, _⟩ => ⟨S256x768, .i32⟩
  | .hbm, ⟨37, _⟩ => ⟨S256x768, .i32⟩
  | .hbm, ⟨38, _⟩ => ⟨S256x768, .i32⟩
  | .hbm, ⟨39, _⟩ => ⟨S_, .i32⟩
  | .hbm, ⟨40, _⟩ => ⟨S_, .i32⟩
  | .hbm, ⟨41, _⟩ => ⟨S256x768, .i32⟩
  | .hbm, ⟨42, _⟩ => ⟨S256x768, .i32⟩
  | .hbm, ⟨43, _⟩ => ⟨S256x768, .i32⟩
  | .hbm, ⟨44, _⟩ => ⟨S_, .i32⟩
  | .hbm, ⟨45, _⟩ => ⟨S256x768, .i32⟩
  | .hbm, ⟨46, _⟩ => ⟨S256x768, .i1⟩
  | .hbm, ⟨47, _⟩ => ⟨S256x768, .i32⟩
  | .hbm, ⟨48, _⟩ => ⟨S256x768, .i32⟩
  | .hbm, ⟨49, _⟩ => ⟨S_, .i32⟩
  | .hbm, ⟨50, _⟩ => ⟨S256x768, .i32⟩
  | .hbm, ⟨51, _⟩ => ⟨S256x768, .i1⟩
  | .hbm, ⟨52, _⟩ => ⟨S256x768, .i1⟩
  | .hbm, ⟨53, _⟩ => ⟨S_, .i32⟩
  | .hbm, ⟨54, _⟩ => ⟨S256x768, .i32⟩
  | .hbm, ⟨55, _⟩ => ⟨S256x768, .i32⟩
  | .hbm, ⟨56, _⟩ => ⟨S256x768, .i32⟩
  | .hbm, ⟨57, _⟩ => ⟨S_, .i32⟩
  | .hbm, ⟨58, _⟩ => ⟨S256x768, .i32⟩
  | .hbm, ⟨59, _⟩ => ⟨S256x768, .i32⟩
  | .hbm, ⟨60, _⟩ => ⟨S256x768, .i1⟩
  | .hbm, ⟨61, _⟩ => ⟨S_, .i32⟩
  | .hbm, ⟨62, _⟩ => ⟨S256x768, .i32⟩
  | .hbm, ⟨63, _⟩ => ⟨S256x768, .i32⟩
  | .hbm, ⟨64, _⟩ => ⟨S256x768, .i1⟩
  | .hbm, ⟨65, _⟩ => ⟨S256x768, .i1⟩
  | .hbm, ⟨66, _⟩ => ⟨S1x256x768, .i1⟩
  | .hbm, ⟨67, _⟩ => ⟨S_, .i32⟩
  | .hbm, ⟨68, _⟩ => ⟨S256x768, .i32⟩
  | .hbm, ⟨69, _⟩ => ⟨S256x768, .i1⟩
  | .hbm, ⟨70, _⟩ => ⟨S_, .i32⟩
  | .hbm, ⟨71, _⟩ => ⟨S256x768, .i32⟩
  | .hbm, ⟨72, _⟩ => ⟨S256x768, .i32⟩
  | .hbm, ⟨73, _⟩ => ⟨S256x768, .i32⟩
  | .hbm, ⟨74, _⟩ => ⟨S256x768x1, .i32⟩
  | .hbm, ⟨75, _⟩ => ⟨S8x256x768, .f32⟩
  | .hbm, ⟨76, _⟩ => ⟨S8x256x768, .i1⟩
  | .hbm, ⟨77, _⟩ => ⟨S8x256x768, .f32⟩
  | .hbm, ⟨78, _⟩ => ⟨S8x256x768, .f32⟩
  | .hbm, ⟨79, _⟩ => ⟨S4096x1024, .bf16⟩
  | .hbm, ⟨80, _⟩ => ⟨S4096x1024, .bf16⟩
  | .hbm, ⟨81, _⟩ => ⟨S4096x1024, .bf16⟩
  | .hbm, ⟨82, _⟩ => ⟨S8x256x768, .f32⟩
  | .local _ .vmem, ⟨0, _⟩ => ⟨S256x128, .bf16⟩
  | .local _ .vmem, ⟨1, _⟩ => ⟨S256x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1x256x768, .f32⟩
  | .local _ .vmem, ⟨7, _⟩ => ⟨S1x256x768, .f32⟩
  | .local _ .vmem, ⟨8, _⟩ => ⟨S256x128, .bf16⟩
  | .local _ .vmem, ⟨9, _⟩ => ⟨S256x128, .bf16⟩
  | .local _ .vmem, ⟨10, _⟩ => ⟨S256x128, .bf16⟩
  | .local _ .vmem, ⟨11, _⟩ => ⟨S256x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S1x256x768, .f32⟩
  | .local _ .vmem, ⟨17, _⟩ => ⟨S1x256x768, .f32⟩
  | .local _ .vmem, ⟨18, _⟩ => ⟨S4608x128, .bf16⟩
  | .local _ .vmem, ⟨19, _⟩ => ⟨S4608x128, .bf16⟩
  | .local _ .vmem, ⟨20, _⟩ => ⟨S4608x128, .f32⟩
  | .local _ .vmem, ⟨21, _⟩ => ⟨S4608x128, .f32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v5 : Ref sig .tc := ⟨.hbm, 17, rfl⟩
abbrev main_c_2 : Ref sig .tc := ⟨.hbm, 18, rfl⟩
abbrev main_v6 : Ref sig .tc := ⟨.hbm, 19, rfl⟩
abbrev main_v7 : Ref sig .tc := ⟨.hbm, 20, rfl⟩
abbrev main_c_3 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_c : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_0 : Ref sig .tc := ⟨.hbm, 35, rfl⟩
abbrev main_call1_v12 : Ref sig .tc := ⟨.hbm, 36, rfl⟩
abbrev main_call1_v13 : Ref sig .tc := ⟨.hbm, 37, rfl⟩
abbrev main_v8 : Ref sig .tc := ⟨.hbm, 38, rfl⟩
abbrev main_c_4 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_call2_v5 : Ref sig .tc := ⟨.hbm, 45, rfl⟩
abbrev main_call2_v6 : Ref sig .tc := ⟨.hbm, 46, rfl⟩
abbrev main_call2_v7 : Ref sig .tc := ⟨.hbm, 47, rfl⟩
abbrev main_call2_v8 : Ref sig .tc := ⟨.hbm, 48, rfl⟩
abbrev main_call2_c : Ref sig .tc := ⟨.hbm, 49, rfl⟩
abbrev main_call2_v9 : Ref sig .tc := ⟨.hbm, 50, rfl⟩
abbrev main_call2_v10 : Ref sig .tc := ⟨.hbm, 51, rfl⟩
abbrev main_call2_v11 : Ref sig .tc := ⟨.hbm, 52, rfl⟩
abbrev main_call2_c_0 : Ref sig .tc := ⟨.hbm, 53, rfl⟩
abbrev main_call2_v12 : Ref sig .tc := ⟨.hbm, 54, rfl⟩
abbrev main_call2_v13 : Ref sig .tc := ⟨.hbm, 55, rfl⟩
abbrev main_v9 : Ref sig .tc := ⟨.hbm, 56, rfl⟩
abbrev main_c_5 : Ref sig .tc := ⟨.hbm, 57, rfl⟩
abbrev main_v10 : Ref sig .tc := ⟨.hbm, 58, rfl⟩
abbrev main_v11 : Ref sig .tc := ⟨.hbm, 59, rfl⟩
abbrev main_v12 : Ref sig .tc := ⟨.hbm, 60, rfl⟩
abbrev main_c_6 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_c_7 : Ref sig .tc := ⟨.hbm, 67, rfl⟩
abbrev main_v18 : Ref sig .tc := ⟨.hbm, 68, rfl⟩
abbrev main_v19 : Ref sig .tc := ⟨.hbm, 69, rfl⟩
abbrev main_c_8 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_call3_v0 : Ref sig .tc := ⟨.hbm, 76, rfl⟩
abbrev main_call3_v1 : Ref sig .tc := ⟨.hbm, 77, rfl⟩
abbrev main_v25 : Ref sig .tc := ⟨.hbm, 78, rfl⟩
abbrev main_v26_0 : Ref sig .tc := ⟨.hbm, 79, rfl⟩
abbrev main_v26_1 : Ref sig .tc := ⟨.hbm, 80, rfl⟩
abbrev main_v26_2 : Ref sig .tc := ⟨.hbm, 81, rfl⟩
abbrev main_v26_3 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 2 → Nat :=
  let arg1 : BitVec 32 := BitVec.ofNat 32 (i 1).val
  let c256_i32 : BitVec 32 := 256#32
  let v3 : BitVec 32 := Scalar.muli arg1 c256_i32
  let v4 : BitVec 32 := v3
  let v6 : Index := Scalar.indexCast v4
  let c0_2 : Index := 0#32
  ![v6.toNat, 0]
def k0_cond2 (i : grid0.Coords) : BitVec 1 :=
  let arg1 : BitVec 32 := BitVec.ofNat 32 (i 1).val
  let c15_i32 : BitVec 32 := 15#32
  let v72 : BitVec 1 := Scalar.cmpi .eq arg1 c15_i32
  let v73 : BitVec 32 := Scalar.extui v72
  let c0_i32_33 : BitVec 32 := 0#32
  let v74 : BitVec 1 := Scalar.cmpi .ne v73 c0_i32_33
  v74

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S4096x11264 : Shape := ⟨2, ![4096, 11264]⟩
abbrev S8x257 : Shape := ⟨2, ![8, 257]⟩
abbrev S4096x1024 : Shape := ⟨2, ![4096, 1024]⟩
abbrev S_ : Shape := ⟨0, ![]⟩
abbrev S1x4096x8x128 : Shape := ⟨4, ![1, 4096, 8, 128]⟩
abbrev S1x64x64x8x128 : Shape := ⟨5, ![1, 64, 64, 8, 128]⟩
abbrev S1x8x64x8x128 : Shape := ⟨5, ![1, 8, 64, 8, 128]⟩
abbrev S1x72x64x8x128 : Shape := ⟨5, ![1, 72, 64, 8, 128]⟩
abbrev S1x64x576x8x128 : Shape := ⟨5, ![1, 64, 576, 8, 128]⟩
abbrev S1x8x64x64x576 : Shape := ⟨5, ![1, 8, 64, 64, 576]⟩
abbrev S64 : Shape := ⟨1, ![64]⟩
abbrev S576 : Shape := ⟨1, ![576]⟩
abbrev S64x1 : Shape := ⟨2, ![64, 1]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S1x8x1x64x576 : Shape := ⟨5, ![1, 8, 1, 64, 576]⟩
abbrev S1x1x64x1x576 : Shape := ⟨5, ![1, 1, 64, 1, 576]⟩
abbrev S1x8x64x64 : Shape := ⟨4, ![1, 8, 64, 64]⟩
abbrev S1x8x64x64x1 : Shape := ⟨5, ![1, 8, 64, 64, 1]⟩
abbrev S1x64x8x128x64 : Shape := ⟨5, ![1, 64, 8, 128, 64]⟩
abbrev S1x4096x1024 : Shape := ⟨3, ![1, 4096, 1024]⟩
abbrev S1x64x8x64x576 : Shape := ⟨5, ![1, 64, 8, 64, 576]⟩
abbrev S1x64x8x128x576 : Shape := ⟨5, ![1, 64, 8, 128, 576]⟩
abbrev S8x64x64 : Shape := ⟨3, ![8, 64, 64]⟩
abbrev S1x8x64x576x128 : Shape := ⟨5, ![1, 8, 64, 576, 128]⟩
abbrev S1x8x64x64x128 : Shape := ⟨5, ![1, 8, 64, 64, 128]⟩

abbrev nBuf : Space → Nat
  | .hbm => 274
  | .vmem => 0
  | .smem => 0
  | _ => 0

abbrev hbmTy0_0 (i : Nat) : BufTy := match i % 128 with
  | 0 => ⟨S4096x11264, .bf16⟩
  | 1 => ⟨S8x257, .f32⟩
  | 2 => ⟨S4096x1024, .bf16⟩
  | 3 => ⟨S_, .f32⟩
  | 4 => ⟨S4096x1024, .bf16⟩
  | 5 => ⟨S4096x1024, .f32⟩
  | 6 => ⟨S1x4096x8x128, .f32⟩
  | 7 => ⟨S4096x1024, .bf16⟩
  | 8 => ⟨S4096x1024, .f32⟩
  | 9 => ⟨S1x4096x8x128, .f32⟩
  | 10 => ⟨S4096x1024, .bf16⟩
  | 11 => ⟨S4096x1024, .f32⟩
  | 12 => ⟨S1x4096x8x128, .f32⟩
  | 13 => ⟨S1x64x64x8x128, .f32⟩
  | 14 => ⟨S1x64x64x8x128, .f32⟩
  | 15 => ⟨S1x64x64x8x128, .f32⟩
  | 16 => ⟨S_, .f32⟩
  | 17 => ⟨S1x8x64x8x128, .f32⟩
  | 18 => ⟨S1x72x64x8x128, .f32⟩
  | 19 => ⟨S_, .f32⟩
  | 20 => ⟨S1x8x64x8x128, .f32⟩
  | 21 => ⟨S1x72x64x8x128, .f32⟩
  | 22 => ⟨S_, .f32⟩
  | 23 => ⟨S1x8x64x8x128, .f32⟩
  | 24 => ⟨S1x64x64x8x128, .f32⟩
  | 25 => ⟨S1x64x64x8x128, .f32⟩
  | 26 => ⟨S1x64x64x8x128, .f32⟩
  | 27 => ⟨S1x64x64x8x128, .f32⟩
  | 28 => ⟨S1x64x64x8x128, .f32⟩
  | 29 => ⟨S1x64x64x8x128, .f32⟩
  | 30 => ⟨S1x64x64x8x128, .f32⟩
  | 31 => ⟨S1x64x64x8x128, .f32⟩
  | 32 => ⟨S1x64x64x8x128, .f32⟩
  | 33 => ⟨S1x64x576x8x128, .f32⟩
  | 34 => ⟨S1x64x64x8x128, .f32⟩
  | 35 => ⟨S1x64x64x8x128, .f32⟩
  | 36 => ⟨S1x64x64x8x128, .f32⟩
  | 37 => ⟨S1x64x64x8x128, .f32⟩
  | 38 => ⟨S1x64x64x8x128, .f32⟩
  | 39 => ⟨S1x64x64x8x128, .f32⟩
  | 40 => ⟨S1x64x64x8x128, .f32⟩
  | 41 => ⟨S1x64x64x8x128, .f32⟩
  | 42 => ⟨S1x64x64x8x128, .f32⟩
  | 43 => ⟨S1x64x576x8x128, .f32⟩
  | 44 => ⟨S1x8x64x64x576, .f32⟩
  | 45 => ⟨S_, .f32⟩
  | 46 => ⟨S1x8x64x64x576, .f32⟩
  | 47 => ⟨S1x8x64x64x576, .f32⟩
  | 48 => ⟨S64, .i32⟩
  | 49 => ⟨S_, .i32⟩
  | 50 => ⟨S64, .i32⟩
  | 51 => ⟨S64, .i32⟩
  | 52 => ⟨S576, .i32⟩
  | 53 => ⟨S64x1, .i32⟩
  | 54 => ⟨S1x576, .i32⟩
  | 55 => ⟨S64x576, .i32⟩
  | 56 => ⟨S64x576, .i32⟩
  | 57 => ⟨S64x576, .i32⟩
  | 58 => ⟨S_, .i32⟩
  | 59 => ⟨S_, .i32⟩
  | 60 => ⟨S_, .i32⟩
  | 61 => ⟨S64x576, .i32⟩
  | 62 => ⟨S64x576, .i32⟩
  | 63 => ⟨S_, .i32⟩
  | 64 => ⟨S64x576, .i32⟩
  | 65 => ⟨S64x576, .i32⟩
  | 66 => ⟨S_, .i32⟩
  | 67 => ⟨S64x576, .i32⟩
  | 68 => ⟨S64x576, .i32⟩
  | 69 => ⟨S_, .i32⟩
  | 70 => ⟨S64x576, .i32⟩
  | 71 => ⟨S64x576, .i1⟩
  | 72 => ⟨S_, .i32⟩
  | 73 => ⟨S64x576, .i32⟩
  | 74 => ⟨S64x576, .i32⟩
  | 75 => ⟨S64x576, .i32⟩
  | 76 => ⟨S64x576x1, .i32⟩
  | 77 => ⟨S8x64x576, .f32⟩
  | 78 => ⟨S_, .i32⟩
  | 79 => ⟨S_, .i32⟩
  | 80 => ⟨S576, .i32⟩
  | 81 => ⟨S576, .i32⟩
  | 82 => ⟨S576, .i32⟩
  | 83 => ⟨S_, .i32⟩
  | 84 => ⟨S576, .i32⟩
  | 85 => ⟨S576, .i1⟩
  | 86 => ⟨S576, .i32⟩
  | 87 => ⟨S576, .i32⟩
  | 88 => ⟨S_, .i32⟩
  | 89 => ⟨S576, .i32⟩
  | 90 => ⟨S576, .i1⟩
  | 91 => ⟨S576, .i1⟩
  | 92 => ⟨S_, .i32⟩
  | 93 => ⟨S576, .i32⟩
  | 94 => ⟨S576, .i32⟩
  | 95 => ⟨S576, .i32⟩
  | 96 => ⟨S64, .i32⟩
  | 97 => ⟨S64x1, .i32⟩
  | 98 => ⟨S_, .i32⟩
  | 99 => ⟨S64x1, .i32⟩
  | 100 => ⟨S64x1, .i32⟩
  | 101 => ⟨S1x576, .i32⟩
  | 102 => ⟨S64x576, .i32⟩
  | 103 => ⟨S64x576, .i32⟩
  | 104 => ⟨S64x576, .i32⟩
  | 105 => ⟨S_, .i32⟩
  | 106 => ⟨S64x576, .i32⟩
  | 107 => ⟨S64x576, .i1⟩
  | 108 => ⟨S1x8x1x64x576, .f32⟩
  | 109 => ⟨S1x8x64x64x576, .f32⟩
  | 110 => ⟨S1x8x64x64x576, .f32⟩
  | 111 => ⟨S1x1x64x1x576, .i1⟩
  | 112 => ⟨S1x8x64x64x576, .i1⟩
  | 113 => ⟨S1x8x64x64x576, .f32⟩
  | 114 => ⟨S1x8x64x64x576, .f32⟩
  | 115 => ⟨S_, .f32⟩
  | 116 => ⟨S1x8x64x64x576, .f32⟩
  | 117 => ⟨S_, .f32⟩
  | 118 => ⟨S1x8x64x64, .f32⟩
  | 119 => ⟨S1x8x64x64x1, .f32⟩
  | 120 => ⟨S1x8x64x64x576, .f32⟩
  | 121 => ⟨S1x8x64x64x576, .i1⟩
  | 122 => ⟨S1x8x64x64x576, .f32⟩
  | 123 => ⟨S_, .f32⟩
  | 124 => ⟨S1x8x64x64, .f32⟩
  | 125 => ⟨S_, .f32⟩
  | 126 => ⟨S1x8x64x64, .f32⟩
  | 127 => ⟨S1x8x64x64, .f32⟩
  | _ => ⟨S4096x11264, .bf16⟩

abbrev hbmTy0_1 (i : Nat) : BufTy := match i % 128 with
  | 0 => ⟨S_, .f32⟩
  | 1 => ⟨S1x8x64x64, .f32⟩
  | 2 => ⟨S1x8x64x64, .i1⟩
  | 3 => ⟨S_, .f32⟩
  | 4 => ⟨S1x8x64x64, .f32⟩
  | 5 => ⟨S1x8x64x64, .i1⟩
  | 6 => ⟨S_, .f32⟩
  | 7 => ⟨S1x8x64x64, .f32⟩
  | 8 => ⟨S_, .f32⟩
  | 9 => ⟨S1x8x64x64, .f32⟩
  | 10 => ⟨S_, .f32⟩
  | 11 => ⟨S1x8x64x64, .f32⟩
  | 12 => ⟨S1x8x64x64, .f32⟩
  | 13 => ⟨S1x8x64x64, .f32⟩
  | 14 => ⟨S1x8x64x64x1, .f32⟩
  | 15 => ⟨S1x8x64x64x576, .f32⟩
  | 16 => ⟨S1x8x64x64x576, .f32⟩
  | 17 => ⟨S1x8x64x64x576, .f32⟩
  | 18 => ⟨S_, .f32⟩
  | 19 => ⟨S1x8x64x64, .f32⟩
  | 20 => ⟨S1x8x64x64x1, .f32⟩
  | 21 => ⟨S1x8x64x64x576, .f32⟩
  | 22 => ⟨S1x8x64x64x576, .f32⟩
  | 23 => ⟨S1x8x64x64x1, .f32⟩
  | 24 => ⟨S_, .f32⟩
  | 25 => ⟨S1x8x64x64x1, .f32⟩
  | 26 => ⟨S1x8x64x64x1, .f32⟩
  | 27 => ⟨S1x64x8x128x64, .f32⟩
  | 28 => ⟨S1x64x64x8x128, .f32⟩
  | 29 => ⟨S1x4096x1024, .f32⟩
  | 30 => ⟨S4096x1024, .f32⟩
  | 31 => ⟨S1x4096x1024, .f32⟩
  | 32 => ⟨S1x64x64x8x128, .f32⟩
  | 33 => ⟨S1x64x8x128x64, .f32⟩
  | 34 => ⟨S1x64x8x64x576, .f32⟩
  | 35 => ⟨S1x8x64x64x576, .f32⟩
  | 36 => ⟨S1x64x8x128x576, .f32⟩
  | 37 => ⟨S1x64x576x8x128, .f32⟩
  | 38 => ⟨S1x8x64x64x576, .f32⟩
  | 39 => ⟨S1x8x64x64x576, .f32⟩
  | 40 => ⟨S1x8x64x64x576, .f32⟩
  | 41 => ⟨S_, .f32⟩
  | 42 => ⟨S1x8x64x64, .f32⟩
  | 43 => ⟨S1x8x64x64x1, .f32⟩
  | 44 => ⟨S1x8x64x64x1, .f32⟩
  | 45 => ⟨S1x8x64x64x576, .f32⟩
  | 46 => ⟨S1x8x64x64x576, .f32⟩
  | 47 => ⟨S_, .f32⟩
  | 48 => ⟨S8x64x64, .f32⟩
  | 49 => ⟨S1x8x64x64, .f32⟩
  | 50 => ⟨S1x8x64x64x576, .f32⟩
  | 51 => ⟨S1x8x64x64x576, .f32⟩
  | 52 => ⟨S1x8x64x64x576, .f32⟩
  | 53 => ⟨S_, .f32⟩
  | 54 => ⟨S1x8x64x64x576, .f32⟩
  | 55 => ⟨S1x8x64x64x576, .f32⟩
  | 56 => ⟨S_, .f32⟩
  | 57 => ⟨S1x8x64x64x576, .f32⟩
  | 58 => ⟨S1x8x64x64x576, .f32⟩
  | 59 => ⟨S1x8x64x576x128, .f32⟩
  | 60 => ⟨S1x64x576x8x128, .f32⟩
  | 61 => ⟨S1x8x64x64x128, .f32⟩
  | 62 => ⟨S1x64x64x8x128, .f32⟩
  | 63 => ⟨S1x64x64x8x128, .f32⟩
  | 64 => ⟨S1x64x64x8x128, .f32⟩
  | 65 => ⟨S1x64x64x8x128, .f32⟩
  | 66 => ⟨S1x64x64x8x128, .f32⟩
  | 67 => ⟨S1x64x64x8x128, .f32⟩
  | 68 => ⟨S1x64x64x8x128, .f32⟩
  | 69 => ⟨S1x64x64x8x128, .f32⟩
  | 70 => ⟨S1x64x64x8x128, .f32⟩
  | 71 => ⟨S1x64x64x8x128, .f32⟩
  | 72 => ⟨S_, .f32⟩
  | 73 => ⟨S1x72x64x8x128, .f32⟩
  | 74 => ⟨S_, .f32⟩
  | 75 => ⟨S1x72x64x8x128, .f32⟩
  | 76 => ⟨S1x72x64x8x128, .f32⟩
  | 77 => ⟨S_, .f32⟩
  | 78 => ⟨S1x72x64x8x128, .f32⟩
  | 79 => ⟨S1x72x64x8x128, .f32⟩
  | 80 => ⟨S_, .f32⟩
  | 81 => ⟨S1x72x64x8x128, .f32⟩
  | 82 => ⟨S1x72x64x8x128, .f32⟩
  | 83 => ⟨S_, .f32⟩
  | 84 => ⟨S1x72x64x8x128, .f32⟩
  | 85 => ⟨S1x72x64x8x128, .f32⟩
  | 86 => ⟨S_, .f32⟩
  | 87 => ⟨S1x72x64x8x128, .f32⟩
  | 88 => ⟨S1x72x64x8x128, .f32⟩
  | 89 => ⟨S_, .f32⟩
  | 90 => ⟨S1x72x64x8x128, .f32⟩
  | 91 => ⟨S1x72x64x8x128, .f32⟩
  | 92 => ⟨S_, .f32⟩
  | 93 => ⟨S1x72x64x8x128, .f32⟩
  | 94 => ⟨S1x72x64x8x128, .f32⟩
  | 95 => ⟨S_, .f32⟩
  | 96 => ⟨S1x72x64x8x128, .f32⟩
  | 97 => ⟨S1x72x64x8x128, .f32⟩
  | 98 => ⟨S1x64x64x8x128, .f32⟩
  | 99 => ⟨S1x64x64x8x128, .f32⟩
  | 100 => ⟨S1x64x64x8x128, .f32⟩
  | 101 => ⟨S1x64x64x8x128, .f32⟩
  | 102 => ⟨S1x64x64x8x128, .f32⟩
  | 103 => ⟨S1x64x64x8x128, .f32⟩
  | 104 => ⟨S1x64x64x8x128, .f32⟩
  | 105 => ⟨S1x64x64x8x128, .f32⟩
  | 106 => ⟨S1x64x64x8x128, .f32⟩
  | 107 => ⟨S_, .f32⟩
  | 108 => ⟨S1x72x64x8x128, .f32⟩
  | 109 => ⟨S_, .f32⟩
  | 110 => ⟨S1x72x64x8x128, .f32⟩
  | 111 => ⟨S1x72x64x8x128, .f32⟩
  | 112 => ⟨S_, .f32⟩
  | 113 => ⟨S1x72x64x8x128, .f32⟩
  | 114 => ⟨S1x72x64x8x128, .f32⟩
  | 115 => ⟨S_, .f32⟩
  | 116 => ⟨S1x72x64x8x128, .f32⟩
  | 117 => ⟨S1x72x64x8x128, .f32⟩
  | 118 => ⟨S_, .f32⟩
  | 119 => ⟨S1x72x64x8x128, .f32⟩
  | 120 => ⟨S1x72x64x8x128, .f32⟩
  | 121 => ⟨S_, .f32⟩
  | 122 => ⟨S1x72x64x8x128, .f32⟩
  | 123 => ⟨S1x72x64x8x128, .f32⟩
  | 124 => ⟨S_, .f32⟩
  | 125 => ⟨S1x72x64x8x128, .f32⟩
  | 126 => ⟨S1x72x64x8x128, .f32⟩
  | 127 => ⟨S_, .f32⟩
  | _ => ⟨S4096x11264, .bf16⟩

abbrev hbmTy0_2 (i : Nat) : BufTy := match i % 128 with
  | 0 => ⟨S1x72x64x8x128, .f32⟩
  | 1 => ⟨S1x72x64x8x128, .f32⟩
  | 2 => ⟨S_, .f32⟩
  | 3 => ⟨S1x72x64x8x128, .f32⟩
  | 4 => ⟨S1x72x64x8x128, .f32⟩
  | 5 => ⟨S1x8x64x8x128, .f32⟩
  | 6 => ⟨S1x64x64x8x128, .f32⟩
  | 7 => ⟨S1x8x64x8x128, .f32⟩
  | 8 => ⟨S1x64x64x8x128, .f32⟩
  | 9 => ⟨S1x4096x8x128, .f32⟩
  | 10 => ⟨S1x4096x8x128, .f32⟩
  | 11 => ⟨S1x4096x8x128, .f32⟩
  | 12 => ⟨S4096x1024, .f32⟩
  | 13 => ⟨S4096x1024, .bf16⟩
  | 14 => ⟨S4096x1024, .f32⟩
  | 15 => ⟨S4096x1024, .bf16⟩
  | 16 => ⟨S4096x1024, .f32⟩
  | 17 => ⟨S4096x1024, .bf16⟩
  | _ => ⟨S4096x11264, .bf16⟩

abbrev hbmTy (i : Nat) : BufTy := match i / 128 with
  | 0 => hbmTy0_0 i
  | 1 => hbmTy0_1 i
  | 2 => hbmTy0_2 i
  | _ => ⟨S4096x11264, .bf16⟩

abbrev bufTy : (tb : Table) → Fin (tcTables nBuf tb) → BufTy
  | .hbm, ⟨i, _⟩ => hbmTy i
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_c : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_c_4 : Ref sig .tc := ⟨.hbm, 58, rfl⟩
abbrev main_c_5 : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_v49 : Ref sig .tc := ⟨.hbm, 65, rfl⟩
abbrev main_c_6 : Ref sig .tc := ⟨.hbm, 66, rfl⟩
abbrev main_v50 : Ref sig .tc := ⟨.hbm, 67, rfl⟩
abbrev main_v51 : Ref sig .tc := ⟨.hbm, 68, rfl⟩
abbrev main_c_7 : Ref sig .tc := ⟨.hbm, 69, rfl⟩
abbrev main_v52 : Ref sig .tc := ⟨.hbm, 70, rfl⟩
abbrev main_v53 : Ref sig .tc := ⟨.hbm, 71, rfl⟩
abbrev main_c_8 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_c_9 : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_v7 : Ref sig .tc := ⟨.hbm, 86, rfl⟩
abbrev main_call1_v8 : Ref sig .tc := ⟨.hbm, 87, rfl⟩
abbrev main_call1_c : Ref sig .tc := ⟨.hbm, 88, rfl⟩
abbrev main_call1_v9 : Ref sig .tc := ⟨.hbm, 89, rfl⟩
abbrev main_call1_v10 : Ref sig .tc := ⟨.hbm, 90, rfl⟩
abbrev main_call1_v11 : Ref sig .tc := ⟨.hbm, 91, rfl⟩
abbrev main_call1_c_0 : Ref sig .tc := ⟨.hbm, 92, rfl⟩
abbrev main_call1_v12 : Ref sig .tc := ⟨.hbm, 93, rfl⟩
abbrev main_call1_v13 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_c_10 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_c_11 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74_1 : Ref sig .tc := ⟨.hbm, 112, rfl⟩
abbrev main_call2_v1 : Ref sig .tc := ⟨.hbm, 113, rfl⟩
abbrev main_v74_0 : Ref sig .tc := ⟨.hbm, 114, rfl⟩
abbrev main_call2_cst : Ref sig .tc := ⟨.hbm, 115, rfl⟩
abbrev main_v74_2 : Ref sig .tc := ⟨.hbm, 116, rfl⟩
abbrev main_cst_12 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_cst_13 : Ref sig .tc := ⟨.hbm, 123, rfl⟩
abbrev main_v80 : Ref sig .tc := ⟨.hbm, 124, rfl⟩
abbrev main_cst_14 : Ref sig .tc := ⟨.hbm, 125, rfl⟩
abbrev main_v81 : Ref sig .tc := ⟨.hbm, 126, rfl⟩
abbrev main_v82 : Ref sig .tc := ⟨.hbm, 127, rfl⟩
abbrev main_cst_15 : Ref sig .tc := ⟨.hbm, 128, rfl⟩
abbrev main_v83 : Ref sig .tc := ⟨.hbm, 129, rfl⟩
abbrev main_v84 : Ref sig .tc := ⟨.hbm, 130, rfl⟩
abbrev main_cst_16 : Ref sig .tc := ⟨.hbm, 131, rfl⟩
abbrev main_v85 : Ref sig .tc := ⟨.hbm, 132, rfl⟩
abbrev main_v86 : Ref sig .tc := ⟨.hbm, 133, rfl⟩
abbrev main_cst_17 : Ref sig .tc := ⟨.hbm, 134, rfl⟩
abbrev main_v87 : Ref sig .tc := ⟨.hbm, 135, rfl⟩
abbrev main_cst_18 : Ref sig .tc := ⟨.hbm, 136, rfl⟩
abbrev main_v88 : Ref sig .tc := ⟨.hbm, 137, rfl⟩
abbrev main_cst_19 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_cst_20 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_cst_21 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_cst_22 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_cst_23 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_call3_cst : Ref sig .tc := ⟨.hbm, 181, rfl⟩
abbrev main_call3_v0 : Ref sig .tc := ⟨.hbm, 182, rfl⟩
abbrev main_v127 : Ref sig .tc := ⟨.hbm, 183, rfl⟩
abbrev main_cst_24 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_cst_25 : Ref sig .tc := ⟨.hbm, 200, rfl⟩
abbrev main_v143 : Ref sig .tc := ⟨.hbm, 201, rfl⟩
abbrev main_cst_26 : Ref sig .tc := ⟨.hbm, 202, rfl⟩
abbrev main_v144 : Ref sig .tc := ⟨.hbm, 203, rfl⟩
abbrev main_v145 : Ref sig .tc := ⟨.hbm, 204, rfl⟩
abbrev main_cst_27 : Ref sig .tc := ⟨.hbm, 205, rfl⟩
abbrev main_v146 : Ref sig .tc := ⟨.hbm, 206, rfl⟩
abbrev main_v147 : Ref sig .tc := ⟨.hbm, 207, rfl⟩
abbrev main_cst_28 : Ref sig .tc := ⟨.hbm, 208, rfl⟩
abbrev main_v148 : Ref sig .tc := ⟨.hbm, 209, rfl⟩
abbrev main_v149 : Ref sig .tc := ⟨.hbm, 210, rfl⟩
abbrev main_cst_29 : Ref sig .tc := ⟨.hbm, 211, rfl⟩
abbrev main_v150 : Ref sig .tc := ⟨.hbm, 212, rfl⟩
abbrev main_v151 : Ref sig .tc := ⟨.hbm, 213, rfl⟩
abbrev main_cst_30 : Ref sig .tc := ⟨.hbm, 214, rfl⟩
abbrev main_v152 : Ref sig .tc := ⟨.hbm, 215, rfl⟩
abbrev main_v153 : Ref sig .tc := ⟨.hbm, 216, rfl⟩
abbrev main_cst_31 : Ref sig .tc := ⟨.hbm, 217, rfl⟩
abbrev main_v154 : Ref sig .tc := ⟨.hbm, 218, rfl⟩
abbrev main_v155 : Ref sig .tc := ⟨.hbm, 219, rfl⟩
abbrev main_cst_32 : Ref sig .tc := ⟨.hbm, 220, rfl⟩
abbrev main_v156 : Ref sig .tc := ⟨.hbm, 221, rfl⟩
abbrev main_v157 : Ref sig .tc := ⟨.hbm, 222, rfl⟩
abbrev main_cst_33 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_cst_34 : Ref sig .tc := ⟨.hbm, 235, rfl⟩
abbrev main_v169 : Ref sig .tc := ⟨.hbm, 236, rfl⟩
abbrev main_cst_35 : Ref sig .tc := ⟨.hbm, 237, rfl⟩
abbrev main_v170 : Ref sig .tc := ⟨.hbm, 238, rfl⟩
abbrev main_v171 : Ref sig .tc := ⟨.hbm, 239, rfl⟩
abbrev main_cst_36 : Ref sig .tc := ⟨.hbm, 240, rfl⟩
abbrev main_v172 : Ref sig .tc := ⟨.hbm, 241, rfl⟩
abbrev main_v173 : Ref sig .tc := ⟨.hbm, 242, rfl⟩
abbrev main_cst_37 : Ref sig .tc := ⟨.hbm, 243, rfl⟩
abbrev main_v174 : Ref sig .tc := ⟨.hbm, 244, rfl⟩
abbrev main_v175 : Ref sig .tc := ⟨.hbm, 245, rfl⟩
abbrev main_cst_38 : Ref sig .tc := ⟨.hbm, 246, rfl⟩
abbrev main_v176 : Ref sig .tc := ⟨.hbm, 247, rfl⟩
abbrev main_v177 : Ref sig .tc := ⟨.hbm, 248, rfl⟩
abbrev main_cst_39 : Ref sig .tc := ⟨.hbm, 249, rfl⟩
abbrev main_v178 : Ref sig .tc := ⟨.hbm, 250, rfl⟩
abbrev main_v179 : Ref sig .tc := ⟨.hbm, 251, rfl⟩
abbrev main_cst_40 : Ref sig .tc := ⟨.hbm, 252, rfl⟩
abbrev main_v180 : Ref sig .tc := ⟨.hbm, 253, rfl⟩
abbrev main_v181 : Ref sig .tc := ⟨.hbm, 254, rfl⟩
abbrev main_cst_41 : Ref sig .tc := ⟨.hbm, 255, rfl⟩
abbrev main_v182 : Ref sig .tc := ⟨.hbm, 256, rfl⟩
abbrev main_v183 : Ref sig .tc := ⟨.hbm, 257, rfl⟩
abbrev main_cst_42 : Ref sig .tc := ⟨.hbm, 258, rfl⟩
abbrev main_v184 : Ref sig .tc := ⟨.hbm, 259, rfl⟩
abbrev main_v185 : Ref sig .tc := ⟨.hbm, 260, rfl⟩
abbrev main_v186 : Ref sig .tc := ⟨.hbm, 261, rfl⟩
abbrev main_v187 : Ref sig .tc := ⟨.hbm, 262, rfl⟩
abbrev main_v188 : Ref sig .tc := ⟨.hbm, 263, rfl⟩
abbrev main_v189 : Ref sig .tc := ⟨.hbm, 264, rfl⟩
abbrev main_v190 : Ref sig .tc := ⟨.hbm, 265, rfl⟩
abbrev main_v191 : Ref sig .tc := ⟨.hbm, 266, rfl⟩
abbrev main_v192 : Ref sig .tc := ⟨.hbm, 267, rfl⟩
abbrev main_v193 : Ref sig .tc := ⟨.hbm, 268, rfl⟩
abbrev main_v194 : Ref sig .tc := ⟨.hbm, 269, rfl⟩
abbrev main_v195 : Ref sig .tc := ⟨.hbm, 270, rfl⟩
abbrev main_v196 : Ref sig .tc := ⟨.hbm, 271, rfl⟩
abbrev main_v197 : Ref sig .tc := ⟨.hbm, 272, rfl⟩
abbrev main_v198 : Ref sig .tc := ⟨.hbm, 273, rfl⟩

abbrev nD : Nat := 1
abbrev τ : Topo := Topo.v7x

variable {F : FTy → Type} [FloatOps F]
-- ==== Kernel2.lean ====
abbrev S4096x2048 : Shape := ⟨2, ![4096, 2048]⟩
abbrev S2048x5632 : Shape := ⟨2, ![2048, 5632]⟩
abbrev S5632x2048 : Shape := ⟨2, ![5632, 2048]⟩
abbrev S8x704x2048 : Shape := ⟨3, ![8, 704, 2048]⟩
abbrev S_ : Shape := ⟨0, ![]⟩
abbrev S8x768x2048 : Shape := ⟨3, ![8, 768, 2048]⟩
abbrev S8x4096x768 : Shape := ⟨3, ![8, 4096, 768]⟩
abbrev S1024x2048 : Shape := ⟨2, ![1024, 2048]⟩
abbrev S1x768x2048 : Shape := ⟨3, ![1, 768, 2048]⟩
abbrev S1x1024x768 : Shape := ⟨3, ![1, 1024, 768]⟩
abbrev S768x2048 : Shape := ⟨2, ![768, 2048]⟩
abbrev S1024x768 : Shape := ⟨2, ![1024, 768]⟩

abbrev nBuf : Space → Nat
  | .hbm => 18
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S8x704x2048, .f32⟩
  | .hbm, ⟨5, _⟩ => ⟨S_, .i32⟩
  | .hbm, ⟨6, _⟩ => ⟨S_, .f32⟩
  | .hbm, ⟨7, _⟩ => ⟨S8x768x2048, .f32⟩
  | .hbm, ⟨8, _⟩ => ⟨S8x768x2048, .bf16⟩
  | .hbm, ⟨9, _⟩ => ⟨S5632x2048, .f32⟩
  | .hbm, ⟨10, _⟩ => ⟨S8x704x2048, .f32⟩
  | .hbm, ⟨11, _⟩ => ⟨S_, .i32⟩
  | .hbm, ⟨12, _⟩ => ⟨S_, .f32⟩
  | .hbm, ⟨13, _⟩ => ⟨S8x768x2048, .f32⟩
  | .hbm, ⟨14, _⟩ => ⟨S8x768x2048, .bf16⟩
  | .hbm, ⟨15, _⟩ => ⟨S8x4096x768, .bf16⟩
  | .hbm, ⟨16, _⟩ => ⟨S8x4096x768, .bf16⟩
  | .hbm, ⟨17, _⟩ => ⟨S8x4096x768, .bf16⟩
  | .local _ .vmem, ⟨0, _⟩ => ⟨S1024x2048, .bf16⟩
  | .local _ .vmem, ⟨1, _⟩ => ⟨S1024x2048, .bf16⟩
  | .local _ .vmem, ⟨2, _⟩ => ⟨S1x768x2048, .bf16⟩
  | .local _ .vmem, ⟨3, _⟩ => ⟨S1x768x2048, .bf16⟩
  | .local _ .vmem, ⟨4, _⟩ => ⟨S1x768x2048, .bf16⟩
  | .local _ .vmem, ⟨5, _⟩ => ⟨S1x768x2048, .bf16⟩
  | .local _ .vmem, ⟨6, _⟩ => ⟨S1x1024x768, .bf16⟩
  | .local _ .vmem, ⟨7, _⟩ => ⟨S1x1024x768, .bf16⟩
  | .local _ .vmem, ⟨8, _⟩ => ⟨S1x1024x768, .bf16⟩
  | .local _ .vmem, ⟨9, _⟩ => ⟨S1x1024x768, .bf16⟩
  | .local _ .vmem, ⟨10, _⟩ => ⟨S1x1024x768, .bf16⟩
  | .local _ .vmem, ⟨11, _⟩ => ⟨S1x1024x768, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_call1_v0 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x768x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S4096x2048 : Shape := ⟨2, ![4096, 2048]⟩
abbrev S2048x5632 : Shape := ⟨2, ![2048, 5632]⟩
abbrev S4096x5632 : Shape := ⟨2, ![4096, 5632]⟩
abbrev S4096x8x704 : Shape := ⟨3, ![4096, 8, 704]⟩
abbrev S8x4096x704 : Shape := ⟨3, ![8, 4096, 704]⟩
abbrev S_ : Shape := ⟨0, ![]⟩
abbrev S8x4096x768 : Shape := ⟨3, ![8, 4096, 768]⟩

abbrev nBuf : Space → Nat
  | .hbm => 34
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .f32⟩
  | .hbm, ⟨2, _⟩ => ⟨S2048x5632, .f32⟩
  | .hbm, ⟨3, _⟩ => ⟨S4096x2048, .f32⟩
  | .hbm, ⟨4, _⟩ => ⟨S4096x5632, .f32⟩
  | .hbm, ⟨5, _⟩ => ⟨S4096x5632, .f32⟩
  | .hbm, ⟨6, _⟩ => ⟨S4096x5632, .bf16⟩
  | .hbm, ⟨7, _⟩ => ⟨S4096x8x704, .bf16⟩
  | .hbm, ⟨8, _⟩ => ⟨S8x4096x704, .bf16⟩
  | .hbm, ⟨9, _⟩ => ⟨S_, .i32⟩
  | .hbm, ⟨10, _⟩ => ⟨S_, .bf16⟩
  | .hbm, ⟨11, _⟩ => ⟨S8x4096x768, .bf16⟩
  | .hbm, ⟨12, _⟩ => ⟨S4096x5632, .bf16⟩
  | .hbm, ⟨13, _⟩ => ⟨S4096x8x704, .bf16⟩
  | .hbm, ⟨14, _⟩ => ⟨S8x4096x704, .bf16⟩
  | .hbm, ⟨15, _⟩ => ⟨S_, .i32⟩
  | .hbm, ⟨16, _⟩ => ⟨S_, .bf16⟩
  | .hbm, ⟨17, _⟩ => ⟨S8x4096x768, .bf16⟩
  | .hbm, ⟨18, _⟩ => ⟨S4096x5632, .f32⟩
  | .hbm, ⟨19, _⟩ => ⟨S4096x5632, .f32⟩
  | .hbm, ⟨20, _⟩ => ⟨S_, .f32⟩
  | .hbm, ⟨21, _⟩ => ⟨S4096x5632, .f32⟩
  | .hbm, ⟨22, _⟩ => ⟨S4096x5632, .f32⟩
  | .hbm, ⟨23, _⟩ => ⟨S_, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x5632, .bf16⟩
  | .hbm, ⟨29, _⟩ => ⟨S4096x8x704, .bf16⟩
  | .hbm, ⟨30, _⟩ => ⟨S8x4096x704, .bf16⟩
  | .hbm, ⟨31, _⟩ => ⟨S_, .i32⟩
  | .hbm, ⟨32, _⟩ => ⟨S_, .bf16⟩
  | .hbm, ⟨33, _⟩ => ⟨S8x4096x768, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_call1_v0 : Ref sig .tc := ⟨.hbm, 16, rfl⟩
abbrev main_v10 : Ref sig .tc := ⟨.hbm, 17, rfl⟩
abbrev main_call2_v0 : Ref sig .tc := ⟨.hbm, 18, rfl⟩
abbrev main_call2_v1 : Ref sig .tc := ⟨.hbm, 19, rfl⟩
abbrev main_call2_cst : Ref sig .tc := ⟨.hbm, 20, rfl⟩
abbrev main_call2_v2 : Ref sig .tc := ⟨.hbm, 21, rfl⟩
abbrev main_call2_v3 : Ref sig .tc := ⟨.hbm, 22, rfl⟩
abbrev main_call2_cst_0 : Ref sig .tc := ⟨.hbm, 23, rfl⟩
abbrev main_call2_v4 : Ref sig .tc := ⟨.hbm, 24, rfl⟩
abbrev main_call2_v5 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_1 : Ref sig .tc := ⟨.hbm, 31, rfl⟩
abbrev main_call3_v0 : Ref sig .tc := ⟨.hbm, 32, rfl⟩
abbrev main_v16 : Ref sig .tc := ⟨.hbm, 33, rfl⟩

abbrev nD : Nat := 1
abbrev τ : Topo := Topo.v7x

variable {F : FTy → Type} [FloatOps F]
-- ==== Kernel3.lean ====
abbrev S4096x2048 : Shape := ⟨2, ![4096, 2048]⟩
abbrev S4096x5632 : Shape := ⟨2, ![4096, 5632]⟩
abbrev S5632x2048 : Shape := ⟨2, ![5632, 2048]⟩
abbrev S4096x8x704 : Shape := ⟨3, ![4096, 8, 704]⟩
abbrev S8x4096x704 : Shape := ⟨3, ![8, 4096, 704]⟩
abbrev S_ : Shape := ⟨0, ![]⟩
abbrev S8x4096x768 : Shape := ⟨3, ![8, 4096, 768]⟩
abbrev S8x704x2048 : Shape := ⟨3, ![8, 704, 2048]⟩
abbrev S8x768x2048 : Shape := ⟨3, ![8, 768, 2048]⟩
abbrev S1x512x768 : Shape := ⟨3, ![1, 512, 768]⟩
abbrev S1x768x2048 : Shape := ⟨3, ![1, 768, 2048]⟩
abbrev S512x2048 : Shape := ⟨2, ![512, 2048]⟩
abbrev S512x768 : Shape := ⟨2, ![512, 768]⟩
abbrev S768x2048 : Shape := ⟨2, ![768, 2048]⟩

abbrev nBuf : Space → Nat
  | .hbm => 14
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S4096x5632, .bf16⟩
  | .hbm, ⟨2, _⟩ => ⟨S5632x2048, .f32⟩
  | .hbm, ⟨3, _⟩ => ⟨S4096x8x704, .bf16⟩
  | .hbm, ⟨4, _⟩ => ⟨S8x4096x704, .bf16⟩
  | .hbm, ⟨5, _⟩ => ⟨S_, .i32⟩
  | .hbm, ⟨6, _⟩ => ⟨S_, .bf16⟩
  | .hbm, ⟨7, _⟩ => ⟨S8x4096x768, .bf16⟩
  | .hbm, ⟨8, _⟩ => ⟨S8x704x2048, .f32⟩
  | .hbm, ⟨9, _⟩ => ⟨S_, .i32⟩
  | .hbm, ⟨10, _⟩ => ⟨S_, .f32⟩
  | .hbm, ⟨11, _⟩ => ⟨S8x768x2048, .f32⟩
  | .hbm, ⟨12, _⟩ => ⟨S8x768x2048, .bf16⟩
  | .hbm, ⟨13, _⟩ => ⟨S4096x2048, .f32⟩
  | .local _ .vmem, ⟨0, _⟩ => ⟨S1x512x768, .bf16⟩
  | .local _ .vmem, ⟨1, _⟩ => ⟨S1x512x768, .bf16⟩
  | .local _ .vmem, ⟨2, _⟩ => ⟨S1x512x768, .bf16⟩
  | .local _ .vmem, ⟨3, _⟩ => ⟨S1x512x768, .bf16⟩
  | .local _ .vmem, ⟨4, _⟩ => ⟨S1x768x2048, .bf16⟩
  | .local _ .vmem, ⟨5, _⟩ => ⟨S1x768x2048, .bf16⟩
  | .local _ .vmem, ⟨6, _⟩ => ⟨S1x768x2048, .bf16⟩
  | .local _ .vmem, ⟨7, _⟩ => ⟨S1x768x2048, .bf16⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_17 : BitVec 32 := 0#32
  let v21 : BitVec 1 := Scalar.cmpi .ne v20 c0_i32_17
  v21

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c0_i32_0 : BitVec 32 := 0#32
  let c0_i32_1 : BitVec 32 := 0#32
  ![v1.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c0_i32 : BitVec 32 := 0#32
  let c0_i32_0 : BitVec 32 := 0#32
  ![v1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x768x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x768x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference3Ideal.lean ====
abbrev S4096x2048 : Shape := ⟨2, ![4096, 2048]⟩
abbrev S4096x5632 : Shape := ⟨2, ![4096, 5632]⟩
abbrev S5632x2048 : Shape := ⟨2, ![5632, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x5632, .bf16⟩
  | .hbm, ⟨2, _⟩ => ⟨S5632x2048, .f32⟩
  | .hbm, ⟨3, _⟩ => ⟨S4096x5632, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel4.lean ====
abbrev S4096x5632 : Shape := ⟨2, ![4096, 5632]⟩
abbrev S4096x2048 : Shape := ⟨2, ![4096, 2048]⟩
abbrev S4096x8x704 : Shape := ⟨3, ![4096, 8, 704]⟩
abbrev S8x4096x704 : Shape := ⟨3, ![8, 4096, 704]⟩
abbrev S_ : Shape := ⟨0, ![]⟩
abbrev S8x4096x768 : Shape := ⟨3, ![8, 4096, 768]⟩
abbrev S8x768x2048 : Shape := ⟨3, ![8, 768, 2048]⟩
abbrev S1x2048x768 : Shape := ⟨3, ![1, 2048, 768]⟩
abbrev S2048x2048 : Shape := ⟨2, ![2048, 2048]⟩
abbrev S1x768x2048 : Shape := ⟨3, ![1, 768, 2048]⟩
abbrev S768x2048 : Shape := ⟨2, ![768, 2048]⟩
abbrev S2048x768 : Shape := ⟨2, ![2048, 768]⟩

abbrev nBuf : Space → Nat
  | .hbm => 8
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S4096x8x704, .bf16⟩
  | .hbm, ⟨3, _⟩ => ⟨S8x4096x704, .bf16⟩
  | .hbm, ⟨4, _⟩ => ⟨S_, .i32⟩
  | .hbm, ⟨5, _⟩ => ⟨S_, .bf16⟩
  | .hbm, ⟨6, _⟩ => ⟨S8x4096x768, .bf16⟩
  | .hbm, ⟨7, _⟩ => ⟨S8x768x2048, .bf16⟩
  | .local _ .vmem, ⟨0, _⟩ => ⟨S1x2048x768, .bf16⟩
  | .local _ .vmem, ⟨1, _⟩ => ⟨S1x2048x768, .bf16⟩
  | .local _ .vmem, ⟨2, _⟩ => ⟨S2048x2048, .bf16⟩
  | .local _ .vmem, ⟨3, _⟩ => ⟨S2048x2048, .bf16⟩
  | .local _ .vmem, ⟨4, _⟩ => ⟨S1x768x2048, .bf16⟩
  | .local _ .vmem, ⟨5, _⟩ => ⟨S1x768x2048, .bf16⟩
  | .local _ .vmem, ⟨6, _⟩ => ⟨S768x2048, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v12 : BitVec 1 := Scalar.cmpi .eq arg1 c1_i32
  let v13 : BitVec 32 := Scalar.extui v12
  let c0_i32_9 : BitVec 32 := 0#32
  let v14 : BitVec 1 := Scalar.cmpi .ne v13 c0_i32_9
  v14

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x768x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩
abbrev S8x704x2048 : Shape := ⟨3, ![8, 704, 2048]⟩
abbrev S8x768x2048 : Shape := ⟨3, ![8, 768, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | .hbm, ⟨10, _⟩ => ⟨S8x704x2048, .bf16⟩
  | .hbm, ⟨11, _⟩ => ⟨S_, .i32⟩
  | .hbm, ⟨12, _⟩ => ⟨S_, .bf16⟩
  | .hbm, ⟨13, _⟩ => ⟨S8x768x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel5.lean ====
abbrev S4096x5632 : Shape := ⟨2, ![4096, 5632]⟩
abbrev S2048x5632 : Shape := ⟨2, ![2048, 5632]⟩
abbrev S5632x2048 : Shape := ⟨2, ![5632, 2048]⟩
abbrev S8x704x2048 : Shape := ⟨3, ![8, 704, 2048]⟩
abbrev S_ : Shape := ⟨0, ![]⟩
abbrev S8x768x2048 : Shape := ⟨3, ![8, 768, 2048]⟩
abbrev S4096x8x704 : Shape := ⟨3, ![4096, 8, 704]⟩
abbrev S8x4096x704 : Shape := ⟨3, ![8, 4096, 704]⟩
abbrev S8x4096x768 : Shape := ⟨3, ![8, 4096, 768]⟩
abbrev S4096x2048 : Shape := ⟨2, ![4096, 2048]⟩
abbrev S1x512x768 : Shape := ⟨3, ![1, 512, 768]⟩
abbrev S1x768x2048 : Shape := ⟨3, ![1, 768, 2048]⟩
abbrev S512x2048 : Shape := ⟨2, ![512, 2048]⟩
abbrev S512x768 : Shape := ⟨2, ![512, 768]⟩
abbrev S768x2048 : Shape := ⟨2, ![768, 2048]⟩

abbrev nBuf : Space → Nat
  | .hbm => 27
  | .vmem => 19
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S8x704x2048, .f32⟩
  | .hbm, ⟨6, _⟩ => ⟨S_, .i32⟩
  | .hbm, ⟨7, _⟩ => ⟨S_, .f32⟩
  | .hbm, ⟨8, _⟩ => ⟨S8x768x2048, .f32⟩
  | .hbm, ⟨9, _⟩ => ⟨S8x768x2048, .bf16⟩
  | .hbm, ⟨10, _⟩ => ⟨S5632x2048, .f32⟩
  | .hbm, ⟨11, _⟩ => ⟨S8x704x2048, .f32⟩
  | .hbm, ⟨12, _⟩ => ⟨S_, .i32⟩
  | .hbm, ⟨13, _⟩ => ⟨S_, .f32⟩
  | .hbm, ⟨14, _⟩ => ⟨S8x768x2048, .f32⟩
  | .hbm, ⟨15, _⟩ => ⟨S8x768x2048, .bf16⟩
  | .hbm, ⟨16, _⟩ => ⟨S4096x8x704, .bf16⟩
  | .hbm, ⟨17, _⟩ => ⟨S8x4096x704, .bf16⟩
  | .hbm, ⟨18, _⟩ => ⟨S_, .i32⟩
  | .hbm, ⟨19, _⟩ => ⟨S_, .bf16⟩
  | .hbm, ⟨20, _⟩ => ⟨S8x4096x768, .bf16⟩
  | .hbm, ⟨21, _⟩ => ⟨S4096x8x704, .bf16⟩
  | .hbm, ⟨22, _⟩ => ⟨S8x4096x704, .bf16⟩
  | .hbm, ⟨23, _⟩ => ⟨S_, .i32⟩
  | .hbm, ⟨24, _⟩ => ⟨S_, .bf16⟩
  | .hbm, ⟨25, _⟩ => ⟨S8x4096x768, .bf16⟩
  | .hbm, ⟨26, _⟩ => ⟨S4096x2048, .bf16⟩
  | .local _ .vmem, ⟨0, _⟩ => ⟨S1x512x768, .bf16⟩
  | .local _ .vmem, ⟨1, _⟩ => ⟨S1x512x768, .bf16⟩
  | .local _ .vmem, ⟨2, _⟩ => ⟨S1x512x768, .bf16⟩
  | .local _ .vmem, ⟨3, _⟩ => ⟨S1x512x768, .bf16⟩
  | .local _ .vmem, ⟨4, _⟩ => ⟨S1x512x768, .bf16⟩
  | .local _ .vmem, ⟨5, _⟩ => ⟨S1x512x768, .bf16⟩
  | .local _ .vmem, ⟨6, _⟩ => ⟨S1x512x768, .bf16⟩
  | .local _ .vmem, ⟨7, _⟩ => ⟨S1x512x768, .bf16⟩
  | .local _ .vmem, ⟨8, _⟩ => ⟨S1x768x2048, .bf16⟩
  | .local _ .vmem, ⟨9, _⟩ => ⟨S1x768x2048, .bf16⟩
  | .local _ .vmem, ⟨10, _⟩ => ⟨S1x768x2048, .bf16⟩
  | .local _ .vmem, ⟨11, _⟩ => ⟨S1x768x2048, .bf16⟩
  | .local _ .vmem, ⟨12, _⟩ => ⟨S1x768x2048, .bf16⟩
  | .local _ .vmem, ⟨13, _⟩ => ⟨S1x768x2048, .bf16⟩
  | .local _ .vmem, ⟨14, _⟩ => ⟨S1x768x2048, .bf16⟩
  | .local _ .vmem, ⟨15, _⟩ => ⟨S1x768x2048, .bf16⟩
  | .local _ .vmem, ⟨16, _⟩ => ⟨S512x2048, .bf16⟩
  | .local _ .vmem, ⟨17, _⟩ => ⟨S512x2048, .bf16⟩
  | .local _ .vmem, ⟨18, _⟩ => ⟨S512x2048, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_call2_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_call3_v0 : Ref sig .tc := ⟨.hbm, 24, rfl⟩
abbrev main_v13 : Ref sig .tc := ⟨.hbm, 25, rfl⟩
abbrev main_v14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v31 : BitVec 1 := Scalar.cmpi .eq arg1 c3_i32
  let v32 : BitVec 32 := Scalar.extui v31
  let c0_i32_31 : BitVec 32 := 0#32
  let v33 : BitVec 1 := Scalar.cmpi .ne v32 c0_i32_31
  v33

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c0_i32_0 : BitVec 32 := 0#32
  let c0_i32_1 : BitVec 32 := 0#32
  ![v1.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c0_i32_0 : BitVec 32 := 0#32
  let c0_i32_1 : BitVec 32 := 0#32
  ![v1.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c0_i32 : BitVec 32 := 0#32
  let c0_i32_0 : BitVec 32 := 0#32
  ![v1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c0_i32 : BitVec 32 := 0#32
  let c0_i32_0 : BitVec 32 := 0#32
  ![v1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x768x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x768x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x768x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x768x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference5Ideal.lean ====
abbrev S4096x5632 : Shape := ⟨2, ![4096, 5632]⟩
abbrev S2048x5632 : Shape := ⟨2, ![2048, 5632]⟩
abbrev S_ : Shape := ⟨0, ![]⟩
abbrev S4096x2048 : Shape := ⟨2, ![4096, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S2048x5632, .f32⟩
  | .hbm, ⟨3, _⟩ => ⟨S2048x5632, .f32⟩
  | .hbm, ⟨4, _⟩ => ⟨S_, .f32⟩
  | .hbm, ⟨5, _⟩ => ⟨S4096x2048, .f32⟩
  | .hbm, ⟨6, _⟩ => ⟨S4096x5632, .f32⟩
  | .hbm, ⟨7, _⟩ => ⟨S4096x5632, .f32⟩
  | .hbm, ⟨8, _⟩ => ⟨S4096x5632, .f32⟩
  | .hbm, ⟨9, _⟩ => ⟨S4096x5632, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel6.lean ====
abbrev S4096x2048 : Shape := ⟨2, ![4096, 2048]⟩
abbrev S2048x11264 : Shape := ⟨2, ![2048, 11264]⟩
abbrev S2048x8x1408 : Shape := ⟨3, ![2048, 8, 1408]⟩
abbrev S8x2048x1408 : Shape := ⟨3, ![8, 2048, 1408]⟩
abbrev S4096x11264 : Shape := ⟨2, ![4096, 11264]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .f32⟩
  | .hbm, ⟨2, _⟩ => ⟨S2048x8x1408, .f32⟩
  | .hbm, ⟨3, _⟩ => ⟨S8x2048x1408, .f32⟩
  | .hbm, ⟨4, _⟩ => ⟨S8x2048x1408, .bf16⟩
  | .hbm, ⟨5, _⟩ => ⟨S4096x11264, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .bf16⟩
  | .local _ .vmem, ⟨5, _⟩ => ⟨S1024x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4096x2048 : Shape := ⟨2, ![4096, 2048]⟩
abbrev S2048x11264 : Shape := ⟨2, ![2048, 11264]⟩
abbrev S4096x11264 : Shape := ⟨2, ![4096, 11264]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .f32⟩
  | .hbm, ⟨2, _⟩ => ⟨S4096x2048, .f32⟩
  | .hbm, ⟨3, _⟩ => ⟨S4096x11264, .f32⟩
  | .hbm, ⟨4, _⟩ => ⟨S4096x11264, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel7.lean ====
abbrev S4096x2048 : Shape := ⟨2, ![4096, 2048]⟩
abbrev S4096x11264 : Shape := ⟨2, ![4096, 11264]⟩
abbrev S8x2048x1408 : Shape := ⟨3, ![8, 2048, 1408]⟩
abbrev S1024x2048 : Shape := ⟨2, ![1024, 2048]⟩
abbrev S1024x1408 : Shape := ⟨2, ![1024, 1408]⟩
abbrev S1x2048x1408 : Shape := ⟨3, ![1, 2048, 1408]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x11264, .bf16⟩
  | .hbm, ⟨2, _⟩ => ⟨S8x2048x1408, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1408, .bf16⟩
  | .local _ .vmem, ⟨3, _⟩ => ⟨S1024x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S2048x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference7Ideal.lean ====
abbrev S4096x2048 : Shape := ⟨2, ![4096, 2048]⟩
abbrev S4096x11264 : Shape := ⟨2, ![4096, 11264]⟩
abbrev S_ : Shape := ⟨0, ![]⟩
abbrev S2048x11264 : Shape := ⟨2, ![2048, 11264]⟩
abbrev S11264x2048 : Shape := ⟨2, ![11264, 2048]⟩
abbrev S2048x8x1408 : Shape := ⟨3, ![2048, 8, 1408]⟩
abbrev S8x2048x1408 : Shape := ⟨3, ![8, 2048, 1408]⟩

abbrev nBuf : Space → Nat
  | .hbm => 15
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x11264, .bf16⟩
  | .hbm, ⟨2, _⟩ => ⟨S_, .f32⟩
  | .hbm, ⟨3, _⟩ => ⟨S2048x11264, .f32⟩
  | .hbm, ⟨4, _⟩ => ⟨S4096x2048, .f32⟩
  | .hbm, ⟨5, _⟩ => ⟨S4096x11264, .f32⟩
  | .hbm, ⟨6, _⟩ => ⟨S4096x11264, .f32⟩
  | .hbm, ⟨7, _⟩ => ⟨S11264x2048, .f32⟩
  | .hbm, ⟨8, _⟩ => ⟨S2048x11264, .f32⟩
  | .hbm, ⟨9, _⟩ => ⟨S2048x11264, .bf16⟩
  | .hbm, ⟨10, _⟩ => ⟨S2048x8x1408, .bf16⟩
  | .hbm, ⟨11, _⟩ => ⟨S8x2048x1408, .bf16⟩
  | .hbm, ⟨12, _⟩ => ⟨S_, .i32⟩
  | .hbm, ⟨13, _⟩ => ⟨S_, .bf16⟩
  | .hbm, ⟨14, _⟩ => ⟨S8x2048x1408, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel8.lean ====
abbrev S4096x11264 : Shape := ⟨2, ![4096, 11264]⟩
abbrev S2048x11264 : Shape := ⟨2, ![2048, 11264]⟩
abbrev S2048x8x1408 : Shape := ⟨3, ![2048, 8, 1408]⟩
abbrev S8x2048x1408 : Shape := ⟨3, ![8, 2048, 1408]⟩
abbrev S4096x2048 : Shape := ⟨2, ![4096, 2048]⟩
abbrev S512x1408 : Shape := ⟨2, ![512, 1408]⟩
abbrev S1x2048x1408 : Shape := ⟨3, ![1, 2048, 1408]⟩
abbrev S512x2048 : Shape := ⟨2, ![512, 2048]⟩
abbrev S2048x1408 : Shape := ⟨2, ![2048, 1408]⟩

abbrev nBuf : Space → Nat
  | .hbm => 6
  | .vmem => 11
  | .smem => 0
  | _ => 0

abbrev bufTy : (tb : Table) → Fin (tcTables nBuf tb) → BufTy
  | .hbm, ⟨0, _⟩ => ⟨S4096x11264, .bf16⟩
  | .hbm, ⟨1, _⟩ => ⟨S2048x11264, .f32⟩
  | .hbm, ⟨2, _⟩ => ⟨S2048x8x1408, .f32⟩
  | .hbm, ⟨3, _⟩ => ⟨S8x2048x1408, .f32⟩
  | .hbm, ⟨4, _⟩ => ⟨S8x2048x1408, .bf16⟩
  | .hbm, ⟨5, _⟩ => ⟨S4096x2048, .bf16⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S1x2048x1408, .bf16⟩
  | .local _ .vmem, ⟨7, _⟩ => ⟨S1x2048x1408, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .f32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_15 : BitVec 32 := 0#32
  let v19 : BitVec 1 := Scalar.cmpi .ne v18 c0_i32_15
  v19

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c0_i32_0 : BitVec 32 := 0#32
  let v2 : BitVec 32 := Scalar.addi v1 c0_i32_0
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c0_i32 : BitVec 32 := 0#32
  let v2 : BitVec 32 := Scalar.addi v1 c0_i32
  let c0_i32_0 : BitVec 32 := 0#32
  ![arg0.toNat, v2.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference8Ideal.lean ====
abbrev S4096x11264 : Shape := ⟨2, ![4096, 11264]⟩
abbrev S2048x11264 : Shape := ⟨2, ![2048, 11264]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S2048x11264, .f32⟩
  | .hbm, ⟨2, _⟩ => ⟨S_, .f32⟩
  | .hbm, ⟨3, _⟩ => ⟨S4096x2048, .f32⟩
  | .hbm, ⟨4, _⟩ => ⟨S4096x11264, .f32⟩
  | .hbm, ⟨5, _⟩ => ⟨S4096x11264, .f32⟩
  | .hbm, ⟨6, _⟩ => ⟨S4096x2048, .f32⟩
  | .hbm, ⟨7, _⟩ => ⟨S4096x2048, .bf16⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S4096x5632 : Shape := ⟨2, ![4096, 5632]⟩
abbrev S5632x2048 : Shape := ⟨2, ![5632, 2048]⟩
abbrev S4096x2048 : Shape := ⟨2, ![4096, 2048]⟩
abbrev S8x704x2048 : Shape := ⟨3, ![8, 704, 2048]⟩
abbrev S_ : Shape := ⟨0, ![]⟩
abbrev S8x768x2048 : Shape := ⟨3, ![8, 768, 2048]⟩
abbrev S4096x8x704 : Shape := ⟨3, ![4096, 8, 704]⟩
abbrev S8x4096x704 : Shape := ⟨3, ![8, 4096, 704]⟩
abbrev S8x4096x768 : Shape := ⟨3, ![8, 4096, 768]⟩
abbrev S1024x2048 : Shape := ⟨2, ![1024, 2048]⟩
abbrev S1x768x2048 : Shape := ⟨3, ![1, 768, 2048]⟩
abbrev S1x1024x768 : Shape := ⟨3, ![1, 1024, 768]⟩
abbrev S768x2048 : Shape := ⟨2, ![768, 2048]⟩
abbrev S1024x768 : Shape := ⟨2, ![1024, 768]⟩

abbrev nBuf : Space → Nat
  | .hbm => 21
  | .vmem => 12
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S5632x2048, .f32⟩
  | .hbm, ⟨3, _⟩ => ⟨S4096x2048, .bf16⟩
  | .hbm, ⟨4, _⟩ => ⟨S8x704x2048, .f32⟩
  | .hbm, ⟨5, _⟩ => ⟨S_, .i32⟩
  | .hbm, ⟨6, _⟩ => ⟨S_, .f32⟩
  | .hbm, ⟨7, _⟩ => ⟨S8x768x2048, .f32⟩
  | .hbm, ⟨8, _⟩ => ⟨S8x768x2048, .bf16⟩
  | .hbm, ⟨9, _⟩ => ⟨S4096x8x704, .bf16⟩
  | .hbm, ⟨10, _⟩ => ⟨S8x4096x704, .bf16⟩
  | .hbm, ⟨11, _⟩ => ⟨S_, .i32⟩
  | .hbm, ⟨12, _⟩ => ⟨S_, .bf16⟩
  | .hbm, ⟨13, _⟩ => ⟨S8x4096x768, .bf16⟩
  | .hbm, ⟨14, _⟩ => ⟨S4096x8x704, .bf16⟩
  | .hbm, ⟨15, _⟩ => ⟨S8x4096x704, .bf16⟩
  | .hbm, ⟨16, _⟩ => ⟨S_, .i32⟩
  | .hbm, ⟨17, _⟩ => ⟨S_, .bf16⟩
  | .hbm, ⟨18, _⟩ => ⟨S8x4096x768, .bf16⟩
  | .hbm, ⟨19, _⟩ => ⟨S8x4096x768, .bf16⟩
  | .hbm, ⟨20, _⟩ => ⟨S8x4096x768, .bf16⟩
  | .local _ .vmem, ⟨0, _⟩ => ⟨S1024x2048, .bf16⟩
  | .local _ .vmem, ⟨1, _⟩ => ⟨S1024x2048, .bf16⟩
  | .local _ .vmem, ⟨2, _⟩ => ⟨S1x768x2048, .bf16⟩
  | .local _ .vmem, ⟨3, _⟩ => ⟨S1x768x2048, .bf16⟩
  | .local _ .vmem, ⟨4, _⟩ => ⟨S1x1024x768, .bf16⟩
  | .local _ .vmem, ⟨5, _⟩ => ⟨S1x1024x768, .bf16⟩
  | .local _ .vmem, ⟨6, _⟩ => ⟨S1x1024x768, .bf16⟩
  | .local _ .vmem, ⟨7, _⟩ => ⟨S1x1024x768, .bf16⟩
  | .local _ .vmem, ⟨8, _⟩ => ⟨S1x1024x768, .bf16⟩
  | .local _ .vmem, ⟨9, _⟩ => ⟨S1x1024x768, .bf16⟩
  | .local _ .vmem, ⟨10, _⟩ => ⟨S1x1024x768, .bf16⟩
  | .local _ .vmem, ⟨11, _⟩ => ⟨S1x1024x768, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_call2_v0 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference9Ideal.lean ====
abbrev S4096x5632 : Shape := ⟨2, ![4096, 5632]⟩
abbrev S5632x2048 : Shape := ⟨2, ![5632, 2048]⟩
abbrev S4096x2048 : Shape := ⟨2, ![4096, 2048]⟩
abbrev S_ : Shape := ⟨0, ![]⟩
abbrev S4096x8x704 : Shape := ⟨3, ![4096, 8, 704]⟩
abbrev S8x4096x704 : Shape := ⟨3, ![8, 4096, 704]⟩
abbrev S8x4096x768 : Shape := ⟨3, ![8, 4096, 768]⟩

abbrev nBuf : Space → Nat
  | .hbm => 41
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S5632x2048, .f32⟩
  | .hbm, ⟨3, _⟩ => ⟨S4096x2048, .bf16⟩
  | .hbm, ⟨4, _⟩ => ⟨S4096x5632, .f32⟩
  | .hbm, ⟨5, _⟩ => ⟨S4096x5632, .f32⟩
  | .hbm, ⟨6, _⟩ => ⟨S4096x5632, .f32⟩
  | .hbm, ⟨7, _⟩ => ⟨S4096x5632, .f32⟩
  | .hbm, ⟨8, _⟩ => ⟨S_, .f32⟩
  | .hbm, ⟨9, _⟩ => ⟨S4096x5632, .f32⟩
  | .hbm, ⟨10, _⟩ => ⟨S4096x5632, .f32⟩
  | .hbm, ⟨11, _⟩ => ⟨S_, .f32⟩
  | .hbm, ⟨12, _⟩ => ⟨S4096x5632, .f32⟩
  | .hbm, ⟨13, _⟩ => ⟨S4096x5632, .f32⟩
  | .hbm, ⟨14, _⟩ => ⟨S_, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x2048, .f32⟩
  | .hbm, ⟨21, _⟩ => ⟨S4096x2048, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .bf16⟩
  | .hbm, ⟨30, _⟩ => ⟨S4096x8x704, .bf16⟩
  | .hbm, ⟨31, _⟩ => ⟨S8x4096x704, .bf16⟩
  | .hbm, ⟨32, _⟩ => ⟨S_, .i32⟩
  | .hbm, ⟨33, _⟩ => ⟨S_, .bf16⟩
  | .hbm, ⟨34, _⟩ => ⟨S8x4096x768, .bf16⟩
  | .hbm, ⟨35, _⟩ => ⟨S4096x5632, .bf16⟩
  | .hbm, ⟨36, _⟩ => ⟨S4096x8x704, .bf16⟩
  | .hbm, ⟨37, _⟩ => ⟨S8x4096x704, .bf16⟩
  | .hbm, ⟨38, _⟩ => ⟨S_, .i32⟩
  | .hbm, ⟨39, _⟩ => ⟨S_, .bf16⟩
  | .hbm, ⟨40, _⟩ => ⟨S8x4096x768, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c : Ref sig .tc := ⟨.hbm, 32, rfl⟩
abbrev main_call2_v0 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c_0 : Ref sig .tc := ⟨.hbm, 38, rfl⟩
abbrev main_call3_v0 : Ref sig .tc := ⟨.hbm, 39, rfl⟩
abbrev main_v17 : Ref sig .tc := ⟨.hbm, 40, rfl⟩

abbrev nD : Nat := 1
abbrev τ : Topo := Topo.v7x

variable {F : FTy → Type} [FloatOps F]
-- ==== Kernel10.lean ====
abbrev S4096x2048 : Shape := ⟨2, ![4096, 2048]⟩
abbrev S2048x2048 : Shape := ⟨2, ![2048, 2048]⟩
abbrev S4096x11264 : Shape := ⟨2, ![4096, 11264]⟩
abbrev S8x256x2048 : Shape := ⟨3, ![8, 256, 2048]⟩
abbrev S_ : Shape := ⟨0, ![]⟩
abbrev S512x2048 : Shape := ⟨2, ![512, 2048]⟩
abbrev S1x256x2048 : Shape := ⟨3, ![1, 256, 2048]⟩
abbrev S512x1024 : Shape := ⟨2, ![512, 1024]⟩
abbrev S256x2048 : Shape := ⟨2, ![256, 2048]⟩
abbrev S512x256 : Shape := ⟨2, ![512, 256]⟩

abbrev nBuf : Space → Nat
  | .hbm => 14
  | .vmem => 26
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .bf16⟩
  | .hbm, ⟨3, _⟩ => ⟨S4096x2048, .bf16⟩
  | .hbm, ⟨4, _⟩ => ⟨S4096x11264, .bf16⟩
  | .hbm, ⟨5, _⟩ => ⟨S8x256x2048, .f32⟩
  | .hbm, ⟨6, _⟩ => ⟨S_, .i32⟩
  | .hbm, ⟨7, _⟩ => ⟨S_, .f32⟩
  | .hbm, ⟨8, _⟩ => ⟨S8x256x2048, .f32⟩
  | .hbm, ⟨9, _⟩ => ⟨S8x256x2048, .bf16⟩
  | .hbm, ⟨10, _⟩ => ⟨S4096x2048, .bf16⟩
  | .hbm, ⟨11, _⟩ => ⟨S4096x2048, .bf16⟩
  | .hbm, ⟨12, _⟩ => ⟨S4096x2048, .bf16⟩
  | .hbm, ⟨13, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x256x2048, .bf16⟩
  | .local _ .vmem, ⟨5, _⟩ => ⟨S1x256x2048, .bf16⟩
  | .local _ .vmem, ⟨6, _⟩ => ⟨S1x256x2048, .bf16⟩
  | .local _ .vmem, ⟨7, _⟩ => ⟨S1x256x2048, .bf16⟩
  | .local _ .vmem, ⟨8, _⟩ => ⟨S1x256x2048, .bf16⟩
  | .local _ .vmem, ⟨9, _⟩ => ⟨S1x256x2048, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c2_i32 : BitVec 32 := 2#32
  let v1 : BitVec 32 := Scalar.addi v0 c2_i32
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c3_i32 : BitVec 32 := 3#32
  let v1 : BitVec 32 := Scalar.addi v0 c3_i32
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi arg1 c7_i32
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi arg1 c9_i32
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference10Ideal.lean ====
abbrev S4096x2048 : Shape := ⟨2, ![4096, 2048]⟩
abbrev S2048x2048 : Shape := ⟨2, ![2048, 2048]⟩
abbrev S4096x11264 : Shape := ⟨2, ![4096, 11264]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .bf16⟩
  | .hbm, ⟨3, _⟩ => ⟨S4096x2048, .bf16⟩
  | .hbm, ⟨4, _⟩ => ⟨S4096x11264, .bf16⟩
  | .hbm, ⟨5, _⟩ => ⟨S4096x2048, .bf16⟩
  | .hbm, ⟨6, _⟩ => ⟨S4096x2048, .bf16⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .bf16⟩
  | .hbm, ⟨48, _⟩ => ⟨S4096x2048, .bf16⟩
  | .hbm, ⟨49, _⟩ => ⟨S4096x2048, .bf16⟩
  | .hbm, ⟨50, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== Kernel11.lean ====
abbrev S4096x5632 : Shape := ⟨2, ![4096, 5632]⟩
abbrev S4096x2048 : Shape := ⟨2, ![4096, 2048]⟩
abbrev S4096x8x704 : Shape := ⟨3, ![4096, 8, 704]⟩
abbrev S8x4096x704 : Shape := ⟨3, ![8, 4096, 704]⟩
abbrev S_ : Shape := ⟨0, ![]⟩
abbrev S8x4096x768 : Shape := ⟨3, ![8, 4096, 768]⟩
abbrev S8x768x2048 : Shape := ⟨3, ![8, 768, 2048]⟩
abbrev S1x2048x768 : Shape := ⟨3, ![1, 2048, 768]⟩
abbrev S2048x2048 : Shape := ⟨2, ![2048, 2048]⟩
abbrev S1x768x2048 : Shape := ⟨3, ![1, 768, 2048]⟩
abbrev S768x2048 : Shape := ⟨2, ![768, 2048]⟩
abbrev S2048x768 : Shape := ⟨2, ![2048, 768]⟩

abbrev nBuf : Space → Nat
  | .hbm => 8
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S4096x8x704, .bf16⟩
  | .hbm, ⟨3, _⟩ => ⟨S8x4096x704, .bf16⟩
  | .hbm, ⟨4, _⟩ => ⟨S_, .i32⟩
  | .hbm, ⟨5, _⟩ => ⟨S_, .bf16⟩
  | .hbm, ⟨6, _⟩ => ⟨S8x4096x768, .bf16⟩
  | .hbm, ⟨7, _⟩ => ⟨S8x768x2048, .bf16⟩
  | .local _ .vmem, ⟨0, _⟩ => ⟨S1x2048x768, .bf16⟩
  | .local _ .vmem, ⟨1, _⟩ => ⟨S1x2048x768, .bf16⟩
  | .local _ .vmem, ⟨2, _⟩ => ⟨S2048x2048, .bf16⟩
  | .local _ .vmem, ⟨3, _⟩ => ⟨S2048x2048, .bf16⟩
  | .local _ .vmem, ⟨4, _⟩ => ⟨S1x768x2048, .bf16⟩
  | .local _ .vmem, ⟨5, _⟩ => ⟨S1x768x2048, .bf16⟩
  | .local _ .vmem, ⟨6, _⟩ => ⟨S768x2048, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v12 : BitVec 1 := Scalar.cmpi .eq arg1 c1_i32
  let v13 : BitVec 32 := Scalar.extui v12
  let c0_i32_9 : BitVec 32 := 0#32
  let v14 : BitVec 1 := Scalar.cmpi .ne v13 c0_i32_9
  v14

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x768x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference11Ideal.lean ====
abbrev S4096x5632 : Shape := ⟨2, ![4096, 5632]⟩
abbrev S4096x2048 : Shape := ⟨2, ![4096, 2048]⟩
abbrev S_ : Shape := ⟨0, ![]⟩
abbrev S2048x5632 : Shape := ⟨2, ![2048, 5632]⟩
abbrev S5632x2048 : Shape := ⟨2, ![5632, 2048]⟩
abbrev S8x704x2048 : Shape := ⟨3, ![8, 704, 2048]⟩
abbrev S8x768x2048 : Shape := ⟨3, ![8, 768, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S2048x5632, .f32⟩
  | .hbm, ⟨4, _⟩ => ⟨S4096x2048, .f32⟩
  | .hbm, ⟨5, _⟩ => ⟨S4096x5632, .f32⟩
  | .hbm, ⟨6, _⟩ => ⟨S4096x5632, .f32⟩
  | .hbm, ⟨7, _⟩ => ⟨S5632x2048, .f32⟩
  | .hbm, ⟨8, _⟩ => ⟨S2048x5632, .f32⟩
  | .hbm, ⟨9, _⟩ => ⟨S5632x2048, .f32⟩
  | .hbm, ⟨10, _⟩ => ⟨S5632x2048, .bf16⟩
  | .hbm, ⟨11, _⟩ => ⟨S8x704x2048, .bf16⟩
  | .hbm, ⟨12, _⟩ => ⟨S_, .i32⟩
  | .hbm, ⟨13, _⟩ => ⟨S_, .bf16⟩
  | .hbm, ⟨14, _⟩ => ⟨S8x768x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel12.lean ====
abbrev S4096x5632 : Shape := ⟨2, ![4096, 5632]⟩
abbrev S4096x2048 : Shape := ⟨2, ![4096, 2048]⟩
abbrev S4096x8x704 : Shape := ⟨3, ![4096, 8, 704]⟩
abbrev S8x4096x704 : Shape := ⟨3, ![8, 4096, 704]⟩
abbrev S_ : Shape := ⟨0, ![]⟩
abbrev S8x4096x768 : Shape := ⟨3, ![8, 4096, 768]⟩
abbrev S8x768x2048 : Shape := ⟨3, ![8, 768, 2048]⟩
abbrev S1x2048x768 : Shape := ⟨3, ![1, 2048, 768]⟩
abbrev S2048x2048 : Shape := ⟨2, ![2048, 2048]⟩
abbrev S1x768x2048 : Shape := ⟨3, ![1, 768, 2048]⟩
abbrev S768x2048 : Shape := ⟨2, ![768, 2048]⟩
abbrev S2048x768 : Shape := ⟨2, ![2048, 768]⟩

abbrev nBuf : Space → Nat
  | .hbm => 8
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S4096x8x704, .bf16⟩
  | .hbm, ⟨3, _⟩ => ⟨S8x4096x704, .bf16⟩
  | .hbm, ⟨4, _⟩ => ⟨S_, .i32⟩
  | .hbm, ⟨5, _⟩ => ⟨S_, .bf16⟩
  | .hbm, ⟨6, _⟩ => ⟨S8x4096x768, .bf16⟩
  | .hbm, ⟨7, _⟩ => ⟨S8x768x2048, .bf16⟩
  | .local _ .vmem, ⟨0, _⟩ => ⟨S1x2048x768, .bf16⟩
  | .local _ .vmem, ⟨1, _⟩ => ⟨S1x2048x768, .bf16⟩
  | .local _ .vmem, ⟨2, _⟩ => ⟨S2048x2048, .bf16⟩
  | .local _ .vmem, ⟨3, _⟩ => ⟨S2048x2048, .bf16⟩
  | .local _ .vmem, ⟨4, _⟩ => ⟨S1x768x2048, .bf16⟩
  | .local _ .vmem, ⟨5, _⟩ => ⟨S1x768x2048, .bf16⟩
  | .local _ .vmem, ⟨6, _⟩ => ⟨S768x2048, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v12 : BitVec 1 := Scalar.cmpi .eq arg1 c1_i32
  let v13 : BitVec 32 := Scalar.extui v12
  let c0_i32_9 : BitVec 32 := 0#32
  let v14 : BitVec 1 := Scalar.cmpi .ne v13 c0_i32_9
  v14

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x768x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference12Ideal.lean ====
abbrev S4096x5632 : Shape := ⟨2, ![4096, 5632]⟩
abbrev S4096x2048 : Shape := ⟨2, ![4096, 2048]⟩
abbrev S_ : Shape := ⟨0, ![]⟩
abbrev S2048x5632 : Shape := ⟨2, ![2048, 5632]⟩
abbrev S5632x2048 : Shape := ⟨2, ![5632, 2048]⟩
abbrev S8x704x2048 : Shape := ⟨3, ![8, 704, 2048]⟩
abbrev S8x768x2048 : Shape := ⟨3, ![8, 768, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S2048x5632, .f32⟩
  | .hbm, ⟨4, _⟩ => ⟨S4096x2048, .f32⟩
  | .hbm, ⟨5, _⟩ => ⟨S4096x5632, .f32⟩
  | .hbm, ⟨6, _⟩ => ⟨S4096x5632, .f32⟩
  | .hbm, ⟨7, _⟩ => ⟨S5632x2048, .f32⟩
  | .hbm, ⟨8, _⟩ => ⟨S2048x5632, .f32⟩
  | .hbm, ⟨9, _⟩ => ⟨S5632x2048, .f32⟩
  | .hbm, ⟨10, _⟩ => ⟨S5632x2048, .bf16⟩
  | .hbm, ⟨11, _⟩ => ⟨S8x704x2048, .bf16⟩
  | .hbm, ⟨12, _⟩ => ⟨S_, .i32⟩
  | .hbm, ⟨13, _⟩ => ⟨S_, .bf16⟩
  | .hbm, ⟨14, _⟩ => ⟨S8x768x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel13.lean ====
abbrev S4096x2048 : Shape := ⟨2, ![4096, 2048]⟩
abbrev S8x256x2048 : Shape := ⟨3, ![8, 256, 2048]⟩
abbrev S2048x256 : Shape := ⟨2, ![2048, 256]⟩
abbrev S2048x2048 : Shape := ⟨2, ![2048, 2048]⟩
abbrev S1x256x2048 : Shape := ⟨3, ![1, 256, 2048]⟩
abbrev S256x2048 : Shape := ⟨2, ![256, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S8x256x2048, .bf16⟩
  | .local _ .vmem, ⟨0, _⟩ => ⟨S2048x256, .bf16⟩
  | .local _ .vmem, ⟨1, _⟩ => ⟨S2048x256, .bf16⟩
  | .local _ .vmem, ⟨2, _⟩ => ⟨S2048x2048, .bf16⟩
  | .local _ .vmem, ⟨3, _⟩ => ⟨S2048x2048, .bf16⟩
  | .local _ .vmem, ⟨4, _⟩ => ⟨S1x256x2048, .bf16⟩
  | .local _ .vmem, ⟨5, _⟩ => ⟨S1x256x2048, .bf16⟩
  | .local _ .vmem, ⟨6, _⟩ => ⟨S256x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference13Ideal.lean ====
abbrev S4096x2048 : Shape := ⟨2, ![4096, 2048]⟩
abbrev S_ : Shape := ⟨0, ![]⟩
abbrev S2048x2048 : Shape := ⟨2, ![2048, 2048]⟩
abbrev S8x256x2048 : Shape := ⟨3, ![8, 256, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | .hbm, ⟨10, _⟩ => ⟨S8x256x2048, .bf16⟩
  | .hbm, ⟨11, _⟩ => ⟨S_, .i32⟩
  | .hbm, ⟨12, _⟩ => ⟨S_, .bf16⟩
  | .hbm, ⟨13, _⟩ => ⟨S8x256x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel14.lean ====
abbrev S4096x1024 : Shape := ⟨2, ![4096, 1024]⟩
abbrev S4096x2048 : Shape := ⟨2, ![4096, 2048]⟩
abbrev S8x1024x256 : Shape := ⟨3, ![8, 1024, 256]⟩
abbrev S2048x1024 : Shape := ⟨2, ![2048, 1024]⟩
abbrev S2048x256 : Shape := ⟨2, ![2048, 256]⟩
abbrev S1x1024x256 : Shape := ⟨3, ![1, 1024, 256]⟩
abbrev S1024x256 : Shape := ⟨2, ![1024, 256]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S8x1024x256, .bf16⟩
  | .local _ .vmem, ⟨0, _⟩ => ⟨S2048x1024, .bf16⟩
  | .local _ .vmem, ⟨1, _⟩ => ⟨S2048x1024, .bf16⟩
  | .local _ .vmem, ⟨2, _⟩ => ⟨S2048x256, .bf16⟩
  | .local _ .vmem, ⟨3, _⟩ => ⟨S2048x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1024x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference14Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | .hbm, ⟨10, _⟩ => ⟨S1024x8x256, .bf16⟩
  | .hbm, ⟨11, _⟩ => ⟨S8x1024x256, .bf16⟩
  | .hbm, ⟨12, _⟩ => ⟨S_, .i32⟩
  | .hbm, ⟨13, _⟩ => ⟨S_, .bf16⟩
  | .hbm, ⟨14, _⟩ => ⟨S8x1024x256, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel15.lean ====
abbrev S4096x1024 : Shape := ⟨2, ![4096, 1024]⟩
abbrev S4096x2048 : Shape := ⟨2, ![4096, 2048]⟩
abbrev S8x1024x256 : Shape := ⟨3, ![8, 1024, 256]⟩
abbrev S2048x1024 : Shape := ⟨2, ![2048, 1024]⟩
abbrev S2048x256 : Shape := ⟨2, ![2048, 256]⟩
abbrev S1x1024x256 : Shape := ⟨3, ![1, 1024, 256]⟩
abbrev S1024x256 : Shape := ⟨2, ![1024, 256]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S8x1024x256, .bf16⟩
  | .local _ .vmem, ⟨0, _⟩ => ⟨S2048x1024, .bf16⟩
  | .local _ .vmem, ⟨1, _⟩ => ⟨S2048x1024, .bf16⟩
  | .local _ .vmem, ⟨2, _⟩ => ⟨S2048x256, .bf16⟩
  | .local _ .vmem, ⟨3, _⟩ => ⟨S2048x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1024x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference15Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | .hbm, ⟨10, _⟩ => ⟨S1024x8x256, .bf16⟩
  | .hbm, ⟨11, _⟩ => ⟨S8x1024x256, .bf16⟩
  | .hbm, ⟨12, _⟩ => ⟨S_, .i32⟩
  | .hbm, ⟨13, _⟩ => ⟨S_, .bf16⟩
  | .hbm, ⟨14, _⟩ => ⟨S8x1024x256, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel16.lean ====
abbrev S4096x2048 : Shape := ⟨2, ![4096, 2048]⟩
abbrev S1024x2048 : Shape := ⟨2, ![1024, 2048]⟩
abbrev S1024x8x256 : Shape := ⟨3, ![1024, 8, 256]⟩
abbrev S8x1024x256 : Shape := ⟨3, ![8, 1024, 256]⟩
abbrev S4096x1024 : Shape := ⟨2, ![4096, 1024]⟩
abbrev S512x256 : Shape := ⟨2, ![512, 256]⟩
abbrev S1x1024x256 : Shape := ⟨3, ![1, 1024, 256]⟩
abbrev S512x1024 : Shape := ⟨2, ![512, 1024]⟩
abbrev S1024x256 : Shape := ⟨2, ![1024, 256]⟩

abbrev nBuf : Space → Nat
  | .hbm => 6
  | .vmem => 27
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .f32⟩
  | .hbm, ⟨2, _⟩ => ⟨S1024x8x256, .f32⟩
  | .hbm, ⟨3, _⟩ => ⟨S8x1024x256, .f32⟩
  | .hbm, ⟨4, _⟩ => ⟨S8x1024x256, .bf16⟩
  | .hbm, ⟨5, _⟩ => ⟨S4096x1024, .bf16⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S512x256, .bf16⟩
  | .local _ .vmem, ⟨15, _⟩ => ⟨S512x256, .bf16⟩
  | .local _ .vmem, ⟨16, _⟩ => ⟨S1x1024x256, .bf16⟩
  | .local _ .vmem, ⟨17, _⟩ => ⟨S1x1024x256, .bf16⟩
  | .local _ .vmem, ⟨18, _⟩ => ⟨S1x1024x256, .bf16⟩
  | .local _ .vmem, ⟨19, _⟩ => ⟨S1x1024x256, .bf16⟩
  | .local _ .vmem, ⟨20, _⟩ => ⟨S1x1024x256, .bf16⟩
  | .local _ .vmem, ⟨21, _⟩ => ⟨S1x1024x256, .bf16⟩
  | .local _ .vmem, ⟨22, _⟩ => ⟨S1x1024x256, .bf16⟩
  | .local _ .vmem, ⟨23, _⟩ => ⟨S1x1024x256, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_51 : BitVec 32 := 0#32
  let v47 : BitVec 1 := Scalar.cmpi .eq arg1 c0_i32_51
  let v48 : BitVec 32 := Scalar.extui v47
  let c0_i32_52 : BitVec 32 := 0#32
  let v49 : BitVec 1 := Scalar.cmpi .ne v48 c0_i32_52
  v49

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let c0_i32_0 : BitVec 32 := 0#32
  let v2 : BitVec 32 := Scalar.addi v1 c0_i32_0
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.addi v0 c1_i32
  let c0_i32 : BitVec 32 := 0#32
  let v2 : BitVec 32 := Scalar.addi v1 c0_i32
  let c0_i32_0 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c2_i32 : BitVec 32 := 2#32
  let v1 : BitVec 32 := Scalar.addi v0 c2_i32
  let c0_i32 : BitVec 32 := 0#32
  let v2 : BitVec 32 := Scalar.addi v1 c0_i32
  let c0_i32_0 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c3_i32 : BitVec 32 := 3#32
  let v1 : BitVec 32 := Scalar.addi v0 c3_i32
  let c0_i32 : BitVec 32 := 0#32
  let v2 : BitVec 32 := Scalar.addi v1 c0_i32
  let c0_i32_0 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c4_i32 : BitVec 32 := 4#32
  let v1 : BitVec 32 := Scalar.addi v0 c4_i32
  let c0_i32 : BitVec 32 := 0#32
  let v2 : BitVec 32 := Scalar.addi v1 c0_i32
  let c0_i32_0 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c5_i32 : BitVec 32 := 5#32
  let v1 : BitVec 32 := Scalar.addi v0 c5_i32
  let c0_i32 : BitVec 32 := 0#32
  let v2 : BitVec 32 := Scalar.addi v1 c0_i32
  let c0_i32_0 : BitVec 32 := 0#32
  ![arg0.toNat, v2.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c6_i32 : BitVec 32 := 6#32
  let v1 : BitVec 32 := Scalar.addi v0 c6_i32
  let c0_i32 : BitVec 32 := 0#32
  let v2 : BitVec 32 := Scalar.addi v1 c0_i32
  let c0_i32_0 : BitVec 32 := 0#32
  ![arg0.toNat, v2.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c7_i32 : BitVec 32 := 7#32
  let v1 : BitVec 32 := Scalar.addi v0 c7_i32
  let c0_i32 : BitVec 32 := 0#32
  let v2 : BitVec 32 := Scalar.addi v1 c0_i32
  let c0_i32_0 : BitVec 32 := 0#32
  ![arg0.toNat, v2.toNat]

def cc0_transform_8 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c2_i32 : BitVec 32 := 2#32
  let v1 : BitVec 32 := Scalar.addi v0 c2_i32
  let c0_i32 : BitVec 32 := 0#32
  let c0_i32_0 : BitVec 32 := 0#32
  let c0_i32_1 : BitVec 32 := 0#32
  ![v1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c3_i32 : BitVec 32 := 3#32
  let v1 : BitVec 32 := Scalar.addi v0 c3_i32
  let c0_i32 : BitVec 32 := 0#32
  let c0_i32_0 : BitVec 32 := 0#32
  let c0_i32_1 : BitVec 32 := 0#32
  ![v1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c4_i32 : BitVec 32 := 4#32
  let v1 : BitVec 32 := Scalar.addi v0 c4_i32
  let c0_i32 : BitVec 32 := 0#32
  let c0_i32_0 : BitVec 32 := 0#32
  let c0_i32_1 : BitVec 32 := 0#32
  ![v1.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c5_i32 : BitVec 32 := 5#32
  let v1 : BitVec 32 := Scalar.addi v0 c5_i32
  let c0_i32 : BitVec 32 := 0#32
  let c0_i32_0 : BitVec 32 := 0#32
  let c0_i32_1 : BitVec 32 := 0#32
  ![v1.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c6_i32 : BitVec 32 := 6#32
  let v1 : BitVec 32 := Scalar.addi v0 c6_i32
  let c0_i32 : BitVec 32 := 0#32
  let c0_i32_0 : BitVec 32 := 0#32
  let c0_i32_1 : BitVec 32 := 0#32
  ![v1.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c7_i32 : BitVec 32 := 7#32
  let v1 : BitVec 32 := Scalar.addi v0 c7_i32
  let c0_i32 : BitVec 32 := 0#32
  let c0_i32_0 : BitVec 32 := 0#32
  let c0_i32_1 : BitVec 32 := 0#32
  ![v1.toNat, c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true]

abbrev stage0_9 : Fin 1 → Memref sig .tc .vmem S1x1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true]

abbrev stage0_10 : Fin 1 → Memref sig .tc .vmem S1x1024x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, true]

abbrev stage0_11 : Fin 1 → Memref sig .tc .vmem S1x1024x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, true]

abbrev stage0_12 : Fin 1 → Memref sig .tc .vmem S1x1024x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, true]

abbrev stage0_13 : Fin 1 → Memref sig .tc .vmem S1x1024x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, true]

abbrev stage0_14 : Fin 1 → Memref sig .tc .vmem S1x1024x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, true]

abbrev stage0_15 : Fin 1 → Memref sig .tc .vmem S1x1024x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== Reference16Ideal.lean ====
abbrev S4096x2048 : Shape := ⟨2, ![4096, 2048]⟩
abbrev S1024x2048 : Shape := ⟨2, ![1024, 2048]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .f32⟩
  | .hbm, ⟨2, _⟩ => ⟨S_, .f32⟩
  | .hbm, ⟨3, _⟩ => ⟨S4096x1024, .f32⟩
  | .hbm, ⟨4, _⟩ => ⟨S4096x2048, .f32⟩
  | .hbm, ⟨5, _⟩ => ⟨S4096x2048, .f32⟩
  | .hbm, ⟨6, _⟩ => ⟨S4096x1024, .f32⟩
  | .hbm, ⟨7, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel17.lean ====
abbrev S4096x2048 : Shape := ⟨2, ![4096, 2048]⟩
abbrev S1024x2048 : Shape := ⟨2, ![1024, 2048]⟩
abbrev S1024x8x256 : Shape := ⟨3, ![1024, 8, 256]⟩
abbrev S8x1024x256 : Shape := ⟨3, ![8, 1024, 256]⟩
abbrev S4096x1024 : Shape := ⟨2, ![4096, 1024]⟩
abbrev S512x256 : Shape := ⟨2, ![512, 256]⟩
abbrev S1x1024x256 : Shape := ⟨3, ![1, 1024, 256]⟩
abbrev S512x1024 : Shape := ⟨2, ![512, 1024]⟩
abbrev S1024x256 : Shape := ⟨2, ![1024, 256]⟩

abbrev nBuf : Space → Nat
  | .hbm => 6
  | .vmem => 27
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .f32⟩
  | .hbm, ⟨2, _⟩ => ⟨S1024x8x256, .f32⟩
  | .hbm, ⟨3, _⟩ => ⟨S8x1024x256, .f32⟩
  | .hbm, ⟨4, _⟩ => ⟨S8x1024x256, .bf16⟩
  | .hbm, ⟨5, _⟩ => ⟨S4096x1024, .bf16⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S512x256, .bf16⟩
  | .local _ .vmem, ⟨15, _⟩ => ⟨S512x256, .bf16⟩
  | .local _ .vmem, ⟨16, _⟩ => ⟨S1x1024x256, .bf16⟩
  | .local _ .vmem, ⟨17, _⟩ => ⟨S1x1024x256, .bf16⟩
  | .local _ .vmem, ⟨18, _⟩ => ⟨S1x1024x256, .bf16⟩
  | .local _ .vmem, ⟨19, _⟩ => ⟨S1x1024x256, .bf16⟩
  | .local _ .vmem, ⟨20, _⟩ => ⟨S1x1024x256, .bf16⟩
  | .local _ .vmem, ⟨21, _⟩ => ⟨S1x1024x256, .bf16⟩
  | .local _ .vmem, ⟨22, _⟩ => ⟨S1x1024x256, .bf16⟩
  | .local _ .vmem, ⟨23, _⟩ => ⟨S1x1024x256, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_51 : BitVec 32 := 0#32
  let v47 : BitVec 1 := Scalar.cmpi .eq arg1 c0_i32_51
  let v48 : BitVec 32 := Scalar.extui v47
  let c0_i32_52 : BitVec 32 := 0#32
  let v49 : BitVec 1 := Scalar.cmpi .ne v48 c0_i32_52
  v49

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let c0_i32_0 : BitVec 32 := 0#32
  let v2 : BitVec 32 := Scalar.addi v1 c0_i32_0
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.addi v0 c1_i32
  let c0_i32 : BitVec 32 := 0#32
  let v2 : BitVec 32 := Scalar.addi v1 c0_i32
  let c0_i32_0 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c2_i32 : BitVec 32 := 2#32
  let v1 : BitVec 32 := Scalar.addi v0 c2_i32
  let c0_i32 : BitVec 32 := 0#32
  let v2 : BitVec 32 := Scalar.addi v1 c0_i32
  let c0_i32_0 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c3_i32 : BitVec 32 := 3#32
  let v1 : BitVec 32 := Scalar.addi v0 c3_i32
  let c0_i32 : BitVec 32 := 0#32
  let v2 : BitVec 32 := Scalar.addi v1 c0_i32
  let c0_i32_0 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c4_i32 : BitVec 32 := 4#32
  let v1 : BitVec 32 := Scalar.addi v0 c4_i32
  let c0_i32 : BitVec 32 := 0#32
  let v2 : BitVec 32 := Scalar.addi v1 c0_i32
  let c0_i32_0 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c5_i32 : BitVec 32 := 5#32
  let v1 : BitVec 32 := Scalar.addi v0 c5_i32
  let c0_i32 : BitVec 32 := 0#32
  let v2 : BitVec 32 := Scalar.addi v1 c0_i32
  let c0_i32_0 : BitVec 32 := 0#32
  ![arg0.toNat, v2.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c6_i32 : BitVec 32 := 6#32
  let v1 : BitVec 32 := Scalar.addi v0 c6_i32
  let c0_i32 : BitVec 32 := 0#32
  let v2 : BitVec 32 := Scalar.addi v1 c0_i32
  let c0_i32_0 : BitVec 32 := 0#32
  ![arg0.toNat, v2.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c7_i32 : BitVec 32 := 7#32
  let v1 : BitVec 32 := Scalar.addi v0 c7_i32
  let c0_i32 : BitVec 32 := 0#32
  let v2 : BitVec 32 := Scalar.addi v1 c0_i32
  let c0_i32_0 : BitVec 32 := 0#32
  ![arg0.toNat, v2.toNat]

def cc0_transform_8 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c2_i32 : BitVec 32 := 2#32
  let v1 : BitVec 32 := Scalar.addi v0 c2_i32
  let c0_i32 : BitVec 32 := 0#32
  let c0_i32_0 : BitVec 32 := 0#32
  let c0_i32_1 : BitVec 32 := 0#32
  ![v1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c3_i32 : BitVec 32 := 3#32
  let v1 : BitVec 32 := Scalar.addi v0 c3_i32
  let c0_i32 : BitVec 32 := 0#32
  let c0_i32_0 : BitVec 32 := 0#32
  let c0_i32_1 : BitVec 32 := 0#32
  ![v1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c4_i32 : BitVec 32 := 4#32
  let v1 : BitVec 32 := Scalar.addi v0 c4_i32
  let c0_i32 : BitVec 32 := 0#32
  let c0_i32_0 : BitVec 32 := 0#32
  let c0_i32_1 : BitVec 32 := 0#32
  ![v1.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c5_i32 : BitVec 32 := 5#32
  let v1 : BitVec 32 := Scalar.addi v0 c5_i32
  let c0_i32 : BitVec 32 := 0#32
  let c0_i32_0 : BitVec 32 := 0#32
  let c0_i32_1 : BitVec 32 := 0#32
  ![v1.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c6_i32 : BitVec 32 := 6#32
  let v1 : BitVec 32 := Scalar.addi v0 c6_i32
  let c0_i32 : BitVec 32 := 0#32
  let c0_i32_0 : BitVec 32 := 0#32
  let c0_i32_1 : BitVec 32 := 0#32
  ![v1.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c7_i32 : BitVec 32 := 7#32
  let v1 : BitVec 32 := Scalar.addi v0 c7_i32
  let c0_i32 : BitVec 32 := 0#32
  let c0_i32_0 : BitVec 32 := 0#32
  let c0_i32_1 : BitVec 32 := 0#32
  ![v1.toNat, c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true]

abbrev stage0_9 : Fin 1 → Memref sig .tc .vmem S1x1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true]

abbrev stage0_10 : Fin 1 → Memref sig .tc .vmem S1x1024x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, true]

abbrev stage0_11 : Fin 1 → Memref sig .tc .vmem S1x1024x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, true]

abbrev stage0_12 : Fin 1 → Memref sig .tc .vmem S1x1024x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, true]

abbrev stage0_13 : Fin 1 → Memref sig .tc .vmem S1x1024x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, true]

abbrev stage0_14 : Fin 1 → Memref sig .tc .vmem S1x1024x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, true]

abbrev stage0_15 : Fin 1 → Memref sig .tc .vmem S1x1024x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== Reference17Ideal.lean ====
abbrev S4096x2048 : Shape := ⟨2, ![4096, 2048]⟩
abbrev S1024x2048 : Shape := ⟨2, ![1024, 2048]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .f32⟩
  | .hbm, ⟨2, _⟩ => ⟨S_, .f32⟩
  | .hbm, ⟨3, _⟩ => ⟨S4096x1024, .f32⟩
  | .hbm, ⟨4, _⟩ => ⟨S4096x2048, .f32⟩
  | .hbm, ⟨5, _⟩ => ⟨S4096x2048, .f32⟩
  | .hbm, ⟨6, _⟩ => ⟨S4096x1024, .f32⟩
  | .hbm, ⟨7, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel18.lean ====
abbrev S4096x2048 : Shape := ⟨2, ![4096, 2048]⟩
abbrev S2048x5632 : Shape := ⟨2, ![2048, 5632]⟩
abbrev S5632x2048 : Shape := ⟨2, ![5632, 2048]⟩
abbrev S8x704x2048 : Shape := ⟨3, ![8, 704, 2048]⟩
abbrev S_ : Shape := ⟨0, ![]⟩
abbrev S8x768x2048 : Shape := ⟨3, ![8, 768, 2048]⟩
abbrev S8x4096x768 : Shape := ⟨3, ![8, 4096, 768]⟩
abbrev S1024x2048 : Shape := ⟨2, ![1024, 2048]⟩
abbrev S1x768x2048 : Shape := ⟨3, ![1, 768, 2048]⟩
abbrev S1x1024x768 : Shape := ⟨3, ![1, 1024, 768]⟩
abbrev S768x2048 : Shape := ⟨2, ![768, 2048]⟩
abbrev S1024x768 : Shape := ⟨2, ![1024, 768]⟩

abbrev nBuf : Space → Nat
  | .hbm => 9
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .f32⟩
  | .hbm, ⟨2, _⟩ => ⟨S5632x2048, .f32⟩
  | .hbm, ⟨3, _⟩ => ⟨S8x704x2048, .f32⟩
  | .hbm, ⟨4, _⟩ => ⟨S_, .i32⟩
  | .hbm, ⟨5, _⟩ => ⟨S_, .f32⟩
  | .hbm, ⟨6, _⟩ => ⟨S8x768x2048, .f32⟩
  | .hbm, ⟨7, _⟩ => ⟨S8x768x2048, .bf16⟩
  | .hbm, ⟨8, _⟩ => ⟨S8x4096x768, .bf16⟩
  | .local _ .vmem, ⟨0, _⟩ => ⟨S1024x2048, .bf16⟩
  | .local _ .vmem, ⟨1, _⟩ => ⟨S1024x2048, .bf16⟩
  | .local _ .vmem, ⟨2, _⟩ => ⟨S1x768x2048, .bf16⟩
  | .local _ .vmem, ⟨3, _⟩ => ⟨S1x768x2048, .bf16⟩
  | .local _ .vmem, ⟨4, _⟩ => ⟨S1x1024x768, .bf16⟩
  | .local _ .vmem, ⟨5, _⟩ => ⟨S1x1024x768, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference18Ideal.lean ====
abbrev S4096x2048 : Shape := ⟨2, ![4096, 2048]⟩
abbrev S2048x5632 : Shape := ⟨2, ![2048, 5632]⟩
abbrev S4096x5632 : Shape := ⟨2, ![4096, 5632]⟩
abbrev S4096x8x704 : Shape := ⟨3, ![4096, 8, 704]⟩
abbrev S8x4096x704 : Shape := ⟨3, ![8, 4096, 704]⟩
abbrev S_ : Shape := ⟨0, ![]⟩
abbrev S8x4096x768 : Shape := ⟨3, ![8, 4096, 768]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .f32⟩
  | .hbm, ⟨2, _⟩ => ⟨S4096x2048, .f32⟩
  | .hbm, ⟨3, _⟩ => ⟨S4096x5632, .f32⟩
  | .hbm, ⟨4, _⟩ => ⟨S4096x5632, .bf16⟩
  | .hbm, ⟨5, _⟩ => ⟨S4096x8x704, .bf16⟩
  | .hbm, ⟨6, _⟩ => ⟨S8x4096x704, .bf16⟩
  | .hbm, ⟨7, _⟩ => ⟨S_, .i32⟩
  | .hbm, ⟨8, _⟩ => ⟨S_, .bf16⟩
  | .hbm, ⟨9, _⟩ => ⟨S8x4096x768, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel19.lean ====
abbrev S4096x2048 : Shape := ⟨2, ![4096, 2048]⟩
abbrev S4096x5632 : Shape := ⟨2, ![4096, 5632]⟩
abbrev S2048x5632 : Shape := ⟨2, ![2048, 5632]⟩
abbrev S5632x2048 : Shape := ⟨2, ![5632, 2048]⟩
abbrev S8x704x2048 : Shape := ⟨3, ![8, 704, 2048]⟩
abbrev S_ : Shape := ⟨0, ![]⟩
abbrev S8x768x2048 : Shape := ⟨3, ![8, 768, 2048]⟩
abbrev S4096x8x704 : Shape := ⟨3, ![4096, 8, 704]⟩
abbrev S8x4096x704 : Shape := ⟨3, ![8, 4096, 704]⟩
abbrev S8x4096x768 : Shape := ⟨3, ![8, 4096, 768]⟩
abbrev S1024x2048 : Shape := ⟨2, ![1024, 2048]⟩
abbrev S1x768x2048 : Shape := ⟨3, ![1, 768, 2048]⟩
abbrev S1x1024x768 : Shape := ⟨3, ![1, 1024, 768]⟩
abbrev S768x2048 : Shape := ⟨2, ![768, 2048]⟩
abbrev S1024x768 : Shape := ⟨2, ![1024, 768]⟩

abbrev nBuf : Space → Nat
  | .hbm => 16
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S2048x5632, .f32⟩
  | .hbm, ⟨3, _⟩ => ⟨S5632x2048, .f32⟩
  | .hbm, ⟨4, _⟩ => ⟨S8x704x2048, .f32⟩
  | .hbm, ⟨5, _⟩ => ⟨S_, .i32⟩
  | .hbm, ⟨6, _⟩ => ⟨S_, .f32⟩
  | .hbm, ⟨7, _⟩ => ⟨S8x768x2048, .f32⟩
  | .hbm, ⟨8, _⟩ => ⟨S8x768x2048, .bf16⟩
  | .hbm, ⟨9, _⟩ => ⟨S4096x8x704, .bf16⟩
  | .hbm, ⟨10, _⟩ => ⟨S8x4096x704, .bf16⟩
  | .hbm, ⟨11, _⟩ => ⟨S_, .i32⟩
  | .hbm, ⟨12, _⟩ => ⟨S_, .bf16⟩
  | .hbm, ⟨13, _⟩ => ⟨S8x4096x768, .bf16⟩
  | .hbm, ⟨14, _⟩ => ⟨S8x4096x768, .bf16⟩
  | .hbm, ⟨15, _⟩ => ⟨S8x4096x768, .bf16⟩
  | .local _ .vmem, ⟨0, _⟩ => ⟨S1024x2048, .bf16⟩
  | .local _ .vmem, ⟨1, _⟩ => ⟨S1024x2048, .bf16⟩
  | .local _ .vmem, ⟨2, _⟩ => ⟨S1x768x2048, .bf16⟩
  | .local _ .vmem, ⟨3, _⟩ => ⟨S1x768x2048, .bf16⟩
  | .local _ .vmem, ⟨4, _⟩ => ⟨S1x1024x768, .bf16⟩
  | .local _ .vmem, ⟨5, _⟩ => ⟨S1x1024x768, .bf16⟩
  | .local _ .vmem, ⟨6, _⟩ => ⟨S1x1024x768, .bf16⟩
  | .local _ .vmem, ⟨7, _⟩ => ⟨S1x1024x768, .bf16⟩
  | .local _ .vmem, ⟨8, _⟩ => ⟨S1x1024x768, .bf16⟩
  | .local _ .vmem, ⟨9, _⟩ => ⟨S1x1024x768, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_call1_v0 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference19Ideal.lean ====
abbrev S4096x2048 : Shape := ⟨2, ![4096, 2048]⟩
abbrev S4096x5632 : Shape := ⟨2, ![4096, 5632]⟩
abbrev S2048x5632 : Shape := ⟨2, ![2048, 5632]⟩
abbrev S4096x8x704 : Shape := ⟨3, ![4096, 8, 704]⟩
abbrev S8x4096x704 : Shape := ⟨3, ![8, 4096, 704]⟩
abbrev S_ : Shape := ⟨0, ![]⟩
abbrev S8x4096x768 : Shape := ⟨3, ![8, 4096, 768]⟩

abbrev nBuf : Space → Nat
  | .hbm => 28
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S2048x5632, .f32⟩
  | .hbm, ⟨3, _⟩ => ⟨S4096x2048, .f32⟩
  | .hbm, ⟨4, _⟩ => ⟨S4096x5632, .f32⟩
  | .hbm, ⟨5, _⟩ => ⟨S4096x5632, .bf16⟩
  | .hbm, ⟨6, _⟩ => ⟨S4096x8x704, .bf16⟩
  | .hbm, ⟨7, _⟩ => ⟨S8x4096x704, .bf16⟩
  | .hbm, ⟨8, _⟩ => ⟨S_, .i32⟩
  | .hbm, ⟨9, _⟩ => ⟨S_, .bf16⟩
  | .hbm, ⟨10, _⟩ => ⟨S8x4096x768, .bf16⟩
  | .hbm, ⟨11, _⟩ => ⟨S4096x5632, .f32⟩
  | .hbm, ⟨12, _⟩ => ⟨S4096x5632, .f32⟩
  | .hbm, ⟨13, _⟩ => ⟨S4096x5632, .f32⟩
  | .hbm, ⟨14, _⟩ => ⟨S_, .f32⟩
  | .hbm, ⟨15, _⟩ => ⟨S4096x5632, .f32⟩
  | .hbm, ⟨16, _⟩ => ⟨S4096x5632, .f32⟩
  | .hbm, ⟨17, _⟩ => ⟨S_, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S4096x5632, .bf16⟩
  | .hbm, ⟨23, _⟩ => ⟨S4096x8x704, .bf16⟩
  | .hbm, ⟨24, _⟩ => ⟨S8x4096x704, .bf16⟩
  | .hbm, ⟨25, _⟩ => ⟨S_, .i32⟩
  | .hbm, ⟨26, _⟩ => ⟨S_, .bf16⟩
  | .hbm, ⟨27, _⟩ => ⟨S8x4096x768, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_call1_v0 : Ref sig .tc := ⟨.hbm, 12, rfl⟩
abbrev main_call1_v1 : Ref sig .tc := ⟨.hbm, 13, rfl⟩
abbrev main_call1_cst : Ref sig .tc := ⟨.hbm, 14, rfl⟩
abbrev main_call1_v2 : Ref sig .tc := ⟨.hbm, 15, rfl⟩
abbrev main_call1_v3 : Ref sig .tc := ⟨.hbm, 16, rfl⟩
abbrev main_call1_cst_0 : Ref sig .tc := ⟨.hbm, 17, rfl⟩
abbrev main_call1_v4 : Ref sig .tc := ⟨.hbm, 18, rfl⟩
abbrev main_call1_v5 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_0 : Ref sig .tc := ⟨.hbm, 25, rfl⟩
abbrev main_call2_v0 : Ref sig .tc := ⟨.hbm, 26, rfl⟩
abbrev main_v12 : Ref sig .tc := ⟨.hbm, 27, rfl⟩

abbrev nD : Nat := 1
abbrev τ : Topo := Topo.v7x

variable {F : FTy → Type} [FloatOps F]
-- ==== Kernel22.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference22Ideal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 57
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .hbm, ⟨3, _⟩ => ⟨S4096x2048, .f32⟩
  | .hbm, ⟨4, _⟩ => ⟨S2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S2048, .f32⟩
  | .hbm, ⟨29, _⟩ => ⟨S1x2048, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S2048, .f32⟩
  | .hbm, ⟨34, _⟩ => ⟨S4096x2048, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x2048, .f32⟩
  | .hbm, ⟨39, _⟩ => ⟨S4096x2048, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S4096x2048, .f32⟩
  | .hbm, ⟨54, _⟩ => ⟨S4096x2048, .f32⟩
  | .hbm, ⟨55, _⟩ => ⟨S4096x2048, .bf16⟩
  | .hbm, ⟨56, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_8 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Kernel23.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference23Ideal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 54
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .hbm, ⟨3, _⟩ => ⟨S4096x2048, .f32⟩
  | .hbm, ⟨4, _⟩ => ⟨S2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S2048, .f32⟩
  | .hbm, ⟨29, _⟩ => ⟨S1x2048, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S2048, .f32⟩
  | .hbm, ⟨34, _⟩ => ⟨S4096x2048, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x2048, .f32⟩
  | .hbm, ⟨39, _⟩ => ⟨S4096x2048, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .bf16⟩
  | .hbm, ⟨53, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel24.lean ====
abbrev S4096x2048 : Shape := ⟨2, ![4096, 2048]⟩
abbrev S4096x5632 : Shape := ⟨2, ![4096, 5632]⟩
abbrev S5632x2048 : Shape := ⟨2, ![5632, 2048]⟩
abbrev S4096x8x704 : Shape := ⟨3, ![4096, 8, 704]⟩
abbrev S8x4096x704 : Shape := ⟨3, ![8, 4096, 704]⟩
abbrev S_ : Shape := ⟨0, ![]⟩
abbrev S8x4096x768 : Shape := ⟨3, ![8, 4096, 768]⟩
abbrev S8x704x2048 : Shape := ⟨3, ![8, 704, 2048]⟩
abbrev S8x768x2048 : Shape := ⟨3, ![8, 768, 2048]⟩
abbrev S1x512x768 : Shape := ⟨3, ![1, 512, 768]⟩
abbrev S1x768x2048 : Shape := ⟨3, ![1, 768, 2048]⟩
abbrev S512x2048 : Shape := ⟨2, ![512, 2048]⟩
abbrev S512x768 : Shape := ⟨2, ![512, 768]⟩
abbrev S768x2048 : Shape := ⟨2, ![768, 2048]⟩

abbrev nBuf : Space → Nat
  | .hbm => 14
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S4096x5632, .bf16⟩
  | .hbm, ⟨2, _⟩ => ⟨S5632x2048, .f32⟩
  | .hbm, ⟨3, _⟩ => ⟨S4096x8x704, .bf16⟩
  | .hbm, ⟨4, _⟩ => ⟨S8x4096x704, .bf16⟩
  | .hbm, ⟨5, _⟩ => ⟨S_, .i32⟩
  | .hbm, ⟨6, _⟩ => ⟨S_, .bf16⟩
  | .hbm, ⟨7, _⟩ => ⟨S8x4096x768, .bf16⟩
  | .hbm, ⟨8, _⟩ => ⟨S8x704x2048, .f32⟩
  | .hbm, ⟨9, _⟩ => ⟨S_, .i32⟩
  | .hbm, ⟨10, _⟩ => ⟨S_, .f32⟩
  | .hbm, ⟨11, _⟩ => ⟨S8x768x2048, .f32⟩
  | .hbm, ⟨12, _⟩ => ⟨S8x768x2048, .bf16⟩
  | .hbm, ⟨13, _⟩ => ⟨S4096x2048, .f32⟩
  | .local _ .vmem, ⟨0, _⟩ => ⟨S1x512x768, .bf16⟩
  | .local _ .vmem, ⟨1, _⟩ => ⟨S1x512x768, .bf16⟩
  | .local _ .vmem, ⟨2, _⟩ => ⟨S1x512x768, .bf16⟩
  | .local _ .vmem, ⟨3, _⟩ => ⟨S1x512x768, .bf16⟩
  | .local _ .vmem, ⟨4, _⟩ => ⟨S1x768x2048, .bf16⟩
  | .local _ .vmem, ⟨5, _⟩ => ⟨S1x768x2048, .bf16⟩
  | .local _ .vmem, ⟨6, _⟩ => ⟨S1x768x2048, .bf16⟩
  | .local _ .vmem, ⟨7, _⟩ => ⟨S1x768x2048, .bf16⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_17 : BitVec 32 := 0#32
  let v21 : BitVec 1 := Scalar.cmpi .ne v20 c0_i32_17
  v21

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c0_i32_0 : BitVec 32 := 0#32
  let c0_i32_1 : BitVec 32 := 0#32
  ![v1.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c0_i32 : BitVec 32 := 0#32
  let c0_i32_0 : BitVec 32 := 0#32
  ![v1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x768x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x768x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference24Ideal.lean ====
abbrev S4096x2048 : Shape := ⟨2, ![4096, 2048]⟩
abbrev S4096x5632 : Shape := ⟨2, ![4096, 5632]⟩
abbrev S5632x2048 : Shape := ⟨2, ![5632, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x5632, .bf16⟩
  | .hbm, ⟨2, _⟩ => ⟨S5632x2048, .f32⟩
  | .hbm, ⟨3, _⟩ => ⟨S4096x5632, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel25.lean ====
abbrev S4096x5632 : Shape := ⟨2, ![4096, 5632]⟩
abbrev S5632x2048 : Shape := ⟨2, ![5632, 2048]⟩
abbrev S4096x2048 : Shape := ⟨2, ![4096, 2048]⟩
abbrev S8x704x2048 : Shape := ⟨3, ![8, 704, 2048]⟩
abbrev S_ : Shape := ⟨0, ![]⟩
abbrev S8x768x2048 : Shape := ⟨3, ![8, 768, 2048]⟩
abbrev S4096x8x704 : Shape := ⟨3, ![4096, 8, 704]⟩
abbrev S8x4096x704 : Shape := ⟨3, ![8, 4096, 704]⟩
abbrev S8x4096x768 : Shape := ⟨3, ![8, 4096, 768]⟩
abbrev S1024x2048 : Shape := ⟨2, ![1024, 2048]⟩
abbrev S1x768x2048 : Shape := ⟨3, ![1, 768, 2048]⟩
abbrev S1x1024x768 : Shape := ⟨3, ![1, 1024, 768]⟩
abbrev S768x2048 : Shape := ⟨2, ![768, 2048]⟩
abbrev S1024x768 : Shape := ⟨2, ![1024, 768]⟩

abbrev nBuf : Space → Nat
  | .hbm => 21
  | .vmem => 12
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S5632x2048, .f32⟩
  | .hbm, ⟨3, _⟩ => ⟨S4096x2048, .bf16⟩
  | .hbm, ⟨4, _⟩ => ⟨S8x704x2048, .f32⟩
  | .hbm, ⟨5, _⟩ => ⟨S_, .i32⟩
  | .hbm, ⟨6, _⟩ => ⟨S_, .f32⟩
  | .hbm, ⟨7, _⟩ => ⟨S8x768x2048, .f32⟩
  | .hbm, ⟨8, _⟩ => ⟨S8x768x2048, .bf16⟩
  | .hbm, ⟨9, _⟩ => ⟨S4096x8x704, .bf16⟩
  | .hbm, ⟨10, _⟩ => ⟨S8x4096x704, .bf16⟩
  | .hbm, ⟨11, _⟩ => ⟨S_, .i32⟩
  | .hbm, ⟨12, _⟩ => ⟨S_, .bf16⟩
  | .hbm, ⟨13, _⟩ => ⟨S8x4096x768, .bf16⟩
  | .hbm, ⟨14, _⟩ => ⟨S4096x8x704, .bf16⟩
  | .hbm, ⟨15, _⟩ => ⟨S8x4096x704, .bf16⟩
  | .hbm, ⟨16, _⟩ => ⟨S_, .i32⟩
  | .hbm, ⟨17, _⟩ => ⟨S_, .bf16⟩
  | .hbm, ⟨18, _⟩ => ⟨S8x4096x768, .bf16⟩
  | .hbm, ⟨19, _⟩ => ⟨S8x4096x768, .bf16⟩
  | .hbm, ⟨20, _⟩ => ⟨S8x4096x768, .bf16⟩
  | .local _ .vmem, ⟨0, _⟩ => ⟨S1024x2048, .bf16⟩
  | .local _ .vmem, ⟨1, _⟩ => ⟨S1024x2048, .bf16⟩
  | .local _ .vmem, ⟨2, _⟩ => ⟨S1x768x2048, .bf16⟩
  | .local _ .vmem, ⟨3, _⟩ => ⟨S1x768x2048, .bf16⟩
  | .local _ .vmem, ⟨4, _⟩ => ⟨S1x1024x768, .bf16⟩
  | .local _ .vmem, ⟨5, _⟩ => ⟨S1x1024x768, .bf16⟩
  | .local _ .vmem, ⟨6, _⟩ => ⟨S1x1024x768, .bf16⟩
  | .local _ .vmem, ⟨7, _⟩ => ⟨S1x1024x768, .bf16⟩
  | .local _ .vmem, ⟨8, _⟩ => ⟨S1x1024x768, .bf16⟩
  | .local _ .vmem, ⟨9, _⟩ => ⟨S1x1024x768, .bf16⟩
  | .local _ .vmem, ⟨10, _⟩ => ⟨S1x1024x768, .bf16⟩
  | .local _ .vmem, ⟨11, _⟩ => ⟨S1x1024x768, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_call2_v0 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference25Ideal.lean ====
abbrev S4096x5632 : Shape := ⟨2, ![4096, 5632]⟩
abbrev S5632x2048 : Shape := ⟨2, ![5632, 2048]⟩
abbrev S4096x2048 : Shape := ⟨2, ![4096, 2048]⟩
abbrev S_ : Shape := ⟨0, ![]⟩
abbrev S4096x8x704 : Shape := ⟨3, ![4096, 8, 704]⟩
abbrev S8x4096x704 : Shape := ⟨3, ![8, 4096, 704]⟩
abbrev S8x4096x768 : Shape := ⟨3, ![8, 4096, 768]⟩

abbrev nBuf : Space → Nat
  | .hbm => 41
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S5632x2048, .f32⟩
  | .hbm, ⟨3, _⟩ => ⟨S4096x2048, .bf16⟩
  | .hbm, ⟨4, _⟩ => ⟨S4096x5632, .f32⟩
  | .hbm, ⟨5, _⟩ => ⟨S4096x5632, .f32⟩
  | .hbm, ⟨6, _⟩ => ⟨S4096x5632, .f32⟩
  | .hbm, ⟨7, _⟩ => ⟨S4096x5632, .f32⟩
  | .hbm, ⟨8, _⟩ => ⟨S_, .f32⟩
  | .hbm, ⟨9, _⟩ => ⟨S4096x5632, .f32⟩
  | .hbm, ⟨10, _⟩ => ⟨S4096x5632, .f32⟩
  | .hbm, ⟨11, _⟩ => ⟨S_, .f32⟩
  | .hbm, ⟨12, _⟩ => ⟨S4096x5632, .f32⟩
  | .hbm, ⟨13, _⟩ => ⟨S4096x5632, .f32⟩
  | .hbm, ⟨14, _⟩ => ⟨S_, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x2048, .f32⟩
  | .hbm, ⟨21, _⟩ => ⟨S4096x2048, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .bf16⟩
  | .hbm, ⟨30, _⟩ => ⟨S4096x8x704, .bf16⟩
  | .hbm, ⟨31, _⟩ => ⟨S8x4096x704, .bf16⟩
  | .hbm, ⟨32, _⟩ => ⟨S_, .i32⟩
  | .hbm, ⟨33, _⟩ => ⟨S_, .bf16⟩
  | .hbm, ⟨34, _⟩ => ⟨S8x4096x768, .bf16⟩
  | .hbm, ⟨35, _⟩ => ⟨S4096x5632, .bf16⟩
  | .hbm, ⟨36, _⟩ => ⟨S4096x8x704, .bf16⟩
  | .hbm, ⟨37, _⟩ => ⟨S8x4096x704, .bf16⟩
  | .hbm, ⟨38, _⟩ => ⟨S_, .i32⟩
  | .hbm, ⟨39, _⟩ => ⟨S_, .bf16⟩
  | .hbm, ⟨40, _⟩ => ⟨S8x4096x768, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c : Ref sig .tc := ⟨.hbm, 32, rfl⟩
abbrev main_call2_v0 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c_0 : Ref sig .tc := ⟨.hbm, 38, rfl⟩
abbrev main_call3_v0 : Ref sig .tc := ⟨.hbm, 39, rfl⟩
abbrev main_v17 : Ref sig .tc := ⟨.hbm, 40, rfl⟩

abbrev nD : Nat := 1
abbrev τ : Topo := Topo.v7x

variable {F : FTy → Type} [FloatOps F]
-- ==== Kernel26.lean ====
abbrev S4096x5632 : Shape := ⟨2, ![4096, 5632]⟩
abbrev S2048x5632 : Shape := ⟨2, ![2048, 5632]⟩
abbrev S5632x2048 : Shape := ⟨2, ![5632, 2048]⟩
abbrev S8x704x2048 : Shape := ⟨3, ![8, 704, 2048]⟩
abbrev S_ : Shape := ⟨0, ![]⟩
abbrev S8x768x2048 : Shape := ⟨3, ![8, 768, 2048]⟩
abbrev S4096x8x704 : Shape := ⟨3, ![4096, 8, 704]⟩
abbrev S8x4096x704 : Shape := ⟨3, ![8, 4096, 704]⟩
abbrev S8x4096x768 : Shape := ⟨3, ![8, 4096, 768]⟩
abbrev S4096x2048 : Shape := ⟨2, ![4096, 2048]⟩
abbrev S1x512x768 : Shape := ⟨3, ![1, 512, 768]⟩
abbrev S1x768x2048 : Shape := ⟨3, ![1, 768, 2048]⟩
abbrev S512x2048 : Shape := ⟨2, ![512, 2048]⟩
abbrev S512x768 : Shape := ⟨2, ![512, 768]⟩
abbrev S768x2048 : Shape := ⟨2, ![768, 2048]⟩

abbrev nBuf : Space → Nat
  | .hbm => 27
  | .vmem => 19
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S8x704x2048, .f32⟩
  | .hbm, ⟨6, _⟩ => ⟨S_, .i32⟩
  | .hbm, ⟨7, _⟩ => ⟨S_, .f32⟩
  | .hbm, ⟨8, _⟩ => ⟨S8x768x2048, .f32⟩
  | .hbm, ⟨9, _⟩ => ⟨S8x768x2048, .bf16⟩
  | .hbm, ⟨10, _⟩ => ⟨S5632x2048, .f32⟩
  | .hbm, ⟨11, _⟩ => ⟨S8x704x2048, .f32⟩
  | .hbm, ⟨12, _⟩ => ⟨S_, .i32⟩
  | .hbm, ⟨13, _⟩ => ⟨S_, .f32⟩
  | .hbm, ⟨14, _⟩ => ⟨S8x768x2048, .f32⟩
  | .hbm, ⟨15, _⟩ => ⟨S8x768x2048, .bf16⟩
  | .hbm, ⟨16, _⟩ => ⟨S4096x8x704, .bf16⟩
  | .hbm, ⟨17, _⟩ => ⟨S8x4096x704, .bf16⟩
  | .hbm, ⟨18, _⟩ => ⟨S_, .i32⟩
  | .hbm, ⟨19, _⟩ => ⟨S_, .bf16⟩
  | .hbm, ⟨20, _⟩ => ⟨S8x4096x768, .bf16⟩
  | .hbm, ⟨21, _⟩ => ⟨S4096x8x704, .bf16⟩
  | .hbm, ⟨22, _⟩ => ⟨S8x4096x704, .bf16⟩
  | .hbm, ⟨23, _⟩ => ⟨S_, .i32⟩
  | .hbm, ⟨24, _⟩ => ⟨S_, .bf16⟩
  | .hbm, ⟨25, _⟩ => ⟨S8x4096x768, .bf16⟩
  | .hbm, ⟨26, _⟩ => ⟨S4096x2048, .bf16⟩
  | .local _ .vmem, ⟨0, _⟩ => ⟨S1x512x768, .bf16⟩
  | .local _ .vmem, ⟨1, _⟩ => ⟨S1x512x768, .bf16⟩
  | .local _ .vmem, ⟨2, _⟩ => ⟨S1x512x768, .bf16⟩
  | .local _ .vmem, ⟨3, _⟩ => ⟨S1x512x768, .bf16⟩
  | .local _ .vmem, ⟨4, _⟩ => ⟨S1x512x768, .bf16⟩
  | .local _ .vmem, ⟨5, _⟩ => ⟨S1x512x768, .bf16⟩
  | .local _ .vmem, ⟨6, _⟩ => ⟨S1x512x768, .bf16⟩
  | .local _ .vmem, ⟨7, _⟩ => ⟨S1x512x768, .bf16⟩
  | .local _ .vmem, ⟨8, _⟩ => ⟨S1x768x2048, .bf16⟩
  | .local _ .vmem, ⟨9, _⟩ => ⟨S1x768x2048, .bf16⟩
  | .local _ .vmem, ⟨10, _⟩ => ⟨S1x768x2048, .bf16⟩
  | .local _ .vmem, ⟨11, _⟩ => ⟨S1x768x2048, .bf16⟩
  | .local _ .vmem, ⟨12, _⟩ => ⟨S1x768x2048, .bf16⟩
  | .local _ .vmem, ⟨13, _⟩ => ⟨S1x768x2048, .bf16⟩
  | .local _ .vmem, ⟨14, _⟩ => ⟨S1x768x2048, .bf16⟩
  | .local _ .vmem, ⟨15, _⟩ => ⟨S1x768x2048, .bf16⟩
  | .local _ .vmem, ⟨16, _⟩ => ⟨S512x2048, .bf16⟩
  | .local _ .vmem, ⟨17, _⟩ => ⟨S512x2048, .bf16⟩
  | .local _ .vmem, ⟨18, _⟩ => ⟨S512x2048, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_call2_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_call3_v0 : Ref sig .tc := ⟨.hbm, 24, rfl⟩
abbrev main_v13 : Ref sig .tc := ⟨.hbm, 25, rfl⟩
abbrev main_v14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v31 : BitVec 1 := Scalar.cmpi .eq arg1 c3_i32
  let v32 : BitVec 32 := Scalar.extui v31
  let c0_i32_31 : BitVec 32 := 0#32
  let v33 : BitVec 1 := Scalar.cmpi .ne v32 c0_i32_31
  v33

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c0_i32_0 : BitVec 32 := 0#32
  let c0_i32_1 : BitVec 32 := 0#32
  ![v1.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c0_i32_0 : BitVec 32 := 0#32
  let c0_i32_1 : BitVec 32 := 0#32
  ![v1.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c0_i32 : BitVec 32 := 0#32
  let c0_i32_0 : BitVec 32 := 0#32
  ![v1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c0_i32 : BitVec 32 := 0#32
  let c0_i32_0 : BitVec 32 := 0#32
  ![v1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x768x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x768x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x768x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x768x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference26Ideal.lean ====
abbrev S4096x5632 : Shape := ⟨2, ![4096, 5632]⟩
abbrev S2048x5632 : Shape := ⟨2, ![2048, 5632]⟩
abbrev S_ : Shape := ⟨0, ![]⟩
abbrev S4096x2048 : Shape := ⟨2, ![4096, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S2048x5632, .f32⟩
  | .hbm, ⟨3, _⟩ => ⟨S2048x5632, .f32⟩
  | .hbm, ⟨4, _⟩ => ⟨S_, .f32⟩
  | .hbm, ⟨5, _⟩ => ⟨S4096x2048, .f32⟩
  | .hbm, ⟨6, _⟩ => ⟨S4096x5632, .f32⟩
  | .hbm, ⟨7, _⟩ => ⟨S4096x5632, .f32⟩
  | .hbm, ⟨8, _⟩ => ⟨S4096x5632, .f32⟩
  | .hbm, ⟨9, _⟩ => ⟨S4096x5632, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel27.lean ====
abbrev S4096x5632 : Shape := ⟨2, ![4096, 5632]⟩
abbrev S4096x2048 : Shape := ⟨2, ![4096, 2048]⟩
abbrev S4096x8x704 : Shape := ⟨3, ![4096, 8, 704]⟩
abbrev S8x4096x704 : Shape := ⟨3, ![8, 4096, 704]⟩
abbrev S_ : Shape := ⟨0, ![]⟩
abbrev S8x4096x768 : Shape := ⟨3, ![8, 4096, 768]⟩
abbrev S8x768x2048 : Shape := ⟨3, ![8, 768, 2048]⟩
abbrev S1x2048x768 : Shape := ⟨3, ![1, 2048, 768]⟩
abbrev S2048x2048 : Shape := ⟨2, ![2048, 2048]⟩
abbrev S1x768x2048 : Shape := ⟨3, ![1, 768, 2048]⟩
abbrev S768x2048 : Shape := ⟨2, ![768, 2048]⟩
abbrev S2048x768 : Shape := ⟨2, ![2048, 768]⟩

abbrev nBuf : Space → Nat
  | .hbm => 8
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S4096x8x704, .bf16⟩
  | .hbm, ⟨3, _⟩ => ⟨S8x4096x704, .bf16⟩
  | .hbm, ⟨4, _⟩ => ⟨S_, .i32⟩
  | .hbm, ⟨5, _⟩ => ⟨S_, .bf16⟩
  | .hbm, ⟨6, _⟩ => ⟨S8x4096x768, .bf16⟩
  | .hbm, ⟨7, _⟩ => ⟨S8x768x2048, .bf16⟩
  | .local _ .vmem, ⟨0, _⟩ => ⟨S1x2048x768, .bf16⟩
  | .local _ .vmem, ⟨1, _⟩ => ⟨S1x2048x768, .bf16⟩
  | .local _ .vmem, ⟨2, _⟩ => ⟨S2048x2048, .bf16⟩
  | .local _ .vmem, ⟨3, _⟩ => ⟨S2048x2048, .bf16⟩
  | .local _ .vmem, ⟨4, _⟩ => ⟨S1x768x2048, .bf16⟩
  | .local _ .vmem, ⟨5, _⟩ => ⟨S1x768x2048, .bf16⟩
  | .local _ .vmem, ⟨6, _⟩ => ⟨S768x2048, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v12 : BitVec 1 := Scalar.cmpi .eq arg1 c1_i32
  let v13 : BitVec 32 := Scalar.extui v12
  let c0_i32_9 : BitVec 32 := 0#32
  let v14 : BitVec 1 := Scalar.cmpi .ne v13 c0_i32_9
  v14

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x768x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference27Ideal.lean ====
abbrev S4096x5632 : Shape := ⟨2, ![4096, 5632]⟩
abbrev S4096x2048 : Shape := ⟨2, ![4096, 2048]⟩
abbrev S_ : Shape := ⟨0, ![]⟩
abbrev S2048x5632 : Shape := ⟨2, ![2048, 5632]⟩
abbrev S5632x2048 : Shape := ⟨2, ![5632, 2048]⟩
abbrev S8x704x2048 : Shape := ⟨3, ![8, 704, 2048]⟩
abbrev S8x768x2048 : Shape := ⟨3, ![8, 768, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S2048x5632, .f32⟩
  | .hbm, ⟨4, _⟩ => ⟨S4096x2048, .f32⟩
  | .hbm, ⟨5, _⟩ => ⟨S4096x5632, .f32⟩
  | .hbm, ⟨6, _⟩ => ⟨S4096x5632, .f32⟩
  | .hbm, ⟨7, _⟩ => ⟨S5632x2048, .f32⟩
  | .hbm, ⟨8, _⟩ => ⟨S2048x5632, .f32⟩
  | .hbm, ⟨9, _⟩ => ⟨S5632x2048, .f32⟩
  | .hbm, ⟨10, _⟩ => ⟨S5632x2048, .bf16⟩
  | .hbm, ⟨11, _⟩ => ⟨S8x704x2048, .bf16⟩
  | .hbm, ⟨12, _⟩ => ⟨S_, .i32⟩
  | .hbm, ⟨13, _⟩ => ⟨S_, .bf16⟩
  | .hbm, ⟨14, _⟩ => ⟨S8x768x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel28.lean ====
abbrev S4096x5632 : Shape := ⟨2, ![4096, 5632]⟩
abbrev S4096x2048 : Shape := ⟨2, ![4096, 2048]⟩
abbrev S4096x8x704 : Shape := ⟨3, ![4096, 8, 704]⟩
abbrev S8x4096x704 : Shape := ⟨3, ![8, 4096, 704]⟩
abbrev S_ : Shape := ⟨0, ![]⟩
abbrev S8x4096x768 : Shape := ⟨3, ![8, 4096, 768]⟩
abbrev S8x768x2048 : Shape := ⟨3, ![8, 768, 2048]⟩
abbrev S1x2048x768 : Shape := ⟨3, ![1, 2048, 768]⟩
abbrev S2048x2048 : Shape := ⟨2, ![2048, 2048]⟩
abbrev S1x768x2048 : Shape := ⟨3, ![1, 768, 2048]⟩
abbrev S768x2048 : Shape := ⟨2, ![768, 2048]⟩
abbrev S2048x768 : Shape := ⟨2, ![2048, 768]⟩

abbrev nBuf : Space → Nat
  | .hbm => 8
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S4096x8x704, .bf16⟩
  | .hbm, ⟨3, _⟩ => ⟨S8x4096x704, .bf16⟩
  | .hbm, ⟨4, _⟩ => ⟨S_, .i32⟩
  | .hbm, ⟨5, _⟩ => ⟨S_, .bf16⟩
  | .hbm, ⟨6, _⟩ => ⟨S8x4096x768, .bf16⟩
  | .hbm, ⟨7, _⟩ => ⟨S8x768x2048, .bf16⟩
  | .local _ .vmem, ⟨0, _⟩ => ⟨S1x2048x768, .bf16⟩
  | .local _ .vmem, ⟨1, _⟩ => ⟨S1x2048x768, .bf16⟩
  | .local _ .vmem, ⟨2, _⟩ => ⟨S2048x2048, .bf16⟩
  | .local _ .vmem, ⟨3, _⟩ => ⟨S2048x2048, .bf16⟩
  | .local _ .vmem, ⟨4, _⟩ => ⟨S1x768x2048, .bf16⟩
  | .local _ .vmem, ⟨5, _⟩ => ⟨S1x768x2048, .bf16⟩
  | .local _ .vmem, ⟨6, _⟩ => ⟨S768x2048, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v12 : BitVec 1 := Scalar.cmpi .eq arg1 c1_i32
  let v13 : BitVec 32 := Scalar.extui v12
  let c0_i32_9 : BitVec 32 := 0#32
  let v14 : BitVec 1 := Scalar.cmpi .ne v13 c0_i32_9
  v14

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x768x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference28Ideal.lean ====
abbrev S4096x5632 : Shape := ⟨2, ![4096, 5632]⟩
abbrev S4096x2048 : Shape := ⟨2, ![4096, 2048]⟩
abbrev S_ : Shape := ⟨0, ![]⟩
abbrev S2048x5632 : Shape := ⟨2, ![2048, 5632]⟩
abbrev S5632x2048 : Shape := ⟨2, ![5632, 2048]⟩
abbrev S8x704x2048 : Shape := ⟨3, ![8, 704, 2048]⟩
abbrev S8x768x2048 : Shape := ⟨3, ![8, 768, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S2048x5632, .f32⟩
  | .hbm, ⟨4, _⟩ => ⟨S4096x2048, .f32⟩
  | .hbm, ⟨5, _⟩ => ⟨S4096x5632, .f32⟩
  | .hbm, ⟨6, _⟩ => ⟨S4096x5632, .f32⟩
  | .hbm, ⟨7, _⟩ => ⟨S5632x2048, .f32⟩
  | .hbm, ⟨8, _⟩ => ⟨S2048x5632, .f32⟩
  | .hbm, ⟨9, _⟩ => ⟨S5632x2048, .f32⟩
  | .hbm, ⟨10, _⟩ => ⟨S5632x2048, .bf16⟩
  | .hbm, ⟨11, _⟩ => ⟨S8x704x2048, .bf16⟩
  | .hbm, ⟨12, _⟩ => ⟨S_, .i32⟩
  | .hbm, ⟨13, _⟩ => ⟨S_, .bf16⟩
  | .hbm, ⟨14, _⟩ => ⟨S8x768x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel29.lean ====
abbrev S4096x5632 : Shape := ⟨2, ![4096, 5632]⟩
abbrev S4096x2048 : Shape := ⟨2, ![4096, 2048]⟩
abbrev S4096x8x704 : Shape := ⟨3, ![4096, 8, 704]⟩
abbrev S8x4096x704 : Shape := ⟨3, ![8, 4096, 704]⟩
abbrev S_ : Shape := ⟨0, ![]⟩
abbrev S8x4096x768 : Shape := ⟨3, ![8, 4096, 768]⟩
abbrev S8x768x2048 : Shape := ⟨3, ![8, 768, 2048]⟩
abbrev S1x2048x768 : Shape := ⟨3, ![1, 2048, 768]⟩
abbrev S2048x2048 : Shape := ⟨2, ![2048, 2048]⟩
abbrev S1x768x2048 : Shape := ⟨3, ![1, 768, 2048]⟩
abbrev S768x2048 : Shape := ⟨2, ![768, 2048]⟩
abbrev S2048x768 : Shape := ⟨2, ![2048, 768]⟩

abbrev nBuf : Space → Nat
  | .hbm => 8
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S4096x8x704, .bf16⟩
  | .hbm, ⟨3, _⟩ => ⟨S8x4096x704, .bf16⟩
  | .hbm, ⟨4, _⟩ => ⟨S_, .i32⟩
  | .hbm, ⟨5, _⟩ => ⟨S_, .bf16⟩
  | .hbm, ⟨6, _⟩ => ⟨S8x4096x768, .bf16⟩
  | .hbm, ⟨7, _⟩ => ⟨S8x768x2048, .bf16⟩
  | .local _ .vmem, ⟨0, _⟩ => ⟨S1x2048x768, .bf16⟩
  | .local _ .vmem, ⟨1, _⟩ => ⟨S1x2048x768, .bf16⟩
  | .local _ .vmem, ⟨2, _⟩ => ⟨S2048x2048, .bf16⟩
  | .local _ .vmem, ⟨3, _⟩ => ⟨S2048x2048, .bf16⟩
  | .local _ .vmem, ⟨4, _⟩ => ⟨S1x768x2048, .bf16⟩
  | .local _ .vmem, ⟨5, _⟩ => ⟨S1x768x2048, .bf16⟩
  | .local _ .vmem, ⟨6, _⟩ => ⟨S768x2048, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v12 : BitVec 1 := Scalar.cmpi .eq arg1 c1_i32
  let v13 : BitVec 32 := Scalar.extui v12
  let c0_i32_9 : BitVec 32 := 0#32
  let v14 : BitVec 1 := Scalar.cmpi .ne v13 c0_i32_9
  v14

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x768x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference29Ideal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩
abbrev S8x704x2048 : Shape := ⟨3, ![8, 704, 2048]⟩
abbrev S8x768x2048 : Shape := ⟨3, ![8, 768, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | .hbm, ⟨10, _⟩ => ⟨S8x704x2048, .bf16⟩
  | .hbm, ⟨11, _⟩ => ⟨S_, .i32⟩
  | .hbm, ⟨12, _⟩ => ⟨S_, .bf16⟩
  | .hbm, ⟨13, _⟩ => ⟨S8x768x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Proof.Ffn.Common.lean ====
/- Matrix products tile by tile: arrays read at natural-number indices, sums cut into equal pieces, running sums over the
   tiles of a result, the three kinds of product, and the layouts that put a device's columns or rows in a slot of its own. -/
module

public import Idealize.ShloMosaic.Lib.MatmulPlain
public import Idealize.ShloMosaic.Lib.ValueIdx
public import Idealize.ShloMosaic.Lib.ValueIdxCoords
public import Idealize.ShloMosaic.Lib.KernelVsHost
public import Idealize.ShloMosaic.Lib.Pipeline.Value
public import Idealize.ShloMosaic.Lib.WritesUnit
public import Idealize.ShloMosaic.Lib.WholeRead

@[expose] public section

noncomputable section

namespace Cert.Mat

open Idealize.ShloMosaic Idealize.ShloMosaic.ValueIdx Idealize.SL.Sem
open scoped BigOperators

/-! ## Arrays at natural-number indices -/

/-- An array of two axes, zero outside. -/
def n2 {A B : ℕ} (x : (⟨2, ![A, B]⟩ : Shape).Idx → EReal) (i j : ℕ) : EReal :=
  if h : i < A ∧ j < B then x (ix2 ⟨i, h.1⟩ ⟨j, h.2⟩) else 0

/-- An array of three axes, zero outside. -/
def n3 {A B C : ℕ} (x : (⟨3, ![A, B, C]⟩ : Shape).Idx → EReal) (i j k : ℕ) : EReal :=
  if h : i < A ∧ j < B ∧ k < C then x (ix3 ⟨i, h.1⟩ ⟨j, h.2.1⟩ ⟨k, h.2.2⟩) else 0

theorem n2_eq {A B : ℕ} (x : (⟨2, ![A, B]⟩ : Shape).Idx → EReal) (i j : ℕ) (y : (⟨2, ![A, B]⟩ : Shape).Idx)
    (h0 : (y 0).val = i) (h1 : (y 1).val = j) : n2 x i j = x y := by
  subst h0; subst h1
  exact (dif_pos ⟨(y 0).isLt, (y 1).isLt⟩).trans (congrArg x (eq_ix2 y).symm)

theorem n3_eq {A B C : ℕ} (x : (⟨3, ![A, B, C]⟩ : Shape).Idx → EReal) (i j k : ℕ) (y : (⟨3, ![A, B, C]⟩ : Shape).Idx)
    (h0 : (y 0).val = i) (h1 : (y 1).val = j) (h2 : (y 2).val = k) : n3 x i j k = x y := by
  subst h0; subst h1; subst h2
  exact (dif_pos ⟨(y 0).isLt, (y 1).isLt, (y 2).isLt⟩).trans (congrArg x (eq_ix3 y).symm)

theorem ext2 {A B : ℕ} {α : Type} {x y : (⟨2, ![A, B]⟩ : Shape).Idx → α} (h : ∀ i j, x (ix2 i j) = y (ix2 i j)) : x = y :=
  funext fun i => by rw [eq_ix2 i]; exact h (i 0) (i 1)

theorem ext3 {A B C : ℕ} {α : Type} {x y : (⟨3, ![A, B, C]⟩ : Shape).Idx → α} (h : ∀ i j k, x (ix3 i j k) = y (ix3 i j k)) : x = y :=
  funext fun i => by rw [eq_ix3 i]; exact h (i 0) (i 1) (i 2)

/-! ## Sums -/

/-- A sum cut into `a` pieces of `b` terms. -/
theorem sum_cut (f : ℕ → EReal) (b : ℕ) : ∀ a : ℕ,
    ∑ k ∈ Finset.range (a * b), f k = ∑ s ∈ Finset.range a, ∑ r ∈ Finset.range b, f (b * s + r)
  | 0 => by simp
  | a + 1 => by
    rw [Nat.succ_mul, Finset.sum_range_add, sum_cut f b a, Finset.sum_range_succ, Nat.mul_comm a b]

/-- Sixteen pieces' sum taken two at a time, or any even number's. -/
theorem sum_pairs (g : ℕ → EReal) : ∀ a : ℕ,
    ∑ s ∈ Finset.range (2 * a), g s = ∑ s ∈ Finset.range a, (g (2 * s) + g (2 * s + 1))
  | 0 => by simp
  | a + 1 => by
    rw [Nat.mul_succ, Finset.sum_range_succ, Finset.sum_range_succ, sum_pairs g a, Finset.sum_range_succ, add_assoc]

/-- Terms past the first `n` that are zero do not count. -/
theorem sum_room (f : ℕ → EReal) (n p : ℕ) (h : ∀ r, n ≤ r → f r = 0) :
    ∑ r ∈ Finset.range (n + p), f r = ∑ r ∈ Finset.range n, f r := by
  rw [Finset.sum_range_add, Finset.sum_eq_zero (fun r _ => h (n + r) (Nat.le_add_right _ _)), add_zero]

/-- A running sum over a cycle of `n` points starts at the cycle's first. -/
theorem run_first (f : ℕ → EReal) (t n : ℕ) (h : t % n = 0) : (0 : EReal) + f (t % n) = ∑ s ∈ Finset.range (t % n + 1), f s := by
  rw [h, Finset.sum_range_one, zero_add]

/-- … and goes on at a later one. -/
theorem run_next (f : ℕ → EReal) (t n : ℕ) (hn : 0 < n) (h : ¬t % n = 0) :
    ∑ s ∈ Finset.range ((t - 1) % n + 1), f s + f (t % n) = ∑ s ∈ Finset.range (t % n + 1), f s := by
  have e : (t - 1) % n + 1 = t % n := by
    have hm := Nat.mod_lt t hn
    have hd := Nat.div_add_mod t n
    have : t - 1 = n * (t / n) + (t % n - 1) := by omega
    rw [this, Nat.mul_add_mod, Nat.mod_eq_of_lt (by omega)]
    omega
  rw [e, Finset.sum_range_succ]

theorem prev_div (t n : ℕ) (hn : 0 < n) (h : ¬t % n = 0) : (t - 1) / n = t / n := by
  have hm := Nat.mod_lt t hn
  have hd := Nat.div_add_mod t n
  have : t - 1 = n * (t / n) + (t % n - 1) := by omega
  have hs : t % n - 1 < n := by omega
  rw [this, Nat.mul_add_div hn, Nat.div_eq_of_lt hs, add_zero]

/-! ## Products -/

/-- `[M,K] × [K,N]` from a zero accumulator, at natural-number indices. -/
theorem plain_n {M K N : ℕ} {φ₁ φ₂ : FTy} (l : FVec Ideal ⟨2, ![M, K]⟩ φ₁) (w : FVec Ideal ⟨2, ![K, N]⟩ φ₂) (r : Fin M) (c : Fin N) :
    FloatOps.matmul (F := Ideal) (DotDims.plain M K N) none l w (constant ⟨2, ![M, N]⟩ .f32 0x00000000#32) (ix2 r c)
      = ∑ k : Fin K, l (ix2 r k) * w (ix2 k c) := by
  rw [Ideal.matmul_plain_apply]
  show Ideal.ofBits .f32 0x00000000#32 + _ = _
  rw [Ideal.ofBits_zero_f32, zero_add]

/-- `[M,K] × [N,K]ᵀ` from a zero accumulator. -/
theorem trans_n {M K N : ℕ} {φ₁ φ₂ : FTy} (l : FVec Ideal ⟨2, ![M, K]⟩ φ₁) (w : FVec Ideal ⟨2, ![N, K]⟩ φ₂) (r : Fin M) (c : Fin N) :
    FloatOps.matmul (F := Ideal) (DotDims.transposedRhs M K N) none l w (constant ⟨2, ![M, N]⟩ .f32 0x00000000#32) (ix2 r c)
      = ∑ k : Fin K, l (ix2 r k) * w (ix2 c k) := by
  rw [Ideal.matmul_transposedRhs_apply]
  show Ideal.ofBits .f32 0x00000000#32 + _ = _
  rw [Ideal.ofBits_zero_f32, zero_add]

/-! ## Whole blocks read and written -/

section whole
variable {sig : RefSig}

theorem at_unit {s : Shape} {off size : Fin s.rank → ℕ} (inb : ∀ a, off a + size a ≤ s.size a)
    (x : (Rect.unit off size inb).toLoadRect.shape.Idx) (a : Fin s.rank) :
    ((Rect.unit off size inb).toLoadRect.idx x a).val = off a + 1 * (x a).val := rfl

theorem readAt2 {A B : ℕ} {e : EltTy} (m : Memref sig .tc .vmem ⟨2, ![A, B]⟩ e) (h : m.IsWhole) (X : Vec Ideal ⟨2, ![A, B]⟩ e)
    (inb : ∀ a, (![0, 0] : Fin 2 → ℕ) a + (![A, B] : Fin 2 → ℕ) a ≤ (⟨2, ![A, B]⟩ : Shape).size a) :
    View.readAt (Elt Ideal) m.view (Rect.unit (s := ⟨2, ![A, B]⟩) ![0, 0] ![A, B] inb).toLoadRect (h.unread X) = X := by
  funext x
  rw [h.readAt_unread]
  refine congrArg _ (funext fun a => Fin.ext ?_)
  rw [at_unit]
  match a with
  | ⟨0, _⟩ => show 0 + 1 * (x 0).val = (x 0).val; omega
  | ⟨1, _⟩ => show 0 + 1 * (x 1).val = (x 1).val; omega

theorem readAt3 {A B C : ℕ} {e : EltTy} (m : Memref sig .tc .vmem ⟨3, ![A, B, C]⟩ e) (h : m.IsWhole) (X : Vec Ideal ⟨3, ![A, B, C]⟩ e)
    (inb : ∀ a, (![0, 0, 0] : Fin 3 → ℕ) a + (![A, B, C] : Fin 3 → ℕ) a ≤ (⟨3, ![A, B, C]⟩ : Shape).size a) :
    View.readAt (Elt Ideal) m.view (Rect.unit (s := ⟨3, ![A, B, C]⟩) ![0, 0, 0] ![A, B, C] inb).toLoadRect (h.unread X) = X := by
  funext x
  rw [h.readAt_unread]
  refine congrArg _ (funext fun a => Fin.ext ?_)
  rw [at_unit]
  match a with
  | ⟨0, _⟩ => show 0 + 1 * (x 0).val = (x 0).val; omega
  | ⟨1, _⟩ => show 0 + 1 * (x 1).val = (x 1).val; omega
  | ⟨2, _⟩ => show 0 + 1 * (x 2).val = (x 2).val; omega

theorem write2 {A B : ℕ} {e : EltTy} (v : View sig .tc .vmem ⟨2, ![A, B]⟩ e) (f : v.ty.Contents (Elt Ideal))
    (inb : ∀ a, (![0, 0] : Fin 2 → ℕ) a + (![A, B] : Fin 2 → ℕ) a ≤ (⟨2, ![A, B]⟩ : Shape).size a) (w : Vec Ideal ⟨2, ![A, B]⟩ e)
    (L : List (View.Piece (Elt Ideal) ⟨2, ![A, B]⟩ e)) :
    v.read (Elt Ideal) (v.writes (Elt Ideal) f ((⟨Rect.unit (s := ⟨2, ![A, B]⟩) ![0, 0] ![A, B] inb, w⟩ : View.Piece (Elt Ideal) ⟨2, ![A, B]⟩ e) :: L)) = w := by
  funext y
  exact View.read_writes_cons_unit_of_mem v f inb w L y y rfl (fun a => by
    match a with
    | ⟨0, _⟩ => exact (Nat.zero_add _).symm
    | ⟨1, _⟩ => exact (Nat.zero_add _).symm)

theorem write3 {A B C : ℕ} {e : EltTy} (v : View sig .tc .vmem ⟨3, ![A, B, C]⟩ e) (f : v.ty.Contents (Elt Ideal))
    (inb : ∀ a, (![0, 0, 0] : Fin 3 → ℕ) a + (![A, B, C] : Fin 3 → ℕ) a ≤ (⟨3, ![A, B, C]⟩ : Shape).size a) (w : Vec Ideal ⟨3, ![A, B, C]⟩ e)
    (L : List (View.Piece (Elt Ideal) ⟨3, ![A, B, C]⟩ e)) :
    v.read (Elt Ideal) (v.writes (Elt Ideal) f ((⟨Rect.unit (s := ⟨3, ![A, B, C]⟩) ![0, 0, 0] ![A, B, C] inb, w⟩ : View.Piece (Elt Ideal) ⟨3, ![A, B, C]⟩ e) :: L)) = w := by
  funext y
  exact View.read_writes_cons_unit_of_mem v f inb w L y y rfl (fun a => by
    match a with
    | ⟨0, _⟩ => exact (Nat.zero_add _).symm
    | ⟨1, _⟩ => exact (Nat.zero_add _).symm
    | ⟨2, _⟩ => exact (Nat.zero_add _).symm)

/-- A load of what was just stored over the whole block. -/
theorem readAt_write2 {A B : ℕ} {e : EltTy} (v : View sig .tc .vmem ⟨2, ![A, B]⟩ e) (f : v.ty.Contents (Elt Ideal))
    (inb inb' : ∀ a, (![0, 0] : Fin 2 → ℕ) a + (![A, B] : Fin 2 → ℕ) a ≤ (⟨2, ![A, B]⟩ : Shape).size a) (w : Vec Ideal ⟨2, ![A, B]⟩ e)
    (L : List (View.Piece (Elt Ideal) ⟨2, ![A, B]⟩ e)) :
    View.readAt (Elt Ideal) v (Rect.unit (s := ⟨2, ![A, B]⟩) ![0, 0] ![A, B] inb').toLoadRect
      (v.writes (Elt Ideal) f ((⟨Rect.unit (s := ⟨2, ![A, B]⟩) ![0, 0] ![A, B] inb, w⟩ : View.Piece (Elt Ideal) ⟨2, ![A, B]⟩ e) :: L)) = w := by
  funext x
  rw [View.readAt_apply]
  refine (congrFun (write2 v f inb w L) _).trans (congrArg w (funext fun a => Fin.ext ?_))
  rw [at_unit]
  match a with
  | ⟨0, _⟩ => show 0 + 1 * (x 0).val = (x 0).val; omega
  | ⟨1, _⟩ => show 0 + 1 * (x 1).val = (x 1).val; omega

/-- … the same, where nothing else is known of the buffer. -/
theorem readCov2 {A B : ℕ} {e : EltTy} (v : View sig .tc .vmem ⟨2, ![A, B]⟩ e)
    (inb inb' : ∀ a, (![0, 0] : Fin 2 → ℕ) a + (![A, B] : Fin 2 → ℕ) a ≤ (⟨2, ![A, B]⟩ : Shape).size a) (w : Vec Ideal ⟨2, ![A, B]⟩ e)
    (L : List (View.Piece (Elt Ideal) ⟨2, ![A, B]⟩ e)) :
    v.readCov ((⟨Rect.unit (s := ⟨2, ![A, B]⟩) ![0, 0] ![A, B] inb, w⟩ : View.Piece (Elt Ideal) ⟨2, ![A, B]⟩ e) :: L)
      (Rect.unit (s := ⟨2, ![A, B]⟩) ![0, 0] ![A, B] inb').toLoadRect = w :=
  readAt_write2 v v.junk inb inb' w L

/-- A one-slot block as a matrix, and a matrix as a one-slot block. -/
theorem drop_slot {A B : ℕ} {α : Type} (x : (⟨3, ![1, A, B]⟩ : Shape).Idx → α) (h : (⟨3, ![1, A, B]⟩ : Shape).ShapeCasts ⟨2, ![A, B]⟩)
    (a : Fin A) (b : Fin B) : shapeCast ⟨2, ![A, B]⟩ x h (ix2 a b) = x (ix3 0 a b) :=
  shapeCast_apply _ h _ _ (by
    rw [Shape.rowMajor_val_three, Shape.rowMajor_val_two]
    show (0 * A + a.val) * B + b.val = a.val * B + b.val
    rw [Nat.zero_mul, Nat.zero_add])

theorem add_slot {A B : ℕ} {α : Type} (x : (⟨2, ![A, B]⟩ : Shape).Idx → α) (h : (⟨2, ![A, B]⟩ : Shape).ShapeCasts ⟨3, ![1, A, B]⟩)
    (a : Fin A) (b : Fin B) : shapeCast ⟨3, ![1, A, B]⟩ x h (ix3 0 a b) = x (ix2 a b) :=
  shapeCast_apply _ h _ _ (by
    rw [Shape.rowMajor_val_three, Shape.rowMajor_val_two]
    show a.val * B + b.val = (0 * A + a.val) * B + b.val
    rw [Nat.zero_mul, Nat.zero_add])

theorem same_cast {s : Shape} {α : Type} (x : s.Idx → α) (h : s.ShapeCasts s) : shapeCast s x h = x :=
  funext fun i => shapeCast_apply _ h i i rfl

end whole

end Cert.Mat

end
-- ==== Proof.Ffn.Layout.lean ====
/- The layouts that give a device its own slot of eight: a wide matrix's columns, or a tall one's rows, cut into eight
   equal parts, each part with or without room of zeros after it; sums over the parts; the product that contracts both
   operands' rows; and running sums over the points of a cycle. -/
module

public import proofs.«01_k».proof.Proof.Ffn.Common

@[expose] public section

noncomputable section

namespace Cert.Mat

open Idealize.ShloMosaic Idealize.ShloMosaic.ValueIdx Idealize.SL.Sem
open scoped BigOperators

/-! ## Slots -/

/-- Columns cut into `P` slots of `w`: slot `p`, row `r`, column `k`. -/
theorem cols_at {T P w B : ℕ} (x : (⟨2, ![T, B]⟩ : Shape).Idx → EReal) (hB : B = P * w)
    (h1 : (⟨2, ![T, B]⟩ : Shape).ShapeCasts ⟨3, ![T, P, w]⟩) (h2 : (⟨3, ![T, P, w]⟩ : Shape).Transposes [1, 0, 2] ⟨3, ![P, T, w]⟩)
    (p : Fin P) (r : Fin T) (k : Fin w) :
    transpose ⟨3, ![P, T, w]⟩ [1, 0, 2] (shapeCast ⟨3, ![T, P, w]⟩ x h1) h2 (ix3 p r k) = n2 x r.val (w * p.val + k.val) := by
  subst hB
  have hk : w * p.val + k.val < P * w := calc
    w * p.val + k.val < w * p.val + w := Nat.add_lt_add_left k.isLt _
    _ = (p.val + 1) * w := by ring
    _ ≤ P * w := Nat.mul_le_mul_right w p.isLt
  refine (transpose_apply _ _ h2 (ix3 p r k) (ix3 r p k) (fun b => by
    match b with
    | ⟨0, _⟩ => rfl
    | ⟨1, _⟩ => rfl
    | ⟨2, _⟩ => rfl)).trans ?_
  refine (shapeCast_apply _ h1 (ix3 r p k) (ix2 r ⟨w * p.val + k.val, hk⟩) (by
    rw [Shape.rowMajor_val_three, Shape.rowMajor_val_two]
    show r.val * (P * w) + (w * p.val + k.val) = (r.val * P + p.val) * w + k.val
    ring)).trans ?_
  exact (n2_eq x _ _ _ rfl rfl).symm

/-- Rows cut into `P` slots of `w`. -/
theorem rows_at {T P w B : ℕ} (x : (⟨2, ![B, T]⟩ : Shape).Idx → EReal) (hB : B = P * w)
    (h1 : (⟨2, ![B, T]⟩ : Shape).ShapeCasts ⟨3, ![P, w, T]⟩) (p : Fin P) (k : Fin w) (r : Fin T) :
    shapeCast ⟨3, ![P, w, T]⟩ x h1 (ix3 p k r) = n2 x (w * p.val + k.val) r.val := by
  subst hB
  have hk : w * p.val + k.val < P * w := calc
    w * p.val + k.val < w * p.val + w := Nat.add_lt_add_left k.isLt _
    _ = (p.val + 1) * w := by ring
    _ ≤ P * w := Nat.mul_le_mul_right w p.isLt
  refine (shapeCast_apply _ h1 (ix3 p k r) (ix2 ⟨w * p.val + k.val, hk⟩ r) (by
    rw [Shape.rowMajor_val_three, Shape.rowMajor_val_two]
    show (w * p.val + k.val) * T + r.val = (p.val * w + k.val) * T + r.val
    ring)).trans ?_
  exact (n2_eq x _ _ _ rfl rfl).symm

/-- A transposed matrix. -/
theorem flip_at {A B : ℕ} (x : (⟨2, ![A, B]⟩ : Shape).Idx → EReal) (h : (⟨2, ![A, B]⟩ : Shape).Transposes [1, 0] ⟨2, ![B, A]⟩) (i j : ℕ) :
    n2 (transpose ⟨2, ![B, A]⟩ [1, 0] x h) i j = n2 x j i := by
  by_cases hh : i < B ∧ j < A
  · have e := n2_eq (transpose ⟨2, ![B, A]⟩ [1, 0] x h) i j (ix2 ⟨i, hh.1⟩ ⟨j, hh.2⟩) rfl rfl
    rw [e, n2_eq x j i (ix2 ⟨j, hh.2⟩ ⟨i, hh.1⟩) rfl rfl]
    exact transpose_apply _ _ h _ _ (fun b => by
      match b with
      | ⟨0, _⟩ => rfl
      | ⟨1, _⟩ => rfl)
  · unfold n2
    rw [dif_neg hh, dif_neg (fun q => hh ⟨q.2, q.1⟩)]

/-- Room after a slot's columns. -/
theorem room_last {P T w w' g : ℕ} (x : (⟨3, ![P, T, w]⟩ : Shape).Idx → EReal) {u : Shape} (v : u.Idx → EReal)
    (h : (⟨3, ![P, T, w]⟩ : Shape).Pads ![0, 0, 0] ![0, 0, g] ![0, 0, 0] ⟨3, ![P, T, w']⟩) (hu : 0 < u.numel)
    (hv : v (Shape.Idx.first hu) = 0) (p : Fin P) (r : Fin T) (k : Fin w') :
    pad ⟨3, ![P, T, w']⟩ ![0, 0, 0] ![0, 0, g] ![0, 0, 0] x v h hu (ix3 p r k) = if hk : k.val < w then x (ix3 p r ⟨k.val, hk⟩) else 0 := by
  by_cases hk : k.val < w
  · rw [dif_pos hk]
    exact pad_apply_of_inside _ _ _ x v h hu _ (ix3 p r ⟨k.val, hk⟩) (fun a => by
      match a with
      | ⟨0, _⟩ => show p.val = 0 + p.val * (0 + 1); omega
      | ⟨1, _⟩ => show r.val = 0 + r.val * (0 + 1); omega
      | ⟨2, _⟩ => show k.val = 0 + k.val * (0 + 1); omega)
  · rw [dif_neg hk]
    refine (pad_apply_of_not_inside _ _ _ x v h hu _ ⟨2, by show 2 < 3; decide⟩ ?_).trans hv
    show ¬(0 ≤ k.val ∧ (k.val - 0) % (0 + 1) = 0 ∧ (k.val - 0) / (0 + 1) < w)
    rw [Nat.sub_zero, Nat.zero_add, Nat.div_one]
    exact fun q => hk q.2.2

/-- Room after a slot's rows. -/
theorem room_mid {P T w w' g : ℕ} (x : (⟨3, ![P, w, T]⟩ : Shape).Idx → EReal) {u : Shape} (v : u.Idx → EReal)
    (h : (⟨3, ![P, w, T]⟩ : Shape).Pads ![0, 0, 0] ![0, g, 0] ![0, 0, 0] ⟨3, ![P, w', T]⟩) (hu : 0 < u.numel)
    (hv : v (Shape.Idx.first hu) = 0) (p : Fin P) (k : Fin w') (r : Fin T) :
    pad ⟨3, ![P, w', T]⟩ ![0, 0, 0] ![0, g, 0] ![0, 0, 0] x v h hu (ix3 p k r) = if hk : k.val < w then x (ix3 p ⟨k.val, hk⟩ r) else 0 := by
  by_cases hk : k.val < w
  · rw [dif_pos hk]
    exact pad_apply_of_inside _ _ _ x v h hu _ (ix3 p ⟨k.val, hk⟩ r) (fun a => by
      match a with
      | ⟨0, _⟩ => show p.val = 0 + p.val * (0 + 1); omega
      | ⟨1, _⟩ => show k.val = 0 + k.val * (0 + 1); omega
      | ⟨2, _⟩ => show r.val = 0 + r.val * (0 + 1); omega)
  · rw [dif_neg hk]
    refine (pad_apply_of_not_inside _ _ _ x v h hu _ ⟨1, by show 1 < 3; decide⟩ ?_).trans hv
    show ¬(0 ≤ k.val ∧ (k.val - 0) % (0 + 1) = 0 ∧ (k.val - 0) / (0 + 1) < w)
    rw [Nat.sub_zero, Nat.zero_add, Nat.div_one]
    exact fun q => hk q.2.2

/-- A slot's column, with room: column `k` of slot `p`. -/
def sc {A B : ℕ} (w : ℕ) (x : (⟨2, ![A, B]⟩ : Shape).Idx → EReal) (p r k : ℕ) : EReal := if k < w then n2 x r (w * p + k) else 0
/-- A slot's row, with room: row `k` of slot `p`. -/
def sr {A B : ℕ} (w : ℕ) (x : (⟨2, ![A, B]⟩ : Shape).Idx → EReal) (p k c : ℕ) : EReal := if k < w then n2 x (w * p + k) c else 0

/-- Columns in slots with room. -/
theorem cols_room {T P w w' B g : ℕ} (x : (⟨2, ![T, B]⟩ : Shape).Idx → EReal) (hB : B = P * w)
    (h1 : (⟨2, ![T, B]⟩ : Shape).ShapeCasts ⟨3, ![T, P, w]⟩) (h2 : (⟨3, ![T, P, w]⟩ : Shape).Transposes [1, 0, 2] ⟨3, ![P, T, w]⟩)
    {u : Shape} (v : u.Idx → EReal) (h3 : (⟨3, ![P, T, w]⟩ : Shape).Pads ![0, 0, 0] ![0, 0, g] ![0, 0, 0] ⟨3, ![P, T, w']⟩)
    (hu : 0 < u.numel) (hv : v (Shape.Idx.first hu) = 0) (p : Fin P) (r : Fin T) (k : Fin w') :
    pad ⟨3, ![P, T, w']⟩ ![0, 0, 0] ![0, 0, g] ![0, 0, 0] (transpose ⟨3, ![P, T, w]⟩ [1, 0, 2] (shapeCast ⟨3, ![T, P, w]⟩ x h1) h2) v h3 hu (ix3 p r k)
      = sc w x p.val r.val k.val := by
  rw [room_last _ v h3 hu hv]
  unfold sc
  by_cases hk : k.val < w
  · rw [dif_pos hk, if_pos hk]; exact cols_at x hB h1 h2 p r ⟨k.val, hk⟩
  · rw [dif_neg hk, if_neg hk]

/-- Rows in slots with room. -/
theorem rows_room {T P w w' B g : ℕ} (x : (⟨2, ![B, T]⟩ : Shape).Idx → EReal) (hB : B = P * w)
    (h1 : (⟨2, ![B, T]⟩ : Shape).ShapeCasts ⟨3, ![P, w, T]⟩)
    {u : Shape} (v : u.Idx → EReal) (h3 : (⟨3, ![P, w, T]⟩ : Shape).Pads ![0, 0, 0] ![0, g, 0] ![0, 0, 0] ⟨3, ![P, w', T]⟩)
    (hu : 0 < u.numel) (hv : v (Shape.Idx.first hu) = 0) (p : Fin P) (k : Fin w') (r : Fin T) :
    pad ⟨3, ![P, w', T]⟩ ![0, 0, 0] ![0, g, 0] ![0, 0, 0] (shapeCast ⟨3, ![P, w, T]⟩ x h1) v h3 hu (ix3 p k r)
      = sr w x p.val k.val r.val := by
  rw [room_mid _ v h3 hu hv]
  unfold sr
  by_cases hk : k.val < w
  · rw [dif_pos hk, if_pos hk]; exact rows_at x hB h1 p ⟨k.val, hk⟩ r
  · rw [dif_neg hk, if_neg hk]

theorem sr_flip {A B : ℕ} (w : ℕ) (x : (⟨2, ![A, B]⟩ : Shape).Idx → EReal) (h : (⟨2, ![A, B]⟩ : Shape).Transposes [1, 0] ⟨2, ![B, A]⟩) (p k c : ℕ) :
    sr w (transpose ⟨2, ![B, A]⟩ [1, 0] x h) p k c = sc w x p c k := by
  unfold sr sc
  rw [flip_at]

/-- A slot's column, with room, as a choice. -/
theorem sc_choice {A B : ℕ} (w : ℕ) (x : (⟨2, ![A, B]⟩ : Shape).Idx → EReal) (p r k : ℕ) (f : k < w → (⟨2, ![A, B]⟩ : Shape).Idx) (z : EReal)
    (hz : z = 0) (h0 : ∀ h, (f h 0).val = r) (h1 : ∀ h, (f h 1).val = w * p + k) : (if h : k < w then x (f h) else z) = sc w x p r k := by
  unfold sc
  by_cases h : k < w
  · rw [dif_pos h, if_pos h]; exact (n2_eq x _ _ _ (h0 h) (h1 h)).symm
  · rw [dif_neg h, if_neg h]; exact hz

/-- A slot's row, with room, as a choice. -/
theorem sr_choice {A B : ℕ} (w : ℕ) (x : (⟨2, ![A, B]⟩ : Shape).Idx → EReal) (p k c : ℕ) (f : k < w → (⟨2, ![A, B]⟩ : Shape).Idx) (z : EReal)
    (hz : z = 0) (h0 : ∀ h, (f h 0).val = w * p + k) (h1 : ∀ h, (f h 1).val = c) : (if h : k < w then x (f h) else z) = sr w x p k c := by
  unfold sr
  by_cases h : k < w
  · rw [dif_pos h, if_pos h]; exact (n2_eq x _ _ _ (h0 h) (h1 h)).symm
  · rw [dif_neg h, if_neg h]; exact hz

/-- The integer zero converted, which fills the room. -/
theorem room_zero (φ : FTy) : FloatOps.sitofp (F := Ideal) φ (0#32 : BitVec 32) = (0 : EReal) := by
  show (((0#32 : BitVec 32).toInt : ℝ) : EReal) = 0
  simp

/-! ## Sums over slots -/

/-- Eight slots' sums, two slots to a point and four points. -/
theorem slots_sum (f : ℕ → EReal) (b N : ℕ) (hN : N = 8 * b) :
    ∑ s ∈ Finset.range 4, ((∑ k : Fin b, f (b * (2 * s) + k.val)) + ∑ k : Fin b, f (b * (2 * s + 1) + k.val)) = ∑ k : Fin N, f k.val := by
  subst hN
  rw [Fin.sum_univ_eq_sum_range f (8 * b), sum_cut f b 8, sum_pairs (fun s => ∑ r ∈ Finset.range b, f (b * s + r)) 4]
  refine Finset.sum_congr rfl fun s _ => ?_
  rw [Fin.sum_univ_eq_sum_range (fun k => f (b * (2 * s) + k)) b, Fin.sum_univ_eq_sum_range (fun k => f (b * (2 * s + 1) + k)) b]

/-- Equal pieces' sums, one piece to a point. -/
theorem pieces_sum (f : ℕ → EReal) (n b N : ℕ) (hN : N = n * b) :
    ∑ s ∈ Finset.range n, ∑ k : Fin b, f (b * s + k.val) = ∑ k : Fin N, f k.val := by
  subst hN
  rw [Fin.sum_univ_eq_sum_range f (n * b), sum_cut f b n]
  exact Finset.sum_congr rfl fun s _ => Fin.sum_univ_eq_sum_range (fun k => f (b * s + k)) b

/-- Room adds nothing. -/
theorem room_sum (f : ℕ → EReal) (w w' g : ℕ) (hw : w' = w + g) (h : ∀ k, w ≤ k → f k = 0) :
    ∑ k : Fin w', f k.val = ∑ k : Fin w, f k.val := by
  subst hw
  rw [Fin.sum_univ_eq_sum_range f (w + g), Fin.sum_univ_eq_sum_range f w, sum_room f w g h]

/-- A slot's columns against a slot's rows. -/
theorem sc_sr {A B C D : ℕ} (w w' g : ℕ) (hw : w' = w + g) (x : (⟨2, ![A, B]⟩ : Shape).Idx → EReal) (y : (⟨2, ![C, D]⟩ : Shape).Idx → EReal) (p r c : ℕ) :
    ∑ k : Fin w', sc w x p r k.val * sr w y p k.val c = ∑ k : Fin w, n2 x r (w * p + k.val) * n2 y (w * p + k.val) c := by
  rw [room_sum (fun k => sc w x p r k * sr w y p k c) w w' g hw (fun k hk => by
    show sc w x p r k * sr w y p k c = 0
    unfold sc; rw [if_neg (by omega), zero_mul])]
  refine Finset.sum_congr rfl fun k _ => ?_
  show sc w x p r k.val * sr w y p k.val c = _
  unfold sc sr
  rw [if_pos k.isLt, if_pos k.isLt]

/-- A slot's columns against a slot's columns. -/
theorem sc_sc {A B C D : ℕ} (w w' g : ℕ) (hw : w' = w + g) (x : (⟨2, ![A, B]⟩ : Shape).Idx → EReal) (y : (⟨2, ![C, D]⟩ : Shape).Idx → EReal) (p r c : ℕ) :
    ∑ k : Fin w', sc w x p r k.val * sc w y p c k.val = ∑ k : Fin w, n2 x r (w * p + k.val) * n2 y c (w * p + k.val) := by
  rw [room_sum (fun k => sc w x p r k * sc w y p c k) w w' g hw (fun k hk => by
    show sc w x p r k * sc w y p c k = 0
    unfold sc; rw [if_neg (by omega), zero_mul])]
  refine Finset.sum_congr rfl fun k _ => ?_
  show sc w x p r k.val * sc w y p c k.val = _
  unfold sc
  rw [if_pos k.isLt, if_pos k.isLt]

/-- The whole sum at natural-number indices and at the arrays' own. -/
theorem sum_n {K : ℕ} (f g : Fin K → EReal) (h : ∀ k, f k = g k) : ∑ k : Fin K, f k = ∑ k : Fin K, g k := Finset.sum_congr rfl fun k _ => h k

/-! ## Running sums -/

/-- What a cycle of `n` points leaves after each: the addends so far. -/
theorem run_sum {A B : ℕ} (n N : ℕ) (hn : 0 < n) (S : (t : ℕ) → t < N → Fin A → Fin B → EReal) (f : ℕ → ℕ → Fin A → Fin B → EReal)
    (h0 : ∀ t h r d, t % n = 0 → S t h r d = 0 + f (t / n) (t % n) r d)
    (h1 : ∀ t h r d, ¬t % n = 0 → S t h r d = S (t - 1) (Nat.lt_of_le_of_lt (Nat.sub_le _ _) h) r d + f (t / n) (t % n) r d) :
    ∀ t h r d, S t h r d = ∑ s ∈ Finset.range (t % n + 1), f (t / n) s r d := by
  intro t
  induction t with
  | zero =>
    intro h r d
    rw [h0 0 h r d (Nat.zero_mod n)]
    exact run_first (fun s => f (0 / n) s r d) 0 n (Nat.zero_mod n)
  | succ t ih =>
    intro h r d
    by_cases hz : (t + 1) % n = 0
    · rw [h0 _ h r d hz]
      exact run_first (fun s => f ((t + 1) / n) s r d) (t + 1) n hz
    · rw [h1 _ h r d hz]
      have e := ih (Nat.lt_of_le_of_lt (Nat.le_succ t) h) r d
      have hp := prev_div (t + 1) n hn hz
      have hp' : t / n = (t + 1) / n := hp
      rw [hp'] at e
      refine (congrArg (· + _) e).trans ?_
      exact run_next (fun s => f ((t + 1) / n) s r d) (t + 1) n hn hz

/-! ## The product that contracts both operands' rows -/

/-- `[K,M]ᵀ × [K,N]`. -/
def lhsT_wf (K M N : ℕ) : DotDims.WF ⟨2, ![K, M]⟩ ⟨2, ![K, N]⟩ ⟨2, ![M, N]⟩ [0] [0] [1] [1] [] [] :=
  ⟨rfl, by simp, rfl, by simp, by simp, by simp, List.Perm.swap 0 1 [], List.Perm.swap 0 1 [], rfl, Nat.two_pos,
    fun b => by fin_cases b <;> rfl⟩

def lhsT (K M N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := lhsT_wf K M N

theorem lhsT_rank (K M N : ℕ) : (lhsT K M N).contr.rank = 1 := rfl
theorem lhsT_size (K M N : ℕ) : (lhsT K M N).contr.size ⟨0, by rw [lhsT_rank]; exact Nat.one_pos⟩ = K := rfl

theorem lhsT_n {K M N : ℕ} {φ₁ φ₂ : FTy} (l : FVec Ideal ⟨2, ![K, M]⟩ φ₁) (w : FVec Ideal ⟨2, ![K, N]⟩ φ₂) (r : Fin M) (c : Fin N) :
    FloatOps.matmul (F := Ideal) (lhsT K M N) none l w (constant ⟨2, ![M, N]⟩ .f32 0x00000000#32) (ix2 r c)
      = ∑ k : Fin K, l (ix2 k r) * w (ix2 k c) := by
  rw [Ideal.matmul_apply, ← Equiv.sum_comp (contrEquiv1 _ K (lhsT_rank K M N) (lhsT_size K M N)).symm]
  refine (congrArg (Ideal.ofBits .f32 0x00000000#32 + ·) (Finset.sum_congr rfl fun k _ => ?_)).trans
    ((congrArg (· + _) Ideal.ofBits_zero_f32).trans (zero_add _))
  have hk := contrEquiv1_symm_val _ K (lhsT_rank K M N) (lhsT_size K M N) k
  have el : (lhsT K M N).lhsIdx (ix2 r c) ((contrEquiv1 _ K (lhsT_rank K M N) (lhsT_size K M N)).symm k) = ix2 k r := by
    funext a; apply Fin.ext
    match a with
    | ⟨0, _⟩ => exact hk
    | ⟨1, _⟩ => rfl
  have er : (lhsT K M N).rhsIdx (ix2 r c) ((contrEquiv1 _ K (lhsT_rank K M N) (lhsT_size K M N)).symm k) = ix2 k c := by
    funext a; apply Fin.ext
    match a with
    | ⟨0, _⟩ => exact hk
    | ⟨1, _⟩ => rfl
  rw [el, er]

end Cert.Mat

end
-- ==== Proof.Ffn.Silu.lean ====
/- The logistic function, which a kernel has from the hyperbolic tangent and a reference from the exponential, and the
   derivative of silu, over the extended reals. -/
module

public import proofs.«01_k».proof.Proof.Ffn.Layout
public import Idealize.ShloMosaic.PureOps.Ideal.Laws

@[expose] public section

noncomputable section

namespace Cert.Mat

open Idealize.ShloMosaic
open scoped BigOperators

/-- One, as a kernel and a reference write it. -/
theorem one_word : Ideal.ofBits .f32 0x3F800000#32 = 1 := by
  simp [Ideal.ofBits, Ideal.ieee]
  rw [← EReal.coe_mul, ← EReal.coe_one]
  norm_num

/-- A half, as a kernel writes it. -/
theorem half_word : Ideal.ofBits .f32 0x3F000000#32 = ((1 / 2 : ℝ) : EReal) := by
  simp [Ideal.ofBits, Ideal.ieee]
  rw [← EReal.coe_mul]
  norm_num

/-- The logistic function by the hyperbolic tangent. -/
def sg (a : EReal) : EReal :=
  Ideal.ofBits .f32 0x3F000000#32 * (Ideal.tanh (Ideal.ofBits .f32 0x3F000000#32 * a) + Ideal.ofBits .f32 0x3F800000#32)

/-- The logistic function by the exponential. -/
def lg (a : EReal) : EReal :=
  Ideal.div (Ideal.ofBits .f32 0x3F800000#32) (Ideal.ofBits .f32 0x3F800000#32 + Ideal.exp (-a))

theorem tanh_half (x : ℝ) : 1 / 2 * (Real.tanh (1 / 2 * x) + 1) = (1 + Real.exp (-x))⁻¹ := by
  have hu : 0 < Real.exp (1 / 2 * x) := Real.exp_pos _
  have h1 : Real.exp (-(1 / 2 * x)) = (Real.exp (1 / 2 * x))⁻¹ := Real.exp_neg _
  have h2 : Real.exp (-x) = (Real.exp (1 / 2 * x))⁻¹ * (Real.exp (1 / 2 * x))⁻¹ := by
    rw [← h1, ← Real.exp_add]; congr 1; ring
  rw [Real.tanh_eq_sinh_div_cosh, Real.sinh_eq, Real.cosh_eq, h2, h1]
  generalize Real.exp (1 / 2 * x) = u at hu
  have : u ^ 2 + 1 ≠ 0 := by positivity
  field_simp
  ring

theorem lg_coe (x : ℝ) : lg (x : EReal) = (((1 + Real.exp (-x))⁻¹ : ℝ) : EReal) := by
  have hp : 0 < 1 + Real.exp (-x) := by positivity
  unfold lg
  rw [one_word, ← EReal.coe_neg, Ideal.exp_coe, ← EReal.coe_one, ← EReal.coe_add]
  unfold Ideal.div
  rw [if_neg (fun h => hp.ne' (by exact_mod_cast h)), ← EReal.coe_inv, EReal.coe_one, one_mul]

theorem lg_top : lg ⊤ = 1 := by
  unfold lg
  rw [one_word]
  show Ideal.div 1 (1 + Ideal.exp (-⊤)) = 1
  rw [EReal.neg_top, Ideal.exp_bot, add_zero]
  unfold Ideal.div
  rw [if_neg one_ne_zero, one_mul, inv_one]

theorem lg_bot : lg ⊥ = 0 := by
  unfold lg
  rw [one_word]
  show Ideal.div 1 (1 + Ideal.exp (-⊥)) = 0
  rw [EReal.neg_bot, Ideal.exp_top]
  unfold Ideal.div
  have h : (1 : EReal) + ⊤ = ⊤ := rfl
  rw [h, if_neg EReal.top_ne_zero, EReal.inv_top, mul_zero]

/-- The two are one function. -/
theorem sg_eq (a : EReal) : sg a = lg a := by
  have hh : (0 : ℝ) < 1 / 2 := by norm_num
  induction a using EReal.rec with
  | bot =>
    rw [lg_bot]; unfold sg
    rw [half_word, one_word, EReal.coe_mul_bot_of_pos hh, Ideal.tanh_bot, ← EReal.coe_one, ← EReal.coe_neg, ← EReal.coe_add, ← EReal.coe_mul]
    norm_num
  | top =>
    rw [lg_top]; unfold sg
    rw [half_word, one_word, EReal.coe_mul_top_of_pos hh, Ideal.tanh_top, ← EReal.coe_one, ← EReal.coe_add, ← EReal.coe_mul]
    norm_num
  | coe x =>
    rw [lg_coe, ← tanh_half]; unfold sg
    rw [half_word, one_word, ← EReal.coe_mul, Ideal.tanh_coe, ← EReal.coe_one, ← EReal.coe_add, ← EReal.coe_mul]

/-- The derivative of silu, multiplied out, where what it is multiplied by is finite. -/
theorem silu_grad (a : EReal) (v : ℝ) :
    (v : EReal) * (lg a * (1 + a * (1 - lg a))) = (v : EReal) * lg a + a * (v : EReal) * (lg a * (1 - lg a)) := by
  have h1 : (1 : EReal) - 1 = 0 := by rw [← EReal.coe_one, ← EReal.coe_sub, sub_self, EReal.coe_zero]
  induction a using EReal.rec with
  | bot => rw [lg_bot]; simp
  | top => rw [lg_top, h1]; simp
  | coe x =>
    rw [lg_coe]
    generalize (1 + Real.exp (-x))⁻¹ = s
    rw [← EReal.coe_one]
    simp only [← EReal.coe_mul, ← EReal.coe_add, ← EReal.coe_sub]
    congr 1
    ring

end Cert.Mat

end
-- ==== Proof.Ffn.K2Fold.lean ====
/- The kernel of the feed-forward's gate, up product and middle: the blocks of a grid point, and the three results. -/
module

public import proofs.«01_k».proof.Proof.Ffn.Layout
public import proofs.«01_k».proof.Proof.Ffn.Silu
public import proofs.«01_k».proof.Proof.Gen.Kernel2Ideal.Value
public import Idealize.ShloMosaic.Lib.StableHlo.ReadAt

@[expose] public section

set_option maxRecDepth 16384

noncomputable section

namespace Cert.Mat.K2

open Cert.Kernel2Ideal Cert.Kernel2Ideal.Gen Idealize.ShloMosaic.ValueIdx
open Idealize.ShloMosaic hiding ix1 ix2 ix3 eq_ix1 eq_ix2 eq_ix3
open Idealize.ShloMosaic.TcCoe Idealize.SL.Sem
open scoped BigOperators

/-! ## A point's arithmetic -/

theorem zero2 : (![0, 0] : Fin 2 → ℕ) = fun _ => 0 := funext fun a => by fin_cases a <;> rfl
theorem zero3 : (![0, 0, 0] : Fin 3 → ℕ) = fun _ => 0 := funext fun a => by fin_cases a <;> rfl

theorem out_3 (x0 : Vec Ideal S1024x2048 .bf16) (x1 x2 : Vec Ideal S1x768x2048 .bf16) : out0_3 x0 x1 x2 = k0_pay3 x0 x1 := by
  unfold out0_3
  rw [View.canon_unit_zero zero3, View.ld_unit_zero zero2, View.ld_unit_zero zero3]

theorem out_4 (x0 : Vec Ideal S1024x2048 .bf16) (x1 x2 : Vec Ideal S1x768x2048 .bf16) : out0_4 x0 x1 x2 = k0_pay4 x0 x2 := by
  unfold out0_4
  rw [View.canon_unit_zero zero3, View.ld_unit_zero zero2, View.ld_unit_zero zero3]

theorem out_5 (x0 : Vec Ideal S1024x2048 .bf16) (x1 x2 : Vec Ideal S1x768x2048 .bf16) : out0_5 x0 x1 x2 = k0_pay5 x0 x1 x0 x2 := by
  unfold out0_5
  rw [View.canon_unit_zero zero3, View.ld_unit_zero zero2, View.ld_unit_zero zero3, View.ld_unit_zero zero3]

/-- A block's product with a slot's rows. -/
abbrev tile (x0 : Vec Ideal S1024x2048 .bf16) (x1 : Vec Ideal S1x768x2048 .bf16) (r : Fin 1024) (d : Fin 768) : EReal :=
  ∑ k : Fin 2048, x0 (ix2 r k) * x1 (ix3 0 d k)

theorem gate_dot (x0 : Vec Ideal S1024x2048 .bf16) (x1 : Vec Ideal S1x768x2048 .bf16) (r : Fin 1024) (d : Fin 768) :
    k0_pay1 x0 x1 (ix2 r d) = ∑ k : Fin 2048, x0 (ix2 r k) * x1 (ix3 0 d k) := by
  have e : FloatOps.matmul (F := Ideal) (φ₁ := .bf16) (φ₂ := .bf16) (DotDims.transposedRhs 1024 2048 768) none x0
        (shapeCast S768x2048 x1 shapeCasts_S1x768x2048_S768x2048) (constant S1024x768 .f32 0x00000000#32) (ix2 r d)
        = ∑ k : Fin 2048, x0 (ix2 r k) * x1 (ix3 0 d k) :=
    (trans_n (φ₁ := .bf16) (φ₂ := .bf16) _ _ r d).trans (Finset.sum_congr rfl fun k _ => congrArg (x0 (ix2 r k) * ·) (drop_slot x1 _ d k))
  unfold k0_pay1
  exact e

theorem up_dot (x0 : Vec Ideal S1024x2048 .bf16) (x1 : Vec Ideal S1x768x2048 .bf16) (r : Fin 1024) (d : Fin 768) :
    k0_pay2 x0 x1 (ix2 r d) = ∑ k : Fin 2048, x0 (ix2 r k) * x1 (ix3 0 d k) := by
  have e : FloatOps.matmul (F := Ideal) (φ₁ := .bf16) (φ₂ := .bf16) (DotDims.transposedRhs 1024 2048 768) none x0
        (shapeCast S768x2048 x1 shapeCasts_S1x768x2048_S768x2048) (constant S1024x768 .f32 0x00000000#32) (ix2 r d)
        = ∑ k : Fin 2048, x0 (ix2 r k) * x1 (ix3 0 d k) :=
    (trans_n (φ₁ := .bf16) (φ₂ := .bf16) _ _ r d).trans (Finset.sum_congr rfl fun k _ => congrArg (x0 (ix2 r k) * ·) (drop_slot x1 _ d k))
  unfold k0_pay2
  exact e

theorem gate_at (x0 : Vec Ideal S1024x2048 .bf16) (x1 : Vec Ideal S1x768x2048 .bf16) (r : Fin 1024) (d : Fin 768) :
    k0_pay3 x0 x1 (ix3 0 r d) = ∑ k : Fin 2048, x0 (ix2 r k) * x1 (ix3 0 d k) := by
  refine Eq.trans ?_ (gate_dot x0 x1 r d)
  unfold k0_pay3
  exact add_slot (k0_pay1 x0 x1) shapeCasts_S1024x768_S1x1024x768 r d

theorem up_at (x0 : Vec Ideal S1024x2048 .bf16) (x1 : Vec Ideal S1x768x2048 .bf16) (r : Fin 1024) (d : Fin 768) :
    k0_pay4 x0 x1 (ix3 0 r d) = ∑ k : Fin 2048, x0 (ix2 r k) * x1 (ix3 0 d k) := by
  refine Eq.trans ?_ (up_dot x0 x1 r d)
  unfold k0_pay4
  exact add_slot (k0_pay2 x0 x1) shapeCasts_S1024x768_S1x1024x768 r d

theorem mid_at (x0 : Vec Ideal S1024x2048 .bf16) (x1 x2 : Vec Ideal S1x768x2048 .bf16) (r : Fin 1024) (d : Fin 768) :
    k0_pay5 x0 x1 x0 x2 (ix3 0 r d)
      = (∑ k : Fin 2048, x0 (ix2 r k) * x1 (ix3 0 d k)) * sg (∑ k : Fin 2048, x0 (ix2 r k) * x1 (ix3 0 d k))
        * ∑ k : Fin 2048, x0 (ix2 r k) * x2 (ix3 0 d k) := by
  have e : (fun i => k0_pay1 x0 x1 i * sg (k0_pay1 x0 x1 i) * k0_pay2 x0 x2 i : S1024x768.Idx → EReal) (ix2 r d)
      = (∑ k : Fin 2048, x0 (ix2 r k) * x1 (ix3 0 d k)) * sg (∑ k : Fin 2048, x0 (ix2 r k) * x1 (ix3 0 d k))
        * ∑ k : Fin 2048, x0 (ix2 r k) * x2 (ix3 0 d k) := by
    show k0_pay1 x0 x1 (ix2 r d) * sg (k0_pay1 x0 x1 (ix2 r d)) * k0_pay2 x0 x2 (ix2 r d) = _
    rw [gate_dot x0 x1 r d, up_dot x0 x2 r d]
  refine Eq.trans ?_ e
  unfold k0_pay5
  exact add_slot (fun i => k0_pay1 x0 x1 i * sg (k0_pay1 x0 x1 i) * k0_pay2 x0 x2 i : S1024x768.Idx → EReal) shapeCasts_S1024x768_S1x1024x768 r d

/-! ## The blocks -/

theorem pt_lt (t : Fin cfg0.N) : t.val < 32 := lt_of_lt_of_eq t.isLt (show cfg0.N = 32 from N_0)

theorem index_0 : ∀ t : Fin cfg0.N, win0_0.index t (0 : Fin 2) = t.val % 4 ∧ win0_0.index t (1 : Fin 2) = 0 := by decide +kernel
theorem index_1 : ∀ t : Fin cfg0.N, win0_1.index t (0 : Fin 3) = t.val / 4 ∧ win0_1.index t (1 : Fin 3) = 0 ∧ win0_1.index t (2 : Fin 3) = 0 := by decide +kernel
theorem index_2 : ∀ t : Fin cfg0.N, win0_2.index t (0 : Fin 3) = t.val / 4 ∧ win0_2.index t (1 : Fin 3) = 0 ∧ win0_2.index t (2 : Fin 3) = 0 := by decide +kernel
theorem index_3 : ∀ t : Fin cfg0.N, win0_3.index t (0 : Fin 3) = t.val / 4 ∧ win0_3.index t (1 : Fin 3) = t.val % 4 ∧ win0_3.index t (2 : Fin 3) = 0 := by decide +kernel
theorem index_4 : ∀ t : Fin cfg0.N, win0_4.index t (0 : Fin 3) = t.val / 4 ∧ win0_4.index t (1 : Fin 3) = t.val % 4 ∧ win0_4.index t (2 : Fin 3) = 0 := by decide +kernel
theorem index_5 : ∀ t : Fin cfg0.N, win0_5.index t (0 : Fin 3) = t.val / 4 ∧ win0_5.index t (1 : Fin 3) = t.val % 4 ∧ win0_5.index t (2 : Fin 3) = 0 := by decide +kernel
theorem flush_3 : ∀ t : Fin cfg0.N, (cfg0.win 3).flush t = true := (by decide +kernel : ∀ t : Fin grid0.N, win0_3.flush t = true)
theorem flush_4 : ∀ t : Fin cfg0.N, (cfg0.win 4).flush t = true := (by decide +kernel : ∀ t : Fin grid0.N, win0_4.flush t = true)
theorem flush_5 : ∀ t : Fin cfg0.N, (cfg0.win 5).flush t = true := (by decide +kernel : ∀ t : Fin grid0.N, win0_5.flush t = true)

variable (m : (ℓ : Loc nD τ sig) → Buf (Elt Ideal) ℓ) (c : Dev nD)

/-- The normalised input. -/
abbrev aX := (m ((c : Thread nD τ).loc main_arg0) : S4096x2048.Idx → EReal)
/-- The gate's weight. -/
abbrev aG := (m ((c : Thread nD τ).loc main_arg1) : S2048x5632.Idx → EReal)
/-- The up projection's weight. -/
abbrev aU := (m ((c : Thread nD τ).loc main_arg2) : S2048x5632.Idx → EReal)

theorem host_main_v3 (y : S8x768x2048.Idx) : (V m c main_v3 : S8x768x2048.Idx → EReal) y = sc 704 (aG m c) (y 0).val (y 2).val (y 1).val := by
  unfold V
  after_reads_at
  refine sc_choice 704 (aG m c) _ _ _ _ _ (room_zero _) (fun _ => rfl) (fun _ => ?_)
  show (y 0).val * 704 + (y 1).val = _
  omega

theorem host_main_v7 (y : S8x768x2048.Idx) : (V m c main_v7 : S8x768x2048.Idx → EReal) y = sc 704 (aU m c) (y 0).val (y 2).val (y 1).val := by
  unfold V
  after_reads_at
  refine sc_choice 704 (aU m c) _ _ _ _ _ (room_zero _) (fun _ => rfl) (fun _ => ?_)
  show (y 0).val * 704 + (y 1).val = _
  omega

theorem blk_0 (t : Fin cfg0.N) (r : Fin 1024) (k : Fin 2048) :
    (iblk m c 0 t : Vec Ideal S1024x2048 .bf16) (ix2 r k) = n2 (aX m c) (1024 * (t.val % 4) + r.val) (k.val) := by
  have e : (iblk m c 0 t : Vec Ideal S1024x2048 .bf16) (ix2 r k)
      = (V m c main_arg0 : S4096x2048.Idx → EReal) (((cfg0.win 0).blk t).view.emb (ix2 r k)) := rfl
  rw [e, V_main_arg0]
  refine (n2_eq _ _ _ _ ?_ ?_).symm
  · show win0_0.index t (0 : Fin 2) * 1024 + 1 * r.val = 1024 * (t.val % 4) + r.val
    rw [(index_0 t).1]; omega
  · show win0_0.index t (1 : Fin 2) * 2048 + 1 * k.val = k.val
    rw [(index_0 t).2]; omega

theorem blk_1 (t : Fin cfg0.N) (r : Fin 768) (k : Fin 2048) :
    (iblk m c 1 t : Vec Ideal S1x768x2048 .bf16) (ix3 0 r k) = sc 704 (aG m c) (t.val / 4) k.val r.val := by
  have e : (iblk m c 1 t : Vec Ideal S1x768x2048 .bf16) (ix3 0 r k)
      = (V m c main_v3 : S8x768x2048.Idx → EReal) (((cfg0.win 1).blk t).view.emb (ix3 0 r k)) := rfl
  have e0 : ((((cfg0.win 1).blk t).view.emb (ix3 0 r k) : S8x768x2048.Idx) 0).val = t.val / 4 := by
    show win0_1.index t (0 : Fin 3) * 1 + 1 * 0 = t.val / 4
    rw [(index_1 t).1]; omega
  have e1 : ((((cfg0.win 1).blk t).view.emb (ix3 0 r k) : S8x768x2048.Idx) 1).val = r.val := by
    show win0_1.index t (1 : Fin 3) * 768 + 1 * r.val = r.val
    rw [(index_1 t).2.1]; omega
  have e2 : ((((cfg0.win 1).blk t).view.emb (ix3 0 r k) : S8x768x2048.Idx) 2).val = k.val := by
    show win0_1.index t (2 : Fin 3) * 2048 + 1 * k.val = k.val
    rw [(index_1 t).2.2]; omega
  rw [e, host_main_v3, e0, e1, e2]

theorem blk_2 (t : Fin cfg0.N) (r : Fin 768) (k : Fin 2048) :
    (iblk m c 2 t : Vec Ideal S1x768x2048 .bf16) (ix3 0 r k) = sc 704 (aU m c) (t.val / 4) k.val r.val := by
  have e : (iblk m c 2 t : Vec Ideal S1x768x2048 .bf16) (ix3 0 r k)
      = (V m c main_v7 : S8x768x2048.Idx → EReal) (((cfg0.win 2).blk t).view.emb (ix3 0 r k)) := rfl
  have e0 : ((((cfg0.win 2).blk t).view.emb (ix3 0 r k) : S8x768x2048.Idx) 0).val = t.val / 4 := by
    show win0_2.index t (0 : Fin 3) * 1 + 1 * 0 = t.val / 4
    rw [(index_2 t).1]; omega
  have e1 : ((((cfg0.win 2).blk t).view.emb (ix3 0 r k) : S8x768x2048.Idx) 1).val = r.val := by
    show win0_2.index t (1 : Fin 3) * 768 + 1 * r.val = r.val
    rw [(index_2 t).2.1]; omega
  have e2 : ((((cfg0.win 2).blk t).view.emb (ix3 0 r k) : S8x768x2048.Idx) 2).val = k.val := by
    show win0_2.index t (2 : Fin 3) * 2048 + 1 * k.val = k.val
    rw [(index_2 t).2.2]; omega
  rw [e, host_main_v7, e0, e1, e2]

/-! ## The results -/

/-- A product with the columns of a weight in slots. -/
def dots (x : S4096x2048.Idx → EReal) (w : S2048x5632.Idx → EReal) (p r d : ℕ) : EReal := ∑ k : Fin 2048, n2 x r k.val * sc 704 w p k.val d

def gates : S8x4096x768.Idx → EReal := fun i => dots (aX m c) (aG m c) (i 0).val (i 1).val (i 2).val
def ups : S8x4096x768.Idx → EReal := fun i => dots (aX m c) (aU m c) (i 0).val (i 1).val (i 2).val
def mids : S8x4096x768.Idx → EReal := fun i => dots (aX m c) (aG m c) (i 0).val (i 1).val (i 2).val
  * sg (dots (aX m c) (aG m c) (i 0).val (i 1).val (i 2).val) * dots (aX m c) (aU m c) (i 0).val (i 1).val (i 2).val

theorem gate_sum (t : Fin cfg0.N) (r : Fin 1024) (d : Fin 768) :
    tile (iblk m c 0 t) (iblk m c 1 t) r d = dots (aX m c) (aG m c) (t.val / 4) (1024 * (t.val % 4) + r.val) d.val :=
  Finset.sum_congr rfl fun k _ => congrArg₂ (fun a b : EReal => a * b) (blk_0 m c t r k) (blk_1 m c t d k)

theorem up_sum (t : Fin cfg0.N) (r : Fin 1024) (d : Fin 768) :
    tile (iblk m c 0 t) (iblk m c 2 t) r d = dots (aX m c) (aU m c) (t.val / 4) (1024 * (t.val % 4) + r.val) d.val :=
  Finset.sum_congr rfl fun k _ => congrArg₂ (fun a b : EReal => a * b) (blk_0 m c t r k) (blk_2 m c t d k)

theorem mem_blk_3 (t : Fin cfg0.N) (i : S8x4096x768.Idx) :
    i ∈ ((cfg0.win 3).blk t).view.set ↔ ∀ a : Fin 3, win0_3.index t a * S1x1024x768.size a ≤ (i a).val ∧ (i a).val < win0_3.index t a * S1x1024x768.size a + S1x1024x768.size a := by
  show i ∈ ((View.whole main_v8_0).slice (win0_3.rect t)).set ↔ _
  rw [View.set_slice_whole, Rect.mem_set_unit]
  exact Iff.rfl

theorem covered_3 (i : S8x4096x768.Idx) : ∃ t : Fin cfg0.N, (cfg0.win 3).flush t = true ∧ i ∈ ((cfg0.win 3).blk t).view.set := by
  have h0 : (i 0).val < 8 := (i 0).isLt
  have h1 : (i 1).val < 4096 := (i 1).isLt
  have h2 : (i 2).val < 768 := (i 2).isLt
  have hN : cfg0.N = 32 := N_0
  refine ⟨⟨4 * (i 0).val + (i 1).val / 1024, by omega⟩, flush_3 _, (mem_blk_3 _ i).2 fun a => ?_⟩
  obtain ⟨q0, q1, q2⟩ := index_3 ⟨4 * (i 0).val + (i 1).val / 1024, by omega⟩
  dsimp only at q0 q1 q2
  match a with
  | ⟨0, _⟩ =>
    show win0_3.index _ (0 : Fin 3) * 1 ≤ (i 0).val ∧ (i 0).val < win0_3.index _ (0 : Fin 3) * 1 + 1
    omega
  | ⟨1, _⟩ =>
    show win0_3.index _ (1 : Fin 3) * 1024 ≤ (i 1).val ∧ (i 1).val < win0_3.index _ (1 : Fin 3) * 1024 + 1024
    omega
  | ⟨2, _⟩ =>
    show win0_3.index _ (2 : Fin 3) * 768 ≤ (i 2).val ∧ (i 2).val < win0_3.index _ (2 : Fin 3) * 768 + 768
    omega

theorem flushed_3 (t : Fin cfg0.N) : (dats m 0 c).flushed 3 t = ((cfg0.win 3).blk t).view.read (Elt Ideal) (gates m c) := by
  rw [Value.flushed3, out_3]
  funext y
  have h0 : (y 0).val < 1 := (y 0).isLt
  have h1 : (y 1).val < 1024 := (y 1).isLt
  have h2 : (y 2).val < 768 := (y 2).isLt
  have hy : (cfg0.win 3).xinj (grid0.coords t) y = ix3 (0 : Fin 1) (⟨(y 1).val, h1⟩ : Fin 1024) (⟨(y 2).val, h2⟩ : Fin 768) := by
    funext a
    match a with
    | ⟨0, _⟩ => exact Fin.ext (by show (y 0).val = 0; omega)
    | ⟨1, _⟩ => rfl
    | ⟨2, _⟩ => rfl
  have e0 : ((((cfg0.win 3).blk t).view.emb y : S8x4096x768.Idx) 0).val = t.val / 4 := by
    show win0_3.index t (0 : Fin 3) * 1 + 1 * (y 0).val = _
    rw [(index_3 t).1]; omega
  have e1 : ((((cfg0.win 3).blk t).view.emb y : S8x4096x768.Idx) 1).val = 1024 * (t.val % 4) + (y 1).val := by
    show win0_3.index t (1 : Fin 3) * 1024 + 1 * (y 1).val = _
    rw [(index_3 t).2.1]; omega
  have e2 : ((((cfg0.win 3).blk t).view.emb y : S8x4096x768.Idx) 2).val = (y 2).val := by
    show win0_3.index t (2 : Fin 3) * 768 + 1 * (y 2).val = _
    rw [(index_3 t).2.2]; omega
  show (k0_pay3 (iblk m c 0 t) (iblk m c 1 t)) ((cfg0.win 3).xinj (grid0.coords t) y) = gates m c (((cfg0.win 3).blk t).view.emb y)
  rw [hy]
  refine (gate_at (iblk m c 0 t) (iblk m c 1 t) _ _).trans ?_
  unfold gates
  rw [e0, e1, e2]
  exact gate_sum m c t _ _

/-- The gate's product. -/
theorem final_3 : (dats m 0 c).arrAt 3 cfg0.N = gates m c :=
  (dats m 0 c).arrAt_eq_of_cover 3 (gates m c) (fun t _ => flushed_3 m c t) (fun i => covered_3 i)

theorem mem_blk_4 (t : Fin cfg0.N) (i : S8x4096x768.Idx) :
    i ∈ ((cfg0.win 4).blk t).view.set ↔ ∀ a : Fin 3, win0_4.index t a * S1x1024x768.size a ≤ (i a).val ∧ (i a).val < win0_4.index t a * S1x1024x768.size a + S1x1024x768.size a := by
  show i ∈ ((View.whole main_v8_1).slice (win0_4.rect t)).set ↔ _
  rw [View.set_slice_whole, Rect.mem_set_unit]
  exact Iff.rfl

theorem covered_4 (i : S8x4096x768.Idx) : ∃ t : Fin cfg0.N, (cfg0.win 4).flush t = true ∧ i ∈ ((cfg0.win 4).blk t).view.set := by
  have h0 : (i 0).val < 8 := (i 0).isLt
  have h1 : (i 1).val < 4096 := (i 1).isLt
  have h2 : (i 2).val < 768 := (i 2).isLt
  have hN : cfg0.N = 32 := N_0
  refine ⟨⟨4 * (i 0).val + (i 1).val / 1024, by omega⟩, flush_4 _, (mem_blk_4 _ i).2 fun a => ?_⟩
  obtain ⟨q0, q1, q2⟩ := index_4 ⟨4 * (i 0).val + (i 1).val / 1024, by omega⟩
  dsimp only at q0 q1 q2
  match a with
  | ⟨0, _⟩ =>
    show win0_4.index _ (0 : Fin 3) * 1 ≤ (i 0).val ∧ (i 0).val < win0_4.index _ (0 : Fin 3) * 1 + 1
    omega
  | ⟨1, _⟩ =>
    show win0_4.index _ (1 : Fin 3) * 1024 ≤ (i 1).val ∧ (i 1).val < win0_4.index _ (1 : Fin 3) * 1024 + 1024
    omega
  | ⟨2, _⟩ =>
    show win0_4.index _ (2 : Fin 3) * 768 ≤ (i 2).val ∧ (i 2).val < win0_4.index _ (2 : Fin 3) * 768 + 768
    omega

theorem flushed_4 (t : Fin cfg0.N) : (dats m 0 c).flushed 4 t = ((cfg0.win 4).blk t).view.read (Elt Ideal) (ups m c) := by
  rw [Value.flushed4, out_4]
  funext y
  have h0 : (y 0).val < 1 := (y 0).isLt
  have h1 : (y 1).val < 1024 := (y 1).isLt
  have h2 : (y 2).val < 768 := (y 2).isLt
  have hy : (cfg0.win 4).xinj (grid0.coords t) y = ix3 (0 : Fin 1) (⟨(y 1).val, h1⟩ : Fin 1024) (⟨(y 2).val, h2⟩ : Fin 768) := by
    funext a
    match a with
    | ⟨0, _⟩ => exact Fin.ext (by show (y 0).val = 0; omega)
    | ⟨1, _⟩ => rfl
    | ⟨2, _⟩ => rfl
  have e0 : ((((cfg0.win 4).blk t).view.emb y : S8x4096x768.Idx) 0).val = t.val / 4 := by
    show win0_4.index t (0 : Fin 3) * 1 + 1 * (y 0).val = _
    rw [(index_4 t).1]; omega
  have e1 : ((((cfg0.win 4).blk t).view.emb y : S8x4096x768.Idx) 1).val = 1024 * (t.val % 4) + (y 1).val := by
    show win0_4.index t (1 : Fin 3) * 1024 + 1 * (y 1).val = _
    rw [(index_4 t).2.1]; omega
  have e2 : ((((cfg0.win 4).blk t).view.emb y : S8x4096x768.Idx) 2).val = (y 2).val := by
    show win0_4.index t (2 : Fin 3) * 768 + 1 * (y 2).val = _
    rw [(index_4 t).2.2]; omega
  show (k0_pay4 (iblk m c 0 t) (iblk m c 2 t)) ((cfg0.win 4).xinj (grid0.coords t) y) = ups m c (((cfg0.win 4).blk t).view.emb y)
  rw [hy]
  refine (up_at (iblk m c 0 t) (iblk m c 2 t) _ _).trans ?_
  unfold ups
  rw [e0, e1, e2]
  exact up_sum m c t _ _

/-- The up projection's product. -/
theorem final_4 : (dats m 0 c).arrAt 4 cfg0.N = ups m c :=
  (dats m 0 c).arrAt_eq_of_cover 4 (ups m c) (fun t _ => flushed_4 m c t) (fun i => covered_4 i)

theorem mem_blk_5 (t : Fin cfg0.N) (i : S8x4096x768.Idx) :
    i ∈ ((cfg0.win 5).blk t).view.set ↔ ∀ a : Fin 3, win0_5.index t a * S1x1024x768.size a ≤ (i a).val ∧ (i a).val < win0_5.index t a * S1x1024x768.size a + S1x1024x768.size a := by
  show i ∈ ((View.whole main_v8_2).slice (win0_5.rect t)).set ↔ _
  rw [View.set_slice_whole, Rect.mem_set_unit]
  exact Iff.rfl

theorem covered_5 (i : S8x4096x768.Idx) : ∃ t : Fin cfg0.N, (cfg0.win 5).flush t = true ∧ i ∈ ((cfg0.win 5).blk t).view.set := by
  have h0 : (i 0).val < 8 := (i 0).isLt
  have h1 : (i 1).val < 4096 := (i 1).isLt
  have h2 : (i 2).val < 768 := (i 2).isLt
  have hN : cfg0.N = 32 := N_0
  refine ⟨⟨4 * (i 0).val + (i 1).val / 1024, by omega⟩, flush_5 _, (mem_blk_5 _ i).2 fun a => ?_⟩
  obtain ⟨q0, q1, q2⟩ := index_5 ⟨4 * (i 0).val + (i 1).val / 1024, by omega⟩
  dsimp only at q0 q1 q2
  match a with
  | ⟨0, _⟩ =>
    show win0_5.index _ (0 : Fin 3) * 1 ≤ (i 0).val ∧ (i 0).val < win0_5.index _ (0 : Fin 3) * 1 + 1
    omega
  | ⟨1, _⟩ =>
    show win0_5.index _ (1 : Fin 3) * 1024 ≤ (i 1).val ∧ (i 1).val < win0_5.index _ (1 : Fin 3) * 1024 + 1024
    omega
  | ⟨2, _⟩ =>
    show win0_5.index _ (2 : Fin 3) * 768 ≤ (i 2).val ∧ (i 2).val < win0_5.index _ (2 : Fin 3) * 768 + 768
    omega

theorem flushed_5 (t : Fin cfg0.N) : (dats m 0 c).flushed 5 t = ((cfg0.win 5).blk t).view.read (Elt Ideal) (mids m c) := by
  rw [Value.flushed5, out_5]
  funext y
  have h0 : (y 0).val < 1 := (y 0).isLt
  have h1 : (y 1).val < 1024 := (y 1).isLt
  have h2 : (y 2).val < 768 := (y 2).isLt
  have hy : (cfg0.win 5).xinj (grid0.coords t) y = ix3 (0 : Fin 1) (⟨(y 1).val, h1⟩ : Fin 1024) (⟨(y 2).val, h2⟩ : Fin 768) := by
    funext a
    match a with
    | ⟨0, _⟩ => exact Fin.ext (by show (y 0).val = 0; omega)
    | ⟨1, _⟩ => rfl
    | ⟨2, _⟩ => rfl
  have e0 : ((((cfg0.win 5).blk t).view.emb y : S8x4096x768.Idx) 0).val = t.val / 4 := by
    show win0_5.index t (0 : Fin 3) * 1 + 1 * (y 0).val = _
    rw [(index_5 t).1]; omega
  have e1 : ((((cfg0.win 5).blk t).view.emb y : S8x4096x768.Idx) 1).val = 1024 * (t.val % 4) + (y 1).val := by
    show win0_5.index t (1 : Fin 3) * 1024 + 1 * (y 1).val = _
    rw [(index_5 t).2.1]; omega
  have e2 : ((((cfg0.win 5).blk t).view.emb y : S8x4096x768.Idx) 2).val = (y 2).val := by
    show win0_5.index t (2 : Fin 3) * 768 + 1 * (y 2).val = _
    rw [(index_5 t).2.2]; omega
  show (k0_pay5 (iblk m c 0 t) (iblk m c 1 t) (iblk m c 0 t) (iblk m c 2 t)) ((cfg0.win 5).xinj (grid0.coords t) y) = mids m c (((cfg0.win 5).blk t).view.emb y)
  rw [hy]
  refine (mid_at (iblk m c 0 t) (iblk m c 1 t) (iblk m c 2 t) _ _).trans ?_
  unfold mids
  rw [e0, e1, e2]
  exact congrArg₂ (fun a b : EReal => a * sg a * b) (gate_sum m c t _ _) (up_sum m c t _ _)

/-- The middle. -/
theorem final_5 : (dats m 0 c).arrAt 5 cfg0.N = mids m c :=
  (dats m 0 c).arrAt_eq_of_cover 5 (mids m c) (fun t _ => flushed_5 m c t) (fun i => covered_5 i)

end Cert.Mat.K2

end
-- ==== Proof.Ffn.K2.lean ====
/- The kernel of the feed-forward's gate, up product and middle, and its reference: both give the same three results. -/
module

public import proofs.«01_k».proof.Proof.Ffn.K2Fold
public import proofs.«01_k».proof.Defs
public import proofs.«01_k».proof.Proof.Gen.Reference2Ideal.Run
public import proofs.«01_k».proof.Proof.Gen.Reference2Ideal.Read

@[expose] public section

set_option maxRecDepth 16384

noncomputable section

namespace Cert.Mat.K2

open Idealize.ShloMosaic.ValueIdx
open Idealize.ShloMosaic hiding ix1 ix2 ix3 eq_ix1 eq_ix2 eq_ix3
open Idealize.ShloMosaic.TcCoe Idealize.SL.Sem
open scoped BigOperators

/-! ## The reference -/

/-- Inside a slot the product with slots is the product with the weight; in its room it is zero. -/
theorem dots_eq (x : (⟨2, ![4096, 2048]⟩ : Shape).Idx → EReal) (w : (⟨2, ![2048, 5632]⟩ : Shape).Idx → EReal) (p r d : ℕ) :
    dots x w p r d = if d < 704 then ∑ k : Fin 2048, n2 x r k.val * n2 w k.val (704 * p + d) else 0 := by
  unfold dots sc
  by_cases h : d < 704
  · simp only [if_pos h]
  · simp only [if_neg h, mul_zero, Finset.sum_const_zero]

section reference
open Cert.Reference2Ideal Cert.Reference2Ideal.Gen Cert.Reference2Ideal.Read

theorem gate_n (x0 : (⟨S4096x2048, .bf16⟩ : BufTy).Contents (Elt Ideal)) (x1 : (⟨S2048x5632, .f32⟩ : BufTy).Contents (Elt Ideal)) (p : Fin 8) (r : Fin 4096) (d : ℕ) (hd : d < 704) :
    n2 (val_main_v1 x0 x1 : S4096x5632.Idx → EReal) r.val (704 * p.val + d)
      = ∑ k : Fin 2048, n2 (x0 : S4096x2048.Idx → EReal) r.val k.val * n2 (x1 : S2048x5632.Idx → EReal) k.val (704 * p.val + d) := by
  have hp := p.isLt
  have hj : 704 * p.val + d < 5632 := by omega
  refine (n2_eq (val_main_v1 x0 x1 : S4096x5632.Idx → EReal) _ _ (ix2 r ⟨704 * p.val + d, hj⟩) rfl rfl).trans ?_
  refine (val_main_v1_apply x0 x1 (ix2 r ⟨704 * p.val + d, hj⟩)).trans (Finset.sum_congr rfl fun k _ => ?_)
  exact congrArg₂ (fun a b : EReal => a * b) (n2_eq (x0 : S4096x2048.Idx → EReal) _ _ (lidx_main_v1 (ix2 r ⟨704 * p.val + d, hj⟩) k) rfl rfl).symm
    (n2_eq (x1 : S2048x5632.Idx → EReal) _ _ (ridx_main_v1 (ix2 r ⟨704 * p.val + d, hj⟩) k) rfl rfl).symm

theorem up_n (x0 : (⟨S4096x2048, .bf16⟩ : BufTy).Contents (Elt Ideal)) (x2 : (⟨S2048x5632, .f32⟩ : BufTy).Contents (Elt Ideal)) (p : Fin 8) (r : Fin 4096) (d : ℕ) (hd : d < 704) :
    n2 (val_main_v2 x0 x2 : S4096x5632.Idx → EReal) r.val (704 * p.val + d)
      = ∑ k : Fin 2048, n2 (x0 : S4096x2048.Idx → EReal) r.val k.val * n2 (x2 : S2048x5632.Idx → EReal) k.val (704 * p.val + d) := by
  have hp := p.isLt
  have hj : 704 * p.val + d < 5632 := by omega
  refine (n2_eq (val_main_v2 x0 x2 : S4096x5632.Idx → EReal) _ _ (ix2 r ⟨704 * p.val + d, hj⟩) rfl rfl).trans ?_
  refine (val_main_v2_apply x0 x2 (ix2 r ⟨704 * p.val + d, hj⟩)).trans (Finset.sum_congr rfl fun k _ => ?_)
  exact congrArg₂ (fun a b : EReal => a * b) (n2_eq (x0 : S4096x2048.Idx → EReal) _ _ (lidx_main_v2 (ix2 r ⟨704 * p.val + d, hj⟩) k) rfl rfl).symm
    (n2_eq (x2 : S2048x5632.Idx → EReal) _ _ (ridx_main_v2 (ix2 r ⟨704 * p.val + d, hj⟩) k) rfl rfl).symm

theorem gate_ref (x0 : (⟨S4096x2048, .bf16⟩ : BufTy).Contents (Elt Ideal)) (x1 : (⟨S2048x5632, .f32⟩ : BufTy).Contents (Elt Ideal)) (p : Fin 8) (r : Fin 4096) (d : Fin 768) :
    val_main_v6 x0 x1 (ix3 p r d) = dots (x0 : S4096x2048.Idx → EReal) (x1 : S2048x5632.Idx → EReal) p.val r.val d.val := by
  have e : val_main_v6 x0 x1 (ix3 p r d) = sc 704 (val_main_v3 x0 x1 : S4096x5632.Idx → EReal) p.val r.val d.val :=
    cols_room (P := 8) (w := 704) (w' := 768) (g := 64) (val_main_v3 x0 x1 : S4096x5632.Idx → EReal) rfl shapeCasts_S4096x5632_S4096x8x704
      transposes_S4096x8x704_S8x4096x704_1_0_2 _ pads_S8x4096x704_S8x4096x768_000_000_0640 h_S_ (room_zero .bf16) p r d
  refine e.trans ?_
  rw [dots_eq]
  unfold sc
  by_cases h : d.val < 704
  · simp only [if_pos h]
    exact gate_n x0 x1 p r d.val h
  · simp only [if_neg h]

theorem up_ref (x0 : (⟨S4096x2048, .bf16⟩ : BufTy).Contents (Elt Ideal)) (x2 : (⟨S2048x5632, .f32⟩ : BufTy).Contents (Elt Ideal)) (p : Fin 8) (r : Fin 4096) (d : Fin 768) :
    val_main_v10 x0 x2 (ix3 p r d) = dots (x0 : S4096x2048.Idx → EReal) (x2 : S2048x5632.Idx → EReal) p.val r.val d.val := by
  have e : val_main_v10 x0 x2 (ix3 p r d) = sc 704 (val_main_v7 x0 x2 : S4096x5632.Idx → EReal) p.val r.val d.val :=
    cols_room (P := 8) (w := 704) (w' := 768) (g := 64) (val_main_v7 x0 x2 : S4096x5632.Idx → EReal) rfl shapeCasts_S4096x5632_S4096x8x704
      transposes_S4096x8x704_S8x4096x704_1_0_2 _ pads_S8x4096x704_S8x4096x768_000_000_0640 h_S_ (room_zero .bf16) p r d
  refine e.trans ?_
  rw [dots_eq]
  unfold sc
  by_cases h : d.val < 704
  · simp only [if_pos h]
    exact up_n x0 x2 p r d.val h
  · simp only [if_neg h]

/-- The middle at a place: the gate's product, its logistic, and the up projection's. -/
theorem middle (x0 : (⟨S4096x2048, .bf16⟩ : BufTy).Contents (Elt Ideal)) (x1 : (⟨S2048x5632, .f32⟩ : BufTy).Contents (Elt Ideal)) (x2 : (⟨S2048x5632, .f32⟩ : BufTy).Contents (Elt Ideal)) (i : S4096x5632.Idx) :
    (val_main_v13 x0 x1 x2 : S4096x5632.Idx → EReal) i
      = (val_main_v1 x0 x1 : S4096x5632.Idx → EReal) i * lg ((val_main_v1 x0 x1 : S4096x5632.Idx → EReal) i) * (val_main_v2 x0 x2 : S4096x5632.Idx → EReal) i := rfl

theorem mid_ref (x0 : (⟨S4096x2048, .bf16⟩ : BufTy).Contents (Elt Ideal)) (x1 : (⟨S2048x5632, .f32⟩ : BufTy).Contents (Elt Ideal)) (x2 : (⟨S2048x5632, .f32⟩ : BufTy).Contents (Elt Ideal)) (p : Fin 8) (r : Fin 4096) (d : Fin 768) :
    val_main_v16 x0 x1 x2 (ix3 p r d)
      = dots (x0 : S4096x2048.Idx → EReal) (x1 : S2048x5632.Idx → EReal) p.val r.val d.val
        * sg (dots (x0 : S4096x2048.Idx → EReal) (x1 : S2048x5632.Idx → EReal) p.val r.val d.val)
        * dots (x0 : S4096x2048.Idx → EReal) (x2 : S2048x5632.Idx → EReal) p.val r.val d.val := by
  have e : val_main_v16 x0 x1 x2 (ix3 p r d) = sc 704 (val_main_v13 x0 x1 x2 : S4096x5632.Idx → EReal) p.val r.val d.val :=
    cols_room (P := 8) (w := 704) (w' := 768) (g := 64) (val_main_v13 x0 x1 x2 : S4096x5632.Idx → EReal) rfl shapeCasts_S4096x5632_S4096x8x704
      transposes_S4096x8x704_S8x4096x704_1_0_2 _ pads_S8x4096x704_S8x4096x768_000_000_0640 h_S_ (room_zero .bf16) p r d
  refine e.trans ?_
  rw [dots_eq, dots_eq]
  unfold sc
  by_cases h : d.val < 704
  · have hp := p.isLt
    have hj : 704 * p.val + d.val < 5632 := by omega
    simp only [if_pos h]
    rw [← gate_n x0 x1 p r d.val h, ← up_n x0 x2 p r d.val h, sg_eq,
      n2_eq (val_main_v13 x0 x1 x2 : S4096x5632.Idx → EReal) _ _ (ix2 r ⟨704 * p.val + d.val, hj⟩) rfl rfl,
      n2_eq (val_main_v1 x0 x1 : S4096x5632.Idx → EReal) _ _ (ix2 r ⟨704 * p.val + d.val, hj⟩) rfl rfl,
      n2_eq (val_main_v2 x0 x2 : S4096x5632.Idx → EReal) _ _ (ix2 r ⟨704 * p.val + d.val, hj⟩) rfl rfl]
    exact middle x0 x1 x2 _
  · simp only [if_neg h, zero_mul, mul_zero]

end reference

/-- The reference runs, gives its arguments back and, having no semaphores, leaves none raised. -/
theorem reference_runs : Cert.quiescent_Reference2Ideal (hReference2Ideal := Cert.Reference2Ideal.Gen.facts) := fun m ρ _ =>
  (θ_run _ _ _).mono (fun _ h => And.intro (fun c => (h c).2.2.2) (sem_eq_zero_of_no_sems (by decide) _)) (Cert.Reference2Ideal.Value.run m ρ)

/-! ## The two programs' results -/

theorem equal : Cert.algebraic_Kernel2Ideal_Reference2Ideal (hKernel2Ideal := Cert.Kernel2Ideal.Gen.facts)
    (hReference2Ideal := Cert.Reference2Ideal.Gen.facts) := by
  intro m g m' g' _ ha
  refine ⟨fun c => gates m c, fun c => ups m c, fun c => mids m c, ?_, ?_⟩
  · exact (θ_run _ _ _).mono (fun r h c => ⟨(h c).1.trans (final_3 m c), (h c).2.1.trans (final_4 m c), (h c).2.2.1.trans (final_5 m c), (h c).2.2.2⟩)
      (Cert.Kernel2Ideal.Value.run_blocks m g)
  · refine (θ_run _ _ _).mono (fun r h c => ?_) (Cert.Reference2Ideal.Value.run m' g')
    obtain ⟨h0, h1, h2, h3⟩ := h c
    obtain ⟨a0, a1, a2⟩ := ha c
    refine ⟨h0.trans ?_, h1.trans ?_, h2.trans ?_, h3⟩
    · refine (Cert.Reference2Ideal.Read.val_main_v6_eq _ _).trans (ext3 fun p r d => ?_)
      refine Eq.trans ?_ ((gate_ref _ _ p r d).trans rfl)
      exact congrFun (congrArg₂ (Cert.Reference2Ideal.Read.val_main_v6 (F := Idealize.ShloMosaic.Ideal)) a0 a1) _
    · refine (Cert.Reference2Ideal.Read.val_main_v10_eq _ _).trans (ext3 fun p r d => ?_)
      refine Eq.trans ?_ ((up_ref _ _ p r d).trans rfl)
      exact congrFun (congrArg₂ (Cert.Reference2Ideal.Read.val_main_v10 (F := Idealize.ShloMosaic.Ideal)) a0 a2) _
    · refine (Cert.Reference2Ideal.Read.val_main_v16_eq _ _ _).trans (ext3 fun p r d => ?_)
      refine Eq.trans ?_ ((mid_ref _ _ _ p r d).trans rfl)
      exact congrFun (congr (congrArg₂ (Cert.Reference2Ideal.Read.val_main_v16 (F := Idealize.ShloMosaic.Ideal)) a0 a1) a2) _

end Cert.Mat.K2

end
-- ==== Proof.Ffn.K3Block.lean ====
/- The down-projection kernel: what each grid point leaves in its running sums and writes. -/
module

public import proofs.«01_k».proof.Proof.Gen.Kernel3Ideal.Frame
public import proofs.«01_k».proof.Proof.Ffn.Common

@[expose] public section

set_option maxRecDepth 16384

noncomputable section

namespace Cert.Mat.K3

open Cert.Kernel3Ideal Cert.Kernel3Ideal.Gen Idealize.ShloMosaic Idealize.ShloMosaic.ValueIdx
open Idealize.ShloMosaic.TcCoe Idealize.SL.Sem

section points
variable (c : Dev nD) (i : grid0.Coords)
  (arg2 : Memref sig .tc .vmem S1x512x768 .bf16) (harg2 : arg2.IsWhole)
  (arg3 : Memref sig .tc .vmem S1x512x768 .bf16) (harg3 : arg3.IsWhole)
  (arg4 : Memref sig .tc .vmem S1x768x2048 .bf16) (harg4 : arg4.IsWhole)
  (arg5 : Memref sig .tc .vmem S1x768x2048 .bf16) (harg5 : arg5.IsWhole)
  (arg6 : Memref sig .tc .vmem S512x2048 .f32) (harg6 : arg6.IsWhole)
  (arg7 : Memref sig .tc .vmem S512x2048 .f32) (harg7 : arg7.IsWhole)
  (arg8 : Memref sig .tc .vmem S512x2048 .f32) (harg8 : arg8.IsWhole)
  (x0 : Vec Ideal S1x512x768 .bf16)
  (x1 : Vec Ideal S1x512x768 .bf16)
  (x2 : Vec Ideal S1x768x2048 .bf16)
  (x3 : Vec Ideal S1x768x2048 .bf16)
  (x4 : Vec Ideal S512x2048 .f32)
  (xs0 : Vec Ideal S512x2048 .f32)

/-- The running sums after a point: case A. -/
theorem sA (hc0 : cond0_0 i) (hc1 : ¬cond0_1 i) :
    sout0_A_0 c i arg2 harg2 arg3 harg3 arg4 harg4 arg5 harg5 arg6 harg6 arg7 harg7 arg8 harg8 hc0 hc1 x0 x1 x2 x3 x4 = k0_pay2 x0 x2 x1 x3 (k0_pay1 (F := Ideal)) := by
  unfold sout0_A_0 kernelRun0_A
  dsimp only
  refine (write2 _ _ _ _ _).trans ?_
  unfold kernelRun0_A.sl.v14
  unfold kernelRun0_A.sl.HS0_1
  simp only [readAt2, readAt3, readCov2]

/-- The running sums after a point: case B. -/
theorem sB (hc0 : ¬cond0_0 i) (hc1 : ¬cond0_1 i) :
    sout0_B_0 c i arg2 harg2 arg3 harg3 arg4 harg4 arg5 harg5 arg6 harg6 arg7 harg7 arg8 harg8 hc0 hc1 x0 x1 x2 x3 x4 xs0 = k0_pay2 x0 x2 x1 x3 xs0 := by
  unfold sout0_B_0 kernelRun0_B
  dsimp only
  refine (write2 _ _ _ _ _).trans ?_
  simp only [readAt2, readAt3, readCov2]

/-- The running sums after a point: case C. -/
theorem sC (hc0 : ¬cond0_0 i) (hc1 : cond0_1 i) :
    sout0_C_0 c i arg2 harg2 arg3 harg3 arg4 harg4 arg5 harg5 arg6 harg6 arg7 harg7 arg8 harg8 hc0 hc1 x0 x1 x2 x3 x4 xs0 = k0_pay2 x0 x2 x1 x3 xs0 := by
  unfold sout0_C_0 kernelRun0_C
  dsimp only
  refine (write2 _ _ _ _ _).trans ?_
  simp only [readAt2, readAt3, readCov2]

/-- What the last point of a cycle writes. -/
theorem oL (hc0 : ¬cond0_0 i) (hc1 : cond0_1 i) :
    out0_C_5 c i arg2 harg2 arg3 harg3 arg4 harg4 arg5 harg5 arg6 harg6 arg7 harg7 arg8 harg8 hc0 hc1 x0 x1 x2 x3 x4 xs0 = k0_pay3 x4 (k0_pay2 x0 x2 x1 x3 xs0) := by
  unfold out0_C_5 kernelRun0_C
  dsimp only
  refine (write2 _ _ _ _ _).trans ?_
  unfold kernelRun0_C.sl.v23
  unfold kernelRun0_C.sl.HS0_1
  simp only [readAt2, readAt3, readCov2]

end points

end Cert.Mat.K3

end
-- ==== Proof.Ffn.K3Fold.lean ====
/- The down-projection kernel: the blocks of a grid point, its running sums, and the result. -/
module

public import proofs.«01_k».proof.Proof.Ffn.K3Block
public import proofs.«01_k».proof.Proof.Ffn.Layout
public import proofs.«01_k».proof.Proof.Gen.Kernel3Ideal.Value
public import Idealize.ShloMosaic.Lib.StableHlo.ReadAt

@[expose] public section

set_option maxRecDepth 16384

noncomputable section

namespace Cert.Mat.K3

open Cert.Kernel3Ideal Cert.Kernel3Ideal.Gen Idealize.ShloMosaic.ValueIdx
open Idealize.ShloMosaic hiding ix1 ix2 ix3 eq_ix1 eq_ix2 eq_ix3
open Idealize.ShloMosaic.TcCoe Idealize.SL.Sem
open scoped BigOperators

/-! ## A point's arithmetic -/

theorem zero_at (r : Fin 512) (d : Fin 2048) : (k0_pay1 (F := Ideal)) (ix2 r d) = (0 : EReal) :=
  (congrFun (same_cast (fun _ => Ideal.ofBits .f32 0x00000000#32 : S512x2048.Idx → EReal) shapeCasts_S512x2048_S512x2048) (ix2 r d)).trans Ideal.ofBits_zero_f32

theorem upd_at (x0 x1 : Vec Ideal S1x512x768 .bf16) (x2 x3 : Vec Ideal S1x768x2048 .bf16) (acc : Vec Ideal S512x2048 .f32) (r : Fin 512) (d : Fin 2048) :
    k0_pay2 x0 x2 x1 x3 acc (ix2 r d)
      = acc (ix2 r d) + ((∑ k : Fin 768, x0 (ix3 0 r k) * x2 (ix3 0 k d)) + ∑ k : Fin 768, x1 (ix3 0 r k) * x3 (ix3 0 k d)) := by
  have e (x : Vec Ideal S1x512x768 .bf16) (y : Vec Ideal S1x768x2048 .bf16) :
      FloatOps.matmul (F := Ideal) (φ₁ := .bf16) (φ₂ := .bf16) (DotDims.plain 512 768 2048) none (shapeCast S512x768 x shapeCasts_S1x512x768_S512x768)
        (shapeCast S768x2048 y shapeCasts_S1x768x2048_S768x2048) (constant S512x2048 .f32 0x00000000#32) (ix2 r d)
        = ∑ k : Fin 768, x (ix3 0 r k) * y (ix3 0 k d) :=
    (plain_n (φ₁ := .bf16) (φ₂ := .bf16) _ _ r d).trans (Finset.sum_congr rfl fun k _ => congrArg₂ (· * ·) (drop_slot x _ r k) (drop_slot y _ k d))
  unfold k0_pay2
  refine (congrFun (same_cast _ _) (ix2 r d)).trans ?_
  exact congrArg (acc (ix2 r d) + ·) (congrArg₂ (· + ·) (e x0 x2) (e x1 x3))

/-- One half. -/
abbrev half : EReal := FloatOps.ofBits (F := Ideal) .f32 0x3F000000#32

theorem fin_at (x v : Vec Ideal S512x2048 .f32) (i : S512x2048.Idx) : k0_pay3 x v i = x i + half * v i := rfl

/-! ## The blocks -/

theorem pt_lt (t : Fin cfg0.N) : t.val < 32 := lt_of_lt_of_eq t.isLt (show cfg0.N = 32 from N_0)

theorem index_0 : ∀ t : Fin cfg0.N, win0_0.index t (0 : Fin 3) = 2 * (t.val % 4) ∧ win0_0.index t (1 : Fin 3) = t.val / 4 ∧ win0_0.index t (2 : Fin 3) = 0 := by decide +kernel
theorem index_1 : ∀ t : Fin cfg0.N, win0_1.index t (0 : Fin 3) = 2 * (t.val % 4) + 1 ∧ win0_1.index t (1 : Fin 3) = t.val / 4 ∧ win0_1.index t (2 : Fin 3) = 0 := by decide +kernel
theorem index_2 : ∀ t : Fin cfg0.N, win0_2.index t (0 : Fin 3) = 2 * (t.val % 4) ∧ win0_2.index t (1 : Fin 3) = 0 ∧ win0_2.index t (2 : Fin 3) = 0 := by decide +kernel
theorem index_3 : ∀ t : Fin cfg0.N, win0_3.index t (0 : Fin 3) = 2 * (t.val % 4) + 1 ∧ win0_3.index t (1 : Fin 3) = 0 ∧ win0_3.index t (2 : Fin 3) = 0 := by decide +kernel
theorem index_4 : ∀ t : Fin cfg0.N, win0_4.index t (0 : Fin 2) = t.val / 4 ∧ win0_4.index t (1 : Fin 2) = 0 := by decide +kernel

variable (m : (ℓ : Loc nD τ sig) → Buf (Elt Ideal) ℓ) (c : Dev nD)

/-- The residual stream. -/
abbrev aX := (m ((c : Thread nD τ).loc main_arg0) : S4096x2048.Idx → EReal)
/-- The gated product. -/
abbrev aM := (m ((c : Thread nD τ).loc main_arg1) : S4096x5632.Idx → EReal)
/-- The weight. -/
abbrev aW := (m ((c : Thread nD τ).loc main_arg2) : S5632x2048.Idx → EReal)

theorem host_main_v2 (y : S8x4096x768.Idx) : (V m c main_v2 : S8x4096x768.Idx → EReal) y = sc 704 (aM m c) (y 0).val (y 1).val (y 2).val := by
  unfold V
  after_reads_at
  refine sc_choice 704 (aM m c) _ _ _ _ _ (room_zero _) (fun _ => rfl) (fun _ => ?_)
  show (y 0).val * 704 + (y 2).val = _
  omega

theorem host_main_v5 (y : S8x768x2048.Idx) : (V m c main_v5 : S8x768x2048.Idx → EReal) y = sr 704 (aW m c) (y 0).val (y 1).val (y 2).val := by
  unfold V
  after_reads_at
  refine sr_choice 704 (aW m c) _ _ _ _ _ (room_zero _) (fun _ => ?_) (fun _ => rfl)
  show (y 0).val * 704 + (y 1).val = _
  omega

theorem blk_0 (t : Fin cfg0.N) (r : Fin 512) (k : Fin 768) :
    (iblk m c 0 t : Vec Ideal S1x512x768 .bf16) (ix3 0 r k) = sc 704 (aM m c) (2 * (t.val % 4)) (512 * (t.val / 4) + r.val) k.val := by
  have e : (iblk m c 0 t : Vec Ideal S1x512x768 .bf16) (ix3 0 r k)
      = (V m c main_v2 : S8x4096x768.Idx → EReal) (((cfg0.win 0).blk t).view.emb (ix3 0 r k)) := rfl
  have e0 : ((((cfg0.win 0).blk t).view.emb (ix3 0 r k) : S8x4096x768.Idx) 0).val = 2 * (t.val % 4) := by
    show win0_0.index t (0 : Fin 3) * 1 + 1 * 0 = 2 * (t.val % 4)
    rw [(index_0 t).1]; omega
  have e1 : ((((cfg0.win 0).blk t).view.emb (ix3 0 r k) : S8x4096x768.Idx) 1).val = 512 * (t.val / 4) + r.val := by
    show win0_0.index t (1 : Fin 3) * 512 + 1 * r.val = 512 * (t.val / 4) + r.val
    rw [(index_0 t).2.1]; omega
  have e2 : ((((cfg0.win 0).blk t).view.emb (ix3 0 r k) : S8x4096x768.Idx) 2).val = k.val := by
    show win0_0.index t (2 : Fin 3) * 768 + 1 * k.val = k.val
    rw [(index_0 t).2.2]; omega
  rw [e, host_main_v2, e0, e1, e2]

theorem blk_1 (t : Fin cfg0.N) (r : Fin 512) (k : Fin 768) :
    (iblk m c 1 t : Vec Ideal S1x512x768 .bf16) (ix3 0 r k) = sc 704 (aM m c) (2 * (t.val % 4) + 1) (512 * (t.val / 4) + r.val) k.val := by
  have e : (iblk m c 1 t : Vec Ideal S1x512x768 .bf16) (ix3 0 r k)
      = (V m c main_v2 : S8x4096x768.Idx → EReal) (((cfg0.win 1).blk t).view.emb (ix3 0 r k)) := rfl
  have e0 : ((((cfg0.win 1).blk t).view.emb (ix3 0 r k) : S8x4096x768.Idx) 0).val = 2 * (t.val % 4) + 1 := by
    show win0_1.index t (0 : Fin 3) * 1 + 1 * 0 = 2 * (t.val % 4) + 1
    rw [(index_1 t).1]; omega
  have e1 : ((((cfg0.win 1).blk t).view.emb (ix3 0 r k) : S8x4096x768.Idx) 1).val = 512 * (t.val / 4) + r.val := by
    show win0_1.index t (1 : Fin 3) * 512 + 1 * r.val = 512 * (t.val / 4) + r.val
    rw [(index_1 t).2.1]; omega
  have e2 : ((((cfg0.win 1).blk t).view.emb (ix3 0 r k) : S8x4096x768.Idx) 2).val = k.val := by
    show win0_1.index t (2 : Fin 3) * 768 + 1 * k.val = k.val
    rw [(index_1 t).2.2]; omega
  rw [e, host_main_v2, e0, e1, e2]

theorem blk_2 (t : Fin cfg0.N) (r : Fin 768) (k : Fin 2048) :
    (iblk m c 2 t : Vec Ideal S1x768x2048 .bf16) (ix3 0 r k) = sr 704 (aW m c) (2 * (t.val % 4)) r.val k.val := by
  have e : (iblk m c 2 t : Vec Ideal S1x768x2048 .bf16) (ix3 0 r k)
      = (V m c main_v5 : S8x768x2048.Idx → EReal) (((cfg0.win 2).blk t).view.emb (ix3 0 r k)) := rfl
  have e0 : ((((cfg0.win 2).blk t).view.emb (ix3 0 r k) : S8x768x2048.Idx) 0).val = 2 * (t.val % 4) := by
    show win0_2.index t (0 : Fin 3) * 1 + 1 * 0 = 2 * (t.val % 4)
    rw [(index_2 t).1]; omega
  have e1 : ((((cfg0.win 2).blk t).view.emb (ix3 0 r k) : S8x768x2048.Idx) 1).val = r.val := by
    show win0_2.index t (1 : Fin 3) * 768 + 1 * r.val = r.val
    rw [(index_2 t).2.1]; omega
  have e2 : ((((cfg0.win 2).blk t).view.emb (ix3 0 r k) : S8x768x2048.Idx) 2).val = k.val := by
    show win0_2.index t (2 : Fin 3) * 2048 + 1 * k.val = k.val
    rw [(index_2 t).2.2]; omega
  rw [e, host_main_v5, e0, e1, e2]

theorem blk_3 (t : Fin cfg0.N) (r : Fin 768) (k : Fin 2048) :
    (iblk m c 3 t : Vec Ideal S1x768x2048 .bf16) (ix3 0 r k) = sr 704 (aW m c) (2 * (t.val % 4) + 1) r.val k.val := by
  have e : (iblk m c 3 t : Vec Ideal S1x768x2048 .bf16) (ix3 0 r k)
      = (V m c main_v5 : S8x768x2048.Idx → EReal) (((cfg0.win 3).blk t).view.emb (ix3 0 r k)) := rfl
  have e0 : ((((cfg0.win 3).blk t).view.emb (ix3 0 r k) : S8x768x2048.Idx) 0).val = 2 * (t.val % 4) + 1 := by
    show win0_3.index t (0 : Fin 3) * 1 + 1 * 0 = 2 * (t.val % 4) + 1
    rw [(index_3 t).1]; omega
  have e1 : ((((cfg0.win 3).blk t).view.emb (ix3 0 r k) : S8x768x2048.Idx) 1).val = r.val := by
    show win0_3.index t (1 : Fin 3) * 768 + 1 * r.val = r.val
    rw [(index_3 t).2.1]; omega
  have e2 : ((((cfg0.win 3).blk t).view.emb (ix3 0 r k) : S8x768x2048.Idx) 2).val = k.val := by
    show win0_3.index t (2 : Fin 3) * 2048 + 1 * k.val = k.val
    rw [(index_3 t).2.2]; omega
  rw [e, host_main_v5, e0, e1, e2]

theorem blk_4 (t : Fin cfg0.N) (r : Fin 512) (k : Fin 2048) :
    (iblk m c 4 t : Vec Ideal S512x2048 .f32) (ix2 r k) = n2 (aX m c) (512 * (t.val / 4) + r.val) (k.val) := by
  have e : (iblk m c 4 t : Vec Ideal S512x2048 .f32) (ix2 r k)
      = (V m c main_arg0 : S4096x2048.Idx → EReal) (((cfg0.win 4).blk t).view.emb (ix2 r k)) := rfl
  rw [e, V_main_arg0]
  refine (n2_eq _ _ _ _ ?_ ?_).symm
  · show win0_4.index t (0 : Fin 2) * 512 + 1 * r.val = 512 * (t.val / 4) + r.val
    rw [(index_4 t).1]; omega
  · show win0_4.index t (1 : Fin 2) * 2048 + 1 * k.val = k.val
    rw [(index_4 t).2]; omega

/-! ## The running sums -/

/-- What point `s` of block `q`'s cycle adds. -/
def add (q s : ℕ) (r : Fin 512) (d : Fin 2048) : EReal :=
  (∑ k : Fin 704, n2 (aM m c) (512 * q + r.val) (704 * (2 * s) + k.val) * n2 (aW m c) (704 * (2 * s) + k.val) d.val)
    + (∑ k : Fin 704, n2 (aM m c) (512 * q + r.val) (704 * (2 * s + 1) + k.val) * n2 (aW m c) (704 * (2 * s + 1) + k.val) d.val)

theorem upd_add (t : Fin cfg0.N) (acc : Vec Ideal S512x2048 .f32) (r : Fin 512) (d : Fin 2048) :
    k0_pay2 (iblk m c 0 t) (iblk m c 2 t) (iblk m c 1 t) (iblk m c 3 t) acc (ix2 r d) = acc (ix2 r d) + add m c (t.val / 4) (t.val % 4) r d :=
  (upd_at (iblk m c 0 t) (iblk m c 1 t) (iblk m c 2 t) (iblk m c 3 t) acc r d).trans (congrArg (acc (ix2 r d) + ·) (congrArg₂ (· + ·)
    ((Finset.sum_congr rfl fun k _ => congrArg₂ (fun a b : EReal => a * b) (blk_0 m c t r k) (blk_2 m c t k d)).trans (sc_sr 704 768 64 rfl (aM m c) (aW m c) _ _ _))
    ((Finset.sum_congr rfl fun k _ => congrArg₂ (fun a b : EReal => a * b) (blk_1 m c t r k) (blk_3 m c t k d)).trans (sc_sr 704 768 64 rfl (aM m c) (aW m c) _ _ _))))

theorem scr : ∀ (t : ℕ) (h : t < cfg0.N) (r : Fin 512) (d : Fin 2048),
    (outsAt0 m c t h).2 (ix2 r d) = ∑ s ∈ Finset.range (t % 4 + 1), add m c (t / 4) s r d := by
  refine run_sum 4 cfg0.N (by decide) (fun t h r d => (outsAt0 m c t h).2 (ix2 r d)) (fun q s r d => add m c q s r d) ?_ ?_
  · intro t h r d h0
    rw [outsAt0_A m c ⟨t, h⟩ h0 (by dsimp only; omega)]
    dsimp only
    rw [sA]
    exact (upd_add m c ⟨t, h⟩ _ r d).trans (congrArg (· + _) (zero_at r d))
  · intro t h r d h0
    by_cases h1 : t % 4 = 3
    · rw [outsAt0_C m c ⟨t, h⟩ h0 h1]
      dsimp only
      rw [sC]
      exact upd_add m c ⟨t, h⟩ _ r d
    · rw [outsAt0_B m c ⟨t, h⟩ h0 h1]
      dsimp only
      rw [sB]
      exact upd_add m c ⟨t, h⟩ _ r d

/-- The block a cycle's last point writes. -/
theorem out (t : Fin cfg0.N) (h1 : t.val % 4 = 3) (r : Fin 512) (d : Fin 2048) :
    (outsAt0 m c t.val t.isLt).1 (ix2 r d) = n2 (aX m c) (512 * (t.val / 4) + r.val) d.val + half * ∑ s ∈ Finset.range 4, add m c (t.val / 4) s r d := by
  have e := scr m c t.val t.isLt r d
  rw [h1] at e
  rw [outsAt0_C m c t (by omega) h1] at e ⊢
  dsimp only at e ⊢
  rw [oL]
  rw [sC] at e
  exact (fin_at _ _ (ix2 r d)).trans (congrArg₂ (· + ·) (blk_4 m c t r d) (congrArg (half * ·) e))

/-! ## The result -/

open Cert.Kernel3Ideal.Value in
theorem result (Q : Fin 4096) (d : Fin 2048) :
    (G5 m c : S4096x2048.Idx → EReal) (ix2 Q d) = n2 (aX m c) Q.val d.val + half * ∑ k : Fin 5632, n2 (aM m c) Q.val k.val * n2 (aW m c) k.val d.val := by
  have hN : cfg0.N = 32 := N_0
  have hp : pt5Of (ix2 Q d) = 4 * (Q.val / 512) + 3 := by
    show 4 * (1 * (Q.val / 512 - 0) + 1 * (d.val / 2048 - 0)) + 3 = _; omega
  have hb' : pt5Of (ix2 Q d) < cfg0.N := by rw [hp, hN]; omega
  unfold G5
  rw [dif_pos hb', ← outsAt0_sweep]
  have e := out m c ⟨pt5Of (ix2 Q d), hb'⟩ (by show pt5Of (ix2 Q d) % 4 = 3; rw [hp]; omega) ⟨Q.val % 512, by omega⟩ d
  have hl : loc5Of (ix2 Q d) = ix2 (⟨Q.val % 512, by omega⟩ : Fin 512) d := by
    funext a
    match a with
    | ⟨0, _⟩ => rfl
    | ⟨1, _⟩ => exact Fin.ext (by show d.val % 2048 = d.val; omega)
  rw [hl]
  refine e.trans ?_
  have hq : pt5Of (ix2 Q d) / 4 = Q.val / 512 := by rw [hp]; omega
  dsimp only
  rw [hq]
  unfold add
  have hr : 512 * (Q.val / 512) + Q.val % 512 = Q.val := by omega
  dsimp only
  rw [hr]
  exact congrArg (n2 (aX m c) Q.val d.val + half * ·) (slots_sum (fun k => n2 (aM m c) Q.val k * n2 (aW m c) k d.val) 704 5632 rfl)

end Cert.Mat.K3

end
-- ==== Proof.Ffn.K3.lean ====
/- The down-projection kernel and its reference: both add the same halved product. -/
module

public import proofs.«01_k».proof.Proof.Ffn.K3Fold
public import proofs.«01_k».proof.Defs
public import proofs.«01_k».proof.Proof.Gen.Reference3Ideal.Run
public import proofs.«01_k».proof.Proof.Gen.Reference3Ideal.Read

@[expose] public section

set_option maxRecDepth 16384

noncomputable section

namespace Cert.Mat.K3

open Idealize.ShloMosaic.ValueIdx
open Idealize.ShloMosaic hiding ix1 ix2 ix3 eq_ix1 eq_ix2 eq_ix3
open Idealize.ShloMosaic.TcCoe Idealize.SL.Sem
open scoped BigOperators

/-! ## The reference -/

section reference
open Cert.Reference3Ideal Cert.Reference3Ideal.Gen Cert.Reference3Ideal.Read

theorem reference_at (x0 : (⟨S4096x2048, .f32⟩ : BufTy).Contents (Elt Ideal)) (x1 : (⟨S4096x5632, .bf16⟩ : BufTy).Contents (Elt Ideal)) (x2 : (⟨S5632x2048, .f32⟩ : BufTy).Contents (Elt Ideal)) (r : Fin 4096) (d : Fin 2048) :
    val_main_v4 x0 x1 x2 (ix2 r d)
      = n2 (x0 : S4096x2048.Idx → EReal) r.val d.val
        + half * ∑ k : Fin 5632, n2 (x1 : S4096x5632.Idx → EReal) r.val k.val * n2 (x2 : S5632x2048.Idx → EReal) k.val d.val := by
  have h : val_main_v2 (F := Ideal) (ix2 r d) = half := val_main_v2_apply (F := Ideal) (ix2 r d)
  have e : val_main_v4 x0 x1 x2 (ix2 r d) = (x0 (ix2 r d) : EReal) + val_main_v2 (F := Ideal) (ix2 r d) * val_main_v1 x1 x2 (ix2 r d) := rfl
  rw [h] at e
  refine e.trans (congrArg₂ (fun a b : EReal => a + half * b) (n2_eq (x0 : S4096x2048.Idx → EReal) _ _ (ix2 r d) rfl rfl).symm ?_)
  refine (val_main_v1_apply x1 x2 (ix2 r d)).trans (Finset.sum_congr rfl fun k _ => ?_)
  exact congrArg₂ (fun a b : EReal => a * b) (n2_eq (x1 : S4096x5632.Idx → EReal) _ _ (lidx_main_v1 (ix2 r d) k) rfl rfl).symm
    (n2_eq (x2 : S5632x2048.Idx → EReal) _ _ (ridx_main_v1 (ix2 r d) k) rfl rfl).symm

end reference

/-- The reference runs, gives its arguments back and, having no semaphores, leaves none raised. -/
theorem reference_runs : Cert.quiescent_Reference3Ideal (hReference3Ideal := Cert.Reference3Ideal.Gen.facts) := fun m ρ _ =>
  (θ_run _ _ _).mono (fun _ h => And.intro (fun c => (h c).2) (sem_eq_zero_of_no_sems (by decide) _)) (Cert.Reference3Ideal.Value.run m ρ)

/-! ## The two programs' results -/

theorem equal : Cert.algebraic_Kernel3Ideal_Reference3Ideal (hKernel3Ideal := Cert.Kernel3Ideal.Gen.facts)
    (hReference3Ideal := Cert.Reference3Ideal.Gen.facts) := by
  intro m g m' g' _ ha
  refine ⟨fun c => Cert.Kernel3Ideal.Value.G5 m c, ?_, ?_⟩
  · exact (θ_run _ _ _).mono (fun r h c => ⟨(h c).1, (h c).2⟩) (Cert.Kernel3Ideal.Value.run m g)
  · refine (θ_run _ _ _).mono (fun r h c => ?_) (Cert.Reference3Ideal.Value.run m' g')
    obtain ⟨h0, h1⟩ := h c
    obtain ⟨a0, a1, a2⟩ := ha c
    refine ⟨h0.trans ?_, h1⟩
    refine (Cert.Reference3Ideal.Read.val_main_v4_eq _ _ _).trans (ext2 fun r d => ?_)
    refine Eq.trans ?_ ((reference_at _ _ _ r d).trans (result m c r d).symm)
    exact congrFun (congr (congrArg₂ (Cert.Reference3Ideal.Read.val_main_v4 (F := Idealize.ShloMosaic.Ideal)) a0 a1) a2) _

end Cert.Mat.K3

end
-- ==== Proof.Ffn.K4Block.lean ====
/- The kernel of the down-projection's weight gradient: what each grid point leaves in its running sums and writes. -/
module

public import proofs.«01_k».proof.Proof.Gen.Kernel4Ideal.Frame
public import proofs.«01_k».proof.Proof.Ffn.Common

@[expose] public section

set_option maxRecDepth 16384

noncomputable section

namespace Cert.Mat.K4

open Cert.Kernel4Ideal Cert.Kernel4Ideal.Gen Idealize.ShloMosaic Idealize.ShloMosaic.ValueIdx
open Idealize.ShloMosaic.TcCoe Idealize.SL.Sem

section points
variable (c : Dev nD) (i : grid0.Coords)
  (arg2 : Memref sig .tc .vmem S1x2048x768 .bf16) (harg2 : arg2.IsWhole)
  (arg3 : Memref sig .tc .vmem S2048x2048 .bf16) (harg3 : arg3.IsWhole)
  (arg4 : Memref sig .tc .vmem S1x768x2048 .bf16) (harg4 : arg4.IsWhole)
  (arg5 : Memref sig .tc .vmem S768x2048 .f32) (harg5 : arg5.IsWhole)
  (x0 : Vec Ideal S1x2048x768 .bf16)
  (x1 : Vec Ideal S2048x2048 .bf16)
  (xs0 : Vec Ideal S768x2048 .f32)

/-- The running sums after a point: case A. -/
theorem sA (hc0 : cond0_0 i) (hc1 : ¬cond0_1 i) :
    sout0_A_0 c i arg2 harg2 arg3 harg3 arg4 harg4 arg5 harg5 hc0 hc1 x0 x1 = k0_pay2 (k0_pay1 (F := Ideal)) x0 x1 := by
  unfold sout0_A_0 kernelRun0_A
  dsimp only
  refine (write2 _ _ _ _ _).trans ?_
  unfold kernelRun0_A.sl.v3
  unfold kernelRun0_A.sl.HS0_1
  simp only [readAt2, readAt3, readCov2]

/-- The running sums after a point: case B. -/
theorem sB (hc0 : ¬cond0_0 i) (hc1 : cond0_1 i) :
    sout0_B_0 c i arg2 harg2 arg3 harg3 arg4 harg4 arg5 harg5 hc0 hc1 x0 x1 xs0 = k0_pay2 xs0 x0 x1 := by
  unfold sout0_B_0 kernelRun0_B
  dsimp only
  refine (write2 _ _ _ _ _).trans ?_
  simp only [readAt2, readAt3, readCov2]

/-- What the last point of a cycle writes. -/
theorem oL (hc0 : ¬cond0_0 i) (hc1 : cond0_1 i) :
    out0_B_2 c i arg2 harg2 arg3 harg3 arg4 harg4 arg5 harg5 hc0 hc1 x0 x1 xs0 = k0_pay3 (k0_pay2 xs0 x0 x1) := by
  unfold out0_B_2 kernelRun0_B
  dsimp only
  refine (write3 _ _ _ _ _).trans ?_
  unfold kernelRun0_B.sl.v15
  unfold kernelRun0_B.sl.HS0_1
  simp only [readAt2, readAt3, readCov2]

end points

end Cert.Mat.K4

end
-- ==== Proof.Ffn.K4Fold.lean ====
/- The kernel of the down-projection's weight gradient: the blocks of a grid point, its running sums, and the result. -/
module

public import proofs.«01_k».proof.Proof.Ffn.K4Block
public import proofs.«01_k».proof.Proof.Ffn.Layout
public import proofs.«01_k».proof.Proof.Gen.Kernel4Ideal.Value
public import Idealize.ShloMosaic.Lib.StableHlo.ReadAt

@[expose] public section

set_option maxRecDepth 16384

noncomputable section

namespace Cert.Mat.K4

open Cert.Kernel4Ideal Cert.Kernel4Ideal.Gen Idealize.ShloMosaic.ValueIdx
open Idealize.ShloMosaic hiding ix1 ix2 ix3 eq_ix1 eq_ix2 eq_ix3
open Idealize.ShloMosaic.TcCoe Idealize.SL.Sem
open scoped BigOperators

/-! ## A point's arithmetic -/

theorem zero_at (r : Fin 768) (d : Fin 2048) : (k0_pay1 (F := Ideal)) (ix2 r d) = (0 : EReal) :=
  (congrFun (same_cast (fun _ => Ideal.ofBits .f32 0x00000000#32 : S768x2048.Idx → EReal) shapeCasts_S768x2048_S768x2048) (ix2 r d)).trans Ideal.ofBits_zero_f32

theorem upd_at (x0 : Vec Ideal S1x2048x768 .bf16) (x1 : Vec Ideal S2048x2048 .bf16) (acc : Vec Ideal S768x2048 .f32) (r : Fin 768) (d : Fin 2048) :
    k0_pay2 acc x0 x1 (ix2 r d) = acc (ix2 r d) + ∑ k : Fin 2048, x0 (ix3 0 k r) * x1 (ix2 k d) := by
  have e : FloatOps.matmul (F := Ideal) (φ₁ := .bf16) (φ₂ := .bf16) (lhsT 2048 768 2048) none
        (shapeCast S2048x768 x0 shapeCasts_S1x2048x768_S2048x768) x1 (constant S768x2048 .f32 0x00000000#32) (ix2 r d)
        = ∑ k : Fin 2048, x0 (ix3 0 k r) * x1 (ix2 k d) :=
    (lhsT_n (φ₁ := .bf16) (φ₂ := .bf16) _ _ r d).trans (Finset.sum_congr rfl fun k _ => congrArg (· * x1 (ix2 k d)) (drop_slot x0 _ k r))
  unfold k0_pay2
  refine (congrFun (same_cast _ _) (ix2 r d)).trans ?_
  exact congrArg (acc (ix2 r d) + ·) e

theorem fin_at (v : Vec Ideal S768x2048 .f32) (r : Fin 768) (d : Fin 2048) : k0_pay3 v (ix3 0 r d) = v (ix2 r d) := by
  unfold k0_pay3
  exact add_slot _ _ r d

/-! ## The blocks -/

theorem pt_lt (t : Fin cfg0.N) : t.val < 16 := lt_of_lt_of_eq t.isLt (show cfg0.N = 16 from N_0)

theorem index_0 : ∀ t : Fin cfg0.N, win0_0.index t (0 : Fin 3) = t.val / 2 ∧ win0_0.index t (1 : Fin 3) = t.val % 2 ∧ win0_0.index t (2 : Fin 3) = 0 := by decide +kernel
theorem index_1 : ∀ t : Fin cfg0.N, win0_1.index t (0 : Fin 2) = t.val % 2 ∧ win0_1.index t (1 : Fin 2) = 0 := by decide +kernel

variable (m : (ℓ : Loc nD τ sig) → Buf (Elt Ideal) ℓ) (c : Dev nD)

/-- The saved gated product. -/
abbrev aM := (m ((c : Thread nD τ).loc main_arg0) : S4096x5632.Idx → EReal)
/-- The halved cotangent. -/
abbrev aD := (m ((c : Thread nD τ).loc main_arg1) : S4096x2048.Idx → EReal)

theorem host_main_v2 (y : S8x4096x768.Idx) : (V m c main_v2 : S8x4096x768.Idx → EReal) y = sc 704 (aM m c) (y 0).val (y 1).val (y 2).val := by
  unfold V
  after_reads_at
  refine sc_choice 704 (aM m c) _ _ _ _ _ (room_zero _) (fun _ => rfl) (fun _ => ?_)
  show (y 0).val * 704 + (y 2).val = _
  omega

theorem blk_0 (t : Fin cfg0.N) (r : Fin 2048) (k : Fin 768) :
    (iblk m c 0 t : Vec Ideal S1x2048x768 .bf16) (ix3 0 r k) = sc 704 (aM m c) (t.val / 2) (2048 * (t.val % 2) + r.val) k.val := by
  have e : (iblk m c 0 t : Vec Ideal S1x2048x768 .bf16) (ix3 0 r k)
      = (V m c main_v2 : S8x4096x768.Idx → EReal) (((cfg0.win 0).blk t).view.emb (ix3 0 r k)) := rfl
  have e0 : ((((cfg0.win 0).blk t).view.emb (ix3 0 r k) : S8x4096x768.Idx) 0).val = t.val / 2 := by
    show win0_0.index t (0 : Fin 3) * 1 + 1 * 0 = t.val / 2
    rw [(index_0 t).1]; omega
  have e1 : ((((cfg0.win 0).blk t).view.emb (ix3 0 r k) : S8x4096x768.Idx) 1).val = 2048 * (t.val % 2) + r.val := by
    show win0_0.index t (1 : Fin 3) * 2048 + 1 * r.val = 2048 * (t.val % 2) + r.val
    rw [(index_0 t).2.1]; omega
  have e2 : ((((cfg0.win 0).blk t).view.emb (ix3 0 r k) : S8x4096x768.Idx) 2).val = k.val := by
    show win0_0.index t (2 : Fin 3) * 768 + 1 * k.val = k.val
    rw [(index_0 t).2.2]; omega
  rw [e, host_main_v2, e0, e1, e2]

theorem blk_1 (t : Fin cfg0.N) (r : Fin 2048) (k : Fin 2048) :
    (iblk m c 1 t : Vec Ideal S2048x2048 .bf16) (ix2 r k) = n2 (aD m c) (2048 * (t.val % 2) + r.val) (k.val) := by
  have e : (iblk m c 1 t : Vec Ideal S2048x2048 .bf16) (ix2 r k)
      = (V m c main_arg1 : S4096x2048.Idx → EReal) (((cfg0.win 1).blk t).view.emb (ix2 r k)) := rfl
  rw [e, V_main_arg1]
  refine (n2_eq _ _ _ _ ?_ ?_).symm
  · show win0_1.index t (0 : Fin 2) * 2048 + 1 * r.val = 2048 * (t.val % 2) + r.val
    rw [(index_1 t).1]; omega
  · show win0_1.index t (1 : Fin 2) * 2048 + 1 * k.val = k.val
    rw [(index_1 t).2]; omega

/-! ## The running sums -/

/-- What point `s` of slot `q`'s cycle adds. -/
def add (q s : ℕ) (r : Fin 768) (d : Fin 2048) : EReal :=
  ∑ k : Fin 2048, sc 704 (aM m c) q (2048 * s + k.val) r.val * n2 (aD m c) (2048 * s + k.val) d.val

theorem upd_add (t : Fin cfg0.N) (acc : Vec Ideal S768x2048 .f32) (r : Fin 768) (d : Fin 2048) :
    k0_pay2 acc (iblk m c 0 t) (iblk m c 1 t) (ix2 r d) = acc (ix2 r d) + add m c (t.val / 2) (t.val % 2) r d :=
  (upd_at (iblk m c 0 t) (iblk m c 1 t) acc r d).trans (congrArg (acc (ix2 r d) + ·)
    (Finset.sum_congr rfl fun k _ => congrArg₂ (· * ·) (blk_0 m c t k r) (blk_1 m c t k d)))

theorem scr : ∀ (t : ℕ) (h : t < cfg0.N) (r : Fin 768) (d : Fin 2048),
    (outsAt0 m c t h).2 (ix2 r d) = ∑ s ∈ Finset.range (t % 2 + 1), add m c (t / 2) s r d := by
  refine run_sum 2 cfg0.N (by decide) (fun t h r d => (outsAt0 m c t h).2 (ix2 r d)) (fun q s r d => add m c q s r d) ?_ ?_
  · intro t h r d h0
    rw [outsAt0_A m c ⟨t, h⟩ h0 (by dsimp only; omega)]
    dsimp only
    rw [sA]
    exact (upd_add m c ⟨t, h⟩ _ r d).trans (congrArg (· + _) (zero_at r d))
  · intro t h r d h0
    rw [outsAt0_B m c ⟨t, h⟩ h0 (by dsimp only; omega)]
    dsimp only
    rw [sB]
    exact upd_add m c ⟨t, h⟩ _ r d

/-- The block a cycle's last point writes. -/
theorem out (t : Fin cfg0.N) (h1 : t.val % 2 = 1) (r : Fin 768) (d : Fin 2048) :
    (outsAt0 m c t.val t.isLt).1 (ix3 0 r d) = ∑ s ∈ Finset.range 2, add m c (t.val / 2) s r d := by
  have e := scr m c t.val t.isLt r d
  rw [h1] at e
  rw [outsAt0_B m c t (by omega) h1] at e ⊢
  dsimp only at e ⊢
  rw [oL]
  rw [sB] at e
  exact (fin_at _ r d).trans e

/-! ## The result -/

open Cert.Kernel4Ideal.Value in
theorem result (p : Fin 8) (r : Fin 768) (d : Fin 2048) :
    (G2 m c : S8x768x2048.Idx → EReal) (ix3 p r d) = ∑ k : Fin 4096, sc 704 (aM m c) p.val k.val r.val * n2 (aD m c) k.val d.val := by
  have hN : cfg0.N = 16 := N_0
  have hp : pt2Of (ix3 p r d) = 2 * p.val + 1 := by
    show 2 * (1 * (p.val / 1 - 0) + 1 * (r.val / 768 - 0) + 1 * (d.val / 2048 - 0)) + 1 = _; omega
  have hb' : pt2Of (ix3 p r d) < cfg0.N := by rw [hp, hN]; omega
  unfold G2
  rw [dif_pos hb', ← outsAt0_sweep]
  have e := out m c ⟨pt2Of (ix3 p r d), hb'⟩ (by show pt2Of (ix3 p r d) % 2 = 1; rw [hp]; omega) r d
  have hl : loc2Of (ix3 p r d) = ix3 0 r d := by
    funext a
    match a with
    | ⟨0, _⟩ => exact Fin.ext (by show p.val % 1 = 0; omega)
    | ⟨1, _⟩ => exact Fin.ext (by show r.val % 768 = r.val; omega)
    | ⟨2, _⟩ => exact Fin.ext (by show d.val % 2048 = d.val; omega)
  rw [hl]
  refine e.trans ?_
  have hq : pt2Of (ix3 p r d) / 2 = p.val := by rw [hp]; omega
  dsimp only
  rw [hq]
  unfold add
  exact pieces_sum (fun k => sc 704 (aM m c) p.val k r.val * n2 (aD m c) k d.val) 2 2048 4096 rfl

end Cert.Mat.K4

end
-- ==== Proof.Ffn.K4.lean ====
/- The kernel of the down-projection's weight gradient and its reference: both give the same slots. -/
module

public import proofs.«01_k».proof.Proof.Ffn.K4Fold
public import proofs.«01_k».proof.Defs
public import proofs.«01_k».proof.Proof.Gen.Reference4Ideal.Run
public import proofs.«01_k».proof.Proof.Gen.Reference4Ideal.Read

@[expose] public section

set_option maxRecDepth 16384

noncomputable section

namespace Cert.Mat.K4

open Idealize.ShloMosaic.ValueIdx
open Idealize.ShloMosaic hiding ix1 ix2 ix3 eq_ix1 eq_ix2 eq_ix3
open Idealize.ShloMosaic.TcCoe Idealize.SL.Sem
open scoped BigOperators

/-! ## The reference -/

section reference
open Cert.Reference4Ideal Cert.Reference4Ideal.Gen Cert.Reference4Ideal.Read

theorem product_at (x0 : (⟨S4096x5632, .bf16⟩ : BufTy).Contents (Elt Ideal)) (x1 : (⟨S4096x2048, .bf16⟩ : BufTy).Contents (Elt Ideal)) (i j : ℕ) (hi : i < 2048) (hj : j < 5632) :
    n2 (val_main_v4 x0 x1 : S2048x5632.Idx → EReal) i j
      = ∑ k : Fin 4096, n2 (x0 : S4096x5632.Idx → EReal) k.val j * n2 (x1 : S4096x2048.Idx → EReal) k.val i := by
  refine (n2_eq (val_main_v4 x0 x1 : S2048x5632.Idx → EReal) i j (ix2 ⟨i, hi⟩ ⟨j, hj⟩) rfl rfl).trans ?_
  refine (val_main_v4_apply x0 x1 (ix2 ⟨i, hi⟩ ⟨j, hj⟩)).trans (Finset.sum_congr rfl fun k _ => ?_)
  exact (congrArg₂ (fun a b : EReal => a * b) (n2_eq (x1 : S4096x2048.Idx → EReal) k.val i (lidx_main_v4 (ix2 ⟨i, hi⟩ ⟨j, hj⟩) k) rfl rfl).symm
    (n2_eq (x0 : S4096x5632.Idx → EReal) k.val j (ridx_main_v4 (ix2 ⟨i, hi⟩ ⟨j, hj⟩) k) rfl rfl).symm).trans (mul_comm _ _)

theorem reference_at (x0 : (⟨S4096x5632, .bf16⟩ : BufTy).Contents (Elt Ideal)) (x1 : (⟨S4096x2048, .bf16⟩ : BufTy).Contents (Elt Ideal)) (p : Fin 8) (r : Fin 768) (d : Fin 2048) :
    val_main_v8 x0 x1 (ix3 p r d)
      = ∑ k : Fin 4096, sc 704 (x0 : S4096x5632.Idx → EReal) p.val k.val r.val * n2 (x1 : S4096x2048.Idx → EReal) k.val d.val := by
  have e : val_main_v8 x0 x1 (ix3 p r d) = sr 704 (val_main_v6 x0 x1 : S5632x2048.Idx → EReal) p.val r.val d.val :=
    rows_room (P := 8) (w := 704) (w' := 768) (g := 64) (val_main_v6 x0 x1 : S5632x2048.Idx → EReal) rfl shapeCasts_S5632x2048_S8x704x2048
      _ pads_S8x704x2048_S8x768x2048_000_0640_000 h_S_ (room_zero .bf16) p r d
  refine e.trans ?_
  unfold sr sc
  by_cases h : r.val < 704
  · have hp := p.isLt
    simp only [if_pos h]
    refine (flip_at (val_main_v4 x0 x1 : S2048x5632.Idx → EReal) transposes_S2048x5632_S5632x2048_1_0 _ _).trans ?_
    exact product_at x0 x1 _ _ d.isLt (by omega)
  · simp only [if_neg h, zero_mul, Finset.sum_const_zero]

end reference

/-- The reference runs, gives its arguments back and, having no semaphores, leaves none raised. -/
theorem reference_runs : Cert.quiescent_Reference4Ideal (hReference4Ideal := Cert.Reference4Ideal.Gen.facts) := fun m ρ _ =>
  (θ_run _ _ _).mono (fun _ h => And.intro (fun c => (h c).2) (sem_eq_zero_of_no_sems (by decide) _)) (Cert.Reference4Ideal.Value.run m ρ)

/-! ## The two programs' results -/

theorem equal : Cert.algebraic_Kernel4Ideal_Reference4Ideal (hKernel4Ideal := Cert.Kernel4Ideal.Gen.facts)
    (hReference4Ideal := Cert.Reference4Ideal.Gen.facts) := by
  intro m g m' g' _ ha
  refine ⟨fun c => Cert.Kernel4Ideal.Value.G2 m c, ?_, ?_⟩
  · exact (θ_run _ _ _).mono (fun r h c => ⟨(h c).1, (h c).2⟩) (Cert.Kernel4Ideal.Value.run m g)
  · refine (θ_run _ _ _).mono (fun r h c => ?_) (Cert.Reference4Ideal.Value.run m' g')
    obtain ⟨h0, h1⟩ := h c
    obtain ⟨a0, a1⟩ := ha c
    refine ⟨h0.trans ?_, h1⟩
    refine (Cert.Reference4Ideal.Read.val_main_v8_eq _ _).trans (ext3 fun p r d => ?_)
    refine Eq.trans ?_ ((reference_at _ _ p r d).trans (result m c p r d).symm)
    exact congrFun (congrArg₂ (Cert.Reference4Ideal.Read.val_main_v8 (F := Idealize.ShloMosaic.Ideal)) a0 a1) _

end Cert.Mat.K4

end
-- ==== Proof.Ffn.K5Block.lean ====
/- The backward kernel of the two up-projections: what each grid point leaves in its running sums and writes. -/
module

public import proofs.«01_k».proof.Proof.Gen.Kernel5Ideal.Frame
public import proofs.«01_k».proof.Proof.Ffn.Common

@[expose] public section

set_option maxRecDepth 16384

noncomputable section

namespace Cert.Mat.K5

open Cert.Kernel5Ideal Cert.Kernel5Ideal.Gen Idealize.ShloMosaic Idealize.ShloMosaic.ValueIdx
open Idealize.ShloMosaic.TcCoe Idealize.SL.Sem

section points
variable (c : Dev nD) (i : grid0.Coords)
  (arg2 : Memref sig .tc .vmem S1x512x768 .bf16) (harg2 : arg2.IsWhole)
  (arg3 : Memref sig .tc .vmem S1x512x768 .bf16) (harg3 : arg3.IsWhole)
  (arg4 : Memref sig .tc .vmem S1x512x768 .bf16) (harg4 : arg4.IsWhole)
  (arg5 : Memref sig .tc .vmem S1x512x768 .bf16) (harg5 : arg5.IsWhole)
  (arg6 : Memref sig .tc .vmem S1x768x2048 .bf16) (harg6 : arg6.IsWhole)
  (arg7 : Memref sig .tc .vmem S1x768x2048 .bf16) (harg7 : arg7.IsWhole)
  (arg8 : Memref sig .tc .vmem S1x768x2048 .bf16) (harg8 : arg8.IsWhole)
  (arg9 : Memref sig .tc .vmem S1x768x2048 .bf16) (harg9 : arg9.IsWhole)
  (arg10 : Memref sig .tc .vmem S512x2048 .bf16) (harg10 : arg10.IsWhole)
  (arg11 : Memref sig .tc .vmem S512x2048 .f32) (harg11 : arg11.IsWhole)
  (x0 : Vec Ideal S1x512x768 .bf16)
  (x1 : Vec Ideal S1x512x768 .bf16)
  (x2 : Vec Ideal S1x512x768 .bf16)
  (x3 : Vec Ideal S1x512x768 .bf16)
  (x4 : Vec Ideal S1x768x2048 .bf16)
  (x5 : Vec Ideal S1x768x2048 .bf16)
  (x6 : Vec Ideal S1x768x2048 .bf16)
  (x7 : Vec Ideal S1x768x2048 .bf16)
  (xs0 : Vec Ideal S512x2048 .f32)

/-- The running sums after a point: case A. -/
theorem sA (hc0 : cond0_0 i) (hc1 : ¬cond0_1 i) :
    sout0_A_0 c i arg2 harg2 arg3 harg3 arg4 harg4 arg5 harg5 arg6 harg6 arg7 harg7 arg8 harg8 arg9 harg9 arg10 harg10 arg11 harg11 hc0 hc1 x0 x1 x2 x3 x4 x5 x6 x7 = k0_pay1 (k0_pay4 x0 x4 x1 x5 x2 x6 x3 x7) (k0_pay3 (F := Ideal)) := by
  unfold sout0_A_0 kernelRun0_A
  dsimp only
  refine (write2 _ _ _ _ _).trans ?_
  unfold kernelRun0_A.sl.v26
  unfold kernelRun0_A.sl.HS0_1
  unfold kernelRun0_A.sl.r
  simp only [readAt2, readAt3, readCov2]

/-- The running sums after a point: case B. -/
theorem sB (hc0 : ¬cond0_0 i) (hc1 : ¬cond0_1 i) :
    sout0_B_0 c i arg2 harg2 arg3 harg3 arg4 harg4 arg5 harg5 arg6 harg6 arg7 harg7 arg8 harg8 arg9 harg9 arg10 harg10 arg11 harg11 hc0 hc1 x0 x1 x2 x3 x4 x5 x6 x7 xs0 = k0_pay1 (k0_pay4 x0 x4 x1 x5 x2 x6 x3 x7) xs0 := by
  unfold sout0_B_0 kernelRun0_B
  dsimp only
  refine (write2 _ _ _ _ _).trans ?_
  unfold kernelRun0_B.sl.r
  simp only [readAt2, readAt3, readCov2]

/-- The running sums after a point: case C. -/
theorem sC (hc0 : ¬cond0_0 i) (hc1 : cond0_1 i) :
    sout0_C_0 c i arg2 harg2 arg3 harg3 arg4 harg4 arg5 harg5 arg6 harg6 arg7 harg7 arg8 harg8 arg9 harg9 arg10 harg10 arg11 harg11 hc0 hc1 x0 x1 x2 x3 x4 x5 x6 x7 xs0 = k0_pay1 (k0_pay4 x0 x4 x1 x5 x2 x6 x3 x7) xs0 := by
  unfold sout0_C_0 kernelRun0_C
  dsimp only
  refine (write2 _ _ _ _ _).trans ?_
  unfold kernelRun0_C.sl.r
  simp only [readAt2, readAt3, readCov2]

/-- What the last point of a cycle writes. -/
theorem oL (hc0 : ¬cond0_0 i) (hc1 : cond0_1 i) :
    out0_C_8 c i arg2 harg2 arg3 harg3 arg4 harg4 arg5 harg5 arg6 harg6 arg7 harg7 arg8 harg8 arg9 harg9 arg10 harg10 arg11 harg11 hc0 hc1 x0 x1 x2 x3 x4 x5 x6 x7 xs0 = k0_pay2 (k0_pay1 (k0_pay4 x0 x4 x1 x5 x2 x6 x3 x7) xs0) := by
  unfold out0_C_8 kernelRun0_C
  dsimp only
  refine (write2 _ _ _ _ _).trans ?_
  unfold kernelRun0_C.sl.v34
  unfold kernelRun0_C.sl.HS0_1
  unfold kernelRun0_C.sl.r
  simp only [readAt2, readAt3, readCov2]

end points

end Cert.Mat.K5

end
-- ==== Proof.Ffn.K5Fold.lean ====
/- The backward kernel of the two up-projections: the blocks of a grid point, its running sums, and the result. -/
module

public import proofs.«01_k».proof.Proof.Ffn.K5Block
public import proofs.«01_k».proof.Proof.Ffn.Layout
public import proofs.«01_k».proof.Proof.Gen.Kernel5Ideal.Value
public import Idealize.ShloMosaic.Lib.StableHlo.ReadAt

@[expose] public section

set_option maxRecDepth 16384

noncomputable section

namespace Cert.Mat.K5

open Cert.Kernel5Ideal Cert.Kernel5Ideal.Gen Idealize.ShloMosaic.ValueIdx
open Idealize.ShloMosaic hiding ix1 ix2 ix3 eq_ix1 eq_ix2 eq_ix3
open Idealize.ShloMosaic.TcCoe Idealize.SL.Sem
open scoped BigOperators

/-! ## A point's arithmetic -/

theorem zero_at (r : Fin 512) (d : Fin 2048) : (k0_pay3 (F := Ideal)) (ix2 r d) = (0 : EReal) :=
  (congrFun (same_cast (fun _ => Ideal.ofBits .f32 0x00000000#32 : S512x2048.Idx → EReal) shapeCasts_S512x2048_S512x2048) (ix2 r d)).trans Ideal.ofBits_zero_f32

theorem upd_at (x0 x1 x2 x3 : Vec Ideal S1x512x768 .bf16) (x4 x5 x6 x7 : Vec Ideal S1x768x2048 .bf16) (acc : Vec Ideal S512x2048 .f32) (r : Fin 512) (d : Fin 2048) :
    k0_pay1 (k0_pay4 x0 x4 x1 x5 x2 x6 x3 x7) acc (ix2 r d)
      = acc (ix2 r d) + ((((∑ k : Fin 768, x0 (ix3 0 r k) * x4 (ix3 0 k d)) + ∑ k : Fin 768, x1 (ix3 0 r k) * x5 (ix3 0 k d))
          + ∑ k : Fin 768, x2 (ix3 0 r k) * x6 (ix3 0 k d)) + ∑ k : Fin 768, x3 (ix3 0 r k) * x7 (ix3 0 k d)) := by
  have e (x : Vec Ideal S1x512x768 .bf16) (y : Vec Ideal S1x768x2048 .bf16) :
      FloatOps.matmul (F := Ideal) (φ₁ := .bf16) (φ₂ := .bf16) (DotDims.plain 512 768 2048) none (shapeCast S512x768 x shapeCasts_S1x512x768_S512x768)
        (shapeCast S768x2048 y shapeCasts_S1x768x2048_S768x2048) (constant S512x2048 .f32 0x00000000#32) (ix2 r d)
        = ∑ k : Fin 768, x (ix3 0 r k) * y (ix3 0 k d) :=
    (plain_n (φ₁ := .bf16) (φ₂ := .bf16) _ _ r d).trans (Finset.sum_congr rfl fun k _ => congrArg₂ (· * ·) (drop_slot x _ r k) (drop_slot y _ k d))
  unfold k0_pay1 k0_pay4
  refine (congrFun (same_cast _ _) (ix2 r d)).trans ?_
  exact congrArg (acc (ix2 r d) + ·) (congrArg₂ (· + ·) (congrArg₂ (· + ·) (congrArg₂ (· + ·) (e x0 x4) (e x1 x5)) (e x2 x6)) (e x3 x7))

/-! ## The blocks -/

theorem pt_lt (t : Fin cfg0.N) : t.val < 32 := lt_of_lt_of_eq t.isLt (show cfg0.N = 32 from N_0)

theorem index_0 : ∀ t : Fin cfg0.N, win0_0.index t (0 : Fin 3) = 2 * (t.val % 4) ∧ win0_0.index t (1 : Fin 3) = t.val / 4 ∧ win0_0.index t (2 : Fin 3) = 0 := by decide +kernel
theorem index_1 : ∀ t : Fin cfg0.N, win0_1.index t (0 : Fin 3) = 2 * (t.val % 4) ∧ win0_1.index t (1 : Fin 3) = t.val / 4 ∧ win0_1.index t (2 : Fin 3) = 0 := by decide +kernel
theorem index_2 : ∀ t : Fin cfg0.N, win0_2.index t (0 : Fin 3) = 2 * (t.val % 4) + 1 ∧ win0_2.index t (1 : Fin 3) = t.val / 4 ∧ win0_2.index t (2 : Fin 3) = 0 := by decide +kernel
theorem index_3 : ∀ t : Fin cfg0.N, win0_3.index t (0 : Fin 3) = 2 * (t.val % 4) + 1 ∧ win0_3.index t (1 : Fin 3) = t.val / 4 ∧ win0_3.index t (2 : Fin 3) = 0 := by decide +kernel
theorem index_4 : ∀ t : Fin cfg0.N, win0_4.index t (0 : Fin 3) = 2 * (t.val % 4) ∧ win0_4.index t (1 : Fin 3) = 0 ∧ win0_4.index t (2 : Fin 3) = 0 := by decide +kernel
theorem index_5 : ∀ t : Fin cfg0.N, win0_5.index t (0 : Fin 3) = 2 * (t.val % 4) ∧ win0_5.index t (1 : Fin 3) = 0 ∧ win0_5.index t (2 : Fin 3) = 0 := by decide +kernel
theorem index_6 : ∀ t : Fin cfg0.N, win0_6.index t (0 : Fin 3) = 2 * (t.val % 4) + 1 ∧ win0_6.index t (1 : Fin 3) = 0 ∧ win0_6.index t (2 : Fin 3) = 0 := by decide +kernel
theorem index_7 : ∀ t : Fin cfg0.N, win0_7.index t (0 : Fin 3) = 2 * (t.val % 4) + 1 ∧ win0_7.index t (1 : Fin 3) = 0 ∧ win0_7.index t (2 : Fin 3) = 0 := by decide +kernel

variable (m : (ℓ : Loc nD τ sig) → Buf (Elt Ideal) ℓ) (c : Dev nD)

/-- The gate's cotangent. -/
abbrev aA := (m ((c : Thread nD τ).loc main_arg0) : S4096x5632.Idx → EReal)
/-- The other branch's cotangent. -/
abbrev aB := (m ((c : Thread nD τ).loc main_arg1) : S4096x5632.Idx → EReal)
/-- The gate's weight. -/
abbrev wA := (m ((c : Thread nD τ).loc main_arg2) : S2048x5632.Idx → EReal)
/-- The other branch's weight. -/
abbrev wB := (m ((c : Thread nD τ).loc main_arg3) : S2048x5632.Idx → EReal)

theorem host_main_v10 (y : S8x4096x768.Idx) : (V m c main_v10 : S8x4096x768.Idx → EReal) y = sc 704 (aA m c) (y 0).val (y 1).val (y 2).val := by
  unfold V
  after_reads_at
  refine sc_choice 704 (aA m c) _ _ _ _ _ (room_zero _) (fun _ => rfl) (fun _ => ?_)
  show (y 0).val * 704 + (y 2).val = _
  omega

theorem host_main_v13 (y : S8x4096x768.Idx) : (V m c main_v13 : S8x4096x768.Idx → EReal) y = sc 704 (aB m c) (y 0).val (y 1).val (y 2).val := by
  unfold V
  after_reads_at
  refine sc_choice 704 (aB m c) _ _ _ _ _ (room_zero _) (fun _ => rfl) (fun _ => ?_)
  show (y 0).val * 704 + (y 2).val = _
  omega

theorem host_main_v3 (y : S8x768x2048.Idx) : (V m c main_v3 : S8x768x2048.Idx → EReal) y = sc 704 (wA m c) (y 0).val (y 2).val (y 1).val := by
  unfold V
  after_reads_at
  refine sc_choice 704 (wA m c) _ _ _ _ _ (room_zero _) (fun _ => rfl) (fun _ => ?_)
  show (y 0).val * 704 + (y 1).val = _
  omega

theorem host_main_v7 (y : S8x768x2048.Idx) : (V m c main_v7 : S8x768x2048.Idx → EReal) y = sc 704 (wB m c) (y 0).val (y 2).val (y 1).val := by
  unfold V
  after_reads_at
  refine sc_choice 704 (wB m c) _ _ _ _ _ (room_zero _) (fun _ => rfl) (fun _ => ?_)
  show (y 0).val * 704 + (y 1).val = _
  omega

theorem blk_0 (t : Fin cfg0.N) (r : Fin 512) (k : Fin 768) :
    (iblk m c 0 t : Vec Ideal S1x512x768 .bf16) (ix3 0 r k) = sc 704 (aA m c) (2 * (t.val % 4)) (512 * (t.val / 4) + r.val) k.val := by
  have e : (iblk m c 0 t : Vec Ideal S1x512x768 .bf16) (ix3 0 r k)
      = (V m c main_v10 : S8x4096x768.Idx → EReal) (((cfg0.win 0).blk t).view.emb (ix3 0 r k)) := rfl
  have e0 : ((((cfg0.win 0).blk t).view.emb (ix3 0 r k) : S8x4096x768.Idx) 0).val = 2 * (t.val % 4) := by
    show win0_0.index t (0 : Fin 3) * 1 + 1 * 0 = 2 * (t.val % 4)
    rw [(index_0 t).1]; omega
  have e1 : ((((cfg0.win 0).blk t).view.emb (ix3 0 r k) : S8x4096x768.Idx) 1).val = 512 * (t.val / 4) + r.val := by
    show win0_0.index t (1 : Fin 3) * 512 + 1 * r.val = 512 * (t.val / 4) + r.val
    rw [(index_0 t).2.1]; omega
  have e2 : ((((cfg0.win 0).blk t).view.emb (ix3 0 r k) : S8x4096x768.Idx) 2).val = k.val := by
    show win0_0.index t (2 : Fin 3) * 768 + 1 * k.val = k.val
    rw [(index_0 t).2.2]; omega
  rw [e, host_main_v10, e0, e1, e2]

theorem blk_1 (t : Fin cfg0.N) (r : Fin 512) (k : Fin 768) :
    (iblk m c 1 t : Vec Ideal S1x512x768 .bf16) (ix3 0 r k) = sc 704 (aB m c) (2 * (t.val % 4)) (512 * (t.val / 4) + r.val) k.val := by
  have e : (iblk m c 1 t : Vec Ideal S1x512x768 .bf16) (ix3 0 r k)
      = (V m c main_v13 : S8x4096x768.Idx → EReal) (((cfg0.win 1).blk t).view.emb (ix3 0 r k)) := rfl
  have e0 : ((((cfg0.win 1).blk t).view.emb (ix3 0 r k) : S8x4096x768.Idx) 0).val = 2 * (t.val % 4) := by
    show win0_1.index t (0 : Fin 3) * 1 + 1 * 0 = 2 * (t.val % 4)
    rw [(index_1 t).1]; omega
  have e1 : ((((cfg0.win 1).blk t).view.emb (ix3 0 r k) : S8x4096x768.Idx) 1).val = 512 * (t.val / 4) + r.val := by
    show win0_1.index t (1 : Fin 3) * 512 + 1 * r.val = 512 * (t.val / 4) + r.val
    rw [(index_1 t).2.1]; omega
  have e2 : ((((cfg0.win 1).blk t).view.emb (ix3 0 r k) : S8x4096x768.Idx) 2).val = k.val := by
    show win0_1.index t (2 : Fin 3) * 768 + 1 * k.val = k.val
    rw [(index_1 t).2.2]; omega
  rw [e, host_main_v13, e0, e1, e2]

theorem blk_2 (t : Fin cfg0.N) (r : Fin 512) (k : Fin 768) :
    (iblk m c 2 t : Vec Ideal S1x512x768 .bf16) (ix3 0 r k) = sc 704 (aA m c) (2 * (t.val % 4) + 1) (512 * (t.val / 4) + r.val) k.val := by
  have e : (iblk m c 2 t : Vec Ideal S1x512x768 .bf16) (ix3 0 r k)
      = (V m c main_v10 : S8x4096x768.Idx → EReal) (((cfg0.win 2).blk t).view.emb (ix3 0 r k)) := rfl
  have e0 : ((((cfg0.win 2).blk t).view.emb (ix3 0 r k) : S8x4096x768.Idx) 0).val = 2 * (t.val % 4) + 1 := by
    show win0_2.index t (0 : Fin 3) * 1 + 1 * 0 = 2 * (t.val % 4) + 1
    rw [(index_2 t).1]; omega
  have e1 : ((((cfg0.win 2).blk t).view.emb (ix3 0 r k) : S8x4096x768.Idx) 1).val = 512 * (t.val / 4) + r.val := by
    show win0_2.index t (1 : Fin 3) * 512 + 1 * r.val = 512 * (t.val / 4) + r.val
    rw [(index_2 t).2.1]; omega
  have e2 : ((((cfg0.win 2).blk t).view.emb (ix3 0 r k) : S8x4096x768.Idx) 2).val = k.val := by
    show win0_2.index t (2 : Fin 3) * 768 + 1 * k.val = k.val
    rw [(index_2 t).2.2]; omega
  rw [e, host_main_v10, e0, e1, e2]

theorem blk_3 (t : Fin cfg0.N) (r : Fin 512) (k : Fin 768) :
    (iblk m c 3 t : Vec Ideal S1x512x768 .bf16) (ix3 0 r k) = sc 704 (aB m c) (2 * (t.val % 4) + 1) (512 * (t.val / 4) + r.val) k.val := by
  have e : (iblk m c 3 t : Vec Ideal S1x512x768 .bf16) (ix3 0 r k)
      = (V m c main_v13 : S8x4096x768.Idx → EReal) (((cfg0.win 3).blk t).view.emb (ix3 0 r k)) := rfl
  have e0 : ((((cfg0.win 3).blk t).view.emb (ix3 0 r k) : S8x4096x768.Idx) 0).val = 2 * (t.val % 4) + 1 := by
    show win0_3.index t (0 : Fin 3) * 1 + 1 * 0 = 2 * (t.val % 4) + 1
    rw [(index_3 t).1]; omega
  have e1 : ((((cfg0.win 3).blk t).view.emb (ix3 0 r k) : S8x4096x768.Idx) 1).val = 512 * (t.val / 4) + r.val := by
    show win0_3.index t (1 : Fin 3) * 512 + 1 * r.val = 512 * (t.val / 4) + r.val
    rw [(index_3 t).2.1]; omega
  have e2 : ((((cfg0.win 3).blk t).view.emb (ix3 0 r k) : S8x4096x768.Idx) 2).val = k.val := by
    show win0_3.index t (2 : Fin 3) * 768 + 1 * k.val = k.val
    rw [(index_3 t).2.2]; omega
  rw [e, host_main_v13, e0, e1, e2]

theorem blk_4 (t : Fin cfg0.N) (r : Fin 768) (k : Fin 2048) :
    (iblk m c 4 t : Vec Ideal S1x768x2048 .bf16) (ix3 0 r k) = sc 704 (wA m c) (2 * (t.val % 4)) k.val r.val := by
  have e : (iblk m c 4 t : Vec Ideal S1x768x2048 .bf16) (ix3 0 r k)
      = (V m c main_v3 : S8x768x2048.Idx → EReal) (((cfg0.win 4).blk t).view.emb (ix3 0 r k)) := rfl
  have e0 : ((((cfg0.win 4).blk t).view.emb (ix3 0 r k) : S8x768x2048.Idx) 0).val = 2 * (t.val % 4) := by
    show win0_4.index t (0 : Fin 3) * 1 + 1 * 0 = 2 * (t.val % 4)
    rw [(index_4 t).1]; omega
  have e1 : ((((cfg0.win 4).blk t).view.emb (ix3 0 r k) : S8x768x2048.Idx) 1).val = r.val := by
    show win0_4.index t (1 : Fin 3) * 768 + 1 * r.val = r.val
    rw [(index_4 t).2.1]; omega
  have e2 : ((((cfg0.win 4).blk t).view.emb (ix3 0 r k) : S8x768x2048.Idx) 2).val = k.val := by
    show win0_4.index t (2 : Fin 3) * 2048 + 1 * k.val = k.val
    rw [(index_4 t).2.2]; omega
  rw [e, host_main_v3, e0, e1, e2]

theorem blk_5 (t : Fin cfg0.N) (r : Fin 768) (k : Fin 2048) :
    (iblk m c 5 t : Vec Ideal S1x768x2048 .bf16) (ix3 0 r k) = sc 704 (wB m c) (2 * (t.val % 4)) k.val r.val := by
  have e : (iblk m c 5 t : Vec Ideal S1x768x2048 .bf16) (ix3 0 r k)
      = (V m c main_v7 : S8x768x2048.Idx → EReal) (((cfg0.win 5).blk t).view.emb (ix3 0 r k)) := rfl
  have e0 : ((((cfg0.win 5).blk t).view.emb (ix3 0 r k) : S8x768x2048.Idx) 0).val = 2 * (t.val % 4) := by
    show win0_5.index t (0 : Fin 3) * 1 + 1 * 0 = 2 * (t.val % 4)
    rw [(index_5 t).1]; omega
  have e1 : ((((cfg0.win 5).blk t).view.emb (ix3 0 r k) : S8x768x2048.Idx) 1).val = r.val := by
    show win0_5.index t (1 : Fin 3) * 768 + 1 * r.val = r.val
    rw [(index_5 t).2.1]; omega
  have e2 : ((((cfg0.win 5).blk t).view.emb (ix3 0 r k) : S8x768x2048.Idx) 2).val = k.val := by
    show win0_5.index t (2 : Fin 3) * 2048 + 1 * k.val = k.val
    rw [(index_5 t).2.2]; omega
  rw [e, host_main_v7, e0, e1, e2]

theorem blk_6 (t : Fin cfg0.N) (r : Fin 768) (k : Fin 2048) :
    (iblk m c 6 t : Vec Ideal S1x768x2048 .bf16) (ix3 0 r k) = sc 704 (wA m c) (2 * (t.val % 4) + 1) k.val r.val := by
  have e : (iblk m c 6 t : Vec Ideal S1x768x2048 .bf16) (ix3 0 r k)
      = (V m c main_v3 : S8x768x2048.Idx → EReal) (((cfg0.win 6).blk t).view.emb (ix3 0 r k)) := rfl
  have e0 : ((((cfg0.win 6).blk t).view.emb (ix3 0 r k) : S8x768x2048.Idx) 0).val = 2 * (t.val % 4) + 1 := by
    show win0_6.index t (0 : Fin 3) * 1 + 1 * 0 = 2 * (t.val % 4) + 1
    rw [(index_6 t).1]; omega
  have e1 : ((((cfg0.win 6).blk t).view.emb (ix3 0 r k) : S8x768x2048.Idx) 1).val = r.val := by
    show win0_6.index t (1 : Fin 3) * 768 + 1 * r.val = r.val
    rw [(index_6 t).2.1]; omega
  have e2 : ((((cfg0.win 6).blk t).view.emb (ix3 0 r k) : S8x768x2048.Idx) 2).val = k.val := by
    show win0_6.index t (2 : Fin 3) * 2048 + 1 * k.val = k.val
    rw [(index_6 t).2.2]; omega
  rw [e, host_main_v3, e0, e1, e2]

theorem blk_7 (t : Fin cfg0.N) (r : Fin 768) (k : Fin 2048) :
    (iblk m c 7 t : Vec Ideal S1x768x2048 .bf16) (ix3 0 r k) = sc 704 (wB m c) (2 * (t.val % 4) + 1) k.val r.val := by
  have e : (iblk m c 7 t : Vec Ideal S1x768x2048 .bf16) (ix3 0 r k)
      = (V m c main_v7 : S8x768x2048.Idx → EReal) (((cfg0.win 7).blk t).view.emb (ix3 0 r k)) := rfl
  have e0 : ((((cfg0.win 7).blk t).view.emb (ix3 0 r k) : S8x768x2048.Idx) 0).val = 2 * (t.val % 4) + 1 := by
    show win0_7.index t (0 : Fin 3) * 1 + 1 * 0 = 2 * (t.val % 4) + 1
    rw [(index_7 t).1]; omega
  have e1 : ((((cfg0.win 7).blk t).view.emb (ix3 0 r k) : S8x768x2048.Idx) 1).val = r.val := by
    show win0_7.index t (1 : Fin 3) * 768 + 1 * r.val = r.val
    rw [(index_7 t).2.1]; omega
  have e2 : ((((cfg0.win 7).blk t).view.emb (ix3 0 r k) : S8x768x2048.Idx) 2).val = k.val := by
    show win0_7.index t (2 : Fin 3) * 2048 + 1 * k.val = k.val
    rw [(index_7 t).2.2]; omega
  rw [e, host_main_v7, e0, e1, e2]

/-! ## The running sums -/

/-- What point `s` of block `q`'s cycle adds. -/
def add (q s : ℕ) (r : Fin 512) (d : Fin 2048) : EReal :=
  (((∑ k : Fin 704, n2 (aA m c) (512 * q + r.val) (704 * (2 * s) + k.val) * n2 (wA m c) d.val (704 * (2 * s) + k.val))
    + (∑ k : Fin 704, n2 (aB m c) (512 * q + r.val) (704 * (2 * s) + k.val) * n2 (wB m c) d.val (704 * (2 * s) + k.val)))
    + (∑ k : Fin 704, n2 (aA m c) (512 * q + r.val) (704 * (2 * s + 1) + k.val) * n2 (wA m c) d.val (704 * (2 * s + 1) + k.val)))
    + (∑ k : Fin 704, n2 (aB m c) (512 * q + r.val) (704 * (2 * s + 1) + k.val) * n2 (wB m c) d.val (704 * (2 * s + 1) + k.val))

theorem upd_add (t : Fin cfg0.N) (acc : Vec Ideal S512x2048 .f32) (r : Fin 512) (d : Fin 2048) :
    k0_pay1 (k0_pay4 (iblk m c 0 t) (iblk m c 4 t) (iblk m c 1 t) (iblk m c 5 t) (iblk m c 2 t) (iblk m c 6 t) (iblk m c 3 t) (iblk m c 7 t)) acc (ix2 r d)
      = acc (ix2 r d) + add m c (t.val / 4) (t.val % 4) r d :=
  (upd_at (iblk m c 0 t) (iblk m c 1 t) (iblk m c 2 t) (iblk m c 3 t) (iblk m c 4 t) (iblk m c 5 t) (iblk m c 6 t) (iblk m c 7 t) acc r d).trans
    (congrArg (acc (ix2 r d) + ·) (congrArg₂ (· + ·) (congrArg₂ (· + ·) (congrArg₂ (· + ·)
    ((Finset.sum_congr rfl fun k _ => congrArg₂ (fun a b : EReal => a * b) (blk_0 m c t r k) (blk_4 m c t k d)).trans (sc_sc 704 768 64 rfl (aA m c) (wA m c) _ _ _))
    ((Finset.sum_congr rfl fun k _ => congrArg₂ (fun a b : EReal => a * b) (blk_1 m c t r k) (blk_5 m c t k d)).trans (sc_sc 704 768 64 rfl (aB m c) (wB m c) _ _ _)))
    ((Finset.sum_congr rfl fun k _ => congrArg₂ (fun a b : EReal => a * b) (blk_2 m c t r k) (blk_6 m c t k d)).trans (sc_sc 704 768 64 rfl (aA m c) (wA m c) _ _ _)))
    ((Finset.sum_congr rfl fun k _ => congrArg₂ (fun a b : EReal => a * b) (blk_3 m c t r k) (blk_7 m c t k d)).trans (sc_sc 704 768 64 rfl (aB m c) (wB m c) _ _ _))))

theorem scr : ∀ (t : ℕ) (h : t < cfg0.N) (r : Fin 512) (d : Fin 2048),
    (outsAt0 m c t h).2 (ix2 r d) = ∑ s ∈ Finset.range (t % 4 + 1), add m c (t / 4) s r d := by
  refine run_sum 4 cfg0.N (by decide) (fun t h r d => (outsAt0 m c t h).2 (ix2 r d)) (fun q s r d => add m c q s r d) ?_ ?_
  · intro t h r d h0
    rw [outsAt0_A m c ⟨t, h⟩ h0 (by dsimp only; omega)]
    dsimp only
    rw [sA]
    exact (upd_add m c ⟨t, h⟩ _ r d).trans (congrArg (· + _) (zero_at r d))
  · intro t h r d h0
    by_cases h1 : t % 4 = 3
    · rw [outsAt0_C m c ⟨t, h⟩ h0 h1]
      dsimp only
      rw [sC]
      exact upd_add m c ⟨t, h⟩ _ r d
    · rw [outsAt0_B m c ⟨t, h⟩ h0 h1]
      dsimp only
      rw [sB]
      exact upd_add m c ⟨t, h⟩ _ r d

/-- The block a cycle's last point writes. -/
theorem out (t : Fin cfg0.N) (h1 : t.val % 4 = 3) (r : Fin 512) (d : Fin 2048) :
    (outsAt0 m c t.val t.isLt).1 (ix2 r d) = ∑ s ∈ Finset.range 4, add m c (t.val / 4) s r d := by
  have e := scr m c t.val t.isLt r d
  rw [h1] at e
  rw [outsAt0_C m c t (by omega) h1] at e ⊢
  dsimp only at e ⊢
  rw [oL]
  rw [sC] at e
  exact e

/-! ## The result -/

open Cert.Kernel5Ideal.Value in
theorem result (Q : Fin 4096) (d : Fin 2048) :
    (G8 m c : S4096x2048.Idx → EReal) (ix2 Q d) = (∑ k : Fin 5632, n2 (aA m c) Q.val k.val * n2 (wA m c) d.val k.val) + ∑ k : Fin 5632, n2 (aB m c) Q.val k.val * n2 (wB m c) d.val k.val := by
  have hN : cfg0.N = 32 := N_0
  have hp : pt8Of (ix2 Q d) = 4 * (Q.val / 512) + 3 := by
    show 4 * (1 * (Q.val / 512 - 0) + 1 * (d.val / 2048 - 0)) + 3 = _; omega
  have hb' : pt8Of (ix2 Q d) < cfg0.N := by rw [hp, hN]; omega
  unfold G8
  rw [dif_pos hb', ← outsAt0_sweep]
  have e := out m c ⟨pt8Of (ix2 Q d), hb'⟩ (by show pt8Of (ix2 Q d) % 4 = 3; rw [hp]; omega) ⟨Q.val % 512, by omega⟩ d
  have hl : loc8Of (ix2 Q d) = ix2 (⟨Q.val % 512, by omega⟩ : Fin 512) d := by
    funext a
    match a with
    | ⟨0, _⟩ => rfl
    | ⟨1, _⟩ => exact Fin.ext (by show d.val % 2048 = d.val; omega)
  rw [hl]
  refine e.trans ?_
  have hq : pt8Of (ix2 Q d) / 4 = Q.val / 512 := by rw [hp]; omega
  dsimp only
  rw [hq]
  unfold add
  have hr : 512 * (Q.val / 512) + Q.val % 512 = Q.val := by omega
  dsimp only
  rw [hr]
  refine Eq.trans ?_ (congrArg₂ (· + ·)
    (slots_sum (fun k => n2 (aA m c) Q.val k * n2 (wA m c) d.val k) 704 5632 rfl)
    (slots_sum (fun k => n2 (aB m c) Q.val k * n2 (wB m c) d.val k) 704 5632 rfl))
  refine Eq.trans ?_ Finset.sum_add_distrib
  refine Finset.sum_congr rfl fun s _ => ?_
  exact (add_assoc _ _ _).trans (add_add_add_comm _ _ _ _)

end Cert.Mat.K5

end
-- ==== Proof.Ffn.K5.lean ====
/- The backward kernel of the two up-projections and its reference: both give the same sum of products. -/
module

public import proofs.«01_k».proof.Proof.Ffn.K5Fold
public import proofs.«01_k».proof.Defs
public import proofs.«01_k».proof.Proof.Gen.Reference5Ideal.Run
public import proofs.«01_k».proof.Proof.Gen.Reference5Ideal.Read

@[expose] public section

set_option maxRecDepth 16384

noncomputable section

namespace Cert.Mat.K5

open Idealize.ShloMosaic.ValueIdx
open Idealize.ShloMosaic hiding ix1 ix2 ix3 eq_ix1 eq_ix2 eq_ix3
open Idealize.ShloMosaic.TcCoe Idealize.SL.Sem
open scoped BigOperators

/-! ## The reference -/

section reference
open Cert.Reference5Ideal Cert.Reference5Ideal.Gen Cert.Reference5Ideal.Read

theorem reference_at (x0 : (⟨S4096x5632, .bf16⟩ : BufTy).Contents (Elt Ideal)) (x1 : (⟨S4096x5632, .bf16⟩ : BufTy).Contents (Elt Ideal)) (x2 : (⟨S2048x5632, .f32⟩ : BufTy).Contents (Elt Ideal)) (x3 : (⟨S2048x5632, .f32⟩ : BufTy).Contents (Elt Ideal)) (r : Fin 4096) (d : Fin 2048) :
    val_main_v8 x0 x1 x2 x3 (ix2 r d)
      = (∑ k : Fin 5632, n2 (x0 : S4096x5632.Idx → EReal) r.val k.val * n2 (x2 : S2048x5632.Idx → EReal) d.val k.val)
        + ∑ k : Fin 5632, n2 (x1 : S4096x5632.Idx → EReal) r.val k.val * n2 (x3 : S2048x5632.Idx → EReal) d.val k.val := by
  have e : val_main_v8 x0 x1 x2 x3 (ix2 r d) = (val_main_v5 x1 x3 (ix2 r d) : EReal) + val_main_v6 x0 x2 (ix2 r d) := rfl
  refine e.trans ((add_comm _ _).trans (congrArg₂ (fun a b : EReal => a + b) ?_ ?_))
  · refine (val_main_v6_apply x0 x2 (ix2 r d)).trans (Finset.sum_congr rfl fun k _ => ?_)
    exact congrArg₂ (fun a b : EReal => a * b) (n2_eq (x0 : S4096x5632.Idx → EReal) _ _ (lidx_main_v6 (ix2 r d) k) rfl rfl).symm
      (n2_eq (x2 : S2048x5632.Idx → EReal) _ _ (ridx_main_v6 (ix2 r d) k) rfl rfl).symm
  · refine (val_main_v5_apply x1 x3 (ix2 r d)).trans (Finset.sum_congr rfl fun k _ => ?_)
    exact congrArg₂ (fun a b : EReal => a * b) (n2_eq (x1 : S4096x5632.Idx → EReal) _ _ (lidx_main_v5 (ix2 r d) k) rfl rfl).symm
      (n2_eq (x3 : S2048x5632.Idx → EReal) _ _ (ridx_main_v5 (ix2 r d) k) rfl rfl).symm

end reference

/-- The reference runs, gives its arguments back and, having no semaphores, leaves none raised. -/
theorem reference_runs : Cert.quiescent_Reference5Ideal (hReference5Ideal := Cert.Reference5Ideal.Gen.facts) := fun m ρ _ =>
  (θ_run _ _ _).mono (fun _ h => And.intro (fun c => (h c).2) (sem_eq_zero_of_no_sems (by decide) _)) (Cert.Reference5Ideal.Value.run m ρ)

/-! ## The two programs' results -/

theorem equal : Cert.algebraic_Kernel5Ideal_Reference5Ideal (hKernel5Ideal := Cert.Kernel5Ideal.Gen.facts)
    (hReference5Ideal := Cert.Reference5Ideal.Gen.facts) := by
  intro m g m' g' _ ha
  refine ⟨fun c => Cert.Kernel5Ideal.Value.G8 m c, ?_, ?_⟩
  · exact (θ_run _ _ _).mono (fun r h c => ⟨(h c).1, (h c).2⟩) (Cert.Kernel5Ideal.Value.run m g)
  · refine (θ_run _ _ _).mono (fun r h c => ?_) (Cert.Reference5Ideal.Value.run m' g')
    obtain ⟨h0, h1⟩ := h c
    obtain ⟨a0, a1, a2, a3⟩ := ha c
    refine ⟨h0.trans ?_, h1⟩
    refine (Cert.Reference5Ideal.Read.val_main_v8_eq _ _ _ _).trans (ext2 fun r d => ?_)
    refine Eq.trans ?_ ((reference_at _ _ _ _ r d).trans (result m c r d).symm)
    exact congrFun (congr (congr (congrArg₂ (Cert.Reference5Ideal.Read.val_main_v8 (F := Idealize.ShloMosaic.Ideal)) a0 a1) a2) a3) _

end Cert.Mat.K5

end
-- ==== Proof.Ffn.K6Fold.lean ====
/- The input projection's kernel: the blocks of a grid point, and the result. -/
module

public import proofs.«01_k».proof.Proof.Ffn.Layout
public import proofs.«01_k».proof.Proof.Gen.Kernel6Ideal.Value
public import Idealize.ShloMosaic.Lib.StableHlo.ReadAt

@[expose] public section

set_option maxRecDepth 16384

noncomputable section

namespace Cert.Mat.K6

open Cert.Kernel6Ideal Cert.Kernel6Ideal.Gen Idealize.ShloMosaic.ValueIdx
open Idealize.ShloMosaic hiding ix1 ix2 ix3 eq_ix1 eq_ix2 eq_ix3
open Idealize.ShloMosaic.TcCoe Idealize.SL.Sem
open scoped BigOperators

/-! ## A point's arithmetic -/

theorem zero2 : (![0, 0] : Fin 2 → ℕ) = fun _ => 0 := funext fun a => by fin_cases a <;> rfl
theorem zero3 : (![0, 0, 0] : Fin 3 → ℕ) = fun _ => 0 := funext fun a => by fin_cases a <;> rfl

theorem out_eq (x0 : Vec Ideal S1024x2048 .bf16) (x1 : Vec Ideal S1x2048x1408 .bf16) : out0_2 x0 x1 = k0_pay1 x0 x1 := by
  unfold out0_2
  rw [View.canon_unit_zero zero2, View.ld_unit_zero zero2, View.ld_unit_zero zero3]

theorem pay_at (x0 : Vec Ideal S1024x2048 .bf16) (x1 : Vec Ideal S1x2048x1408 .bf16) (r : Fin 1024) (d : Fin 1408) :
    k0_pay1 x0 x1 (ix2 r d) = ∑ k : Fin 2048, x0 (ix2 r k) * x1 (ix3 0 k d) := by
  have e : FloatOps.matmul (F := Ideal) (φ₁ := .bf16) (φ₂ := .bf16) (DotDims.plain 1024 2048 1408) none x0
        (shapeCast S2048x1408 x1 shapeCasts_S1x2048x1408_S2048x1408) (constant S1024x1408 .f32 0x00000000#32) (ix2 r d)
        = ∑ k : Fin 2048, x0 (ix2 r k) * x1 (ix3 0 k d) :=
    (plain_n (φ₁ := .bf16) (φ₂ := .bf16) _ _ r d).trans (Finset.sum_congr rfl fun k _ => congrArg (x0 (ix2 r k) * ·) (drop_slot x1 _ k d))
  unfold k0_pay1
  exact e

/-! ## The blocks -/

theorem pt_lt (t : Fin cfg0.N) : t.val < 32 := lt_of_lt_of_eq t.isLt (show cfg0.N = 32 from N_0)

theorem index_0 : ∀ t : Fin cfg0.N, win0_0.index t (0 : Fin 2) = t.val % 4 ∧ win0_0.index t (1 : Fin 2) = 0 := by decide +kernel
theorem index_1 : ∀ t : Fin cfg0.N, win0_1.index t (0 : Fin 3) = t.val / 4 ∧ win0_1.index t (1 : Fin 3) = 0 ∧ win0_1.index t (2 : Fin 3) = 0 := by decide +kernel
theorem index_2 : ∀ t : Fin cfg0.N, win0_2.index t (0 : Fin 2) = t.val % 4 ∧ win0_2.index t (1 : Fin 2) = t.val / 4 := by decide +kernel
theorem flush_all : ∀ t : Fin cfg0.N, (cfg0.win 2).flush t = true := (by decide +kernel : ∀ t : Fin grid0.N, win0_2.flush t = true)

variable (m : (ℓ : Loc nD τ sig) → Buf (Elt Ideal) ℓ) (c : Dev nD)

/-- The normalised input. -/
abbrev aX := (m ((c : Thread nD τ).loc main_arg0) : S4096x2048.Idx → EReal)
/-- The weight. -/
abbrev aW := (m ((c : Thread nD τ).loc main_arg1) : S2048x11264.Idx → EReal)

theorem host_main_v2 (y : S8x2048x1408.Idx) : (V m c main_v2 : S8x2048x1408.Idx → EReal) y = n2 (aW m c) (y 1).val (1408 * (y 0).val + (y 2).val) := by
  unfold V
  after_reads_at
  refine (n2_eq (aW m c) _ _ _ rfl ?_).symm
  show (y 0).val * 1408 + (y 2).val = _
  omega

theorem blk_0 (t : Fin cfg0.N) (r : Fin 1024) (k : Fin 2048) :
    (iblk m c 0 t : Vec Ideal S1024x2048 .bf16) (ix2 r k) = n2 (aX m c) (1024 * (t.val % 4) + r.val) (k.val) := by
  have e : (iblk m c 0 t : Vec Ideal S1024x2048 .bf16) (ix2 r k)
      = (V m c main_arg0 : S4096x2048.Idx → EReal) (((cfg0.win 0).blk t).view.emb (ix2 r k)) := rfl
  rw [e, V_main_arg0]
  refine (n2_eq _ _ _ _ ?_ ?_).symm
  · show win0_0.index t (0 : Fin 2) * 1024 + 1 * r.val = 1024 * (t.val % 4) + r.val
    rw [(index_0 t).1]; omega
  · show win0_0.index t (1 : Fin 2) * 2048 + 1 * k.val = k.val
    rw [(index_0 t).2]; omega

theorem blk_1 (t : Fin cfg0.N) (r : Fin 2048) (k : Fin 1408) :
    (iblk m c 1 t : Vec Ideal S1x2048x1408 .bf16) (ix3 0 r k) = n2 (aW m c) r.val (1408 * (t.val / 4) + k.val) := by
  have e : (iblk m c 1 t : Vec Ideal S1x2048x1408 .bf16) (ix3 0 r k)
      = (V m c main_v2 : S8x2048x1408.Idx → EReal) (((cfg0.win 1).blk t).view.emb (ix3 0 r k)) := rfl
  have e0 : ((((cfg0.win 1).blk t).view.emb (ix3 0 r k) : S8x2048x1408.Idx) 0).val = t.val / 4 := by
    show win0_1.index t (0 : Fin 3) * 1 + 1 * 0 = t.val / 4
    rw [(index_1 t).1]; omega
  have e1 : ((((cfg0.win 1).blk t).view.emb (ix3 0 r k) : S8x2048x1408.Idx) 1).val = r.val := by
    show win0_1.index t (1 : Fin 3) * 2048 + 1 * r.val = r.val
    rw [(index_1 t).2.1]; omega
  have e2 : ((((cfg0.win 1).blk t).view.emb (ix3 0 r k) : S8x2048x1408.Idx) 2).val = k.val := by
    show win0_1.index t (2 : Fin 3) * 1408 + 1 * k.val = k.val
    rw [(index_1 t).2.2]; omega
  rw [e, host_main_v2, e0, e1, e2]

/-! ## The result -/

/-- The product. -/
def prod : S4096x11264.Idx → EReal := fun i => ∑ k : Fin 2048, n2 (aX m c) (i 0).val k.val * n2 (aW m c) k.val (i 1).val

theorem flushed (t : Fin cfg0.N) : (dats m 0 c).flushed 2 t = ((cfg0.win 2).blk t).view.read (Elt Ideal) (prod m c) := by
  rw [Value.flushed2, out_eq]
  funext y
  have h0 : (y 0).val < 1024 := (y 0).isLt
  have h1 : (y 1).val < 1408 := (y 1).isLt
  have hy : (cfg0.win 2).xinj (grid0.coords t) y = ix2 (⟨(y 0).val, h0⟩ : Fin 1024) (⟨(y 1).val, h1⟩ : Fin 1408) := by
    funext a
    match a with
    | ⟨0, _⟩ => rfl
    | ⟨1, _⟩ => rfl
  have e0 : ((((cfg0.win 2).blk t).view.emb y : S4096x11264.Idx) 0).val = 1024 * (t.val % 4) + (y 0).val := by
    show win0_2.index t (0 : Fin 2) * 1024 + 1 * (y 0).val = _
    rw [(index_2 t).1]; omega
  have e1 : ((((cfg0.win 2).blk t).view.emb y : S4096x11264.Idx) 1).val = 1408 * (t.val / 4) + (y 1).val := by
    show win0_2.index t (1 : Fin 2) * 1408 + 1 * (y 1).val = _
    rw [(index_2 t).2]; omega
  show k0_pay1 (iblk m c 0 t) (iblk m c 1 t) ((cfg0.win 2).xinj (grid0.coords t) y) = prod m c (((cfg0.win 2).blk t).view.emb y)
  rw [hy]
  refine (pay_at (iblk m c 0 t) (iblk m c 1 t) _ _).trans ?_
  unfold prod
  rw [e0, e1]
  exact Finset.sum_congr rfl fun k _ => congrArg₂ (fun a b : EReal => a * b) (blk_0 m c t _ k) (blk_1 m c t k _)

theorem mem_blk (t : Fin cfg0.N) (i : S4096x11264.Idx) :
    i ∈ ((cfg0.win 2).blk t).view.set ↔ ∀ a : Fin 2, win0_2.index t a * S1024x1408.size a ≤ (i a).val ∧ (i a).val < win0_2.index t a * S1024x1408.size a + S1024x1408.size a := by
  show i ∈ ((View.whole main_v3).slice (win0_2.rect t)).set ↔ _
  rw [View.set_slice_whole, Rect.mem_set_unit]
  exact Iff.rfl

theorem covered (i : S4096x11264.Idx) : ∃ t : Fin cfg0.N, (cfg0.win 2).flush t = true ∧ i ∈ ((cfg0.win 2).blk t).view.set := by
  have h0 : (i 0).val < 4096 := (i 0).isLt
  have h1 : (i 1).val < 11264 := (i 1).isLt
  have hN : cfg0.N = 32 := N_0
  refine ⟨⟨4 * ((i 1).val / 1408) + (i 0).val / 1024, by omega⟩, flush_all _, (mem_blk _ i).2 fun a => ?_⟩
  obtain ⟨q0, q1⟩ := index_2 ⟨4 * ((i 1).val / 1408) + (i 0).val / 1024, by omega⟩
  dsimp only at q0 q1
  match a with
  | ⟨0, _⟩ =>
    show win0_2.index _ (0 : Fin 2) * 1024 ≤ (i 0).val ∧ (i 0).val < win0_2.index _ (0 : Fin 2) * 1024 + 1024
    omega
  | ⟨1, _⟩ =>
    show win0_2.index _ (1 : Fin 2) * 1408 ≤ (i 1).val ∧ (i 1).val < win0_2.index _ (1 : Fin 2) * 1408 + 1408
    omega

theorem final : (dats m 0 c).arrAt 2 cfg0.N = prod m c :=
  (dats m 0 c).arrAt_eq_of_cover 2 (prod m c) (fun t _ => flushed m c t) (fun i => covered i)

end Cert.Mat.K6

end
-- ==== Proof.Ffn.K6.lean ====
/- The input projection's kernel and its reference: both give the same product. -/
module

public import proofs.«01_k».proof.Proof.Ffn.K6Fold
public import proofs.«01_k».proof.Defs
public import proofs.«01_k».proof.Proof.Gen.Reference6Ideal.Run
public import proofs.«01_k».proof.Proof.Gen.Reference6Ideal.Read

@[expose] public section

set_option maxRecDepth 16384

noncomputable section

namespace Cert.Mat.K6

open Idealize.ShloMosaic.ValueIdx
open Idealize.ShloMosaic hiding ix1 ix2 ix3 eq_ix1 eq_ix2 eq_ix3
open Idealize.ShloMosaic.TcCoe Idealize.SL.Sem
open scoped BigOperators

/-! ## The reference -/

section reference
open Cert.Reference6Ideal Cert.Reference6Ideal.Gen Cert.Reference6Ideal.Read

theorem reference_at (x0 : (⟨S4096x2048, .bf16⟩ : BufTy).Contents (Elt Ideal)) (x1 : (⟨S2048x11264, .f32⟩ : BufTy).Contents (Elt Ideal)) (r : Fin 4096) (d : Fin 11264) :
    val_main_v2 x0 x1 (ix2 r d) = ∑ k : Fin 2048, n2 (x0 : S4096x2048.Idx → EReal) r.val k.val * n2 (x1 : S2048x11264.Idx → EReal) k.val d.val := by
  refine (val_main_v1_apply x0 x1 (ix2 r d)).trans (Finset.sum_congr rfl fun k _ => ?_)
  exact congrArg₂ (fun a b : EReal => a * b) (n2_eq (x0 : S4096x2048.Idx → EReal) _ _ (lidx_main_v1 (ix2 r d) k) rfl rfl).symm
    (n2_eq (x1 : S2048x11264.Idx → EReal) _ _ (ridx_main_v1 (ix2 r d) k) rfl rfl).symm

end reference

/-- The reference runs, gives its arguments back and, having no semaphores, leaves none raised. -/
theorem reference_runs : Cert.quiescent_Reference6Ideal (hReference6Ideal := Cert.Reference6Ideal.Gen.facts) := fun m ρ _ =>
  (θ_run _ _ _).mono (fun _ h => And.intro (fun c => (h c).2) (sem_eq_zero_of_no_sems (by decide) _)) (Cert.Reference6Ideal.Value.run m ρ)

/-! ## The two programs' results -/

theorem equal : Cert.algebraic_Kernel6Ideal_Reference6Ideal (hKernel6Ideal := Cert.Kernel6Ideal.Gen.facts)
    (hReference6Ideal := Cert.Reference6Ideal.Gen.facts) := by
  intro m g m' g' _ ha
  refine ⟨fun c => prod m c, ?_, ?_⟩
  · exact (θ_run _ _ _).mono (fun r h c => ⟨(h c).1.trans (final m c), (h c).2⟩) (Cert.Kernel6Ideal.Value.run_blocks m g)
  · refine (θ_run _ _ _).mono (fun r h c => ?_) (Cert.Reference6Ideal.Value.run m' g')
    obtain ⟨h0, h1⟩ := h c
    obtain ⟨a0, a1⟩ := ha c
    refine ⟨h0.trans ?_, h1⟩
    refine (Cert.Reference6Ideal.Read.val_main_v2_eq _ _).trans (ext2 fun r d => ?_)
    refine Eq.trans ?_ ((reference_at _ _ r d).trans rfl)
    exact congrFun (congrArg₂ (Cert.Reference6Ideal.Read.val_main_v2 (F := Idealize.ShloMosaic.Ideal)) a0 a1) _

end Cert.Mat.K6

end
-- ==== Proof.Ffn.K7Block.lean ====
/- The kernel of the input projection's weight gradient: what each grid point leaves in its running sums and writes. -/
module

public import proofs.«01_k».proof.Proof.Gen.Kernel7Ideal.Frame
public import proofs.«01_k».proof.Proof.Ffn.Common

@[expose] public section

set_option maxRecDepth 16384

noncomputable section

namespace Cert.Mat.K7

open Cert.Kernel7Ideal Cert.Kernel7Ideal.Gen Idealize.ShloMosaic Idealize.ShloMosaic.ValueIdx
open Idealize.ShloMosaic.TcCoe Idealize.SL.Sem

section points
variable (c : Dev nD) (i : grid0.Coords)
  (arg2 : Memref sig .tc .vmem S1024x2048 .bf16) (harg2 : arg2.IsWhole)
  (arg3 : Memref sig .tc .vmem S1024x1408 .bf16) (harg3 : arg3.IsWhole)
  (arg4 : Memref sig .tc .vmem S1x2048x1408 .bf16) (harg4 : arg4.IsWhole)
  (arg5 : Memref sig .tc .vmem S2048x1408 .f32) (harg5 : arg5.IsWhole)
  (x0 : Vec Ideal S1024x2048 .bf16)
  (x1 : Vec Ideal S1024x1408 .bf16)
  (xs0 : Vec Ideal S2048x1408 .f32)

/-- The running sums after a point: case A. -/
theorem sA (hc0 : cond0_0 i) (hc1 : ¬cond0_1 i) :
    sout0_A_0 c i arg2 harg2 arg3 harg3 arg4 harg4 arg5 harg5 hc0 hc1 x0 x1 = k0_pay2 (k0_pay1 (F := Ideal)) x0 x1 := by
  unfold sout0_A_0 kernelRun0_A
  dsimp only
  refine (write2 _ _ _ _ _).trans ?_
  unfold kernelRun0_A.sl.v3
  unfold kernelRun0_A.sl.HS0_1
  simp only [readAt2, readAt3, readCov2]

/-- The running sums after a point: case B. -/
theorem sB (hc0 : ¬cond0_0 i) (hc1 : ¬cond0_1 i) :
    sout0_B_0 c i arg2 harg2 arg3 harg3 arg4 harg4 arg5 harg5 hc0 hc1 x0 x1 xs0 = k0_pay2 xs0 x0 x1 := by
  unfold sout0_B_0 kernelRun0_B
  dsimp only
  refine (write2 _ _ _ _ _).trans ?_
  simp only [readAt2, readAt3, readCov2]

/-- The running sums after a point: case C. -/
theorem sC (hc0 : ¬cond0_0 i) (hc1 : cond0_1 i) :
    sout0_C_0 c i arg2 harg2 arg3 harg3 arg4 harg4 arg5 harg5 hc0 hc1 x0 x1 xs0 = k0_pay2 xs0 x0 x1 := by
  unfold sout0_C_0 kernelRun0_C
  dsimp only
  refine (write2 _ _ _ _ _).trans ?_
  simp only [readAt2, readAt3, readCov2]

/-- What the last point of a cycle writes. -/
theorem oL (hc0 : ¬cond0_0 i) (hc1 : cond0_1 i) :
    out0_C_2 c i arg2 harg2 arg3 harg3 arg4 harg4 arg5 harg5 hc0 hc1 x0 x1 xs0 = k0_pay3 (k0_pay2 xs0 x0 x1) := by
  unfold out0_C_2 kernelRun0_C
  dsimp only
  refine (write3 _ _ _ _ _).trans ?_
  unfold kernelRun0_C.sl.v14
  unfold kernelRun0_C.sl.HS0_1
  simp only [readAt2, readAt3, readCov2]

end points

end Cert.Mat.K7

end
-- ==== Proof.Ffn.K7Fold.lean ====
/- The kernel of the input projection's weight gradient: the blocks of a grid point, its running sums, and the result. -/
module

public import proofs.«01_k».proof.Proof.Ffn.K7Block
public import proofs.«01_k».proof.Proof.Ffn.Layout
public import proofs.«01_k».proof.Proof.Gen.Kernel7Ideal.Value
public import Idealize.ShloMosaic.Lib.StableHlo.ReadAt

@[expose] public section

set_option maxRecDepth 16384

noncomputable section

namespace Cert.Mat.K7

open Cert.Kernel7Ideal Cert.Kernel7Ideal.Gen Idealize.ShloMosaic.ValueIdx
open Idealize.ShloMosaic hiding ix1 ix2 ix3 eq_ix1 eq_ix2 eq_ix3
open Idealize.ShloMosaic.TcCoe Idealize.SL.Sem
open scoped BigOperators

/-! ## A point's arithmetic -/

theorem zero_at (r : Fin 2048) (d : Fin 1408) : (k0_pay1 (F := Ideal)) (ix2 r d) = (0 : EReal) :=
  (congrFun (same_cast (fun _ => Ideal.ofBits .f32 0x00000000#32 : S2048x1408.Idx → EReal) shapeCasts_S2048x1408_S2048x1408) (ix2 r d)).trans Ideal.ofBits_zero_f32

theorem upd_at (x0 : Vec Ideal S1024x2048 .bf16) (x1 : Vec Ideal S1024x1408 .bf16) (acc : Vec Ideal S2048x1408 .f32) (r : Fin 2048) (d : Fin 1408) :
    k0_pay2 acc x0 x1 (ix2 r d) = acc (ix2 r d) + ∑ k : Fin 1024, x0 (ix2 k r) * x1 (ix2 k d) := by
  have e : FloatOps.matmul (F := Ideal) (φ₁ := .bf16) (φ₂ := .bf16) (lhsT 1024 2048 1408) none x0 x1 (constant S2048x1408 .f32 0x00000000#32) (ix2 r d)
        = ∑ k : Fin 1024, x0 (ix2 k r) * x1 (ix2 k d) := lhsT_n (φ₁ := .bf16) (φ₂ := .bf16) x0 x1 r d
  unfold k0_pay2
  refine (congrFun (same_cast _ _) (ix2 r d)).trans ?_
  exact congrArg (acc (ix2 r d) + ·) e

theorem fin_at (v : Vec Ideal S2048x1408 .f32) (r : Fin 2048) (d : Fin 1408) : k0_pay3 v (ix3 0 r d) = v (ix2 r d) := by
  unfold k0_pay3
  exact add_slot _ _ r d

/-! ## The blocks -/

theorem pt_lt (t : Fin cfg0.N) : t.val < 32 := lt_of_lt_of_eq t.isLt (show cfg0.N = 32 from N_0)

theorem index_0 : ∀ t : Fin cfg0.N, win0_0.index t (0 : Fin 2) = t.val % 4 ∧ win0_0.index t (1 : Fin 2) = 0 := by decide +kernel
theorem index_1 : ∀ t : Fin cfg0.N, win0_1.index t (0 : Fin 2) = t.val % 4 ∧ win0_1.index t (1 : Fin 2) = t.val / 4 := by decide +kernel

variable (m : (ℓ : Loc nD τ sig) → Buf (Elt Ideal) ℓ) (c : Dev nD)

/-- The saved input. -/
abbrev aH := (m ((c : Thread nD τ).loc main_arg0) : S4096x2048.Idx → EReal)
/-- The projection's cotangent. -/
abbrev aP := (m ((c : Thread nD τ).loc main_arg1) : S4096x11264.Idx → EReal)

theorem blk_0 (t : Fin cfg0.N) (r : Fin 1024) (k : Fin 2048) :
    (iblk m c 0 t : Vec Ideal S1024x2048 .bf16) (ix2 r k) = n2 (aH m c) (1024 * (t.val % 4) + r.val) (k.val) := by
  have e : (iblk m c 0 t : Vec Ideal S1024x2048 .bf16) (ix2 r k)
      = (V m c main_arg0 : S4096x2048.Idx → EReal) (((cfg0.win 0).blk t).view.emb (ix2 r k)) := rfl
  rw [e, V_main_arg0]
  refine (n2_eq _ _ _ _ ?_ ?_).symm
  · show win0_0.index t (0 : Fin 2) * 1024 + 1 * r.val = 1024 * (t.val % 4) + r.val
    rw [(index_0 t).1]; omega
  · show win0_0.index t (1 : Fin 2) * 2048 + 1 * k.val = k.val
    rw [(index_0 t).2]; omega

theorem blk_1 (t : Fin cfg0.N) (r : Fin 1024) (k : Fin 1408) :
    (iblk m c 1 t : Vec Ideal S1024x1408 .bf16) (ix2 r k) = n2 (aP m c) (1024 * (t.val % 4) + r.val) (1408 * (t.val / 4) + k.val) := by
  have e : (iblk m c 1 t : Vec Ideal S1024x1408 .bf16) (ix2 r k)
      = (V m c main_arg1 : S4096x11264.Idx → EReal) (((cfg0.win 1).blk t).view.emb (ix2 r k)) := rfl
  rw [e, V_main_arg1]
  refine (n2_eq _ _ _ _ ?_ ?_).symm
  · show win0_1.index t (0 : Fin 2) * 1024 + 1 * r.val = 1024 * (t.val % 4) + r.val
    rw [(index_1 t).1]; omega
  · show win0_1.index t (1 : Fin 2) * 1408 + 1 * k.val = 1408 * (t.val / 4) + k.val
    rw [(index_1 t).2]; omega

/-! ## The running sums -/

/-- What point `s` of slot `q`'s cycle adds. -/
def add (q s : ℕ) (r : Fin 2048) (d : Fin 1408) : EReal :=
  ∑ k : Fin 1024, n2 (aH m c) (1024 * s + k.val) r.val * n2 (aP m c) (1024 * s + k.val) (1408 * q + d.val)

theorem upd_add (t : Fin cfg0.N) (acc : Vec Ideal S2048x1408 .f32) (r : Fin 2048) (d : Fin 1408) :
    k0_pay2 acc (iblk m c 0 t) (iblk m c 1 t) (ix2 r d) = acc (ix2 r d) + add m c (t.val / 4) (t.val % 4) r d :=
  (upd_at (iblk m c 0 t) (iblk m c 1 t) acc r d).trans (congrArg (acc (ix2 r d) + ·)
    (Finset.sum_congr rfl fun k _ => congrArg₂ (· * ·) (blk_0 m c t k r) (blk_1 m c t k d)))

theorem scr : ∀ (t : ℕ) (h : t < cfg0.N) (r : Fin 2048) (d : Fin 1408),
    (outsAt0 m c t h).2 (ix2 r d) = ∑ s ∈ Finset.range (t % 4 + 1), add m c (t / 4) s r d := by
  refine run_sum 4 cfg0.N (by decide) (fun t h r d => (outsAt0 m c t h).2 (ix2 r d)) (fun q s r d => add m c q s r d) ?_ ?_
  · intro t h r d h0
    rw [outsAt0_A m c ⟨t, h⟩ h0 (by dsimp only; omega)]
    dsimp only
    rw [sA]
    exact (upd_add m c ⟨t, h⟩ _ r d).trans (congrArg (· + _) (zero_at r d))
  · intro t h r d h0
    by_cases h1 : t % 4 = 3
    · rw [outsAt0_C m c ⟨t, h⟩ h0 h1]
      dsimp only
      rw [sC]
      exact upd_add m c ⟨t, h⟩ _ r d
    · rw [outsAt0_B m c ⟨t, h⟩ h0 h1]
      dsimp only
      rw [sB]
      exact upd_add m c ⟨t, h⟩ _ r d

/-- The block a cycle's last point writes. -/
theorem out (t : Fin cfg0.N) (h1 : t.val % 4 = 3) (r : Fin 2048) (d : Fin 1408) :
    (outsAt0 m c t.val t.isLt).1 (ix3 0 r d) = ∑ s ∈ Finset.range 4, add m c (t.val / 4) s r d := by
  have e := scr m c t.val t.isLt r d
  rw [h1] at e
  rw [outsAt0_C m c t (by omega) h1] at e ⊢
  dsimp only at e ⊢
  rw [oL]
  rw [sC] at e
  exact (fin_at _ r d).trans e

/-! ## The result -/

open Cert.Kernel7Ideal.Value in
theorem result (p : Fin 8) (r : Fin 2048) (d : Fin 1408) :
    (G2 m c : S8x2048x1408.Idx → EReal) (ix3 p r d) = ∑ k : Fin 4096, n2 (aH m c) k.val r.val * n2 (aP m c) k.val (1408 * p.val + d.val) := by
  have hN : cfg0.N = 32 := N_0
  have hp : pt2Of (ix3 p r d) = 4 * p.val + 3 := by
    show 4 * (1 * (p.val / 1 - 0) + 1 * (r.val / 2048 - 0) + 1 * (d.val / 1408 - 0)) + 3 = _; omega
  have hb' : pt2Of (ix3 p r d) < cfg0.N := by rw [hp, hN]; omega
  unfold G2
  rw [dif_pos hb', ← outsAt0_sweep]
  have e := out m c ⟨pt2Of (ix3 p r d), hb'⟩ (by show pt2Of (ix3 p r d) % 4 = 3; rw [hp]; omega) r d
  have hl : loc2Of (ix3 p r d) = ix3 0 r d := by
    funext a
    match a with
    | ⟨0, _⟩ => exact Fin.ext (by show p.val % 1 = 0; omega)
    | ⟨1, _⟩ => exact Fin.ext (by show r.val % 2048 = r.val; omega)
    | ⟨2, _⟩ => exact Fin.ext (by show d.val % 1408 = d.val; omega)
  rw [hl]
  refine e.trans ?_
  have hq : pt2Of (ix3 p r d) / 4 = p.val := by rw [hp]; omega
  dsimp only
  rw [hq]
  unfold add
  exact pieces_sum (fun k => n2 (aH m c) k r.val * n2 (aP m c) k (1408 * p.val + d.val)) 4 1024 4096 rfl

end Cert.Mat.K7

end
-- ==== Proof.Ffn.K7.lean ====
/- The kernel of the input projection's weight gradient and its reference: both give the same slots. -/
module

public import proofs.«01_k».proof.Proof.Ffn.K7Fold
public import proofs.«01_k».proof.Defs
public import proofs.«01_k».proof.Proof.Gen.Reference7Ideal.Run
public import proofs.«01_k».proof.Proof.Gen.Reference7Ideal.Read

@[expose] public section

set_option maxRecDepth 16384

noncomputable section

namespace Cert.Mat.K7

open Idealize.ShloMosaic.ValueIdx
open Idealize.ShloMosaic hiding ix1 ix2 ix3 eq_ix1 eq_ix2 eq_ix3
open Idealize.ShloMosaic.TcCoe Idealize.SL.Sem
open scoped BigOperators

/-! ## The reference -/

section reference
open Cert.Reference7Ideal Cert.Reference7Ideal.Gen Cert.Reference7Ideal.Read

theorem product_at (x0 : (⟨S4096x2048, .bf16⟩ : BufTy).Contents (Elt Ideal)) (x1 : (⟨S4096x11264, .bf16⟩ : BufTy).Contents (Elt Ideal)) (i j : ℕ) (hi : i < 11264) (hj : j < 2048) :
    n2 (val_main_v4 x0 x1 : S11264x2048.Idx → EReal) i j
      = ∑ k : Fin 4096, n2 (x0 : S4096x2048.Idx → EReal) k.val j * n2 (x1 : S4096x11264.Idx → EReal) k.val i := by
  refine (n2_eq (val_main_v4 x0 x1 : S11264x2048.Idx → EReal) i j (ix2 ⟨i, hi⟩ ⟨j, hj⟩) rfl rfl).trans ?_
  refine (val_main_v4_apply x0 x1 (ix2 ⟨i, hi⟩ ⟨j, hj⟩)).trans (Finset.sum_congr rfl fun k _ => ?_)
  exact (congrArg₂ (fun a b : EReal => a * b) (n2_eq (x1 : S4096x11264.Idx → EReal) k.val i (lidx_main_v4 (ix2 ⟨i, hi⟩ ⟨j, hj⟩) k) rfl rfl).symm
    (n2_eq (x0 : S4096x2048.Idx → EReal) k.val j (ridx_main_v4 (ix2 ⟨i, hi⟩ ⟨j, hj⟩) k) rfl rfl).symm).trans (mul_comm _ _)

theorem reference_at (x0 : (⟨S4096x2048, .bf16⟩ : BufTy).Contents (Elt Ideal)) (x1 : (⟨S4096x11264, .bf16⟩ : BufTy).Contents (Elt Ideal)) (p : Fin 8) (r : Fin 2048) (d : Fin 1408) :
    val_main_v9 x0 x1 (ix3 p r d)
      = ∑ k : Fin 4096, n2 (x0 : S4096x2048.Idx → EReal) k.val r.val * n2 (x1 : S4096x11264.Idx → EReal) k.val (1408 * p.val + d.val) := by
  have e : val_main_v9 x0 x1 (ix3 p r d) = sc 1408 (val_main_v6 x0 x1 : S2048x11264.Idx → EReal) p.val r.val d.val :=
    cols_room (P := 8) (w := 1408) (w' := 1408) (g := 0) (val_main_v6 x0 x1 : S2048x11264.Idx → EReal) rfl shapeCasts_S2048x11264_S2048x8x1408
      transposes_S2048x8x1408_S8x2048x1408_1_0_2 _ pads_S8x2048x1408_S8x2048x1408_000_000_000 h_S_ (room_zero .bf16) p r d
  refine e.trans ?_
  unfold sc
  rw [if_pos d.isLt]
  have hp := p.isLt
  have hd := d.isLt
  refine (flip_at (val_main_v4 x0 x1 : S11264x2048.Idx → EReal) transposes_S11264x2048_S2048x11264_1_0 _ _).trans ?_
  exact product_at x0 x1 _ _ (by omega) r.isLt

end reference

/-- The reference runs, gives its arguments back and, having no semaphores, leaves none raised. -/
theorem reference_runs : Cert.quiescent_Reference7Ideal (hReference7Ideal := Cert.Reference7Ideal.Gen.facts) := fun m ρ _ =>
  (θ_run _ _ _).mono (fun _ h => And.intro (fun c => (h c).2) (sem_eq_zero_of_no_sems (by decide) _)) (Cert.Reference7Ideal.Value.run m ρ)

/-! ## The two programs' results -/

theorem equal : Cert.algebraic_Kernel7Ideal_Reference7Ideal (hKernel7Ideal := Cert.Kernel7Ideal.Gen.facts)
    (hReference7Ideal := Cert.Reference7Ideal.Gen.facts) := by
  intro m g m' g' _ ha
  refine ⟨fun c => Cert.Kernel7Ideal.Value.G2 m c, ?_, ?_⟩
  · exact (θ_run _ _ _).mono (fun r h c => ⟨(h c).1, (h c).2⟩) (Cert.Kernel7Ideal.Value.run m g)
  · refine (θ_run _ _ _).mono (fun r h c => ?_) (Cert.Reference7Ideal.Value.run m' g')
    obtain ⟨h0, h1⟩ := h c
    obtain ⟨a0, a1⟩ := ha c
    refine ⟨h0.trans ?_, h1⟩
    refine (Cert.Reference7Ideal.Read.val_main_v9_eq _ _).trans (ext3 fun p r d => ?_)
    refine Eq.trans ?_ ((reference_at _ _ p r d).trans (result m c p r d).symm)
    exact congrFun (congrArg₂ (Cert.Reference7Ideal.Read.val_main_v9 (F := Idealize.ShloMosaic.Ideal)) a0 a1) _

end Cert.Mat.K7

end
-- ==== Proof.Ffn.K8Block.lean ====
/- The input projection's backward kernel: what each grid point leaves in its running sums and writes. -/
module

public import proofs.«01_k».proof.Proof.Gen.Kernel8Ideal.Frame
public import proofs.«01_k».proof.Proof.Ffn.Common

@[expose] public section

set_option maxRecDepth 16384

noncomputable section

namespace Cert.Mat.K8

open Cert.Kernel8Ideal Cert.Kernel8Ideal.Gen Idealize.ShloMosaic Idealize.ShloMosaic.ValueIdx
open Idealize.ShloMosaic.TcCoe Idealize.SL.Sem

section points
variable (c : Dev nD) (i : grid0.Coords)
  (arg2 : Memref sig .tc .vmem S512x1408 .bf16) (harg2 : arg2.IsWhole)
  (arg3 : Memref sig .tc .vmem S512x1408 .bf16) (harg3 : arg3.IsWhole)
  (arg4 : Memref sig .tc .vmem S1x2048x1408 .bf16) (harg4 : arg4.IsWhole)
  (arg5 : Memref sig .tc .vmem S1x2048x1408 .bf16) (harg5 : arg5.IsWhole)
  (arg6 : Memref sig .tc .vmem S512x2048 .bf16) (harg6 : arg6.IsWhole)
  (arg7 : Memref sig .tc .vmem S512x2048 .f32) (harg7 : arg7.IsWhole)
  (x0 : Vec Ideal S512x1408 .bf16)
  (x1 : Vec Ideal S512x1408 .bf16)
  (x2 : Vec Ideal S1x2048x1408 .bf16)
  (x3 : Vec Ideal S1x2048x1408 .bf16)
  (xs0 : Vec Ideal S512x2048 .f32)

/-- The running sums after a point: case A. -/
theorem sA (hc0 : cond0_0 i) (hc1 : ¬cond0_1 i) :
    sout0_A_0 c i arg2 harg2 arg3 harg3 arg4 harg4 arg5 harg5 arg6 harg6 arg7 harg7 hc0 hc1 x0 x1 x2 x3 = k0_pay2 x0 x2 x1 x3 (k0_pay1 (F := Ideal)) := by
  unfold sout0_A_0 kernelRun0_A
  dsimp only
  refine (write2 _ _ _ _ _).trans ?_
  unfold kernelRun0_A.sl.v12
  unfold kernelRun0_A.sl.HS0_1
  simp only [readAt2, readAt3, readCov2]

/-- The running sums after a point: case B. -/
theorem sB (hc0 : ¬cond0_0 i) (hc1 : ¬cond0_1 i) :
    sout0_B_0 c i arg2 harg2 arg3 harg3 arg4 harg4 arg5 harg5 arg6 harg6 arg7 harg7 hc0 hc1 x0 x1 x2 x3 xs0 = k0_pay2 x0 x2 x1 x3 xs0 := by
  unfold sout0_B_0 kernelRun0_B
  dsimp only
  refine (write2 _ _ _ _ _).trans ?_
  simp only [readAt2, readAt3, readCov2]

/-- The running sums after a point: case C. -/
theorem sC (hc0 : ¬cond0_0 i) (hc1 : cond0_1 i) :
    sout0_C_0 c i arg2 harg2 arg3 harg3 arg4 harg4 arg5 harg5 arg6 harg6 arg7 harg7 hc0 hc1 x0 x1 x2 x3 xs0 = k0_pay2 x0 x2 x1 x3 xs0 := by
  unfold sout0_C_0 kernelRun0_C
  dsimp only
  refine (write2 _ _ _ _ _).trans ?_
  simp only [readAt2, readAt3, readCov2]

/-- What the last point of a cycle writes. -/
theorem oL (hc0 : ¬cond0_0 i) (hc1 : cond0_1 i) :
    out0_C_4 c i arg2 harg2 arg3 harg3 arg4 harg4 arg5 harg5 arg6 harg6 arg7 harg7 hc0 hc1 x0 x1 x2 x3 xs0 = k0_pay3 (k0_pay2 x0 x2 x1 x3 xs0) := by
  unfold out0_C_4 kernelRun0_C
  dsimp only
  refine (write2 _ _ _ _ _).trans ?_
  unfold kernelRun0_C.sl.v20
  unfold kernelRun0_C.sl.HS0_1
  simp only [readAt2, readAt3, readCov2]

end points

end Cert.Mat.K8

end
-- ==== Proof.Ffn.K8Fold.lean ====
/- The input projection's backward kernel: the blocks of a grid point, its running sums, and the result. -/
module

public import proofs.«01_k».proof.Proof.Ffn.K8Block
public import proofs.«01_k».proof.Proof.Ffn.Layout
public import proofs.«01_k».proof.Proof.Gen.Kernel8Ideal.Value
public import Idealize.ShloMosaic.Lib.StableHlo.ReadAt

@[expose] public section

set_option maxRecDepth 16384

noncomputable section

namespace Cert.Mat.K8

open Cert.Kernel8Ideal Cert.Kernel8Ideal.Gen Idealize.ShloMosaic.ValueIdx
open Idealize.ShloMosaic hiding ix1 ix2 ix3 eq_ix1 eq_ix2 eq_ix3
open Idealize.ShloMosaic.TcCoe Idealize.SL.Sem
open scoped BigOperators

/-! ## A point's arithmetic -/

theorem zero_at (r : Fin 512) (d : Fin 2048) : (k0_pay1 (F := Ideal)) (ix2 r d) = (0 : EReal) :=
  (congrFun (same_cast (fun _ => Ideal.ofBits .f32 0x00000000#32 : S512x2048.Idx → EReal) shapeCasts_S512x2048_S512x2048) (ix2 r d)).trans Ideal.ofBits_zero_f32

theorem upd_at (x0 x1 : Vec Ideal S512x1408 .bf16) (x2 x3 : Vec Ideal S1x2048x1408 .bf16) (acc : Vec Ideal S512x2048 .f32) (r : Fin 512) (d : Fin 2048) :
    k0_pay2 x0 x2 x1 x3 acc (ix2 r d)
      = acc (ix2 r d) + ((∑ k : Fin 1408, x0 (ix2 r k) * x2 (ix3 0 d k)) + ∑ k : Fin 1408, x1 (ix2 r k) * x3 (ix3 0 d k)) := by
  have e (x : Vec Ideal S512x1408 .bf16) (y : Vec Ideal S1x2048x1408 .bf16) :
      FloatOps.matmul (F := Ideal) (φ₁ := .bf16) (φ₂ := .bf16) (DotDims.transposedRhs 512 1408 2048) none x
        (shapeCast S2048x1408 y shapeCasts_S1x2048x1408_S2048x1408) (constant S512x2048 .f32 0x00000000#32) (ix2 r d)
        = ∑ k : Fin 1408, x (ix2 r k) * y (ix3 0 d k) :=
    (trans_n (φ₁ := .bf16) (φ₂ := .bf16) _ _ r d).trans (Finset.sum_congr rfl fun k _ => congrArg (x (ix2 r k) * ·) (drop_slot y _ d k))
  unfold k0_pay2
  refine (congrFun (same_cast _ _) (ix2 r d)).trans ?_
  exact congrArg (acc (ix2 r d) + ·) (congrArg₂ (· + ·) (e x0 x2) (e x1 x3))

/-! ## The blocks -/

theorem pt_lt (t : Fin cfg0.N) : t.val < 32 := lt_of_lt_of_eq t.isLt (show cfg0.N = 32 from N_0)

theorem index_0 : ∀ t : Fin cfg0.N, win0_0.index t (0 : Fin 2) = t.val / 4 ∧ win0_0.index t (1 : Fin 2) = 2 * (t.val % 4) := by decide +kernel
theorem index_1 : ∀ t : Fin cfg0.N, win0_1.index t (0 : Fin 2) = t.val / 4 ∧ win0_1.index t (1 : Fin 2) = 2 * (t.val % 4) + 1 := by decide +kernel
theorem index_2 : ∀ t : Fin cfg0.N, win0_2.index t (0 : Fin 3) = 2 * (t.val % 4) ∧ win0_2.index t (1 : Fin 3) = 0 ∧ win0_2.index t (2 : Fin 3) = 0 := by decide +kernel
theorem index_3 : ∀ t : Fin cfg0.N, win0_3.index t (0 : Fin 3) = 2 * (t.val % 4) + 1 ∧ win0_3.index t (1 : Fin 3) = 0 ∧ win0_3.index t (2 : Fin 3) = 0 := by decide +kernel

variable (m : (ℓ : Loc nD τ sig) → Buf (Elt Ideal) ℓ) (c : Dev nD)

/-- The projection's cotangent and the weight. -/
abbrev aP := (m ((c : Thread nD τ).loc main_arg0) : S4096x11264.Idx → EReal)
abbrev aW := (m ((c : Thread nD τ).loc main_arg1) : S2048x11264.Idx → EReal)

theorem host_main_v2 (y : S8x2048x1408.Idx) : (V m c main_v2 : S8x2048x1408.Idx → EReal) y = n2 (aW m c) (y 1).val (1408 * (y 0).val + (y 2).val) := by
  unfold V
  after_reads_at
  refine (n2_eq (aW m c) _ _ _ rfl ?_).symm
  show (y 0).val * 1408 + (y 2).val = _
  omega

theorem blk_0 (t : Fin cfg0.N) (r : Fin 512) (k : Fin 1408) :
    (iblk m c 0 t : Vec Ideal S512x1408 .bf16) (ix2 r k) = n2 (aP m c) (512 * (t.val / 4) + r.val) (1408 * (2 * (t.val % 4)) + k.val) := by
  have e : (iblk m c 0 t : Vec Ideal S512x1408 .bf16) (ix2 r k)
      = (V m c main_arg0 : S4096x11264.Idx → EReal) (((cfg0.win 0).blk t).view.emb (ix2 r k)) := rfl
  rw [e, V_main_arg0]
  refine (n2_eq _ _ _ _ ?_ ?_).symm
  · show win0_0.index t (0 : Fin 2) * 512 + 1 * r.val = 512 * (t.val / 4) + r.val
    rw [(index_0 t).1]; omega
  · show win0_0.index t (1 : Fin 2) * 1408 + 1 * k.val = 1408 * (2 * (t.val % 4)) + k.val
    rw [(index_0 t).2]; omega

theorem blk_1 (t : Fin cfg0.N) (r : Fin 512) (k : Fin 1408) :
    (iblk m c 1 t : Vec Ideal S512x1408 .bf16) (ix2 r k) = n2 (aP m c) (512 * (t.val / 4) + r.val) (1408 * (2 * (t.val % 4) + 1) + k.val) := by
  have e : (iblk m c 1 t : Vec Ideal S512x1408 .bf16) (ix2 r k)
      = (V m c main_arg0 : S4096x11264.Idx → EReal) (((cfg0.win 1).blk t).view.emb (ix2 r k)) := rfl
  rw [e, V_main_arg0]
  refine (n2_eq _ _ _ _ ?_ ?_).symm
  · show win0_1.index t (0 : Fin 2) * 512 + 1 * r.val = 512 * (t.val / 4) + r.val
    rw [(index_1 t).1]; omega
  · show win0_1.index t (1 : Fin 2) * 1408 + 1 * k.val = 1408 * (2 * (t.val % 4) + 1) + k.val
    rw [(index_1 t).2]; omega

theorem blk_2 (t : Fin cfg0.N) (r : Fin 2048) (k : Fin 1408) :
    (iblk m c 2 t : Vec Ideal S1x2048x1408 .bf16) (ix3 0 r k) = n2 (aW m c) r.val (1408 * (2 * (t.val % 4)) + k.val) := by
  have e : (iblk m c 2 t : Vec Ideal S1x2048x1408 .bf16) (ix3 0 r k)
      = (V m c main_v2 : S8x2048x1408.Idx → EReal) (((cfg0.win 2).blk t).view.emb (ix3 0 r k)) := rfl
  have e0 : ((((cfg0.win 2).blk t).view.emb (ix3 0 r k) : S8x2048x1408.Idx) 0).val = 2 * (t.val % 4) := by
    show win0_2.index t (0 : Fin 3) * 1 + 1 * 0 = 2 * (t.val % 4)
    rw [(index_2 t).1]; omega
  have e1 : ((((cfg0.win 2).blk t).view.emb (ix3 0 r k) : S8x2048x1408.Idx) 1).val = r.val := by
    show win0_2.index t (1 : Fin 3) * 2048 + 1 * r.val = r.val
    rw [(index_2 t).2.1]; omega
  have e2 : ((((cfg0.win 2).blk t).view.emb (ix3 0 r k) : S8x2048x1408.Idx) 2).val = k.val := by
    show win0_2.index t (2 : Fin 3) * 1408 + 1 * k.val = k.val
    rw [(index_2 t).2.2]; omega
  rw [e, host_main_v2, e0, e1, e2]

theorem blk_3 (t : Fin cfg0.N) (r : Fin 2048) (k : Fin 1408) :
    (iblk m c 3 t : Vec Ideal S1x2048x1408 .bf16) (ix3 0 r k) = n2 (aW m c) r.val (1408 * (2 * (t.val % 4) + 1) + k.val) := by
  have e : (iblk m c 3 t : Vec Ideal S1x2048x1408 .bf16) (ix3 0 r k)
      = (V m c main_v2 : S8x2048x1408.Idx → EReal) (((cfg0.win 3).blk t).view.emb (ix3 0 r k)) := rfl
  have e0 : ((((cfg0.win 3).blk t).view.emb (ix3 0 r k) : S8x2048x1408.Idx) 0).val = 2 * (t.val % 4) + 1 := by
    show win0_3.index t (0 : Fin 3) * 1 + 1 * 0 = 2 * (t.val % 4) + 1
    rw [(index_3 t).1]; omega
  have e1 : ((((cfg0.win 3).blk t).view.emb (ix3 0 r k) : S8x2048x1408.Idx) 1).val = r.val := by
    show win0_3.index t (1 : Fin 3) * 2048 + 1 * r.val = r.val
    rw [(index_3 t).2.1]; omega
  have e2 : ((((cfg0.win 3).blk t).view.emb (ix3 0 r k) : S8x2048x1408.Idx) 2).val = k.val := by
    show win0_3.index t (2 : Fin 3) * 1408 + 1 * k.val = k.val
    rw [(index_3 t).2.2]; omega
  rw [e, host_main_v2, e0, e1, e2]

/-! ## The running sums -/

/-- What point `s` of block `q`'s cycle adds. -/
def add (q s : ℕ) (r : Fin 512) (d : Fin 2048) : EReal :=
  (∑ k : Fin 1408, n2 (aP m c) (512 * q + r.val) (1408 * (2 * s) + k.val) * n2 (aW m c) d.val (1408 * (2 * s) + k.val))
    + ∑ k : Fin 1408, n2 (aP m c) (512 * q + r.val) (1408 * (2 * s + 1) + k.val) * n2 (aW m c) d.val (1408 * (2 * s + 1) + k.val)

theorem upd_add (t : Fin cfg0.N) (acc : Vec Ideal S512x2048 .f32) (r : Fin 512) (d : Fin 2048) :
    k0_pay2 (iblk m c 0 t) (iblk m c 2 t) (iblk m c 1 t) (iblk m c 3 t) acc (ix2 r d) = acc (ix2 r d) + add m c (t.val / 4) (t.val % 4) r d :=
  (upd_at (iblk m c 0 t) (iblk m c 1 t) (iblk m c 2 t) (iblk m c 3 t) acc r d).trans (congrArg (acc (ix2 r d) + ·) (congrArg₂ (· + ·)
    (Finset.sum_congr rfl fun k _ => congrArg₂ (· * ·) (blk_0 m c t r k) (blk_2 m c t d k))
    (Finset.sum_congr rfl fun k _ => congrArg₂ (· * ·) (blk_1 m c t r k) (blk_3 m c t d k))))

theorem scr : ∀ (t : ℕ) (h : t < cfg0.N) (r : Fin 512) (d : Fin 2048),
    (outsAt0 m c t h).2 (ix2 r d) = ∑ s ∈ Finset.range (t % 4 + 1), add m c (t / 4) s r d := by
  refine run_sum 4 cfg0.N (by decide) (fun t h r d => (outsAt0 m c t h).2 (ix2 r d)) (fun q s r d => add m c q s r d) ?_ ?_
  · intro t h r d h0
    rw [outsAt0_A m c ⟨t, h⟩ h0 (by dsimp only; omega)]
    dsimp only
    rw [sA]
    exact (upd_add m c ⟨t, h⟩ _ r d).trans (congrArg (· + _) (zero_at r d))
  · intro t h r d h0
    by_cases h1 : t % 4 = 3
    · rw [outsAt0_C m c ⟨t, h⟩ h0 h1]
      dsimp only
      rw [sC]
      exact upd_add m c ⟨t, h⟩ _ r d
    · rw [outsAt0_B m c ⟨t, h⟩ h0 h1]
      dsimp only
      rw [sB]
      exact upd_add m c ⟨t, h⟩ _ r d

/-- The block a cycle's last point writes. -/
theorem out (t : Fin cfg0.N) (h1 : t.val % 4 = 3) (r : Fin 512) (d : Fin 2048) :
    (outsAt0 m c t.val t.isLt).1 (ix2 r d) = ∑ s ∈ Finset.range 4, add m c (t.val / 4) s r d := by
  have e := scr m c t.val t.isLt r d
  rw [h1] at e
  rw [← e, outsAt0_C m c t (by omega) h1]
  dsimp only
  rw [oL, sC]
  rfl

/-! ## The result -/

open Cert.Kernel8Ideal.Value in
theorem result (Q : Fin 4096) (d : Fin 2048) :
    (G4 m c : S4096x2048.Idx → EReal) (ix2 Q d) = ∑ k : Fin 11264, n2 (aP m c) Q.val k.val * n2 (aW m c) d.val k.val := by
  have hN : cfg0.N = 32 := N_0
  have hp : pt4Of (ix2 Q d) = 4 * (Q.val / 512) + 3 := by
    show 4 * (1 * (Q.val / 512 - 0) + 1 * (d.val / 2048 - 0)) + 3 = _; omega
  have hb' : pt4Of (ix2 Q d) < cfg0.N := by rw [hp, hN]; omega
  unfold G4
  rw [dif_pos hb', ← outsAt0_sweep]
  have e := out m c ⟨pt4Of (ix2 Q d), hb'⟩ (by show pt4Of (ix2 Q d) % 4 = 3; rw [hp]; omega) ⟨Q.val % 512, by omega⟩ d
  have hl : loc4Of (ix2 Q d) = ix2 (⟨Q.val % 512, by omega⟩ : Fin 512) d := by
    funext a
    match a with
    | ⟨0, _⟩ => rfl
    | ⟨1, _⟩ => exact Fin.ext (by show d.val % 2048 = d.val; omega)
  rw [hl]
  refine e.trans ?_
  have hq : pt4Of (ix2 Q d) / 4 = Q.val / 512 := by rw [hp]; omega
  dsimp only
  rw [hq]
  unfold add
  have hr : 512 * (Q.val / 512) + Q.val % 512 = Q.val := by omega
  dsimp only
  rw [hr]
  exact slots_sum (fun k => n2 (aP m c) Q.val k * n2 (aW m c) d.val k) 1408 11264 rfl

end Cert.Mat.K8

end
-- ==== Proof.Ffn.K8.lean ====
/- The input projection's backward kernel and its reference: both give the same product. -/
module

public import proofs.«01_k».proof.Proof.Ffn.K8Fold
public import proofs.«01_k».proof.Defs
public import proofs.«01_k».proof.Proof.Gen.Reference8Ideal.Run
public import proofs.«01_k».proof.Proof.Gen.Reference8Ideal.Read

@[expose] public section

set_option maxRecDepth 16384

noncomputable section

namespace Cert.Mat.K8

open Idealize.ShloMosaic.ValueIdx
open Idealize.ShloMosaic hiding ix1 ix2 ix3 eq_ix1 eq_ix2 eq_ix3
open Idealize.ShloMosaic.TcCoe Idealize.SL.Sem
open scoped BigOperators

/-! ## The reference -/

section reference
open Cert.Reference8Ideal Cert.Reference8Ideal.Gen Cert.Reference8Ideal.Read

theorem reference_at (x0 : (⟨S4096x11264, .bf16⟩ : BufTy).Contents (Elt Ideal)) (x1 : (⟨S2048x11264, .f32⟩ : BufTy).Contents (Elt Ideal)) (r : Fin 4096) (d : Fin 2048) :
    val_main_v4 x0 x1 (ix2 r d) = ∑ k : Fin 11264, n2 (x0 : S4096x11264.Idx → EReal) r.val k.val * n2 (x1 : S2048x11264.Idx → EReal) d.val k.val := by
  refine (val_main_v3_apply x0 x1 (ix2 r d)).trans (Finset.sum_congr rfl fun k _ => ?_)
  exact congrArg₂ (fun a b : EReal => a * b) (n2_eq (x0 : S4096x11264.Idx → EReal) _ _ (lidx_main_v3 (ix2 r d) k) rfl rfl).symm
    (n2_eq (x1 : S2048x11264.Idx → EReal) _ _ (ridx_main_v3 (ix2 r d) k) rfl rfl).symm

end reference

/-- The reference runs, gives its arguments back and, having no semaphores, leaves none raised. -/
theorem reference_runs : Cert.quiescent_Reference8Ideal (hReference8Ideal := Cert.Reference8Ideal.Gen.facts) := fun m ρ _ =>
  (θ_run _ _ _).mono (fun _ h => And.intro (fun c => (h c).2) (sem_eq_zero_of_no_sems (by decide) _)) (Cert.Reference8Ideal.Value.run m ρ)

/-! ## The two programs' results -/

theorem equal : Cert.algebraic_Kernel8Ideal_Reference8Ideal (hKernel8Ideal := Cert.Kernel8Ideal.Gen.facts)
    (hReference8Ideal := Cert.Reference8Ideal.Gen.facts) := by
  intro m g m' g' _ ha
  refine ⟨fun c => Cert.Kernel8Ideal.Value.G4 m c, ?_, ?_⟩
  · exact (θ_run _ _ _).mono (fun r h c => ⟨(h c).1, (h c).2⟩) (Cert.Kernel8Ideal.Value.run m g)
  · refine (θ_run _ _ _).mono (fun r h c => ?_) (Cert.Reference8Ideal.Value.run m' g')
    obtain ⟨h0, h1⟩ := h c
    obtain ⟨a0, a1⟩ := ha c
    refine ⟨h0.trans ?_, h1⟩
    refine (Cert.Reference8Ideal.Read.val_main_v4_eq _ _).trans (ext2 fun r d => ?_)
    refine Eq.trans ?_ ((reference_at _ _ r d).trans (result m c r d).symm)
    exact congrFun (congrArg₂ (Cert.Reference8Ideal.Read.val_main_v4 (F := Idealize.ShloMosaic.Ideal)) a0 a1) _

end Cert.Mat.K8

end
-- ==== Proof.Ffn.K9Fold.lean ====
/- The kernel of the down-projection's input gradient and the middle's backward: the blocks of a grid point, and the two results. -/
module

public import proofs.«01_k».proof.Proof.Ffn.Layout
public import proofs.«01_k».proof.Proof.Ffn.Silu
public import proofs.«01_k».proof.Proof.Gen.Kernel9Ideal.Value
public import Idealize.ShloMosaic.Lib.StableHlo.ReadAt

@[expose] public section

set_option maxRecDepth 16384

noncomputable section

namespace Cert.Mat.K9

open Cert.Kernel9Ideal Cert.Kernel9Ideal.Gen Idealize.ShloMosaic.ValueIdx
open Idealize.ShloMosaic hiding ix1 ix2 ix3 eq_ix1 eq_ix2 eq_ix3
open Idealize.ShloMosaic.TcCoe Idealize.SL.Sem
open scoped BigOperators

/-! ## A point's arithmetic -/

theorem zero2 : (![0, 0] : Fin 2 → ℕ) = fun _ => 0 := funext fun a => by fin_cases a <;> rfl
theorem zero3 : (![0, 0, 0] : Fin 3 → ℕ) = fun _ => 0 := funext fun a => by fin_cases a <;> rfl

theorem out_4 (x0 : Vec Ideal S1024x2048 .bf16) (x1 : Vec Ideal S1x768x2048 .bf16) (x2 x3 : Vec Ideal S1x1024x768 .bf16) : out0_4 x0 x1 x2 x3 = k0_pay5 x0 x1 x2 x3 := by
  unfold out0_4
  rw [View.canon_unit_zero zero3, View.ld_unit_zero zero2, View.ld_unit_zero zero3, View.ld_unit_zero zero3, View.ld_unit_zero zero3]

theorem out_5 (x0 : Vec Ideal S1024x2048 .bf16) (x1 : Vec Ideal S1x768x2048 .bf16) (x2 x3 : Vec Ideal S1x1024x768 .bf16) : out0_5 x0 x1 x2 x3 = k0_pay1 (k0_pay6 x0 x1 x2) := by
  unfold out0_5
  rw [View.canon_unit_zero zero3, View.ld_unit_zero zero2, View.ld_unit_zero zero3, View.ld_unit_zero zero3]

/-- A block's product with a slot's rows. -/
abbrev tile (x0 : Vec Ideal S1024x2048 .bf16) (x1 : Vec Ideal S1x768x2048 .bf16) (r : Fin 1024) (d : Fin 768) : EReal :=
  ∑ k : Fin 2048, x0 (ix2 r k) * x1 (ix3 0 d k)

theorem dot_at (x0 : Vec Ideal S1024x2048 .bf16) (x1 : Vec Ideal S1x768x2048 .bf16) (r : Fin 1024) (d : Fin 768) :
    k0_pay2 x0 x1 (ix2 r d) = ∑ k : Fin 2048, x0 (ix2 r k) * x1 (ix3 0 d k) := by
  have e : FloatOps.matmul (F := Ideal) (φ₁ := .bf16) (φ₂ := .bf16) (DotDims.transposedRhs 1024 2048 768) none x0
        (shapeCast S768x2048 x1 shapeCasts_S1x768x2048_S768x2048) (constant S1024x768 .f32 0x00000000#32) (ix2 r d)
        = ∑ k : Fin 2048, x0 (ix2 r k) * x1 (ix3 0 d k) :=
    (trans_n (φ₁ := .bf16) (φ₂ := .bf16) _ _ r d).trans (Finset.sum_congr rfl fun k _ => congrArg (x0 (ix2 r k) * ·) (drop_slot x1 _ d k))
  unfold k0_pay2
  exact e

/-- The gradient with respect to the gate's product, from the middle's gradient, the gate's product and the up projection's. -/
def dgate (v a b : EReal) : EReal :=
  v * b * (sg a * (Ideal.ofBits .f32 0x3F800000#32 + a * (Ideal.ofBits .f32 0x3F800000#32 - sg a)))

/-- The gradient with respect to the up projection's product. -/
def dup (v a : EReal) : EReal := v * (a * sg a)

theorem gate_at (x2 : Vec Ideal S1x1024x768 .bf16) (r : Fin 1024) (d : Fin 768) : k0_pay3 x2 (ix2 r d) = x2 (ix3 0 r d) := by
  unfold k0_pay3
  exact drop_slot x2 shapeCasts_S1x1024x768_S1024x768 r d

theorem dgate_at (x0 : Vec Ideal S1024x2048 .bf16) (x1 : Vec Ideal S1x768x2048 .bf16) (x2 x3 : Vec Ideal S1x1024x768 .bf16) (r : Fin 1024) (d : Fin 768) :
    k0_pay5 x0 x1 x2 x3 (ix3 0 r d) = dgate (tile x0 x1 r d) (x2 (ix3 0 r d)) (x3 (ix3 0 r d)) := by
  have e : (fun i => dgate (k0_pay2 x0 x1 i) (k0_pay3 x2 i) (k0_pay3 x3 i) : S1024x768.Idx → EReal) (ix2 r d)
      = dgate (tile x0 x1 r d) (x2 (ix3 0 r d)) (x3 (ix3 0 r d)) := by
    show dgate (k0_pay2 x0 x1 (ix2 r d)) (k0_pay3 x2 (ix2 r d)) (k0_pay3 x3 (ix2 r d)) = _
    rw [dot_at x0 x1 r d, gate_at x2 r d, gate_at x3 r d]
  refine Eq.trans ?_ e
  unfold k0_pay5
  exact add_slot (fun i => dgate (k0_pay2 x0 x1 i) (k0_pay3 x2 i) (k0_pay3 x3 i) : S1024x768.Idx → EReal) shapeCasts_S1024x768_S1x1024x768 r d

theorem dup_at (x0 : Vec Ideal S1024x2048 .bf16) (x1 : Vec Ideal S1x768x2048 .bf16) (x2 : Vec Ideal S1x1024x768 .bf16) (r : Fin 1024) (d : Fin 768) :
    k0_pay1 (k0_pay6 x0 x1 x2) (ix3 0 r d) = dup (tile x0 x1 r d) (x2 (ix3 0 r d)) := by
  have e : (fun i => dup (k0_pay2 x0 x1 i) (k0_pay3 x2 i) : S1024x768.Idx → EReal) (ix2 r d)
      = dup (tile x0 x1 r d) (x2 (ix3 0 r d)) := by
    show dup (k0_pay2 x0 x1 (ix2 r d)) (k0_pay3 x2 (ix2 r d)) = _
    rw [dot_at x0 x1 r d, gate_at x2 r d]
  refine Eq.trans ?_ e
  unfold k0_pay1 k0_pay6
  exact add_slot (fun i => dup (k0_pay2 x0 x1 i) (k0_pay3 x2 i) : S1024x768.Idx → EReal) shapeCasts_S1024x768_S1x1024x768 r d

/-! ## The blocks -/

theorem pt_lt (t : Fin cfg0.N) : t.val < 32 := lt_of_lt_of_eq t.isLt (show cfg0.N = 32 from N_0)

theorem index_0 : ∀ t : Fin cfg0.N, win0_0.index t (0 : Fin 2) = t.val % 4 ∧ win0_0.index t (1 : Fin 2) = 0 := by decide +kernel
theorem index_1 : ∀ t : Fin cfg0.N, win0_1.index t (0 : Fin 3) = t.val / 4 ∧ win0_1.index t (1 : Fin 3) = 0 ∧ win0_1.index t (2 : Fin 3) = 0 := by decide +kernel
theorem index_2 : ∀ t : Fin cfg0.N, win0_2.index t (0 : Fin 3) = t.val / 4 ∧ win0_2.index t (1 : Fin 3) = t.val % 4 ∧ win0_2.index t (2 : Fin 3) = 0 := by decide +kernel
theorem index_3 : ∀ t : Fin cfg0.N, win0_3.index t (0 : Fin 3) = t.val / 4 ∧ win0_3.index t (1 : Fin 3) = t.val % 4 ∧ win0_3.index t (2 : Fin 3) = 0 := by decide +kernel
theorem index_4 : ∀ t : Fin cfg0.N, win0_4.index t (0 : Fin 3) = t.val / 4 ∧ win0_4.index t (1 : Fin 3) = t.val % 4 ∧ win0_4.index t (2 : Fin 3) = 0 := by decide +kernel
theorem index_5 : ∀ t : Fin cfg0.N, win0_5.index t (0 : Fin 3) = t.val / 4 ∧ win0_5.index t (1 : Fin 3) = t.val % 4 ∧ win0_5.index t (2 : Fin 3) = 0 := by decide +kernel
theorem flush_4 : ∀ t : Fin cfg0.N, (cfg0.win 4).flush t = true := (by decide +kernel : ∀ t : Fin grid0.N, win0_4.flush t = true)
theorem flush_5 : ∀ t : Fin cfg0.N, (cfg0.win 5).flush t = true := (by decide +kernel : ∀ t : Fin grid0.N, win0_5.flush t = true)

variable (m : (ℓ : Loc nD τ sig) → Buf (Elt Ideal) ℓ) (c : Dev nD)

/-- The gate's product. -/
abbrev aA := (m ((c : Thread nD τ).loc main_arg0) : S4096x5632.Idx → EReal)
/-- The up projection's product. -/
abbrev aB := (m ((c : Thread nD τ).loc main_arg1) : S4096x5632.Idx → EReal)
/-- The down-projection's weight. -/
abbrev aW := (m ((c : Thread nD τ).loc main_arg2) : S5632x2048.Idx → EReal)
/-- The gradient of the output. -/
abbrev aX := (m ((c : Thread nD τ).loc main_arg3) : S4096x2048.Idx → EReal)

theorem host_main_v2 (y : S8x768x2048.Idx) : (V m c main_v2 : S8x768x2048.Idx → EReal) y = sr 704 (aW m c) (y 0).val (y 1).val (y 2).val := by
  unfold V
  after_reads_at
  refine sr_choice 704 (aW m c) _ _ _ _ _ (room_zero _) (fun _ => ?_) (fun _ => rfl)
  show (y 0).val * 704 + (y 1).val = _
  omega

theorem host_main_v5 (y : S8x4096x768.Idx) : (V m c main_v5 : S8x4096x768.Idx → EReal) y = sc 704 (aA m c) (y 0).val (y 1).val (y 2).val := by
  unfold V
  after_reads_at
  refine sc_choice 704 (aA m c) _ _ _ _ _ (room_zero _) (fun _ => rfl) (fun _ => ?_)
  show (y 0).val * 704 + (y 2).val = _
  omega

theorem host_main_v8 (y : S8x4096x768.Idx) : (V m c main_v8 : S8x4096x768.Idx → EReal) y = sc 704 (aB m c) (y 0).val (y 1).val (y 2).val := by
  unfold V
  after_reads_at
  refine sc_choice 704 (aB m c) _ _ _ _ _ (room_zero _) (fun _ => rfl) (fun _ => ?_)
  show (y 0).val * 704 + (y 2).val = _
  omega

theorem blk_0 (t : Fin cfg0.N) (r : Fin 1024) (k : Fin 2048) :
    (iblk m c 0 t : Vec Ideal S1024x2048 .bf16) (ix2 r k) = n2 (aX m c) (1024 * (t.val % 4) + r.val) (k.val) := by
  have e : (iblk m c 0 t : Vec Ideal S1024x2048 .bf16) (ix2 r k)
      = (V m c main_arg3 : S4096x2048.Idx → EReal) (((cfg0.win 0).blk t).view.emb (ix2 r k)) := rfl
  rw [e, V_main_arg3]
  refine (n2_eq _ _ _ _ ?_ ?_).symm
  · show win0_0.index t (0 : Fin 2) * 1024 + 1 * r.val = 1024 * (t.val % 4) + r.val
    rw [(index_0 t).1]; omega
  · show win0_0.index t (1 : Fin 2) * 2048 + 1 * k.val = k.val
    rw [(index_0 t).2]; omega

theorem blk_1 (t : Fin cfg0.N) (r : Fin 768) (k : Fin 2048) :
    (iblk m c 1 t : Vec Ideal S1x768x2048 .bf16) (ix3 0 r k) = sr 704 (aW m c) (t.val / 4) r.val k.val := by
  have e : (iblk m c 1 t : Vec Ideal S1x768x2048 .bf16) (ix3 0 r k)
      = (V m c main_v2 : S8x768x2048.Idx → EReal) (((cfg0.win 1).blk t).view.emb (ix3 0 r k)) := rfl
  have e0 : ((((cfg0.win 1).blk t).view.emb (ix3 0 r k) : S8x768x2048.Idx) 0).val = t.val / 4 := by
    show win0_1.index t (0 : Fin 3) * 1 + 1 * 0 = t.val / 4
    rw [(index_1 t).1]; omega
  have e1 : ((((cfg0.win 1).blk t).view.emb (ix3 0 r k) : S8x768x2048.Idx) 1).val = r.val := by
    show win0_1.index t (1 : Fin 3) * 768 + 1 * r.val = r.val
    rw [(index_1 t).2.1]; omega
  have e2 : ((((cfg0.win 1).blk t).view.emb (ix3 0 r k) : S8x768x2048.Idx) 2).val = k.val := by
    show win0_1.index t (2 : Fin 3) * 2048 + 1 * k.val = k.val
    rw [(index_1 t).2.2]; omega
  rw [e, host_main_v2, e0, e1, e2]

theorem blk_2 (t : Fin cfg0.N) (r : Fin 1024) (k : Fin 768) :
    (iblk m c 2 t : Vec Ideal S1x1024x768 .bf16) (ix3 0 r k) = sc 704 (aA m c) (t.val / 4) (1024 * (t.val % 4) + r.val) k.val := by
  have e : (iblk m c 2 t : Vec Ideal S1x1024x768 .bf16) (ix3 0 r k)
      = (V m c main_v5 : S8x4096x768.Idx → EReal) (((cfg0.win 2).blk t).view.emb (ix3 0 r k)) := rfl
  have e0 : ((((cfg0.win 2).blk t).view.emb (ix3 0 r k) : S8x4096x768.Idx) 0).val = t.val / 4 := by
    show win0_2.index t (0 : Fin 3) * 1 + 1 * 0 = t.val / 4
    rw [(index_2 t).1]; omega
  have e1 : ((((cfg0.win 2).blk t).view.emb (ix3 0 r k) : S8x4096x768.Idx) 1).val = 1024 * (t.val % 4) + r.val := by
    show win0_2.index t (1 : Fin 3) * 1024 + 1 * r.val = 1024 * (t.val % 4) + r.val
    rw [(index_2 t).2.1]; omega
  have e2 : ((((cfg0.win 2).blk t).view.emb (ix3 0 r k) : S8x4096x768.Idx) 2).val = k.val := by
    show win0_2.index t (2 : Fin 3) * 768 + 1 * k.val = k.val
    rw [(index_2 t).2.2]; omega
  rw [e, host_main_v5, e0, e1, e2]

theorem blk_3 (t : Fin cfg0.N) (r : Fin 1024) (k : Fin 768) :
    (iblk m c 3 t : Vec Ideal S1x1024x768 .bf16) (ix3 0 r k) = sc 704 (aB m c) (t.val / 4) (1024 * (t.val % 4) + r.val) k.val := by
  have e : (iblk m c 3 t : Vec Ideal S1x1024x768 .bf16) (ix3 0 r k)
      = (V m c main_v8 : S8x4096x768.Idx → EReal) (((cfg0.win 3).blk t).view.emb (ix3 0 r k)) := rfl
  have e0 : ((((cfg0.win 3).blk t).view.emb (ix3 0 r k) : S8x4096x768.Idx) 0).val = t.val / 4 := by
    show win0_3.index t (0 : Fin 3) * 1 + 1 * 0 = t.val / 4
    rw [(index_3 t).1]; omega
  have e1 : ((((cfg0.win 3).blk t).view.emb (ix3 0 r k) : S8x4096x768.Idx) 1).val = 1024 * (t.val % 4) + r.val := by
    show win0_3.index t (1 : Fin 3) * 1024 + 1 * r.val = 1024 * (t.val % 4) + r.val
    rw [(index_3 t).2.1]; omega
  have e2 : ((((cfg0.win 3).blk t).view.emb (ix3 0 r k) : S8x4096x768.Idx) 2).val = k.val := by
    show win0_3.index t (2 : Fin 3) * 768 + 1 * k.val = k.val
    rw [(index_3 t).2.2]; omega
  rw [e, host_main_v8, e0, e1, e2]

/-! ## The results -/

/-- A product with the rows of a weight in slots. -/
def dots (x : S4096x2048.Idx → EReal) (w : S5632x2048.Idx → EReal) (p r d : ℕ) : EReal := ∑ k : Fin 2048, n2 x r k.val * sr 704 w p d k.val

def dgates : S8x4096x768.Idx → EReal := fun i => dgate (dots (aX m c) (aW m c) (i 0).val (i 1).val (i 2).val)
  (sc 704 (aA m c) (i 0).val (i 1).val (i 2).val) (sc 704 (aB m c) (i 0).val (i 1).val (i 2).val)
def dups : S8x4096x768.Idx → EReal := fun i => dup (dots (aX m c) (aW m c) (i 0).val (i 1).val (i 2).val)
  (sc 704 (aA m c) (i 0).val (i 1).val (i 2).val)

theorem dot_sum (t : Fin cfg0.N) (r : Fin 1024) (d : Fin 768) :
    tile (iblk m c 0 t) (iblk m c 1 t) r d = dots (aX m c) (aW m c) (t.val / 4) (1024 * (t.val % 4) + r.val) d.val :=
  Finset.sum_congr rfl fun k _ => congrArg₂ (fun a b : EReal => a * b) (blk_0 m c t r k) (blk_1 m c t d k)

theorem mem_blk_4 (t : Fin cfg0.N) (i : S8x4096x768.Idx) :
    i ∈ ((cfg0.win 4).blk t).view.set ↔ ∀ a : Fin 3, win0_4.index t a * S1x1024x768.size a ≤ (i a).val ∧ (i a).val < win0_4.index t a * S1x1024x768.size a + S1x1024x768.size a := by
  show i ∈ ((View.whole main_v9_0).slice (win0_4.rect t)).set ↔ _
  rw [View.set_slice_whole, Rect.mem_set_unit]
  exact Iff.rfl

theorem covered_4 (i : S8x4096x768.Idx) : ∃ t : Fin cfg0.N, (cfg0.win 4).flush t = true ∧ i ∈ ((cfg0.win 4).blk t).view.set := by
  have h0 : (i 0).val < 8 := (i 0).isLt
  have h1 : (i 1).val < 4096 := (i 1).isLt
  have h2 : (i 2).val < 768 := (i 2).isLt
  have hN : cfg0.N = 32 := N_0
  refine ⟨⟨4 * (i 0).val + (i 1).val / 1024, by omega⟩, flush_4 _, (mem_blk_4 _ i).2 fun a => ?_⟩
  obtain ⟨q0, q1, q2⟩ := index_4 ⟨4 * (i 0).val + (i 1).val / 1024, by omega⟩
  dsimp only at q0 q1 q2
  match a with
  | ⟨0, _⟩ =>
    show win0_4.index _ (0 : Fin 3) * 1 ≤ (i 0).val ∧ (i 0).val < win0_4.index _ (0 : Fin 3) * 1 + 1
    omega
  | ⟨1, _⟩ =>
    show win0_4.index _ (1 : Fin 3) * 1024 ≤ (i 1).val ∧ (i 1).val < win0_4.index _ (1 : Fin 3) * 1024 + 1024
    omega
  | ⟨2, _⟩ =>
    show win0_4.index _ (2 : Fin 3) * 768 ≤ (i 2).val ∧ (i 2).val < win0_4.index _ (2 : Fin 3) * 768 + 768
    omega

theorem flushed_4 (t : Fin cfg0.N) : (dats m 0 c).flushed 4 t = ((cfg0.win 4).blk t).view.read (Elt Ideal) (dgates m c) := by
  rw [Value.flushed4, out_4]
  funext y
  have h0 : (y 0).val < 1 := (y 0).isLt
  have h1 : (y 1).val < 1024 := (y 1).isLt
  have h2 : (y 2).val < 768 := (y 2).isLt
  have hy : (cfg0.win 4).xinj (grid0.coords t) y = ix3 (0 : Fin 1) (⟨(y 1).val, h1⟩ : Fin 1024) (⟨(y 2).val, h2⟩ : Fin 768) := by
    funext a
    match a with
    | ⟨0, _⟩ => exact Fin.ext (by show (y 0).val = 0; omega)
    | ⟨1, _⟩ => rfl
    | ⟨2, _⟩ => rfl
  have e0 : ((((cfg0.win 4).blk t).view.emb y : S8x4096x768.Idx) 0).val = t.val / 4 := by
    show win0_4.index t (0 : Fin 3) * 1 + 1 * (y 0).val = _
    rw [(index_4 t).1]; omega
  have e1 : ((((cfg0.win 4).blk t).view.emb y : S8x4096x768.Idx) 1).val = 1024 * (t.val % 4) + (y 1).val := by
    show win0_4.index t (1 : Fin 3) * 1024 + 1 * (y 1).val = _
    rw [(index_4 t).2.1]; omega
  have e2 : ((((cfg0.win 4).blk t).view.emb y : S8x4096x768.Idx) 2).val = (y 2).val := by
    show win0_4.index t (2 : Fin 3) * 768 + 1 * (y 2).val = _
    rw [(index_4 t).2.2]; omega
  show (k0_pay5 (iblk m c 0 t) (iblk m c 1 t) (iblk m c 2 t) (iblk m c 3 t)) ((cfg0.win 4).xinj (grid0.coords t) y) = dgates m c (((cfg0.win 4).blk t).view.emb y)
  rw [hy]
  refine (dgate_at (iblk m c 0 t) (iblk m c 1 t) (iblk m c 2 t) (iblk m c 3 t) _ _).trans ?_
  unfold dgates
  rw [e0, e1, e2]
  exact congr (congrArg₂ dgate (dot_sum m c t _ _) (blk_2 m c t _ _)) (blk_3 m c t _ _)

/-- The gradient of the gate's product. -/
theorem final_4 : (dats m 0 c).arrAt 4 cfg0.N = dgates m c :=
  (dats m 0 c).arrAt_eq_of_cover 4 (dgates m c) (fun t _ => flushed_4 m c t) (fun i => covered_4 i)

theorem mem_blk_5 (t : Fin cfg0.N) (i : S8x4096x768.Idx) :
    i ∈ ((cfg0.win 5).blk t).view.set ↔ ∀ a : Fin 3, win0_5.index t a * S1x1024x768.size a ≤ (i a).val ∧ (i a).val < win0_5.index t a * S1x1024x768.size a + S1x1024x768.size a := by
  show i ∈ ((View.whole main_v9_1).slice (win0_5.rect t)).set ↔ _
  rw [View.set_slice_whole, Rect.mem_set_unit]
  exact Iff.rfl

theorem covered_5 (i : S8x4096x768.Idx) : ∃ t : Fin cfg0.N, (cfg0.win 5).flush t = true ∧ i ∈ ((cfg0.win 5).blk t).view.set := by
  have h0 : (i 0).val < 8 := (i 0).isLt
  have h1 : (i 1).val < 4096 := (i 1).isLt
  have h2 : (i 2).val < 768 := (i 2).isLt
  have hN : cfg0.N = 32 := N_0
  refine ⟨⟨4 * (i 0).val + (i 1).val / 1024, by omega⟩, flush_5 _, (mem_blk_5 _ i).2 fun a => ?_⟩
  obtain ⟨q0, q1, q2⟩ := index_5 ⟨4 * (i 0).val + (i 1).val / 1024, by omega⟩
  dsimp only at q0 q1 q2
  match a with
  | ⟨0, _⟩ =>
    show win0_5.index _ (0 : Fin 3) * 1 ≤ (i 0).val ∧ (i 0).val < win0_5.index _ (0 : Fin 3) * 1 + 1
    omega
  | ⟨1, _⟩ =>
    show win0_5.index _ (1 : Fin 3) * 1024 ≤ (i 1).val ∧ (i 1).val < win0_5.index _ (1 : Fin 3) * 1024 + 1024
    omega
  | ⟨2, _⟩ =>
    show win0_5.index _ (2 : Fin 3) * 768 ≤ (i 2).val ∧ (i 2).val < win0_5.index _ (2 : Fin 3) * 768 + 768
    omega

theorem flushed_5 (t : Fin cfg0.N) : (dats m 0 c).flushed 5 t = ((cfg0.win 5).blk t).view.read (Elt Ideal) (dups m c) := by
  rw [Value.flushed5, out_5]
  funext y
  have h0 : (y 0).val < 1 := (y 0).isLt
  have h1 : (y 1).val < 1024 := (y 1).isLt
  have h2 : (y 2).val < 768 := (y 2).isLt
  have hy : (cfg0.win 5).xinj (grid0.coords t) y = ix3 (0 : Fin 1) (⟨(y 1).val, h1⟩ : Fin 1024) (⟨(y 2).val, h2⟩ : Fin 768) := by
    funext a
    match a with
    | ⟨0, _⟩ => exact Fin.ext (by show (y 0).val = 0; omega)
    | ⟨1, _⟩ => rfl
    | ⟨2, _⟩ => rfl
  have e0 : ((((cfg0.win 5).blk t).view.emb y : S8x4096x768.Idx) 0).val = t.val / 4 := by
    show win0_5.index t (0 : Fin 3) * 1 + 1 * (y 0).val = _
    rw [(index_5 t).1]; omega
  have e1 : ((((cfg0.win 5).blk t).view.emb y : S8x4096x768.Idx) 1).val = 1024 * (t.val % 4) + (y 1).val := by
    show win0_5.index t (1 : Fin 3) * 1024 + 1 * (y 1).val = _
    rw [(index_5 t).2.1]; omega
  have e2 : ((((cfg0.win 5).blk t).view.emb y : S8x4096x768.Idx) 2).val = (y 2).val := by
    show win0_5.index t (2 : Fin 3) * 768 + 1 * (y 2).val = _
    rw [(index_5 t).2.2]; omega
  show (k0_pay1 (k0_pay6 (iblk m c 0 t) (iblk m c 1 t) (iblk m c 2 t))) ((cfg0.win 5).xinj (grid0.coords t) y) = dups m c (((cfg0.win 5).blk t).view.emb y)
  rw [hy]
  refine (dup_at (iblk m c 0 t) (iblk m c 1 t) (iblk m c 2 t) _ _).trans ?_
  unfold dups
  rw [e0, e1, e2]
  exact congrArg₂ dup (dot_sum m c t _ _) (blk_2 m c t _ _)

/-- The gradient of the up projection's product. -/
theorem final_5 : (dats m 0 c).arrAt 5 cfg0.N = dups m c :=
  (dats m 0 c).arrAt_eq_of_cover 5 (dups m c) (fun t _ => flushed_5 m c t) (fun i => covered_5 i)

end Cert.Mat.K9

end
-- ==== Proof.Ffn.K9.lean ====
/- The kernel of the down-projection's input gradient and the middle's backward, and its reference: where the up projection's
   product, the weight and the gradient are finite, both give the same two results. -/
module

public import proofs.«01_k».proof.Proof.Ffn.K9Fold
public import proofs.«01_k».proof.Defs
public import proofs.«01_k».proof.Proof.Gen.Reference9Ideal.Run
public import proofs.«01_k».proof.Proof.Gen.Reference9Ideal.Read

@[expose] public section

set_option maxRecDepth 16384

noncomputable section

namespace Cert.Pre_finite9

/-- The shapes `finite9` states fit. -/
theorem facts : Facts where
  bcast_S_S4096x5632 := by decide
  bcast_S_S5632x2048 := by decide
  bcast_S_S4096x2048 := by decide

end Cert.Pre_finite9

namespace Cert.Mat.K9

open Idealize.ShloMosaic.ValueIdx
open Idealize.ShloMosaic hiding ix1 ix2 ix3 eq_ix1 eq_ix2 eq_ix3
open Idealize.ShloMosaic.TcCoe Idealize.SL.Sem
open scoped BigOperators

/-- Inside a slot the product with slots is the product with the weight; in its room it is zero. -/
theorem dots_eq (x : (⟨2, ![4096, 2048]⟩ : Shape).Idx → EReal) (w : (⟨2, ![5632, 2048]⟩ : Shape).Idx → EReal) (p r d : ℕ) :
    dots x w p r d = if d < 704 then ∑ k : Fin 2048, n2 x r k.val * n2 w (704 * p + d) k.val else 0 := by
  unfold dots sr
  by_cases h : d < 704
  · simp only [if_pos h]
  · simp only [if_neg h, mul_zero, Finset.sum_const_zero]

/-! ## Finite arrays -/

/-- A number whose size is below +∞ is a real one. -/
theorem real_of_bit (x : EReal) (h : Ideal.cmp .olt (max x (-x)) ⊤ = 1#1) : ∃ r : ℝ, x = r := by
  have hl : max x (-x) < ⊤ := by
    by_contra hn
    have : Ideal.cmp .olt (max x (-x)) ⊤ = 0#1 := by simp [Ideal.cmp, hn]
    rw [this] at h
    exact absurd h (by decide)
  induction x with
  | bot => exact absurd hl (by simp)
  | coe r => exact ⟨r, rfl⟩
  | top => exact absurd hl (by simp)

theorem top16 : Ideal.ofBits .bf16 0x7F80#16 = ⊤ := by simp [Ideal.ofBits, Ideal.ieee]
theorem top32 : Ideal.ofBits .f32 0x7F800000#32 = ⊤ := by simp [Ideal.ofBits, Ideal.ieee]

theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

theorem sum_real {n : ℕ} (f g : Fin n → EReal) (hf : ∀ k, ∃ r : ℝ, f k = r) (hg : ∀ k, ∃ r : ℝ, g k = r) :
    ∃ r : ℝ, ∑ k, f k * g k = r := by
  choose a ha using hf
  choose b hb using hg
  refine ⟨∑ k, a k * b k, ?_⟩
  rw [coe_sum]
  exact Finset.sum_congr rfl fun k _ => by rw [ha, hb, EReal.coe_mul]

section pre
variable [Cert.Pre_finite9.Facts] (x0 x1 : (⟨2, ![4096, 5632]⟩ : Shape).Idx → EReal) (x2 : (⟨2, ![5632, 2048]⟩ : Shape).Idx → EReal) (x3 : (⟨2, ![4096, 2048]⟩ : Shape).Idx → EReal)

theorem up_real (h : (Cert.Pre_finite9.fn (F := Ideal) x0 x1 x2 x3).1 = fun _ => 1#1) (i : (⟨2, ![4096, 5632]⟩ : Shape).Idx) : ∃ r : ℝ, x1 i = r := by
  have e : Ideal.cmp .olt (max (x1 i) (-(x1 i))) (Ideal.ofBits .bf16 0x7F80#16) = 1#1 := congrFun h i
  rw [top16] at e
  exact real_of_bit _ e

theorem weight_real (h : (Cert.Pre_finite9.fn (F := Ideal) x0 x1 x2 x3).2.1 = fun _ => 1#1) (i : (⟨2, ![5632, 2048]⟩ : Shape).Idx) : ∃ r : ℝ, x2 i = r := by
  have e : Ideal.cmp .olt (max (x2 i) (-(x2 i))) (Ideal.ofBits .f32 0x7F800000#32) = 1#1 := congrFun h i
  rw [top32] at e
  exact real_of_bit _ e

theorem gradient_real (h : (Cert.Pre_finite9.fn (F := Ideal) x0 x1 x2 x3).2.2 = fun _ => 1#1) (i : (⟨2, ![4096, 2048]⟩ : Shape).Idx) : ∃ r : ℝ, x3 i = r := by
  have e : Ideal.cmp .olt (max (x3 i) (-(x3 i))) (Ideal.ofBits .bf16 0x7F80#16) = 1#1 := congrFun h i
  rw [top16] at e
  exact real_of_bit _ e

end pre

/-- The gate's gradient as the reference has it, where the middle's gradient times the up projection's product is finite. -/
theorem dgate_eq (v a b : EReal) (h : ∃ r : ℝ, v * b = r) :
    dgate v a b = v * b * lg a + a * (v * b) * (lg a * (Ideal.ofBits .f32 0x3F800000#32 - lg a)) := by
  obtain ⟨r, hr⟩ := h
  unfold dgate
  rw [hr, sg_eq, one_word]
  exact silu_grad a r

theorem dup_eq (v a : EReal) : dup v a = a * lg a * v := by
  unfold dup
  rw [sg_eq, mul_comm]

/-! ## The reference -/

section reference
open Cert.Reference9Ideal Cert.Reference9Ideal.Gen Cert.Reference9Ideal.Read

theorem dm_n (x2 : (⟨S5632x2048, .f32⟩ : BufTy).Contents (Elt Ideal)) (x3 : (⟨S4096x2048, .bf16⟩ : BufTy).Contents (Elt Ideal)) (p : Fin 8) (r : Fin 4096) (d : ℕ) (hd : d < 704) :
    n2 (val_main_v6 x2 x3 : S4096x5632.Idx → EReal) r.val (704 * p.val + d)
      = ∑ k : Fin 2048, n2 (x3 : S4096x2048.Idx → EReal) r.val k.val * n2 (x2 : S5632x2048.Idx → EReal) (704 * p.val + d) k.val := by
  have hp := p.isLt
  have hj : 704 * p.val + d < 5632 := by omega
  refine (n2_eq (val_main_v6 x2 x3 : S4096x5632.Idx → EReal) _ _ (ix2 r ⟨704 * p.val + d, hj⟩) rfl rfl).trans ?_
  refine (val_main_v6_apply x2 x3 (ix2 r ⟨704 * p.val + d, hj⟩)).trans (Finset.sum_congr rfl fun k _ => ?_)
  exact congrArg₂ (fun a b : EReal => a * b) (n2_eq (x3 : S4096x2048.Idx → EReal) _ _ (lidx_main_v6 (ix2 r ⟨704 * p.val + d, hj⟩) k) rfl rfl).symm
    (n2_eq (x2 : S5632x2048.Idx → EReal) _ _ (ridx_main_v6 (ix2 r ⟨704 * p.val + d, hj⟩) k) rfl rfl).symm

/-- The middle's gradient is finite where the weight and the gradient are. -/
theorem dm_real (x2 : (⟨S5632x2048, .f32⟩ : BufTy).Contents (Elt Ideal)) (x3 : (⟨S4096x2048, .bf16⟩ : BufTy).Contents (Elt Ideal)) (hw : ∀ i, ∃ r : ℝ, (x2 : S5632x2048.Idx → EReal) i = r) (hx : ∀ i, ∃ r : ℝ, (x3 : S4096x2048.Idx → EReal) i = r) (i : S4096x5632.Idx) :
    ∃ r : ℝ, (val_main_v6 x2 x3 : S4096x5632.Idx → EReal) i = r := by
  obtain ⟨r, hr⟩ := sum_real (fun k => (x3 : S4096x2048.Idx → EReal) (lidx_main_v6 i k)) (fun k => (x2 : S5632x2048.Idx → EReal) (ridx_main_v6 i k))
    (fun k => hx _) (fun k => hw _)
  exact ⟨r, (val_main_v6_apply x2 x3 i).trans hr⟩

/-- The gate's gradient at a place. -/
theorem dgate_ref (x0 : (⟨S4096x5632, .bf16⟩ : BufTy).Contents (Elt Ideal)) (x1 : (⟨S4096x5632, .bf16⟩ : BufTy).Contents (Elt Ideal)) (x2 : (⟨S5632x2048, .f32⟩ : BufTy).Contents (Elt Ideal)) (x3 : (⟨S4096x2048, .bf16⟩ : BufTy).Contents (Elt Ideal)) (i : S4096x5632.Idx) :
    (val_main_v10 x0 x1 x2 x3 : S4096x5632.Idx → EReal) i
      = (val_main_v6 x2 x3 : S4096x5632.Idx → EReal) i * (x1 : S4096x5632.Idx → EReal) i * lg ((x0 : S4096x5632.Idx → EReal) i)
        + (x0 : S4096x5632.Idx → EReal) i * ((val_main_v6 x2 x3 : S4096x5632.Idx → EReal) i * (x1 : S4096x5632.Idx → EReal) i) * (lg ((x0 : S4096x5632.Idx → EReal) i) * (Ideal.ofBits .f32 0x3F800000#32 - lg ((x0 : S4096x5632.Idx → EReal) i))) := rfl

/-- The up projection's gradient at a place. -/
theorem dup_ref (x0 : (⟨S4096x5632, .bf16⟩ : BufTy).Contents (Elt Ideal)) (x2 : (⟨S5632x2048, .f32⟩ : BufTy).Contents (Elt Ideal)) (x3 : (⟨S4096x2048, .bf16⟩ : BufTy).Contents (Elt Ideal)) (i : S4096x5632.Idx) :
    (val_main_v14 x0 x2 x3 : S4096x5632.Idx → EReal) i = (x0 : S4096x5632.Idx → EReal) i * lg ((x0 : S4096x5632.Idx → EReal) i) * (val_main_v6 x2 x3 : S4096x5632.Idx → EReal) i := rfl

theorem gates_ref (x0 : (⟨S4096x5632, .bf16⟩ : BufTy).Contents (Elt Ideal)) (x1 : (⟨S4096x5632, .bf16⟩ : BufTy).Contents (Elt Ideal)) (x2 : (⟨S5632x2048, .f32⟩ : BufTy).Contents (Elt Ideal)) (x3 : (⟨S4096x2048, .bf16⟩ : BufTy).Contents (Elt Ideal)) (hb : ∀ i, ∃ r : ℝ, (x1 : S4096x5632.Idx → EReal) i = r) (hw : ∀ i, ∃ r : ℝ, (x2 : S5632x2048.Idx → EReal) i = r)
    (hx : ∀ i, ∃ r : ℝ, (x3 : S4096x2048.Idx → EReal) i = r) (p : Fin 8) (r : Fin 4096) (d : Fin 768) :
    val_main_v13 x0 x1 x2 x3 (ix3 p r d)
      = dgate (dots (x3 : S4096x2048.Idx → EReal) (x2 : S5632x2048.Idx → EReal) p.val r.val d.val)
        (sc 704 (x0 : S4096x5632.Idx → EReal) p.val r.val d.val) (sc 704 (x1 : S4096x5632.Idx → EReal) p.val r.val d.val) := by
  have e : val_main_v13 x0 x1 x2 x3 (ix3 p r d) = sc 704 (val_main_v10 x0 x1 x2 x3 : S4096x5632.Idx → EReal) p.val r.val d.val :=
    cols_room (P := 8) (w := 704) (w' := 768) (g := 64) (val_main_v10 x0 x1 x2 x3 : S4096x5632.Idx → EReal) rfl shapeCasts_S4096x5632_S4096x8x704
      transposes_S4096x8x704_S8x4096x704_1_0_2 _ pads_S8x4096x704_S8x4096x768_000_000_0640 h_S_ (room_zero .bf16) p r d
  refine e.trans ?_
  rw [dots_eq]
  unfold sc
  by_cases h : d.val < 704
  · have hp := p.isLt
    have hj : 704 * p.val + d.val < 5632 := by omega
    simp only [if_pos h]
    rw [← dm_n x2 x3 p r d.val h,
      n2_eq (val_main_v10 x0 x1 x2 x3 : S4096x5632.Idx → EReal) _ _ (ix2 r ⟨704 * p.val + d.val, hj⟩) rfl rfl,
      n2_eq (val_main_v6 x2 x3 : S4096x5632.Idx → EReal) _ _ (ix2 r ⟨704 * p.val + d.val, hj⟩) rfl rfl,
      n2_eq (x0 : S4096x5632.Idx → EReal) _ _ (ix2 r ⟨704 * p.val + d.val, hj⟩) rfl rfl,
      n2_eq (x1 : S4096x5632.Idx → EReal) _ _ (ix2 r ⟨704 * p.val + d.val, hj⟩) rfl rfl]
    refine (dgate_ref x0 x1 x2 x3 _).trans (dgate_eq _ _ _ ?_).symm
    obtain ⟨u, hu⟩ := dm_real x2 x3 hw hx (ix2 r ⟨704 * p.val + d.val, hj⟩)
    obtain ⟨v, hv⟩ := hb (ix2 r ⟨704 * p.val + d.val, hj⟩)
    exact ⟨u * v, by rw [hu, hv, EReal.coe_mul]⟩
  · simp only [if_neg h]
    unfold dgate
    rw [zero_mul, zero_mul]

theorem ups_ref (x0 : (⟨S4096x5632, .bf16⟩ : BufTy).Contents (Elt Ideal)) (x2 : (⟨S5632x2048, .f32⟩ : BufTy).Contents (Elt Ideal)) (x3 : (⟨S4096x2048, .bf16⟩ : BufTy).Contents (Elt Ideal)) (p : Fin 8) (r : Fin 4096) (d : Fin 768) :
    val_main_v17 x0 x2 x3 (ix3 p r d)
      = dup (dots (x3 : S4096x2048.Idx → EReal) (x2 : S5632x2048.Idx → EReal) p.val r.val d.val) (sc 704 (x0 : S4096x5632.Idx → EReal) p.val r.val d.val) := by
  have e : val_main_v17 x0 x2 x3 (ix3 p r d) = sc 704 (val_main_v14 x0 x2 x3 : S4096x5632.Idx → EReal) p.val r.val d.val :=
    cols_room (P := 8) (w := 704) (w' := 768) (g := 64) (val_main_v14 x0 x2 x3 : S4096x5632.Idx → EReal) rfl shapeCasts_S4096x5632_S4096x8x704
      transposes_S4096x8x704_S8x4096x704_1_0_2 _ pads_S8x4096x704_S8x4096x768_000_000_0640 h_S_ (room_zero .bf16) p r d
  refine e.trans ?_
  rw [dots_eq]
  unfold sc
  by_cases h : d.val < 704
  · have hp := p.isLt
    have hj : 704 * p.val + d.val < 5632 := by omega
    simp only [if_pos h]
    rw [← dm_n x2 x3 p r d.val h,
      n2_eq (val_main_v14 x0 x2 x3 : S4096x5632.Idx → EReal) _ _ (ix2 r ⟨704 * p.val + d.val, hj⟩) rfl rfl,
      n2_eq (val_main_v6 x2 x3 : S4096x5632.Idx → EReal) _ _ (ix2 r ⟨704 * p.val + d.val, hj⟩) rfl rfl,
      n2_eq (x0 : S4096x5632.Idx → EReal) _ _ (ix2 r ⟨704 * p.val + d.val, hj⟩) rfl rfl]
    exact (dup_ref x0 x2 x3 _).trans (dup_eq _ _).symm
  · simp only [if_neg h]
    unfold dup
    rw [zero_mul]

end reference

/-- The reference runs, gives its arguments back and, having no semaphores, leaves none raised. -/
theorem reference_runs : Cert.quiescent_Reference9Ideal (hReference9Ideal := Cert.Reference9Ideal.Gen.facts) := fun m ρ _ =>
  (θ_run _ _ _).mono (fun _ h => And.intro (fun c => (h c).2.2) (sem_eq_zero_of_no_sems (by decide) _)) (Cert.Reference9Ideal.Value.run m ρ)

/-! ## The two programs' results -/

theorem equal : Cert.algebraic_Kernel9Ideal_Reference9Ideal_pre_finite9 (hKernel9Ideal := Cert.Kernel9Ideal.Gen.facts)
    (hReference9Ideal := Cert.Reference9Ideal.Gen.facts) (hPre_finite9 := Cert.Pre_finite9.facts) := by
  intro m g m' g' hp ha
  refine ⟨fun c => dgates m c, fun c => dups m c, ?_, ?_⟩
  · exact (θ_run _ _ _).mono (fun r h c => ⟨(h c).1.trans (final_4 m c), (h c).2.1.trans (final_5 m c), (h c).2.2⟩)
      (Cert.Kernel9Ideal.Value.run_blocks m g)
  · refine (θ_run _ _ _).mono (fun r h c => ?_) (Cert.Reference9Ideal.Value.run m' g')
    obtain ⟨h0, h1, h2⟩ := h c
    obtain ⟨a0, a1, a2, a3⟩ := ha c
    obtain ⟨p1, p2, p3⟩ := hp c
    refine ⟨h0.trans ?_, h1.trans ?_, h2⟩
    · refine (Cert.Reference9Ideal.Read.val_main_v13_eq _ _ _ _).trans (ext3 fun p r d => ?_)
      refine Eq.trans ?_ ((gates_ref _ _ _ _ (@up_real Cert.Pre_finite9.facts _ _ _ _ p1) (@weight_real Cert.Pre_finite9.facts _ _ _ _ p2)
        (@gradient_real Cert.Pre_finite9.facts _ _ _ _ p3) p r d).trans rfl)
      exact congrFun (congr (congr (congrArg₂ (Cert.Reference9Ideal.Read.val_main_v13 (F := Idealize.ShloMosaic.Ideal)) a0 a1) a2) a3) _
    · refine (Cert.Reference9Ideal.Read.val_main_v17_eq _ _ _).trans (ext3 fun p r d => ?_)
      refine Eq.trans ?_ ((ups_ref _ _ _ p r d).trans rfl)
      exact congrFun (congr (congrArg₂ (Cert.Reference9Ideal.Read.val_main_v17 (F := Idealize.ShloMosaic.Ideal)) a0 a2) a3) _

end Cert.Mat.K9

end
-- ==== Proof.Ffn.K10Fold.lean ====
/- The kernel of the gated branches' gradients through the output projection: the blocks of a grid point, and the four results. -/
module

public import proofs.«01_k».proof.Proof.Ffn.Layout
public import proofs.«01_k».proof.Proof.Ffn.Silu
public import proofs.«01_k».proof.Proof.Gen.Kernel10Ideal.Value
public import Idealize.ShloMosaic.Lib.StableHlo.ReadAt

@[expose] public section

set_option maxRecDepth 16384

noncomputable section

namespace Cert.Mat.K10

open Cert.Kernel10Ideal Cert.Kernel10Ideal.Gen Idealize.ShloMosaic.ValueIdx
open Idealize.ShloMosaic hiding ix1 ix2 ix3 eq_ix1 eq_ix2 eq_ix3
open Idealize.ShloMosaic.TcCoe Idealize.SL.Sem
open scoped BigOperators

/-! ## A point's arithmetic -/

theorem zero2 : (![0, 0] : Fin 2 → ℕ) = fun _ => 0 := funext fun a => by fin_cases a <;> rfl
theorem zero3 : (![0, 0, 0] : Fin 3 → ℕ) = fun _ => 0 := funext fun a => by fin_cases a <;> rfl

/-- A block's product with a slot's rows. -/
abbrev tile (x0 : Vec Ideal S512x2048 .bf16) (x1 : Vec Ideal S1x256x2048 .bf16) (r : Fin 512) (d : Fin 256) : EReal :=
  ∑ k : Fin 2048, x0 (ix2 r k) * x1 (ix3 0 d k)

theorem dot_at (x0 : Vec Ideal S512x2048 .bf16) (x1 : Vec Ideal S1x256x2048 .bf16) (r : Fin 512) (d : Fin 256) :
    FloatOps.matmul (F := Ideal) (φ₁ := .bf16) (φ₂ := .bf16) (DotDims.transposedRhs 512 2048 256) none x0
      (shapeCast S256x2048 x1 shapeCasts_S1x256x2048_S256x2048) (constant S512x256 .f32 0x00000000#32) (ix2 r d) = tile x0 x1 r d :=
  (trans_n (φ₁ := .bf16) (φ₂ := .bf16) _ _ r d).trans (Finset.sum_congr rfl fun k _ => congrArg (x0 (ix2 r k) * ·) (drop_slot x1 _ d k))

/-- The slot of a strip of the block's columns. -/
def strip (x1 x2 x3 x4 : Vec Ideal S1x256x2048 .bf16) (q : ℕ) : Vec Ideal S1x256x2048 .bf16 :=
  if q = 0 then x1 else if q = 1 then x2 else if q = 2 then x3 else x4

/-- The block's product with the four slots side by side. -/
def prod (x0 : Vec Ideal S512x2048 .bf16) (x1 x2 x3 x4 : Vec Ideal S1x256x2048 .bf16) (y : S512x1024.Idx) : EReal :=
  tile x0 (strip x1 x2 x3 x4 ((y 1).val / 256)) ⟨(y 0).val, (y 0).isLt⟩ ⟨(y 1).val % 256, Nat.mod_lt _ (by decide)⟩

theorem prod_at (x0 : Vec Ideal S512x2048 .bf16) (x1 x2 x3 x4 : Vec Ideal S1x256x2048 .bf16) (y : S512x1024.Idx) (q : ℕ) (r : Fin 512) (d : Fin 256)
    (h0 : (y 0).val = r.val) (h1 : (y 1).val = 256 * q + d.val) : prod x0 x1 x2 x3 x4 y = tile x0 (strip x1 x2 x3 x4 q) r d := by
  have hd := d.isLt
  have hq : (y 1).val / 256 = q := by omega
  have hr : (⟨(y 0).val, (y 0).isLt⟩ : Fin 512) = r := Fin.ext h0
  have hc : (⟨(y 1).val % 256, Nat.mod_lt _ (by decide)⟩ : Fin 256) = d := Fin.ext (by show (y 1).val % 256 = d.val; omega)
  unfold prod
  rw [hq, hr, hc]

/-- A branch's gradient, from the merged gradient and the gate. -/
def dbranch (v g : EReal) : EReal := v * sg g

/-- A gate's gradient, from the merged gradient, the branch and the gate. -/
def dgate (v a g : EReal) : EReal := v * a * sg g * (Ideal.ofBits .f32 0x3F800000#32 - sg g)

theorem strip_1 (x0 : Vec Ideal S512x2048 .bf16) (x1 x2 x3 x4 : Vec Ideal S1x256x2048 .bf16) (a : Fin 512) (d : Fin 256) :
    prod x0 x1 x2 x3 x4 (r0_2.emb (ix2 a d)) = tile x0 x1 a d :=
  prod_at x0 x1 x2 x3 x4 (r0_2.emb (ix2 a d)) 0 a d (by show 0 + 1 * a.val = a.val; omega) (by show 0 + 1 * d.val = 256 * 0 + d.val; omega)

theorem strip_2 (x0 : Vec Ideal S512x2048 .bf16) (x1 x2 x3 x4 : Vec Ideal S1x256x2048 .bf16) (a : Fin 512) (d : Fin 256) :
    prod x0 x1 x2 x3 x4 (r0_3.emb (ix2 a d)) = tile x0 x2 a d :=
  prod_at x0 x1 x2 x3 x4 (r0_3.emb (ix2 a d)) 1 a d (by show 0 + 1 * a.val = a.val; omega) (by show 256 + 1 * d.val = 256 * 1 + d.val; omega)

theorem strip_3 (x0 : Vec Ideal S512x2048 .bf16) (x1 x2 x3 x4 : Vec Ideal S1x256x2048 .bf16) (a : Fin 512) (d : Fin 256) :
    prod x0 x1 x2 x3 x4 (r0_4.emb (ix2 a d)) = tile x0 x3 a d :=
  prod_at x0 x1 x2 x3 x4 (r0_4.emb (ix2 a d)) 2 a d (by show 0 + 1 * a.val = a.val; omega) (by show 512 + 1 * d.val = 256 * 2 + d.val; omega)

theorem strip_4 (x0 : Vec Ideal S512x2048 .bf16) (x1 x2 x3 x4 : Vec Ideal S1x256x2048 .bf16) (a : Fin 512) (d : Fin 256) :
    prod x0 x1 x2 x3 x4 (r0_5.emb (ix2 a d)) = tile x0 x4 a d :=
  prod_at x0 x1 x2 x3 x4 (r0_5.emb (ix2 a d)) 3 a d (by show 0 + 1 * a.val = a.val; omega) (by show 768 + 1 * d.val = 256 * 3 + d.val; omega)

/-- A block of the attention branch's gradient. -/
def out9 (x0 : Vec Ideal S512x2048 .bf16) (x1 x2 x3 x4 : Vec Ideal S1x256x2048 .bf16) (x5 x6 x7 x8 : Vec Ideal S512x1024 .bf16) : S512x1024.Idx → EReal := fun y => dbranch (prod x0 x1 x2 x3 x4 y) (x7 y)

theorem piece9_0 (x0 : Vec Ideal S512x2048 .bf16) (x1 x2 x3 x4 : Vec Ideal S1x256x2048 .bf16) (x5 x6 x7 x8 : Vec Ideal S512x1024 .bf16) (z : S512x256.Idx) :
    (k0_pay13 (k0_pay8 x0 x1 (View.ld x7 r0_2)) : S512x256.Idx → EReal) z = out9 x0 x1 x2 x3 x4 x5 x6 x7 x8 (r0_2.emb z) := by
  obtain ⟨a, d, rfl⟩ : ∃ (a : Fin 512) (d : Fin 256), z = ix2 a d := ⟨z 0, z 1, eq_ix2 z⟩
  have hp := strip_1 x0 x1 x2 x3 x4 a d
  unfold out9
  rw [hp]
  refine Eq.trans ?_ (congrArg (fun v : EReal => dbranch (v) ((x7 : S512x1024.Idx → EReal) (r0_2.emb (ix2 a d)))) (dot_at x0 x1 a d))
  unfold k0_pay13 k0_pay8 k0_pay6 k0_pay5
  rfl

theorem piece9_1 (x0 : Vec Ideal S512x2048 .bf16) (x1 x2 x3 x4 : Vec Ideal S1x256x2048 .bf16) (x5 x6 x7 x8 : Vec Ideal S512x1024 .bf16) (z : S512x256.Idx) :
    (k0_pay24 (k0_pay17 x0 x2) (k0_pay21 (View.ld x7 r0_3)) : S512x256.Idx → EReal) z = out9 x0 x1 x2 x3 x4 x5 x6 x7 x8 (r0_3.emb z) := by
  obtain ⟨a, d, rfl⟩ : ∃ (a : Fin 512) (d : Fin 256), z = ix2 a d := ⟨z 0, z 1, eq_ix2 z⟩
  have hp := strip_2 x0 x1 x2 x3 x4 a d
  unfold out9
  rw [hp]
  refine Eq.trans ?_ (congrArg (fun v : EReal => dbranch (v) ((x7 : S512x1024.Idx → EReal) (r0_3.emb (ix2 a d)))) (dot_at x0 x2 a d))
  unfold k0_pay24 k0_pay21 k0_pay17
  rfl

theorem piece9_2 (x0 : Vec Ideal S512x2048 .bf16) (x1 x2 x3 x4 : Vec Ideal S1x256x2048 .bf16) (x5 x6 x7 x8 : Vec Ideal S512x1024 .bf16) (z : S512x256.Idx) :
    (k0_pay33 (k0_pay28 x0 x3) (View.ld x7 r0_4) : S512x256.Idx → EReal) z = out9 x0 x1 x2 x3 x4 x5 x6 x7 x8 (r0_4.emb z) := by
  obtain ⟨a, d, rfl⟩ : ∃ (a : Fin 512) (d : Fin 256), z = ix2 a d := ⟨z 0, z 1, eq_ix2 z⟩
  have hp := strip_3 x0 x1 x2 x3 x4 a d
  unfold out9
  rw [hp]
  refine Eq.trans ?_ (congrArg (fun v : EReal => dbranch (v) ((x7 : S512x1024.Idx → EReal) (r0_4.emb (ix2 a d)))) (dot_at x0 x3 a d))
  unfold k0_pay33 k0_pay31 k0_pay28
  rfl

theorem piece9_3 (x0 : Vec Ideal S512x2048 .bf16) (x1 x2 x3 x4 : Vec Ideal S1x256x2048 .bf16) (x5 x6 x7 x8 : Vec Ideal S512x1024 .bf16) (z : S512x256.Idx) :
    (k0_pay1 (k0_pay40 x0 x4 (View.ld x7 r0_5)) : S512x256.Idx → EReal) z = out9 x0 x1 x2 x3 x4 x5 x6 x7 x8 (r0_5.emb z) := by
  obtain ⟨a, d, rfl⟩ : ∃ (a : Fin 512) (d : Fin 256), z = ix2 a d := ⟨z 0, z 1, eq_ix2 z⟩
  have hp := strip_4 x0 x1 x2 x3 x4 a d
  unfold out9
  rw [hp]
  refine Eq.trans ?_ (congrArg (fun v : EReal => dbranch (v) ((x7 : S512x1024.Idx → EReal) (r0_5.emb (ix2 a d)))) (dot_at x0 x4 a d))
  unfold k0_pay1 k0_pay40 k0_pay38 k0_pay37
  rfl

theorem out_9 (x0 : Vec Ideal S512x2048 .bf16) (x1 x2 x3 x4 : Vec Ideal S1x256x2048 .bf16) (x5 x6 x7 x8 : Vec Ideal S512x1024 .bf16) : out0_9 x0 x1 x2 x3 x4 x5 x6 x7 x8 = out9 x0 x1 x2 x3 x4 x5 x6 x7 x8 := by
  unfold out0_9 k0_pay49 k0_pay47 k0_pay45
  rw [View.ld_unit_zero zero2, View.ld_unit_zero zero3, View.ld_unit_zero zero3, View.ld_unit_zero zero3, View.ld_unit_zero zero3]
  refine funext fun y => ?_
  refine View.canon_apply_of_pieces (Val := Elt Ideal) (S := S512x1024) (e := .bf16) (out9 x0 x1 x2 x3 x4 x5 x6 x7 x8) _ (fun p hp => ?_) y (cover0_9 (F := Ideal) _ _ _ _ y)
  simp only [List.mem_cons, List.not_mem_nil, or_false] at hp
  rcases hp with rfl | rfl | rfl | rfl
  · exact piece9_3 x0 x1 x2 x3 x4 x5 x6 x7 x8
  · exact piece9_2 x0 x1 x2 x3 x4 x5 x6 x7 x8
  · exact piece9_1 x0 x1 x2 x3 x4 x5 x6 x7 x8
  · exact piece9_0 x0 x1 x2 x3 x4 x5 x6 x7 x8

/-- A block of the retention branch's gradient. -/
def out10 (x0 : Vec Ideal S512x2048 .bf16) (x1 x2 x3 x4 : Vec Ideal S1x256x2048 .bf16) (x5 x6 x7 x8 : Vec Ideal S512x1024 .bf16) : S512x1024.Idx → EReal := fun y => dbranch (prod x0 x1 x2 x3 x4 y) (x8 y)

theorem piece10_0 (x0 : Vec Ideal S512x2048 .bf16) (x1 x2 x3 x4 : Vec Ideal S1x256x2048 .bf16) (x5 x6 x7 x8 : Vec Ideal S512x1024 .bf16) (z : S512x256.Idx) :
    (k0_pay14 (k0_pay9 x0 x1 (View.ld x8 r0_2)) : S512x256.Idx → EReal) z = out10 x0 x1 x2 x3 x4 x5 x6 x7 x8 (r0_2.emb z) := by
  obtain ⟨a, d, rfl⟩ : ∃ (a : Fin 512) (d : Fin 256), z = ix2 a d := ⟨z 0, z 1, eq_ix2 z⟩
  have hp := strip_1 x0 x1 x2 x3 x4 a d
  unfold out10
  rw [hp]
  refine Eq.trans ?_ (congrArg (fun v : EReal => dbranch (v) ((x8 : S512x1024.Idx → EReal) (r0_2.emb (ix2 a d)))) (dot_at x0 x1 a d))
  unfold k0_pay14 k0_pay9 k0_pay7 k0_pay5
  rfl

theorem piece10_1 (x0 : Vec Ideal S512x2048 .bf16) (x1 x2 x3 x4 : Vec Ideal S1x256x2048 .bf16) (x5 x6 x7 x8 : Vec Ideal S512x1024 .bf16) (z : S512x256.Idx) :
    (k0_pay25 (k0_pay17 x0 x2) (k0_pay20 (View.ld x8 r0_3)) (k0_pay22 (F := Ideal)) : S512x256.Idx → EReal) z = out10 x0 x1 x2 x3 x4 x5 x6 x7 x8 (r0_3.emb z) := by
  obtain ⟨a, d, rfl⟩ : ∃ (a : Fin 512) (d : Fin 256), z = ix2 a d := ⟨z 0, z 1, eq_ix2 z⟩
  have hp := strip_2 x0 x1 x2 x3 x4 a d
  unfold out10
  rw [hp]
  refine Eq.trans ?_ (congrArg (fun v : EReal => dbranch (v) ((x8 : S512x1024.Idx → EReal) (r0_3.emb (ix2 a d)))) (dot_at x0 x2 a d))
  unfold k0_pay25 k0_pay23 k0_pay22 k0_pay20 k0_pay17
  rfl

theorem piece10_2 (x0 : Vec Ideal S512x2048 .bf16) (x1 x2 x3 x4 : Vec Ideal S1x256x2048 .bf16) (x5 x6 x7 x8 : Vec Ideal S512x1024 .bf16) (z : S512x256.Idx) :
    (k0_pay34 (k0_pay28 x0 x3) (View.ld x8 r0_4) : S512x256.Idx → EReal) z = out10 x0 x1 x2 x3 x4 x5 x6 x7 x8 (r0_4.emb z) := by
  obtain ⟨a, d, rfl⟩ : ∃ (a : Fin 512) (d : Fin 256), z = ix2 a d := ⟨z 0, z 1, eq_ix2 z⟩
  have hp := strip_3 x0 x1 x2 x3 x4 a d
  unfold out10
  rw [hp]
  refine Eq.trans ?_ (congrArg (fun v : EReal => dbranch (v) ((x8 : S512x1024.Idx → EReal) (r0_4.emb (ix2 a d)))) (dot_at x0 x3 a d))
  unfold k0_pay34 k0_pay32 k0_pay28
  rfl

theorem piece10_3 (x0 : Vec Ideal S512x2048 .bf16) (x1 x2 x3 x4 : Vec Ideal S1x256x2048 .bf16) (x5 x6 x7 x8 : Vec Ideal S512x1024 .bf16) (z : S512x256.Idx) :
    (k0_pay2 (k0_pay41 x0 x4 (View.ld x8 r0_5)) : S512x256.Idx → EReal) z = out10 x0 x1 x2 x3 x4 x5 x6 x7 x8 (r0_5.emb z) := by
  obtain ⟨a, d, rfl⟩ : ∃ (a : Fin 512) (d : Fin 256), z = ix2 a d := ⟨z 0, z 1, eq_ix2 z⟩
  have hp := strip_4 x0 x1 x2 x3 x4 a d
  unfold out10
  rw [hp]
  refine Eq.trans ?_ (congrArg (fun v : EReal => dbranch (v) ((x8 : S512x1024.Idx → EReal) (r0_5.emb (ix2 a d)))) (dot_at x0 x4 a d))
  unfold k0_pay2 k0_pay41 k0_pay39 k0_pay37
  rfl

theorem out_10 (x0 : Vec Ideal S512x2048 .bf16) (x1 x2 x3 x4 : Vec Ideal S1x256x2048 .bf16) (x5 x6 x7 x8 : Vec Ideal S512x1024 .bf16) : out0_10 x0 x1 x2 x3 x4 x5 x6 x7 x8 = out10 x0 x1 x2 x3 x4 x5 x6 x7 x8 := by
  unfold out0_10 k0_pay49 k0_pay48 k0_pay46 k0_pay45
  rw [View.ld_unit_zero zero2, View.ld_unit_zero zero3, View.ld_unit_zero zero3, View.ld_unit_zero zero3, View.ld_unit_zero zero3]
  refine funext fun y => ?_
  refine View.canon_apply_of_pieces (Val := Elt Ideal) (S := S512x1024) (e := .bf16) (out10 x0 x1 x2 x3 x4 x5 x6 x7 x8) _ (fun p hp => ?_) y (cover0_10 (F := Ideal) _ _ _ _ y)
  simp only [List.mem_cons, List.not_mem_nil, or_false] at hp
  rcases hp with rfl | rfl | rfl | rfl
  · exact piece10_3 x0 x1 x2 x3 x4 x5 x6 x7 x8
  · exact piece10_2 x0 x1 x2 x3 x4 x5 x6 x7 x8
  · exact piece10_1 x0 x1 x2 x3 x4 x5 x6 x7 x8
  · exact piece10_0 x0 x1 x2 x3 x4 x5 x6 x7 x8

/-- A block of the attention gate's gradient. -/
def out11 (x0 : Vec Ideal S512x2048 .bf16) (x1 x2 x3 x4 : Vec Ideal S1x256x2048 .bf16) (x5 x6 x7 x8 : Vec Ideal S512x1024 .bf16) : S512x1024.Idx → EReal := fun y => dgate (prod x0 x1 x2 x3 x4 y) (x5 y) (x7 y)

theorem piece11_0 (x0 : Vec Ideal S512x2048 .bf16) (x1 x2 x3 x4 : Vec Ideal S1x256x2048 .bf16) (x5 x6 x7 x8 : Vec Ideal S512x1024 .bf16) (z : S512x256.Idx) :
    (k0_pay15 (k0_pay10 x0 x1 (View.ld x5 r0_2) (View.ld x7 r0_2)) : S512x256.Idx → EReal) z = out11 x0 x1 x2 x3 x4 x5 x6 x7 x8 (r0_2.emb z) := by
  obtain ⟨a, d, rfl⟩ : ∃ (a : Fin 512) (d : Fin 256), z = ix2 a d := ⟨z 0, z 1, eq_ix2 z⟩
  have hp := strip_1 x0 x1 x2 x3 x4 a d
  unfold out11
  rw [hp]
  refine Eq.trans ?_ (congrArg (fun v : EReal => dgate (v) ((x5 : S512x1024.Idx → EReal) (r0_2.emb (ix2 a d))) ((x7 : S512x1024.Idx → EReal) (r0_2.emb (ix2 a d)))) (dot_at x0 x1 a d))
  unfold k0_pay15 k0_pay10 k0_pay6 k0_pay5
  rfl

theorem piece11_1 (x0 : Vec Ideal S512x2048 .bf16) (x1 x2 x3 x4 : Vec Ideal S1x256x2048 .bf16) (x5 x6 x7 x8 : Vec Ideal S512x1024 .bf16) (z : S512x256.Idx) :
    (k0_pay26 (k0_pay17 x0 x2) (k0_pay18 (View.ld x5 r0_3)) (k0_pay21 (View.ld x7 r0_3)) : S512x256.Idx → EReal) z = out11 x0 x1 x2 x3 x4 x5 x6 x7 x8 (r0_3.emb z) := by
  obtain ⟨a, d, rfl⟩ : ∃ (a : Fin 512) (d : Fin 256), z = ix2 a d := ⟨z 0, z 1, eq_ix2 z⟩
  have hp := strip_2 x0 x1 x2 x3 x4 a d
  unfold out11
  rw [hp]
  refine Eq.trans ?_ (congrArg (fun v : EReal => dgate (v) ((x5 : S512x1024.Idx → EReal) (r0_3.emb (ix2 a d))) ((x7 : S512x1024.Idx → EReal) (r0_3.emb (ix2 a d)))) (dot_at x0 x2 a d))
  unfold k0_pay26 k0_pay21 k0_pay18 k0_pay17
  rfl

theorem piece11_2 (x0 : Vec Ideal S512x2048 .bf16) (x1 x2 x3 x4 : Vec Ideal S1x256x2048 .bf16) (x5 x6 x7 x8 : Vec Ideal S512x1024 .bf16) (z : S512x256.Idx) :
    (k0_pay35 (k0_pay28 x0 x3) (k0_pay29 (View.ld x5 r0_4)) (View.ld x7 r0_4) : S512x256.Idx → EReal) z = out11 x0 x1 x2 x3 x4 x5 x6 x7 x8 (r0_4.emb z) := by
  obtain ⟨a, d, rfl⟩ : ∃ (a : Fin 512) (d : Fin 256), z = ix2 a d := ⟨z 0, z 1, eq_ix2 z⟩
  have hp := strip_3 x0 x1 x2 x3 x4 a d
  unfold out11
  rw [hp]
  refine Eq.trans ?_ (congrArg (fun v : EReal => dgate (v) ((x5 : S512x1024.Idx → EReal) (r0_4.emb (ix2 a d))) ((x7 : S512x1024.Idx → EReal) (r0_4.emb (ix2 a d)))) (dot_at x0 x3 a d))
  unfold k0_pay35 k0_pay31 k0_pay29 k0_pay28
  rfl

theorem piece11_3 (x0 : Vec Ideal S512x2048 .bf16) (x1 x2 x3 x4 : Vec Ideal S1x256x2048 .bf16) (x5 x6 x7 x8 : Vec Ideal S512x1024 .bf16) (z : S512x256.Idx) :
    (k0_pay3 (k0_pay42 x0 x4 (View.ld x5 r0_5) (View.ld x7 r0_5)) : S512x256.Idx → EReal) z = out11 x0 x1 x2 x3 x4 x5 x6 x7 x8 (r0_5.emb z) := by
  obtain ⟨a, d, rfl⟩ : ∃ (a : Fin 512) (d : Fin 256), z = ix2 a d := ⟨z 0, z 1, eq_ix2 z⟩
  have hp := strip_4 x0 x1 x2 x3 x4 a d
  unfold out11
  rw [hp]
  refine Eq.trans ?_ (congrArg (fun v : EReal => dgate (v) ((x5 : S512x1024.Idx → EReal) (r0_5.emb (ix2 a d))) ((x7 : S512x1024.Idx → EReal) (r0_5.emb (ix2 a d)))) (dot_at x0 x4 a d))
  unfold k0_pay3 k0_pay42 k0_pay38 k0_pay37
  rfl

theorem out_11 (x0 : Vec Ideal S512x2048 .bf16) (x1 x2 x3 x4 : Vec Ideal S1x256x2048 .bf16) (x5 x6 x7 x8 : Vec Ideal S512x1024 .bf16) : out0_11 x0 x1 x2 x3 x4 x5 x6 x7 x8 = out11 x0 x1 x2 x3 x4 x5 x6 x7 x8 := by
  unfold out0_11 k0_pay49 k0_pay47 k0_pay45
  rw [View.ld_unit_zero zero2, View.ld_unit_zero zero3, View.ld_unit_zero zero3, View.ld_unit_zero zero3, View.ld_unit_zero zero3]
  refine funext fun y => ?_
  refine View.canon_apply_of_pieces (Val := Elt Ideal) (S := S512x1024) (e := .bf16) (out11 x0 x1 x2 x3 x4 x5 x6 x7 x8) _ (fun p hp => ?_) y (cover0_11 (F := Ideal) _ _ _ _ y)
  simp only [List.mem_cons, List.not_mem_nil, or_false] at hp
  rcases hp with rfl | rfl | rfl | rfl
  · exact piece11_3 x0 x1 x2 x3 x4 x5 x6 x7 x8
  · exact piece11_2 x0 x1 x2 x3 x4 x5 x6 x7 x8
  · exact piece11_1 x0 x1 x2 x3 x4 x5 x6 x7 x8
  · exact piece11_0 x0 x1 x2 x3 x4 x5 x6 x7 x8

/-- A block of the retention gate's gradient. -/
def out12 (x0 : Vec Ideal S512x2048 .bf16) (x1 x2 x3 x4 : Vec Ideal S1x256x2048 .bf16) (x5 x6 x7 x8 : Vec Ideal S512x1024 .bf16) : S512x1024.Idx → EReal := fun y => dgate (prod x0 x1 x2 x3 x4 y) (x6 y) (x8 y)

theorem piece12_0 (x0 : Vec Ideal S512x2048 .bf16) (x1 x2 x3 x4 : Vec Ideal S1x256x2048 .bf16) (x5 x6 x7 x8 : Vec Ideal S512x1024 .bf16) (z : S512x256.Idx) :
    (k0_pay16 (k0_pay7 (View.ld x8 r0_2)) (k0_pay11 x0 x1 (View.ld x6 r0_2) (View.ld x8 r0_2)) (k0_pay12 (F := Ideal)) : S512x256.Idx → EReal) z = out12 x0 x1 x2 x3 x4 x5 x6 x7 x8 (r0_2.emb z) := by
  obtain ⟨a, d, rfl⟩ : ∃ (a : Fin 512) (d : Fin 256), z = ix2 a d := ⟨z 0, z 1, eq_ix2 z⟩
  have hp := strip_1 x0 x1 x2 x3 x4 a d
  unfold out12
  rw [hp]
  refine Eq.trans ?_ (congrArg (fun v : EReal => dgate (v) ((x6 : S512x1024.Idx → EReal) (r0_2.emb (ix2 a d))) ((x8 : S512x1024.Idx → EReal) (r0_2.emb (ix2 a d)))) (dot_at x0 x1 a d))
  unfold k0_pay16 k0_pay11 k0_pay12 k0_pay7 k0_pay5
  rfl

theorem piece12_1 (x0 : Vec Ideal S512x2048 .bf16) (x1 x2 x3 x4 : Vec Ideal S1x256x2048 .bf16) (x5 x6 x7 x8 : Vec Ideal S512x1024 .bf16) (z : S512x256.Idx) :
    (k0_pay27 (k0_pay17 x0 x2) (k0_pay19 (View.ld x6 r0_3)) (k0_pay20 (View.ld x8 r0_3)) (k0_pay22 (F := Ideal)) : S512x256.Idx → EReal) z = out12 x0 x1 x2 x3 x4 x5 x6 x7 x8 (r0_3.emb z) := by
  obtain ⟨a, d, rfl⟩ : ∃ (a : Fin 512) (d : Fin 256), z = ix2 a d := ⟨z 0, z 1, eq_ix2 z⟩
  have hp := strip_2 x0 x1 x2 x3 x4 a d
  unfold out12
  rw [hp]
  refine Eq.trans ?_ (congrArg (fun v : EReal => dgate (v) ((x6 : S512x1024.Idx → EReal) (r0_3.emb (ix2 a d))) ((x8 : S512x1024.Idx → EReal) (r0_3.emb (ix2 a d)))) (dot_at x0 x2 a d))
  unfold k0_pay27 k0_pay23 k0_pay22 k0_pay20 k0_pay19 k0_pay17
  rfl

theorem piece12_2 (x0 : Vec Ideal S512x2048 .bf16) (x1 x2 x3 x4 : Vec Ideal S1x256x2048 .bf16) (x5 x6 x7 x8 : Vec Ideal S512x1024 .bf16) (z : S512x256.Idx) :
    (k0_pay36 (k0_pay28 x0 x3) (k0_pay30 (View.ld x6 r0_4)) (View.ld x8 r0_4) : S512x256.Idx → EReal) z = out12 x0 x1 x2 x3 x4 x5 x6 x7 x8 (r0_4.emb z) := by
  obtain ⟨a, d, rfl⟩ : ∃ (a : Fin 512) (d : Fin 256), z = ix2 a d := ⟨z 0, z 1, eq_ix2 z⟩
  have hp := strip_3 x0 x1 x2 x3 x4 a d
  unfold out12
  rw [hp]
  refine Eq.trans ?_ (congrArg (fun v : EReal => dgate (v) ((x6 : S512x1024.Idx → EReal) (r0_4.emb (ix2 a d))) ((x8 : S512x1024.Idx → EReal) (r0_4.emb (ix2 a d)))) (dot_at x0 x3 a d))
  unfold k0_pay36 k0_pay32 k0_pay30 k0_pay28
  rfl

theorem piece12_3 (x0 : Vec Ideal S512x2048 .bf16) (x1 x2 x3 x4 : Vec Ideal S1x256x2048 .bf16) (x5 x6 x7 x8 : Vec Ideal S512x1024 .bf16) (z : S512x256.Idx) :
    (k0_pay4 (k0_pay39 (View.ld x8 r0_5)) (k0_pay43 x0 x4 (View.ld x6 r0_5) (View.ld x8 r0_5)) (k0_pay44 (F := Ideal)) : S512x256.Idx → EReal) z = out12 x0 x1 x2 x3 x4 x5 x6 x7 x8 (r0_5.emb z) := by
  obtain ⟨a, d, rfl⟩ : ∃ (a : Fin 512) (d : Fin 256), z = ix2 a d := ⟨z 0, z 1, eq_ix2 z⟩
  have hp := strip_4 x0 x1 x2 x3 x4 a d
  unfold out12
  rw [hp]
  refine Eq.trans ?_ (congrArg (fun v : EReal => dgate (v) ((x6 : S512x1024.Idx → EReal) (r0_5.emb (ix2 a d))) ((x8 : S512x1024.Idx → EReal) (r0_5.emb (ix2 a d)))) (dot_at x0 x4 a d))
  unfold k0_pay4 k0_pay43 k0_pay44 k0_pay39 k0_pay37
  rfl

theorem out_12 (x0 : Vec Ideal S512x2048 .bf16) (x1 x2 x3 x4 : Vec Ideal S1x256x2048 .bf16) (x5 x6 x7 x8 : Vec Ideal S512x1024 .bf16) : out0_12 x0 x1 x2 x3 x4 x5 x6 x7 x8 = out12 x0 x1 x2 x3 x4 x5 x6 x7 x8 := by
  unfold out0_12 k0_pay49 k0_pay48 k0_pay46 k0_pay45
  rw [View.ld_unit_zero zero2, View.ld_unit_zero zero3, View.ld_unit_zero zero3, View.ld_unit_zero zero3, View.ld_unit_zero zero3]
  refine funext fun y => ?_
  refine View.canon_apply_of_pieces (Val := Elt Ideal) (S := S512x1024) (e := .bf16) (out12 x0 x1 x2 x3 x4 x5 x6 x7 x8) _ (fun p hp => ?_) y (cover0_12 (F := Ideal) _ _ _ _ y)
  simp only [List.mem_cons, List.not_mem_nil, or_false] at hp
  rcases hp with rfl | rfl | rfl | rfl
  · exact piece12_3 x0 x1 x2 x3 x4 x5 x6 x7 x8
  · exact piece12_2 x0 x1 x2 x3 x4 x5 x6 x7 x8
  · exact piece12_1 x0 x1 x2 x3 x4 x5 x6 x7 x8
  · exact piece12_0 x0 x1 x2 x3 x4 x5 x6 x7 x8

/-! ## The blocks -/

theorem pt_lt (t : Fin cfg0.N) : t.val < 16 := lt_of_lt_of_eq t.isLt (show cfg0.N = 16 from N_0)

theorem index_0 : ∀ t : Fin cfg0.N, win0_0.index t (0 : Fin 2) = t.val / 2 ∧ win0_0.index t (1 : Fin 2) = 0 := by decide +kernel
theorem index_1 : ∀ t : Fin cfg0.N, win0_1.index t (0 : Fin 3) = 4 * (t.val % 2) + 0 ∧ win0_1.index t (1 : Fin 3) = 0 ∧ win0_1.index t (2 : Fin 3) = 0 := by decide +kernel
theorem index_2 : ∀ t : Fin cfg0.N, win0_2.index t (0 : Fin 3) = 4 * (t.val % 2) + 1 ∧ win0_2.index t (1 : Fin 3) = 0 ∧ win0_2.index t (2 : Fin 3) = 0 := by decide +kernel
theorem index_3 : ∀ t : Fin cfg0.N, win0_3.index t (0 : Fin 3) = 4 * (t.val % 2) + 2 ∧ win0_3.index t (1 : Fin 3) = 0 ∧ win0_3.index t (2 : Fin 3) = 0 := by decide +kernel
theorem index_4 : ∀ t : Fin cfg0.N, win0_4.index t (0 : Fin 3) = 4 * (t.val % 2) + 3 ∧ win0_4.index t (1 : Fin 3) = 0 ∧ win0_4.index t (2 : Fin 3) = 0 := by decide +kernel
theorem index_5 : ∀ t : Fin cfg0.N, win0_5.index t (0 : Fin 2) = t.val / 2 ∧ win0_5.index t (1 : Fin 2) = t.val % 2 := by decide +kernel
theorem index_6 : ∀ t : Fin cfg0.N, win0_6.index t (0 : Fin 2) = t.val / 2 ∧ win0_6.index t (1 : Fin 2) = t.val % 2 := by decide +kernel
theorem index_7 : ∀ t : Fin cfg0.N, win0_7.index t (0 : Fin 2) = t.val / 2 ∧ win0_7.index t (1 : Fin 2) = t.val % 2 + 7 := by decide +kernel
theorem index_8 : ∀ t : Fin cfg0.N, win0_8.index t (0 : Fin 2) = t.val / 2 ∧ win0_8.index t (1 : Fin 2) = t.val % 2 + 9 := by decide +kernel
theorem index_9 : ∀ t : Fin cfg0.N, win0_9.index t (0 : Fin 2) = t.val / 2 ∧ win0_9.index t (1 : Fin 2) = t.val % 2 := by decide +kernel
theorem index_10 : ∀ t : Fin cfg0.N, win0_10.index t (0 : Fin 2) = t.val / 2 ∧ win0_10.index t (1 : Fin 2) = t.val % 2 := by decide +kernel
theorem index_11 : ∀ t : Fin cfg0.N, win0_11.index t (0 : Fin 2) = t.val / 2 ∧ win0_11.index t (1 : Fin 2) = t.val % 2 := by decide +kernel
theorem index_12 : ∀ t : Fin cfg0.N, win0_12.index t (0 : Fin 2) = t.val / 2 ∧ win0_12.index t (1 : Fin 2) = t.val % 2 := by decide +kernel
theorem flush_9 : ∀ t : Fin cfg0.N, (cfg0.win 9).flush t = true := (by decide +kernel : ∀ t : Fin grid0.N, win0_9.flush t = true)
theorem flush_10 : ∀ t : Fin cfg0.N, (cfg0.win 10).flush t = true := (by decide +kernel : ∀ t : Fin grid0.N, win0_10.flush t = true)
theorem flush_11 : ∀ t : Fin cfg0.N, (cfg0.win 11).flush t = true := (by decide +kernel : ∀ t : Fin grid0.N, win0_11.flush t = true)
theorem flush_12 : ∀ t : Fin cfg0.N, (cfg0.win 12).flush t = true := (by decide +kernel : ∀ t : Fin grid0.N, win0_12.flush t = true)

variable (m : (ℓ : Loc nD τ sig) → Buf (Elt Ideal) ℓ) (c : Dev nD)

/-- The gradient of the output. -/
abbrev aX := (m ((c : Thread nD τ).loc main_arg0) : S4096x2048.Idx → EReal)
/-- The output projection's weight. -/
abbrev aW := (m ((c : Thread nD τ).loc main_arg1) : S2048x2048.Idx → EReal)
/-- The attention branch. -/
abbrev aA := (m ((c : Thread nD τ).loc main_arg2) : S4096x2048.Idx → EReal)
/-- The retention branch. -/
abbrev aR := (m ((c : Thread nD τ).loc main_arg3) : S4096x2048.Idx → EReal)
/-- The input projection's product, the two gates its last columns. -/
abbrev aP := (m ((c : Thread nD τ).loc main_arg4) : S4096x11264.Idx → EReal)

theorem host_main_v2 (y : S8x256x2048.Idx) : (V m c main_v2 : S8x256x2048.Idx → EReal) y = n2 (aW m c) (256 * (y 0).val + (y 1).val) (y 2).val := by
  unfold V
  after_reads_at
  refine (n2_eq (aW m c) _ _ _ ?_ rfl).symm
  show (y 0).val * 256 + (y 1).val = _
  omega

theorem blk_0 (t : Fin cfg0.N) (r : Fin 512) (k : Fin 2048) :
    (iblk m c 0 t : Vec Ideal S512x2048 .bf16) (ix2 r k) = n2 (aX m c) (512 * (t.val / 2) + r.val) (k.val) := by
  have e : (iblk m c 0 t : Vec Ideal S512x2048 .bf16) (ix2 r k)
      = (V m c main_arg0 : S4096x2048.Idx → EReal) (((cfg0.win 0).blk t).view.emb (ix2 r k)) := rfl
  rw [e, V_main_arg0]
  refine (n2_eq _ _ _ _ ?_ ?_).symm
  · show win0_0.index t (0 : Fin 2) * 512 + 1 * r.val = 512 * (t.val / 2) + r.val
    rw [(index_0 t).1]; omega
  · show win0_0.index t (1 : Fin 2) * 2048 + 1 * k.val = k.val
    rw [(index_0 t).2]; omega

/-- An element of a block of the weight, from where the block lies. -/
theorem blk_W (r : Fin 256) (k : Fin 2048) (o : ℕ) (y : S8x256x2048.Idx) {p q s : ℕ} (h : p = o ∧ q = 0 ∧ s = 0)
    (h0 : (y 0).val = p * 1 + 1 * 0) (h1 : (y 1).val = q * 256 + 1 * r.val) (h2 : (y 2).val = s * 2048 + 1 * k.val) :
    (V m c main_v2 : S8x256x2048.Idx → EReal) y = n2 (aW m c) (256 * o + r.val) k.val := by
  have e0 : (y 0).val = o := by omega
  have e1 : (y 1).val = r.val := by omega
  have e2 : (y 2).val = k.val := by omega
  rw [host_main_v2, e0, e1, e2]

/-- An element of a block of a table with `n` columns, from where the block lies. -/
theorem blk_T {n : ℕ} (A : (⟨2, ![4096, n]⟩ : Shape).Idx → EReal) (t : Fin cfg0.N) (r : Fin 512) (k : Fin 1024) (o : ℕ)
    (y : (⟨2, ![4096, n]⟩ : Shape).Idx) {p q : ℕ} (h : p = t.val / 2 ∧ q = o) (h0 : (y 0).val = p * 512 + 1 * r.val) (h1 : (y 1).val = q * 1024 + 1 * k.val) :
    A y = n2 A (512 * (t.val / 2) + r.val) (1024 * o + k.val) :=
  (n2_eq _ _ _ _ (by omega) (by omega)).symm

theorem blk_1 (t : Fin cfg0.N) (r : Fin 256) (k : Fin 2048) :
    (iblk m c 1 t : Vec Ideal S1x256x2048 .bf16) (ix3 0 r k) = n2 (aW m c) (256 * (4 * (t.val % 2) + 0) + r.val) k.val :=
  blk_W m c r k _ (((cfg0.win 1).blk t).view.emb (ix3 0 r k)) (index_1 t) rfl rfl rfl
theorem blk_2 (t : Fin cfg0.N) (r : Fin 256) (k : Fin 2048) :
    (iblk m c 2 t : Vec Ideal S1x256x2048 .bf16) (ix3 0 r k) = n2 (aW m c) (256 * (4 * (t.val % 2) + 1) + r.val) k.val :=
  blk_W m c r k _ (((cfg0.win 2).blk t).view.emb (ix3 0 r k)) (index_2 t) rfl rfl rfl
theorem blk_3 (t : Fin cfg0.N) (r : Fin 256) (k : Fin 2048) :
    (iblk m c 3 t : Vec Ideal S1x256x2048 .bf16) (ix3 0 r k) = n2 (aW m c) (256 * (4 * (t.val % 2) + 2) + r.val) k.val :=
  blk_W m c r k _ (((cfg0.win 3).blk t).view.emb (ix3 0 r k)) (index_3 t) rfl rfl rfl
theorem blk_4 (t : Fin cfg0.N) (r : Fin 256) (k : Fin 2048) :
    (iblk m c 4 t : Vec Ideal S1x256x2048 .bf16) (ix3 0 r k) = n2 (aW m c) (256 * (4 * (t.val % 2) + 3) + r.val) k.val :=
  blk_W m c r k _ (((cfg0.win 4).blk t).view.emb (ix3 0 r k)) (index_4 t) rfl rfl rfl

theorem blk_5 (t : Fin cfg0.N) (r : Fin 512) (k : Fin 1024) :
    (iblk m c 5 t : Vec Ideal S512x1024 .bf16) (ix2 r k) = n2 (aA m c) (512 * (t.val / 2) + r.val) (1024 * (t.val % 2) + k.val) := by
  refine Eq.trans ?_ (blk_T (aA m c) t r k _ (((cfg0.win 5).blk t).view.emb (ix2 r k)) (index_5 t) rfl rfl)
  exact congrFun (V_main_arg2 m c) (((cfg0.win 5).blk t).view.emb (ix2 r k))
theorem blk_6 (t : Fin cfg0.N) (r : Fin 512) (k : Fin 1024) :
    (iblk m c 6 t : Vec Ideal S512x1024 .bf16) (ix2 r k) = n2 (aR m c) (512 * (t.val / 2) + r.val) (1024 * (t.val % 2) + k.val) := by
  refine Eq.trans ?_ (blk_T (aR m c) t r k _ (((cfg0.win 6).blk t).view.emb (ix2 r k)) (index_6 t) rfl rfl)
  exact congrFun (V_main_arg3 m c) (((cfg0.win 6).blk t).view.emb (ix2 r k))
theorem blk_7 (t : Fin cfg0.N) (r : Fin 512) (k : Fin 1024) :
    (iblk m c 7 t : Vec Ideal S512x1024 .bf16) (ix2 r k) = n2 (aP m c) (512 * (t.val / 2) + r.val) (1024 * (t.val % 2 + 7) + k.val) := by
  refine Eq.trans ?_ (blk_T (aP m c) t r k _ (((cfg0.win 7).blk t).view.emb (ix2 r k)) (index_7 t) rfl rfl)
  exact congrFun (V_main_arg4 m c) (((cfg0.win 7).blk t).view.emb (ix2 r k))
theorem blk_8 (t : Fin cfg0.N) (r : Fin 512) (k : Fin 1024) :
    (iblk m c 8 t : Vec Ideal S512x1024 .bf16) (ix2 r k) = n2 (aP m c) (512 * (t.val / 2) + r.val) (1024 * (t.val % 2 + 9) + k.val) := by
  refine Eq.trans ?_ (blk_T (aP m c) t r k _ (((cfg0.win 8).blk t).view.emb (ix2 r k)) (index_8 t) rfl rfl)
  exact congrFun (V_main_arg4 m c) (((cfg0.win 8).blk t).view.emb (ix2 r k))

/-! ## The results -/

/-- A product with the rows of a weight. -/
def dots (x : S4096x2048.Idx → EReal) (w : S2048x2048.Idx → EReal) (r d : ℕ) : EReal := ∑ k : Fin 2048, n2 x r k.val * n2 w d k.val

def dAtt : S4096x2048.Idx → EReal := fun i => dbranch (dots (aX m c) (aW m c) (i 0).val (i 1).val) (n2 (aP m c) (i 0).val (7168 + (i 1).val))
def dRet : S4096x2048.Idx → EReal := fun i => dbranch (dots (aX m c) (aW m c) (i 0).val (i 1).val) (n2 (aP m c) (i 0).val (9216 + (i 1).val))
def dGateA : S4096x2048.Idx → EReal := fun i => dgate (dots (aX m c) (aW m c) (i 0).val (i 1).val) (n2 (aA m c) (i 0).val (i 1).val) (n2 (aP m c) (i 0).val (7168 + (i 1).val))
def dGateR : S4096x2048.Idx → EReal := fun i => dgate (dots (aX m c) (aW m c) (i 0).val (i 1).val) (n2 (aR m c) (i 0).val (i 1).val) (n2 (aP m c) (i 0).val (9216 + (i 1).val))

theorem tile_dots (t : Fin cfg0.N) (r : Fin 512) (d : Fin 256) (b : Vec Ideal S1x256x2048 .bf16) (q : ℕ)
    (hb : ∀ (k : Fin 2048), b (ix3 0 d k) = n2 (aW m c) (256 * (4 * (t.val % 2) + q) + d.val) k.val) :
    tile (iblk m c 0 t) b r d = dots (aX m c) (aW m c) (512 * (t.val / 2) + r.val) (1024 * (t.val % 2) + (256 * q + d.val)) := by
  have hq : 256 * (4 * (t.val % 2) + q) + d.val = 1024 * (t.val % 2) + (256 * q + d.val) := by omega
  refine Finset.sum_congr rfl fun k _ => congrArg₂ (fun a b : EReal => a * b) (blk_0 m c t r k) ?_
  rw [hb k, hq]

theorem prod_dots (t : Fin cfg0.N) (r : Fin 512) (d : Fin 1024) :
    prod (iblk m c 0 t) (iblk m c 1 t) (iblk m c 2 t) (iblk m c 3 t) (iblk m c 4 t) (ix2 r d)
      = dots (aX m c) (aW m c) (512 * (t.val / 2) + r.val) (1024 * (t.val % 2) + d.val) := by
  have hd := d.isLt
  have hm : d.val % 256 < 256 := Nat.mod_lt _ (by decide)
  have hs : d.val = 256 * (d.val / 256) + d.val % 256 := by omega
  have e := prod_at (iblk m c 0 t) (iblk m c 1 t) (iblk m c 2 t) (iblk m c 3 t) (iblk m c 4 t) (ix2 r d) (d.val / 256) r ⟨d.val % 256, hm⟩ rfl hs
  have hq : d.val / 256 = 0 ∨ d.val / 256 = 1 ∨ d.val / 256 = 2 ∨ d.val / 256 = 3 := by omega
  rw [e]
  refine (tile_dots m c t r ⟨d.val % 256, hm⟩ _ (d.val / 256) fun k => ?_).trans (by rw [← hs])
  rcases hq with h | h | h | h <;> rw [h]
  · exact blk_1 m c t _ k
  · exact blk_2 m c t _ k
  · exact blk_3 m c t _ k
  · exact blk_4 m c t _ k

/-- The point whose block holds an element. -/
def holder (i : S4096x2048.Idx) : Fin cfg0.N := ⟨2 * ((i 0).val / 512) + (i 1).val / 1024, by
  have h0 : (i 0).val < 4096 := (i 0).isLt
  have h1 : (i 1).val < 2048 := (i 1).isLt
  have hN : cfg0.N = 16 := N_0
  omega⟩

theorem held (i : S4096x2048.Idx) (p : Fin 2 → ℕ) (h : p 0 = (holder i).val / 2 ∧ p 1 = (holder i).val % 2) (a : Fin 2) :
    p a * S512x1024.size a ≤ (i a).val ∧ (i a).val < p a * S512x1024.size a + S512x1024.size a := by
  have h1 : (i 1).val < 2048 := (i 1).isLt
  have ht : (holder i).val = 2 * ((i 0).val / 512) + (i 1).val / 1024 := rfl
  obtain ⟨q0, q1⟩ := h
  match a with
  | ⟨0, _⟩ =>
    show p 0 * 512 ≤ (i 0).val ∧ (i 0).val < p 0 * 512 + 512
    omega
  | ⟨1, _⟩ =>
    show p 1 * 1024 ≤ (i 1).val ∧ (i 1).val < p 1 * 1024 + 1024
    omega

theorem mem_blk_9 (t : Fin cfg0.N) (i : S4096x2048.Idx) :
    i ∈ ((cfg0.win 9).blk t).view.set ↔ ∀ a : Fin 2, win0_9.index t a * S512x1024.size a ≤ (i a).val ∧ (i a).val < win0_9.index t a * S512x1024.size a + S512x1024.size a := by
  show i ∈ ((View.whole main_v3_0).slice (win0_9.rect t)).set ↔ _
  rw [View.set_slice_whole, Rect.mem_set_unit]
  exact Iff.rfl

theorem covered_9 (i : S4096x2048.Idx) : ∃ t : Fin cfg0.N, (cfg0.win 9).flush t = true ∧ i ∈ ((cfg0.win 9).blk t).view.set :=
  ⟨holder i, flush_9 _, (mem_blk_9 _ i).2 (held i _ (index_9 _))⟩

theorem flushed_9 (t : Fin cfg0.N) : (dats m 0 c).flushed 9 t = ((cfg0.win 9).blk t).view.read (Elt Ideal) (dAtt m c) := by
  rw [Value.flushed9, out_9]
  funext y
  have h0 : (y 0).val < 512 := (y 0).isLt
  have h1 : (y 1).val < 1024 := (y 1).isLt
  have hy : (cfg0.win 9).xinj (grid0.coords t) y = ix2 (⟨(y 0).val, h0⟩ : Fin 512) (⟨(y 1).val, h1⟩ : Fin 1024) := by
    funext a
    match a with
    | ⟨0, _⟩ => rfl
    | ⟨1, _⟩ => rfl
  have e0 : ((((cfg0.win 9).blk t).view.emb y : S4096x2048.Idx) 0).val = 512 * (t.val / 2) + (y 0).val := by
    show win0_9.index t (0 : Fin 2) * 512 + 1 * (y 0).val = _
    rw [(index_9 t).1]; omega
  have e1 : ((((cfg0.win 9).blk t).view.emb y : S4096x2048.Idx) 1).val = 1024 * (t.val % 2) + (y 1).val := by
    show win0_9.index t (1 : Fin 2) * 1024 + 1 * (y 1).val = _
    rw [(index_9 t).2]; omega
  have e7 (r : Fin 512) (d : Fin 1024) : (iblk m c 7 t : Vec Ideal S512x1024 .bf16) (ix2 r d) = n2 (aP m c) (512 * (t.val / 2) + r.val) (7168 + (1024 * (t.val % 2) + d.val)) := by
    have e := blk_7 m c t r d
    have h : 1024 * (t.val % 2 + 7) + d.val = 7168 + (1024 * (t.val % 2) + d.val) := by omega
    rwa [h] at e
  show out9 (iblk m c 0 t) (iblk m c 1 t) (iblk m c 2 t) (iblk m c 3 t) (iblk m c 4 t) (iblk m c 5 t) (iblk m c 6 t) (iblk m c 7 t) (iblk m c 8 t) ((cfg0.win 9).xinj (grid0.coords t) y) = dAtt m c (((cfg0.win 9).blk t).view.emb y)
  rw [hy]
  unfold out9 dAtt
  rw [e0, e1]
  exact congrArg₂ dbranch (prod_dots m c t _ _) (e7 _ _)

/-- The attention branch's gradient. -/
theorem final_9 : (dats m 0 c).arrAt 9 cfg0.N = dAtt m c :=
  (dats m 0 c).arrAt_eq_of_cover 9 (dAtt m c) (fun t _ => flushed_9 m c t) (fun i => covered_9 i)

theorem mem_blk_10 (t : Fin cfg0.N) (i : S4096x2048.Idx) :
    i ∈ ((cfg0.win 10).blk t).view.set ↔ ∀ a : Fin 2, win0_10.index t a * S512x1024.size a ≤ (i a).val ∧ (i a).val < win0_10.index t a * S512x1024.size a + S512x1024.size a := by
  show i ∈ ((View.whole main_v3_1).slice (win0_10.rect t)).set ↔ _
  rw [View.set_slice_whole, Rect.mem_set_unit]
  exact Iff.rfl

theorem covered_10 (i : S4096x2048.Idx) : ∃ t : Fin cfg0.N, (cfg0.win 10).flush t = true ∧ i ∈ ((cfg0.win 10).blk t).view.set :=
  ⟨holder i, flush_10 _, (mem_blk_10 _ i).2 (held i _ (index_10 _))⟩

theorem flushed_10 (t : Fin cfg0.N) : (dats m 0 c).flushed 10 t = ((cfg0.win 10).blk t).view.read (Elt Ideal) (dRet m c) := by
  rw [Value.flushed10, out_10]
  funext y
  have h0 : (y 0).val < 512 := (y 0).isLt
  have h1 : (y 1).val < 1024 := (y 1).isLt
  have hy : (cfg0.win 10).xinj (grid0.coords t) y = ix2 (⟨(y 0).val, h0⟩ : Fin 512) (⟨(y 1).val, h1⟩ : Fin 1024) := by
    funext a
    match a with
    | ⟨0, _⟩ => rfl
    | ⟨1, _⟩ => rfl
  have e0 : ((((cfg0.win 10).blk t).view.emb y : S4096x2048.Idx) 0).val = 512 * (t.val / 2) + (y 0).val := by
    show win0_10.index t (0 : Fin 2) * 512 + 1 * (y 0).val = _
    rw [(index_10 t).1]; omega
  have e1 : ((((cfg0.win 10).blk t).view.emb y : S4096x2048.Idx) 1).val = 1024 * (t.val % 2) + (y 1).val := by
    show win0_10.index t (1 : Fin 2) * 1024 + 1 * (y 1).val = _
    rw [(index_10 t).2]; omega
  have e8 (r : Fin 512) (d : Fin 1024) : (iblk m c 8 t : Vec Ideal S512x1024 .bf16) (ix2 r d) = n2 (aP m c) (512 * (t.val / 2) + r.val) (9216 + (1024 * (t.val % 2) + d.val)) := by
    have e := blk_8 m c t r d
    have h : 1024 * (t.val % 2 + 9) + d.val = 9216 + (1024 * (t.val % 2) + d.val) := by omega
    rwa [h] at e
  show out10 (iblk m c 0 t) (iblk m c 1 t) (iblk m c 2 t) (iblk m c 3 t) (iblk m c 4 t) (iblk m c 5 t) (iblk m c 6 t) (iblk m c 7 t) (iblk m c 8 t) ((cfg0.win 10).xinj (grid0.coords t) y) = dRet m c (((cfg0.win 10).blk t).view.emb y)
  rw [hy]
  unfold out10 dRet
  rw [e0, e1]
  exact congrArg₂ dbranch (prod_dots m c t _ _) (e8 _ _)

/-- The retention branch's gradient. -/
theorem final_10 : (dats m 0 c).arrAt 10 cfg0.N = dRet m c :=
  (dats m 0 c).arrAt_eq_of_cover 10 (dRet m c) (fun t _ => flushed_10 m c t) (fun i => covered_10 i)

theorem mem_blk_11 (t : Fin cfg0.N) (i : S4096x2048.Idx) :
    i ∈ ((cfg0.win 11).blk t).view.set ↔ ∀ a : Fin 2, win0_11.index t a * S512x1024.size a ≤ (i a).val ∧ (i a).val < win0_11.index t a * S512x1024.size a + S512x1024.size a := by
  show i ∈ ((View.whole main_v3_2).slice (win0_11.rect t)).set ↔ _
  rw [View.set_slice_whole, Rect.mem_set_unit]
  exact Iff.rfl

theorem covered_11 (i : S4096x2048.Idx) : ∃ t : Fin cfg0.N, (cfg0.win 11).flush t = true ∧ i ∈ ((cfg0.win 11).blk t).view.set :=
  ⟨holder i, flush_11 _, (mem_blk_11 _ i).2 (held i _ (index_11 _))⟩

theorem flushed_11 (t : Fin cfg0.N) : (dats m 0 c).flushed 11 t = ((cfg0.win 11).blk t).view.read (Elt Ideal) (dGateA m c) := by
  rw [Value.flushed11, out_11]
  funext y
  have h0 : (y 0).val < 512 := (y 0).isLt
  have h1 : (y 1).val < 1024 := (y 1).isLt
  have hy : (cfg0.win 11).xinj (grid0.coords t) y = ix2 (⟨(y 0).val, h0⟩ : Fin 512) (⟨(y 1).val, h1⟩ : Fin 1024) := by
    funext a
    match a with
    | ⟨0, _⟩ => rfl
    | ⟨1, _⟩ => rfl
  have e0 : ((((cfg0.win 11).blk t).view.emb y : S4096x2048.Idx) 0).val = 512 * (t.val / 2) + (y 0).val := by
    show win0_11.index t (0 : Fin 2) * 512 + 1 * (y 0).val = _
    rw [(index_11 t).1]; omega
  have e1 : ((((cfg0.win 11).blk t).view.emb y : S4096x2048.Idx) 1).val = 1024 * (t.val % 2) + (y 1).val := by
    show win0_11.index t (1 : Fin 2) * 1024 + 1 * (y 1).val = _
    rw [(index_11 t).2]; omega
  have e7 (r : Fin 512) (d : Fin 1024) : (iblk m c 7 t : Vec Ideal S512x1024 .bf16) (ix2 r d) = n2 (aP m c) (512 * (t.val / 2) + r.val) (7168 + (1024 * (t.val % 2) + d.val)) := by
    have e := blk_7 m c t r d
    have h : 1024 * (t.val % 2 + 7) + d.val = 7168 + (1024 * (t.val % 2) + d.val) := by omega
    rwa [h] at e
  show out11 (iblk m c 0 t) (iblk m c 1 t) (iblk m c 2 t) (iblk m c 3 t) (iblk m c 4 t) (iblk m c 5 t) (iblk m c 6 t) (iblk m c 7 t) (iblk m c 8 t) ((cfg0.win 11).xinj (grid0.coords t) y) = dGateA m c (((cfg0.win 11).blk t).view.emb y)
  rw [hy]
  unfold out11 dGateA
  rw [e0, e1]
  exact congr (congrArg₂ dgate (prod_dots m c t _ _) (blk_5 m c t _ _)) (e7 _ _)

/-- The attention gate's gradient. -/
theorem final_11 : (dats m 0 c).arrAt 11 cfg0.N = dGateA m c :=
  (dats m 0 c).arrAt_eq_of_cover 11 (dGateA m c) (fun t _ => flushed_11 m c t) (fun i => covered_11 i)

theorem mem_blk_12 (t : Fin cfg0.N) (i : S4096x2048.Idx) :
    i ∈ ((cfg0.win 12).blk t).view.set ↔ ∀ a : Fin 2, win0_12.index t a * S512x1024.size a ≤ (i a).val ∧ (i a).val < win0_12.index t a * S512x1024.size a + S512x1024.size a := by
  show i ∈ ((View.whole main_v3_3).slice (win0_12.rect t)).set ↔ _
  rw [View.set_slice_whole, Rect.mem_set_unit]
  exact Iff.rfl

theorem covered_12 (i : S4096x2048.Idx) : ∃ t : Fin cfg0.N, (cfg0.win 12).flush t = true ∧ i ∈ ((cfg0.win 12).blk t).view.set :=
  ⟨holder i, flush_12 _, (mem_blk_12 _ i).2 (held i _ (index_12 _))⟩

theorem flushed_12 (t : Fin cfg0.N) : (dats m 0 c).flushed 12 t = ((cfg0.win 12).blk t).view.read (Elt Ideal) (dGateR m c) := by
  rw [Value.flushed12, out_12]
  funext y
  have h0 : (y 0).val < 512 := (y 0).isLt
  have h1 : (y 1).val < 1024 := (y 1).isLt
  have hy : (cfg0.win 12).xinj (grid0.coords t) y = ix2 (⟨(y 0).val, h0⟩ : Fin 512) (⟨(y 1).val, h1⟩ : Fin 1024) := by
    funext a
    match a with
    | ⟨0, _⟩ => rfl
    | ⟨1, _⟩ => rfl
  have e0 : ((((cfg0.win 12).blk t).view.emb y : S4096x2048.Idx) 0).val = 512 * (t.val / 2) + (y 0).val := by
    show win0_12.index t (0 : Fin 2) * 512 + 1 * (y 0).val = _
    rw [(index_12 t).1]; omega
  have e1 : ((((cfg0.win 12).blk t).view.emb y : S4096x2048.Idx) 1).val = 1024 * (t.val % 2) + (y 1).val := by
    show win0_12.index t (1 : Fin 2) * 1024 + 1 * (y 1).val = _
    rw [(index_12 t).2]; omega
  have e8 (r : Fin 512) (d : Fin 1024) : (iblk m c 8 t : Vec Ideal S512x1024 .bf16) (ix2 r d) = n2 (aP m c) (512 * (t.val / 2) + r.val) (9216 + (1024 * (t.val % 2) + d.val)) := by
    have e := blk_8 m c t r d
    have h : 1024 * (t.val % 2 + 9) + d.val = 9216 + (1024 * (t.val % 2) + d.val) := by omega
    rwa [h] at e
  show out12 (iblk m c 0 t) (iblk m c 1 t) (iblk m c 2 t) (iblk m c 3 t) (iblk m c 4 t) (iblk m c 5 t) (iblk m c 6 t) (iblk m c 7 t) (iblk m c 8 t) ((cfg0.win 12).xinj (grid0.coords t) y) = dGateR m c (((cfg0.win 12).blk t).view.emb y)
  rw [hy]
  unfold out12 dGateR
  rw [e0, e1]
  exact congr (congrArg₂ dgate (prod_dots m c t _ _) (blk_6 m c t _ _)) (e8 _ _)

/-- The retention gate's gradient. -/
theorem final_12 : (dats m 0 c).arrAt 12 cfg0.N = dGateR m c :=
  (dats m 0 c).arrAt_eq_of_cover 12 (dGateR m c) (fun t _ => flushed_12 m c t) (fun i => covered_12 i)

end Cert.Mat.K10

end
-- ==== Proof.Ffn.K10.lean ====
/- The kernel of the output projection's backward pass and its reference: both give the same gradients of the two branches and
   of their gates. -/
module

public import proofs.«01_k».proof.Proof.Ffn.K10Fold
public import proofs.«01_k».proof.Defs
public import proofs.«01_k».proof.Proof.Gen.Reference10Ideal.Run
public import proofs.«01_k».proof.Proof.Gen.Reference10Ideal.Read

@[expose] public section

set_option maxRecDepth 16384

noncomputable section

namespace Cert.Mat.K10

open Idealize.ShloMosaic.ValueIdx
open Idealize.ShloMosaic hiding ix1 ix2 ix3 eq_ix1 eq_ix2 eq_ix3
open Idealize.ShloMosaic.TcCoe Idealize.SL.Sem
open scoped BigOperators

/-! ## The reference -/

section reference
open Cert.Reference10Ideal Cert.Reference10Ideal.Gen Cert.Reference10Ideal.Read

variable (x0 : (⟨S4096x2048, .bf16⟩ : BufTy).Contents (Elt Ideal)) (x1 : (⟨S2048x2048, .f32⟩ : BufTy).Contents (Elt Ideal))
  (x2 x3 : (⟨S4096x2048, .bf16⟩ : BufTy).Contents (Elt Ideal)) (x4 : (⟨S4096x11264, .bf16⟩ : BufTy).Contents (Elt Ideal))

/-- The merged branches' gradient. -/
theorem merged_at (i : S4096x2048.Idx) : (val_main_v29 x0 x1 i : EReal) = dots x0 x1 (i 0).val (i 1).val := by
  refine (val_main_v29_apply x0 x1 i).trans (Finset.sum_congr rfl fun k _ => ?_)
  exact congrArg₂ (fun a b : EReal => a * b) (n2_eq (x0 : S4096x2048.Idx → EReal) (i 0).val k.val (lidx_main_v29 i k) rfl rfl).symm
    (n2_eq (x1 : S2048x2048.Idx → EReal) (i 1).val k.val (ridx_main_v29 i k) rfl rfl).symm

/-- The attention gate's columns. -/
theorem gate_a (i : S4096x2048.Idx) : (val_main_v0 x4 i : EReal) = n2 (x4 : S4096x11264.Idx → EReal) (i 0).val (7168 + (i 1).val) := by
  refine (val_main_v0_apply x4 i).trans (n2_eq (x4 : S4096x11264.Idx → EReal) _ _ (idx_main_v0 i) ?_ ?_).symm
  · show _ = (i 0).val; rfl
  · rfl

/-- The retention gate's columns. -/
theorem gate_r (i : S4096x2048.Idx) : (val_main_v1 x4 i : EReal) = n2 (x4 : S4096x11264.Idx → EReal) (i 0).val (9216 + (i 1).val) := by
  refine (val_main_v1_apply x4 i).trans (n2_eq (x4 : S4096x11264.Idx → EReal) _ _ (idx_main_v1 i) ?_ ?_).symm
  · show _ = (i 0).val; rfl
  · rfl

theorem logistic_a (i : S4096x2048.Idx) : (val_main_v11 x4 i : EReal) = sg (n2 (x4 : S4096x11264.Idx → EReal) (i 0).val (7168 + (i 1).val)) :=
  (show (val_main_v11 x4 i : EReal) = lg (val_main_v0 x4 i) from rfl).trans ((congrArg lg (gate_a x4 i)).trans (sg_eq _).symm)

theorem logistic_r (i : S4096x2048.Idx) : (val_main_v21 x4 i : EReal) = sg (n2 (x4 : S4096x11264.Idx → EReal) (i 0).val (9216 + (i 1).val)) :=
  (show (val_main_v21 x4 i : EReal) = lg (val_main_v1 x4 i) from rfl).trans ((congrArg lg (gate_r x4 i)).trans (sg_eq _).symm)

theorem att_at (i : S4096x2048.Idx) : (val_main_v36 x0 x1 x4 i : EReal)
    = dbranch (dots x0 x1 (i 0).val (i 1).val) (n2 (x4 : S4096x11264.Idx → EReal) (i 0).val (7168 + (i 1).val)) := by
  refine (show (val_main_v36 x0 x1 x4 i : EReal) = val_main_v11 x4 i * val_main_v29 x0 x1 i from rfl).trans ?_
  rw [logistic_a, merged_at, mul_comm]; rfl

theorem ret_at (i : S4096x2048.Idx) : (val_main_v37 x0 x1 x4 i : EReal)
    = dbranch (dots x0 x1 (i 0).val (i 1).val) (n2 (x4 : S4096x11264.Idx → EReal) (i 0).val (9216 + (i 1).val)) := by
  refine (show (val_main_v37 x0 x1 x4 i : EReal) = val_main_v21 x4 i * val_main_v29 x0 x1 i from rfl).trans ?_
  rw [logistic_r, merged_at, mul_comm]; rfl

theorem gate_a_at (i : S4096x2048.Idx) : (val_main_v38 x0 x1 x2 x4 i : EReal)
    = dgate (dots x0 x1 (i 0).val (i 1).val) (n2 (x2 : S4096x2048.Idx → EReal) (i 0).val (i 1).val)
        (n2 (x4 : S4096x11264.Idx → EReal) (i 0).val (7168 + (i 1).val)) := by
  refine (show (val_main_v38 x0 x1 x2 x4 i : EReal)
    = val_main_v29 x0 x1 i * x2 i * (val_main_v11 x4 i * (Ideal.ofBits .f32 0x3F800000#32 - val_main_v11 x4 i)) from rfl).trans ?_
  rw [logistic_a, merged_at, ← mul_assoc]
  exact congrArg (fun a : EReal => dgate _ a _) (n2_eq (x2 : S4096x2048.Idx → EReal) _ _ i rfl rfl).symm

theorem gate_r_at (i : S4096x2048.Idx) : (val_main_v39 x0 x1 x3 x4 i : EReal)
    = dgate (dots x0 x1 (i 0).val (i 1).val) (n2 (x3 : S4096x2048.Idx → EReal) (i 0).val (i 1).val)
        (n2 (x4 : S4096x11264.Idx → EReal) (i 0).val (9216 + (i 1).val)) := by
  refine (show (val_main_v39 x0 x1 x3 x4 i : EReal)
    = val_main_v29 x0 x1 i * x3 i * (val_main_v21 x4 i * (Ideal.ofBits .f32 0x3F800000#32 - val_main_v21 x4 i)) from rfl).trans ?_
  rw [logistic_r, merged_at, ← mul_assoc]
  exact congrArg (fun a : EReal => dgate _ a _) (n2_eq (x3 : S4096x2048.Idx → EReal) _ _ i rfl rfl).symm

end reference

/-- The reference runs, gives its arguments back and, having no semaphores, leaves none raised. -/
theorem reference_runs : Cert.quiescent_Reference10Ideal (hReference10Ideal := Cert.Reference10Ideal.Gen.facts) := fun m ρ _ =>
  (θ_run _ _ _).mono (fun _ h => And.intro (fun c => (h c).2.2.2.2) (sem_eq_zero_of_no_sems (by decide) _)) (Cert.Reference10Ideal.Value.run m ρ)

/-! ## The two programs' results -/

theorem equal : Cert.algebraic_Kernel10Ideal_Reference10Ideal (hKernel10Ideal := Cert.Kernel10Ideal.Gen.facts)
    (hReference10Ideal := Cert.Reference10Ideal.Gen.facts) := by
  intro m g m' g' _ ha
  refine ⟨fun c => dAtt m c, fun c => dRet m c, fun c => dGateA m c, fun c => dGateR m c, ?_, ?_⟩
  · refine (θ_run _ _ _).mono (fun r h c => ?_) (Cert.Kernel10Ideal.Value.run_blocks m g)
    obtain ⟨h0, h1, h2, h3, h4⟩ := h c
    exact ⟨h0.trans (final_9 m c), h1.trans (final_10 m c), h2.trans (final_11 m c), h3.trans (final_12 m c), h4⟩
  · refine (θ_run _ _ _).mono (fun r h c => ?_) (Cert.Reference10Ideal.Value.run m' g')
    obtain ⟨h0, h1, h2, h3, h4⟩ := h c
    obtain ⟨a0, a1, a2, a3, a4⟩ := ha c
    refine ⟨h0.trans ?_, h1.trans ?_, h2.trans ?_, h3.trans ?_, h4⟩
    · refine (Cert.Reference10Ideal.Read.val_main_v36_eq _ _ _).trans (funext fun i => ?_)
      rw [a0, a1, a4]
      exact att_at _ _ _ i
    · refine (Cert.Reference10Ideal.Read.val_main_v37_eq _ _ _).trans (funext fun i => ?_)
      rw [a0, a1, a4]
      exact ret_at _ _ _ i
    · refine (Cert.Reference10Ideal.Read.val_main_v38_eq _ _ _ _).trans (funext fun i => ?_)
      rw [a0, a1, a2, a4]
      exact gate_a_at _ _ _ _ i
    · refine (Cert.Reference10Ideal.Read.val_main_v39_eq _ _ _ _).trans (funext fun i => ?_)
      rw [a0, a1, a3, a4]
      exact gate_r_at _ _ _ _ i

end Cert.Mat.K10

end
-- ==== Proof.Ffn.K11Block.lean ====
/- The kernel of the gate's weight gradient: what each grid point leaves in its running sums and writes. -/
module

public import proofs.«01_k».proof.Proof.Gen.Kernel11Ideal.Frame
public import proofs.«01_k».proof.Proof.Ffn.Common

@[expose] public section

set_option maxRecDepth 16384

noncomputable section

namespace Cert.Mat.K11

open Cert.Kernel11Ideal Cert.Kernel11Ideal.Gen Idealize.ShloMosaic Idealize.ShloMosaic.ValueIdx
open Idealize.ShloMosaic.TcCoe Idealize.SL.Sem

section points
variable (c : Dev nD) (i : grid0.Coords)
  (arg2 : Memref sig .tc .vmem S1x2048x768 .bf16) (harg2 : arg2.IsWhole)
  (arg3 : Memref sig .tc .vmem S2048x2048 .bf16) (harg3 : arg3.IsWhole)
  (arg4 : Memref sig .tc .vmem S1x768x2048 .bf16) (harg4 : arg4.IsWhole)
  (arg5 : Memref sig .tc .vmem S768x2048 .f32) (harg5 : arg5.IsWhole)
  (x0 : Vec Ideal S1x2048x768 .bf16)
  (x1 : Vec Ideal S2048x2048 .bf16)
  (xs0 : Vec Ideal S768x2048 .f32)

/-- The running sums after a point: case A. -/
theorem sA (hc0 : cond0_0 i) (hc1 : ¬cond0_1 i) :
    sout0_A_0 c i arg2 harg2 arg3 harg3 arg4 harg4 arg5 harg5 hc0 hc1 x0 x1 = k0_pay2 (k0_pay1 (F := Ideal)) x0 x1 := by
  unfold sout0_A_0 kernelRun0_A
  dsimp only
  refine (write2 _ _ _ _ _).trans ?_
  unfold kernelRun0_A.sl.v3
  unfold kernelRun0_A.sl.HS0_1
  simp only [readAt2, readAt3, readCov2]

/-- The running sums after a point: case B. -/
theorem sB (hc0 : ¬cond0_0 i) (hc1 : cond0_1 i) :
    sout0_B_0 c i arg2 harg2 arg3 harg3 arg4 harg4 arg5 harg5 hc0 hc1 x0 x1 xs0 = k0_pay2 xs0 x0 x1 := by
  unfold sout0_B_0 kernelRun0_B
  dsimp only
  refine (write2 _ _ _ _ _).trans ?_
  simp only [readAt2, readAt3, readCov2]

/-- What the last point of a cycle writes. -/
theorem oL (hc0 : ¬cond0_0 i) (hc1 : cond0_1 i) :
    out0_B_2 c i arg2 harg2 arg3 harg3 arg4 harg4 arg5 harg5 hc0 hc1 x0 x1 xs0 = k0_pay3 (k0_pay2 xs0 x0 x1) := by
  unfold out0_B_2 kernelRun0_B
  dsimp only
  refine (write3 _ _ _ _ _).trans ?_
  unfold kernelRun0_B.sl.v15
  unfold kernelRun0_B.sl.HS0_1
  simp only [readAt2, readAt3, readCov2]

end points

end Cert.Mat.K11

end
-- ==== Proof.Ffn.K11Fold.lean ====
/- The kernel of the gate's weight gradient: the blocks of a grid point, its running sums, and the result. -/
module

public import proofs.«01_k».proof.Proof.Ffn.K11Block
public import proofs.«01_k».proof.Proof.Ffn.Layout
public import proofs.«01_k».proof.Proof.Gen.Kernel11Ideal.Value
public import Idealize.ShloMosaic.Lib.StableHlo.ReadAt

@[expose] public section

set_option maxRecDepth 16384

noncomputable section

namespace Cert.Mat.K11

open Cert.Kernel11Ideal Cert.Kernel11Ideal.Gen Idealize.ShloMosaic.ValueIdx
open Idealize.ShloMosaic hiding ix1 ix2 ix3 eq_ix1 eq_ix2 eq_ix3
open Idealize.ShloMosaic.TcCoe Idealize.SL.Sem
open scoped BigOperators

/-! ## A point's arithmetic -/

theorem zero_at (r : Fin 768) (d : Fin 2048) : (k0_pay1 (F := Ideal)) (ix2 r d) = (0 : EReal) :=
  (congrFun (same_cast (fun _ => Ideal.ofBits .f32 0x00000000#32 : S768x2048.Idx → EReal) shapeCasts_S768x2048_S768x2048) (ix2 r d)).trans Ideal.ofBits_zero_f32

theorem upd_at (x0 : Vec Ideal S1x2048x768 .bf16) (x1 : Vec Ideal S2048x2048 .bf16) (acc : Vec Ideal S768x2048 .f32) (r : Fin 768) (d : Fin 2048) :
    k0_pay2 acc x0 x1 (ix2 r d) = acc (ix2 r d) + ∑ k : Fin 2048, x0 (ix3 0 k r) * x1 (ix2 k d) := by
  have e : FloatOps.matmul (F := Ideal) (φ₁ := .bf16) (φ₂ := .bf16) (lhsT 2048 768 2048) none
        (shapeCast S2048x768 x0 shapeCasts_S1x2048x768_S2048x768) x1 (constant S768x2048 .f32 0x00000000#32) (ix2 r d)
        = ∑ k : Fin 2048, x0 (ix3 0 k r) * x1 (ix2 k d) :=
    (lhsT_n (φ₁ := .bf16) (φ₂ := .bf16) _ _ r d).trans (Finset.sum_congr rfl fun k _ => congrArg (· * x1 (ix2 k d)) (drop_slot x0 _ k r))
  unfold k0_pay2
  refine (congrFun (same_cast _ _) (ix2 r d)).trans ?_
  exact congrArg (acc (ix2 r d) + ·) e

theorem fin_at (v : Vec Ideal S768x2048 .f32) (r : Fin 768) (d : Fin 2048) : k0_pay3 v (ix3 0 r d) = v (ix2 r d) := by
  unfold k0_pay3
  exact add_slot _ _ r d

/-! ## The blocks -/

theorem pt_lt (t : Fin cfg0.N) : t.val < 16 := lt_of_lt_of_eq t.isLt (show cfg0.N = 16 from N_0)

theorem index_0 : ∀ t : Fin cfg0.N, win0_0.index t (0 : Fin 3) = t.val / 2 ∧ win0_0.index t (1 : Fin 3) = t.val % 2 ∧ win0_0.index t (2 : Fin 3) = 0 := by decide +kernel
theorem index_1 : ∀ t : Fin cfg0.N, win0_1.index t (0 : Fin 2) = t.val % 2 ∧ win0_1.index t (1 : Fin 2) = 0 := by decide +kernel

variable (m : (ℓ : Loc nD τ sig) → Buf (Elt Ideal) ℓ) (c : Dev nD)

/-- The cotangent of the gate's product. -/
abbrev aM := (m ((c : Thread nD τ).loc main_arg0) : S4096x5632.Idx → EReal)
/-- The normed activations. -/
abbrev aD := (m ((c : Thread nD τ).loc main_arg1) : S4096x2048.Idx → EReal)

theorem host_main_v2 (y : S8x4096x768.Idx) : (V m c main_v2 : S8x4096x768.Idx → EReal) y = sc 704 (aM m c) (y 0).val (y 1).val (y 2).val := by
  unfold V
  after_reads_at
  refine sc_choice 704 (aM m c) _ _ _ _ _ (room_zero _) (fun _ => rfl) (fun _ => ?_)
  show (y 0).val * 704 + (y 2).val = _
  omega

theorem blk_0 (t : Fin cfg0.N) (r : Fin 2048) (k : Fin 768) :
    (iblk m c 0 t : Vec Ideal S1x2048x768 .bf16) (ix3 0 r k) = sc 704 (aM m c) (t.val / 2) (2048 * (t.val % 2) + r.val) k.val := by
  have e : (iblk m c 0 t : Vec Ideal S1x2048x768 .bf16) (ix3 0 r k)
      = (V m c main_v2 : S8x4096x768.Idx → EReal) (((cfg0.win 0).blk t).view.emb (ix3 0 r k)) := rfl
  have e0 : ((((cfg0.win 0).blk t).view.emb (ix3 0 r k) : S8x4096x768.Idx) 0).val = t.val / 2 := by
    show win0_0.index t (0 : Fin 3) * 1 + 1 * 0 = t.val / 2
    rw [(index_0 t).1]; omega
  have e1 : ((((cfg0.win 0).blk t).view.emb (ix3 0 r k) : S8x4096x768.Idx) 1).val = 2048 * (t.val % 2) + r.val := by
    show win0_0.index t (1 : Fin 3) * 2048 + 1 * r.val = 2048 * (t.val % 2) + r.val
    rw [(index_0 t).2.1]; omega
  have e2 : ((((cfg0.win 0).blk t).view.emb (ix3 0 r k) : S8x4096x768.Idx) 2).val = k.val := by
    show win0_0.index t (2 : Fin 3) * 768 + 1 * k.val = k.val
    rw [(index_0 t).2.2]; omega
  rw [e, host_main_v2, e0, e1, e2]

theorem blk_1 (t : Fin cfg0.N) (r : Fin 2048) (k : Fin 2048) :
    (iblk m c 1 t : Vec Ideal S2048x2048 .bf16) (ix2 r k) = n2 (aD m c) (2048 * (t.val % 2) + r.val) (k.val) := by
  have e : (iblk m c 1 t : Vec Ideal S2048x2048 .bf16) (ix2 r k)
      = (V m c main_arg1 : S4096x2048.Idx → EReal) (((cfg0.win 1).blk t).view.emb (ix2 r k)) := rfl
  rw [e, V_main_arg1]
  refine (n2_eq _ _ _ _ ?_ ?_).symm
  · show win0_1.index t (0 : Fin 2) * 2048 + 1 * r.val = 2048 * (t.val % 2) + r.val
    rw [(index_1 t).1]; omega
  · show win0_1.index t (1 : Fin 2) * 2048 + 1 * k.val = k.val
    rw [(index_1 t).2]; omega

/-! ## The running sums -/

/-- What point `s` of slot `q`'s cycle adds. -/
def add (q s : ℕ) (r : Fin 768) (d : Fin 2048) : EReal :=
  ∑ k : Fin 2048, sc 704 (aM m c) q (2048 * s + k.val) r.val * n2 (aD m c) (2048 * s + k.val) d.val

theorem upd_add (t : Fin cfg0.N) (acc : Vec Ideal S768x2048 .f32) (r : Fin 768) (d : Fin 2048) :
    k0_pay2 acc (iblk m c 0 t) (iblk m c 1 t) (ix2 r d) = acc (ix2 r d) + add m c (t.val / 2) (t.val % 2) r d :=
  (upd_at (iblk m c 0 t) (iblk m c 1 t) acc r d).trans (congrArg (acc (ix2 r d) + ·)
    (Finset.sum_congr rfl fun k _ => congrArg₂ (· * ·) (blk_0 m c t k r) (blk_1 m c t k d)))

theorem scr : ∀ (t : ℕ) (h : t < cfg0.N) (r : Fin 768) (d : Fin 2048),
    (outsAt0 m c t h).2 (ix2 r d) = ∑ s ∈ Finset.range (t % 2 + 1), add m c (t / 2) s r d := by
  refine run_sum 2 cfg0.N (by decide) (fun t h r d => (outsAt0 m c t h).2 (ix2 r d)) (fun q s r d => add m c q s r d) ?_ ?_
  · intro t h r d h0
    rw [outsAt0_A m c ⟨t, h⟩ h0 (by dsimp only; omega)]
    dsimp only
    rw [sA]
    exact (upd_add m c ⟨t, h⟩ _ r d).trans (congrArg (· + _) (zero_at r d))
  · intro t h r d h0
    rw [outsAt0_B m c ⟨t, h⟩ h0 (by dsimp only; omega)]
    dsimp only
    rw [sB]
    exact upd_add m c ⟨t, h⟩ _ r d

/-- The block a cycle's last point writes. -/
theorem out (t : Fin cfg0.N) (h1 : t.val % 2 = 1) (r : Fin 768) (d : Fin 2048) :
    (outsAt0 m c t.val t.isLt).1 (ix3 0 r d) = ∑ s ∈ Finset.range 2, add m c (t.val / 2) s r d := by
  have e := scr m c t.val t.isLt r d
  rw [h1] at e
  rw [outsAt0_B m c t (by omega) h1] at e ⊢
  dsimp only at e ⊢
  rw [oL]
  rw [sB] at e
  exact (fin_at _ r d).trans e

/-! ## The result -/

open Cert.Kernel11Ideal.Value in
theorem result (p : Fin 8) (r : Fin 768) (d : Fin 2048) :
    (G2 m c : S8x768x2048.Idx → EReal) (ix3 p r d) = ∑ k : Fin 4096, sc 704 (aM m c) p.val k.val r.val * n2 (aD m c) k.val d.val := by
  have hN : cfg0.N = 16 := N_0
  have hp : pt2Of (ix3 p r d) = 2 * p.val + 1 := by
    show 2 * (1 * (p.val / 1 - 0) + 1 * (r.val / 768 - 0) + 1 * (d.val / 2048 - 0)) + 1 = _; omega
  have hb' : pt2Of (ix3 p r d) < cfg0.N := by rw [hp, hN]; omega
  unfold G2
  rw [dif_pos hb', ← outsAt0_sweep]
  have e := out m c ⟨pt2Of (ix3 p r d), hb'⟩ (by show pt2Of (ix3 p r d) % 2 = 1; rw [hp]; omega) r d
  have hl : loc2Of (ix3 p r d) = ix3 0 r d := by
    funext a
    match a with
    | ⟨0, _⟩ => exact Fin.ext (by show p.val % 1 = 0; omega)
    | ⟨1, _⟩ => exact Fin.ext (by show r.val % 768 = r.val; omega)
    | ⟨2, _⟩ => exact Fin.ext (by show d.val % 2048 = d.val; omega)
  rw [hl]
  refine e.trans ?_
  have hq : pt2Of (ix3 p r d) / 2 = p.val := by rw [hp]; omega
  dsimp only
  rw [hq]
  unfold add
  exact pieces_sum (fun k => sc 704 (aM m c) p.val k r.val * n2 (aD m c) k d.val) 2 2048 4096 rfl

end Cert.Mat.K11

end
-- ==== Proof.Ffn.K11.lean ====
/- The kernel of the gate's weight gradient and its reference: both give the same slots. -/
module

public import proofs.«01_k».proof.Proof.Ffn.K11Fold
public import proofs.«01_k».proof.Defs
public import proofs.«01_k».proof.Proof.Gen.Reference11Ideal.Run
public import proofs.«01_k».proof.Proof.Gen.Reference11Ideal.Read

@[expose] public section

set_option maxRecDepth 16384

noncomputable section

namespace Cert.Mat.K11

open Idealize.ShloMosaic.ValueIdx
open Idealize.ShloMosaic hiding ix1 ix2 ix3 eq_ix1 eq_ix2 eq_ix3
open Idealize.ShloMosaic.TcCoe Idealize.SL.Sem
open scoped BigOperators

/-! ## The reference -/

section reference
open Cert.Reference11Ideal Cert.Reference11Ideal.Gen Cert.Reference11Ideal.Read

theorem product_at (x0 : (⟨S4096x5632, .bf16⟩ : BufTy).Contents (Elt Ideal)) (x1 : (⟨S4096x2048, .bf16⟩ : BufTy).Contents (Elt Ideal)) (i j : ℕ) (hi : i < 5632) (hj : j < 2048) :
    n2 (val_main_v4 x0 x1 : S5632x2048.Idx → EReal) i j
      = ∑ k : Fin 4096, n2 (x0 : S4096x5632.Idx → EReal) k.val i * n2 (x1 : S4096x2048.Idx → EReal) k.val j := by
  refine (n2_eq (val_main_v4 x0 x1 : S5632x2048.Idx → EReal) i j (ix2 ⟨i, hi⟩ ⟨j, hj⟩) rfl rfl).trans ?_
  refine (val_main_v4_apply x0 x1 (ix2 ⟨i, hi⟩ ⟨j, hj⟩)).trans (Finset.sum_congr rfl fun k _ => ?_)
  exact congrArg₂ (fun a b : EReal => a * b) (n2_eq (x0 : S4096x5632.Idx → EReal) k.val i (lidx_main_v4 (ix2 ⟨i, hi⟩ ⟨j, hj⟩) k) rfl rfl).symm
    (n2_eq (x1 : S4096x2048.Idx → EReal) k.val j (ridx_main_v4 (ix2 ⟨i, hi⟩ ⟨j, hj⟩) k) rfl rfl).symm

theorem reference_at (x0 : (⟨S4096x5632, .bf16⟩ : BufTy).Contents (Elt Ideal)) (x1 : (⟨S4096x2048, .bf16⟩ : BufTy).Contents (Elt Ideal)) (p : Fin 8) (r : Fin 768) (d : Fin 2048) :
    val_main_v9 x0 x1 (ix3 p r d)
      = ∑ k : Fin 4096, sc 704 (x0 : S4096x5632.Idx → EReal) p.val k.val r.val * n2 (x1 : S4096x2048.Idx → EReal) k.val d.val := by
  have e : val_main_v9 x0 x1 (ix3 p r d) = sr 704 (val_main_v7 x0 x1 : S5632x2048.Idx → EReal) p.val r.val d.val :=
    rows_room (P := 8) (w := 704) (w' := 768) (g := 64) (val_main_v7 x0 x1 : S5632x2048.Idx → EReal) rfl shapeCasts_S5632x2048_S8x704x2048
      _ pads_S8x704x2048_S8x768x2048_000_0640_000 h_S_ (room_zero .bf16) p r d
  refine e.trans ?_
  unfold sr sc
  by_cases h : r.val < 704
  · have hp := p.isLt
    simp only [if_pos h]
    refine (flip_at (val_main_v5 x0 x1 : S2048x5632.Idx → EReal) transposes_S2048x5632_S5632x2048_1_0 _ _).trans ?_
    refine (flip_at (val_main_v4 x0 x1 : S5632x2048.Idx → EReal) transposes_S5632x2048_S2048x5632_1_0 _ _).trans ?_
    exact product_at x0 x1 _ _ (by omega) d.isLt
  · simp only [if_neg h, zero_mul, Finset.sum_const_zero]

end reference

/-- The reference runs, gives its arguments back and, having no semaphores, leaves none raised. -/
theorem reference_runs : Cert.quiescent_Reference11Ideal (hReference11Ideal := Cert.Reference11Ideal.Gen.facts) := fun m ρ _ =>
  (θ_run _ _ _).mono (fun _ h => And.intro (fun c => (h c).2) (sem_eq_zero_of_no_sems (by decide) _)) (Cert.Reference11Ideal.Value.run m ρ)

/-! ## The two programs' results -/

theorem equal : Cert.algebraic_Kernel11Ideal_Reference11Ideal (hKernel11Ideal := Cert.Kernel11Ideal.Gen.facts)
    (hReference11Ideal := Cert.Reference11Ideal.Gen.facts) := by
  intro m g m' g' _ ha
  refine ⟨fun c => Cert.Kernel11Ideal.Value.G2 m c, ?_, ?_⟩
  · exact (θ_run _ _ _).mono (fun r h c => ⟨(h c).1, (h c).2⟩) (Cert.Kernel11Ideal.Value.run m g)
  · refine (θ_run _ _ _).mono (fun r h c => ?_) (Cert.Reference11Ideal.Value.run m' g')
    obtain ⟨h0, h1⟩ := h c
    obtain ⟨a0, a1⟩ := ha c
    refine ⟨h0.trans ?_, h1⟩
    refine (Cert.Reference11Ideal.Read.val_main_v9_eq _ _).trans (ext3 fun p r d => ?_)
    refine Eq.trans ?_ ((reference_at _ _ p r d).trans (result m c p r d).symm)
    exact congrFun (congrArg₂ (Cert.Reference11Ideal.Read.val_main_v9 (F := Idealize.ShloMosaic.Ideal)) a0 a1) _

end Cert.Mat.K11

end
-- ==== Proof.Ffn.K12.lean ====
/- The gradient of the up projection's weight: the program and the reference are those of the gate's weight's (`K11`), and so are their values. -/
module

public import proofs.«01_k».proof.Proof.Ffn.K11
public import proofs.«01_k».proof.Defs
public import proofs.«01_k».proof.Proof.Gen.Kernel12Ideal.Value
public import proofs.«01_k».proof.Proof.Gen.Reference12Ideal.Run

@[expose] public section

set_option maxRecDepth 16384

noncomputable section

namespace Cert.Mat.K12

open Idealize.ShloMosaic.ValueIdx
open Idealize.ShloMosaic hiding ix1 ix2 ix3 eq_ix1 eq_ix2 eq_ix3
open Idealize.ShloMosaic.TcCoe Idealize.SL.Sem
open scoped BigOperators

theorem reference_runs : Cert.quiescent_Reference12Ideal (hReference12Ideal := Cert.Reference12Ideal.Gen.facts) := K11.reference_runs

theorem equal : Cert.algebraic_Kernel12Ideal_Reference12Ideal (hKernel12Ideal := Cert.Kernel12Ideal.Gen.facts)
    (hReference12Ideal := Cert.Reference12Ideal.Gen.facts) := by
  intro m g m' g' _ ha
  refine ⟨fun c => Cert.Kernel12Ideal.Value.G2 m c, ?_, ?_⟩
  · exact (θ_run _ _ _).mono (fun r h c => ⟨(h c).1, (h c).2⟩) (Cert.Kernel12Ideal.Value.run m g)
  · refine (θ_run _ _ _).mono (fun r h c => ?_) (Cert.Reference12Ideal.Value.run m' g')
    obtain ⟨h0, h1⟩ := h c
    obtain ⟨a0, a1⟩ := ha c
    refine ⟨h0.trans ?_, h1⟩
    refine (Cert.Reference11Ideal.Read.val_main_v9_eq _ _).trans (ext3 fun p r d => ?_)
    refine Eq.trans ?_ ((K11.reference_at _ _ p r d).trans (K11.result m c p r d).symm)
    exact congrFun (congrArg₂ (Cert.Reference11Ideal.Read.val_main_v9 (F := Idealize.ShloMosaic.Ideal)) a0 a1) _

end Cert.Mat.K12

end
-- ==== Proof.Ffn.K13Block.lean ====
/- The kernel of the output projection's weight gradient: what each grid point leaves in its running sums and writes. -/
module

public import proofs.«01_k».proof.Proof.Gen.Kernel13Ideal.Frame
public import proofs.«01_k».proof.Proof.Ffn.Common

@[expose] public section

set_option maxRecDepth 16384

noncomputable section

namespace Cert.Mat.K13

open Cert.Kernel13Ideal Cert.Kernel13Ideal.Gen Idealize.ShloMosaic Idealize.ShloMosaic.ValueIdx
open Idealize.ShloMosaic.TcCoe Idealize.SL.Sem

section points
variable (c : Dev nD) (i : grid0.Coords)
  (arg2 : Memref sig .tc .vmem S2048x256 .bf16) (harg2 : arg2.IsWhole)
  (arg3 : Memref sig .tc .vmem S2048x2048 .bf16) (harg3 : arg3.IsWhole)
  (arg4 : Memref sig .tc .vmem S1x256x2048 .bf16) (harg4 : arg4.IsWhole)
  (arg5 : Memref sig .tc .vmem S256x2048 .f32) (harg5 : arg5.IsWhole)
  (x0 : Vec Ideal S2048x256 .bf16)
  (x1 : Vec Ideal S2048x2048 .bf16)
  (xs0 : Vec Ideal S256x2048 .f32)

/-- The running sums after a point: case A. -/
theorem sA (hc0 : cond0_0 i) (hc1 : ¬cond0_1 i) :
    sout0_A_0 c i arg2 harg2 arg3 harg3 arg4 harg4 arg5 harg5 hc0 hc1 x0 x1 = k0_pay2 (k0_pay1 (F := Ideal)) x0 x1 := by
  unfold sout0_A_0 kernelRun0_A
  dsimp only
  refine (write2 _ _ _ _ _).trans ?_
  unfold kernelRun0_A.sl.v3
  unfold kernelRun0_A.sl.HS0_1
  simp only [readAt2, readAt3, readCov2]

/-- The running sums after a point: case B. -/
theorem sB (hc0 : ¬cond0_0 i) (hc1 : cond0_1 i) :
    sout0_B_0 c i arg2 harg2 arg3 harg3 arg4 harg4 arg5 harg5 hc0 hc1 x0 x1 xs0 = k0_pay2 xs0 x0 x1 := by
  unfold sout0_B_0 kernelRun0_B
  dsimp only
  refine (write2 _ _ _ _ _).trans ?_
  simp only [readAt2, readAt3, readCov2]

/-- What the last point of a cycle writes. -/
theorem oL (hc0 : ¬cond0_0 i) (hc1 : cond0_1 i) :
    out0_B_2 c i arg2 harg2 arg3 harg3 arg4 harg4 arg5 harg5 hc0 hc1 x0 x1 xs0 = k0_pay3 (k0_pay2 xs0 x0 x1) := by
  unfold out0_B_2 kernelRun0_B
  dsimp only
  refine (write3 _ _ _ _ _).trans ?_
  unfold kernelRun0_B.sl.v14
  unfold kernelRun0_B.sl.HS0_1
  simp only [readAt2, readAt3, readCov2]

end points

end Cert.Mat.K13

end
-- ==== Proof.Ffn.K13Fold.lean ====
/- The kernel of the output projection's weight gradient: the blocks of a grid point, its running sums, and the result. -/
module

public import proofs.«01_k».proof.Proof.Ffn.K13Block
public import proofs.«01_k».proof.Proof.Ffn.Layout
public import proofs.«01_k».proof.Proof.Gen.Kernel13Ideal.Value
public import Idealize.ShloMosaic.Lib.StableHlo.ReadAt

@[expose] public section

set_option maxRecDepth 16384

noncomputable section

namespace Cert.Mat.K13

open Cert.Kernel13Ideal Cert.Kernel13Ideal.Gen Idealize.ShloMosaic.ValueIdx
open Idealize.ShloMosaic hiding ix1 ix2 ix3 eq_ix1 eq_ix2 eq_ix3
open Idealize.ShloMosaic.TcCoe Idealize.SL.Sem
open scoped BigOperators

/-! ## A point's arithmetic -/

theorem zero_at (r : Fin 256) (d : Fin 2048) : (k0_pay1 (F := Ideal)) (ix2 r d) = (0 : EReal) :=
  (congrFun (same_cast (fun _ => Ideal.ofBits .f32 0x00000000#32 : S256x2048.Idx → EReal) shapeCasts_S256x2048_S256x2048) (ix2 r d)).trans Ideal.ofBits_zero_f32

theorem upd_at (x0 : Vec Ideal S2048x256 .bf16) (x1 : Vec Ideal S2048x2048 .bf16) (acc : Vec Ideal S256x2048 .f32) (r : Fin 256) (d : Fin 2048) :
    k0_pay2 acc x0 x1 (ix2 r d) = acc (ix2 r d) + ∑ k : Fin 2048, x0 (ix2 k r) * x1 (ix2 k d) := by
  have e : FloatOps.matmul (F := Ideal) (φ₁ := .bf16) (φ₂ := .bf16) (lhsT 2048 256 2048) none x0 x1 (constant S256x2048 .f32 0x00000000#32) (ix2 r d)
        = ∑ k : Fin 2048, x0 (ix2 k r) * x1 (ix2 k d) := lhsT_n (φ₁ := .bf16) (φ₂ := .bf16) x0 x1 r d
  unfold k0_pay2
  refine (congrFun (same_cast _ _) (ix2 r d)).trans ?_
  exact congrArg (acc (ix2 r d) + ·) e

theorem fin_at (v : Vec Ideal S256x2048 .f32) (r : Fin 256) (d : Fin 2048) : k0_pay3 v (ix3 0 r d) = v (ix2 r d) := by
  unfold k0_pay3
  exact add_slot _ _ r d

/-! ## The blocks -/

theorem pt_lt (t : Fin cfg0.N) : t.val < 16 := lt_of_lt_of_eq t.isLt (show cfg0.N = 16 from N_0)

theorem index_0 : ∀ t : Fin cfg0.N, win0_0.index t (0 : Fin 2) = t.val % 2 ∧ win0_0.index t (1 : Fin 2) = t.val / 2 := by decide +kernel
theorem index_1 : ∀ t : Fin cfg0.N, win0_1.index t (0 : Fin 2) = t.val % 2 ∧ win0_1.index t (1 : Fin 2) = 0 := by decide +kernel

variable (m : (ℓ : Loc nD τ sig) → Buf (Elt Ideal) ℓ) (c : Dev nD)

/-- The merged branches. -/
abbrev aM := (m ((c : Thread nD τ).loc main_arg0) : S4096x2048.Idx → EReal)
/-- The cotangent of the residual. -/
abbrev aD := (m ((c : Thread nD τ).loc main_arg1) : S4096x2048.Idx → EReal)

theorem blk_0 (t : Fin cfg0.N) (r : Fin 2048) (k : Fin 256) :
    (iblk m c 0 t : Vec Ideal S2048x256 .bf16) (ix2 r k) = n2 (aM m c) (2048 * (t.val % 2) + r.val) (256 * (t.val / 2) + k.val) := by
  have e : (iblk m c 0 t : Vec Ideal S2048x256 .bf16) (ix2 r k)
      = (V m c main_arg0 : S4096x2048.Idx → EReal) (((cfg0.win 0).blk t).view.emb (ix2 r k)) := rfl
  rw [e, V_main_arg0]
  refine (n2_eq _ _ _ _ ?_ ?_).symm
  · show win0_0.index t (0 : Fin 2) * 2048 + 1 * r.val = 2048 * (t.val % 2) + r.val
    rw [(index_0 t).1]; omega
  · show win0_0.index t (1 : Fin 2) * 256 + 1 * k.val = 256 * (t.val / 2) + k.val
    rw [(index_0 t).2]; omega

theorem blk_1 (t : Fin cfg0.N) (r : Fin 2048) (k : Fin 2048) :
    (iblk m c 1 t : Vec Ideal S2048x2048 .bf16) (ix2 r k) = n2 (aD m c) (2048 * (t.val % 2) + r.val) (k.val) := by
  have e : (iblk m c 1 t : Vec Ideal S2048x2048 .bf16) (ix2 r k)
      = (V m c main_arg1 : S4096x2048.Idx → EReal) (((cfg0.win 1).blk t).view.emb (ix2 r k)) := rfl
  rw [e, V_main_arg1]
  refine (n2_eq _ _ _ _ ?_ ?_).symm
  · show win0_1.index t (0 : Fin 2) * 2048 + 1 * r.val = 2048 * (t.val % 2) + r.val
    rw [(index_1 t).1]; omega
  · show win0_1.index t (1 : Fin 2) * 2048 + 1 * k.val = k.val
    rw [(index_1 t).2]; omega

/-! ## The running sums -/

/-- What point `s` of slot `q`'s cycle adds. -/
def add (q s : ℕ) (r : Fin 256) (d : Fin 2048) : EReal :=
  ∑ k : Fin 2048, n2 (aM m c) (2048 * s + k.val) (256 * q + r.val) * n2 (aD m c) (2048 * s + k.val) d.val

theorem upd_add (t : Fin cfg0.N) (acc : Vec Ideal S256x2048 .f32) (r : Fin 256) (d : Fin 2048) :
    k0_pay2 acc (iblk m c 0 t) (iblk m c 1 t) (ix2 r d) = acc (ix2 r d) + add m c (t.val / 2) (t.val % 2) r d :=
  (upd_at (iblk m c 0 t) (iblk m c 1 t) acc r d).trans (congrArg (acc (ix2 r d) + ·)
    (Finset.sum_congr rfl fun k _ => congrArg₂ (· * ·) (blk_0 m c t k r) (blk_1 m c t k d)))

theorem scr : ∀ (t : ℕ) (h : t < cfg0.N) (r : Fin 256) (d : Fin 2048),
    (outsAt0 m c t h).2 (ix2 r d) = ∑ s ∈ Finset.range (t % 2 + 1), add m c (t / 2) s r d := by
  refine run_sum 2 cfg0.N (by decide) (fun t h r d => (outsAt0 m c t h).2 (ix2 r d)) (fun q s r d => add m c q s r d) ?_ ?_
  · intro t h r d h0
    rw [outsAt0_A m c ⟨t, h⟩ h0 (by dsimp only; omega)]
    dsimp only
    rw [sA]
    exact (upd_add m c ⟨t, h⟩ _ r d).trans (congrArg (· + _) (zero_at r d))
  · intro t h r d h0
    rw [outsAt0_B m c ⟨t, h⟩ h0 (by dsimp only; omega)]
    dsimp only
    rw [sB]
    exact upd_add m c ⟨t, h⟩ _ r d

/-- The block a cycle's last point writes. -/
theorem out (t : Fin cfg0.N) (h1 : t.val % 2 = 1) (r : Fin 256) (d : Fin 2048) :
    (outsAt0 m c t.val t.isLt).1 (ix3 0 r d) = ∑ s ∈ Finset.range 2, add m c (t.val / 2) s r d := by
  have e := scr m c t.val t.isLt r d
  rw [h1] at e
  rw [outsAt0_B m c t (by omega) h1] at e ⊢
  dsimp only at e ⊢
  rw [oL]
  rw [sB] at e
  exact (fin_at _ r d).trans e

/-! ## The result -/

open Cert.Kernel13Ideal.Value in
theorem result (p : Fin 8) (r : Fin 256) (d : Fin 2048) :
    (G2 m c : S8x256x2048.Idx → EReal) (ix3 p r d) = ∑ k : Fin 4096, n2 (aM m c) k.val (256 * p.val + r.val) * n2 (aD m c) k.val d.val := by
  have hN : cfg0.N = 16 := N_0
  have hp : pt2Of (ix3 p r d) = 2 * p.val + 1 := by
    show 2 * (1 * (p.val / 1 - 0) + 1 * (r.val / 256 - 0) + 1 * (d.val / 2048 - 0)) + 1 = _; omega
  have hb' : pt2Of (ix3 p r d) < cfg0.N := by rw [hp, hN]; omega
  unfold G2
  rw [dif_pos hb', ← outsAt0_sweep]
  have e := out m c ⟨pt2Of (ix3 p r d), hb'⟩ (by show pt2Of (ix3 p r d) % 2 = 1; rw [hp]; omega) r d
  have hl : loc2Of (ix3 p r d) = ix3 0 r d := by
    funext a
    match a with
    | ⟨0, _⟩ => exact Fin.ext (by show p.val % 1 = 0; omega)
    | ⟨1, _⟩ => exact Fin.ext (by show r.val % 256 = r.val; omega)
    | ⟨2, _⟩ => exact Fin.ext (by show d.val % 2048 = d.val; omega)
  rw [hl]
  refine e.trans ?_
  have hq : pt2Of (ix3 p r d) / 2 = p.val := by rw [hp]; omega
  dsimp only
  rw [hq]
  unfold add
  exact pieces_sum (fun k => n2 (aM m c) k (256 * p.val + r.val) * n2 (aD m c) k d.val) 2 2048 4096 rfl

end Cert.Mat.K13

end
-- ==== Proof.Ffn.K13.lean ====
/- The kernel of the output projection's weight gradient and its reference: both give the same slots. -/
module

public import proofs.«01_k».proof.Proof.Ffn.K13Fold
public import proofs.«01_k».proof.Defs
public import proofs.«01_k».proof.Proof.Gen.Reference13Ideal.Run
public import proofs.«01_k».proof.Proof.Gen.Reference13Ideal.Read

@[expose] public section

set_option maxRecDepth 16384

noncomputable section

namespace Cert.Mat.K13

open Idealize.ShloMosaic.ValueIdx
open Idealize.ShloMosaic hiding ix1 ix2 ix3 eq_ix1 eq_ix2 eq_ix3
open Idealize.ShloMosaic.TcCoe Idealize.SL.Sem
open scoped BigOperators

/-! ## The reference -/

section reference
open Cert.Reference13Ideal Cert.Reference13Ideal.Gen Cert.Reference13Ideal.Read

theorem product_at (x0 : (⟨S4096x2048, .bf16⟩ : BufTy).Contents (Elt Ideal)) (x1 : (⟨S4096x2048, .bf16⟩ : BufTy).Contents (Elt Ideal)) (i j : ℕ) (hi : i < 2048) (hj : j < 2048) :
    n2 (val_main_v4 x0 x1 : S2048x2048.Idx → EReal) i j
      = ∑ k : Fin 4096, n2 (x0 : S4096x2048.Idx → EReal) k.val j * n2 (x1 : S4096x2048.Idx → EReal) k.val i := by
  refine (n2_eq (val_main_v4 x0 x1 : S2048x2048.Idx → EReal) i j (ix2 ⟨i, hi⟩ ⟨j, hj⟩) rfl rfl).trans ?_
  refine (val_main_v4_apply x0 x1 (ix2 ⟨i, hi⟩ ⟨j, hj⟩)).trans (Finset.sum_congr rfl fun k _ => ?_)
  exact (congrArg₂ (fun a b : EReal => a * b) (n2_eq (x1 : S4096x2048.Idx → EReal) k.val i (lidx_main_v4 (ix2 ⟨i, hi⟩ ⟨j, hj⟩) k) rfl rfl).symm
    (n2_eq (x0 : S4096x2048.Idx → EReal) k.val j (ridx_main_v4 (ix2 ⟨i, hi⟩ ⟨j, hj⟩) k) rfl rfl).symm).trans (mul_comm _ _)

theorem reference_at (x0 : (⟨S4096x2048, .bf16⟩ : BufTy).Contents (Elt Ideal)) (x1 : (⟨S4096x2048, .bf16⟩ : BufTy).Contents (Elt Ideal)) (p : Fin 8) (r : Fin 256) (d : Fin 2048) :
    val_main_v8 x0 x1 (ix3 p r d)
      = ∑ k : Fin 4096, n2 (x0 : S4096x2048.Idx → EReal) k.val (256 * p.val + r.val) * n2 (x1 : S4096x2048.Idx → EReal) k.val d.val := by
  have e : val_main_v8 x0 x1 (ix3 p r d) = sr 256 (val_main_v6 x0 x1 : S2048x2048.Idx → EReal) p.val r.val d.val :=
    rows_room (P := 8) (w := 256) (w' := 256) (g := 0) (val_main_v6 x0 x1 : S2048x2048.Idx → EReal) rfl shapeCasts_S2048x2048_S8x256x2048
      _ pads_S8x256x2048_S8x256x2048_000_000_000 h_S_ (room_zero .bf16) p r d
  refine e.trans ?_
  unfold sr
  rw [if_pos r.isLt]
  have hp := p.isLt
  have hr := r.isLt
  refine (flip_at (val_main_v4 x0 x1 : S2048x2048.Idx → EReal) transposes_S2048x2048_S2048x2048_1_0 _ _).trans ?_
  exact product_at x0 x1 _ _ d.isLt (by omega)

end reference

/-- The reference runs, gives its arguments back and, having no semaphores, leaves none raised. -/
theorem reference_runs : Cert.quiescent_Reference13Ideal (hReference13Ideal := Cert.Reference13Ideal.Gen.facts) := fun m ρ _ =>
  (θ_run _ _ _).mono (fun _ h => And.intro (fun c => (h c).2) (sem_eq_zero_of_no_sems (by decide) _)) (Cert.Reference13Ideal.Value.run m ρ)

/-! ## The two programs' results -/

theorem equal : Cert.algebraic_Kernel13Ideal_Reference13Ideal (hKernel13Ideal := Cert.Kernel13Ideal.Gen.facts)
    (hReference13Ideal := Cert.Reference13Ideal.Gen.facts) := by
  intro m g m' g' _ ha
  refine ⟨fun c => Cert.Kernel13Ideal.Value.G2 m c, ?_, ?_⟩
  · exact (θ_run _ _ _).mono (fun r h c => ⟨(h c).1, (h c).2⟩) (Cert.Kernel13Ideal.Value.run m g)
  · refine (θ_run _ _ _).mono (fun r h c => ?_) (Cert.Reference13Ideal.Value.run m' g')
    obtain ⟨h0, h1⟩ := h c
    obtain ⟨a0, a1⟩ := ha c
    refine ⟨h0.trans ?_, h1⟩
    refine (Cert.Reference13Ideal.Read.val_main_v8_eq _ _).trans (ext3 fun p r d => ?_)
    refine Eq.trans ?_ ((reference_at _ _ p r d).trans (result m c p r d).symm)
    exact congrFun (congrArg₂ (Cert.Reference13Ideal.Read.val_main_v8 (F := Idealize.ShloMosaic.Ideal)) a0 a1) _

end Cert.Mat.K13

end
-- ==== Proof.Ffn.K14Block.lean ====
/- The kernel of the gradient of the attention's output weight: what each grid point leaves in its running sums and writes. -/
module

public import proofs.«01_k».proof.Proof.Gen.Kernel14Ideal.Frame
public import proofs.«01_k».proof.Proof.Ffn.Common

@[expose] public section

set_option maxRecDepth 16384

noncomputable section

namespace Cert.Mat.K14

open Cert.Kernel14Ideal Cert.Kernel14Ideal.Gen Idealize.ShloMosaic Idealize.ShloMosaic.ValueIdx
open Idealize.ShloMosaic.TcCoe Idealize.SL.Sem

section points
variable (c : Dev nD) (i : grid0.Coords)
  (arg2 : Memref sig .tc .vmem S2048x1024 .bf16) (harg2 : arg2.IsWhole)
  (arg3 : Memref sig .tc .vmem S2048x256 .bf16) (harg3 : arg3.IsWhole)
  (arg4 : Memref sig .tc .vmem S1x1024x256 .bf16) (harg4 : arg4.IsWhole)
  (arg5 : Memref sig .tc .vmem S1024x256 .f32) (harg5 : arg5.IsWhole)
  (x0 : Vec Ideal S2048x1024 .bf16)
  (x1 : Vec Ideal S2048x256 .bf16)
  (xs0 : Vec Ideal S1024x256 .f32)

/-- The running sums after a point: case A. -/
theorem sA (hc0 : cond0_0 i) (hc1 : ¬cond0_1 i) :
    sout0_A_0 c i arg2 harg2 arg3 harg3 arg4 harg4 arg5 harg5 hc0 hc1 x0 x1 = k0_pay2 (k0_pay1 (F := Ideal)) x0 x1 := by
  unfold sout0_A_0 kernelRun0_A
  dsimp only
  refine (write2 _ _ _ _ _).trans ?_
  unfold kernelRun0_A.sl.v3
  unfold kernelRun0_A.sl.HS0_1
  simp only [readAt2, readAt3, readCov2]

/-- The running sums after a point: case B. -/
theorem sB (hc0 : ¬cond0_0 i) (hc1 : cond0_1 i) :
    sout0_B_0 c i arg2 harg2 arg3 harg3 arg4 harg4 arg5 harg5 hc0 hc1 x0 x1 xs0 = k0_pay2 xs0 x0 x1 := by
  unfold sout0_B_0 kernelRun0_B
  dsimp only
  refine (write2 _ _ _ _ _).trans ?_
  simp only [readAt2, readAt3, readCov2]

/-- What the last point of a cycle writes. -/
theorem oL (hc0 : ¬cond0_0 i) (hc1 : cond0_1 i) :
    out0_B_2 c i arg2 harg2 arg3 harg3 arg4 harg4 arg5 harg5 hc0 hc1 x0 x1 xs0 = k0_pay3 (k0_pay2 xs0 x0 x1) := by
  unfold out0_B_2 kernelRun0_B
  dsimp only
  refine (write3 _ _ _ _ _).trans ?_
  unfold kernelRun0_B.sl.v14
  unfold kernelRun0_B.sl.HS0_1
  simp only [readAt2, readAt3, readCov2]

end points

end Cert.Mat.K14

end
-- ==== Proof.Ffn.K14Fold.lean ====
/- The kernel of the gradient of the attention's output weight: the blocks of a grid point, its running sums, and the result. -/
module

public import proofs.«01_k».proof.Proof.Ffn.K14Block
public import proofs.«01_k».proof.Proof.Ffn.Layout
public import proofs.«01_k».proof.Proof.Gen.Kernel14Ideal.Value
public import Idealize.ShloMosaic.Lib.StableHlo.ReadAt

@[expose] public section

set_option maxRecDepth 16384

noncomputable section

namespace Cert.Mat.K14

open Cert.Kernel14Ideal Cert.Kernel14Ideal.Gen Idealize.ShloMosaic.ValueIdx
open Idealize.ShloMosaic hiding ix1 ix2 ix3 eq_ix1 eq_ix2 eq_ix3
open Idealize.ShloMosaic.TcCoe Idealize.SL.Sem
open scoped BigOperators

/-! ## A point's arithmetic -/

theorem zero_at (r : Fin 1024) (d : Fin 256) : (k0_pay1 (F := Ideal)) (ix2 r d) = (0 : EReal) :=
  (congrFun (same_cast (fun _ => Ideal.ofBits .f32 0x00000000#32 : S1024x256.Idx → EReal) shapeCasts_S1024x256_S1024x256) (ix2 r d)).trans Ideal.ofBits_zero_f32

theorem upd_at (x0 : Vec Ideal S2048x1024 .bf16) (x1 : Vec Ideal S2048x256 .bf16) (acc : Vec Ideal S1024x256 .f32) (r : Fin 1024) (d : Fin 256) :
    k0_pay2 acc x0 x1 (ix2 r d) = acc (ix2 r d) + ∑ k : Fin 2048, x0 (ix2 k r) * x1 (ix2 k d) := by
  have e : FloatOps.matmul (F := Ideal) (φ₁ := .bf16) (φ₂ := .bf16) (lhsT 2048 1024 256) none x0 x1 (constant S1024x256 .f32 0x00000000#32) (ix2 r d)
        = ∑ k : Fin 2048, x0 (ix2 k r) * x1 (ix2 k d) := lhsT_n (φ₁ := .bf16) (φ₂ := .bf16) x0 x1 r d
  unfold k0_pay2
  refine (congrFun (same_cast _ _) (ix2 r d)).trans ?_
  exact congrArg (acc (ix2 r d) + ·) e

theorem fin_at (v : Vec Ideal S1024x256 .f32) (r : Fin 1024) (d : Fin 256) : k0_pay3 v (ix3 0 r d) = v (ix2 r d) := by
  unfold k0_pay3
  exact add_slot _ _ r d

/-! ## The blocks -/

theorem pt_lt (t : Fin cfg0.N) : t.val < 16 := lt_of_lt_of_eq t.isLt (show cfg0.N = 16 from N_0)

theorem index_0 : ∀ t : Fin cfg0.N, win0_0.index t (0 : Fin 2) = t.val % 2 ∧ win0_0.index t (1 : Fin 2) = 0 := by decide +kernel
theorem index_1 : ∀ t : Fin cfg0.N, win0_1.index t (0 : Fin 2) = t.val % 2 ∧ win0_1.index t (1 : Fin 2) = t.val / 2 := by decide +kernel

variable (m : (ℓ : Loc nD τ sig) → Buf (Elt Ideal) ℓ) (c : Dev nD)

/-- The attention's result. -/
abbrev aM := (m ((c : Thread nD τ).loc main_arg0) : S4096x1024.Idx → EReal)
/-- The branch's cotangent. -/
abbrev aD := (m ((c : Thread nD τ).loc main_arg1) : S4096x2048.Idx → EReal)

theorem blk_0 (t : Fin cfg0.N) (r : Fin 2048) (k : Fin 1024) :
    (iblk m c 0 t : Vec Ideal S2048x1024 .bf16) (ix2 r k) = n2 (aM m c) (2048 * (t.val % 2) + r.val) (k.val) := by
  have e : (iblk m c 0 t : Vec Ideal S2048x1024 .bf16) (ix2 r k)
      = (V m c main_arg0 : S4096x1024.Idx → EReal) (((cfg0.win 0).blk t).view.emb (ix2 r k)) := rfl
  rw [e, V_main_arg0]
  refine (n2_eq _ _ _ _ ?_ ?_).symm
  · show win0_0.index t (0 : Fin 2) * 2048 + 1 * r.val = 2048 * (t.val % 2) + r.val
    rw [(index_0 t).1]; omega
  · show win0_0.index t (1 : Fin 2) * 1024 + 1 * k.val = k.val
    rw [(index_0 t).2]; omega

theorem blk_1 (t : Fin cfg0.N) (r : Fin 2048) (k : Fin 256) :
    (iblk m c 1 t : Vec Ideal S2048x256 .bf16) (ix2 r k) = n2 (aD m c) (2048 * (t.val % 2) + r.val) (256 * (t.val / 2) + k.val) := by
  have e : (iblk m c 1 t : Vec Ideal S2048x256 .bf16) (ix2 r k)
      = (V m c main_arg1 : S4096x2048.Idx → EReal) (((cfg0.win 1).blk t).view.emb (ix2 r k)) := rfl
  rw [e, V_main_arg1]
  refine (n2_eq _ _ _ _ ?_ ?_).symm
  · show win0_1.index t (0 : Fin 2) * 2048 + 1 * r.val = 2048 * (t.val % 2) + r.val
    rw [(index_1 t).1]; omega
  · show win0_1.index t (1 : Fin 2) * 256 + 1 * k.val = 256 * (t.val / 2) + k.val
    rw [(index_1 t).2]; omega

/-! ## The running sums -/

/-- What point `s` of slot `q`'s cycle adds. -/
def add (q s : ℕ) (r : Fin 1024) (d : Fin 256) : EReal :=
  ∑ k : Fin 2048, n2 (aM m c) (2048 * s + k.val) r.val * n2 (aD m c) (2048 * s + k.val) (256 * q + d.val)

theorem upd_add (t : Fin cfg0.N) (acc : Vec Ideal S1024x256 .f32) (r : Fin 1024) (d : Fin 256) :
    k0_pay2 acc (iblk m c 0 t) (iblk m c 1 t) (ix2 r d) = acc (ix2 r d) + add m c (t.val / 2) (t.val % 2) r d :=
  (upd_at (iblk m c 0 t) (iblk m c 1 t) acc r d).trans (congrArg (acc (ix2 r d) + ·)
    (Finset.sum_congr rfl fun k _ => congrArg₂ (· * ·) (blk_0 m c t k r) (blk_1 m c t k d)))

theorem scr : ∀ (t : ℕ) (h : t < cfg0.N) (r : Fin 1024) (d : Fin 256),
    (outsAt0 m c t h).2 (ix2 r d) = ∑ s ∈ Finset.range (t % 2 + 1), add m c (t / 2) s r d := by
  refine run_sum 2 cfg0.N (by decide) (fun t h r d => (outsAt0 m c t h).2 (ix2 r d)) (fun q s r d => add m c q s r d) ?_ ?_
  · intro t h r d h0
    rw [outsAt0_A m c ⟨t, h⟩ h0 (by dsimp only; omega)]
    dsimp only
    rw [sA]
    exact (upd_add m c ⟨t, h⟩ _ r d).trans (congrArg (· + _) (zero_at r d))
  · intro t h r d h0
    rw [outsAt0_B m c ⟨t, h⟩ h0 (by dsimp only; omega)]
    dsimp only
    rw [sB]
    exact upd_add m c ⟨t, h⟩ _ r d

/-- The block a cycle's last point writes. -/
theorem out (t : Fin cfg0.N) (h1 : t.val % 2 = 1) (r : Fin 1024) (d : Fin 256) :
    (outsAt0 m c t.val t.isLt).1 (ix3 0 r d) = ∑ s ∈ Finset.range 2, add m c (t.val / 2) s r d := by
  have e := scr m c t.val t.isLt r d
  rw [h1] at e
  rw [outsAt0_B m c t (by omega) h1] at e ⊢
  dsimp only at e ⊢
  rw [oL]
  rw [sB] at e
  exact (fin_at _ r d).trans e

/-! ## The result -/

open Cert.Kernel14Ideal.Value in
theorem result (p : Fin 8) (r : Fin 1024) (d : Fin 256) :
    (G2 m c : S8x1024x256.Idx → EReal) (ix3 p r d) = ∑ k : Fin 4096, n2 (aM m c) k.val r.val * n2 (aD m c) k.val (256 * p.val + d.val) := by
  have hN : cfg0.N = 16 := N_0
  have hp : pt2Of (ix3 p r d) = 2 * p.val + 1 := by
    show 2 * (1 * (p.val / 1 - 0) + 1 * (r.val / 1024 - 0) + 1 * (d.val / 256 - 0)) + 1 = _; omega
  have hb' : pt2Of (ix3 p r d) < cfg0.N := by rw [hp, hN]; omega
  unfold G2
  rw [dif_pos hb', ← outsAt0_sweep]
  have e := out m c ⟨pt2Of (ix3 p r d), hb'⟩ (by show pt2Of (ix3 p r d) % 2 = 1; rw [hp]; omega) r d
  have hl : loc2Of (ix3 p r d) = ix3 0 r d := by
    funext a
    match a with
    | ⟨0, _⟩ => exact Fin.ext (by show p.val % 1 = 0; omega)
    | ⟨1, _⟩ => exact Fin.ext (by show r.val % 1024 = r.val; omega)
    | ⟨2, _⟩ => exact Fin.ext (by show d.val % 256 = d.val; omega)
  rw [hl]
  refine e.trans ?_
  have hq : pt2Of (ix3 p r d) / 2 = p.val := by rw [hp]; omega
  dsimp only
  rw [hq]
  unfold add
  exact pieces_sum (fun k => n2 (aM m c) k r.val * n2 (aD m c) k (256 * p.val + d.val)) 2 2048 4096 rfl

end Cert.Mat.K14

end
-- ==== Proof.Ffn.K14.lean ====
/- The kernel of the gradient of the attention's output weight and its reference: both give the same slots. -/
module

public import proofs.«01_k».proof.Proof.Ffn.K14Fold
public import proofs.«01_k».proof.Defs
public import proofs.«01_k».proof.Proof.Gen.Reference14Ideal.Run
public import proofs.«01_k».proof.Proof.Gen.Reference14Ideal.Read

@[expose] public section

set_option maxRecDepth 16384

noncomputable section

namespace Cert.Mat.K14

open Idealize.ShloMosaic.ValueIdx
open Idealize.ShloMosaic hiding ix1 ix2 ix3 eq_ix1 eq_ix2 eq_ix3
open Idealize.ShloMosaic.TcCoe Idealize.SL.Sem
open scoped BigOperators

/-! ## The reference -/

section reference
open Cert.Reference14Ideal Cert.Reference14Ideal.Gen Cert.Reference14Ideal.Read

theorem product_at (x0 : (⟨S4096x1024, .bf16⟩ : BufTy).Contents (Elt Ideal)) (x1 : (⟨S4096x2048, .bf16⟩ : BufTy).Contents (Elt Ideal)) (i j : ℕ) (hi : i < 2048) (hj : j < 1024) :
    n2 (val_main_v4 x0 x1 : S2048x1024.Idx → EReal) i j
      = ∑ k : Fin 4096, n2 (x0 : S4096x1024.Idx → EReal) k.val j * n2 (x1 : S4096x2048.Idx → EReal) k.val i := by
  refine (n2_eq (val_main_v4 x0 x1 : S2048x1024.Idx → EReal) i j (ix2 ⟨i, hi⟩ ⟨j, hj⟩) rfl rfl).trans ?_
  refine (val_main_v4_apply x0 x1 (ix2 ⟨i, hi⟩ ⟨j, hj⟩)).trans (Finset.sum_congr rfl fun k _ => ?_)
  exact (congrArg₂ (fun a b : EReal => a * b) (n2_eq (x1 : S4096x2048.Idx → EReal) k.val i (lidx_main_v4 (ix2 ⟨i, hi⟩ ⟨j, hj⟩) k) rfl rfl).symm
    (n2_eq (x0 : S4096x1024.Idx → EReal) k.val j (ridx_main_v4 (ix2 ⟨i, hi⟩ ⟨j, hj⟩) k) rfl rfl).symm).trans (mul_comm _ _)

theorem reference_at (x0 : (⟨S4096x1024, .bf16⟩ : BufTy).Contents (Elt Ideal)) (x1 : (⟨S4096x2048, .bf16⟩ : BufTy).Contents (Elt Ideal)) (p : Fin 8) (r : Fin 1024) (d : Fin 256) :
    val_main_v9 x0 x1 (ix3 p r d)
      = ∑ k : Fin 4096, n2 (x0 : S4096x1024.Idx → EReal) k.val r.val * n2 (x1 : S4096x2048.Idx → EReal) k.val (256 * p.val + d.val) := by
  have e : val_main_v9 x0 x1 (ix3 p r d) = sc 256 (val_main_v6 x0 x1 : S1024x2048.Idx → EReal) p.val r.val d.val :=
    cols_room (P := 8) (w := 256) (w' := 256) (g := 0) (val_main_v6 x0 x1 : S1024x2048.Idx → EReal) rfl shapeCasts_S1024x2048_S1024x8x256
      transposes_S1024x8x256_S8x1024x256_1_0_2 _ pads_S8x1024x256_S8x1024x256_000_000_000 h_S_ (room_zero .bf16) p r d
  refine e.trans ?_
  unfold sc
  rw [if_pos d.isLt]
  have hp := p.isLt
  have hd := d.isLt
  refine (flip_at (val_main_v4 x0 x1 : S2048x1024.Idx → EReal) transposes_S2048x1024_S1024x2048_1_0 _ _).trans ?_
  exact product_at x0 x1 _ _ (by omega) r.isLt

end reference

/-- The reference runs, gives its arguments back and, having no semaphores, leaves none raised. -/
theorem reference_runs : Cert.quiescent_Reference14Ideal (hReference14Ideal := Cert.Reference14Ideal.Gen.facts) := fun m ρ _ =>
  (θ_run _ _ _).mono (fun _ h => And.intro (fun c => (h c).2) (sem_eq_zero_of_no_sems (by decide) _)) (Cert.Reference14Ideal.Value.run m ρ)

/-! ## The two programs' results -/

theorem equal : Cert.algebraic_Kernel14Ideal_Reference14Ideal (hKernel14Ideal := Cert.Kernel14Ideal.Gen.facts)
    (hReference14Ideal := Cert.Reference14Ideal.Gen.facts) := by
  intro m g m' g' _ ha
  refine ⟨fun c => Cert.Kernel14Ideal.Value.G2 m c, ?_, ?_⟩
  · exact (θ_run _ _ _).mono (fun r h c => ⟨(h c).1, (h c).2⟩) (Cert.Kernel14Ideal.Value.run m g)
  · refine (θ_run _ _ _).mono (fun r h c => ?_) (Cert.Reference14Ideal.Value.run m' g')
    obtain ⟨h0, h1⟩ := h c
    obtain ⟨a0, a1⟩ := ha c
    refine ⟨h0.trans ?_, h1⟩
    refine (Cert.Reference14Ideal.Read.val_main_v9_eq _ _).trans (ext3 fun p r d => ?_)
    refine Eq.trans ?_ ((reference_at _ _ p r d).trans (result m c p r d).symm)
    exact congrFun (congrArg₂ (Cert.Reference14Ideal.Read.val_main_v9 (F := Idealize.ShloMosaic.Ideal)) a0 a1) _

end Cert.Mat.K14

end
-- ==== Proof.Ffn.K15.lean ====
/- The gradient of the retention's output weight: the program and the reference are those of the attention's (`K14`), and so are their values. -/
module

public import proofs.«01_k».proof.Proof.Ffn.K14
public import proofs.«01_k».proof.Defs
public import proofs.«01_k».proof.Proof.Gen.Kernel15Ideal.Value
public import proofs.«01_k».proof.Proof.Gen.Reference15Ideal.Run

@[expose] public section

set_option maxRecDepth 16384

noncomputable section

namespace Cert.Mat.K15

open Idealize.ShloMosaic.ValueIdx
open Idealize.ShloMosaic hiding ix1 ix2 ix3 eq_ix1 eq_ix2 eq_ix3
open Idealize.ShloMosaic.TcCoe Idealize.SL.Sem
open scoped BigOperators

theorem reference_runs : Cert.quiescent_Reference15Ideal (hReference15Ideal := Cert.Reference15Ideal.Gen.facts) := K14.reference_runs

theorem equal : Cert.algebraic_Kernel15Ideal_Reference15Ideal (hKernel15Ideal := Cert.Kernel15Ideal.Gen.facts)
    (hReference15Ideal := Cert.Reference15Ideal.Gen.facts) := by
  intro m g m' g' _ ha
  refine ⟨fun c => Cert.Kernel15Ideal.Value.G2 m c, ?_, ?_⟩
  · exact (θ_run _ _ _).mono (fun r h c => ⟨(h c).1, (h c).2⟩) (Cert.Kernel15Ideal.Value.run m g)
  · refine (θ_run _ _ _).mono (fun r h c => ?_) (Cert.Reference15Ideal.Value.run m' g')
    obtain ⟨h0, h1⟩ := h c
    obtain ⟨a0, a1⟩ := ha c
    refine ⟨h0.trans ?_, h1⟩
    refine (Cert.Reference14Ideal.Read.val_main_v9_eq _ _).trans (ext3 fun p r d => ?_)
    refine Eq.trans ?_ ((K14.reference_at _ _ p r d).trans (K14.result m c p r d).symm)
    exact congrFun (congrArg₂ (Cert.Reference14Ideal.Read.val_main_v9 (F := Idealize.ShloMosaic.Ideal)) a0 a1) _

end Cert.Mat.K15

end
-- ==== Proof.Ffn.K16Block.lean ====
/- The kernel of the gradient of the attention's result: what each grid point leaves in its running sums and writes. -/
module

public import proofs.«01_k».proof.Proof.Gen.Kernel16Ideal.Frame
public import proofs.«01_k».proof.Proof.Ffn.Common

@[expose] public section

set_option maxRecDepth 16384

noncomputable section

namespace Cert.Mat.K16

open Cert.Kernel16Ideal Cert.Kernel16Ideal.Gen Idealize.ShloMosaic Idealize.ShloMosaic.ValueIdx
open Idealize.ShloMosaic.TcCoe Idealize.SL.Sem

/-- The block's sums of eight products. -/
def sums (x0 x1 x2 x3 x4 x5 x6 x7 : Vec Ideal S512x256 .bf16) (x8 x9 x10 x11 x12 x13 x14 x15 : Vec Ideal S1x1024x256 .bf16) : Vec Ideal S512x1024 .f32 :=
  k0_pay1 (k0_pay4 x0 x8 x1 x9 x2 x10 x3 x11) x4 (k0_pay5 x12) (constant S512x1024 .f32 0x00000000#32) x5 x13 x6 x14 x7 x15 (k0_pay3 (F := Ideal))

section points
variable (c : Dev nD) (i : grid0.Coords)
  (arg2 : Memref sig .tc .vmem S512x256 .bf16) (harg2 : arg2.IsWhole)
  (arg3 : Memref sig .tc .vmem S512x256 .bf16) (harg3 : arg3.IsWhole)
  (arg4 : Memref sig .tc .vmem S512x256 .bf16) (harg4 : arg4.IsWhole)
  (arg5 : Memref sig .tc .vmem S512x256 .bf16) (harg5 : arg5.IsWhole)
  (arg6 : Memref sig .tc .vmem S512x256 .bf16) (harg6 : arg6.IsWhole)
  (arg7 : Memref sig .tc .vmem S512x256 .bf16) (harg7 : arg7.IsWhole)
  (arg8 : Memref sig .tc .vmem S512x256 .bf16) (harg8 : arg8.IsWhole)
  (arg9 : Memref sig .tc .vmem S512x256 .bf16) (harg9 : arg9.IsWhole)
  (arg10 : Memref sig .tc .vmem S1x1024x256 .bf16) (harg10 : arg10.IsWhole)
  (arg11 : Memref sig .tc .vmem S1x1024x256 .bf16) (harg11 : arg11.IsWhole)
  (arg12 : Memref sig .tc .vmem S1x1024x256 .bf16) (harg12 : arg12.IsWhole)
  (arg13 : Memref sig .tc .vmem S1x1024x256 .bf16) (harg13 : arg13.IsWhole)
  (arg14 : Memref sig .tc .vmem S1x1024x256 .bf16) (harg14 : arg14.IsWhole)
  (arg15 : Memref sig .tc .vmem S1x1024x256 .bf16) (harg15 : arg15.IsWhole)
  (arg16 : Memref sig .tc .vmem S1x1024x256 .bf16) (harg16 : arg16.IsWhole)
  (arg17 : Memref sig .tc .vmem S1x1024x256 .bf16) (harg17 : arg17.IsWhole)
  (arg18 : Memref sig .tc .vmem S512x1024 .bf16) (harg18 : arg18.IsWhole)
  (arg19 : Memref sig .tc .vmem S512x1024 .f32) (harg19 : arg19.IsWhole)
  (x0 x1 x2 x3 x4 x5 x6 x7 : Vec Ideal S512x256 .bf16) (x8 x9 x10 x11 x12 x13 x14 x15 : Vec Ideal S1x1024x256 .bf16)

/-- What a point writes. -/
theorem oA (hc0 : cond0_0 i) (hc1 : cond0_1 i) :
    out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 x14 x15 = k0_pay2 (sums x0 x1 x2 x3 x4 x5 x6 x7 x8 x9 x10 x11 x12 x13 x14 x15) := by
  unfold out0_A_16 kernelRun0_A
  dsimp only
  refine (write2 _ _ _ _ _).trans ?_
  unfold kernelRun0_A.sl.v50
  unfold kernelRun0_A.sl.HS0_2
  unfold kernelRun0_A.sl.v42
  unfold kernelRun0_A.sl.HS0_1
  refine congrArg k0_pay2 ((readCov2 _ _ _ _ _).trans ?_)
  unfold sums
  unfold kernelRun0_A.sl.r kernelRun0_A.sl.r_1 kernelRun0_A.sl.r_2 kernelRun0_A.sl.cst_28
  rw [readAt2, readAt2, readAt2, readAt2, readAt2, readAt2, readAt2, readAt2, readAt3, readAt3, readAt3, readAt3, readAt3, readAt3, readAt3, readAt3]
  exact congrArg (k0_pay1 _ _ _ _ _ _ _ _ _ _) (readCov2 _ _ _ _ _)

end points

end Cert.Mat.K16

end
-- ==== Proof.Ffn.K16Fold.lean ====
/- The kernel of the gradient of the attention's result: the blocks of a grid point and the result. -/
module

public import proofs.«01_k».proof.Proof.Ffn.K16Block
public import proofs.«01_k».proof.Proof.Ffn.Layout
public import proofs.«01_k».proof.Proof.Gen.Kernel16Ideal.Value
public import Idealize.ShloMosaic.Lib.StableHlo.ReadAt

@[expose] public section

set_option maxRecDepth 16384

noncomputable section

namespace Cert.Mat.K16

open Cert.Kernel16Ideal Cert.Kernel16Ideal.Gen Idealize.ShloMosaic.ValueIdx
open Idealize.ShloMosaic hiding ix1 ix2 ix3 eq_ix1 eq_ix2 eq_ix3
open Idealize.ShloMosaic.TcCoe Idealize.SL.Sem
open scoped BigOperators

/-! ## A point's arithmetic -/

/-- One of the products. -/
abbrev tile (x : Vec Ideal S512x256 .bf16) (w : Vec Ideal S1x1024x256 .bf16) (r : Fin 512) (d : Fin 1024) : EReal :=
  ∑ k : Fin 256, x (ix2 r k) * w (ix3 0 d k)

theorem dot_at (x : Vec Ideal S512x256 .bf16) (w : Vec Ideal S1x1024x256 .bf16) (r : Fin 512) (d : Fin 1024) :
    FloatOps.matmul (F := Ideal) (φ₁ := .bf16) (φ₂ := .bf16) (DotDims.transposedRhs 512 256 1024) none x
      (shapeCast S1024x256 w shapeCasts_S1x1024x256_S1024x256) (constant S512x1024 .f32 0x00000000#32) (ix2 r d) = tile x w r d :=
  (trans_n (φ₁ := .bf16) (φ₂ := .bf16) _ _ r d).trans (Finset.sum_congr rfl fun k _ => congrArg (x (ix2 r k) * ·) (drop_slot w _ d k))

theorem zero_at (r : Fin 512) (d : Fin 1024) : (k0_pay3 (F := Ideal)) (ix2 r d) = (0 : EReal) :=
  (congrFun (same_cast (fun _ => Ideal.ofBits .f32 0x00000000#32 : S512x1024.Idx → EReal) shapeCasts_S512x1024_S512x1024) (ix2 r d)).trans Ideal.ofBits_zero_f32

theorem cast_at (v : Vec Ideal S512x1024 .f32) (r : Fin 512) (d : Fin 1024) : (k0_pay2 v : S512x1024.Idx → EReal) (ix2 r d) = v (ix2 r d) :=
  rfl

theorem sums_at (x0 x1 x2 x3 x4 x5 x6 x7 : Vec Ideal S512x256 .bf16) (x8 x9 x10 x11 x12 x13 x14 x15 : Vec Ideal S1x1024x256 .bf16) (r : Fin 512) (d : Fin 1024) :
    k0_pay2 (sums x0 x1 x2 x3 x4 x5 x6 x7 x8 x9 x10 x11 x12 x13 x14 x15) (ix2 r d) = tile x0 x8 r d + tile x1 x9 r d + tile x2 x10 r d + tile x3 x11 r d + tile x4 x12 r d + tile x5 x13 r d + tile x6 x14 r d + tile x7 x15 r d := by
  have e : k0_pay2 (sums x0 x1 x2 x3 x4 x5 x6 x7 x8 x9 x10 x11 x12 x13 x14 x15) (ix2 r d)
      = (k0_pay3 (F := Ideal)) (ix2 r d) + (tile x0 x8 r d + tile x1 x9 r d + tile x2 x10 r d + tile x3 x11 r d + tile x4 x12 r d + tile x5 x13 r d + tile x6 x14 r d + tile x7 x15 r d) := by
    unfold sums
    refine (cast_at _ r d).trans ?_
    unfold k0_pay1
    refine (congrFun (same_cast _ _) (ix2 r d)).trans ?_
    exact congrArg ((k0_pay3 (F := Ideal)) (ix2 r d) + ·) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (dot_at x0 x8 r d) (dot_at x1 x9 r d)) (dot_at x2 x10 r d)) (dot_at x3 x11 r d)) (dot_at x4 x12 r d)) (dot_at x5 x13 r d)) (dot_at x6 x14 r d)) (dot_at x7 x15 r d))
  rw [e, zero_at, zero_add]

/-! ## The blocks -/

theorem pt_lt (t : Fin cfg0.N) : t.val < 8 := lt_of_lt_of_eq t.isLt (show cfg0.N = 8 from N_0)

theorem index_0 : ∀ t : Fin cfg0.N, win0_0.index t (0 : Fin 2) = t.val ∧ win0_0.index t (1 : Fin 2) = 0 := by decide +kernel
theorem index_1 : ∀ t : Fin cfg0.N, win0_1.index t (0 : Fin 2) = t.val ∧ win0_1.index t (1 : Fin 2) = 1 := by decide +kernel
theorem index_2 : ∀ t : Fin cfg0.N, win0_2.index t (0 : Fin 2) = t.val ∧ win0_2.index t (1 : Fin 2) = 2 := by decide +kernel
theorem index_3 : ∀ t : Fin cfg0.N, win0_3.index t (0 : Fin 2) = t.val ∧ win0_3.index t (1 : Fin 2) = 3 := by decide +kernel
theorem index_4 : ∀ t : Fin cfg0.N, win0_4.index t (0 : Fin 2) = t.val ∧ win0_4.index t (1 : Fin 2) = 4 := by decide +kernel
theorem index_5 : ∀ t : Fin cfg0.N, win0_5.index t (0 : Fin 2) = t.val ∧ win0_5.index t (1 : Fin 2) = 5 := by decide +kernel
theorem index_6 : ∀ t : Fin cfg0.N, win0_6.index t (0 : Fin 2) = t.val ∧ win0_6.index t (1 : Fin 2) = 6 := by decide +kernel
theorem index_7 : ∀ t : Fin cfg0.N, win0_7.index t (0 : Fin 2) = t.val ∧ win0_7.index t (1 : Fin 2) = 7 := by decide +kernel
theorem index_8 : ∀ t : Fin cfg0.N, win0_8.index t (0 : Fin 3) = 0 ∧ win0_8.index t (1 : Fin 3) = 0 ∧ win0_8.index t (2 : Fin 3) = 0 := by decide +kernel
theorem index_9 : ∀ t : Fin cfg0.N, win0_9.index t (0 : Fin 3) = 1 ∧ win0_9.index t (1 : Fin 3) = 0 ∧ win0_9.index t (2 : Fin 3) = 0 := by decide +kernel
theorem index_10 : ∀ t : Fin cfg0.N, win0_10.index t (0 : Fin 3) = 2 ∧ win0_10.index t (1 : Fin 3) = 0 ∧ win0_10.index t (2 : Fin 3) = 0 := by decide +kernel
theorem index_11 : ∀ t : Fin cfg0.N, win0_11.index t (0 : Fin 3) = 3 ∧ win0_11.index t (1 : Fin 3) = 0 ∧ win0_11.index t (2 : Fin 3) = 0 := by decide +kernel
theorem index_12 : ∀ t : Fin cfg0.N, win0_12.index t (0 : Fin 3) = 4 ∧ win0_12.index t (1 : Fin 3) = 0 ∧ win0_12.index t (2 : Fin 3) = 0 := by decide +kernel
theorem index_13 : ∀ t : Fin cfg0.N, win0_13.index t (0 : Fin 3) = 5 ∧ win0_13.index t (1 : Fin 3) = 0 ∧ win0_13.index t (2 : Fin 3) = 0 := by decide +kernel
theorem index_14 : ∀ t : Fin cfg0.N, win0_14.index t (0 : Fin 3) = 6 ∧ win0_14.index t (1 : Fin 3) = 0 ∧ win0_14.index t (2 : Fin 3) = 0 := by decide +kernel
theorem index_15 : ∀ t : Fin cfg0.N, win0_15.index t (0 : Fin 3) = 7 ∧ win0_15.index t (1 : Fin 3) = 0 ∧ win0_15.index t (2 : Fin 3) = 0 := by decide +kernel
theorem index_16 : ∀ t : Fin cfg0.N, win0_16.index t (0 : Fin 2) = t.val ∧ win0_16.index t (1 : Fin 2) = 0 := by decide +kernel

variable (m : (ℓ : Loc nD τ sig) → Buf (Elt Ideal) ℓ) (c : Dev nD)

/-- The attention branch's cotangent. -/
abbrev aD := (m ((c : Thread nD τ).loc main_arg0) : S4096x2048.Idx → EReal)
/-- The attention's output weight. -/
abbrev aW := (m ((c : Thread nD τ).loc main_arg1) : S1024x2048.Idx → EReal)

theorem host_main_v2 (y : S8x1024x256.Idx) : (V m c main_v2 : S8x1024x256.Idx → EReal) y = n2 (aW m c) (y 1).val (256 * (y 0).val + (y 2).val) := by
  unfold V
  after_reads_at
  refine (n2_eq (aW m c) _ _ _ rfl ?_).symm
  show (y 0).val * 256 + (y 2).val = _
  omega

/-- An element of a block of the cotangent, from where the block lies. -/
theorem blk_D (t : Fin cfg0.N) (r : Fin 512) (k : Fin 256) (o : ℕ) (y : S4096x2048.Idx) {p q : ℕ} (h : p = t.val ∧ q = o)
    (h0 : (y 0).val = p * 512 + 1 * r.val) (h1 : (y 1).val = q * 256 + 1 * k.val) :
    (V m c main_arg0 : S4096x2048.Idx → EReal) y = n2 (aD m c) (512 * t.val + r.val) (256 * o + k.val) := by
  rw [V_main_arg0]
  exact (n2_eq _ _ _ _ (by omega) (by omega)).symm

/-- An element of a block of the weight, from where the block lies. -/
theorem blk_W (r : Fin 1024) (k : Fin 256) (o : ℕ) (y : S8x1024x256.Idx) {p q s : ℕ} (h : p = o ∧ q = 0 ∧ s = 0)
    (h0 : (y 0).val = p * 1 + 1 * 0) (h1 : (y 1).val = q * 1024 + 1 * r.val) (h2 : (y 2).val = s * 256 + 1 * k.val) :
    (V m c main_v2 : S8x1024x256.Idx → EReal) y = n2 (aW m c) r.val (256 * o + k.val) := by
  have e0 : (y 0).val = o := by omega
  have e1 : (y 1).val = r.val := by omega
  have e2 : (y 2).val = k.val := by omega
  rw [host_main_v2, e0, e1, e2]

theorem blk_0 (t : Fin cfg0.N) (r : Fin 512) (k : Fin 256) :
    (iblk m c 0 t : Vec Ideal S512x256 .bf16) (ix2 r k) = n2 (aD m c) (512 * t.val + r.val) (256 * 0 + k.val) :=
  blk_D m c t r k 0 (((cfg0.win 0).blk t).view.emb (ix2 r k)) (index_0 t) rfl rfl
theorem blk_1 (t : Fin cfg0.N) (r : Fin 512) (k : Fin 256) :
    (iblk m c 1 t : Vec Ideal S512x256 .bf16) (ix2 r k) = n2 (aD m c) (512 * t.val + r.val) (256 * 1 + k.val) :=
  blk_D m c t r k 1 (((cfg0.win 1).blk t).view.emb (ix2 r k)) (index_1 t) rfl rfl
theorem blk_2 (t : Fin cfg0.N) (r : Fin 512) (k : Fin 256) :
    (iblk m c 2 t : Vec Ideal S512x256 .bf16) (ix2 r k) = n2 (aD m c) (512 * t.val + r.val) (256 * 2 + k.val) :=
  blk_D m c t r k 2 (((cfg0.win 2).blk t).view.emb (ix2 r k)) (index_2 t) rfl rfl
theorem blk_3 (t : Fin cfg0.N) (r : Fin 512) (k : Fin 256) :
    (iblk m c 3 t : Vec Ideal S512x256 .bf16) (ix2 r k) = n2 (aD m c) (512 * t.val + r.val) (256 * 3 + k.val) :=
  blk_D m c t r k 3 (((cfg0.win 3).blk t).view.emb (ix2 r k)) (index_3 t) rfl rfl
theorem blk_4 (t : Fin cfg0.N) (r : Fin 512) (k : Fin 256) :
    (iblk m c 4 t : Vec Ideal S512x256 .bf16) (ix2 r k) = n2 (aD m c) (512 * t.val + r.val) (256 * 4 + k.val) :=
  blk_D m c t r k 4 (((cfg0.win 4).blk t).view.emb (ix2 r k)) (index_4 t) rfl rfl
theorem blk_5 (t : Fin cfg0.N) (r : Fin 512) (k : Fin 256) :
    (iblk m c 5 t : Vec Ideal S512x256 .bf16) (ix2 r k) = n2 (aD m c) (512 * t.val + r.val) (256 * 5 + k.val) :=
  blk_D m c t r k 5 (((cfg0.win 5).blk t).view.emb (ix2 r k)) (index_5 t) rfl rfl
theorem blk_6 (t : Fin cfg0.N) (r : Fin 512) (k : Fin 256) :
    (iblk m c 6 t : Vec Ideal S512x256 .bf16) (ix2 r k) = n2 (aD m c) (512 * t.val + r.val) (256 * 6 + k.val) :=
  blk_D m c t r k 6 (((cfg0.win 6).blk t).view.emb (ix2 r k)) (index_6 t) rfl rfl
theorem blk_7 (t : Fin cfg0.N) (r : Fin 512) (k : Fin 256) :
    (iblk m c 7 t : Vec Ideal S512x256 .bf16) (ix2 r k) = n2 (aD m c) (512 * t.val + r.val) (256 * 7 + k.val) :=
  blk_D m c t r k 7 (((cfg0.win 7).blk t).view.emb (ix2 r k)) (index_7 t) rfl rfl
theorem blk_8 (t : Fin cfg0.N) (r : Fin 1024) (k : Fin 256) :
    (iblk m c 8 t : Vec Ideal S1x1024x256 .bf16) (ix3 0 r k) = n2 (aW m c) r.val (256 * 0 + k.val) :=
  blk_W m c r k 0 (((cfg0.win 8).blk t).view.emb (ix3 0 r k)) (index_8 t) rfl rfl rfl
theorem blk_9 (t : Fin cfg0.N) (r : Fin 1024) (k : Fin 256) :
    (iblk m c 9 t : Vec Ideal S1x1024x256 .bf16) (ix3 0 r k) = n2 (aW m c) r.val (256 * 1 + k.val) :=
  blk_W m c r k 1 (((cfg0.win 9).blk t).view.emb (ix3 0 r k)) (index_9 t) rfl rfl rfl
theorem blk_10 (t : Fin cfg0.N) (r : Fin 1024) (k : Fin 256) :
    (iblk m c 10 t : Vec Ideal S1x1024x256 .bf16) (ix3 0 r k) = n2 (aW m c) r.val (256 * 2 + k.val) :=
  blk_W m c r k 2 (((cfg0.win 10).blk t).view.emb (ix3 0 r k)) (index_10 t) rfl rfl rfl
theorem blk_11 (t : Fin cfg0.N) (r : Fin 1024) (k : Fin 256) :
    (iblk m c 11 t : Vec Ideal S1x1024x256 .bf16) (ix3 0 r k) = n2 (aW m c) r.val (256 * 3 + k.val) :=
  blk_W m c r k 3 (((cfg0.win 11).blk t).view.emb (ix3 0 r k)) (index_11 t) rfl rfl rfl
theorem blk_12 (t : Fin cfg0.N) (r : Fin 1024) (k : Fin 256) :
    (iblk m c 12 t : Vec Ideal S1x1024x256 .bf16) (ix3 0 r k) = n2 (aW m c) r.val (256 * 4 + k.val) :=
  blk_W m c r k 4 (((cfg0.win 12).blk t).view.emb (ix3 0 r k)) (index_12 t) rfl rfl rfl
theorem blk_13 (t : Fin cfg0.N) (r : Fin 1024) (k : Fin 256) :
    (iblk m c 13 t : Vec Ideal S1x1024x256 .bf16) (ix3 0 r k) = n2 (aW m c) r.val (256 * 5 + k.val) :=
  blk_W m c r k 5 (((cfg0.win 13).blk t).view.emb (ix3 0 r k)) (index_13 t) rfl rfl rfl
theorem blk_14 (t : Fin cfg0.N) (r : Fin 1024) (k : Fin 256) :
    (iblk m c 14 t : Vec Ideal S1x1024x256 .bf16) (ix3 0 r k) = n2 (aW m c) r.val (256 * 6 + k.val) :=
  blk_W m c r k 6 (((cfg0.win 14).blk t).view.emb (ix3 0 r k)) (index_14 t) rfl rfl rfl
theorem blk_15 (t : Fin cfg0.N) (r : Fin 1024) (k : Fin 256) :
    (iblk m c 15 t : Vec Ideal S1x1024x256 .bf16) (ix3 0 r k) = n2 (aW m c) r.val (256 * 7 + k.val) :=
  blk_W m c r k 7 (((cfg0.win 15).blk t).view.emb (ix3 0 r k)) (index_15 t) rfl rfl rfl

/-! ## The result -/

/-- The product with the weight transposed. -/
def prod : S4096x1024.Idx → EReal := fun i => ∑ k : Fin 2048, n2 (aD m c) (i 0).val k.val * n2 (aW m c) (i 1).val k.val

theorem block_at (t : Fin cfg0.N) (r : Fin 512) (d : Fin 1024) :
    k0_pay2 (sums (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) (ix2 r d)
      = ∑ k : Fin 2048, n2 (aD m c) (512 * t.val + r.val) k.val * n2 (aW m c) d.val k.val := by
  refine Eq.trans ?_ (pieces_sum (fun k => n2 (aD m c) (512 * t.val + r.val) k * n2 (aW m c) d.val k) 8 256 2048 rfl)
  simp only [Finset.sum_range_succ, Finset.sum_range_zero, zero_add]
  refine (sums_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) r d).trans ?_
  exact congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (Finset.sum_congr rfl fun k _ => congrArg₂ (fun a b : EReal => a * b) (blk_0 m c t r k) (blk_8 m c t d k)) (Finset.sum_congr rfl fun k _ => congrArg₂ (fun a b : EReal => a * b) (blk_1 m c t r k) (blk_9 m c t d k))) (Finset.sum_congr rfl fun k _ => congrArg₂ (fun a b : EReal => a * b) (blk_2 m c t r k) (blk_10 m c t d k))) (Finset.sum_congr rfl fun k _ => congrArg₂ (fun a b : EReal => a * b) (blk_3 m c t r k) (blk_11 m c t d k))) (Finset.sum_congr rfl fun k _ => congrArg₂ (fun a b : EReal => a * b) (blk_4 m c t r k) (blk_12 m c t d k))) (Finset.sum_congr rfl fun k _ => congrArg₂ (fun a b : EReal => a * b) (blk_5 m c t r k) (blk_13 m c t d k))) (Finset.sum_congr rfl fun k _ => congrArg₂ (fun a b : EReal => a * b) (blk_6 m c t r k) (blk_14 m c t d k))) (Finset.sum_congr rfl fun k _ => congrArg₂ (fun a b : EReal => a * b) (blk_7 m c t r k) (blk_15 m c t d k))

theorem flushed (t : Fin cfg0.N) : (dats m 0 c).flushed 16 t = ((cfg0.win 16).blk t).view.read (Elt Ideal) (prod m c) := by
  refine (Cert.Kernel16Ideal.Value.flushed16_A m c t).trans ?_
  rw [oA]
  funext y
  have h0 : (y 0).val < 512 := (y 0).isLt
  have h1 : (y 1).val < 1024 := (y 1).isLt
  have hy : (cfg0.win 16).xinj (grid0.coords t) y = ix2 (⟨(y 0).val, h0⟩ : Fin 512) (⟨(y 1).val, h1⟩ : Fin 1024) := by
    funext a
    match a with
    | ⟨0, _⟩ => rfl
    | ⟨1, _⟩ => rfl
  have e0 : ((((cfg0.win 16).blk t).view.emb y : S4096x1024.Idx) 0).val = 512 * t.val + (y 0).val := by
    show win0_16.index t (0 : Fin 2) * 512 + 1 * (y 0).val = _
    rw [(index_16 t).1]; omega
  have e1 : ((((cfg0.win 16).blk t).view.emb y : S4096x1024.Idx) 1).val = (y 1).val := by
    show win0_16.index t (1 : Fin 2) * 1024 + 1 * (y 1).val = _
    rw [(index_16 t).2]; omega
  show k0_pay2 (sums (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) ((cfg0.win 16).xinj (grid0.coords t) y) = prod m c (((cfg0.win 16).blk t).view.emb y)
  rw [hy]
  refine (block_at m c t _ _).trans ?_
  unfold prod
  rw [e0, e1]

theorem mem_blk (t : Fin cfg0.N) (i : S4096x1024.Idx) :
    i ∈ ((cfg0.win 16).blk t).view.set ↔ ∀ a : Fin 2, win0_16.index t a * S512x1024.size a ≤ (i a).val ∧ (i a).val < win0_16.index t a * S512x1024.size a + S512x1024.size a := by
  show i ∈ ((View.whole main_v3).slice (win0_16.rect t)).set ↔ _
  rw [View.set_slice_whole, Rect.mem_set_unit]
  exact Iff.rfl

theorem flush_16 : ∀ t : Fin cfg0.N, (cfg0.win 16).flush t = true := (by decide +kernel : ∀ t : Fin grid0.N, win0_16.flush t = true)

theorem covered (i : S4096x1024.Idx) : ∃ t : Fin cfg0.N, (cfg0.win 16).flush t = true ∧ i ∈ ((cfg0.win 16).blk t).view.set := by
  have hi : (i 0).val < 4096 := (i 0).isLt
  have hj : (i 1).val < 1024 := (i 1).isLt
  have hN : cfg0.N = 8 := N_0
  refine ⟨⟨(i 0).val / 512, by omega⟩, flush_16 _, (mem_blk _ i).2 fun a => ?_⟩
  obtain ⟨q0, q1⟩ := index_16 ⟨(i 0).val / 512, by omega⟩
  dsimp only at q0 q1
  match a with
  | ⟨0, _⟩ =>
    show win0_16.index _ (0 : Fin 2) * 512 ≤ (i 0).val ∧ (i 0).val < win0_16.index _ (0 : Fin 2) * 512 + 512
    omega
  | ⟨1, _⟩ =>
    show win0_16.index _ (1 : Fin 2) * 1024 ≤ (i 1).val ∧ (i 1).val < win0_16.index _ (1 : Fin 2) * 1024 + 1024
    omega

theorem final : (dats m 0 c).arrAt 16 cfg0.N = prod m c :=
  (dats m 0 c).arrAt_eq_of_cover 16 (prod m c) (fun t _ => flushed m c t) (fun i => covered i)

end Cert.Mat.K16

end
-- ==== Proof.Ffn.K16.lean ====
/- The kernel of the gradient of the attention's result and its reference: both give the same product. -/
module

public import proofs.«01_k».proof.Proof.Ffn.K16Fold
public import proofs.«01_k».proof.Defs
public import proofs.«01_k».proof.Proof.Gen.Reference16Ideal.Run
public import proofs.«01_k».proof.Proof.Gen.Reference16Ideal.Read

@[expose] public section

set_option maxRecDepth 16384

noncomputable section

namespace Cert.Mat.K16

open Idealize.ShloMosaic.ValueIdx
open Idealize.ShloMosaic hiding ix1 ix2 ix3 eq_ix1 eq_ix2 eq_ix3
open Idealize.ShloMosaic.TcCoe Idealize.SL.Sem
open scoped BigOperators

/-! ## The reference -/

section reference
open Cert.Reference16Ideal Cert.Reference16Ideal.Gen Cert.Reference16Ideal.Read

theorem reference_at (x0 : (⟨S4096x2048, .bf16⟩ : BufTy).Contents (Elt Ideal)) (x1 : (⟨S1024x2048, .f32⟩ : BufTy).Contents (Elt Ideal)) (r : Fin 4096) (d : Fin 1024) :
    val_main_v4 x0 x1 (ix2 r d) = ∑ k : Fin 2048, n2 (x0 : S4096x2048.Idx → EReal) r.val k.val * n2 (x1 : S1024x2048.Idx → EReal) d.val k.val := by
  refine (val_main_v3_apply x0 x1 (ix2 r d)).trans (Finset.sum_congr rfl fun k _ => ?_)
  exact congrArg₂ (fun a b : EReal => a * b) (n2_eq (x0 : S4096x2048.Idx → EReal) _ _ (lidx_main_v3 (ix2 r d) k) rfl rfl).symm
    (n2_eq (x1 : S1024x2048.Idx → EReal) _ _ (ridx_main_v3 (ix2 r d) k) rfl rfl).symm

end reference

/-- The reference runs, gives its arguments back and, having no semaphores, leaves none raised. -/
theorem reference_runs : Cert.quiescent_Reference16Ideal (hReference16Ideal := Cert.Reference16Ideal.Gen.facts) := fun m ρ _ =>
  (θ_run _ _ _).mono (fun _ h => And.intro (fun c => (h c).2) (sem_eq_zero_of_no_sems (by decide) _)) (Cert.Reference16Ideal.Value.run m ρ)

/-! ## The two programs' results -/

theorem equal : Cert.algebraic_Kernel16Ideal_Reference16Ideal (hKernel16Ideal := Cert.Kernel16Ideal.Gen.facts)
    (hReference16Ideal := Cert.Reference16Ideal.Gen.facts) := by
  intro m g m' g' _ ha
  refine ⟨fun c => prod m c, ?_, ?_⟩
  · exact (θ_run _ _ _).mono (fun r h c => ⟨(h c).1.trans (final m c), (h c).2⟩) (Cert.Kernel16Ideal.Value.run_blocks m g)
  · refine (θ_run _ _ _).mono (fun r h c => ?_) (Cert.Reference16Ideal.Value.run m' g')
    obtain ⟨h0, h1⟩ := h c
    obtain ⟨a0, a1⟩ := ha c
    refine ⟨h0.trans ?_, h1⟩
    refine (Cert.Reference16Ideal.Read.val_main_v4_eq _ _).trans (ext2 fun r d => ?_)
    refine Eq.trans ?_ ((reference_at _ _ r d).trans rfl)
    exact congrFun (congrArg₂ (Cert.Reference16Ideal.Read.val_main_v4 (F := Idealize.ShloMosaic.Ideal)) a0 a1) _

end Cert.Mat.K16

end
-- ==== Proof.Ffn.K17.lean ====
/- The gradient of the retention's result: the program and the reference are those of the attention's (`K16`), and so are their values. -/
module

public import proofs.«01_k».proof.Proof.Ffn.K16
public import proofs.«01_k».proof.Defs
public import proofs.«01_k».proof.Proof.Gen.Kernel17Ideal.Value
public import proofs.«01_k».proof.Proof.Gen.Reference17Ideal.Run

@[expose] public section

set_option maxRecDepth 16384

noncomputable section

namespace Cert.Mat.K17

open Idealize.ShloMosaic.ValueIdx
open Idealize.ShloMosaic hiding ix1 ix2 ix3 eq_ix1 eq_ix2 eq_ix3
open Idealize.ShloMosaic.TcCoe Idealize.SL.Sem
open scoped BigOperators

theorem reference_runs : Cert.quiescent_Reference17Ideal (hReference17Ideal := Cert.Reference17Ideal.Gen.facts) := K16.reference_runs

theorem equal : Cert.algebraic_Kernel17Ideal_Reference17Ideal (hKernel17Ideal := Cert.Kernel17Ideal.Gen.facts)
    (hReference17Ideal := Cert.Reference17Ideal.Gen.facts) := by
  intro m g m' g' _ ha
  refine ⟨fun c => K16.prod m c, ?_, ?_⟩
  · exact (θ_run _ _ _).mono (fun r h c => ⟨(h c).1.trans (K16.final m c), (h c).2⟩) (Cert.Kernel17Ideal.Value.run_blocks m g)
  · refine (θ_run _ _ _).mono (fun r h c => ?_) (Cert.Reference17Ideal.Value.run m' g')
    obtain ⟨h0, h1⟩ := h c
    obtain ⟨a0, a1⟩ := ha c
    refine ⟨h0.trans ?_, h1⟩
    refine (Cert.Reference16Ideal.Read.val_main_v4_eq _ _).trans (ext2 fun r d => ?_)
    refine Eq.trans ?_ ((K16.reference_at _ _ r d).trans rfl)
    exact congrFun (congrArg₂ (Cert.Reference16Ideal.Read.val_main_v4 (F := Idealize.ShloMosaic.Ideal)) a0 a1) _

end Cert.Mat.K17

end
-- ==== Proof.Ffn.K18Fold.lean ====
/- The kernel of the first feed-forward's gate: the blocks of a grid point, and the result. -/
module

public import proofs.«01_k».proof.Proof.Ffn.Layout
public import proofs.«01_k».proof.Proof.Gen.Kernel18Ideal.Value
public import Idealize.ShloMosaic.Lib.StableHlo.ReadAt

@[expose] public section

set_option maxRecDepth 16384

noncomputable section

namespace Cert.Mat.K18

open Cert.Kernel18Ideal Cert.Kernel18Ideal.Gen Idealize.ShloMosaic.ValueIdx
open Idealize.ShloMosaic hiding ix1 ix2 ix3 eq_ix1 eq_ix2 eq_ix3
open Idealize.ShloMosaic.TcCoe Idealize.SL.Sem
open scoped BigOperators

/-! ## A point's arithmetic -/

theorem zero2 : (![0, 0] : Fin 2 → ℕ) = fun _ => 0 := funext fun a => by fin_cases a <;> rfl
theorem zero3 : (![0, 0, 0] : Fin 3 → ℕ) = fun _ => 0 := funext fun a => by fin_cases a <;> rfl

theorem out_2 (x0 : Vec Ideal S1024x2048 .bf16) (x1 : Vec Ideal S1x768x2048 .bf16) : out0_2 x0 x1 = k0_pay1 x0 x1 := by
  unfold out0_2
  rw [View.canon_unit_zero zero3, View.ld_unit_zero zero2, View.ld_unit_zero zero3]

/-- A block's product with a slot's rows. -/
abbrev tile (x0 : Vec Ideal S1024x2048 .bf16) (x1 : Vec Ideal S1x768x2048 .bf16) (r : Fin 1024) (d : Fin 768) : EReal :=
  ∑ k : Fin 2048, x0 (ix2 r k) * x1 (ix3 0 d k)

theorem gate_at (x0 : Vec Ideal S1024x2048 .bf16) (x1 : Vec Ideal S1x768x2048 .bf16) (r : Fin 1024) (d : Fin 768) :
    k0_pay1 x0 x1 (ix3 0 r d) = tile x0 x1 r d := by
  have e : FloatOps.matmul (F := Ideal) (φ₁ := .bf16) (φ₂ := .bf16) (DotDims.transposedRhs 1024 2048 768) none x0
        (shapeCast S768x2048 x1 shapeCasts_S1x768x2048_S768x2048) (constant S1024x768 .f32 0x00000000#32) (ix2 r d) = tile x0 x1 r d :=
    (trans_n (φ₁ := .bf16) (φ₂ := .bf16) _ _ r d).trans (Finset.sum_congr rfl fun k _ => congrArg (x0 (ix2 r k) * ·) (drop_slot x1 _ d k))
  refine Eq.trans ?_ e
  unfold k0_pay1
  exact add_slot _ shapeCasts_S1024x768_S1x1024x768 r d

/-! ## The blocks -/

theorem pt_lt (t : Fin cfg0.N) : t.val < 32 := lt_of_lt_of_eq t.isLt (show cfg0.N = 32 from N_0)

theorem index_0 : ∀ t : Fin cfg0.N, win0_0.index t (0 : Fin 2) = t.val % 4 ∧ win0_0.index t (1 : Fin 2) = 0 := by decide +kernel
theorem index_1 : ∀ t : Fin cfg0.N, win0_1.index t (0 : Fin 3) = t.val / 4 ∧ win0_1.index t (1 : Fin 3) = 0 ∧ win0_1.index t (2 : Fin 3) = 0 := by decide +kernel
theorem index_2 : ∀ t : Fin cfg0.N, win0_2.index t (0 : Fin 3) = t.val / 4 ∧ win0_2.index t (1 : Fin 3) = t.val % 4 ∧ win0_2.index t (2 : Fin 3) = 0 := by decide +kernel
theorem flush_2 : ∀ t : Fin cfg0.N, (cfg0.win 2).flush t = true := (by decide +kernel : ∀ t : Fin grid0.N, win0_2.flush t = true)

variable (m : (ℓ : Loc nD τ sig) → Buf (Elt Ideal) ℓ) (c : Dev nD)

/-- The normalised input. -/
abbrev aX := (m ((c : Thread nD τ).loc main_arg0) : S4096x2048.Idx → EReal)
/-- The gate's weight. -/
abbrev aG := (m ((c : Thread nD τ).loc main_arg1) : S2048x5632.Idx → EReal)

theorem host_main_v3 (y : S8x768x2048.Idx) : (V m c main_v3 : S8x768x2048.Idx → EReal) y = sc 704 (aG m c) (y 0).val (y 2).val (y 1).val := by
  unfold V
  after_reads_at
  refine sc_choice 704 (aG m c) _ _ _ _ _ (room_zero _) (fun _ => rfl) (fun _ => ?_)
  show (y 0).val * 704 + (y 1).val = _
  omega

theorem blk_0 (t : Fin cfg0.N) (r : Fin 1024) (k : Fin 2048) :
    (iblk m c 0 t : Vec Ideal S1024x2048 .bf16) (ix2 r k) = n2 (aX m c) (1024 * (t.val % 4) + r.val) (k.val) := by
  have e : (iblk m c 0 t : Vec Ideal S1024x2048 .bf16) (ix2 r k)
      = (V m c main_arg0 : S4096x2048.Idx → EReal) (((cfg0.win 0).blk t).view.emb (ix2 r k)) := rfl
  rw [e, V_main_arg0]
  refine (n2_eq _ _ _ _ ?_ ?_).symm
  · show win0_0.index t (0 : Fin 2) * 1024 + 1 * r.val = 1024 * (t.val % 4) + r.val
    rw [(index_0 t).1]; omega
  · show win0_0.index t (1 : Fin 2) * 2048 + 1 * k.val = k.val
    rw [(index_0 t).2]; omega

theorem blk_1 (t : Fin cfg0.N) (r : Fin 768) (k : Fin 2048) :
    (iblk m c 1 t : Vec Ideal S1x768x2048 .bf16) (ix3 0 r k) = sc 704 (aG m c) (t.val / 4) k.val r.val := by
  have e : (iblk m c 1 t : Vec Ideal S1x768x2048 .bf16) (ix3 0 r k)
      = (V m c main_v3 : S8x768x2048.Idx → EReal) (((cfg0.win 1).blk t).view.emb (ix3 0 r k)) := rfl
  have e0 : ((((cfg0.win 1).blk t).view.emb (ix3 0 r k) : S8x768x2048.Idx) 0).val = t.val / 4 := by
    show win0_1.index t (0 : Fin 3) * 1 + 1 * 0 = t.val / 4
    rw [(index_1 t).1]; omega
  have e1 : ((((cfg0.win 1).blk t).view.emb (ix3 0 r k) : S8x768x2048.Idx) 1).val = r.val := by
    show win0_1.index t (1 : Fin 3) * 768 + 1 * r.val = r.val
    rw [(index_1 t).2.1]; omega
  have e2 : ((((cfg0.win 1).blk t).view.emb (ix3 0 r k) : S8x768x2048.Idx) 2).val = k.val := by
    show win0_1.index t (2 : Fin 3) * 2048 + 1 * k.val = k.val
    rw [(index_1 t).2.2]; omega
  rw [e, host_main_v3, e0, e1, e2]

/-! ## The result -/

/-- A product with the columns of a weight in slots. -/
def dots (x : S4096x2048.Idx → EReal) (w : S2048x5632.Idx → EReal) (p r d : ℕ) : EReal := ∑ k : Fin 2048, n2 x r k.val * sc 704 w p k.val d

def gates : S8x4096x768.Idx → EReal := fun i => dots (aX m c) (aG m c) (i 0).val (i 1).val (i 2).val

theorem gate_sum (t : Fin cfg0.N) (r : Fin 1024) (d : Fin 768) :
    tile (iblk m c 0 t) (iblk m c 1 t) r d = dots (aX m c) (aG m c) (t.val / 4) (1024 * (t.val % 4) + r.val) d.val :=
  Finset.sum_congr rfl fun k _ => congrArg₂ (fun a b : EReal => a * b) (blk_0 m c t r k) (blk_1 m c t d k)

theorem mem_blk_2 (t : Fin cfg0.N) (i : S8x4096x768.Idx) :
    i ∈ ((cfg0.win 2).blk t).view.set ↔ ∀ a : Fin 3, win0_2.index t a * S1x1024x768.size a ≤ (i a).val ∧ (i a).val < win0_2.index t a * S1x1024x768.size a + S1x1024x768.size a := by
  show i ∈ ((View.whole main_v4).slice (win0_2.rect t)).set ↔ _
  rw [View.set_slice_whole, Rect.mem_set_unit]
  exact Iff.rfl

theorem covered_2 (i : S8x4096x768.Idx) : ∃ t : Fin cfg0.N, (cfg0.win 2).flush t = true ∧ i ∈ ((cfg0.win 2).blk t).view.set := by
  have h0 : (i 0).val < 8 := (i 0).isLt
  have h1 : (i 1).val < 4096 := (i 1).isLt
  have h2 : (i 2).val < 768 := (i 2).isLt
  have hN : cfg0.N = 32 := N_0
  refine ⟨⟨4 * (i 0).val + (i 1).val / 1024, by omega⟩, flush_2 _, (mem_blk_2 _ i).2 fun a => ?_⟩
  obtain ⟨q0, q1, q2⟩ := index_2 ⟨4 * (i 0).val + (i 1).val / 1024, by omega⟩
  dsimp only at q0 q1 q2
  match a with
  | ⟨0, _⟩ =>
    show win0_2.index _ (0 : Fin 3) * 1 ≤ (i 0).val ∧ (i 0).val < win0_2.index _ (0 : Fin 3) * 1 + 1
    omega
  | ⟨1, _⟩ =>
    show win0_2.index _ (1 : Fin 3) * 1024 ≤ (i 1).val ∧ (i 1).val < win0_2.index _ (1 : Fin 3) * 1024 + 1024
    omega
  | ⟨2, _⟩ =>
    show win0_2.index _ (2 : Fin 3) * 768 ≤ (i 2).val ∧ (i 2).val < win0_2.index _ (2 : Fin 3) * 768 + 768
    omega

theorem flushed_2 (t : Fin cfg0.N) : (dats m 0 c).flushed 2 t = ((cfg0.win 2).blk t).view.read (Elt Ideal) (gates m c) := by
  rw [Value.flushed2, out_2]
  funext y
  have h0 : (y 0).val < 1 := (y 0).isLt
  have h1 : (y 1).val < 1024 := (y 1).isLt
  have h2 : (y 2).val < 768 := (y 2).isLt
  have hy : (cfg0.win 2).xinj (grid0.coords t) y = ix3 (0 : Fin 1) (⟨(y 1).val, h1⟩ : Fin 1024) (⟨(y 2).val, h2⟩ : Fin 768) := by
    funext a
    match a with
    | ⟨0, _⟩ => exact Fin.ext (by show (y 0).val = 0; omega)
    | ⟨1, _⟩ => rfl
    | ⟨2, _⟩ => rfl
  have e0 : ((((cfg0.win 2).blk t).view.emb y : S8x4096x768.Idx) 0).val = t.val / 4 := by
    show win0_2.index t (0 : Fin 3) * 1 + 1 * (y 0).val = _
    rw [(index_2 t).1]; omega
  have e1 : ((((cfg0.win 2).blk t).view.emb y : S8x4096x768.Idx) 1).val = 1024 * (t.val % 4) + (y 1).val := by
    show win0_2.index t (1 : Fin 3) * 1024 + 1 * (y 1).val = _
    rw [(index_2 t).2.1]; omega
  have e2 : ((((cfg0.win 2).blk t).view.emb y : S8x4096x768.Idx) 2).val = (y 2).val := by
    show win0_2.index t (2 : Fin 3) * 768 + 1 * (y 2).val = _
    rw [(index_2 t).2.2]; omega
  show (k0_pay1 (iblk m c 0 t) (iblk m c 1 t)) ((cfg0.win 2).xinj (grid0.coords t) y) = gates m c (((cfg0.win 2).blk t).view.emb y)
  rw [hy]
  refine (gate_at (iblk m c 0 t) (iblk m c 1 t) _ _).trans ?_
  unfold gates
  rw [e0, e1, e2]
  exact gate_sum m c t _ _

/-- The gate's product. -/
theorem final_2 : (dats m 0 c).arrAt 2 cfg0.N = gates m c :=
  (dats m 0 c).arrAt_eq_of_cover 2 (gates m c) (fun t _ => flushed_2 m c t) (fun i => covered_2 i)

end Cert.Mat.K18

end
-- ==== Proof.Ffn.K18.lean ====
/- The kernel of the first feed-forward's gate, and its reference: both give the same product. -/
module

public import proofs.«01_k».proof.Proof.Ffn.K18Fold
public import proofs.«01_k».proof.Defs
public import proofs.«01_k».proof.Proof.Gen.Reference18Ideal.Run
public import proofs.«01_k».proof.Proof.Gen.Reference18Ideal.Read

@[expose] public section

set_option maxRecDepth 16384

noncomputable section

namespace Cert.Mat.K18

open Idealize.ShloMosaic.ValueIdx
open Idealize.ShloMosaic hiding ix1 ix2 ix3 eq_ix1 eq_ix2 eq_ix3
open Idealize.ShloMosaic.TcCoe Idealize.SL.Sem
open scoped BigOperators

/-! ## The reference -/

/-- Inside a slot the product with slots is the product with the weight; in its room it is zero. -/
theorem dots_eq (x : (⟨2, ![4096, 2048]⟩ : Shape).Idx → EReal) (w : (⟨2, ![2048, 5632]⟩ : Shape).Idx → EReal) (p r d : ℕ) :
    dots x w p r d = if d < 704 then ∑ k : Fin 2048, n2 x r k.val * n2 w k.val (704 * p + d) else 0 := by
  unfold dots sc
  by_cases h : d < 704
  · simp only [if_pos h]
  · simp only [if_neg h, mul_zero, Finset.sum_const_zero]

section reference
open Cert.Reference18Ideal Cert.Reference18Ideal.Gen Cert.Reference18Ideal.Read

theorem gate_n (x0 : (⟨S4096x2048, .bf16⟩ : BufTy).Contents (Elt Ideal)) (x1 : (⟨S2048x5632, .f32⟩ : BufTy).Contents (Elt Ideal)) (p : Fin 8) (r : Fin 4096) (d : ℕ) (hd : d < 704) :
    n2 (val_main_v1 x0 x1 : S4096x5632.Idx → EReal) r.val (704 * p.val + d)
      = ∑ k : Fin 2048, n2 (x0 : S4096x2048.Idx → EReal) r.val k.val * n2 (x1 : S2048x5632.Idx → EReal) k.val (704 * p.val + d) := by
  have hp := p.isLt
  have hj : 704 * p.val + d < 5632 := by omega
  refine (n2_eq (val_main_v1 x0 x1 : S4096x5632.Idx → EReal) _ _ (ix2 r ⟨704 * p.val + d, hj⟩) rfl rfl).trans ?_
  refine (val_main_v1_apply x0 x1 (ix2 r ⟨704 * p.val + d, hj⟩)).trans (Finset.sum_congr rfl fun k _ => ?_)
  exact congrArg₂ (fun a b : EReal => a * b) (n2_eq (x0 : S4096x2048.Idx → EReal) _ _ (lidx_main_v1 (ix2 r ⟨704 * p.val + d, hj⟩) k) rfl rfl).symm
    (n2_eq (x1 : S2048x5632.Idx → EReal) _ _ (ridx_main_v1 (ix2 r ⟨704 * p.val + d, hj⟩) k) rfl rfl).symm

theorem gate_ref (x0 : (⟨S4096x2048, .bf16⟩ : BufTy).Contents (Elt Ideal)) (x1 : (⟨S2048x5632, .f32⟩ : BufTy).Contents (Elt Ideal)) (p : Fin 8) (r : Fin 4096) (d : Fin 768) :
    val_main_v5 x0 x1 (ix3 p r d) = dots (x0 : S4096x2048.Idx → EReal) (x1 : S2048x5632.Idx → EReal) p.val r.val d.val := by
  have e : val_main_v5 x0 x1 (ix3 p r d) = sc 704 (val_main_v2 x0 x1 : S4096x5632.Idx → EReal) p.val r.val d.val :=
    cols_room (P := 8) (w := 704) (w' := 768) (g := 64) (val_main_v2 x0 x1 : S4096x5632.Idx → EReal) rfl shapeCasts_S4096x5632_S4096x8x704
      transposes_S4096x8x704_S8x4096x704_1_0_2 _ pads_S8x4096x704_S8x4096x768_000_000_0640 h_S_ (room_zero .bf16) p r d
  refine e.trans ?_
  rw [dots_eq]
  unfold sc
  by_cases h : d.val < 704
  · simp only [if_pos h]
    exact gate_n x0 x1 p r d.val h
  · simp only [if_neg h]

end reference

/-- The reference runs, gives its arguments back and, having no semaphores, leaves none raised. -/
theorem reference_runs : Cert.quiescent_Reference18Ideal (hReference18Ideal := Cert.Reference18Ideal.Gen.facts) := fun m ρ _ =>
  (θ_run _ _ _).mono (fun _ h => And.intro (fun c => (h c).2) (sem_eq_zero_of_no_sems (by decide) _)) (Cert.Reference18Ideal.Value.run m ρ)

/-! ## The two programs' results -/

theorem equal : Cert.algebraic_Kernel18Ideal_Reference18Ideal (hKernel18Ideal := Cert.Kernel18Ideal.Gen.facts)
    (hReference18Ideal := Cert.Reference18Ideal.Gen.facts) := by
  intro m g m' g' _ ha
  refine ⟨fun c => gates m c, ?_, ?_⟩
  · exact (θ_run _ _ _).mono (fun r h c => ⟨(h c).1.trans (final_2 m c), (h c).2⟩) (Cert.Kernel18Ideal.Value.run_blocks m g)
  · refine (θ_run _ _ _).mono (fun r h c => ?_) (Cert.Reference18Ideal.Value.run m' g')
    obtain ⟨h0, h1⟩ := h c
    obtain ⟨a0, a1⟩ := ha c
    refine ⟨h0.trans ?_, h1⟩
    refine (Cert.Reference18Ideal.Read.val_main_v5_eq _ _).trans (ext3 fun p r d => ?_)
    refine Eq.trans ?_ ((gate_ref _ _ p r d).trans rfl)
    exact congrFun (congrArg₂ (Cert.Reference18Ideal.Read.val_main_v5 (F := Idealize.ShloMosaic.Ideal)) a0 a1) _

end Cert.Mat.K18

end
-- ==== Proof.Ffn.K19Fold.lean ====
/- The kernel of the first feed-forward's up product and middle: the blocks of a grid point, and the two results. -/
module

public import proofs.«01_k».proof.Proof.Ffn.Layout
public import proofs.«01_k».proof.Proof.Ffn.Silu
public import proofs.«01_k».proof.Proof.Gen.Kernel19Ideal.Value
public import Idealize.ShloMosaic.Lib.StableHlo.ReadAt

@[expose] public section

set_option maxRecDepth 16384

noncomputable section

namespace Cert.Mat.K19

open Cert.Kernel19Ideal Cert.Kernel19Ideal.Gen Idealize.ShloMosaic.ValueIdx
open Idealize.ShloMosaic hiding ix1 ix2 ix3 eq_ix1 eq_ix2 eq_ix3
open Idealize.ShloMosaic.TcCoe Idealize.SL.Sem
open scoped BigOperators

/-! ## A point's arithmetic -/

theorem zero2 : (![0, 0] : Fin 2 → ℕ) = fun _ => 0 := funext fun a => by fin_cases a <;> rfl
theorem zero3 : (![0, 0, 0] : Fin 3 → ℕ) = fun _ => 0 := funext fun a => by fin_cases a <;> rfl

theorem out_3 (x0 : Vec Ideal S1024x2048 .bf16) (x1 : Vec Ideal S1x768x2048 .bf16) (x2 : Vec Ideal S1x1024x768 .bf16) : out0_3 x0 x1 x2 = k0_pay2 x0 x1 := by
  unfold out0_3
  rw [View.canon_unit_zero zero3, View.ld_unit_zero zero2, View.ld_unit_zero zero3]

theorem out_4 (x0 : Vec Ideal S1024x2048 .bf16) (x1 : Vec Ideal S1x768x2048 .bf16) (x2 : Vec Ideal S1x1024x768 .bf16) : out0_4 x0 x1 x2 = k0_pay3 x0 x1 x2 := by
  unfold out0_4
  rw [View.canon_unit_zero zero3, View.ld_unit_zero zero2, View.ld_unit_zero zero3, View.ld_unit_zero zero3]

/-- A block's product with a slot's rows. -/
abbrev tile (x0 : Vec Ideal S1024x2048 .bf16) (x1 : Vec Ideal S1x768x2048 .bf16) (r : Fin 1024) (d : Fin 768) : EReal :=
  ∑ k : Fin 2048, x0 (ix2 r k) * x1 (ix3 0 d k)

theorem up_dot (x0 : Vec Ideal S1024x2048 .bf16) (x1 : Vec Ideal S1x768x2048 .bf16) (r : Fin 1024) (d : Fin 768) :
    k0_pay1 x0 x1 (ix2 r d) = ∑ k : Fin 2048, x0 (ix2 r k) * x1 (ix3 0 d k) := by
  have e : FloatOps.matmul (F := Ideal) (φ₁ := .bf16) (φ₂ := .bf16) (DotDims.transposedRhs 1024 2048 768) none x0
        (shapeCast S768x2048 x1 shapeCasts_S1x768x2048_S768x2048) (constant S1024x768 .f32 0x00000000#32) (ix2 r d)
        = ∑ k : Fin 2048, x0 (ix2 r k) * x1 (ix3 0 d k) :=
    (trans_n (φ₁ := .bf16) (φ₂ := .bf16) _ _ r d).trans (Finset.sum_congr rfl fun k _ => congrArg (x0 (ix2 r k) * ·) (drop_slot x1 _ d k))
  unfold k0_pay1
  exact e

theorem up_at (x0 : Vec Ideal S1024x2048 .bf16) (x1 : Vec Ideal S1x768x2048 .bf16) (r : Fin 1024) (d : Fin 768) :
    k0_pay2 x0 x1 (ix3 0 r d) = ∑ k : Fin 2048, x0 (ix2 r k) * x1 (ix3 0 d k) := by
  refine Eq.trans ?_ (up_dot x0 x1 r d)
  unfold k0_pay2
  exact add_slot (k0_pay1 x0 x1) shapeCasts_S1024x768_S1x1024x768 r d

theorem mid_at (x0 : Vec Ideal S1024x2048 .bf16) (x1 : Vec Ideal S1x768x2048 .bf16) (x2 : Vec Ideal S1x1024x768 .bf16) (r : Fin 1024) (d : Fin 768) :
    k0_pay3 x0 x1 x2 (ix3 0 r d) = x2 (ix3 0 r d) * sg (x2 (ix3 0 r d)) * tile x0 x1 r d := by
  have e : (fun i => shapeCast S1024x768 x2 shapeCasts_S1x1024x768_S1024x768 i * sg (shapeCast S1024x768 x2 shapeCasts_S1x1024x768_S1024x768 i) * k0_pay1 x0 x1 i : S1024x768.Idx → EReal) (ix2 r d)
      = x2 (ix3 0 r d) * sg (x2 (ix3 0 r d)) * tile x0 x1 r d := by
    show shapeCast S1024x768 x2 shapeCasts_S1x1024x768_S1024x768 (ix2 r d) * sg (shapeCast S1024x768 x2 shapeCasts_S1x1024x768_S1024x768 (ix2 r d)) * k0_pay1 x0 x1 (ix2 r d) = _
    rw [up_dot x0 x1 r d, drop_slot x2 _ r d]
  refine Eq.trans ?_ e
  unfold k0_pay3
  exact add_slot (fun i => shapeCast S1024x768 x2 shapeCasts_S1x1024x768_S1024x768 i * sg (shapeCast S1024x768 x2 shapeCasts_S1x1024x768_S1024x768 i) * k0_pay1 x0 x1 i : S1024x768.Idx → EReal) shapeCasts_S1024x768_S1x1024x768 r d

/-! ## The blocks -/

theorem pt_lt (t : Fin cfg0.N) : t.val < 32 := lt_of_lt_of_eq t.isLt (show cfg0.N = 32 from N_0)

theorem index_0 : ∀ t : Fin cfg0.N, win0_0.index t (0 : Fin 2) = t.val % 4 ∧ win0_0.index t (1 : Fin 2) = 0 := by decide +kernel
theorem index_1 : ∀ t : Fin cfg0.N, win0_1.index t (0 : Fin 3) = t.val / 4 ∧ win0_1.index t (1 : Fin 3) = 0 ∧ win0_1.index t (2 : Fin 3) = 0 := by decide +kernel
theorem index_2 : ∀ t : Fin cfg0.N, win0_2.index t (0 : Fin 3) = t.val / 4 ∧ win0_2.index t (1 : Fin 3) = t.val % 4 ∧ win0_2.index t (2 : Fin 3) = 0 := by decide +kernel
theorem index_3 : ∀ t : Fin cfg0.N, win0_3.index t (0 : Fin 3) = t.val / 4 ∧ win0_3.index t (1 : Fin 3) = t.val % 4 ∧ win0_3.index t (2 : Fin 3) = 0 := by decide +kernel
theorem index_4 : ∀ t : Fin cfg0.N, win0_4.index t (0 : Fin 3) = t.val / 4 ∧ win0_4.index t (1 : Fin 3) = t.val % 4 ∧ win0_4.index t (2 : Fin 3) = 0 := by decide +kernel
theorem flush_3 : ∀ t : Fin cfg0.N, (cfg0.win 3).flush t = true := (by decide +kernel : ∀ t : Fin grid0.N, win0_3.flush t = true)
theorem flush_4 : ∀ t : Fin cfg0.N, (cfg0.win 4).flush t = true := (by decide +kernel : ∀ t : Fin grid0.N, win0_4.flush t = true)

variable (m : (ℓ : Loc nD τ sig) → Buf (Elt Ideal) ℓ) (c : Dev nD)

/-- The normalised input. -/
abbrev aX := (m ((c : Thread nD τ).loc main_arg0) : S4096x2048.Idx → EReal)
/-- The gate's product. -/
abbrev aG := (m ((c : Thread nD τ).loc main_arg1) : S4096x5632.Idx → EReal)
/-- The up projection's weight. -/
abbrev aU := (m ((c : Thread nD τ).loc main_arg2) : S2048x5632.Idx → EReal)

theorem host_main_v3 (y : S8x768x2048.Idx) : (V m c main_v3 : S8x768x2048.Idx → EReal) y = sc 704 (aU m c) (y 0).val (y 2).val (y 1).val := by
  unfold V
  after_reads_at
  refine sc_choice 704 (aU m c) _ _ _ _ _ (room_zero _) (fun _ => rfl) (fun _ => ?_)
  show (y 0).val * 704 + (y 1).val = _
  omega

theorem host_main_v6 (y : S8x4096x768.Idx) : (V m c main_v6 : S8x4096x768.Idx → EReal) y = sc 704 (aG m c) (y 0).val (y 1).val (y 2).val := by
  unfold V
  after_reads_at
  refine sc_choice 704 (aG m c) _ _ _ _ _ (room_zero _) (fun _ => rfl) (fun _ => ?_)
  show (y 0).val * 704 + (y 2).val = _
  omega

theorem blk_0 (t : Fin cfg0.N) (r : Fin 1024) (k : Fin 2048) :
    (iblk m c 0 t : Vec Ideal S1024x2048 .bf16) (ix2 r k) = n2 (aX m c) (1024 * (t.val % 4) + r.val) (k.val) := by
  have e : (iblk m c 0 t : Vec Ideal S1024x2048 .bf16) (ix2 r k)
      = (V m c main_arg0 : S4096x2048.Idx → EReal) (((cfg0.win 0).blk t).view.emb (ix2 r k)) := rfl
  rw [e, V_main_arg0]
  refine (n2_eq _ _ _ _ ?_ ?_).symm
  · show win0_0.index t (0 : Fin 2) * 1024 + 1 * r.val = 1024 * (t.val % 4) + r.val
    rw [(index_0 t).1]; omega
  · show win0_0.index t (1 : Fin 2) * 2048 + 1 * k.val = k.val
    rw [(index_0 t).2]; omega

theorem blk_1 (t : Fin cfg0.N) (r : Fin 768) (k : Fin 2048) :
    (iblk m c 1 t : Vec Ideal S1x768x2048 .bf16) (ix3 0 r k) = sc 704 (aU m c) (t.val / 4) k.val r.val := by
  have e : (iblk m c 1 t : Vec Ideal S1x768x2048 .bf16) (ix3 0 r k)
      = (V m c main_v3 : S8x768x2048.Idx → EReal) (((cfg0.win 1).blk t).view.emb (ix3 0 r k)) := rfl
  have e0 : ((((cfg0.win 1).blk t).view.emb (ix3 0 r k) : S8x768x2048.Idx) 0).val = t.val / 4 := by
    show win0_1.index t (0 : Fin 3) * 1 + 1 * 0 = t.val / 4
    rw [(index_1 t).1]; omega
  have e1 : ((((cfg0.win 1).blk t).view.emb (ix3 0 r k) : S8x768x2048.Idx) 1).val = r.val := by
    show win0_1.index t (1 : Fin 3) * 768 + 1 * r.val = r.val
    rw [(index_1 t).2.1]; omega
  have e2 : ((((cfg0.win 1).blk t).view.emb (ix3 0 r k) : S8x768x2048.Idx) 2).val = k.val := by
    show win0_1.index t (2 : Fin 3) * 2048 + 1 * k.val = k.val
    rw [(index_1 t).2.2]; omega
  rw [e, host_main_v3, e0, e1, e2]

theorem blk_2 (t : Fin cfg0.N) (r : Fin 1024) (k : Fin 768) :
    (iblk m c 2 t : Vec Ideal S1x1024x768 .bf16) (ix3 0 r k) = sc 704 (aG m c) (t.val / 4) (1024 * (t.val % 4) + r.val) k.val := by
  have e : (iblk m c 2 t : Vec Ideal S1x1024x768 .bf16) (ix3 0 r k)
      = (V m c main_v6 : S8x4096x768.Idx → EReal) (((cfg0.win 2).blk t).view.emb (ix3 0 r k)) := rfl
  have e0 : ((((cfg0.win 2).blk t).view.emb (ix3 0 r k) : S8x4096x768.Idx) 0).val = t.val / 4 := by
    show win0_2.index t (0 : Fin 3) * 1 + 1 * 0 = t.val / 4
    rw [(index_2 t).1]; omega
  have e1 : ((((cfg0.win 2).blk t).view.emb (ix3 0 r k) : S8x4096x768.Idx) 1).val = 1024 * (t.val % 4) + r.val := by
    show win0_2.index t (1 : Fin 3) * 1024 + 1 * r.val = 1024 * (t.val % 4) + r.val
    rw [(index_2 t).2.1]; omega
  have e2 : ((((cfg0.win 2).blk t).view.emb (ix3 0 r k) : S8x4096x768.Idx) 2).val = k.val := by
    show win0_2.index t (2 : Fin 3) * 768 + 1 * k.val = k.val
    rw [(index_2 t).2.2]; omega
  rw [e, host_main_v6, e0, e1, e2]

/-! ## The results -/

/-- A product with the columns of a weight in slots. -/
def dots (x : S4096x2048.Idx → EReal) (w : S2048x5632.Idx → EReal) (p r d : ℕ) : EReal := ∑ k : Fin 2048, n2 x r k.val * sc 704 w p k.val d

def ups : S8x4096x768.Idx → EReal := fun i => dots (aX m c) (aU m c) (i 0).val (i 1).val (i 2).val
def mids : S8x4096x768.Idx → EReal := fun i => sc 704 (aG m c) (i 0).val (i 1).val (i 2).val
  * sg (sc 704 (aG m c) (i 0).val (i 1).val (i 2).val) * dots (aX m c) (aU m c) (i 0).val (i 1).val (i 2).val

theorem up_sum (t : Fin cfg0.N) (r : Fin 1024) (d : Fin 768) :
    tile (iblk m c 0 t) (iblk m c 1 t) r d = dots (aX m c) (aU m c) (t.val / 4) (1024 * (t.val % 4) + r.val) d.val :=
  Finset.sum_congr rfl fun k _ => congrArg₂ (fun a b : EReal => a * b) (blk_0 m c t r k) (blk_1 m c t d k)

theorem mem_blk_3 (t : Fin cfg0.N) (i : S8x4096x768.Idx) :
    i ∈ ((cfg0.win 3).blk t).view.set ↔ ∀ a : Fin 3, win0_3.index t a * S1x1024x768.size a ≤ (i a).val ∧ (i a).val < win0_3.index t a * S1x1024x768.size a + S1x1024x768.size a := by
  show i ∈ ((View.whole main_v7_0).slice (win0_3.rect t)).set ↔ _
  rw [View.set_slice_whole, Rect.mem_set_unit]
  exact Iff.rfl

theorem covered_3 (i : S8x4096x768.Idx) : ∃ t : Fin cfg0.N, (cfg0.win 3).flush t = true ∧ i ∈ ((cfg0.win 3).blk t).view.set := by
  have h0 : (i 0).val < 8 := (i 0).isLt
  have h1 : (i 1).val < 4096 := (i 1).isLt
  have h2 : (i 2).val < 768 := (i 2).isLt
  have hN : cfg0.N = 32 := N_0
  refine ⟨⟨4 * (i 0).val + (i 1).val / 1024, by omega⟩, flush_3 _, (mem_blk_3 _ i).2 fun a => ?_⟩
  obtain ⟨q0, q1, q2⟩ := index_3 ⟨4 * (i 0).val + (i 1).val / 1024, by omega⟩
  dsimp only at q0 q1 q2
  match a with
  | ⟨0, _⟩ =>
    show win0_3.index _ (0 : Fin 3) * 1 ≤ (i 0).val ∧ (i 0).val < win0_3.index _ (0 : Fin 3) * 1 + 1
    omega
  | ⟨1, _⟩ =>
    show win0_3.index _ (1 : Fin 3) * 1024 ≤ (i 1).val ∧ (i 1).val < win0_3.index _ (1 : Fin 3) * 1024 + 1024
    omega
  | ⟨2, _⟩ =>
    show win0_3.index _ (2 : Fin 3) * 768 ≤ (i 2).val ∧ (i 2).val < win0_3.index _ (2 : Fin 3) * 768 + 768
    omega

theorem flushed_3 (t : Fin cfg0.N) : (dats m 0 c).flushed 3 t = ((cfg0.win 3).blk t).view.read (Elt Ideal) (ups m c) := by
  rw [Value.flushed3, out_3]
  funext y
  have h0 : (y 0).val < 1 := (y 0).isLt
  have h1 : (y 1).val < 1024 := (y 1).isLt
  have h2 : (y 2).val < 768 := (y 2).isLt
  have hy : (cfg0.win 3).xinj (grid0.coords t) y = ix3 (0 : Fin 1) (⟨(y 1).val, h1⟩ : Fin 1024) (⟨(y 2).val, h2⟩ : Fin 768) := by
    funext a
    match a with
    | ⟨0, _⟩ => exact Fin.ext (by show (y 0).val = 0; omega)
    | ⟨1, _⟩ => rfl
    | ⟨2, _⟩ => rfl
  have e0 : ((((cfg0.win 3).blk t).view.emb y : S8x4096x768.Idx) 0).val = t.val / 4 := by
    show win0_3.index t (0 : Fin 3) * 1 + 1 * (y 0).val = _
    rw [(index_3 t).1]; omega
  have e1 : ((((cfg0.win 3).blk t).view.emb y : S8x4096x768.Idx) 1).val = 1024 * (t.val % 4) + (y 1).val := by
    show win0_3.index t (1 : Fin 3) * 1024 + 1 * (y 1).val = _
    rw [(index_3 t).2.1]; omega
  have e2 : ((((cfg0.win 3).blk t).view.emb y : S8x4096x768.Idx) 2).val = (y 2).val := by
    show win0_3.index t (2 : Fin 3) * 768 + 1 * (y 2).val = _
    rw [(index_3 t).2.2]; omega
  show (k0_pay2 (iblk m c 0 t) (iblk m c 1 t)) ((cfg0.win 3).xinj (grid0.coords t) y) = ups m c (((cfg0.win 3).blk t).view.emb y)
  rw [hy]
  refine (up_at (iblk m c 0 t) (iblk m c 1 t) _ _).trans ?_
  unfold ups
  rw [e0, e1, e2]
  exact up_sum m c t _ _

/-- The up projection's product. -/
theorem final_3 : (dats m 0 c).arrAt 3 cfg0.N = ups m c :=
  (dats m 0 c).arrAt_eq_of_cover 3 (ups m c) (fun t _ => flushed_3 m c t) (fun i => covered_3 i)

theorem mem_blk_4 (t : Fin cfg0.N) (i : S8x4096x768.Idx) :
    i ∈ ((cfg0.win 4).blk t).view.set ↔ ∀ a : Fin 3, win0_4.index t a * S1x1024x768.size a ≤ (i a).val ∧ (i a).val < win0_4.index t a * S1x1024x768.size a + S1x1024x768.size a := by
  show i ∈ ((View.whole main_v7_1).slice (win0_4.rect t)).set ↔ _
  rw [View.set_slice_whole, Rect.mem_set_unit]
  exact Iff.rfl

theorem covered_4 (i : S8x4096x768.Idx) : ∃ t : Fin cfg0.N, (cfg0.win 4).flush t = true ∧ i ∈ ((cfg0.win 4).blk t).view.set := by
  have h0 : (i 0).val < 8 := (i 0).isLt
  have h1 : (i 1).val < 4096 := (i 1).isLt
  have h2 : (i 2).val < 768 := (i 2).isLt
  have hN : cfg0.N = 32 := N_0
  refine ⟨⟨4 * (i 0).val + (i 1).val / 1024, by omega⟩, flush_4 _, (mem_blk_4 _ i).2 fun a => ?_⟩
  obtain ⟨q0, q1, q2⟩ := index_4 ⟨4 * (i 0).val + (i 1).val / 1024, by omega⟩
  dsimp only at q0 q1 q2
  match a with
  | ⟨0, _⟩ =>
    show win0_4.index _ (0 : Fin 3) * 1 ≤ (i 0).val ∧ (i 0).val < win0_4.index _ (0 : Fin 3) * 1 + 1
    omega
  | ⟨1, _⟩ =>
    show win0_4.index _ (1 : Fin 3) * 1024 ≤ (i 1).val ∧ (i 1).val < win0_4.index _ (1 : Fin 3) * 1024 + 1024
    omega
  | ⟨2, _⟩ =>
    show win0_4.index _ (2 : Fin 3) * 768 ≤ (i 2).val ∧ (i 2).val < win0_4.index _ (2 : Fin 3) * 768 + 768
    omega

theorem flushed_4 (t : Fin cfg0.N) : (dats m 0 c).flushed 4 t = ((cfg0.win 4).blk t).view.read (Elt Ideal) (mids m c) := by
  rw [Value.flushed4, out_4]
  funext y
  have h0 : (y 0).val < 1 := (y 0).isLt
  have h1 : (y 1).val < 1024 := (y 1).isLt
  have h2 : (y 2).val < 768 := (y 2).isLt
  have hy : (cfg0.win 4).xinj (grid0.coords t) y = ix3 (0 : Fin 1) (⟨(y 1).val, h1⟩ : Fin 1024) (⟨(y 2).val, h2⟩ : Fin 768) := by
    funext a
    match a with
    | ⟨0, _⟩ => exact Fin.ext (by show (y 0).val = 0; omega)
    | ⟨1, _⟩ => rfl
    | ⟨2, _⟩ => rfl
  have e0 : ((((cfg0.win 4).blk t).view.emb y : S8x4096x768.Idx) 0).val = t.val / 4 := by
    show win0_4.index t (0 : Fin 3) * 1 + 1 * (y 0).val = _
    rw [(index_4 t).1]; omega
  have e1 : ((((cfg0.win 4).blk t).view.emb y : S8x4096x768.Idx) 1).val = 1024 * (t.val % 4) + (y 1).val := by
    show win0_4.index t (1 : Fin 3) * 1024 + 1 * (y 1).val = _
    rw [(index_4 t).2.1]; omega
  have e2 : ((((cfg0.win 4).blk t).view.emb y : S8x4096x768.Idx) 2).val = (y 2).val := by
    show win0_4.index t (2 : Fin 3) * 768 + 1 * (y 2).val = _
    rw [(index_4 t).2.2]; omega
  show (k0_pay3 (iblk m c 0 t) (iblk m c 1 t) (iblk m c 2 t)) ((cfg0.win 4).xinj (grid0.coords t) y) = mids m c (((cfg0.win 4).blk t).view.emb y)
  rw [hy]
  refine (mid_at (iblk m c 0 t) (iblk m c 1 t) (iblk m c 2 t) _ _).trans ?_
  unfold mids
  rw [e0, e1, e2]
  exact congrArg₂ (fun a b : EReal => a * sg a * b) (blk_2 m c t _ _) (up_sum m c t _ _)

/-- The middle. -/
theorem final_4 : (dats m 0 c).arrAt 4 cfg0.N = mids m c :=
  (dats m 0 c).arrAt_eq_of_cover 4 (mids m c) (fun t _ => flushed_4 m c t) (fun i => covered_4 i)

end Cert.Mat.K19

end
-- ==== Proof.Ffn.K19.lean ====
/- The kernel of the first feed-forward's up product and middle, and its reference: both give the same two results. -/
module

public import proofs.«01_k».proof.Proof.Ffn.K19Fold
public import proofs.«01_k».proof.Defs
public import proofs.«01_k».proof.Proof.Gen.Reference19Ideal.Run
public import proofs.«01_k».proof.Proof.Gen.Reference19Ideal.Read

@[expose] public section

set_option maxRecDepth 16384

noncomputable section

namespace Cert.Mat.K19

open Idealize.ShloMosaic.ValueIdx
open Idealize.ShloMosaic hiding ix1 ix2 ix3 eq_ix1 eq_ix2 eq_ix3
open Idealize.ShloMosaic.TcCoe Idealize.SL.Sem
open scoped BigOperators

/-! ## The reference -/

/-- Inside a slot the product with slots is the product with the weight; in its room it is zero. -/
theorem dots_eq (x : (⟨2, ![4096, 2048]⟩ : Shape).Idx → EReal) (w : (⟨2, ![2048, 5632]⟩ : Shape).Idx → EReal) (p r d : ℕ) :
    dots x w p r d = if d < 704 then ∑ k : Fin 2048, n2 x r k.val * n2 w k.val (704 * p + d) else 0 := by
  unfold dots sc
  by_cases h : d < 704
  · simp only [if_pos h]
  · simp only [if_neg h, mul_zero, Finset.sum_const_zero]

section reference
open Cert.Reference19Ideal Cert.Reference19Ideal.Gen Cert.Reference19Ideal.Read

theorem up_n (x0 : (⟨S4096x2048, .bf16⟩ : BufTy).Contents (Elt Ideal)) (x2 : (⟨S2048x5632, .f32⟩ : BufTy).Contents (Elt Ideal)) (p : Fin 8) (r : Fin 4096) (d : ℕ) (hd : d < 704) :
    n2 (val_main_v1 x0 x2 : S4096x5632.Idx → EReal) r.val (704 * p.val + d)
      = ∑ k : Fin 2048, n2 (x0 : S4096x2048.Idx → EReal) r.val k.val * n2 (x2 : S2048x5632.Idx → EReal) k.val (704 * p.val + d) := by
  have hp := p.isLt
  have hj : 704 * p.val + d < 5632 := by omega
  refine (n2_eq (val_main_v1 x0 x2 : S4096x5632.Idx → EReal) _ _ (ix2 r ⟨704 * p.val + d, hj⟩) rfl rfl).trans ?_
  refine (val_main_v1_apply x0 x2 (ix2 r ⟨704 * p.val + d, hj⟩)).trans (Finset.sum_congr rfl fun k _ => ?_)
  exact congrArg₂ (fun a b : EReal => a * b) (n2_eq (x0 : S4096x2048.Idx → EReal) _ _ (lidx_main_v1 (ix2 r ⟨704 * p.val + d, hj⟩) k) rfl rfl).symm
    (n2_eq (x2 : S2048x5632.Idx → EReal) _ _ (ridx_main_v1 (ix2 r ⟨704 * p.val + d, hj⟩) k) rfl rfl).symm

theorem up_ref (x0 : (⟨S4096x2048, .bf16⟩ : BufTy).Contents (Elt Ideal)) (x2 : (⟨S2048x5632, .f32⟩ : BufTy).Contents (Elt Ideal)) (p : Fin 8) (r : Fin 4096) (d : Fin 768) :
    val_main_v5 x0 x2 (ix3 p r d) = dots (x0 : S4096x2048.Idx → EReal) (x2 : S2048x5632.Idx → EReal) p.val r.val d.val := by
  have e : val_main_v5 x0 x2 (ix3 p r d) = sc 704 (val_main_v2 x0 x2 : S4096x5632.Idx → EReal) p.val r.val d.val :=
    cols_room (P := 8) (w := 704) (w' := 768) (g := 64) (val_main_v2 x0 x2 : S4096x5632.Idx → EReal) rfl shapeCasts_S4096x5632_S4096x8x704
      transposes_S4096x8x704_S8x4096x704_1_0_2 _ pads_S8x4096x704_S8x4096x768_000_000_0640 h_S_ (room_zero .bf16) p r d
  refine e.trans ?_
  rw [dots_eq]
  unfold sc
  by_cases h : d.val < 704
  · simp only [if_pos h]
    exact up_n x0 x2 p r d.val h
  · simp only [if_neg h]

/-- The middle at a place: the gate's product, its logistic, and the up projection's. -/
theorem middle (x0 : (⟨S4096x2048, .bf16⟩ : BufTy).Contents (Elt Ideal)) (x1 : (⟨S4096x5632, .bf16⟩ : BufTy).Contents (Elt Ideal)) (x2 : (⟨S2048x5632, .f32⟩ : BufTy).Contents (Elt Ideal)) (i : S4096x5632.Idx) :
    (val_main_v9 x0 x1 x2 : S4096x5632.Idx → EReal) i = (x1 : S4096x5632.Idx → EReal) i * lg ((x1 : S4096x5632.Idx → EReal) i) * (val_main_v1 x0 x2 : S4096x5632.Idx → EReal) i := rfl

theorem mid_ref (x0 : (⟨S4096x2048, .bf16⟩ : BufTy).Contents (Elt Ideal)) (x1 : (⟨S4096x5632, .bf16⟩ : BufTy).Contents (Elt Ideal)) (x2 : (⟨S2048x5632, .f32⟩ : BufTy).Contents (Elt Ideal)) (p : Fin 8) (r : Fin 4096) (d : Fin 768) :
    val_main_v12 x0 x1 x2 (ix3 p r d)
      = sc 704 (x1 : S4096x5632.Idx → EReal) p.val r.val d.val * sg (sc 704 (x1 : S4096x5632.Idx → EReal) p.val r.val d.val)
        * dots (x0 : S4096x2048.Idx → EReal) (x2 : S2048x5632.Idx → EReal) p.val r.val d.val := by
  have e : val_main_v12 x0 x1 x2 (ix3 p r d) = sc 704 (val_main_v9 x0 x1 x2 : S4096x5632.Idx → EReal) p.val r.val d.val :=
    cols_room (P := 8) (w := 704) (w' := 768) (g := 64) (val_main_v9 x0 x1 x2 : S4096x5632.Idx → EReal) rfl shapeCasts_S4096x5632_S4096x8x704
      transposes_S4096x8x704_S8x4096x704_1_0_2 _ pads_S8x4096x704_S8x4096x768_000_000_0640 h_S_ (room_zero .bf16) p r d
  refine e.trans ?_
  rw [dots_eq]
  unfold sc
  by_cases h : d.val < 704
  · have hp := p.isLt
    have hj : 704 * p.val + d.val < 5632 := by omega
    simp only [if_pos h]
    rw [← up_n x0 x2 p r d.val h, sg_eq,
      n2_eq (val_main_v9 x0 x1 x2 : S4096x5632.Idx → EReal) _ _ (ix2 r ⟨704 * p.val + d.val, hj⟩) rfl rfl,
      n2_eq (x1 : S4096x5632.Idx → EReal) _ _ (ix2 r ⟨704 * p.val + d.val, hj⟩) rfl rfl,
      n2_eq (val_main_v1 x0 x2 : S4096x5632.Idx → EReal) _ _ (ix2 r ⟨704 * p.val + d.val, hj⟩) rfl rfl]
    exact middle x0 x1 x2 _
  · simp only [if_neg h, zero_mul, mul_zero]

end reference

/-- The reference runs, gives its arguments back and, having no semaphores, leaves none raised. -/
theorem reference_runs : Cert.quiescent_Reference19Ideal (hReference19Ideal := Cert.Reference19Ideal.Gen.facts) := fun m ρ _ =>
  (θ_run _ _ _).mono (fun _ h => And.intro (fun c => (h c).2.2) (sem_eq_zero_of_no_sems (by decide) _)) (Cert.Reference19Ideal.Value.run m ρ)

/-! ## The two programs' results -/

theorem equal : Cert.algebraic_Kernel19Ideal_Reference19Ideal (hKernel19Ideal := Cert.Kernel19Ideal.Gen.facts)
    (hReference19Ideal := Cert.Reference19Ideal.Gen.facts) := by
  intro m g m' g' _ ha
  refine ⟨fun c => ups m c, fun c => mids m c, ?_, ?_⟩
  · exact (θ_run _ _ _).mono (fun r h c => ⟨(h c).1.trans (final_3 m c), (h c).2.1.trans (final_4 m c), (h c).2.2⟩)
      (Cert.Kernel19Ideal.Value.run_blocks m g)
  · refine (θ_run _ _ _).mono (fun r h c => ?_) (Cert.Reference19Ideal.Value.run m' g')
    obtain ⟨h0, h1, h2⟩ := h c
    obtain ⟨a0, a1, a2⟩ := ha c
    refine ⟨h0.trans ?_, h1.trans ?_, h2⟩
    · refine (Cert.Reference19Ideal.Read.val_main_v5_eq _ _).trans (ext3 fun p r d => ?_)
      refine Eq.trans ?_ ((up_ref _ _ p r d).trans rfl)
      exact congrFun (congrArg₂ (Cert.Reference19Ideal.Read.val_main_v5 (F := Idealize.ShloMosaic.Ideal)) a0 a2) _
    · refine (Cert.Reference19Ideal.Read.val_main_v12_eq _ _ _).trans (ext3 fun p r d => ?_)
      refine Eq.trans ?_ ((mid_ref _ _ _ p r d).trans rfl)
      exact congrFun (congr (congrArg₂ (Cert.Reference19Ideal.Read.val_main_v12 (F := Idealize.ShloMosaic.Ideal)) a0 a1) a2) _

end Cert.Mat.K19

end
-- ==== Proof.Ffn.K22Block.lean ====
/- The kernel of the norm's gradient: what each grid point writes. -/
module

public import proofs.«01_k».proof.Proof.Gen.Kernel22Ideal.Frame
public import proofs.«01_k».proof.Proof.Ffn.Common

@[expose] public section

set_option maxRecDepth 16384

noncomputable section

namespace Cert.Mat.K22

open Cert.Kernel22Ideal Cert.Kernel22Ideal.Gen Idealize.ShloMosaic Idealize.ShloMosaic.ValueIdx
open Idealize.ShloMosaic.TcCoe Idealize.SL.Sem

section points
variable (c : Dev nD) (i : grid0.Coords)
  (arg1 : Memref sig .tc .vmem S256x2048 .f32) (harg1 : arg1.IsWhole)
  (arg2 : Memref sig .tc .vmem S1x2048 .f32) (harg2 : arg2.IsWhole)
  (arg3 : Memref sig .tc .vmem S256x2048 .bf16) (harg3 : arg3.IsWhole)
  (arg4 : Memref sig .tc .vmem S256x2048 .f32) (harg4 : arg4.IsWhole)
  (arg5 : Memref sig .tc .vmem S256x2048 .f32) (harg5 : arg5.IsWhole)
  (arg6 : Memref sig .tc .vmem S256x2048 .bf16) (harg6 : arg6.IsWhole)
  (arg7 : Memref sig .tc .vmem S1x2048 .f32) (harg7 : arg7.IsWhole)
  (x0 : Vec Ideal S256x2048 .f32) (x1 : Vec Ideal S1x2048 .f32) (x2 : Vec Ideal S256x2048 .bf16) (x3 : Vec Ideal S256x2048 .f32)
  (xs : Vec Ideal S1x2048 .f32)

/-! The gradient of the residual, its half, and the running sums of the gain's gradient: at the first point (A) and at a later one (B). -/

theorem gA (hc0 : cond0_0 i) :
    out0_A_4 c i arg1 harg1 arg2 harg2 arg3 harg3 arg4 harg4 arg5 harg5 arg6 harg6 arg7 harg7 hc0 x0 x1 x2 x3 = k0_pay7 x0 x1 x2 x3 := by
  unfold out0_A_4 kernelRun0_A
  dsimp only
  refine (write2 _ _ _ _ _).trans ?_
  simp only [readAt2]

theorem gB (hc0 : ¬cond0_0 i) :
    out0_B_4 c i arg1 harg1 arg2 harg2 arg3 harg3 arg4 harg4 arg5 harg5 arg6 harg6 arg7 harg7 hc0 x0 x1 x2 x3 xs = k0_pay7 x0 x1 x2 x3 := by
  unfold out0_B_4 kernelRun0_B
  dsimp only
  refine (write2 _ _ _ _ _).trans ?_
  simp only [readAt2]

theorem hA (hc0 : cond0_0 i) :
    out0_A_5 c i arg1 harg1 arg2 harg2 arg3 harg3 arg4 harg4 arg5 harg5 arg6 harg6 arg7 harg7 hc0 x0 x1 x2 x3 = k0_pay8 x0 x1 x2 x3 := by
  unfold out0_A_5 kernelRun0_A
  dsimp only
  refine (write2 _ _ _ _ _).trans ?_
  simp only [readAt2]

theorem hB (hc0 : ¬cond0_0 i) :
    out0_B_5 c i arg1 harg1 arg2 harg2 arg3 harg3 arg4 harg4 arg5 harg5 arg6 harg6 arg7 harg7 hc0 x0 x1 x2 x3 xs = k0_pay8 x0 x1 x2 x3 := by
  unfold out0_B_5 kernelRun0_B
  dsimp only
  refine (write2 _ _ _ _ _).trans ?_
  simp only [readAt2]

theorem sA (hc0 : cond0_0 i) :
    out0_A_6 c i arg1 harg1 arg2 harg2 arg3 harg3 arg4 harg4 arg5 harg5 arg6 harg6 arg7 harg7 hc0 x0 x1 x2 x3 = k0_pay2 (k0_pay6 x0 x2) (k0_pay1 (F := Ideal)) := by
  unfold out0_A_6 kernelRun0_A
  dsimp only
  refine (write2 _ _ _ _ _).trans ?_
  unfold kernelRun0_A.sl.r kernelRun0_A.sl.v39 kernelRun0_A.sl.H6_1
  simp only [readAt2, readCov2]

theorem sB (hc0 : ¬cond0_0 i) :
    out0_B_6 c i arg1 harg1 arg2 harg2 arg3 harg3 arg4 harg4 arg5 harg5 arg6 harg6 arg7 harg7 hc0 x0 x1 x2 x3 xs = k0_pay2 (k0_pay6 x0 x2) xs := by
  unfold out0_B_6 kernelRun0_B
  dsimp only
  refine (write2 _ _ _ _ _).trans ?_
  unfold kernelRun0_B.sl.r
  simp only [readAt2, readCov2]

end points

end Cert.Mat.K22

end
-- ==== Proof.Ffn.K22Fold.lean ====
/- The kernel of the norm's gradient: the blocks of a grid point, the running sums, and the three results. -/
module

public import proofs.«01_k».proof.Proof.Ffn.K22Block
public import proofs.«01_k».proof.Proof.Ffn.Layout
public import proofs.«01_k».proof.Proof.Gen.Kernel22Ideal.Value
public import Idealize.ShloMosaic.Lib.StableHlo.ReadAt

@[expose] public section

set_option maxRecDepth 16384

noncomputable section

namespace Cert.Mat.K22

open Cert.Kernel22Ideal Cert.Kernel22Ideal.Gen Idealize.ShloMosaic.ValueIdx
open Idealize.ShloMosaic hiding ix1 ix2 ix3 eq_ix1 eq_ix2 eq_ix3
open Idealize.ShloMosaic.TcCoe Idealize.SL.Sem
open scoped BigOperators

/-! ## A row's norm and its gradient -/

/-- A mean over a row's 2048 elements. -/
def mean (s : EReal) : EReal := Ideal.div s (Ideal.ofBits .f32 0x45000000#32)
/-- One over the root of a row's mean square. -/
def root (f : Fin 2048 → EReal) : EReal := Ideal.rsqrt (mean (∑ k, f k * f k) + Ideal.ofBits .f32 0x358637BD#32)
/-- The gradient of row `f` from the gradient `a` of the normalised row. -/
def grad (f a : Fin 2048 → EReal) (j : Fin 2048) : EReal := root f * (a j - f j * root f * mean (∑ k, a k * (f k * root f)))

/-! ## A point's arithmetic -/

theorem beside (v : S256x1.Idx → EReal) (hb : S256x1.Broadcasts S256x2048) (r : Fin 256) (j : Fin 2048) :
    broadcastTo S256x2048 v hb (ix2 r j) = v (ix2 r (0 : Fin 1)) :=
  broadcastTo_apply _ hb _ _ (fun a => by
    match a with
    | ⟨0, _⟩ => rfl
    | ⟨1, _⟩ => rfl)

theorem below (v : S1x2048.Idx → EReal) (hb : S1x2048.Broadcasts S256x2048) (r : Fin 256) (j : Fin 2048) :
    broadcastTo S256x2048 v hb (ix2 r j) = v (ix2 (0 : Fin 1) j) :=
  broadcastTo_apply _ hb _ _ (fun a => by
    match a with
    | ⟨0, _⟩ => rfl
    | ⟨1, _⟩ => rfl)

/-- A block's row sums, as a column. -/
theorem row_sum (v : FVec Ideal S256x2048 .f32) (acc : BitVec 32) (h : S256x2048.Reduces [1] S256) (hφ) (ha : acc = FKind.add.neutral .f32 hφ)
    (hc : S256.ShapeCasts S256x1) (r : Fin 256) :
    shapeCast S256x1 (multiReduction (F := Ideal) (φ := .f32) .add [1] S256 v acc h hφ ha) hc (ix2 r (0 : Fin 1)) = ∑ k : Fin 2048, v (ix2 r k) := by
  rw [shapeCast_apply _ hc _ (ix1 r) (by
    rw [Shape.rowMajor_val_one, Shape.rowMajor_val_two]
    show r.val = r.val * 1 + 0
    omega)]
  refine (Ideal.multiReduction_add_single v _ _ _ _ (ix1 r)).trans (Finset.sum_congr rfl fun k _ => congrArg v ?_)
  funext a; apply Fin.ext
  match a with
  | ⟨0, _⟩ => rfl
  | ⟨1, _⟩ => rfl

/-- A block's column sums, as a row. -/
theorem col_sum (v : FVec Ideal S256x2048 .f32) (acc : BitVec 32) (h : S256x2048.Reduces [0] S2048) (hφ) (ha : acc = FKind.add.neutral .f32 hφ)
    (hc : S2048.ShapeCasts S1x2048) (j : Fin 2048) :
    shapeCast S1x2048 (multiReduction (F := Ideal) (φ := .f32) .add [0] S2048 v acc h hφ ha) hc (ix2 (0 : Fin 1) j) = ∑ k : Fin 256, v (ix2 k j) := by
  rw [shapeCast_apply _ hc _ (ix1 j) (by
    rw [Shape.rowMajor_val_one, Shape.rowMajor_val_two]
    show j.val = 0 * 2048 + j.val
    omega)]
  refine (Ideal.multiReduction_add_single v _ _ _ _ (ix1 j)).trans (Finset.sum_congr rfl fun k _ => congrArg v ?_)
  funext a; apply Fin.ext
  match a with
  | ⟨0, _⟩ => rfl
  | ⟨1, _⟩ => rfl

section point
variable (x0 : Vec Ideal S256x2048 .f32) (x1 : Vec Ideal S1x2048 .f32) (x2 : Vec Ideal S256x2048 .bf16) (x3 : Vec Ideal S256x2048 .f32)

theorem root_at (r : Fin 256) : k0_pay4 (F := Ideal) x0 (ix2 r (0 : Fin 1)) = root fun k => x0 (ix2 r k) := by
  unfold k0_pay4 root mean
  exact congrArg (fun s => Ideal.rsqrt (Ideal.div s _ + _)) (row_sum _ _ _ _ _ _ r)

theorem norm_at (r : Fin 256) (j : Fin 2048) : k0_pay5 (F := Ideal) x0 (ix2 r j) = x0 (ix2 r j) * root fun k => x0 (ix2 r k) := by
  unfold k0_pay5
  exact congrArg (fun a : EReal => x0 (ix2 r j) * a) ((beside _ _ r j).trans (root_at x0 r))

theorem grad_at (r : Fin 256) (j : Fin 2048) :
    k0_pay7 (F := Ideal) x0 x1 x2 x3 (ix2 r j) = x3 (ix2 r j) + grad (fun k => x0 (ix2 r k)) (fun k => x2 (ix2 r k) * x1 (ix2 (0 : Fin 1) k)) j := by
  have a (k : Fin 2048) : mulf (k0_pay3 (F := Ideal) x2) (broadcastTo S256x2048 x1 broadcasts_S1x2048_S256x2048) (ix2 r k) = x2 (ix2 r k) * x1 (ix2 (0 : Fin 1) k) :=
    congrArg (fun b : EReal => x2 (ix2 r k) * b) (below x1 _ r k)
  unfold k0_pay7 grad mean
  refine congrArg (fun b : EReal => x3 (ix2 r j) + b) (congrArg₂ (fun b d : EReal => b * d) ((beside _ _ r j).trans (root_at x0 r))
    (congrArg₂ (fun b d : EReal => b - d) (a j) (congrArg₂ (fun b d : EReal => b * d) (norm_at x0 r j) ?_)))
  refine (beside _ _ r j).trans (congrArg (fun s => Ideal.div s _) ((row_sum _ _ _ _ _ _ r).trans (Finset.sum_congr rfl fun k _ => ?_)))
  exact congrArg₂ (fun b d : EReal => b * d) (a k) (norm_at x0 r k)

theorem half_at (r : Fin 256) (j : Fin 2048) :
    k0_pay8 (F := Ideal) x0 x1 x2 x3 (ix2 r j) = Ideal.ofBits .f32 0x3F000000#32 * k0_pay7 (F := Ideal) x0 x1 x2 x3 (ix2 r j) := rfl

theorem upd_at (acc : Vec Ideal S1x2048 .f32) (r : Fin 1) (j : Fin 2048) :
    k0_pay2 (k0_pay6 (F := Ideal) x0 x2) acc (ix2 r j) = acc (ix2 r j) + ∑ k : Fin 256, x2 (ix2 k j) * (x0 (ix2 k j) * root fun i => x0 (ix2 k i)) := by
  obtain rfl : r = 0 := Subsingleton.elim _ _
  unfold k0_pay2 k0_pay6
  refine congrArg₂ (fun b d : EReal => b + d) (congrFun (same_cast acc _) _) ((col_sum _ _ _ _ _ _ j).trans (Finset.sum_congr rfl fun k _ => ?_))
  exact congrArg (fun a : EReal => x2 (ix2 k j) * a) (norm_at x0 k j)

theorem zero_at (r : Fin 1) (j : Fin 2048) : (k0_pay1 (F := Ideal)) (ix2 r j) = (0 : EReal) := Ideal.ofBits_zero_f32

end point

/-! ## The blocks -/

theorem pt_lt (t : Fin cfg0.N) : t.val < 16 := lt_of_lt_of_eq t.isLt (show cfg0.N = 16 from N_0)

theorem index_0 : ∀ t : Fin cfg0.N, win0_0.index t (0 : Fin 2) = t.val ∧ win0_0.index t (1 : Fin 2) = 0 := by decide +kernel
theorem index_1 : ∀ t : Fin cfg0.N, win0_1.index t (0 : Fin 2) = 0 ∧ win0_1.index t (1 : Fin 2) = 0 := by decide +kernel
theorem index_2 : ∀ t : Fin cfg0.N, win0_2.index t (0 : Fin 2) = t.val ∧ win0_2.index t (1 : Fin 2) = 0 := by decide +kernel
theorem index_3 : ∀ t : Fin cfg0.N, win0_3.index t (0 : Fin 2) = t.val ∧ win0_3.index t (1 : Fin 2) = 0 := by decide +kernel
theorem index_4 : ∀ t : Fin cfg0.N, win0_4.index t (0 : Fin 2) = t.val ∧ win0_4.index t (1 : Fin 2) = 0 := by decide +kernel
theorem index_5 : ∀ t : Fin cfg0.N, win0_5.index t (0 : Fin 2) = t.val ∧ win0_5.index t (1 : Fin 2) = 0 := by decide +kernel
theorem index_6 : ∀ t : Fin cfg0.N, win0_6.index t (0 : Fin 2) = 0 ∧ win0_6.index t (1 : Fin 2) = 0 := by decide +kernel

variable (m : (ℓ : Loc nD τ sig) → Buf (Elt Ideal) ℓ) (c : Dev nD)

/-- The rows that are normalised. -/
abbrev aX : S4096x2048.Idx → EReal := m ((c : Thread nD τ).loc main_arg0)
/-- The gain. -/
abbrev aG : S1x2048.Idx → EReal := m ((c : Thread nD τ).loc main_arg1)
/-- The gradient of the norm's result. -/
abbrev aH : S4096x2048.Idx → EReal := m ((c : Thread nD τ).loc main_arg2)
/-- The residual's gradient. -/
abbrev aD : S4096x2048.Idx → EReal := m ((c : Thread nD τ).loc main_arg3)

theorem row_lt (t : Fin cfg0.N) (r : Fin 256) : 256 * t.val + r.val < 4096 := by
  have := pt_lt t
  have := r.isLt
  omega

/-- Where an element of a block of rows lies. -/
theorem in_rows (t : Fin cfg0.N) (r : Fin 256) (k : Fin 2048) (y : S4096x2048.Idx) {p q : ℕ} (h : p = t.val ∧ q = 0)
    (h0 : (y 0).val = p * 256 + 1 * r.val) (h1 : (y 1).val = q * 2048 + 1 * k.val) : y = ix2 ⟨256 * t.val + r.val, row_lt t r⟩ k := by
  funext a; apply Fin.ext
  match a with
  | ⟨0, _⟩ => show (y 0).val = 256 * t.val + r.val; omega
  | ⟨1, _⟩ => show (y 1).val = k.val; omega

theorem blk_0 (t : Fin cfg0.N) (r : Fin 256) (k : Fin 2048) :
    (iblk m c 0 t : Vec Ideal S256x2048 .f32) (ix2 r k) = aX m c (ix2 ⟨256 * t.val + r.val, row_lt t r⟩ k) := by
  have e : (iblk m c 0 t : Vec Ideal S256x2048 .f32) (ix2 r k)
      = (V m c main_arg0 : S4096x2048.Idx → EReal) (((cfg0.win 0).blk t).view.emb (ix2 r k)) := rfl
  rw [e, V_main_arg0]
  exact congrArg (aX m c) (in_rows t r k _ (index_0 t) rfl rfl)

theorem blk_1 (t : Fin cfg0.N) (k : Fin 2048) : (iblk m c 1 t : Vec Ideal S1x2048 .f32) (ix2 (0 : Fin 1) k) = aG m c (ix2 (0 : Fin 1) k) := by
  have e : (iblk m c 1 t : Vec Ideal S1x2048 .f32) (ix2 (0 : Fin 1) k)
      = (V m c main_arg1 : S1x2048.Idx → EReal) (((cfg0.win 1).blk t).view.emb (ix2 (0 : Fin 1) k)) := rfl
  rw [e, V_main_arg1]
  refine congrArg (aG m c) (funext fun a => Fin.ext ?_)
  match a with
  | ⟨0, _⟩ =>
    show win0_1.index t (0 : Fin 2) * 1 + 1 * 0 = 0
    rw [(index_1 t).1]
  | ⟨1, _⟩ =>
    show win0_1.index t (1 : Fin 2) * 2048 + 1 * k.val = k.val
    rw [(index_1 t).2]; omega

theorem blk_2 (t : Fin cfg0.N) (r : Fin 256) (k : Fin 2048) :
    (iblk m c 2 t : Vec Ideal S256x2048 .bf16) (ix2 r k) = aH m c (ix2 ⟨256 * t.val + r.val, row_lt t r⟩ k) := by
  have e : (iblk m c 2 t : Vec Ideal S256x2048 .bf16) (ix2 r k)
      = (V m c main_arg2 : S4096x2048.Idx → EReal) (((cfg0.win 2).blk t).view.emb (ix2 r k)) := rfl
  rw [e, V_main_arg2]
  exact congrArg (aH m c) (in_rows t r k _ (index_2 t) rfl rfl)

theorem blk_3 (t : Fin cfg0.N) (r : Fin 256) (k : Fin 2048) :
    (iblk m c 3 t : Vec Ideal S256x2048 .f32) (ix2 r k) = aD m c (ix2 ⟨256 * t.val + r.val, row_lt t r⟩ k) := by
  have e : (iblk m c 3 t : Vec Ideal S256x2048 .f32) (ix2 r k)
      = (V m c main_arg3 : S4096x2048.Idx → EReal) (((cfg0.win 3).blk t).view.emb (ix2 r k)) := rfl
  rw [e, V_main_arg3]
  exact congrArg (aD m c) (in_rows t r k _ (index_3 t) rfl rfl)

/-! ## The results -/

/-- The gradient of the residual, with that through the norm. -/
def dX : S4096x2048.Idx → EReal := fun i =>
  aD m c i + grad (fun k => aX m c (ix2 (i 0) k)) (fun k => aH m c (ix2 (i 0) k) * aG m c (ix2 (0 : Fin 1) k)) (i 1)
/-- Its half. -/
def dHalf : S4096x2048.Idx → EReal := fun i => Ideal.ofBits .f32 0x3F000000#32 * dX m c i
/-- What row `k` adds to the gradient of the gain. -/
def term (k : ℕ) (j : Fin 2048) : EReal :=
  if h : k < 4096 then aH m c (ix2 ⟨k, h⟩ j) * (aX m c (ix2 ⟨k, h⟩ j) * root fun i => aX m c (ix2 ⟨k, h⟩ i)) else 0
/-- The gradient of the gain. -/
def dG : S1x2048.Idx → EReal := fun i => ∑ k : Fin 4096, term m c k.val (i 1)

theorem pay7_blk (t : Fin cfg0.N) (r : Fin 256) (j : Fin 2048) :
    k0_pay7 (F := Ideal) (iblk m c 0 t) (iblk m c 1 t) (iblk m c 2 t) (iblk m c 3 t) (ix2 r j) = dX m c (ix2 ⟨256 * t.val + r.val, row_lt t r⟩ j) := by
  refine (grad_at _ _ _ _ r j).trans (congrArg₂ (fun a b : EReal => a + b) (blk_3 m c t r j) ?_)
  exact congrArg₂ (fun f a => grad f a j) (funext fun k => blk_0 m c t r k)
    (funext fun k => congrArg₂ (fun a b : EReal => a * b) (blk_2 m c t r k) (blk_1 m c t k))

theorem upd_blk (t : Fin cfg0.N) (acc : Vec Ideal S1x2048 .f32) (r : Fin 1) (j : Fin 2048) :
    k0_pay2 (k0_pay6 (F := Ideal) (iblk m c 0 t) (iblk m c 2 t)) acc (ix2 r j) = acc (ix2 r j) + ∑ k : Fin 256, term m c (256 * (t.val % 16) + k.val) j := by
  refine (upd_at _ _ _ r j).trans (congrArg (fun a : EReal => acc (ix2 r j) + a) (Finset.sum_congr rfl fun k _ => ?_))
  have e : 256 * (t.val % 16) + k.val = 256 * t.val + k.val := by rw [Nat.mod_eq_of_lt (pt_lt t)]
  unfold term
  rw [e, dif_pos (row_lt t k)]
  exact congrArg₂ (fun a b : EReal => a * b) (blk_2 m c t k j)
    (congrArg₂ (fun a b : EReal => a * b) (blk_0 m c t k j) (congrArg root (funext fun i => blk_0 m c t k i)))

theorem sums : ∀ (t : ℕ) (h : t < cfg0.N) (r : Fin 1) (j : Fin 2048),
    (outsAt0 m c t h).2.2 (ix2 r j) = ∑ s ∈ Finset.range (t % 16 + 1), ∑ k : Fin 256, term m c (256 * s + k.val) j := by
  refine run_sum 16 cfg0.N (by decide) (fun t h r j => (outsAt0 m c t h).2.2 (ix2 r j)) (fun _ s _ j => ∑ k : Fin 256, term m c (256 * s + k.val) j) ?_ ?_
  · intro t h r j h0
    rw [outsAt0_A m c ⟨t, h⟩ h0]
    dsimp only
    rw [sA]
    exact (upd_blk m c ⟨t, h⟩ _ r j).trans (congrArg (· + _) (zero_at r j))
  · intro t h r j h0
    rw [outsAt0_B m c ⟨t, h⟩ h0]
    dsimp only
    rw [sB]
    exact upd_blk m c ⟨t, h⟩ _ r j

/-- The point whose block holds an element. -/
def holder (i : S4096x2048.Idx) : Fin cfg0.N := ⟨(i 0).val / 256, by
  have h0 : (i 0).val < 4096 := (i 0).isLt
  have hN : cfg0.N = 16 := N_0
  omega⟩

theorem held (i : S4096x2048.Idx) (p : Fin 2 → ℕ) (h : p 0 = (holder i).val ∧ p 1 = 0) (a : Fin 2) :
    p a * S256x2048.size a ≤ (i a).val ∧ (i a).val < p a * S256x2048.size a + S256x2048.size a := by
  have h1 : (i 1).val < 2048 := (i 1).isLt
  have ht : (holder i).val = (i 0).val / 256 := rfl
  obtain ⟨q0, q1⟩ := h
  match a with
  | ⟨0, _⟩ =>
    show p 0 * 256 ≤ (i 0).val ∧ (i 0).val < p 0 * 256 + 256
    omega
  | ⟨1, _⟩ =>
    show p 1 * 2048 ≤ (i 1).val ∧ (i 1).val < p 1 * 2048 + 2048
    omega

theorem out_4 (t : Fin cfg0.N) (r : Fin 256) (j : Fin 2048) :
    (outsAt0 m c t.val t.isLt).1 (ix2 r j) = dX m c (ix2 ⟨256 * t.val + r.val, row_lt t r⟩ j) := by
  by_cases h0 : t.val % 16 = 0
  · rw [outsAt0_A m c t h0]
    dsimp only
    rw [gA]
    exact pay7_blk m c t r j
  · rw [outsAt0_B m c t h0]
    dsimp only
    rw [gB]
    exact pay7_blk m c t r j

theorem flushed_4 (t : Fin cfg0.N) : (dats m 0 c).flushed 4 t = ((cfg0.win 4).blk t).view.read (Elt Ideal) (dX m c) := by
  rw [Value.flushed4]
  funext y
  have h0 : (y 0).val < 256 := (y 0).isLt
  have h1 : (y 1).val < 2048 := (y 1).isLt
  have hy : (cfg0.win 4).xinj (grid0.coords t) y = ix2 (⟨(y 0).val, h0⟩ : Fin 256) (⟨(y 1).val, h1⟩ : Fin 2048) := by
    funext a
    match a with
    | ⟨0, _⟩ => rfl
    | ⟨1, _⟩ => rfl
  have he : (((cfg0.win 4).blk t).view.emb y : S4096x2048.Idx) = ix2 ⟨256 * t.val + (y 0).val, row_lt t ⟨(y 0).val, h0⟩⟩ ⟨(y 1).val, h1⟩ :=
    in_rows t _ _ _ (index_4 t) rfl rfl
  show (outsAt0 m c t.val t.isLt).1 ((cfg0.win 4).xinj (grid0.coords t) y) = dX m c (((cfg0.win 4).blk t).view.emb y)
  rw [hy, he]
  exact out_4 m c t _ _

theorem mem_4 (t : Fin cfg0.N) (i : S4096x2048.Idx) :
    i ∈ ((cfg0.win 4).blk t).view.set ↔ ∀ a : Fin 2, win0_4.index t a * S256x2048.size a ≤ (i a).val ∧ (i a).val < win0_4.index t a * S256x2048.size a + S256x2048.size a := by
  show i ∈ ((View.whole main_v0_0).slice (win0_4.rect t)).set ↔ _
  rw [View.set_slice_whole, Rect.mem_set_unit]
  exact Iff.rfl

theorem covered_4 (i : S4096x2048.Idx) : ∃ t : Fin cfg0.N, (cfg0.win 4).flush t = true ∧ i ∈ ((cfg0.win 4).blk t).view.set :=
  ⟨holder i, flush0_4 _, (mem_4 _ i).2 (held i _ (index_4 _))⟩

theorem final_4 : (dats m 0 c).arrAt 4 cfg0.N = dX m c :=
  (dats m 0 c).arrAt_eq_of_cover 4 (dX m c) (fun t _ => flushed_4 m c t) (fun i => covered_4 i)

theorem out_5 (t : Fin cfg0.N) (r : Fin 256) (j : Fin 2048) :
    (outsAt0 m c t.val t.isLt).2.1 (ix2 r j) = dHalf m c (ix2 ⟨256 * t.val + r.val, row_lt t r⟩ j) := by
  by_cases h0 : t.val % 16 = 0
  · rw [outsAt0_A m c t h0]
    dsimp only
    rw [hA]
    exact (half_at _ _ _ _ r j).trans (congrArg (fun a : EReal => Ideal.ofBits .f32 0x3F000000#32 * a) (pay7_blk m c t r j))
  · rw [outsAt0_B m c t h0]
    dsimp only
    rw [hB]
    exact (half_at _ _ _ _ r j).trans (congrArg (fun a : EReal => Ideal.ofBits .f32 0x3F000000#32 * a) (pay7_blk m c t r j))

theorem flushed_5 (t : Fin cfg0.N) : (dats m 0 c).flushed 5 t = ((cfg0.win 5).blk t).view.read (Elt Ideal) (dHalf m c) := by
  rw [Value.flushed5]
  funext y
  have h0 : (y 0).val < 256 := (y 0).isLt
  have h1 : (y 1).val < 2048 := (y 1).isLt
  have hy : (cfg0.win 5).xinj (grid0.coords t) y = ix2 (⟨(y 0).val, h0⟩ : Fin 256) (⟨(y 1).val, h1⟩ : Fin 2048) := by
    funext a
    match a with
    | ⟨0, _⟩ => rfl
    | ⟨1, _⟩ => rfl
  have he : (((cfg0.win 5).blk t).view.emb y : S4096x2048.Idx) = ix2 ⟨256 * t.val + (y 0).val, row_lt t ⟨(y 0).val, h0⟩⟩ ⟨(y 1).val, h1⟩ :=
    in_rows t _ _ _ (index_5 t) rfl rfl
  show (outsAt0 m c t.val t.isLt).2.1 ((cfg0.win 5).xinj (grid0.coords t) y) = dHalf m c (((cfg0.win 5).blk t).view.emb y)
  rw [hy, he]
  exact out_5 m c t _ _

theorem mem_5 (t : Fin cfg0.N) (i : S4096x2048.Idx) :
    i ∈ ((cfg0.win 5).blk t).view.set ↔ ∀ a : Fin 2, win0_5.index t a * S256x2048.size a ≤ (i a).val ∧ (i a).val < win0_5.index t a * S256x2048.size a + S256x2048.size a := by
  show i ∈ ((View.whole main_v0_1).slice (win0_5.rect t)).set ↔ _
  rw [View.set_slice_whole, Rect.mem_set_unit]
  exact Iff.rfl

theorem covered_5 (i : S4096x2048.Idx) : ∃ t : Fin cfg0.N, (cfg0.win 5).flush t = true ∧ i ∈ ((cfg0.win 5).blk t).view.set :=
  ⟨holder i, flush0_5 _, (mem_5 _ i).2 (held i _ (index_5 _))⟩

theorem final_5 : (dats m 0 c).arrAt 5 cfg0.N = dHalf m c :=
  (dats m 0 c).arrAt_eq_of_cover 5 (dHalf m c) (fun t _ => flushed_5 m c t) (fun i => covered_5 i)

theorem flushed_6 (t : Fin cfg0.N) (hf : (cfg0.win 6).flush t = true) : (dats m 0 c).flushed 6 t = ((cfg0.win 6).blk t).view.read (Elt Ideal) (dG m c) := by
  rw [Value.flushed6]
  funext y
  have h1 : (y 1).val < 2048 := (y 1).isLt
  have hy : (cfg0.win 6).xinj (grid0.coords t) y = ix2 (0 : Fin 1) (⟨(y 1).val, h1⟩ : Fin 2048) := by
    funext a
    match a with
    | ⟨0, _⟩ => exact Subsingleton.elim (α := Fin 1) _ _
    | ⟨1, _⟩ => rfl
  have he : (((cfg0.win 6).blk t).view.emb y : S1x2048.Idx) 1 = ⟨(y 1).val, h1⟩ := Fin.ext (by
    show win0_6.index t (1 : Fin 2) * 2048 + 1 * (y 1).val = (y 1).val
    rw [(index_6 t).2]; omega)
  show (outsAt0 m c t.val t.isLt).2.2 ((cfg0.win 6).xinj (grid0.coords t) y) = dG m c (((cfg0.win 6).blk t).view.emb y)
  rw [hy]
  refine (sums m c t.val t.isLt 0 _).trans ?_
  rw [(flush0_6 t).1 hf]
  unfold dG
  rw [he]
  exact pieces_sum (fun k => term m c k ⟨(y 1).val, h1⟩) 16 256 4096 rfl

theorem mem_6 (t : Fin cfg0.N) (i : S1x2048.Idx) :
    i ∈ ((cfg0.win 6).blk t).view.set ↔ ∀ a : Fin 2, win0_6.index t a * S1x2048.size a ≤ (i a).val ∧ (i a).val < win0_6.index t a * S1x2048.size a + S1x2048.size a := by
  show i ∈ ((View.whole main_v0_2).slice (win0_6.rect t)).set ↔ _
  rw [View.set_slice_whole, Rect.mem_set_unit]
  exact Iff.rfl

theorem covered_6 (i : S1x2048.Idx) : ∃ t : Fin cfg0.N, (cfg0.win 6).flush t = true ∧ i ∈ ((cfg0.win 6).blk t).view.set := by
  have h0 : (i 0).val < 1 := (i 0).isLt
  have h1 : (i 1).val < 2048 := (i 1).isLt
  have hN : cfg0.N = 16 := N_0
  refine ⟨⟨15, by omega⟩, (flush0_6 _).2 rfl, (mem_6 _ i).2 fun a => ?_⟩
  obtain ⟨q0, q1⟩ := index_6 ⟨15, by omega⟩
  match a with
  | ⟨0, _⟩ =>
    show win0_6.index _ (0 : Fin 2) * 1 ≤ (i 0).val ∧ (i 0).val < win0_6.index _ (0 : Fin 2) * 1 + 1
    omega
  | ⟨1, _⟩ =>
    show win0_6.index _ (1 : Fin 2) * 2048 ≤ (i 1).val ∧ (i 1).val < win0_6.index _ (1 : Fin 2) * 2048 + 2048
    omega

theorem final_6 : (dats m 0 c).arrAt 6 cfg0.N = dG m c :=
  (dats m 0 c).arrAt_eq_of_cover 6 (dG m c) (fun t hf => flushed_6 m c t hf) (fun i => covered_6 i)

end Cert.Mat.K22

end
-- ==== Proof.Ffn.Norm.lean ====
/- The gradient of a row's norm: the kernel's form and that of the chain rule, over the extended reals. -/
module

public import proofs.«01_k».proof.Proof.Ffn.Common

@[expose] public section

noncomputable section

namespace Cert.Norm

open Idealize.ShloMosaic
open scoped BigOperators

/-- A sum times a non-negative real. -/
theorem sum_mul_real {n : ℕ} (f : Fin n → EReal) (ρ : ℝ) (h : 0 ≤ ρ) : (∑ k, f k) * (ρ : EReal) = ∑ k, f k * (ρ : EReal) := by
  induction n with
  | zero => simp
  | succ n ih =>
    rw [Fin.sum_univ_succ, Fin.sum_univ_succ, EReal.right_distrib_of_nonneg_of_ne_top (EReal.coe_nonneg.2 h) (EReal.coe_ne_top ρ), ih]

/-- Twice a real multiple. -/
theorem twice (s : EReal) (d : ℝ) : s * (d : EReal) + s * (d : EReal) = s * ((2 * d : ℝ) : EReal) := by
  have pos : ∀ (s : EReal) (d : ℝ), 0 ≤ d → s * (d : EReal) + s * (d : EReal) = s * ((2 * d : ℝ) : EReal) := fun s d h => by
    rw [two_mul, EReal.coe_add, EReal.left_distrib_of_nonneg (EReal.coe_nonneg.2 h) (EReal.coe_nonneg.2 h)]
  rcases le_total 0 d with h | h
  · exact pos s d h
  · have e := pos (-s) (-d) (by linarith)
    rw [show (2 * -d : ℝ) = -(2 * d) by ring, EReal.coe_neg, EReal.coe_neg, neg_mul_neg, neg_mul_neg] at e
    exact e

/-- A square is non-negative, at every extended real. -/
theorem sq_nonneg' (x : EReal) : 0 ≤ x * x := by
  induction x with
  | bot => simp
  | top => simp
  | coe r => exact_mod_cast mul_self_nonneg r

/-- A term of a real sum of squares is a real. -/
theorem real_of_sq {n : ℕ} (x : Fin n → EReal) (h : (∑ k, x k * x k) ≠ ⊤) (k : Fin n) : ∃ r : ℝ, x k = (r : EReal) := by
  have le : x k * x k ≤ ∑ k, x k * x k := Finset.single_le_sum (f := fun k => x k * x k) (fun i _ => sq_nonneg' (x i)) (Finset.mem_univ k)
  generalize hx : x k = y at le
  induction y with
  | bot => exact absurd (top_le_iff.1 (by simpa using le)) h
  | top => exact absurd (top_le_iff.1 (by simpa using le)) h
  | coe r => exact ⟨r, rfl⟩

/-- The chain rule's gradient is the kernel's, whatever the row holds: with an infinite value in it both are 0. -/
theorem grad {n : ℕ} (x a : Fin n → EReal) (N e h : EReal) (M E : ℝ) (hM : 0 < M) (hE : 0 < E) (hN : N = (M : EReal)) (he : e = (E : EReal))
    (hh : h = ((-1 / 2 : ℝ) : EReal)) (j : Fin n) :
    (a j * Ideal.rsqrt (Ideal.div (∑ k, x k * x k) N + e)
        + x j * Ideal.div ((∑ k, x k * a k) * (h * Ideal.div (Ideal.rsqrt (Ideal.div (∑ k, x k * x k) N + e)) (Ideal.div (∑ k, x k * x k) N + e))) N)
      + Ideal.div ((∑ k, x k * a k) * (h * Ideal.div (Ideal.rsqrt (Ideal.div (∑ k, x k * x k) N + e)) (Ideal.div (∑ k, x k * x k) N + e))) N * x j
      = Ideal.rsqrt (Ideal.div (∑ k, x k * x k) N + e)
        * (a j - (x j * Ideal.rsqrt (Ideal.div (∑ k, x k * x k) N + e))
          * Ideal.div (∑ k, a k * (x k * Ideal.rsqrt (Ideal.div (∑ k, x k * x k) N + e))) N) := by
  have dv : ∀ y : EReal, Ideal.div y N = y * ((M⁻¹ : ℝ) : EReal) := fun y => by
    unfold Ideal.div
    rw [hN, if_neg (by exact_mod_cast hM.ne'), EReal.coe_inv]
  have s0 : 0 ≤ ∑ k, x k * x k := Finset.sum_nonneg fun i _ => sq_nonneg' (x i)
  have hr := real_of_sq x
  generalize hX : (∑ k, x k * x k) = X at s0 hr
  induction X with
  | bot => exact absurd s0 (by simp)
  | top =>
    have v : Ideal.div ⊤ N + e = ⊤ := by
      rw [dv, he, EReal.top_mul_coe_of_pos (inv_pos.2 hM)]; rfl
    rw [v]
    have r0 : Ideal.rsqrt ⊤ = 0 := rfl
    have d0 : Ideal.div 0 ⊤ = 0 := by simp [Ideal.div]
    simp only [r0, d0, dv, mul_zero, zero_mul, add_zero]
  | coe s =>
    have hs : 0 ≤ s := EReal.coe_nonneg.1 s0
    have hw : 0 < s * M⁻¹ + E := by positivity
    have v : Ideal.div (s : EReal) N + e = ((s * M⁻¹ + E : ℝ) : EReal) := by
      rw [dv, he, EReal.coe_add, EReal.coe_mul]
    rw [v]
    generalize hW : s * M⁻¹ + E = w at hw
    have r : Ideal.rsqrt (w : EReal) = (((Real.sqrt w)⁻¹ : ℝ) : EReal) := by
      show (if w < 0 then ⊥ else if w = 0 then ⊤ else (((Real.sqrt w)⁻¹ : ℝ) : EReal)) = _
      rw [if_neg hw.not_gt, if_neg hw.ne']
    have dw : ∀ y : EReal, Ideal.div y (w : EReal) = y * ((w⁻¹ : ℝ) : EReal) := fun y => by
      unfold Ideal.div
      rw [if_neg (by exact_mod_cast hw.ne'), EReal.coe_inv]
    have hq : (Real.sqrt w)⁻¹ * (Real.sqrt w)⁻¹ = w⁻¹ := by
      rw [← mul_inv, Real.mul_self_sqrt hw.le]
    have hρ : 0 ≤ (Real.sqrt w)⁻¹ := inv_nonneg.2 (Real.sqrt_nonneg w)
    rw [r]
    generalize (Real.sqrt w)⁻¹ = ρ at hq hρ
    obtain ⟨z, hz⟩ := hr (EReal.coe_ne_top s) j
    have hS : (∑ k, a k * (x k * (ρ : EReal))) = (∑ k, x k * a k) * (ρ : EReal) := by
      rw [sum_mul_real _ _ hρ]
      exact Finset.sum_congr rfl fun k _ => by rw [← mul_assoc, mul_comm (a k)]
    rw [hS]
    generalize (∑ k, x k * a k) = S
    generalize a j = b
    rw [hz, hh]
    simp only [dv, dw]
    have k1 : (z : EReal) * (S * (((-1 / 2 : ℝ) : EReal) * ((ρ : EReal) * ((w⁻¹ : ℝ) : EReal))) * ((M⁻¹ : ℝ) : EReal))
        = S * ((-(z * ρ * w⁻¹ * M⁻¹) / 2 : ℝ) : EReal) := by
      rw [show (-(z * ρ * w⁻¹ * M⁻¹) / 2 : ℝ) = z * ((-1 / 2) * (ρ * w⁻¹)) * M⁻¹ by ring]
      push_cast
      ac_rfl
    have k2 : (ρ : EReal) * ((z : EReal) * (ρ : EReal) * (S * (ρ : EReal) * ((M⁻¹ : ℝ) : EReal))) = S * ((z * ρ * w⁻¹ * M⁻¹ : ℝ) : EReal) := by
      rw [← hq, show (z * ρ * (ρ * ρ) * M⁻¹ : ℝ) = ρ * (z * ρ) * ρ * M⁻¹ by ring]
      simp only [EReal.coe_mul]
      ac_rfl
    rw [mul_comm _ (z : EReal), k1, add_assoc, twice, sub_eq_add_neg,
      EReal.left_distrib_of_nonneg_of_ne_top (EReal.coe_nonneg.2 hρ) (EReal.coe_ne_top ρ), mul_neg, k2, mul_comm b,
      show (2 * (-(z * ρ * w⁻¹ * M⁻¹) / 2) : ℝ) = -(z * ρ * w⁻¹ * M⁻¹) by ring, EReal.coe_neg, mul_neg]

end Cert.Norm

end
-- ==== Proof.Ffn.K22.lean ====
/- The kernel of the norm's gradient and its reference: both give the same three results. -/
module

public import proofs.«01_k».proof.Proof.Ffn.K22Fold
public import proofs.«01_k».proof.Proof.Ffn.Norm
public import proofs.«01_k».proof.Defs
public import proofs.«01_k».proof.Proof.Gen.Reference22Ideal.Run
public import proofs.«01_k».proof.Proof.Gen.Reference22Ideal.Read

@[expose] public section

set_option maxRecDepth 16384

noncomputable section

namespace Cert.Mat.K22

open Idealize.ShloMosaic.ValueIdx
open Idealize.ShloMosaic hiding ix1 ix2 ix3 eq_ix1 eq_ix2 eq_ix3
open Idealize.ShloMosaic.TcCoe Idealize.SL.Sem
open scoped BigOperators

/-! ## The constants -/

theorem count_word : Ideal.ofBits .f32 0x45000000#32 = ((2048 : ℝ) : EReal) := by
  simp only [Ideal.ofBits, Ideal.ieee]
  simp
  rw [← EReal.coe_mul]
  exact congrArg _ (by norm_num)

theorem minus_half_word : Ideal.ofBits .f32 0xBF000000#32 = ((-1 / 2 : ℝ) : EReal) := by
  simp only [Ideal.ofBits, Ideal.ieee]
  simp
  rw [← EReal.coe_mul, ← EReal.coe_neg]
  exact congrArg _ (by norm_num)

/-- The number added under the root, which is near 1e-6. -/
theorem eps_word : ∃ E : ℝ, 0 < E ∧ Ideal.ofBits .f32 0x358637BD#32 = (E : EReal) := by
  simp only [Ideal.ofBits, Ideal.ieee]
  simp
  exact ⟨_, by norm_num, (EReal.coe_mul (8796093 : ℝ) ((2 ^ 43 : ℝ)⁻¹)).symm⟩

/-! ## The reference -/

section reference
open Cert.Reference22Ideal Cert.Reference22Ideal.Gen Cert.Reference22Ideal.Read

variable (x0 : (⟨S4096x2048, .f32⟩ : BufTy).Contents (Elt Ideal)) (x1 : (⟨S1x2048, .f32⟩ : BufTy).Contents (Elt Ideal))
  (x2 : (⟨S4096x2048, .bf16⟩ : BufTy).Contents (Elt Ideal)) (x3 : (⟨S4096x2048, .f32⟩ : BufTy).Contents (Elt Ideal))

theorem zero_plus (s : EReal) : Ideal.ofBits .f32 0x00000000#32 + s = s := by rw [Ideal.ofBits_zero_f32, zero_add]

/-- A row. -/
abbrev row (r : Fin 4096) : Fin 2048 → EReal := fun k => (x0 : S4096x2048.Idx → EReal) (ix2 r k)
/-- The gradient of a normalised row. -/
abbrev rowGrad (r : Fin 4096) : Fin 2048 → EReal := fun k => (x2 : S4096x2048.Idx → EReal) (ix2 r k) * (x1 : S1x2048.Idx → EReal) (ix2 (0 : Fin 1) k)

theorem squares (r : Fin 4096) : val_main_v2 x0 (ix1 r) = ∑ k, row x0 r k * row x0 r k := by
  refine (val_main_v2_apply x0 (ix1 r)).trans ((zero_plus _).trans (Finset.sum_congr rfl fun k _ => ?_))
  have e : idx_main_v2 (ix1 r) k = ix2 r k := by
    funext a
    match a with
    | ⟨0, _⟩ => rfl
    | ⟨1, _⟩ => rfl
  exact congrArg (val_main_v1 x0) e

theorem under (r : Fin 4096) : val_main_v7 x0 (ix2 r (0 : Fin 1)) = mean (∑ k, row x0 r k * row x0 r k) + Ideal.ofBits .f32 0x358637BD#32 := by
  have e : val_main_v3 x0 (ix2 r (0 : Fin 1)) = ∑ k, row x0 r k * row x0 r k := by
    refine (val_main_v3_apply x0 _).trans ((congrArg (val_main_v2 x0) ?_).trans (squares x0 r))
    funext a
    match a with
    | ⟨0, _⟩ => rfl
  exact congrArg (fun s => mean s + Ideal.ofBits .f32 0x358637BD#32) e

theorem root_ref (r : Fin 4096) : val_main_v8 x0 (ix2 r (0 : Fin 1)) = root (row x0 r) := congrArg Ideal.rsqrt (under x0 r)

theorem norm_ref (r : Fin 4096) (j : Fin 2048) : val_main_v13 x0 (ix2 r j) = row x0 r j * root (row x0 r) := by
  have e : idx_main_v12 (ix2 r j) = ix2 r (0 : Fin 1) := by
    funext a
    match a with
    | ⟨0, _⟩ => rfl
    | ⟨1, _⟩ => rfl
  refine congrArg (fun a : EReal => row x0 r j * a) ?_
  exact (val_main_v12_apply x0 _).trans ((congrArg (val_main_v8 x0) e).trans (root_ref x0 r))

theorem gain_ref (r : Fin 4096) (j : Fin 2048) : val_main_v22 x1 x2 (ix2 r j) = rowGrad x1 x2 r j := by
  refine congrArg (fun a : EReal => (x2 : S4096x2048.Idx → EReal) (ix2 r j) * a) ?_
  refine (val_main_v21_apply x1 _).trans ((val_main_v14_apply x1 _).trans ((val_main_v0_apply x1 _).trans (congrArg (x1 : S1x2048.Idx → EReal) ?_)))
  funext a; apply Fin.ext
  match a with
  | ⟨0, _⟩ => exact congrArg Fin.val (Subsingleton.elim (α := Fin 1) _ _)
  | ⟨1, _⟩ => first | rfl | exact Nat.mod_eq_of_lt j.isLt

/-- The gradient of a row through the mean square of it, for each of its elements the same. -/
def through (f a : Fin 2048 → EReal) : EReal :=
  Ideal.div ((∑ k, f k * a k) * (Ideal.ofBits .f32 0xBF000000#32 * Ideal.div (root f) (mean (∑ k, f k * f k) + Ideal.ofBits .f32 0x358637BD#32)))
    (Ideal.ofBits .f32 0x45000000#32)

theorem through_ref (r : Fin 4096) (j : Fin 2048) : val_main_v33 x0 x1 x2 (ix2 r j) = through (row x0 r) (rowGrad x1 x2 r) := by
  have e25 : val_main_v25 x0 x1 x2 (ix1 r) = ∑ k, row x0 r k * rowGrad x1 x2 r k := by
    refine (val_main_v25_apply x0 x1 x2 (ix1 r)).trans ((zero_plus _).trans (Finset.sum_congr rfl fun k _ => ?_))
    have e : idx_main_v25 (ix1 r) k = ix2 r k := by
      funext a
      match a with
      | ⟨0, _⟩ => rfl
      | ⟨1, _⟩ => rfl
    refine (congrArg (val_main_v24 x0 x1 x2) e).trans ?_
    exact congrArg (fun a : EReal => row x0 r k * a) (gain_ref x1 x2 r k)
  have e26 : val_main_v26 x0 x1 x2 (ix2 r (0 : Fin 1)) = ∑ k, row x0 r k * rowGrad x1 x2 r k := by
    have e : idx_main_v26 (ix2 r (0 : Fin 1)) = ix1 r := by
      funext a; apply Fin.ext
      match a with
      | ⟨0, _⟩ => show r.val * 1 + 0 = r.val; omega
    exact (val_main_v26_apply x0 x1 x2 _).trans ((congrArg (val_main_v25 x0 x1 x2) e).trans e25)
  have e31 : val_main_v31 x0 x1 x2 (ix2 r (0 : Fin 1)) = through (row x0 r) (rowGrad x1 x2 r) := by
    refine congrArg (fun a => Ideal.div a (Ideal.ofBits .f32 0x45000000#32)) (congrArg₂ (fun a b : EReal => a * b) e26 ?_)
    exact congrArg (fun a : EReal => Ideal.ofBits .f32 0xBF000000#32 * a) (congrArg₂ Ideal.div (root_ref x0 r) (under x0 r))
  refine (val_main_v33_apply x0 x1 x2 _).trans ((val_main_v32_apply x0 x1 x2 _).trans ((zero_plus _).trans ((Fin.sum_univ_one _).trans ?_)))
  refine (congrArg (val_main_v31 x0 x1 x2) ?_).trans e31
  funext a
  match a with
  | ⟨0, _⟩ => rfl
  | ⟨1, _⟩ => rfl

theorem grad_ref (r : Fin 4096) (j : Fin 2048) : val_main_v37 x0 x1 x2 (ix2 r j) = grad (row x0 r) (rowGrad x1 x2 r) j := by
  obtain ⟨E, hE, he⟩ := eps_word
  refine Eq.trans ?_ (Cert.Norm.grad (row x0 r) (rowGrad x1 x2 r) _ _ _ 2048 E (by norm_num) hE count_word he minus_half_word j)
  have e : val_main_v27 x0 (ix2 r j) = root (row x0 r) := by
    have e : idx_main_v27 (ix2 r j) = ix2 r (0 : Fin 1) := by
      funext a
      match a with
      | ⟨0, _⟩ => rfl
      | ⟨1, _⟩ => rfl
    exact (val_main_v27_apply x0 _).trans ((congrArg (val_main_v8 x0) e).trans (root_ref x0 r))
  have w := through_ref x0 x1 x2 r j
  exact congrArg₂ (fun a b : EReal => a + b)
    (congrArg₂ (fun a b : EReal => a + b) (congrArg₂ (fun a b : EReal => a * b) (gain_ref x1 x2 r j) e) (congrArg (fun a : EReal => row x0 r j * a) w))
    (congrArg (fun a : EReal => a * row x0 r j) w)

theorem dx_ref (r : Fin 4096) (j : Fin 2048) :
    val_main_v38 x0 x1 x2 x3 (ix2 r j) = (x3 : S4096x2048.Idx → EReal) (ix2 r j) + grad (row x0 r) (rowGrad x1 x2 r) j :=
  congrArg (fun a : EReal => (x3 : S4096x2048.Idx → EReal) (ix2 r j) + a) (grad_ref x0 x1 x2 r j)

theorem half_ref (i : S4096x2048.Idx) : val_main_v41 x0 x1 x2 x3 i = Ideal.ofBits .f32 0x3F000000#32 * val_main_v38 x0 x1 x2 x3 i := rfl

theorem dg_ref (j : Fin 2048) :
    val_main_v42 x0 x2 (ix2 (0 : Fin 1) j) = ∑ k : Fin 4096, (x2 : S4096x2048.Idx → EReal) (ix2 k j) * (row x0 k j * root (row x0 k)) := by
  refine (val_main_v42_apply x0 x2 _).trans ((val_main_v23_apply x0 x2 _).trans ((zero_plus _).trans ((Fin.sum_univ_one _).trans ?_)))
  refine (val_main_v20_apply x0 x2 _).trans ((val_main_v19_apply x0 x2 _).trans ((zero_plus _).trans (Finset.sum_congr rfl fun k _ => ?_)))
  refine (congrArg (val_main_v18 x0 x2) (?_ : _ = ix2 k j)).trans ?_
  · funext a; apply Fin.ext
    match a with
    | ⟨0, _⟩ => rfl
    | ⟨1, _⟩ => first | rfl | (show 0 * 2048 + j.val = j.val; omega)
  · exact (congrArg (fun a : EReal => a * (x2 : S4096x2048.Idx → EReal) (ix2 k j)) (norm_ref x0 k j)).trans (mul_comm _ _)

end reference

/-- The reference runs, gives its arguments back and, having no semaphores, leaves none raised. -/
theorem reference_runs : Cert.quiescent_Reference22Ideal (hReference22Ideal := Cert.Reference22Ideal.Gen.facts) := fun m ρ _ =>
  (θ_run _ _ _).mono (fun _ h => And.intro (fun c => (h c).2.2.2) (sem_eq_zero_of_no_sems (by decide) _)) (Cert.Reference22Ideal.Value.run m ρ)

/-! ## The two programs' results -/

theorem equal : Cert.algebraic_Kernel22Ideal_Reference22Ideal (hKernel22Ideal := Cert.Kernel22Ideal.Gen.facts)
    (hReference22Ideal := Cert.Reference22Ideal.Gen.facts) := by
  intro m g m' g' _ ha
  refine ⟨fun c => dX m c, fun c => dHalf m c, fun c => dG m c, ?_, ?_⟩
  · refine (θ_run _ _ _).mono (fun r h c => ?_) (Cert.Kernel22Ideal.Value.run_blocks m g)
    obtain ⟨h0, h1, h2, h3⟩ := h c
    exact ⟨h0.trans (final_4 m c), h1.trans (final_5 m c), h2.trans (final_6 m c), h3⟩
  · refine (θ_run _ _ _).mono (fun r h c => ?_) (Cert.Reference22Ideal.Value.run m' g')
    obtain ⟨h0, h1, h2, h3⟩ := h c
    obtain ⟨a0, a1, a2, a3⟩ := ha c
    refine ⟨h0.trans ?_, h1.trans ?_, h2.trans ?_, h3⟩
    · refine (Cert.Reference22Ideal.Read.val_main_v38_eq m' c).trans (ext2 fun r d => ?_)
      rw [a0, a1, a2, a3]
      exact dx_ref _ _ _ _ r d
    · refine (Cert.Reference22Ideal.Read.val_main_v41_eq m' c).trans (ext2 fun r d => ?_)
      rw [a0, a1, a2, a3]
      exact (half_ref _ _ _ _ _).trans (congrArg (fun a : EReal => Ideal.ofBits .f32 0x3F000000#32 * a) (dx_ref _ _ _ _ r d))
    · refine (Cert.Reference22Ideal.Read.val_main_v42_eq _ _).trans (ext2 fun r d => ?_)
      rw [a0, a2]
      obtain rfl : r = 0 := Subsingleton.elim _ _
      refine (dg_ref _ _ d).trans (Finset.sum_congr rfl fun k _ => ?_)
      unfold term
      rw [dif_pos k.isLt]

end Cert.Mat.K22

end
-- ==== Proof.Ffn.K23Block.lean ====
/- The kernel of the first norm's gradient: what each grid point writes. -/
module

public import proofs.«01_k».proof.Proof.Gen.Kernel23Ideal.Frame
public import proofs.«01_k».proof.Proof.Ffn.Common

@[expose] public section

set_option maxRecDepth 16384

noncomputable section

namespace Cert.Mat.K23

open Cert.Kernel23Ideal Cert.Kernel23Ideal.Gen Idealize.ShloMosaic Idealize.ShloMosaic.ValueIdx
open Idealize.ShloMosaic.TcCoe Idealize.SL.Sem

section points
variable (c : Dev nD) (i : grid0.Coords)
  (arg1 : Memref sig .tc .vmem S256x2048 .f32) (harg1 : arg1.IsWhole)
  (arg2 : Memref sig .tc .vmem S1x2048 .f32) (harg2 : arg2.IsWhole)
  (arg3 : Memref sig .tc .vmem S256x2048 .bf16) (harg3 : arg3.IsWhole)
  (arg4 : Memref sig .tc .vmem S256x2048 .f32) (harg4 : arg4.IsWhole)
  (arg5 : Memref sig .tc .vmem S256x2048 .f32) (harg5 : arg5.IsWhole)
  (arg6 : Memref sig .tc .vmem S256x2048 .bf16) (harg6 : arg6.IsWhole)
  (arg7 : Memref sig .tc .vmem S1x2048 .f32) (harg7 : arg7.IsWhole)
  (x0 : Vec Ideal S256x2048 .f32) (x1 : Vec Ideal S1x2048 .f32) (x2 : Vec Ideal S256x2048 .bf16) (x3 : Vec Ideal S256x2048 .f32)
  (xs : Vec Ideal S1x2048 .f32)

/-! The gradient of the residual, its cast, and the running sums of the gain's gradient: at the first point (A) and at a later one (B). -/

theorem gA (hc0 : cond0_0 i) :
    out0_A_4 c i arg1 harg1 arg2 harg2 arg3 harg3 arg4 harg4 arg5 harg5 arg6 harg6 arg7 harg7 hc0 x0 x1 x2 x3 = k0_pay7 x0 x1 x2 x3 := by
  unfold out0_A_4 kernelRun0_A
  dsimp only
  refine (write2 _ _ _ _ _).trans ?_
  simp only [readAt2]

theorem gB (hc0 : ¬cond0_0 i) :
    out0_B_4 c i arg1 harg1 arg2 harg2 arg3 harg3 arg4 harg4 arg5 harg5 arg6 harg6 arg7 harg7 hc0 x0 x1 x2 x3 xs = k0_pay7 x0 x1 x2 x3 := by
  unfold out0_B_4 kernelRun0_B
  dsimp only
  refine (write2 _ _ _ _ _).trans ?_
  simp only [readAt2]

theorem hA (hc0 : cond0_0 i) :
    out0_A_5 c i arg1 harg1 arg2 harg2 arg3 harg3 arg4 harg4 arg5 harg5 arg6 harg6 arg7 harg7 hc0 x0 x1 x2 x3 = k0_pay8 x0 x1 x2 x3 := by
  unfold out0_A_5 kernelRun0_A
  dsimp only
  refine (write2 _ _ _ _ _).trans ?_
  simp only [readAt2]

theorem hB (hc0 : ¬cond0_0 i) :
    out0_B_5 c i arg1 harg1 arg2 harg2 arg3 harg3 arg4 harg4 arg5 harg5 arg6 harg6 arg7 harg7 hc0 x0 x1 x2 x3 xs = k0_pay8 x0 x1 x2 x3 := by
  unfold out0_B_5 kernelRun0_B
  dsimp only
  refine (write2 _ _ _ _ _).trans ?_
  simp only [readAt2]

theorem sA (hc0 : cond0_0 i) :
    out0_A_6 c i arg1 harg1 arg2 harg2 arg3 harg3 arg4 harg4 arg5 harg5 arg6 harg6 arg7 harg7 hc0 x0 x1 x2 x3 = k0_pay2 (k0_pay6 x0 x2) (k0_pay1 (F := Ideal)) := by
  unfold out0_A_6 kernelRun0_A
  dsimp only
  refine (write2 _ _ _ _ _).trans ?_
  unfold kernelRun0_A.sl.r kernelRun0_A.sl.v39 kernelRun0_A.sl.H6_1
  simp only [readAt2, readCov2]

theorem sB (hc0 : ¬cond0_0 i) :
    out0_B_6 c i arg1 harg1 arg2 harg2 arg3 harg3 arg4 harg4 arg5 harg5 arg6 harg6 arg7 harg7 hc0 x0 x1 x2 x3 xs = k0_pay2 (k0_pay6 x0 x2) xs := by
  unfold out0_B_6 kernelRun0_B
  dsimp only
  refine (write2 _ _ _ _ _).trans ?_
  unfold kernelRun0_B.sl.r
  simp only [readAt2, readCov2]

end points

end Cert.Mat.K23

end
-- ==== Proof.Ffn.K23Fold.lean ====
/- The kernel of the first norm's gradient: the blocks of a grid point, the running sums, and the three results. -/
module

public import proofs.«01_k».proof.Proof.Ffn.K23Block
public import proofs.«01_k».proof.Proof.Ffn.K22Fold
public import proofs.«01_k».proof.Proof.Ffn.Silu
public import proofs.«01_k».proof.Proof.Ffn.Layout
public import proofs.«01_k».proof.Proof.Gen.Kernel23Ideal.Value
public import Idealize.ShloMosaic.Lib.StableHlo.ReadAt

@[expose] public section

set_option maxRecDepth 16384

noncomputable section

namespace Cert.Mat.K23

open Cert.Kernel23Ideal Cert.Kernel23Ideal.Gen Idealize.ShloMosaic.ValueIdx
open Idealize.ShloMosaic hiding ix1 ix2 ix3 eq_ix1 eq_ix2 eq_ix3
open Idealize.ShloMosaic.TcCoe Idealize.SL.Sem
open scoped BigOperators

/-! ## The blocks -/

theorem pt_lt (t : Fin cfg0.N) : t.val < 16 := lt_of_lt_of_eq t.isLt (show cfg0.N = 16 from N_0)

theorem index_0 : ∀ t : Fin cfg0.N, win0_0.index t (0 : Fin 2) = t.val ∧ win0_0.index t (1 : Fin 2) = 0 := by decide +kernel
theorem index_1 : ∀ t : Fin cfg0.N, win0_1.index t (0 : Fin 2) = 0 ∧ win0_1.index t (1 : Fin 2) = 0 := by decide +kernel
theorem index_2 : ∀ t : Fin cfg0.N, win0_2.index t (0 : Fin 2) = t.val ∧ win0_2.index t (1 : Fin 2) = 0 := by decide +kernel
theorem index_3 : ∀ t : Fin cfg0.N, win0_3.index t (0 : Fin 2) = t.val ∧ win0_3.index t (1 : Fin 2) = 0 := by decide +kernel
theorem index_4 : ∀ t : Fin cfg0.N, win0_4.index t (0 : Fin 2) = t.val ∧ win0_4.index t (1 : Fin 2) = 0 := by decide +kernel
theorem index_5 : ∀ t : Fin cfg0.N, win0_5.index t (0 : Fin 2) = t.val ∧ win0_5.index t (1 : Fin 2) = 0 := by decide +kernel
theorem index_6 : ∀ t : Fin cfg0.N, win0_6.index t (0 : Fin 2) = 0 ∧ win0_6.index t (1 : Fin 2) = 0 := by decide +kernel

variable (m : (ℓ : Loc nD τ sig) → Buf (Elt Ideal) ℓ) (c : Dev nD)

/-- The rows that are normalised. -/
abbrev aX : S4096x2048.Idx → EReal := m ((c : Thread nD τ).loc main_arg0)
/-- The gain. -/
abbrev aG : S1x2048.Idx → EReal := m ((c : Thread nD τ).loc main_arg1)
/-- The gradient of the norm's result. -/
abbrev aH : S4096x2048.Idx → EReal := m ((c : Thread nD τ).loc main_arg2)
/-- The residual's gradient. -/
abbrev aD : S4096x2048.Idx → EReal := m ((c : Thread nD τ).loc main_arg3)

theorem row_lt (t : Fin cfg0.N) (r : Fin 256) : 256 * t.val + r.val < 4096 := by
  have := pt_lt t
  have := r.isLt
  omega

/-- Where an element of a block of rows lies. -/
theorem in_rows (t : Fin cfg0.N) (r : Fin 256) (k : Fin 2048) (y : S4096x2048.Idx) {p q : ℕ} (h : p = t.val ∧ q = 0)
    (h0 : (y 0).val = p * 256 + 1 * r.val) (h1 : (y 1).val = q * 2048 + 1 * k.val) : y = ix2 ⟨256 * t.val + r.val, row_lt t r⟩ k := by
  funext a; apply Fin.ext
  match a with
  | ⟨0, _⟩ => show (y 0).val = 256 * t.val + r.val; omega
  | ⟨1, _⟩ => show (y 1).val = k.val; omega

theorem blk_0 (t : Fin cfg0.N) (r : Fin 256) (k : Fin 2048) :
    (iblk m c 0 t : Vec Ideal S256x2048 .f32) (ix2 r k) = aX m c (ix2 ⟨256 * t.val + r.val, row_lt t r⟩ k) := by
  have e : (iblk m c 0 t : Vec Ideal S256x2048 .f32) (ix2 r k)
      = (V m c main_arg0 : S4096x2048.Idx → EReal) (((cfg0.win 0).blk t).view.emb (ix2 r k)) := rfl
  rw [e, V_main_arg0]
  exact congrArg (aX m c) (in_rows t r k _ (index_0 t) rfl rfl)

theorem blk_1 (t : Fin cfg0.N) (k : Fin 2048) : (iblk m c 1 t : Vec Ideal S1x2048 .f32) (ix2 (0 : Fin 1) k) = aG m c (ix2 (0 : Fin 1) k) := by
  have e : (iblk m c 1 t : Vec Ideal S1x2048 .f32) (ix2 (0 : Fin 1) k)
      = (V m c main_arg1 : S1x2048.Idx → EReal) (((cfg0.win 1).blk t).view.emb (ix2 (0 : Fin 1) k)) := rfl
  rw [e, V_main_arg1]
  refine congrArg (aG m c) (funext fun a => Fin.ext ?_)
  match a with
  | ⟨0, _⟩ =>
    show win0_1.index t (0 : Fin 2) * 1 + 1 * 0 = 0
    rw [(index_1 t).1]
  | ⟨1, _⟩ =>
    show win0_1.index t (1 : Fin 2) * 2048 + 1 * k.val = k.val
    rw [(index_1 t).2]; omega

theorem blk_2 (t : Fin cfg0.N) (r : Fin 256) (k : Fin 2048) :
    (iblk m c 2 t : Vec Ideal S256x2048 .bf16) (ix2 r k) = aH m c (ix2 ⟨256 * t.val + r.val, row_lt t r⟩ k) := by
  have e : (iblk m c 2 t : Vec Ideal S256x2048 .bf16) (ix2 r k)
      = (V m c main_arg2 : S4096x2048.Idx → EReal) (((cfg0.win 2).blk t).view.emb (ix2 r k)) := rfl
  rw [e, V_main_arg2]
  exact congrArg (aH m c) (in_rows t r k _ (index_2 t) rfl rfl)

theorem blk_3 (t : Fin cfg0.N) (r : Fin 256) (k : Fin 2048) :
    (iblk m c 3 t : Vec Ideal S256x2048 .f32) (ix2 r k) = aD m c (ix2 ⟨256 * t.val + r.val, row_lt t r⟩ k) := by
  have e : (iblk m c 3 t : Vec Ideal S256x2048 .f32) (ix2 r k)
      = (V m c main_arg3 : S4096x2048.Idx → EReal) (((cfg0.win 3).blk t).view.emb (ix2 r k)) := rfl
  rw [e, V_main_arg3]
  exact congrArg (aD m c) (in_rows t r k _ (index_3 t) rfl rfl)

/-! ## The results -/

/-- The gradient of the residual, with that through the norm. -/
def dX : S4096x2048.Idx → EReal := fun i =>
  aD m c i + K22.grad (fun k => aX m c (ix2 (i 0) k)) (fun k => aH m c (ix2 (i 0) k) * aG m c (ix2 (0 : Fin 1) k)) (i 1)
/-- What row `k` adds to the gradient of the gain. -/
def term (k : ℕ) (j : Fin 2048) : EReal :=
  if h : k < 4096 then aH m c (ix2 ⟨k, h⟩ j) * (aX m c (ix2 ⟨k, h⟩ j) * K22.root fun i => aX m c (ix2 ⟨k, h⟩ i)) else 0
/-- The gradient of the gain. -/
def dG : S1x2048.Idx → EReal := fun i => ∑ k : Fin 4096, term m c k.val (i 1)

theorem pay7_blk (t : Fin cfg0.N) (r : Fin 256) (j : Fin 2048) :
    k0_pay7 (F := Ideal) (iblk m c 0 t) (iblk m c 1 t) (iblk m c 2 t) (iblk m c 3 t) (ix2 r j) = dX m c (ix2 ⟨256 * t.val + r.val, row_lt t r⟩ j) := by
  refine (K22.grad_at _ _ _ _ r j).trans (congrArg₂ (fun a b : EReal => a + b) (blk_3 m c t r j) ?_)
  exact congrArg₂ (fun f a => K22.grad f a j) (funext fun k => blk_0 m c t r k)
    (funext fun k => congrArg₂ (fun a b : EReal => a * b) (blk_2 m c t r k) (blk_1 m c t k))

theorem cast_blk (t : Fin cfg0.N) (r : Fin 256) (j : Fin 2048) :
    k0_pay8 (F := Ideal) (iblk m c 0 t) (iblk m c 1 t) (iblk m c 2 t) (iblk m c 3 t) (ix2 r j) = dX m c (ix2 ⟨256 * t.val + r.val, row_lt t r⟩ j) := by
  have e : k0_pay8 (F := Ideal) (iblk m c 0 t) (iblk m c 1 t) (iblk m c 2 t) (iblk m c 3 t) (ix2 r j)
      = Ideal.ofBits .f32 0x3F800000#32 * k0_pay7 (F := Ideal) (iblk m c 0 t) (iblk m c 1 t) (iblk m c 2 t) (iblk m c 3 t) (ix2 r j) := rfl
  rw [e, one_word, one_mul]
  exact pay7_blk m c t r j

theorem upd_blk (t : Fin cfg0.N) (acc : Vec Ideal S1x2048 .f32) (r : Fin 1) (j : Fin 2048) :
    k0_pay2 (k0_pay6 (F := Ideal) (iblk m c 0 t) (iblk m c 2 t)) acc (ix2 r j) = acc (ix2 r j) + ∑ k : Fin 256, term m c (256 * (t.val % 16) + k.val) j := by
  refine (K22.upd_at _ _ _ r j).trans (congrArg (fun a : EReal => acc (ix2 r j) + a) (Finset.sum_congr rfl fun k _ => ?_))
  have e : 256 * (t.val % 16) + k.val = 256 * t.val + k.val := by rw [Nat.mod_eq_of_lt (pt_lt t)]
  unfold term
  rw [e, dif_pos (row_lt t k)]
  exact congrArg₂ (fun a b : EReal => a * b) (blk_2 m c t k j)
    (congrArg₂ (fun a b : EReal => a * b) (blk_0 m c t k j) (congrArg K22.root (funext fun i => blk_0 m c t k i)))

theorem sums : ∀ (t : ℕ) (h : t < cfg0.N) (r : Fin 1) (j : Fin 2048),
    (outsAt0 m c t h).2.2 (ix2 r j) = ∑ s ∈ Finset.range (t % 16 + 1), ∑ k : Fin 256, term m c (256 * s + k.val) j := by
  refine run_sum 16 cfg0.N (by decide) (fun t h r j => (outsAt0 m c t h).2.2 (ix2 r j)) (fun _ s _ j => ∑ k : Fin 256, term m c (256 * s + k.val) j) ?_ ?_
  · intro t h r j h0
    rw [outsAt0_A m c ⟨t, h⟩ h0]
    dsimp only
    rw [sA]
    exact (upd_blk m c ⟨t, h⟩ _ r j).trans (congrArg (· + _) (K22.zero_at r j))
  · intro t h r j h0
    rw [outsAt0_B m c ⟨t, h⟩ h0]
    dsimp only
    rw [sB]
    exact upd_blk m c ⟨t, h⟩ _ r j

/-- The point whose block holds an element. -/
def holder (i : S4096x2048.Idx) : Fin cfg0.N := ⟨(i 0).val / 256, by
  have h0 : (i 0).val < 4096 := (i 0).isLt
  have hN : cfg0.N = 16 := N_0
  omega⟩

theorem held (i : S4096x2048.Idx) (p : Fin 2 → ℕ) (h : p 0 = (holder i).val ∧ p 1 = 0) (a : Fin 2) :
    p a * S256x2048.size a ≤ (i a).val ∧ (i a).val < p a * S256x2048.size a + S256x2048.size a := by
  have h1 : (i 1).val < 2048 := (i 1).isLt
  have ht : (holder i).val = (i 0).val / 256 := rfl
  obtain ⟨q0, q1⟩ := h
  match a with
  | ⟨0, _⟩ =>
    show p 0 * 256 ≤ (i 0).val ∧ (i 0).val < p 0 * 256 + 256
    omega
  | ⟨1, _⟩ =>
    show p 1 * 2048 ≤ (i 1).val ∧ (i 1).val < p 1 * 2048 + 2048
    omega

theorem out_4 (t : Fin cfg0.N) (r : Fin 256) (j : Fin 2048) :
    (outsAt0 m c t.val t.isLt).1 (ix2 r j) = dX m c (ix2 ⟨256 * t.val + r.val, row_lt t r⟩ j) := by
  by_cases h0 : t.val % 16 = 0
  · rw [outsAt0_A m c t h0]
    dsimp only
    rw [gA]
    exact pay7_blk m c t r j
  · rw [outsAt0_B m c t h0]
    dsimp only
    rw [gB]
    exact pay7_blk m c t r j

theorem flushed_4 (t : Fin cfg0.N) : (dats m 0 c).flushed 4 t = ((cfg0.win 4).blk t).view.read (Elt Ideal) (dX m c) := by
  rw [Value.flushed4]
  funext y
  have h0 : (y 0).val < 256 := (y 0).isLt
  have h1 : (y 1).val < 2048 := (y 1).isLt
  have hy : (cfg0.win 4).xinj (grid0.coords t) y = ix2 (⟨(y 0).val, h0⟩ : Fin 256) (⟨(y 1).val, h1⟩ : Fin 2048) := by
    funext a
    match a with
    | ⟨0, _⟩ => rfl
    | ⟨1, _⟩ => rfl
  have he : (((cfg0.win 4).blk t).view.emb y : S4096x2048.Idx) = ix2 ⟨256 * t.val + (y 0).val, row_lt t ⟨(y 0).val, h0⟩⟩ ⟨(y 1).val, h1⟩ :=
    in_rows t _ _ _ (index_4 t) rfl rfl
  show (outsAt0 m c t.val t.isLt).1 ((cfg0.win 4).xinj (grid0.coords t) y) = dX m c (((cfg0.win 4).blk t).view.emb y)
  rw [hy, he]
  exact out_4 m c t _ _

theorem mem_4 (t : Fin cfg0.N) (i : S4096x2048.Idx) :
    i ∈ ((cfg0.win 4).blk t).view.set ↔ ∀ a : Fin 2, win0_4.index t a * S256x2048.size a ≤ (i a).val ∧ (i a).val < win0_4.index t a * S256x2048.size a + S256x2048.size a := by
  show i ∈ ((View.whole main_v0_0).slice (win0_4.rect t)).set ↔ _
  rw [View.set_slice_whole, Rect.mem_set_unit]
  exact Iff.rfl

theorem covered_4 (i : S4096x2048.Idx) : ∃ t : Fin cfg0.N, (cfg0.win 4).flush t = true ∧ i ∈ ((cfg0.win 4).blk t).view.set :=
  ⟨holder i, flush0_4 _, (mem_4 _ i).2 (held i _ (index_4 _))⟩

theorem final_4 : (dats m 0 c).arrAt 4 cfg0.N = dX m c :=
  (dats m 0 c).arrAt_eq_of_cover 4 (dX m c) (fun t _ => flushed_4 m c t) (fun i => covered_4 i)

theorem out_5 (t : Fin cfg0.N) (r : Fin 256) (j : Fin 2048) :
    (outsAt0 m c t.val t.isLt).2.1 (ix2 r j) = dX m c (ix2 ⟨256 * t.val + r.val, row_lt t r⟩ j) := by
  by_cases h0 : t.val % 16 = 0
  · rw [outsAt0_A m c t h0]
    dsimp only
    rw [hA]
    exact cast_blk m c t r j
  · rw [outsAt0_B m c t h0]
    dsimp only
    rw [hB]
    exact cast_blk m c t r j

theorem flushed_5 (t : Fin cfg0.N) : (dats m 0 c).flushed 5 t = ((cfg0.win 5).blk t).view.read (Elt Ideal) (dX m c) := by
  rw [Value.flushed5]
  funext y
  have h0 : (y 0).val < 256 := (y 0).isLt
  have h1 : (y 1).val < 2048 := (y 1).isLt
  have hy : (cfg0.win 5).xinj (grid0.coords t) y = ix2 (⟨(y 0).val, h0⟩ : Fin 256) (⟨(y 1).val, h1⟩ : Fin 2048) := by
    funext a
    match a with
    | ⟨0, _⟩ => rfl
    | ⟨1, _⟩ => rfl
  have he : (((cfg0.win 5).blk t).view.emb y : S4096x2048.Idx) = ix2 ⟨256 * t.val + (y 0).val, row_lt t ⟨(y 0).val, h0⟩⟩ ⟨(y 1).val, h1⟩ :=
    in_rows t _ _ _ (index_5 t) rfl rfl
  show (outsAt0 m c t.val t.isLt).2.1 ((cfg0.win 5).xinj (grid0.coords t) y) = dX m c (((cfg0.win 5).blk t).view.emb y)
  rw [hy, he]
  exact out_5 m c t _ _

theorem mem_5 (t : Fin cfg0.N) (i : S4096x2048.Idx) :
    i ∈ ((cfg0.win 5).blk t).view.set ↔ ∀ a : Fin 2, win0_5.index t a * S256x2048.size a ≤ (i a).val ∧ (i a).val < win0_5.index t a * S256x2048.size a + S256x2048.size a := by
  show i ∈ ((View.whole main_v0_1).slice (win0_5.rect t)).set ↔ _
  rw [View.set_slice_whole, Rect.mem_set_unit]
  exact Iff.rfl

theorem covered_5 (i : S4096x2048.Idx) : ∃ t : Fin cfg0.N, (cfg0.win 5).flush t = true ∧ i ∈ ((cfg0.win 5).blk t).view.set :=
  ⟨holder i, flush0_5 _, (mem_5 _ i).2 (held i _ (index_5 _))⟩

theorem final_5 : (dats m 0 c).arrAt 5 cfg0.N = dX m c :=
  (dats m 0 c).arrAt_eq_of_cover 5 (dX m c) (fun t _ => flushed_5 m c t) (fun i => covered_5 i)

theorem flushed_6 (t : Fin cfg0.N) (hf : (cfg0.win 6).flush t = true) : (dats m 0 c).flushed 6 t = ((cfg0.win 6).blk t).view.read (Elt Ideal) (dG m c) := by
  rw [Value.flushed6]
  funext y
  have h1 : (y 1).val < 2048 := (y 1).isLt
  have hy : (cfg0.win 6).xinj (grid0.coords t) y = ix2 (0 : Fin 1) (⟨(y 1).val, h1⟩ : Fin 2048) := by
    funext a
    match a with
    | ⟨0, _⟩ => exact Subsingleton.elim (α := Fin 1) _ _
    | ⟨1, _⟩ => rfl
  have he : (((cfg0.win 6).blk t).view.emb y : S1x2048.Idx) 1 = ⟨(y 1).val, h1⟩ := Fin.ext (by
    show win0_6.index t (1 : Fin 2) * 2048 + 1 * (y 1).val = (y 1).val
    rw [(index_6 t).2]; omega)
  show (outsAt0 m c t.val t.isLt).2.2 ((cfg0.win 6).xinj (grid0.coords t) y) = dG m c (((cfg0.win 6).blk t).view.emb y)
  rw [hy]
  refine (sums m c t.val t.isLt 0 _).trans ?_
  rw [(flush0_6 t).1 hf]
  unfold dG
  rw [he]
  exact pieces_sum (fun k => term m c k ⟨(y 1).val, h1⟩) 16 256 4096 rfl

theorem mem_6 (t : Fin cfg0.N) (i : S1x2048.Idx) :
    i ∈ ((cfg0.win 6).blk t).view.set ↔ ∀ a : Fin 2, win0_6.index t a * S1x2048.size a ≤ (i a).val ∧ (i a).val < win0_6.index t a * S1x2048.size a + S1x2048.size a := by
  show i ∈ ((View.whole main_v0_2).slice (win0_6.rect t)).set ↔ _
  rw [View.set_slice_whole, Rect.mem_set_unit]
  exact Iff.rfl

theorem covered_6 (i : S1x2048.Idx) : ∃ t : Fin cfg0.N, (cfg0.win 6).flush t = true ∧ i ∈ ((cfg0.win 6).blk t).view.set := by
  have h0 : (i 0).val < 1 := (i 0).isLt
  have h1 : (i 1).val < 2048 := (i 1).isLt
  have hN : cfg0.N = 16 := N_0
  refine ⟨⟨15, by omega⟩, (flush0_6 _).2 rfl, (mem_6 _ i).2 fun a => ?_⟩
  obtain ⟨q0, q1⟩ := index_6 ⟨15, by omega⟩
  match a with
  | ⟨0, _⟩ =>
    show win0_6.index _ (0 : Fin 2) * 1 ≤ (i 0).val ∧ (i 0).val < win0_6.index _ (0 : Fin 2) * 1 + 1
    omega
  | ⟨1, _⟩ =>
    show win0_6.index _ (1 : Fin 2) * 2048 ≤ (i 1).val ∧ (i 1).val < win0_6.index _ (1 : Fin 2) * 2048 + 2048
    omega

theorem final_6 : (dats m 0 c).arrAt 6 cfg0.N = dG m c :=
  (dats m 0 c).arrAt_eq_of_cover 6 (dG m c) (fun t hf => flushed_6 m c t hf) (fun i => covered_6 i)

end Cert.Mat.K23

end
-- ==== Proof.Ffn.K23.lean ====
/- The kernel of the first norm's gradient and its reference: both give the same three results. -/
module

public import proofs.«01_k».proof.Proof.Ffn.K23Fold
public import proofs.«01_k».proof.Proof.Ffn.K22
public import proofs.«01_k».proof.Proof.Gen.Reference23Ideal.Run
public import proofs.«01_k».proof.Proof.Gen.Reference23Ideal.Read

@[expose] public section

set_option maxRecDepth 16384

noncomputable section

namespace Cert.Mat.K23

open Idealize.ShloMosaic.ValueIdx
open Idealize.ShloMosaic hiding ix1 ix2 ix3 eq_ix1 eq_ix2 eq_ix3
open Idealize.ShloMosaic.TcCoe Idealize.SL.Sem
open scoped BigOperators

/-! ## The reference, which but for the cast is that of the other norm -/

section reference
open Cert.Reference23Ideal Cert.Reference23Ideal.Gen Cert.Reference23Ideal.Read

variable (x0 : (⟨S4096x2048, .f32⟩ : BufTy).Contents (Elt Ideal)) (x1 : (⟨S1x2048, .f32⟩ : BufTy).Contents (Elt Ideal))
  (x2 : (⟨S4096x2048, .bf16⟩ : BufTy).Contents (Elt Ideal)) (x3 : (⟨S4096x2048, .f32⟩ : BufTy).Contents (Elt Ideal))

theorem dx_ref (r : Fin 4096) (j : Fin 2048) :
    val_main_v38 x0 x1 x2 x3 (ix2 r j) = (x3 : S4096x2048.Idx → EReal) (ix2 r j) + K22.grad (K22.row x0 r) (K22.rowGrad x1 x2 r) j :=
  K22.dx_ref x0 x1 x2 x3 r j

theorem cast_ref (i : S4096x2048.Idx) : val_main_v39 x0 x1 x2 x3 i = val_main_v38 x0 x1 x2 x3 i := rfl

theorem dg_ref (j : Fin 2048) :
    val_main_v40 x0 x2 (ix2 (0 : Fin 1) j) = ∑ k : Fin 4096, (x2 : S4096x2048.Idx → EReal) (ix2 k j) * (K22.row x0 k j * K22.root (K22.row x0 k)) :=
  K22.dg_ref x0 x2 j

end reference

/-- The reference runs, gives its arguments back and, having no semaphores, leaves none raised. -/
theorem reference_runs : Cert.quiescent_Reference23Ideal (hReference23Ideal := Cert.Reference23Ideal.Gen.facts) := fun m ρ _ =>
  (θ_run _ _ _).mono (fun _ h => And.intro (fun c => (h c).2.2.2) (sem_eq_zero_of_no_sems (by decide) _)) (Cert.Reference23Ideal.Value.run m ρ)

/-! ## The two programs' results -/

theorem equal : Cert.algebraic_Kernel23Ideal_Reference23Ideal (hKernel23Ideal := Cert.Kernel23Ideal.Gen.facts)
    (hReference23Ideal := Cert.Reference23Ideal.Gen.facts) := by
  intro m g m' g' _ ha
  refine ⟨fun c => dX m c, fun c => dX m c, fun c => dG m c, ?_, ?_⟩
  · refine (θ_run _ _ _).mono (fun r h c => ?_) (Cert.Kernel23Ideal.Value.run_blocks m g)
    obtain ⟨h0, h1, h2, h3⟩ := h c
    exact ⟨h0.trans (final_4 m c), h1.trans (final_5 m c), h2.trans (final_6 m c), h3⟩
  · refine (θ_run _ _ _).mono (fun r h c => ?_) (Cert.Reference23Ideal.Value.run m' g')
    obtain ⟨h0, h1, h2, h3⟩ := h c
    obtain ⟨a0, a1, a2, a3⟩ := ha c
    refine ⟨h0.trans ?_, h1.trans ?_, h2.trans ?_, h3⟩
    · refine (Cert.Reference23Ideal.Read.val_main_v38_eq m' c).trans (ext2 fun r d => ?_)
      rw [a0, a1, a2, a3]
      exact dx_ref _ _ _ _ r d
    · refine (Cert.Reference23Ideal.Read.val_main_v39_eq m' c).trans (ext2 fun r d => ?_)
      rw [a0, a1, a2, a3]
      exact (cast_ref _ _ _ _ _).trans (dx_ref _ _ _ _ r d)
    · refine (Cert.Reference23Ideal.Read.val_main_v40_eq _ _).trans (ext2 fun r d => ?_)
      rw [a0, a2]
      obtain rfl : r = 0 := Subsingleton.elim _ _
      refine (dg_ref _ _ d).trans (Finset.sum_congr rfl fun k _ => ?_)
      unfold term
      rw [dif_pos k.isLt]

end Cert.Mat.K23

end
-- ==== Proof.Ffn.K24.lean ====
/- The first feed-forward's down projection: the program and the reference are those of the second's (`K3`), and so are their values. -/
module

public import proofs.«01_k».proof.Proof.Ffn.K3
public import proofs.«01_k».proof.Defs
public import proofs.«01_k».proof.Proof.Gen.Kernel24Ideal.Value
public import proofs.«01_k».proof.Proof.Gen.Reference24Ideal.Run

@[expose] public section

set_option maxRecDepth 16384

noncomputable section

namespace Cert.Mat.K24

open Idealize.ShloMosaic.ValueIdx
open Idealize.ShloMosaic hiding ix1 ix2 ix3 eq_ix1 eq_ix2 eq_ix3
open Idealize.ShloMosaic.TcCoe Idealize.SL.Sem
open scoped BigOperators

theorem reference_runs : Cert.quiescent_Reference24Ideal (hReference24Ideal := Cert.Reference24Ideal.Gen.facts) := K3.reference_runs

theorem equal : Cert.algebraic_Kernel24Ideal_Reference24Ideal (hKernel24Ideal := Cert.Kernel24Ideal.Gen.facts)
    (hReference24Ideal := Cert.Reference24Ideal.Gen.facts) := by
  intro m g m' g' _ ha
  refine ⟨fun c => Cert.Kernel24Ideal.Value.G5 m c, ?_, ?_⟩
  · exact (θ_run _ _ _).mono (fun r h c => ⟨(h c).1, (h c).2⟩) (Cert.Kernel24Ideal.Value.run m g)
  · refine (θ_run _ _ _).mono (fun r h c => ?_) (Cert.Reference24Ideal.Value.run m' g')
    obtain ⟨h0, h1⟩ := h c
    obtain ⟨a0, a1, a2⟩ := ha c
    refine ⟨h0.trans ?_, h1⟩
    refine (Cert.Reference3Ideal.Read.val_main_v4_eq _ _ _).trans (ext2 fun r d => ?_)
    refine Eq.trans ?_ ((K3.reference_at _ _ _ r d).trans (K3.result m c r d).symm)
    exact congrFun (congr (congrArg₂ (Cert.Reference3Ideal.Read.val_main_v4 (F := Idealize.ShloMosaic.Ideal)) a0 a1) a2) _

end Cert.Mat.K24

end
-- ==== Proof.Ffn.K25.lean ====
/- The gradients of the first feed-forward's gate and up products: the program and the reference are those of the second's (`K9`), and so are their values. -/
module

public import proofs.«01_k».proof.Proof.Ffn.K9
public import proofs.«01_k».proof.Defs
public import proofs.«01_k».proof.Proof.Gen.Kernel25Ideal.Value
public import proofs.«01_k».proof.Proof.Gen.Reference25Ideal.Run

@[expose] public section

set_option maxRecDepth 16384

noncomputable section

namespace Cert.Mat.K25

open Idealize.ShloMosaic.ValueIdx
open Idealize.ShloMosaic hiding ix1 ix2 ix3 eq_ix1 eq_ix2 eq_ix3
open Idealize.ShloMosaic.TcCoe Idealize.SL.Sem
open scoped BigOperators

theorem reference_runs : Cert.quiescent_Reference25Ideal (hReference25Ideal := Cert.Reference25Ideal.Gen.facts) := K9.reference_runs

theorem equal : Cert.algebraic_Kernel25Ideal_Reference25Ideal_pre_finite9 (hKernel25Ideal := Cert.Kernel25Ideal.Gen.facts)
    (hReference25Ideal := Cert.Reference25Ideal.Gen.facts) (hPre_finite9 := Cert.Pre_finite9.facts) := by
  intro m g m' g' hp ha
  refine ⟨fun c => K9.dgates m c, fun c => K9.dups m c, ?_, ?_⟩
  · exact (θ_run _ _ _).mono (fun r h c => ⟨(h c).1.trans (K9.final_4 m c), (h c).2.1.trans (K9.final_5 m c), (h c).2.2⟩)
      (Cert.Kernel25Ideal.Value.run_blocks m g)
  · refine (θ_run _ _ _).mono (fun r h c => ?_) (Cert.Reference25Ideal.Value.run m' g')
    obtain ⟨h0, h1, h2⟩ := h c
    obtain ⟨a0, a1, a2, a3⟩ := ha c
    obtain ⟨p1, p2, p3⟩ := hp c
    refine ⟨h0.trans ?_, h1.trans ?_, h2⟩
    · refine (Cert.Reference9Ideal.Read.val_main_v13_eq _ _ _ _).trans (ext3 fun p r d => ?_)
      refine Eq.trans ?_ ((K9.gates_ref _ _ _ _ (@K9.up_real Cert.Pre_finite9.facts _ _ _ _ p1) (@K9.weight_real Cert.Pre_finite9.facts _ _ _ _ p2)
        (@K9.gradient_real Cert.Pre_finite9.facts _ _ _ _ p3) p r d).trans rfl)
      exact congrFun (congr (congr (congrArg₂ (Cert.Reference9Ideal.Read.val_main_v13 (F := Idealize.ShloMosaic.Ideal)) a0 a1) a2) a3) _
    · refine (Cert.Reference9Ideal.Read.val_main_v17_eq _ _ _).trans (ext3 fun p r d => ?_)
      refine Eq.trans ?_ ((K9.ups_ref _ _ _ p r d).trans rfl)
      exact congrFun (congr (congrArg₂ (Cert.Reference9Ideal.Read.val_main_v17 (F := Idealize.ShloMosaic.Ideal)) a0 a2) a3) _

end Cert.Mat.K25

end
-- ==== Proof.Ffn.K26.lean ====
/- The gradient of the first feed-forward's input: the program and the reference are those of the second's (`K5`), and so are their values. -/
module

public import proofs.«01_k».proof.Proof.Ffn.K5
public import proofs.«01_k».proof.Defs
public import proofs.«01_k».proof.Proof.Gen.Kernel26Ideal.Value
public import proofs.«01_k».proof.Proof.Gen.Reference26Ideal.Run

@[expose] public section

set_option maxRecDepth 16384

noncomputable section

namespace Cert.Mat.K26

open Idealize.ShloMosaic.ValueIdx
open Idealize.ShloMosaic hiding ix1 ix2 ix3 eq_ix1 eq_ix2 eq_ix3
open Idealize.ShloMosaic.TcCoe Idealize.SL.Sem
open scoped BigOperators

theorem reference_runs : Cert.quiescent_Reference26Ideal (hReference26Ideal := Cert.Reference26Ideal.Gen.facts) := K5.reference_runs

theorem equal : Cert.algebraic_Kernel26Ideal_Reference26Ideal (hKernel26Ideal := Cert.Kernel26Ideal.Gen.facts)
    (hReference26Ideal := Cert.Reference26Ideal.Gen.facts) := by
  intro m g m' g' _ ha
  refine ⟨fun c => Cert.Kernel26Ideal.Value.G8 m c, ?_, ?_⟩
  · exact (θ_run _ _ _).mono (fun r h c => ⟨(h c).1, (h c).2⟩) (Cert.Kernel26Ideal.Value.run m g)
  · refine (θ_run _ _ _).mono (fun r h c => ?_) (Cert.Reference26Ideal.Value.run m' g')
    obtain ⟨h0, h1⟩ := h c
    obtain ⟨a0, a1, a2, a3⟩ := ha c
    refine ⟨h0.trans ?_, h1⟩
    refine (Cert.Reference5Ideal.Read.val_main_v8_eq _ _ _ _).trans (ext2 fun r d => ?_)
    refine Eq.trans ?_ ((K5.reference_at _ _ _ _ r d).trans (K5.result m c r d).symm)
    exact congrFun (congr (congr (congrArg₂ (Cert.Reference5Ideal.Read.val_main_v8 (F := Idealize.ShloMosaic.Ideal)) a0 a1) a2) a3) _

end Cert.Mat.K26

end
-- ==== Proof.Ffn.K27.lean ====
/- The gradient of the first feed-forward's gate's weight: the program and the reference are those of the second's (`K11`), and so are their values. -/
module

public import proofs.«01_k».proof.Proof.Ffn.K11
public import proofs.«01_k».proof.Defs
public import proofs.«01_k».proof.Proof.Gen.Kernel27Ideal.Value
public import proofs.«01_k».proof.Proof.Gen.Reference27Ideal.Run

@[expose] public section

set_option maxRecDepth 16384

noncomputable section

namespace Cert.Mat.K27

open Idealize.ShloMosaic.ValueIdx
open Idealize.ShloMosaic hiding ix1 ix2 ix3 eq_ix1 eq_ix2 eq_ix3
open Idealize.ShloMosaic.TcCoe Idealize.SL.Sem
open scoped BigOperators

theorem reference_runs : Cert.quiescent_Reference27Ideal (hReference27Ideal := Cert.Reference27Ideal.Gen.facts) := K11.reference_runs

theorem equal : Cert.algebraic_Kernel27Ideal_Reference27Ideal (hKernel27Ideal := Cert.Kernel27Ideal.Gen.facts)
    (hReference27Ideal := Cert.Reference27Ideal.Gen.facts) := by
  intro m g m' g' _ ha
  refine ⟨fun c => Cert.Kernel27Ideal.Value.G2 m c, ?_, ?_⟩
  · exact (θ_run _ _ _).mono (fun r h c => ⟨(h c).1, (h c).2⟩) (Cert.Kernel27Ideal.Value.run m g)
  · refine (θ_run _ _ _).mono (fun r h c => ?_) (Cert.Reference27Ideal.Value.run m' g')
    obtain ⟨h0, h1⟩ := h c
    obtain ⟨a0, a1⟩ := ha c
    refine ⟨h0.trans ?_, h1⟩
    refine (Cert.Reference11Ideal.Read.val_main_v9_eq _ _).trans (ext3 fun p r d => ?_)
    refine Eq.trans ?_ ((K11.reference_at _ _ p r d).trans (K11.result m c p r d).symm)
    exact congrFun (congrArg₂ (Cert.Reference11Ideal.Read.val_main_v9 (F := Idealize.ShloMosaic.Ideal)) a0 a1) _

end Cert.Mat.K27

end
-- ==== Proof.Ffn.K28.lean ====
/- The gradient of the first feed-forward's up projection's weight: the program and the reference are those of the second's gate's weight's (`K11`), and so are their values. -/
module

public import proofs.«01_k».proof.Proof.Ffn.K11
public import proofs.«01_k».proof.Defs
public import proofs.«01_k».proof.Proof.Gen.Kernel28Ideal.Value
public import proofs.«01_k».proof.Proof.Gen.Reference28Ideal.Run

@[expose] public section

set_option maxRecDepth 16384

noncomputable section

namespace Cert.Mat.K28

open Idealize.ShloMosaic.ValueIdx
open Idealize.ShloMosaic hiding ix1 ix2 ix3 eq_ix1 eq_ix2 eq_ix3
open Idealize.ShloMosaic.TcCoe Idealize.SL.Sem
open scoped BigOperators

theorem reference_runs : Cert.quiescent_Reference28Ideal (hReference28Ideal := Cert.Reference28Ideal.Gen.facts) := K11.reference_runs

theorem equal : Cert.algebraic_Kernel28Ideal_Reference28Ideal (hKernel28Ideal := Cert.Kernel28Ideal.Gen.facts)
    (hReference28Ideal := Cert.Reference28Ideal.Gen.facts) := by
  intro m g m' g' _ ha
  refine ⟨fun c => Cert.Kernel28Ideal.Value.G2 m c, ?_, ?_⟩
  · exact (θ_run _ _ _).mono (fun r h c => ⟨(h c).1, (h c).2⟩) (Cert.Kernel28Ideal.Value.run m g)
  · refine (θ_run _ _ _).mono (fun r h c => ?_) (Cert.Reference28Ideal.Value.run m' g')
    obtain ⟨h0, h1⟩ := h c
    obtain ⟨a0, a1⟩ := ha c
    refine ⟨h0.trans ?_, h1⟩
    refine (Cert.Reference11Ideal.Read.val_main_v9_eq _ _).trans (ext3 fun p r d => ?_)
    refine Eq.trans ?_ ((K11.reference_at _ _ p r d).trans (K11.result m c p r d).symm)
    exact congrFun (congrArg₂ (Cert.Reference11Ideal.Read.val_main_v9 (F := Idealize.ShloMosaic.Ideal)) a0 a1) _

end Cert.Mat.K28

end
-- ==== Proof.Ffn.K29.lean ====
/- The gradient of the first feed-forward's down projection's weight: the program and the reference are those of the second's (`K4`), and so are their values. -/
module

public import proofs.«01_k».proof.Proof.Ffn.K4
public import proofs.«01_k».proof.Defs
public import proofs.«01_k».proof.Proof.Gen.Kernel29Ideal.Value
public import proofs.«01_k».proof.Proof.Gen.Reference29Ideal.Run

@[expose] public section

set_option maxRecDepth 16384

noncomputable section

namespace Cert.Mat.K29

open Idealize.ShloMosaic.ValueIdx
open Idealize.ShloMosaic hiding ix1 ix2 ix3 eq_ix1 eq_ix2 eq_ix3
open Idealize.ShloMosaic.TcCoe Idealize.SL.Sem
open scoped BigOperators

theorem reference_runs : Cert.quiescent_Reference29Ideal (hReference29Ideal := Cert.Reference29Ideal.Gen.facts) := K4.reference_runs

theorem equal : Cert.algebraic_Kernel29Ideal_Reference29Ideal (hKernel29Ideal := Cert.Kernel29Ideal.Gen.facts)
    (hReference29Ideal := Cert.Reference29Ideal.Gen.facts) := by
  intro m g m' g' _ ha
  refine ⟨fun c => Cert.Kernel29Ideal.Value.G2 m c, ?_, ?_⟩
  · exact (θ_run _ _ _).mono (fun r h c => ⟨(h c).1, (h c).2⟩) (Cert.Kernel29Ideal.Value.run m g)
  · refine (θ_run _ _ _).mono (fun r h c => ?_) (Cert.Reference29Ideal.Value.run m' g')
    obtain ⟨h0, h1⟩ := h c
    obtain ⟨a0, a1⟩ := ha c
    refine ⟨h0.trans ?_, h1⟩
    refine (Cert.Reference4Ideal.Read.val_main_v8_eq _ _).trans (ext3 fun p r d => ?_)
    refine Eq.trans ?_ ((K4.reference_at _ _ p r d).trans (K4.result m c p r d).symm)
    exact congrFun (congrArg₂ (Cert.Reference4Ideal.Read.val_main_v8 (F := Idealize.ShloMosaic.Ideal)) a0 a1) _

end Cert.Mat.K29

end
-- ==== Proof.Attn.Spec.lean ====
/- What the gradient of the chunked band attention is, for one head, over extended reals: the scores of every query
   against every padded key (512 zero rows, then the 4096 keys), the softmax over the keys a query may see, and the
   three gradients. Both programs are read against these functions. -/
module

public import Idealize.ShloMosaic.PureOps.Ideal
public import Idealize.ShloMosaic.PureOps.Ideal.Laws
public import Idealize.ShloMosaic.Lib.FinSumWindow
public import Idealize.ShloMosaic.Lib.ValueIdx

@[expose] public section

noncomputable section

namespace Cert.Attn

open Idealize.ShloMosaic

/-- The scale 128 ^ (-1/2) as both programs print it. -/
def scl : EReal := Ideal.ofBits .f32 0x3DB504F3#32

variable {n : ℕ}

/-- The greatest score of a row. -/
def rowMax (s : Fin n → EReal) : EReal := Finset.univ.fold max ⊥ s

/-- The exponentials of a row of scores, less their maximum. -/
def rowExp (s : Fin n → EReal) (j : Fin n) : EReal := Ideal.exp (s j - rowMax s)

/-- Their sum. -/
def rowSum (s : Fin n → EReal) : EReal := ∑ j, rowExp s j

/-- The softmax of a row. -/
def rowP (s : Fin n → EReal) (j : Fin n) : EReal := rowExp s j * Ideal.div 1 (rowSum s)

/-- The gradient of a row's scores from the gradient `d` of its softmax. -/
def rowDs (s d : Fin n → EReal) (j : Fin n) : EReal := rowP s j * (d j - ∑ k, d k * rowP s k)

section head

variable (q o : Fin 4096 → Fin 128 → EReal) (kp vp : Fin 4608 → Fin 128 → EReal) (b : Fin 257 → EReal)

/-- Query `Q` may see padded key `K`: a real key, of the query's chunk or one of the eight before it. -/
def Valid (Q : Fin 4096) (K : Fin 4608) : Prop := 512 ≤ K.val ∧ Q.val / 64 ≤ K.val / 64 ∧ K.val / 64 ≤ Q.val / 64 + 8

instance (Q : Fin 4096) (K : Fin 4608) : Decidable (Valid Q K) := inferInstanceAs (Decidable (_ ∧ _ ∧ _))

/-- Where the bias of a query against a padded key lies: their distance clipped to 128 on both sides. -/
def rel (Q K : ℕ) : Fin 257 := ⟨min 256 (Q + 640 - K), by omega⟩

/-- The masked scores. -/
def sc (Q : Fin 4096) (K : Fin 4608) : EReal :=
  if Valid Q K then (∑ d, q Q d * kp K d) * scl + b (rel Q.val K.val) else ⊥

/-- The gradient of the softmax. -/
def dp (Q : Fin 4096) (K : Fin 4608) : EReal := ∑ d, o Q d * vp K d

def p (Q : Fin 4096) (K : Fin 4608) : EReal := rowP (sc q kp b Q) K

def ds (Q : Fin 4096) (K : Fin 4608) : EReal := rowDs (sc q kp b Q) (dp o vp Q) K

/-- The gradient of the queries. -/
def dq (Q : Fin 4096) (d : Fin 128) : EReal := (∑ K, ds q o kp vp b Q K * kp K d) * scl

/-- The gradient of the padded keys. -/
def dk (K : Fin 4608) (d : Fin 128) : EReal := (∑ Q, ds q o kp vp b Q K * q Q d) * scl

/-- The gradient of the padded values. -/
def dv (K : Fin 4608) (d : Fin 128) : EReal := ∑ Q, p q kp b Q K * o Q d

end head

/-! ## A row seen through a window that holds every score above ⊥ -/

section window

open Idealize.ShloMosaic.FinSumWindow

theorem rowMax_eq_sup (s : Fin n → EReal) : rowMax s = Finset.univ.sup s := rfl

theorem exp_bot_sub (m : EReal) : Ideal.exp (⊥ - m) = 0 := by
  rw [sub_eq_add_neg, EReal.bot_add]; rfl

variable {N W : ℕ} (lo : ℕ) (hlo : lo + W ≤ N) (s : Fin N → EReal)
  (hs : ∀ P : Fin N, ¬(lo ≤ P.val ∧ P.val < lo + W) → s P = ⊥)

include hs

theorem rowMax_window : rowMax (fun j : Fin W => s ⟨lo + j.val, by omega⟩) = rowMax s := by
  rw [rowMax_eq_sup, rowMax_eq_sup]
  apply le_antisymm
  · exact Finset.sup_le fun j _ => Finset.le_sup (f := s) (Finset.mem_univ _)
  · refine Finset.sup_le fun P _ => ?_
    by_cases h : lo ≤ P.val ∧ P.val < lo + W
    · have := Finset.le_sup (f := fun j : Fin W => s ⟨lo + j.val, by omega⟩) (Finset.mem_univ ⟨P.val - lo, by omega⟩)
      refine le_trans (le_of_eq ?_) this
      exact congrArg s (Fin.ext (by show P.val = lo + (P.val - lo); omega))
    · rw [hs P h]; exact bot_le

theorem rowExp_window (j : Fin W) :
    rowExp (fun j : Fin W => s ⟨lo + j.val, by omega⟩) j = rowExp s ⟨lo + j.val, by omega⟩ := by
  unfold rowExp; rw [rowMax_window lo hlo s hs]

omit hs in
theorem rowExp_off (P : Fin N) (h : s P = ⊥) : rowExp s P = 0 := by
  unfold rowExp; rw [h]; exact exp_bot_sub _

theorem rowSum_window : rowSum (fun j : Fin W => s ⟨lo + j.val, by omega⟩) = rowSum s := by
  unfold rowSum
  rw [sum_window lo hlo (rowExp s) fun P h => rowExp_off s P (hs P h)]
  exact Finset.sum_congr rfl fun j _ => rowExp_window lo hlo s hs j

theorem rowP_window (j : Fin W) :
    rowP (fun j : Fin W => s ⟨lo + j.val, by omega⟩) j = rowP s ⟨lo + j.val, by omega⟩ := by
  unfold rowP; rw [rowSum_window lo hlo s hs, rowExp_window lo hlo s hs]

omit hs in
theorem rowP_off (P : Fin N) (h : s P = ⊥) : rowP s P = 0 := by
  unfold rowP rowExp; rw [h, exp_bot_sub, zero_mul]

omit hs in
theorem rowDs_off (d : Fin N → EReal) (P : Fin N) (h : s P = ⊥) : rowDs s d P = 0 := by
  unfold rowDs; rw [rowP_off s P h, zero_mul]

theorem rowDs_window (d : Fin N → EReal) (j : Fin W) :
    rowDs (fun j : Fin W => s ⟨lo + j.val, by omega⟩) (fun j : Fin W => d ⟨lo + j.val, by omega⟩) j
      = rowDs s d ⟨lo + j.val, by omega⟩ := by
  unfold rowDs
  rw [rowP_window lo hlo s hs,
    sum_window lo hlo (fun P => d P * rowP s P) fun P h => by show d P * rowP s P = 0; rw [rowP_off s P (hs P h), mul_zero]]
  congr 2
  exact Finset.sum_congr rfl fun k _ => by rw [rowP_window lo hlo s hs]

end window

/-! ## Distributing a nonnegative real -/

theorem sum_mul_real {ι : Type*} (t : Finset ι) (f : ι → EReal) {x : EReal} (h0 : 0 ≤ x) (h1 : x ≠ ⊤) :
    (∑ i ∈ t, f i) * x = ∑ i ∈ t, f i * x := by
  classical
  induction t using Finset.induction_on with
  | empty => simp
  | insert a t ha ih => rw [Finset.sum_insert ha, Finset.sum_insert ha, EReal.right_distrib_of_nonneg_of_ne_top h0 h1, ih]

theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

theorem scl_eq : scl = ((11863283 * (2 ^ 27)⁻¹ : ℝ) : EReal) := by
  unfold scl
  simp [Ideal.ofBits, Ideal.ieee]

theorem scl_nonneg : 0 ≤ scl := by
  rw [scl_eq]; exact EReal.coe_nonneg.2 (by positivity)

theorem scl_ne_top : scl ≠ ⊤ := by
  rw [scl_eq]; exact EReal.coe_ne_top _

/-! ## Rows without +∞ and not all −∞ -/

section finite

variable (s : Fin n → EReal) (h1 : ∀ j, s j ≠ ⊤) (h2 : ∃ j, s j ≠ ⊥)

include h1 h2

theorem rowMax_real : ∃ x : ℝ, rowMax s = x := by
  obtain ⟨j, hj⟩ := h2
  have ht : rowMax s ≠ ⊤ := by
    rw [rowMax_eq_sup]
    refine ne_of_lt ((Finset.sup_lt_iff (by simp)).2 fun k _ => lt_top_iff_ne_top.2 (h1 k))
  have hb : rowMax s ≠ ⊥ := by
    rw [rowMax_eq_sup]
    intro h
    exact hj (le_bot_iff.1 (h ▸ Finset.le_sup (f := s) (Finset.mem_univ j)))
  exact ⟨_, (EReal.coe_toReal ht hb).symm⟩

theorem rowExp_real : ∃ a : Fin n → ℝ, (∀ j, 0 ≤ a j) ∧ (∀ j, s j ≠ ⊥ → 0 < a j) ∧ ∀ j, rowExp s j = (a j : ℝ) := by
  obtain ⟨x, hx⟩ := rowMax_real s h1 h2
  have : ∀ j, ∃ r : ℝ, 0 ≤ r ∧ (s j ≠ ⊥ → 0 < r) ∧ rowExp s j = (r : ℝ) := by
    intro j
    by_cases hj : s j = ⊥
    · exact ⟨0, le_rfl, fun h => absurd hj h, by rw [rowExp_off s j hj]; rfl⟩
    · refine ⟨Real.exp ((s j).toReal - x), (Real.exp_pos _).le, fun _ => Real.exp_pos _, ?_⟩
      unfold rowExp
      rw [hx]
      conv_lhs => rw [← EReal.coe_toReal (h1 j) hj]
      rw [← EReal.coe_sub]; rfl
  choose a ha using this
  exact ⟨a, fun j => (ha j).1, fun j => (ha j).2.1, fun j => (ha j).2.2⟩

/-- The exponentials are nonnegative reals and their sum is a positive one. -/
theorem row_real : ∃ (a : Fin n → ℝ) (σ : ℝ), (∀ j, 0 ≤ a j) ∧ 0 < σ ∧ (∀ j, rowExp s j = (a j : ℝ)) ∧ rowSum s = (σ : ℝ) := by
  obtain ⟨a, ha, hp, he⟩ := rowExp_real s h1 h2
  obtain ⟨j, hj⟩ := h2
  refine ⟨a, ∑ k, a k, ha, ?_, he, ?_⟩
  · exact Finset.sum_pos' (fun k _ => ha k) ⟨j, Finset.mem_univ _, hp j hj⟩
  · unfold rowSum
    rw [Finset.sum_congr rfl fun k _ => he k]
    exact (coe_sum _ _).symm

/-- The softmax as a quotient. -/
theorem rowP_eq_div (j : Fin n) : Ideal.div (rowExp s j) (rowSum s) = rowP s j := by
  obtain ⟨a, σ, -, hσ, -, hS⟩ := row_real s h1 h2
  unfold rowP
  rw [hS, Ideal.div_coe hσ.ne', Ideal.div_coe hσ.ne', one_mul]

/-- The gradient of the scores as the derivative of a quotient of exponentials. -/
theorem rowDs_eq (d : Fin n → EReal) (j : Fin n) :
    (Ideal.div (d j) (rowSum s) + -∑ k, d k * Ideal.div 1 (rowSum s * rowSum s) * rowExp s k) * rowExp s j = rowDs s d j := by
  obtain ⟨a, σ, ha, hσ, he, hS⟩ := row_real s h1 h2
  have hσσ : σ * σ ≠ 0 := (mul_pos hσ hσ).ne'
  have hi0 : (0 : EReal) ≤ ((1 / σ : ℝ) : EReal) := EReal.coe_nonneg.2 (by positivity)
  have hi1 : ((1 / σ : ℝ) : EReal) ≠ ⊤ := EReal.coe_ne_top _
  unfold rowDs rowP
  rw [hS, Ideal.div_coe hσ.ne', Ideal.div_coe hσ.ne', ← EReal.coe_mul, Ideal.div_coe hσσ, one_mul, one_mul, he j]
  have e1 : (∑ k, d k * ((1 / (σ * σ) : ℝ) : EReal) * rowExp s k)
      = (∑ k, d k * (rowExp s k * ((1 / σ : ℝ) : EReal))) * ((1 / σ : ℝ) : EReal) := by
    rw [sum_mul_real _ _ hi0 hi1]
    refine Finset.sum_congr rfl fun k _ => ?_
    rw [he k, mul_assoc, mul_assoc, ← EReal.coe_mul, ← EReal.coe_mul, ← EReal.coe_mul]
    congr 2
    field_simp
  rw [e1, ← EReal.neg_mul, ← EReal.right_distrib_of_nonneg_of_ne_top hi0 hi1, ← sub_eq_add_neg]
  rw [mul_assoc, mul_comm]
  congr 1
  rw [mul_comm]

end finite

end Cert.Attn

end
-- ==== Proof.Attn.Words.lean ====
/- Thirty-two-bit words that stand for small integers: what the integer operations of both programs give on them. -/
module

public import Idealize.ShloMosaic.Lib.WordCmp

@[expose] public section

namespace Cert.Attn

open Idealize.ShloMosaic

/-- The word of an integer. -/
def wd (z : ℤ) : BitVec 32 := BitVec.ofInt 32 z

/-- Small enough that no operation below wraps. -/
abbrev Small (z : ℤ) : Prop := -1000000 ≤ z ∧ z ≤ 1000000

theorem wd_toInt {z : ℤ} (h : Small z) : (wd z).toInt = z := by
  unfold wd
  rw [BitVec.toInt_ofInt]
  apply Int.bmod_eq_of_le <;> omega

theorem wd_nat (n : ℕ) : BitVec.ofNat 32 n = wd n := by
  unfold wd; rfl

theorem wd_add (a b : ℤ) : wd a + wd b = wd (a + b) := by
  unfold wd; rw [BitVec.ofInt_add]

theorem wd_sub (a b : ℤ) : wd a - wd b = wd (a - b) := by
  unfold wd; rw [sub_eq_add_neg, BitVec.ofInt_add, BitVec.ofInt_neg, BitVec.sub_eq_add_neg]

theorem wd_mul (a b : ℤ) : wd a * wd b = wd (a * b) := by
  unfold wd; rw [BitVec.ofInt_mul]

theorem wd_slt {a b : ℤ} (ha : Small a) (hb : Small b) : (wd a).slt (wd b) = decide (a < b) := by
  rw [BitVec.slt_eq_decide, wd_toInt ha, wd_toInt hb]

theorem wd_sle {a b : ℤ} (ha : Small a) (hb : Small b) : (wd a).sle (wd b) = decide (a ≤ b) := by
  rw [BitVec.sle_eq_decide, wd_toInt ha, wd_toInt hb]

theorem wd_inj {a b : ℤ} (ha : Small a) (hb : Small b) : wd a = wd b ↔ a = b :=
  ⟨fun h => by rw [← wd_toInt ha, ← wd_toInt hb, h], fun h => by rw [h]⟩

theorem ofBool_decide (c : Prop) [Decidable c] : BitVec.ofBool (decide c) = if c then 1#1 else 0#1 := by
  by_cases h : c <;> simp [h]

theorem wd_cmpi_slt {a b : ℤ} (ha : Small a) (hb : Small b) :
    IntOp.cmpi .slt (wd a) (wd b) = if a < b then 1#1 else 0#1 := by
  show BitVec.ofBool ((wd a).slt (wd b)) = _
  rw [wd_slt ha hb, ofBool_decide]

theorem wd_cmpi_sle {a b : ℤ} (ha : Small a) (hb : Small b) :
    IntOp.cmpi .sle (wd a) (wd b) = if a ≤ b then 1#1 else 0#1 := by
  show BitVec.ofBool ((wd a).sle (wd b)) = _
  rw [wd_sle ha hb, ofBool_decide]

theorem wd_cmpi_sge {a b : ℤ} (ha : Small a) (hb : Small b) :
    IntOp.cmpi .sge (wd a) (wd b) = if b ≤ a then 1#1 else 0#1 := by
  show BitVec.ofBool ((wd b).sle (wd a)) = _
  rw [wd_sle hb ha, ofBool_decide]

theorem wd_cmpi_ne {a b : ℤ} (ha : Small a) (hb : Small b) :
    IntOp.cmpi .ne (wd a) (wd b) = if a ≠ b then 1#1 else 0#1 := by
  show BitVec.ofBool (wd a != wd b) = _
  by_cases h : a = b
  · subst h; simp
  · have : wd a ≠ wd b := fun e => h ((wd_inj ha hb).mp e)
    rw [if_pos h, bne_iff_ne.mpr this]; rfl

theorem wd_maxsi {a b : ℤ} (ha : Small a) (hb : Small b) : IntOp.maxsi (wd a) (wd b) = wd (max a b) := by
  show (if (wd b).slt (wd a) then wd a else wd b) = _
  rw [wd_slt hb ha]
  by_cases h : b < a
  · rw [if_pos (by simpa using h), max_eq_left h.le]
  · rw [if_neg (by simpa using h), max_eq_right (by omega)]

theorem wd_minsi {a b : ℤ} (ha : Small a) (hb : Small b) : IntOp.minsi (wd a) (wd b) = wd (min a b) := by
  show (if (wd a).slt (wd b) then wd a else wd b) = _
  rw [wd_slt ha hb]
  by_cases h : a < b
  · rw [if_pos (by simpa using h), min_eq_left h.le]
  · rw [if_neg (by simpa using h), min_eq_right (by omega)]

/-- The word operations a floor division by 64 prints as, on one word. -/
def floorDiv64 (x : BitVec 32) : BitVec 32 :=
  Scalar.select (IntOp.andi (IntOp.cmpi .ne (if x = 0 then (0 : BitVec 32) else if x.msb then -1 else 1) (if (64#32) = 0 then (0 : BitVec 32) else if (64#32).msb then -1 else 1))
      (IntOp.cmpi .ne (IntOp.remsi .host x 64#32) 0#32))
    (IntOp.subi (IntOp.divsi .host x 64#32) 1#32) (IntOp.divsi .host x 64#32)

theorem floorDiv64_fin : ∀ n : Fin 768, floorDiv64 (BitVec.ofNat 32 n.val) = BitVec.ofNat 32 (n.val / 64) := by
  decide +kernel

theorem floorDiv64_ofNat (n : ℕ) (h : n < 768) : floorDiv64 (BitVec.ofNat 32 n) = BitVec.ofNat 32 (n / 64) :=
  floorDiv64_fin ⟨n, h⟩

/-- Keys before the first: the comparison the kernel masks a tile's first keys by. -/
theorem mask_word (t j : ℕ) (ht : t < 16) (hj : j < 768) :
    IntOp.cmpi .slt (BitVec.ofNat 32 j) (Scalar.subi 512#32 (Scalar.muli (BitVec.ofNat 32 t) 256#32))
      = if j + 256 * t < 512 then 1#1 else 0#1 := by
  have e : Scalar.subi 512#32 (Scalar.muli (BitVec.ofNat 32 t) 256#32) = wd (512 - t * 256) := by
    show wd 512 - wd t * wd 256 = _
    rw [wd_mul, wd_sub]
  rw [e, wd_nat, wd_cmpi_slt (by constructor <;> omega) (by constructor <;> omega)]
  refine if_congr ?_ rfl rfl
  constructor <;> intro h <;> omega

end Cert.Attn

end
-- ==== Proof.Attn.Table.lean ====
/- The words both programs look a bias up by, and the lookup itself read at an index. -/
module

public import proofs.«01_k».proof.Proof.Attn.Words
public import Idealize.ShloMosaic.Lib.ValueIdx
public import Idealize.ShloMosaic.Lib.ValueIdxCore

@[expose] public section

namespace Cert.Attn

open Idealize.ShloMosaic Idealize.ShloMosaic.ValueIdx

/-- The word of a query's distance to a key, clipped to 128 on both sides and counted from zero, as both programs
    compute it from the words of the two positions. -/
def relWord (x y : BitVec 32) : BitVec 32 :=
  Scalar.select (IntOp.cmpi .slt (IntOp.addi (IntOp.minsi 128#32 (IntOp.maxsi 4294967168#32 (IntOp.subi (IntOp.addi x 512#32) y))) 128#32) 0#32)
    (IntOp.addi (IntOp.addi (IntOp.minsi 128#32 (IntOp.maxsi 4294967168#32 (IntOp.subi (IntOp.addi x 512#32) y))) 128#32) 257#32)
    (IntOp.addi (IntOp.minsi 128#32 (IntOp.maxsi 4294967168#32 (IntOp.subi (IntOp.addi x 512#32) y))) 128#32)

theorem relWord_eq (r j : ℕ) (hr : r < 256) (hj : j < 768) :
    relWord (BitVec.ofNat 32 r) (BitVec.ofNat 32 j) = wd (min 128 (max (-128) ((r : ℤ) + 512 - j)) + 128) := by
  have e : IntOp.addi (IntOp.minsi 128#32 (IntOp.maxsi 4294967168#32 (IntOp.subi (IntOp.addi (BitVec.ofNat 32 r) 512#32) (BitVec.ofNat 32 j)))) 128#32
      = wd (min 128 (max (-128) ((r : ℤ) + 512 - j)) + 128) := by
    show IntOp.minsi (wd 128) (IntOp.maxsi (wd (-128)) (wd r + wd 512 - wd j)) + wd 128 = _
    rw [wd_add, wd_sub, wd_maxsi (by constructor <;> omega) (by constructor <;> omega),
      wd_minsi (by constructor <;> omega) (by constructor <;> omega), wd_add]
  unfold relWord
  rw [e, show (0#32 : BitVec 32) = wd 0 from rfl, wd_cmpi_slt (by constructor <;> omega) (by constructor <;> omega), if_neg (by omega)]
  rfl

theorem relWord_nat (r j : ℕ) (hr : r < 256) (hj : j < 768) :
    (relWord (BitVec.ofNat 32 r) (BitVec.ofNat 32 j)).toInt.toNat = min 256 (r + 640 - j) := by
  rw [relWord_eq r j hr hj, wd_toInt (by constructor <;> omega)]
  omega

/-- The word of the kernel's band. -/
def bandWord (x y : BitVec 32) : BitVec 1 :=
  IntOp.andi (IntOp.cmpi .sle (IntOp.subi (floorDiv64 y) 8#32) (floorDiv64 x))
    (IntOp.cmpi .sge (IntOp.subi (floorDiv64 y) 8#32) (IntOp.subi (floorDiv64 x) 8#32))

theorem bandWord_eq (r j : ℕ) (hr : r < 256) (hj : j < 768) :
    bandWord (BitVec.ofNat 32 r) (BitVec.ofNat 32 j) = if r / 64 ≤ j / 64 ∧ j / 64 ≤ r / 64 + 8 then 1#1 else 0#1 := by
  unfold bandWord
  rw [floorDiv64_ofNat r (by omega), floorDiv64_ofNat j hj]
  have h1 : r / 64 < 4 := by omega
  have h2 : j / 64 < 12 := by omega
  generalize r / 64 = a at *
  generalize j / 64 = b at *
  have e : ∀ n : ℕ, IntOp.subi (BitVec.ofNat 32 n) 8#32 = wd ((n : ℤ) - 8) := fun n => wd_sub n 8
  rw [e, e, wd_nat, wd_cmpi_sle (by constructor <;> omega) (by constructor <;> omega),
    wd_cmpi_sge (by constructor <;> omega) (by constructor <;> omega)]
  by_cases h3 : b ≤ a + 8
  · by_cases h4 : a ≤ b
    · rw [if_pos (by omega), if_pos (by omega), if_pos ⟨h4, h3⟩]; rfl
    · rw [if_pos (by omega), if_neg (by omega), if_neg (by omega)]; rfl
  · rw [if_neg (by omega), if_neg (by omega : ¬(a ≤ b ∧ b ≤ a + 8))]
    exact BitVec.zero_and

/-- The word of the reference's test that a band key is not before the first. -/
theorem validWord_eq (c j : ℕ) (hc : c < 64) (hj : j < 576) :
    IntOp.cmpi .sge (IntOp.addi (IntOp.subi (BitVec.ofNat 32 c) 8#32) (floorDiv64 (BitVec.ofNat 32 j))) 0#32
      = if 8 ≤ c + j / 64 then 1#1 else 0#1 := by
  rw [floorDiv64_ofNat j (by omega)]
  have e : IntOp.addi (IntOp.subi (BitVec.ofNat 32 c) 8#32) (BitVec.ofNat 32 (j / 64)) = wd ((c : ℤ) - 8 + (j / 64 : ℕ)) :=
    (congrArg (· + wd (j / 64 : ℕ)) (wd_sub c 8)).trans (wd_add _ _)
  rw [e, show (0#32 : BitVec 32) = wd 0 from rfl, wd_cmpi_sge (by constructor <;> omega) (by constructor <;> omega)]
  refine if_congr ?_ rfl rfl
  omega

section Lookup
variable {α : Type}

/-- A lookup of every row of a table at an array of columns. -/
abbrev colDims (H N R C : ℕ) (wf : GatherDims.WF ⟨2, ![H, N]⟩ ⟨3, ![R, C, 1]⟩ ⟨3, ![H, R, C]⟩ [0] [1] [] [1] [] 2 ![H, 1]) :
    GatherDims ⟨2, ![H, N]⟩ ⟨3, ![R, C, 1]⟩ ⟨3, ![H, R, C]⟩ where
  offsetDims := [0]
  collapsedSliceDims := [1]
  operandBatchingDims := []
  startIndicesBatchingDims := []
  startIndexMap := [1]
  indexVectorDim := 2
  sliceSizes := ![H, 1]
  wf := wf

/-- The looked up entry: row `h` of the table, at the column the index array holds at `(r, j)`. -/
theorem lookup_apply {H N R C w : ℕ} (hN : 0 < N)
    (wf : GatherDims.WF ⟨2, ![H, N]⟩ ⟨3, ![R, C, 1]⟩ ⟨3, ![H, R, C]⟩ [0] [1] [] [1] [] 2 ![H, 1])
    (x : (⟨2, ![H, N]⟩ : Shape).Idx → α) (idx : IVec ⟨3, ![R, C, 1]⟩ w) (h : Fin H) (r : Fin R) (j : Fin C) :
    Host.gather (colDims H N R C wf) x idx (ix3 h r j)
      = x (ix2 h ⟨min (idx (ix3 r j (0 : Fin 1))).toInt.toNat (N - 1), by omega⟩) := by
  unfold Host.gather
  congr 1
  funext a
  refine Fin.ext ?_
  show (colDims H N R C wf).start (ix3 h r j) idx a + (colDims H N R C wf).batchCoord (ix3 h r j) a
      + (colDims H N R C wf).offCoord (ix3 h r j) a = _
  rw [GatherDims.batchCoord_eq_zero _ _ _ List.not_mem_nil]
  match a with
  | ⟨0, _⟩ =>
    have e : (colDims H N R C wf).start (ix3 h r j) idx 0 = 0 := by
      unfold GatherDims.start
      rw [dif_neg (by simp)]
    show (colDims H N R C wf).start (ix3 h r j) idx 0 + 0 + (colDims H N R C wf).offCoord (ix3 h r j) 0 = _
    rw [e]
    simp only [Nat.zero_add, Nat.add_zero]
    unfold GatherDims.offCoord
    rw [dif_pos ((GatherDims.mem_sKept _ _).mpr ⟨by simp, by simp⟩)]
    rfl
  | ⟨1, _⟩ =>
    have e : (colDims H N R C wf).offCoord (ix3 h r j) 1 = 0 :=
      GatherDims.offCoord_eq_zero _ _ _ (fun h => ((GatherDims.mem_sKept _ _).mp h).1 (List.mem_singleton.mpr rfl))
    show (colDims H N R C wf).start (ix3 h r j) idx 1 + 0 + (colDims H N R C wf).offCoord (ix3 h r j) 1 = _
    rw [e]
    simp only [Nat.add_zero]
    unfold GatherDims.start
    rw [dif_pos (show (1 : Fin 2) ∈ (colDims H N R C wf).startIndexMap from List.mem_singleton.mpr rfl)]
    have hsi : (colDims H N R C wf).siIdx (ix3 h r j) ⟨List.idxOf (1 : Fin 2) (colDims H N R C wf).startIndexMap,
        List.idxOf_lt_length_iff.2 (List.mem_singleton.mpr rfl)⟩ = ix3 r j (0 : Fin 1) := by
      funext b; refine Fin.ext ?_
      match b with
      | ⟨0, _⟩ => rfl
      | ⟨1, _⟩ => rfl
      | ⟨2, _⟩ => rfl
    rw [hsi]
    rfl

end Lookup

end Cert.Attn

end
-- ==== Proof.Attn.HostBias.lean ====
/- The bias tile the kernel's host lines build, read at an index. -/
module

public import proofs.«01_k».proof.Proof.Gen.KernelIdeal.Frame.Runs
public import proofs.«01_k».proof.Proof.Attn.Spec
public import proofs.«01_k».proof.Proof.Attn.Table
public import Idealize.ShloMosaic.Lib.StableHlo.ReadAt

@[expose] public section

set_option maxRecDepth 16384

noncomputable section

namespace Cert.Attn.Tile

open Cert.KernelIdeal Cert.KernelIdeal.Gen Idealize.ShloMosaic.ValueIdx
open Idealize.ShloMosaic hiding ix1 ix2 ix3
open Idealize.ShloMosaic.TcCoe Idealize.SL.Sem

/-- Every tile has the same bias: a query's row `r` against the key `j` of its window, −∞ outside the band. -/
theorem bias_at (m : (ℓ : Loc nD τ sig) → Buf (Elt Ideal) ℓ) (c : Dev nD) (h : Fin 8) (r : Fin 256) (j : Fin 768) :
    (V m c main_v25 : S8x256x768.Idx → EReal) (ix3 h r j)
      = if r.val / 64 ≤ j.val / 64 ∧ j.val / 64 ≤ r.val / 64 + 8
        then (m (c, main_arg1) : S8x257.Idx → EReal) (ix2 h (rel r.val j.val)) else (⊥ : EReal) := by
  unfold V
  after_reads_at
  show Scalar.select (bandWord (BitVec.ofNat 32 r.val) (BitVec.ofNat 32 j.val))
    (Host.gather (colDims 8 257 256 768 _) (m (c, main_arg1) : S8x257.Idx → EReal) _ (ix3 h r j)) (Ideal.ofBits .f32 0xFF800000#32) = _
  rw [bandWord_eq r.val j.val r.isLt j.isLt]
  by_cases hb : r.val / 64 ≤ j.val / 64 ∧ j.val / 64 ≤ r.val / 64 + 8
  · rw [if_pos hb, if_pos hb, lookup_apply (by omega)]
    show (m (c, main_arg1) : S8x257.Idx → EReal) _ = _
    refine congrArg _ (congrArg (ix2 h) (Fin.ext ?_))
    have e := relWord_nat r.val j.val r.isLt j.isLt
    show min (BitVec.toInt _).toNat 256 = min 256 (r.val + 640 - j.val)
    refine (congrArg (fun n => min n 256) (Eq.trans ?_ e)).trans (by omega)
    rfl
  · rw [if_neg hb, if_neg hb]
    show Ideal.ofBits .f32 0xFF800000#32 = ⊥
    simp [Ideal.ofBits, Ideal.ieee]

end Cert.Attn.Tile

end
-- ==== Proof.Attn.Payload.lean ====
/- What one tile of the kernel computes, read at an index: the softmax of its scores, their gradient, and the tile's
   part of the gradients of queries, keys and values. -/
module

public import proofs.«01_k».proof.Proof.Gen.KernelIdeal.Skeleton
public import proofs.«01_k».proof.Proof.Attn.Spec
public import proofs.«01_k».proof.Proof.Attn.Words
public import Idealize.ShloMosaic.Lib.MatmulPlain
public import Idealize.ShloMosaic.Lib.ValueIdx
public import Idealize.ShloMosaic.Lib.ValueIdxCoords
public import Idealize.ShloMosaic.Lib.Pipeline.Value

@[expose] public section

noncomputable section

namespace Cert.Attn.Tile

open Cert.KernelIdeal Cert.KernelIdeal.Gen Idealize.ShloMosaic Idealize.ShloMosaic.ValueIdx
open Cert.KernelIdeal.Facts₀ Cert.KernelIdeal.Facts

/-- The scores of tile `t`: query row `r` against key `j` of the tile's window. -/
def tsc (t : ℕ) (q : Vec Ideal S256x128 .bf16) (kb : Vec Ideal S768x128 .bf16) (bias : Vec Ideal S1x256x768 .f32)
    (r : Fin 256) (j : Fin 768) : EReal :=
  if j.val + 256 * t < 512 then ⊥ else (∑ d : Fin 128, q (ix2 r d) * kb (ix2 j d)) * scl + bias (ix3 0 r j)

/-- The gradient of the tile's softmax. -/
def tdp (vb : Vec Ideal S768x128 .bf16) (o : Vec Ideal S256x128 .bf16) (r : Fin 256) (j : Fin 768) : EReal :=
  ∑ d : Fin 128, o (ix2 r d) * vb (ix2 j d)

/-- A row statistic, put back beside each element of its row. -/
theorem row_bcast (x : FVec Ideal S256 .f32) (h : S256.ShapeCasts S256x1) (hb : S256x1.Broadcasts S256x768)
    (r : Fin 256) (j : Fin 768) : broadcastTo S256x768 (shapeCast S256x1 x h) hb (ix2 r j) = x (ix1 r) := by
  rw [broadcastTo_apply _ hb _ (ix2 r (0 : Fin 1)) (fun a => by
    match a with
    | ⟨0, _⟩ => rfl
    | ⟨1, _⟩ => rfl)]
  exact shapeCast_apply _ h _ (ix1 r) (by
    rw [Shape.rowMajor_val_one, Shape.rowMajor_val_two]
    show r.val = r.val * 1 + 0
    omega)

theorem lift_row (h : S256x768.Reduces [1] S256) (r : Fin 256) (j : Fin 768) : h.lift (ix1 r) j = ix2 r j := by
  funext a; apply Fin.ext
  match a with
  | ⟨0, _⟩ => rfl
  | ⟨1, _⟩ => rfl

theorem bias_cast (x : Vec Ideal S1x256x768 .f32) (h : S1x256x768.ShapeCasts S256x768) (r : Fin 256) (j : Fin 768) :
    shapeCast S256x768 x h (ix2 r j) = x (ix3 0 r j) :=
  shapeCast_apply _ h _ _ (by
    rw [Shape.rowMajor_val_three, Shape.rowMajor_val_two]
    show (0 * 256 + r.val) * 768 + j.val = r.val * 768 + j.val
    omega)

/-- The masked scores as the kernel writes them. -/
theorem scores_apply (i : grid0.Coords) (q : Vec Ideal S256x128 .bf16) (kb : Vec Ideal S768x128 .bf16)
    (bias : Vec Ideal S1x256x768 .f32) (h : S1x256x768.ShapeCasts S256x768) (hi : S256x768.Iotas .tc 32 [1]) (r : Fin 256) (j : Fin 768) :
    select (cmpi .slt (iota .tc S256x768 32 [1] hi) (broadcast S256x768 (Scalar.subi 512#32 (Scalar.muli (BitVec.ofNat 32 (i 1).val) 256#32))))
        (broadcast S256x768 (Named.named (F := Ideal) κ "mask" (φ := .f32) 0xF149F2CA#32))
        (addf (mulf (matmul (F := Ideal) (φ₁ := .bf16) (φ₂ := .bf16) dot_S256x128_S768x128_S256x768_1_1_0_0_n_n none q kb (constant S256x768 .f32 0x00000000#32))
          (broadcast S256x768 (Scalar.ofBits .f32 0x3DB504F3#32))) (shapeCast S256x768 bias h)) (ix2 r j)
      = tsc (i 1).val q kb bias r j := by
  have hm : FloatOps.matmul (F := Ideal) (φ₁ := .bf16) (φ₂ := .bf16) (DotDims.transposedRhs 256 128 768) none q kb (constant S256x768 .f32 0x00000000#32) (ix2 r j)
      = ∑ d : Fin 128, q (ix2 r d) * kb (ix2 j d) := by
    rw [Ideal.matmul_transposedRhs_apply]
    show Ideal.ofBits .f32 0x00000000#32 + _ = _
    rw [Ideal.ofBits_zero_f32, zero_add]
  have hw := mask_word (i 1).val j.val (i 1).isLt j.isLt
  have hw' : cmpi .slt (iota .tc S256x768 32 [1] hi) (broadcast S256x768 (Scalar.subi 512#32 (Scalar.muli (BitVec.ofNat 32 (i 1).val) 256#32))) (ix2 r j)
      = if j.val + 256 * (i 1).val < 512 then 1#1 else 0#1 := by
    rw [← hw]
    show IntOp.cmpi .slt (BitVec.ofNat 32 (0 * 768 + j.val)) _ = _
    rw [Nat.zero_mul, Nat.zero_add]
    rfl
  unfold tsc
  rw [select_apply, hw']
  by_cases hc : j.val + 256 * (i 1).val < 512
  · rw [if_pos hc, if_pos hc]; rfl
  · rw [if_neg hc, if_neg hc]
    rw [show ∀ a b : EReal, Scalar.select 0#1 a b = b from fun _ _ => rfl, addf_apply, mulf_apply, bias_cast]
    exact congrArg (fun x => x * scl + bias (ix3 0 r j)) hm

theorem pay10_apply (i : grid0.Coords) (q : Vec Ideal S256x128 .bf16) (kb : Vec Ideal S768x128 .bf16)
    (bias : Vec Ideal S1x256x768 .f32) (r : Fin 256) (j : Fin 768) :
    k0_pay10 i q kb bias (ix2 r j) = rowP (tsc (i 1).val q kb bias r) j := by
  unfold k0_pay10
  generalize hs : select _ _ _ = s
  have hsr : ∀ r j, s (ix2 r j) = tsc (i 1).val q kb bias r j := fun r j => by rw [← hs]; exact scores_apply i q kb bias _ _ r j
  have hmax : ∀ (acc : BitVec 32) (h : S256x768.Reduces [1] S256) (a b) (r : Fin 256), acc = 0xFF800000#32 →
      multiReduction (F := Ideal) (φ := .f32) .maximumf [1] S256 s acc h a b (ix1 r) = rowMax (tsc (i 1).val q kb bias r) := by
    intro acc h a b r hacc
    subst hacc
    refine (Ideal.multiReduction_maximumf_single s _ h a b (ix1 r)).trans ?_
    have e : FloatOps.ofBits (F := Ideal) .f32 0xFF800000#32 = (⊥ : EReal) := by
      show Ideal.ofBits .f32 _ = _; simp [Ideal.ofBits, Ideal.ieee]
    rw [e]
    unfold rowMax
    congr 1
    funext j
    exact (congrArg s (lift_row h r j)).trans (hsr r j)
  have hexp : ∀ (acc : BitVec 32) (h : S256x768.Reduces [1] S256) (a b) (hc : S256.ShapeCasts S256x1) (hb : S256x1.Broadcasts S256x768) (r : Fin 256) (j : Fin 768), acc = 0xFF800000#32 →
      exp (F := Ideal) (φ := .f32) (subf s (broadcastTo S256x768 (shapeCast S256x1 (multiReduction (F := Ideal) (φ := .f32) .maximumf [1] S256 s acc h a b) hc) hb)) (ix2 r j)
        = rowExp (tsc (i 1).val q kb bias r) j := by
    intro acc h a b hc hb r j hacc
    show Ideal.exp (s (ix2 r j) - broadcastTo S256x768 _ hb (ix2 r j)) = _
    rw [row_bcast, hmax acc h a b r hacc, hsr]; rfl
  generalize he : exp (F := Ideal) _ = e
  have her : ∀ r j, e (ix2 r j) = rowExp (tsc (i 1).val q kb bias r) j := fun r j => by rw [← he]; exact hexp _ _ _ _ _ _ r j rfl
  rw [mulf_apply, her]
  unfold rowP
  congr 1
  rw [broadcastTo_apply _ _ _ (ix2 r (0 : Fin 1)) (fun a => by
    match a with
    | ⟨0, _⟩ => rfl
    | ⟨1, _⟩ => rfl), divf_apply]
  congr 1
  · show Ideal.ofBits .f32 0x3F800000#32 = 1
    simp [Ideal.ofBits, Ideal.ieee, -EReal.coe_mul]
    norm_num
  · rw [shapeCast_apply _ _ _ (ix1 r) (by
      rw [Shape.rowMajor_val_one, Shape.rowMajor_val_two]
      show r.val = r.val * 1 + 0
      omega)]
    refine (Ideal.multiReduction_add_single e _ _ _ _ (ix1 r)).trans ?_
    unfold rowSum
    exact Finset.sum_congr rfl fun k _ => (congrArg e (lift_row _ r k)).trans (her r k)

theorem pay11_apply (vb : Vec Ideal S768x128 .bf16) (o : Vec Ideal S256x128 .bf16) (r : Fin 256) (j : Fin 768) :
    k0_pay11 vb o (ix2 r j) = tdp vb o r j := by
  unfold k0_pay11 tdp
  refine (Ideal.matmul_transposedRhs_apply (M := 256) (K := 128) (N := 768) none o vb (constant S256x768 .f32 0x00000000#32) r j).trans ?_
  show Ideal.ofBits .f32 0x00000000#32 + _ = _
  rw [Ideal.ofBits_zero_f32, zero_add]

theorem pay13_apply (i : grid0.Coords) (q : Vec Ideal S256x128 .bf16) (kb : Vec Ideal S768x128 .bf16)
    (bias : Vec Ideal S1x256x768 .f32) (vb : Vec Ideal S768x128 .bf16) (o : Vec Ideal S256x128 .bf16) (r : Fin 256) (j : Fin 768) :
    k0_pay13 (k0_pay10 i q kb bias) (k0_pay11 vb o) (k0_pay12 i q kb bias vb o) (ix2 r j)
      = rowDs (tsc (i 1).val q kb bias r) (tdp vb o r) j := by
  unfold k0_pay13
  rw [mulf_apply, subf_apply, row_bcast, pay10_apply, pay11_apply]
  unfold rowDs
  congr 2
  refine (Ideal.multiReduction_add_single _ _ _ _ _ (ix1 r)).trans ?_
  refine Finset.sum_congr rfl fun k _ => ?_
  refine (congrArg _ (lift_row _ r k)).trans ?_
  show k0_pay11 vb o (ix2 r k) * k0_pay10 i q kb bias (ix2 r k) = _
  exact congrArg₂ (· * ·) (pay11_apply vb o r k) (pay10_apply i q kb bias r k)

/-- A product contracting both operands' rows, read at an index. -/
theorem matmul_tn_apply (lhs : FVec Ideal S256x768 .bf16) (rhs : FVec Ideal S256x128 .bf16) (j : Fin 768) (d : Fin 128) :
    FloatOps.matmul (F := Ideal) dot_S256x768_S256x128_S768x128_0_0_1_1_n_n none lhs rhs (constant S768x128 .f32 0x00000000#32) (ix2 j d)
      = ∑ r : Fin 256, lhs (ix2 r j) * rhs (ix2 r d) := by
  rw [Ideal.matmul_constant_zero_apply,
    ← Equiv.sum_comp (contrEquiv1 dot_S256x768_S256x128_S768x128_0_0_1_1_n_n 256 rfl rfl).symm]
  refine Finset.sum_congr rfl fun k _ => ?_
  have hk := contrEquiv1_symm_val dot_S256x768_S256x128_S768x128_0_0_1_1_n_n 256 rfl rfl k
  have el : dot_S256x768_S256x128_S768x128_0_0_1_1_n_n.lhsIdx (ix2 j d)
      ((contrEquiv1 dot_S256x768_S256x128_S768x128_0_0_1_1_n_n 256 rfl rfl).symm k) = ix2 k j := by
    funext a; apply Fin.ext
    match a with
    | ⟨0, _⟩ => exact hk
    | ⟨1, _⟩ => rfl
  have er : dot_S256x768_S256x128_S768x128_0_0_1_1_n_n.rhsIdx (ix2 j d)
      ((contrEquiv1 dot_S256x768_S256x128_S768x128_0_0_1_1_n_n 256 rfl rfl).symm k) = ix2 k d := by
    funext a; apply Fin.ext
    match a with
    | ⟨0, _⟩ => exact hk
    | ⟨1, _⟩ => rfl
  rw [el, er]

theorem pay16_apply (kb : Vec Ideal S768x128 .bf16) (p dp dpp : FVec Ideal S256x768 .f32) (r : Fin 256) (d : Fin 128) :
    k0_pay16 kb p dp dpp (ix2 r d) = (∑ j : Fin 768, k0_pay13 p dp dpp (ix2 r j) * kb (ix2 j d)) * scl := by
  unfold k0_pay16
  rw [truncf_apply, mulf_apply]
  refine congrArg (· * scl) ?_
  refine (Ideal.matmul_plain_apply (M := 256) (K := 768) (N := 128) none (k0_pay15 p dp dpp) kb (constant S256x128 .f32 0x00000000#32) r d).trans ?_
  show Ideal.ofBits .f32 0x00000000#32 + _ = _
  rw [Ideal.ofBits_zero_f32, zero_add]
  rfl

theorem pay17_apply (q : Vec Ideal S256x128 .bf16) (p dp dpp : FVec Ideal S256x768 .f32) (acc : Vec Ideal S768x128 .f32) (j : Fin 768) (d : Fin 128) :
    k0_pay17 q p dp dpp acc (ix2 j d) = acc (ix2 j d) + (∑ r : Fin 256, k0_pay13 p dp dpp (ix2 r j) * q (ix2 r d)) * scl := by
  unfold k0_pay17
  rw [shapeCast_self, addf_apply, mulf_apply]
  refine congrArg (fun x => acc (ix2 j d) + x * scl) ?_
  exact matmul_tn_apply (k0_pay15 p dp dpp) q j d

theorem pay18_apply (p : FVec Ideal S256x768 .f32) (o : Vec Ideal S256x128 .bf16) (acc : Vec Ideal S768x128 .f32) (j : Fin 768) (d : Fin 128) :
    k0_pay18 p o acc (ix2 j d) = acc (ix2 j d) + ∑ r : Fin 256, p (ix2 r j) * o (ix2 r d) := by
  unfold k0_pay18
  rw [shapeCast_self, addf_apply]
  exact congrArg (acc (ix2 j d) + ·) (matmul_tn_apply _ o j d)

end Cert.Attn.Tile

end
-- ==== Proof.Attn.Block.lean ====
/- What a grid point leaves in the output blocks and in the carried scratch, in the terms of one tile: the padded keys
   and values, and two accumulators of which a tile changes the rows of its window. -/
module

public import proofs.«01_k».proof.Proof.Gen.KernelIdeal.Frame
public import proofs.«01_k».proof.Proof.Attn.Payload
public import Idealize.ShloMosaic.Lib.WritesUnit
public import Idealize.ShloMosaic.Lib.WholeRead

@[expose] public section

set_option maxRecDepth 16384

noncomputable section

namespace Cert.Attn.Tile

open Cert.KernelIdeal Cert.KernelIdeal.Gen Idealize.ShloMosaic Idealize.ShloMosaic.ValueIdx
open Idealize.ShloMosaic.TcCoe Idealize.SL.Sem

/-- Rows `[256 t, 256 t + 768)` of a padded array. -/
def win {φ : EltTy} (t : Fin 16) (x : Vec Ideal S4608x128 φ) : Vec Ideal S768x128 φ := fun j =>
  x (ix2 ⟨256 * t.val + (j 0).val, by have h : (j 0).val < 768 := (j 0).isLt; omega⟩ (j 1))

/-- A padded array with those rows replaced. -/
def upd {φ : EltTy} (t : Fin 16) (x : Vec Ideal S4608x128 φ) (w : Vec Ideal S768x128 φ) : Vec Ideal S4608x128 φ := fun y =>
  if h : 256 * t.val ≤ (y 0).val ∧ (y 0).val < 256 * t.val + 768 then w (ix2 ⟨(y 0).val - 256 * t.val, by omega⟩ (y 1)) else x y

/-- An array behind 512 rows of zeros. -/
def pad (x : Vec Ideal S4096x128 .bf16) : Vec Ideal S4608x128 .bf16 := fun y =>
  if h : 512 ≤ (y 0).val then x (ix2 ⟨(y 0).val - 512, by have h' : (y 0).val < 4608 := (y 0).isLt; omega⟩ (y 1)) else (0 : EReal)

/-- The padded array without them. -/
def unpad {φ : EltTy} (x : Vec Ideal S4608x128 φ) : Vec Ideal S4096x128 φ := fun y =>
  x (ix2 ⟨512 + (y 0).val, by have h : (y 0).val < 4096 := (y 0).isLt; omega⟩ (y 1))

theorem off1_eq (i : grid0.Coords) : k0_off1 i = ![256 * (i 1).val, 0] := by
  have h : ∀ t : Fin 16, (Scalar.indexCast (Scalar.muli (BitVec.ofNat 32 t.val) 256#32) : Index).toNat = 256 * t.val := by decide
  unfold k0_off1
  funext a
  match a with
  | ⟨0, _⟩ => exact h (i 1)
  | ⟨1, _⟩ => rfl

theorem ld1 {s : Shape} {off size : Fin s.rank → ℕ} (inb : ∀ a, off a + size a ≤ s.size a)
    (x : (Rect.unit off size inb).toLoadRect.shape.Idx) (a : Fin s.rank) :
    ((Rect.unit off size inb).toLoadRect.idx x a).val = off a + 1 * (x a).val := rfl

/-- A load of a tile's window. -/
theorem readAt_win {e : EltTy} (m : Memref sig .tc .vmem S4608x128 e) (i : grid0.Coords)
    (inb : ∀ a, (k0_off1 i) a + S768x128.size a ≤ S4608x128.size a) (f : m.view.ty.Contents (Elt Ideal)) :
    View.readAt (Elt Ideal) m.view (Rect.unit (s := S4608x128) (k0_off1 i) S768x128.size inb).toLoadRect f = win (i 1) (m.view.read (Elt Ideal) f) := by
  funext x
  rw [View.readAt_apply]
  unfold win
  refine congrArg _ (funext fun a => Fin.ext ?_)
  rw [ld1, congrFun (off1_eq i) a]
  match a with
  | ⟨0, _⟩ => show 256 * (i 1).val + 1 * (x 0).val = 256 * (i 1).val + (x 0).val; omega
  | ⟨1, _⟩ => show 0 + 1 * (x 1).val = (x 1).val; omega

/-- A load of a whole block. -/
theorem readAt_all2 {A B : ℕ} {e : EltTy} (m : Memref sig .tc .vmem ⟨2, ![A, B]⟩ e) (h : m.IsWhole) (X : Vec Ideal ⟨2, ![A, B]⟩ e)
    (inb : ∀ a, (![0, 0] : Fin 2 → ℕ) a + (![A, B] : Fin 2 → ℕ) a ≤ (⟨2, ![A, B]⟩ : Shape).size a) :
    View.readAt (Elt Ideal) m.view (Rect.unit (s := ⟨2, ![A, B]⟩) ![0, 0] ![A, B] inb).toLoadRect (h.unread X) = X := by
  funext x
  rw [h.readAt_unread]
  refine congrArg _ (funext fun a => Fin.ext ?_)
  rw [ld1]
  match a with
  | ⟨0, _⟩ => show 0 + 1 * (x 0).val = (x 0).val; omega
  | ⟨1, _⟩ => show 0 + 1 * (x 1).val = (x 1).val; omega

theorem readAt_all3 (m : Memref sig .tc .vmem S1x256x768 .f32) (h : m.IsWhole) (X : Vec Ideal S1x256x768 .f32)
    (inb : ∀ a, (![0, 0, 0] : Fin 3 → ℕ) a + S1x256x768.size a ≤ S1x256x768.size a) :
    View.readAt (Elt Ideal) m.view (Rect.unit (s := S1x256x768) ![0, 0, 0] S1x256x768.size inb).toLoadRect (h.unread X) = X := by
  funext x
  rw [h.readAt_unread]
  refine congrArg _ (funext fun a => Fin.ext ?_)
  rw [ld1]
  match a with
  | ⟨0, _⟩ => show 0 + 1 * (x 0).val = (x 0).val; omega
  | ⟨1, _⟩ => show 0 + 1 * (x 1).val = (x 1).val; omega
  | ⟨2, _⟩ => show 0 + 1 * (x 2).val = (x 2).val; omega

/-- A store of a whole block. -/
theorem read_write_all {A B : ℕ} {e : EltTy} (v : View sig .tc .vmem ⟨2, ![A, B]⟩ e) (f : v.ty.Contents (Elt Ideal))
    (inb : ∀ a, (![0, 0] : Fin 2 → ℕ) a + (![A, B] : Fin 2 → ℕ) a ≤ (⟨2, ![A, B]⟩ : Shape).size a) (w : Vec Ideal ⟨2, ![A, B]⟩ e)
    (L : List (View.Piece (Elt Ideal) ⟨2, ![A, B]⟩ e)) :
    v.read (Elt Ideal) (v.writes (Elt Ideal) f ((⟨Rect.unit (s := ⟨2, ![A, B]⟩) ![0, 0] ![A, B] inb, w⟩ : View.Piece (Elt Ideal) ⟨2, ![A, B]⟩ e) :: L)) = w := by
  funext y
  exact View.read_writes_cons_rows_of_mem v f inb w L y y (o := 0) rfl (Nat.zero_add _).symm rfl

/-- A store of a tile's window. -/
theorem read_write_win {e : EltTy} (v : View sig .tc .vmem S4608x128 e) (f : v.ty.Contents (Elt Ideal)) (i : grid0.Coords)
    (inb : ∀ a, (k0_off1 i) a + S768x128.size a ≤ S4608x128.size a) (w : Vec Ideal S768x128 e)
    (L : List (View.Piece (Elt Ideal) S4608x128 e)) :
    v.read (Elt Ideal) (v.writes (Elt Ideal) f ((⟨Rect.unit (s := S4608x128) (k0_off1 i) S768x128.size inb, w⟩ : View.Piece (Elt Ideal) S4608x128 e) :: L))
      = upd (i 1) (v.read (Elt Ideal) (v.writes (Elt Ideal) f L)) w := by
  funext y
  unfold upd
  by_cases h : 256 * (i 1).val ≤ (y 0).val ∧ (y 0).val < 256 * (i 1).val + 768
  · rw [dif_pos h]
    exact View.read_writes_cons_rows_of_mem v f inb w L y _ (o := 256 * (i 1).val) (off1_eq i)
      (by show (y 0).val = 256 * (i 1).val + ((y 0).val - 256 * (i 1).val); omega) rfl
  · rw [dif_neg h]
    exact View.read_writes_cons_rows_of_not_mem v f inb w L y (o := 256 * (i 1).val) (W := 768) (off1_eq i) rfl (by omega)

/-- The two stores that fill a padded copy. -/
theorem read_write_pad (v : View sig .tc .vmem S4608x128 .bf16) (f : v.ty.Contents (Elt Ideal))
    (inb0 : ∀ a, (![0, 0] : Fin 2 → ℕ) a + S512x128.size a ≤ S4608x128.size a) (inb1 : ∀ a, (![512, 0] : Fin 2 → ℕ) a + S4096x128.size a ≤ S4608x128.size a)
    (z : Vec Ideal S512x128 .bf16) (hz : ∀ y, z y = (0 : EReal)) (w : Vec Ideal S4096x128 .bf16) :
    v.read (Elt Ideal) (v.writes (Elt Ideal) f [(⟨Rect.unit (s := S4608x128) ![512, 0] S4096x128.size inb1, w⟩ : View.Piece (Elt Ideal) S4608x128 .bf16),
      (⟨Rect.unit (s := S4608x128) ![0, 0] S512x128.size inb0, z⟩ : View.Piece (Elt Ideal) S4608x128 .bf16)]) = pad w := by
  funext y
  have hy : (y 0).val < 4608 := (y 0).isLt
  unfold pad
  by_cases h : 512 ≤ (y 0).val
  · rw [dif_pos h]
    exact View.read_writes_cons_rows_of_mem v f inb1 w _ y _ (o := 512) rfl
      (by show (y 0).val = 512 + ((y 0).val - 512); omega) rfl
  · rw [dif_neg h, View.read_writes_cons_rows_of_not_mem v f inb1 w _ y (o := 512) (W := 4096) rfl rfl (by omega),
      View.read_writes_cons_rows_of_mem v f inb0 z _ y (ix2 ⟨(y 0).val, by omega⟩ (y 1)) (o := 0) rfl (Nat.zero_add _).symm rfl]
    exact hz _

/-- A load of the rows behind the padding. -/
theorem readAt_unpad {e : EltTy} (m : Memref sig .tc .vmem S4608x128 e)
    (inb : ∀ a, (![512, 0] : Fin 2 → ℕ) a + S4096x128.size a ≤ S4608x128.size a) (f : m.view.ty.Contents (Elt Ideal)) :
    View.readAt (Elt Ideal) m.view (Rect.unit (s := S4608x128) ![512, 0] S4096x128.size inb).toLoadRect f = unpad (m.view.read (Elt Ideal) f) := by
  funext x
  rw [View.readAt_apply]
  unfold unpad
  refine congrArg _ (funext fun a => Fin.ext ?_)
  rw [ld1]
  match a with
  | ⟨0, _⟩ => show 512 + 1 * (x 0).val = 512 + (x 0).val; omega
  | ⟨1, _⟩ => show 0 + 1 * (x 1).val = (x 1).val; omega

/-- The tile's softmax, its gradient, and the product of the two, over padded keys and values. -/
abbrev tP (i : grid0.Coords) (x0 : Vec Ideal S256x128 .bf16) (x3 : Vec Ideal S1x256x768 .f32) (ks : Vec Ideal S4608x128 .bf16) :=
  k0_pay10 i x0 (win (i 1) ks) x3
abbrev tDp (i : grid0.Coords) (x4 : Vec Ideal S256x128 .bf16) (vs : Vec Ideal S4608x128 .bf16) := k0_pay11 (win (i 1) vs) x4
abbrev tDpp (i : grid0.Coords) (x0 : Vec Ideal S256x128 .bf16) (x3 : Vec Ideal S1x256x768 .f32) (x4 : Vec Ideal S256x128 .bf16) (ks vs : Vec Ideal S4608x128 .bf16) :=
  k0_pay12 i x0 (win (i 1) ks) x3 (win (i 1) vs) x4

/-- The tile's gradient of its queries. -/
def tDq (i : grid0.Coords) (x0 : Vec Ideal S256x128 .bf16) (x3 : Vec Ideal S1x256x768 .f32) (x4 : Vec Ideal S256x128 .bf16) (ks vs : Vec Ideal S4608x128 .bf16) : Vec Ideal S256x128 .bf16 :=
  k0_pay16 (win (i 1) ks) (tP i x0 x3 ks) (tDp i x4 vs) (tDpp i x0 x3 x4 ks vs)
/-- The accumulated gradient of the padded keys, after the tile. -/
def tDk (i : grid0.Coords) (x0 : Vec Ideal S256x128 .bf16) (x3 : Vec Ideal S1x256x768 .f32) (x4 : Vec Ideal S256x128 .bf16) (ks vs : Vec Ideal S4608x128 .bf16)
    (acc : Vec Ideal S4608x128 .f32) : Vec Ideal S4608x128 .f32 :=
  upd (i 1) acc (k0_pay17 x0 (tP i x0 x3 ks) (tDp i x4 vs) (tDpp i x0 x3 x4 ks vs) (win (i 1) acc))
/-- The accumulated gradient of the padded values, after the tile. -/
def tDv (i : grid0.Coords) (x0 : Vec Ideal S256x128 .bf16) (x3 : Vec Ideal S1x256x768 .f32) (x4 : Vec Ideal S256x128 .bf16) (ks : Vec Ideal S4608x128 .bf16)
    (acc : Vec Ideal S4608x128 .f32) : Vec Ideal S4608x128 .f32 :=
  upd (i 1) acc (k0_pay18 (tP i x0 x3 ks) x4 (win (i 1) acc))

/-- The padded keys, as the first tile of a head leaves them. -/
theorem padK (c : Dev nD) (arg3 : Memref sig .tc .vmem S4096x128 .bf16) (harg3 : arg3.IsWhole) (x1 : Vec Ideal S4096x128 .bf16)
    (v : View sig .tc .vmem S4608x128 .bf16) :
    v.read (Elt Ideal) (v.writes (Elt Ideal) v.junk (kernelRun0_A.sl.HS0_2 c arg3 harg3 x1)) = pad x1 := by
  unfold kernelRun0_A.sl.HS0_2
  have e : k0_pay4 (View.readAt (Elt Ideal) arg3.view (Rect.unit (s := S4096x128) ![0, 0] S4096x128.size inb_S4096x128_S4096x128_0_0).toLoadRect (harg3.unread x1)) = x1 := by
    have h := readAt_all2 arg3 harg3 x1 inb_S4096x128_S4096x128_0_0
    unfold k0_pay4
    rw [shapeCast_self]
    exact h
  rw [e]
  refine read_write_pad _ _ _ _ _ (fun y => ?_) _
  show Ideal.ofBits .bf16 0x0000#16 = 0
  simp [Ideal.ofBits, Ideal.ieee]

/-- The padded values, likewise. -/
theorem padV (c : Dev nD) (arg4 : Memref sig .tc .vmem S4096x128 .bf16) (harg4 : arg4.IsWhole) (x2 : Vec Ideal S4096x128 .bf16)
    (v : View sig .tc .vmem S4608x128 .bf16) :
    v.read (Elt Ideal) (v.writes (Elt Ideal) v.junk (kernelRun0_A.sl.HS1_2 c arg4 harg4 x2)) = pad x2 := by
  unfold kernelRun0_A.sl.HS1_2
  have e : k0_pay6 (View.readAt (Elt Ideal) arg4.view (Rect.unit (s := S4096x128) ![0, 0] S4096x128.size inb_S4096x128_S4096x128_0_0).toLoadRect (harg4.unread x2)) = x2 := by
    have h := readAt_all2 arg4 harg4 x2 inb_S4096x128_S4096x128_0_0
    unfold k0_pay6
    rw [shapeCast_self]
    exact h
  rw [e]
  refine read_write_pad _ _ _ _ _ (fun y => ?_) _
  show Ideal.ofBits .bf16 0x0000#16 = 0
  simp [Ideal.ofBits, Ideal.ieee]

theorem zeros2 (v : View sig .tc .vmem S4608x128 .f32) :
    v.read (Elt Ideal) (v.writes (Elt Ideal) v.junk kernelRun0_A.sl.HS2_1) = fun _ => (0 : EReal) := by
  unfold kernelRun0_A.sl.HS2_1
  refine (read_write_all _ _ _ _ _).trans (funext fun y => ?_)
  show Ideal.ofBits .f32 0x00000000#32 = 0
  exact Ideal.ofBits_zero_f32

theorem zeros3 (v : View sig .tc .vmem S4608x128 .f32) :
    v.read (Elt Ideal) (v.writes (Elt Ideal) v.junk kernelRun0_A.sl.HS3_1) = fun _ => (0 : EReal) := by
  unfold kernelRun0_A.sl.HS3_1
  refine (read_write_all _ _ _ _ _).trans (funext fun y => ?_)
  show Ideal.ofBits .f32 0x00000000#32 = 0
  exact Ideal.ofBits_zero_f32

section points

variable (c : Dev nD) (i : grid0.Coords)
  (arg2 : Memref sig .tc .vmem S256x128 .bf16) (harg2 : arg2.IsWhole) (arg3 : Memref sig .tc .vmem S4096x128 .bf16) (harg3 : arg3.IsWhole)
  (arg4 : Memref sig .tc .vmem S4096x128 .bf16) (harg4 : arg4.IsWhole) (arg5 : Memref sig .tc .vmem S1x256x768 .f32) (harg5 : arg5.IsWhole)
  (arg6 : Memref sig .tc .vmem S256x128 .bf16) (harg6 : arg6.IsWhole) (arg7 : Memref sig .tc .vmem S256x128 .bf16) (harg7 : arg7.IsWhole)
  (arg8 : Memref sig .tc .vmem S4096x128 .bf16) (harg8 : arg8.IsWhole) (arg9 : Memref sig .tc .vmem S4096x128 .bf16) (harg9 : arg9.IsWhole)
  (arg10 : Memref sig .tc .vmem S1x256x768 .f32) (harg10 : arg10.IsWhole) (arg11 : Memref sig .tc .vmem S4608x128 .bf16) (harg11 : arg11.IsWhole)
  (arg12 : Memref sig .tc .vmem S4608x128 .bf16) (harg12 : arg12.IsWhole) (arg13 : Memref sig .tc .vmem S4608x128 .f32) (harg13 : arg13.IsWhole)
  (arg14 : Memref sig .tc .vmem S4608x128 .f32) (harg14 : arg14.IsWhole)
  (x0 : Vec Ideal S256x128 .bf16) (x1 x2 : Vec Ideal S4096x128 .bf16) (x3 : Vec Ideal S1x256x768 .f32) (x4 : Vec Ideal S256x128 .bf16)
  (xo8 : Vec Ideal S1x256x768 .f32) (xs0 xs1 : Vec Ideal S4608x128 .bf16) (xs2 xs3 : Vec Ideal S4608x128 .f32)

theorem out0_A_5_eq (hc0 : cond0_0 i) (hc1 : ¬cond0_1 i) :
    out0_A_5 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4
      = tDq i x0 x3 x4 (pad x1) (pad x2) := by
  unfold out0_A_5 kernelRun0_A
  dsimp only
  refine (read_write_all _ _ _ _ _).trans ?_
  unfold kernelRun0_A.sl.r_1 kernelRun0_A.sl.r_2 kernelRun0_A.sl.r_4 kernelRun0_A.sl.r_5
  have e2 := readAt_all2 arg2 harg2 x0 inb_S256x128_S256x128_0_0
  have e5 := readAt_all3 arg5 harg5 x3 inb_S1x256x768_S1x256x768_0_0_0
  have e6 := readAt_all2 arg6 harg6 x4 inb_S256x128_S256x128_0_0
  have e11 := (readAt_win arg11 i (k0_off1_inb i) (arg11.view.writes (Elt Ideal) arg11.view.junk (kernelRun0_A.sl.HS0_2 c arg3 harg3 x1))).trans
    (congrArg (win (i 1)) (padK c arg3 harg3 x1 arg11.view))
  have e12 := (readAt_win arg12 i (k0_off1_inb i) (arg12.view.writes (Elt Ideal) arg12.view.junk (kernelRun0_A.sl.HS1_2 c arg4 harg4 x2))).trans
    (congrArg (win (i 1)) (padV c arg4 harg4 x2 arg12.view))
  simp only [e2, e5, e6, e11, e12]
  rfl
theorem sout0_A_0_eq (hc0 : cond0_0 i) (hc1 : ¬cond0_1 i) :
    sout0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4
      = pad x1 := by
  unfold sout0_A_0 kernelRun0_A
  dsimp only
  exact padK c arg3 harg3 x1 _
theorem sout0_A_1_eq (hc0 : cond0_0 i) (hc1 : ¬cond0_1 i) :
    sout0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4
      = pad x2 := by
  unfold sout0_A_1 kernelRun0_A
  dsimp only
  exact padV c arg4 harg4 x2 _
theorem sout0_A_2_eq (hc0 : cond0_0 i) (hc1 : ¬cond0_1 i) :
    sout0_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4
      = tDk i x0 x3 x4 (pad x1) (pad x2) (fun _ => (0 : EReal)) := by
  unfold sout0_A_2 kernelRun0_A
  dsimp only
  refine (read_write_win _ _ _ _ _ _).trans ?_
  unfold kernelRun0_A.sl.r kernelRun0_A.sl.r_2 kernelRun0_A.sl.r_4 kernelRun0_A.sl.r_5
  have e2 := readAt_all2 arg2 harg2 x0 inb_S256x128_S256x128_0_0
  have e5 := readAt_all3 arg5 harg5 x3 inb_S1x256x768_S1x256x768_0_0_0
  have e6 := readAt_all2 arg6 harg6 x4 inb_S256x128_S256x128_0_0
  have e11 := (readAt_win arg11 i (k0_off1_inb i) (arg11.view.writes (Elt Ideal) arg11.view.junk (kernelRun0_A.sl.HS0_2 c arg3 harg3 x1))).trans
    (congrArg (win (i 1)) (padK c arg3 harg3 x1 arg11.view))
  have e12 := (readAt_win arg12 i (k0_off1_inb i) (arg12.view.writes (Elt Ideal) arg12.view.junk (kernelRun0_A.sl.HS1_2 c arg4 harg4 x2))).trans
    (congrArg (win (i 1)) (padV c arg4 harg4 x2 arg12.view))
  have e13 := (readAt_win arg13 i (k0_off1_inb i) (arg13.view.writes (Elt Ideal) arg13.view.junk kernelRun0_A.sl.HS2_1)).trans
    (congrArg (win (i 1)) (zeros2 arg13.view))
  simp only [e2, e5, e6, e11, e12, e13]
  unfold tDk
  exact congrArg (fun a => upd (i 1) a _) (zeros2 _)
theorem sout0_A_3_eq (hc0 : cond0_0 i) (hc1 : ¬cond0_1 i) :
    sout0_A_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4
      = tDv i x0 x3 x4 (pad x1) (fun _ => (0 : EReal)) := by
  unfold sout0_A_3 kernelRun0_A
  dsimp only
  refine (read_write_win _ _ _ _ _ _).trans ?_
  unfold kernelRun0_A.sl.r_2 kernelRun0_A.sl.r_3
  have e2 := readAt_all2 arg2 harg2 x0 inb_S256x128_S256x128_0_0
  have e5 := readAt_all3 arg5 harg5 x3 inb_S1x256x768_S1x256x768_0_0_0
  have e6 := readAt_all2 arg6 harg6 x4 inb_S256x128_S256x128_0_0
  have e11 := (readAt_win arg11 i (k0_off1_inb i) (arg11.view.writes (Elt Ideal) arg11.view.junk (kernelRun0_A.sl.HS0_2 c arg3 harg3 x1))).trans
    (congrArg (win (i 1)) (padK c arg3 harg3 x1 arg11.view))
  have e12 := (readAt_win arg12 i (k0_off1_inb i) (arg12.view.writes (Elt Ideal) arg12.view.junk (kernelRun0_A.sl.HS1_2 c arg4 harg4 x2))).trans
    (congrArg (win (i 1)) (padV c arg4 harg4 x2 arg12.view))
  have e14 := (readAt_win arg14 i (k0_off1_inb i) (arg14.view.writes (Elt Ideal) arg14.view.junk kernelRun0_A.sl.HS3_1)).trans
    (congrArg (win (i 1)) (zeros3 arg14.view))
  simp only [e2, e5, e6, e11, e12, e14]
  unfold tDv
  exact congrArg (fun a => upd (i 1) a _) (zeros3 _)
theorem out0_B_5_eq (hc0 : ¬cond0_0 i) (hc1 : ¬cond0_1 i) :
    out0_B_5 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xo8 xs0 xs1 xs2 xs3
      = tDq i x0 x3 x4 xs0 xs1 := by
  unfold out0_B_5 kernelRun0_B
  dsimp only
  refine (read_write_all _ _ _ _ _).trans ?_
  unfold kernelRun0_B.sl.r_1 kernelRun0_B.sl.r_2 kernelRun0_B.sl.r_4 kernelRun0_B.sl.r_5
  have e2 := readAt_all2 arg2 harg2 x0 inb_S256x128_S256x128_0_0
  have e5 := readAt_all3 arg5 harg5 x3 inb_S1x256x768_S1x256x768_0_0_0
  have e6 := readAt_all2 arg6 harg6 x4 inb_S256x128_S256x128_0_0
  have e11 := readAt_win arg11 i (k0_off1_inb i) (harg11.unread xs0)
  have e12 := readAt_win arg12 i (k0_off1_inb i) (harg12.unread xs1)
  rw [harg11.read_unread] at e11
  rw [harg12.read_unread] at e12
  simp only [e2, e5, e6, e11, e12]
  rfl
theorem sout0_B_0_eq (hc0 : ¬cond0_0 i) (hc1 : ¬cond0_1 i) :
    sout0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xo8 xs0 xs1 xs2 xs3
      = xs0 := by
  unfold sout0_B_0
  rfl
theorem sout0_B_1_eq (hc0 : ¬cond0_0 i) (hc1 : ¬cond0_1 i) :
    sout0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xo8 xs0 xs1 xs2 xs3
      = xs1 := by
  unfold sout0_B_1
  rfl
theorem sout0_B_2_eq (hc0 : ¬cond0_0 i) (hc1 : ¬cond0_1 i) :
    sout0_B_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xo8 xs0 xs1 xs2 xs3
      = tDk i x0 x3 x4 xs0 xs1 xs2 := by
  unfold sout0_B_2 kernelRun0_B
  dsimp only
  refine (read_write_win _ _ _ _ _ _).trans ?_
  unfold kernelRun0_B.sl.r kernelRun0_B.sl.r_2 kernelRun0_B.sl.r_4 kernelRun0_B.sl.r_5
  have e2 := readAt_all2 arg2 harg2 x0 inb_S256x128_S256x128_0_0
  have e5 := readAt_all3 arg5 harg5 x3 inb_S1x256x768_S1x256x768_0_0_0
  have e6 := readAt_all2 arg6 harg6 x4 inb_S256x128_S256x128_0_0
  have e11 := readAt_win arg11 i (k0_off1_inb i) (harg11.unread xs0)
  have e12 := readAt_win arg12 i (k0_off1_inb i) (harg12.unread xs1)
  rw [harg11.read_unread] at e11
  rw [harg12.read_unread] at e12
  have e13 := readAt_win arg13 i (k0_off1_inb i) (harg13.unread xs2)
  rw [harg13.read_unread] at e13
  simp only [e2, e5, e6, e11, e12, e13]
  unfold tDk
  exact congrArg (fun a => upd (i 1) a _) (harg13.read_unread xs2)
theorem sout0_B_3_eq (hc0 : ¬cond0_0 i) (hc1 : ¬cond0_1 i) :
    sout0_B_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xo8 xs0 xs1 xs2 xs3
      = tDv i x0 x3 x4 xs0 xs3 := by
  unfold sout0_B_3 kernelRun0_B
  dsimp only
  refine (read_write_win _ _ _ _ _ _).trans ?_
  unfold kernelRun0_B.sl.r_2 kernelRun0_B.sl.r_3
  have e2 := readAt_all2 arg2 harg2 x0 inb_S256x128_S256x128_0_0
  have e5 := readAt_all3 arg5 harg5 x3 inb_S1x256x768_S1x256x768_0_0_0
  have e6 := readAt_all2 arg6 harg6 x4 inb_S256x128_S256x128_0_0
  have e11 := readAt_win arg11 i (k0_off1_inb i) (harg11.unread xs0)
  have e12 := readAt_win arg12 i (k0_off1_inb i) (harg12.unread xs1)
  rw [harg11.read_unread] at e11
  rw [harg12.read_unread] at e12
  have e14 := readAt_win arg14 i (k0_off1_inb i) (harg14.unread xs3)
  rw [harg14.read_unread] at e14
  simp only [e2, e5, e6, e11, e12, e14]
  unfold tDv
  exact congrArg (fun a => upd (i 1) a _) (harg14.read_unread xs3)
theorem out0_C_5_eq (hc0 : ¬cond0_0 i) (hc1 : cond0_1 i) :
    out0_C_5 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xo8 xs0 xs1 xs2 xs3
      = tDq i x0 x3 x4 xs0 xs1 := by
  unfold out0_C_5 kernelRun0_C
  dsimp only
  refine (read_write_all _ _ _ _ _).trans ?_
  unfold kernelRun0_C.sl.r_1 kernelRun0_C.sl.r_2 kernelRun0_C.sl.r_4 kernelRun0_C.sl.r_5
  have e2 := readAt_all2 arg2 harg2 x0 inb_S256x128_S256x128_0_0
  have e5 := readAt_all3 arg5 harg5 x3 inb_S1x256x768_S1x256x768_0_0_0
  have e6 := readAt_all2 arg6 harg6 x4 inb_S256x128_S256x128_0_0
  have e11 := readAt_win arg11 i (k0_off1_inb i) (harg11.unread xs0)
  have e12 := readAt_win arg12 i (k0_off1_inb i) (harg12.unread xs1)
  rw [harg11.read_unread] at e11
  rw [harg12.read_unread] at e12
  simp only [e2, e5, e6, e11, e12]
  rfl
theorem sout0_C_0_eq (hc0 : ¬cond0_0 i) (hc1 : cond0_1 i) :
    sout0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xo8 xs0 xs1 xs2 xs3
      = xs0 := by
  unfold sout0_C_0
  rfl
theorem sout0_C_1_eq (hc0 : ¬cond0_0 i) (hc1 : cond0_1 i) :
    sout0_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xo8 xs0 xs1 xs2 xs3
      = xs1 := by
  unfold sout0_C_1
  rfl
theorem sout0_C_2_eq (hc0 : ¬cond0_0 i) (hc1 : cond0_1 i) :
    sout0_C_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xo8 xs0 xs1 xs2 xs3
      = tDk i x0 x3 x4 xs0 xs1 xs2 := by
  unfold sout0_C_2 kernelRun0_C
  dsimp only
  unfold kernelRun0_C.sl.HS2_1
  refine (read_write_win _ _ _ _ _ _).trans ?_
  unfold kernelRun0_C.sl.r kernelRun0_C.sl.r_2 kernelRun0_C.sl.r_4 kernelRun0_C.sl.r_5
  have e2 := readAt_all2 arg2 harg2 x0 inb_S256x128_S256x128_0_0
  have e5 := readAt_all3 arg5 harg5 x3 inb_S1x256x768_S1x256x768_0_0_0
  have e6 := readAt_all2 arg6 harg6 x4 inb_S256x128_S256x128_0_0
  have e11 := readAt_win arg11 i (k0_off1_inb i) (harg11.unread xs0)
  have e12 := readAt_win arg12 i (k0_off1_inb i) (harg12.unread xs1)
  rw [harg11.read_unread] at e11
  rw [harg12.read_unread] at e12
  have e13 := readAt_win arg13 i (k0_off1_inb i) (harg13.unread xs2)
  rw [harg13.read_unread] at e13
  simp only [e2, e5, e6, e11, e12, e13]
  unfold tDk
  exact congrArg (fun a => upd (i 1) a _) (harg13.read_unread xs2)
theorem sout0_C_3_eq (hc0 : ¬cond0_0 i) (hc1 : cond0_1 i) :
    sout0_C_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xo8 xs0 xs1 xs2 xs3
      = tDv i x0 x3 x4 xs0 xs3 := by
  unfold sout0_C_3 kernelRun0_C
  dsimp only
  unfold kernelRun0_C.sl.HS3_1
  refine (read_write_win _ _ _ _ _ _).trans ?_
  unfold kernelRun0_C.sl.r_2 kernelRun0_C.sl.r_3
  have e2 := readAt_all2 arg2 harg2 x0 inb_S256x128_S256x128_0_0
  have e5 := readAt_all3 arg5 harg5 x3 inb_S1x256x768_S1x256x768_0_0_0
  have e6 := readAt_all2 arg6 harg6 x4 inb_S256x128_S256x128_0_0
  have e11 := readAt_win arg11 i (k0_off1_inb i) (harg11.unread xs0)
  have e12 := readAt_win arg12 i (k0_off1_inb i) (harg12.unread xs1)
  rw [harg11.read_unread] at e11
  rw [harg12.read_unread] at e12
  have e14 := readAt_win arg14 i (k0_off1_inb i) (harg14.unread xs3)
  rw [harg14.read_unread] at e14
  simp only [e2, e5, e6, e11, e12, e14]
  unfold tDv
  exact congrArg (fun a => upd (i 1) a _) (harg14.read_unread xs3)
theorem out0_C_6_eq (hc0 : ¬cond0_0 i) (hc1 : cond0_1 i) :
    out0_C_6 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xo8 xs0 xs1 xs2 xs3
      = unpad (tDk i x0 x3 x4 xs0 xs1 xs2) := by
  unfold out0_C_6 kernelRun0_C
  dsimp only
  refine (read_write_all _ _ _ _ _).trans ?_
  unfold kernelRun0_C.sl.v75
  have e := readAt_unpad arg13 inb_S4608x128_S4096x128_512_0 (arg13.view.writes (Elt Ideal) (harg13.unread xs2) (kernelRun0_C.sl.HS2_1 c i arg2 harg2 arg5 harg5 arg6 harg6 arg11 harg11 arg12 harg12 arg13 harg13 x0 x3 x4 xs0 xs1 xs2))
  refine (funext fun y => congrFun e y).trans ?_
  have h := sout0_C_2_eq c i arg2 harg2 arg3 harg3 arg4 harg4 arg5 harg5 arg6 harg6 arg7 harg7 arg8 harg8 arg9 harg9 arg10 harg10 arg11 harg11 arg12 harg12 arg13 harg13 arg14 harg14 x0 x1 x2 x3 x4 xo8 xs0 xs1 xs2 xs3 hc0 hc1
  unfold sout0_C_2 kernelRun0_C at h
  dsimp only at h
  exact congrArg unpad h
theorem out0_C_7_eq (hc0 : ¬cond0_0 i) (hc1 : cond0_1 i) :
    out0_C_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xo8 xs0 xs1 xs2 xs3
      = unpad (tDv i x0 x3 x4 xs0 xs3) := by
  unfold out0_C_7 kernelRun0_C
  dsimp only
  refine (read_write_all _ _ _ _ _).trans ?_
  unfold kernelRun0_C.sl.v78
  have e := readAt_unpad arg14 inb_S4608x128_S4096x128_512_0 (arg14.view.writes (Elt Ideal) (harg14.unread xs3) (kernelRun0_C.sl.HS3_1 c i arg2 harg2 arg5 harg5 arg6 harg6 arg11 harg11 arg14 harg14 x0 x3 x4 xs0 xs3))
  refine (funext fun y => congrFun e y).trans ?_
  have h := sout0_C_3_eq c i arg2 harg2 arg3 harg3 arg4 harg4 arg5 harg5 arg6 harg6 arg7 harg7 arg8 harg8 arg9 harg9 arg10 harg10 arg11 harg11 arg12 harg12 arg13 harg13 arg14 harg14 x0 x1 x2 x3 x4 xo8 xs0 xs1 xs2 xs3 hc0 hc1
  unfold sout0_C_3 kernelRun0_C at h
  dsimp only at h
  exact congrArg unpad h

end points

end Cert.Attn.Tile

end
-- ==== Proof.Attn.Head.lean ====
/- The three gradients as arrays: every head's queries, padded keys, padded values, bias row and incoming gradient, cut
   from the arrays the programs are given, and the gradients of that head laid side by side. -/
module

public import proofs.«01_k».proof.Proof.Attn.Spec
public import Idealize.ShloMosaic.Lib.ValueIdx

@[expose] public section

noncomputable section

namespace Cert.Attn

open Idealize.ShloMosaic Idealize.ShloMosaic.ValueIdx

/-- The projections: queries, keys and values first. -/
abbrev ProjA := (⟨2, ![4096, 11264]⟩ : Shape).Idx → EReal
/-- The bias table. -/
abbrev BiasA := (⟨2, ![8, 257]⟩ : Shape).Idx → EReal
/-- An array with the heads side by side. -/
abbrev HeadsA := (⟨2, ![4096, 1024]⟩ : Shape).Idx → EReal

def hq (x : ProjA) (h : Fin 8) (Q : Fin 4096) (d : Fin 128) : EReal := x (ix2 Q ⟨128 * h.val + d.val, by omega⟩)
def hk (x : ProjA) (h : Fin 8) (K : Fin 4608) (d : Fin 128) : EReal :=
  if hK : 512 ≤ K.val then x (ix2 ⟨K.val - 512, by omega⟩ ⟨1024 + 128 * h.val + d.val, by omega⟩) else 0
def hv (x : ProjA) (h : Fin 8) (K : Fin 4608) (d : Fin 128) : EReal :=
  if hK : 512 ≤ K.val then x (ix2 ⟨K.val - 512, by omega⟩ ⟨2048 + 128 * h.val + d.val, by omega⟩) else 0
def ho (y : HeadsA) (h : Fin 8) (Q : Fin 4096) (d : Fin 128) : EReal := y (ix2 Q ⟨128 * h.val + d.val, by omega⟩)
def hb (z : BiasA) (h : Fin 8) (n : Fin 257) : EReal := z (ix2 h n)

/-- The head a column belongs to, and the column's place in it. -/
def hd (j : Fin 1024) : Fin 8 := ⟨j.val / 128, by omega⟩
def lane (j : Fin 1024) : Fin 128 := ⟨j.val % 128, by omega⟩

def gq (x : ProjA) (z : BiasA) (y : HeadsA) (Q : Fin 4096) (j : Fin 1024) : EReal :=
  dq (hq x (hd j)) (ho y (hd j)) (hk x (hd j)) (hv x (hd j)) (hb z (hd j)) Q (lane j)
def gk (x : ProjA) (z : BiasA) (y : HeadsA) (K : Fin 4096) (j : Fin 1024) : EReal :=
  dk (hq x (hd j)) (ho y (hd j)) (hk x (hd j)) (hv x (hd j)) (hb z (hd j)) ⟨512 + K.val, by omega⟩ (lane j)
def gv (x : ProjA) (z : BiasA) (y : HeadsA) (K : Fin 4096) (j : Fin 1024) : EReal :=
  dv (hq x (hd j)) (ho y (hd j)) (hk x (hd j)) (hb z (hd j)) ⟨512 + K.val, by omega⟩ (lane j)

end Cert.Attn

end
-- ==== Proof.Attn.TileValue.lean ====
/- A tile's results in the terms of the head: its rows of the queries' gradient, and what it adds to the gradients of
   every padded key and value. -/
module

public import proofs.«01_k».proof.Proof.Attn.Block
public import proofs.«01_k».proof.Proof.Attn.Head
public import Idealize.ShloMosaic.Lib.FinSumWindow

@[expose] public section

noncomputable section

namespace Cert.Attn.Tile

open Cert.KernelIdeal Cert.KernelIdeal.Gen Idealize.ShloMosaic Idealize.ShloMosaic.ValueIdx
open Idealize.ShloMosaic.FinSumWindow

/-- Row `r` of tile `t`. -/
abbrev row (t : Fin 16) (r : Fin 256) : Fin 4096 := ⟨256 * t.val + r.val, by omega⟩
/-- Key `j` of tile `t`'s window. -/
abbrev key (t : Fin 16) (j : Fin 768) : Fin 4608 := ⟨256 * t.val + j.val, by omega⟩

section tile

variable (q o : Fin 4096 → Fin 128 → EReal) (kp vp : Fin 4608 → Fin 128 → EReal) (b : Fin 257 → EReal)
  (i : grid0.Coords) (t : Fin 16) (hi : i 1 = t)
  (x0 : Vec Ideal S256x128 .bf16) (x3 : Vec Ideal S1x256x768 .f32) (x4 : Vec Ideal S256x128 .bf16) (ks vs : Vec Ideal S4608x128 .bf16)
  (h0 : ∀ r d, x0 (ix2 r d) = q (row t r) d) (h4 : ∀ r d, x4 (ix2 r d) = o (row t r) d)
  (hk : ∀ K d, ks (ix2 K d) = kp K d) (hv : ∀ K d, vs (ix2 K d) = vp K d)
  (h3 : ∀ (r : Fin 256) (j : Fin 768), x3 (ix3 0 r j) = if r.val / 64 ≤ j.val / 64 ∧ j.val / 64 ≤ r.val / 64 + 8 then b (rel r.val j.val) else (⊥ : EReal))

include hi

include h0 hk h3 in
theorem tsc_eq (r : Fin 256) (j : Fin 768) : tsc t.val x0 (win (i 1) ks) x3 r j = sc q kp b (row t r) (key t j) := by
  subst hi
  unfold tsc sc
  have hr : rel (row (i 1) r).val (key (i 1) j).val = rel r.val j.val := Fin.ext (by
    show min 256 (256 * (i 1).val + r.val + 640 - (256 * (i 1).val + j.val)) = min 256 (r.val + 640 - j.val)
    omega)
  have hv : Valid (row (i 1) r) (key (i 1) j) ↔ ¬(j.val + 256 * (i 1).val < 512) ∧ (r.val / 64 ≤ j.val / 64 ∧ j.val / 64 ≤ r.val / 64 + 8) := by
    show 512 ≤ 256 * (i 1).val + j.val ∧ (256 * (i 1).val + r.val) / 64 ≤ (256 * (i 1).val + j.val) / 64 ∧ (256 * (i 1).val + j.val) / 64 ≤ (256 * (i 1).val + r.val) / 64 + 8 ↔ _
    omega
  by_cases hc : j.val + 256 * (i 1).val < 512
  · rw [if_pos hc, if_neg (fun h => (hv.mp h).1 hc)]
  · rw [if_neg hc, h3, hr]
    by_cases hb : r.val / 64 ≤ j.val / 64 ∧ j.val / 64 ≤ r.val / 64 + 8
    · rw [if_pos hb, if_pos (hv.mpr ⟨hc, hb⟩)]
      refine congrArg (fun x => x * scl + b (rel r.val j.val)) (Finset.sum_congr rfl fun d _ => ?_)
      exact congrArg₂ (· * ·) (h0 r d) (hk (key (i 1) j) d)
    · rw [if_neg hb, if_neg (fun h => hb (hv.mp h).2), EReal.add_bot]

include h4 hv in
theorem tdp_eq (r : Fin 256) (j : Fin 768) : tdp (win (i 1) vs) x4 r j = dp o vp (row t r) (key t j) := by
  subst hi
  unfold tdp dp
  exact Finset.sum_congr rfl fun d _ => congrArg₂ (· * ·) (h4 r d) (hv (key (i 1) j) d)

omit hi in
theorem sc_off (r : Fin 256) (K : Fin 4608) (h : ¬(256 * t.val ≤ K.val ∧ K.val < 256 * t.val + 768)) : sc q kp b (row t r) K = ⊥ := by
  unfold sc
  refine if_neg fun hV => h ?_
  obtain ⟨h1, h2, h3⟩ := hV
  have h2' : (256 * t.val + r.val) / 64 ≤ K.val / 64 := h2
  have h3' : K.val / 64 ≤ (256 * t.val + r.val) / 64 + 8 := h3
  omega

include h0 hk h3 in
theorem tP_eq (r : Fin 256) (j : Fin 768) : tP i x0 x3 ks (ix2 r j) = p q kp b (row t r) (key t j) := by
  have e : tsc (i 1).val x0 (win (i 1) ks) x3 r = fun j => sc q kp b (row t r) (key t j) := by
    funext j; rw [show (i 1).val = t.val from congrArg Fin.val hi]
    exact tsc_eq q kp b i t hi x0 x3 ks h0 hk h3 r j
  unfold tP
  rw [pay10_apply, e]
  exact rowP_window (256 * t.val) (by have ht : t.val < 16 := t.isLt; show 256 * t.val + 768 ≤ 4608; omega) (sc q kp b (row t r)) (fun K h => sc_off q kp b t r K h) j

include h0 h4 hk hv h3 in
theorem tDs_eq (r : Fin 256) (j : Fin 768) :
    k0_pay13 (tP i x0 x3 ks) (tDp i x4 vs) (tDpp i x0 x3 x4 ks vs) (ix2 r j) = ds q o kp vp b (row t r) (key t j) := by
  have e : tsc (i 1).val x0 (win (i 1) ks) x3 r = fun j => sc q kp b (row t r) (key t j) := by
    funext j; rw [show (i 1).val = t.val from congrArg Fin.val hi]
    exact tsc_eq q kp b i t hi x0 x3 ks h0 hk h3 r j
  have e' : tdp (win (i 1) vs) x4 r = fun j => dp o vp (row t r) (key t j) := by
    funext j
    exact tdp_eq o vp i t hi x4 vs h4 hv r j
  unfold tP tDp tDpp
  rw [pay13_apply, e, e']
  exact rowDs_window (256 * t.val) (by have ht : t.val < 16 := t.isLt; show 256 * t.val + 768 ≤ 4608; omega) (sc q kp b (row t r)) (fun K h => sc_off q kp b t r K h) (dp o vp (row t r)) j

include h0 h4 hk hv h3 in
theorem tDq_eq (r : Fin 256) (d : Fin 128) : tDq i x0 x3 x4 ks vs (ix2 r d) = dq q o kp vp b (row t r) d := by
  unfold tDq dq
  rw [pay16_apply]
  refine congrArg (· * scl) ?_
  rw [sum_window (256 * t.val) (show 256 * t.val + 768 ≤ 4608 by have ht : t.val < 16 := t.isLt; omega) (fun K => ds q o kp vp b (row t r) K * kp K d)
    (fun K h => by show ds q o kp vp b (row t r) K * kp K d = 0; unfold ds; rw [rowDs_off _ _ _ (sc_off q kp b t r K h), zero_mul])]
  refine Finset.sum_congr rfl fun j _ => congrArg₂ (· * ·) (tDs_eq q o kp vp b i t hi x0 x3 x4 ks vs h0 h4 hk hv h3 r j) ?_
  subst hi
  exact hk (key (i 1) j) d

/-- What tile `t` adds to the gradient of a padded key. -/
def cK (t : Fin 16) (K : Fin 4608) (d : Fin 128) : EReal := (∑ r : Fin 256, ds q o kp vp b (row t r) K * q (row t r) d) * scl
/-- What tile `t` adds to the gradient of a padded value. -/
def cV (t : Fin 16) (K : Fin 4608) (d : Fin 128) : EReal := ∑ r : Fin 256, p q kp b (row t r) K * o (row t r) d

include h0 h4 hk hv h3 in
theorem tDk_eq (acc : Vec Ideal S4608x128 .f32) (K : Fin 4608) (d : Fin 128) :
    tDk i x0 x3 x4 ks vs acc (ix2 K d) = (acc (ix2 K d) : EReal) + cK q o kp vp b t K d := by
  have key0 := fun r j => tDs_eq q o kp vp b i t hi x0 x3 x4 ks vs h0 h4 hk hv h3 r j
  subst hi
  unfold tDk upd
  by_cases h : 256 * (i 1).val ≤ K.val ∧ K.val < 256 * (i 1).val + 768
  · have hj : key (i 1) ⟨K.val - 256 * (i 1).val, by omega⟩ = K := Fin.ext (by show 256 * (i 1).val + (K.val - 256 * (i 1).val) = K.val; omega)
    rw [dif_pos (show 256 * (i 1).val ≤ (ix2 K d 0).val ∧ (ix2 K d 0).val < 256 * (i 1).val + 768 from h)]
    refine (pay17_apply _ _ _ _ _ ⟨K.val - 256 * (i 1).val, by omega⟩ d).trans ?_
    refine congrArg₂ (· + ·) ?_ ?_
    · show acc (ix2 (key (i 1) ⟨K.val - 256 * (i 1).val, _⟩) d) = _
      rw [hj]
    · unfold cK
      refine congrArg (· * scl) (Finset.sum_congr rfl fun r _ => congrArg₂ (· * ·) ?_ (h0 r d))
      rw [key0, hj]
  · rw [dif_neg (show ¬(256 * (i 1).val ≤ (ix2 K d 0).val ∧ (ix2 K d 0).val < 256 * (i 1).val + 768) from h)]
    unfold cK
    rw [Finset.sum_eq_zero fun r _ => by
      show ds q o kp vp b (row (i 1) r) K * q (row (i 1) r) d = 0
      unfold ds; rw [rowDs_off _ _ _ (sc_off q kp b (i 1) r K h), zero_mul], zero_mul, add_zero]

include h0 h4 hk h3 in
theorem tDv_eq (acc : Vec Ideal S4608x128 .f32) (K : Fin 4608) (d : Fin 128) :
    tDv i x0 x3 x4 ks acc (ix2 K d) = (acc (ix2 K d) : EReal) + cV q o kp b t K d := by
  have key0 := fun r j => tP_eq q kp b i t hi x0 x3 ks h0 hk h3 r j
  subst hi
  unfold tDv upd
  by_cases h : 256 * (i 1).val ≤ K.val ∧ K.val < 256 * (i 1).val + 768
  · have hj : key (i 1) ⟨K.val - 256 * (i 1).val, by omega⟩ = K := Fin.ext (by show 256 * (i 1).val + (K.val - 256 * (i 1).val) = K.val; omega)
    rw [dif_pos (show 256 * (i 1).val ≤ (ix2 K d 0).val ∧ (ix2 K d 0).val < 256 * (i 1).val + 768 from h)]
    refine (pay18_apply _ _ _ ⟨K.val - 256 * (i 1).val, by omega⟩ d).trans ?_
    refine congrArg₂ (· + ·) ?_ ?_
    · show acc (ix2 (key (i 1) ⟨K.val - 256 * (i 1).val, _⟩) d) = _
      rw [hj]
    · unfold cV
      refine Finset.sum_congr rfl fun r _ => congrArg₂ (· * ·) ?_ (h4 r d)
      rw [key0, hj]
  · rw [dif_neg (show ¬(256 * (i 1).val ≤ (ix2 K d 0).val ∧ (ix2 K d 0).val < 256 * (i 1).val + 768) from h)]
    unfold cV
    rw [Finset.sum_eq_zero fun r _ => by
      show p q kp b (row (i 1) r) K * o (row (i 1) r) d = 0
      unfold p; rw [rowP_off _ _ (sc_off q kp b (i 1) r K h), zero_mul], add_zero]

end tile

/-- The tiles' sums together are the sum over all queries. -/
theorem sum_tiles (f : Fin 4096 → EReal) : ∑ t : Fin 16, ∑ r : Fin 256, f (row t r) = ∑ Q, f Q := by
  rw [← Fintype.sum_prod_type' (f := fun t r => f (row t r))]
  refine Fintype.sum_equiv (finProdFinEquiv (m := 16) (n := 256)) _ _ fun x => congrArg f (Fin.ext ?_)
  show 256 * x.1.val + x.2.val = x.2.val + 256 * x.1.val
  omega

theorem sum_cK (q o : Fin 4096 → Fin 128 → EReal) (kp vp : Fin 4608 → Fin 128 → EReal) (b : Fin 257 → EReal) (K : Fin 4608) (d : Fin 128) :
    ∑ t, cK q o kp vp b t K d = dk q o kp vp b K d := by
  unfold cK dk
  rw [← sum_mul_real _ _ scl_nonneg scl_ne_top, sum_tiles (fun Q => ds q o kp vp b Q K * q Q d)]

theorem sum_cV (q o : Fin 4096 → Fin 128 → EReal) (kp : Fin 4608 → Fin 128 → EReal) (b : Fin 257 → EReal) (K : Fin 4608) (d : Fin 128) :
    ∑ t, cV q o kp b t K d = dv q o kp b K d := by
  unfold cV dv
  exact sum_tiles (fun Q => p q kp b Q K * o Q d)

/-- A sum of the first tiles, one tile further. -/
theorem step_tiles (f : Fin 16 → EReal) (t : Fin 16) (ht : 0 < t.val) :
    (∑ s : Fin 16, if s.val ≤ t.val - 1 then f s else 0) + f t = ∑ s : Fin 16, if s.val ≤ t.val then f s else 0 := by
  have e : f t = ∑ s : Fin 16, if s = t then f s else 0 := by rw [Finset.sum_ite_eq' Finset.univ t f, if_pos (Finset.mem_univ _)]
  conv_lhs => rw [e]
  rw [← Finset.sum_add_distrib]
  refine Finset.sum_congr rfl fun s _ => ?_
  by_cases h : s = t
  · subst h
    rw [if_neg (by omega), if_pos rfl, if_pos le_rfl, zero_add]
  · have : s.val ≠ t.val := fun e => h (Fin.ext e)
    rw [if_neg h, add_zero]
    exact if_congr (by omega) rfl rfl

theorem first_tile (f : Fin 16 → EReal) (t : Fin 16) (ht : t.val = 0) :
    (0 : EReal) + f t = ∑ s : Fin 16, if s.val ≤ t.val then f s else 0 := by
  obtain rfl : t = 0 := Fin.ext ht
  rw [zero_add, Finset.sum_eq_single (0 : Fin 16)]
  · rw [if_pos le_rfl]
  · intro s _ hs
    exact if_neg fun h => hs (Fin.ext (Nat.le_zero.mp h))
  · exact fun h => absurd (Finset.mem_univ _) h

theorem last_tile (f : Fin 16 → EReal) : (∑ s : Fin 16, if s.val ≤ 15 then f s else 0) = ∑ s, f s :=
  Finset.sum_congr rfl fun s _ => if_pos (by omega)

end Cert.Attn.Tile

end
-- ==== Proof.Attn.Points.lean ====
/- The blocks a grid point is given, read off the arrays the kernel is given. -/
module

public import proofs.«01_k».proof.Proof.Attn.HostBias
public import proofs.«01_k».proof.Proof.Attn.TileValue

@[expose] public section

set_option maxRecDepth 16384

noncomputable section

namespace Cert.Attn.Tile

open Cert.KernelIdeal Cert.KernelIdeal.Gen Idealize.ShloMosaic.ValueIdx
open Idealize.ShloMosaic hiding ix1 ix2 ix3
open Idealize.ShloMosaic.TcCoe Idealize.SL.Sem

theorem pt_lt (t : Fin cfg0.N) : t.val < 128 := lt_of_lt_of_eq t.isLt (show cfg0.N = 128 from N_0)

/-- The head and the tile of a grid point. -/
def th (t : Fin cfg0.N) : Fin 8 := ⟨t.val / 16, by have := pt_lt t; omega⟩
def ti (t : Fin cfg0.N) : Fin 16 := ⟨t.val % 16, by omega⟩

theorem coords_val : ∀ t : Fin cfg0.N, (grid0.coords t 1).val = t.val % 16 := by decide +kernel
theorem coords_1 (t : Fin cfg0.N) : grid0.coords t 1 = ti t := Fin.ext (coords_val t)

theorem index_0 : ∀ t : Fin cfg0.N, win0_0.index t (0 : Fin 2) = t.val % 16 ∧ win0_0.index t (1 : Fin 2) = t.val / 16 := by decide +kernel
theorem index_1 : ∀ t : Fin cfg0.N, win0_1.index t (0 : Fin 2) = 0 ∧ win0_1.index t (1 : Fin 2) = 8 + t.val / 16 := by decide +kernel
theorem index_2 : ∀ t : Fin cfg0.N, win0_2.index t (0 : Fin 2) = 0 ∧ win0_2.index t (1 : Fin 2) = 16 + t.val / 16 := by decide +kernel
theorem index_3 : ∀ t : Fin cfg0.N, win0_3.index t (0 : Fin 3) = t.val / 16 ∧ win0_3.index t (1 : Fin 3) = 0 ∧ win0_3.index t (2 : Fin 3) = 0 := by decide +kernel
theorem index_4 : ∀ t : Fin cfg0.N, win0_4.index t (0 : Fin 2) = t.val % 16 ∧ win0_4.index t (1 : Fin 2) = t.val / 16 := by decide +kernel

variable (m : (ℓ : Loc nD τ sig) → Buf (Elt Ideal) ℓ) (c : Dev nD)

/-- The arrays the kernel is given. -/
abbrev aX : ProjA := (m ((c : Thread nD τ).loc main_arg0) : S4096x11264.Idx → EReal)
abbrev aZ : BiasA := (m ((c : Thread nD τ).loc main_arg1) : S8x257.Idx → EReal)
abbrev aY : HeadsA := (m ((c : Thread nD τ).loc main_arg2) : S4096x1024.Idx → EReal)

theorem blk_0 (t : Fin cfg0.N) (r : Fin 256) (d : Fin 128) :
    (iblk m c 0 t : Vec Ideal S256x128 .bf16) (ix2 r d) = hq (aX m c) (th t) (row (ti t) r) d := by
  have e : (iblk m c 0 t : Vec Ideal S256x128 .bf16) (ix2 r d)
      = (V m c main_arg0 : S4096x11264.Idx → EReal) (((cfg0.win 0).blk t).view.emb (ix2 r d)) := rfl
  rw [e, V_main_arg0]
  unfold hq
  refine congrArg (aX m c) (funext fun a => Fin.ext ?_)
  match a with
  | ⟨0, _⟩ =>
    show win0_0.index t (0 : Fin 2) * 256 + 1 * r.val = 256 * (t.val % 16) + r.val
    rw [(index_0 t).1]; omega
  | ⟨1, _⟩ =>
    show win0_0.index t (1 : Fin 2) * 128 + 1 * d.val = 128 * (t.val / 16) + d.val
    rw [(index_0 t).2]; omega

theorem blk_4 (t : Fin cfg0.N) (r : Fin 256) (d : Fin 128) :
    (iblk m c 4 t : Vec Ideal S256x128 .bf16) (ix2 r d) = ho (aY m c) (th t) (row (ti t) r) d := by
  have e : (iblk m c 4 t : Vec Ideal S256x128 .bf16) (ix2 r d)
      = (V m c main_arg2 : S4096x1024.Idx → EReal) (((cfg0.win 4).blk t).view.emb (ix2 r d)) := rfl
  rw [e, V_main_arg2]
  unfold ho
  refine congrArg (aY m c) (funext fun a => Fin.ext ?_)
  match a with
  | ⟨0, _⟩ =>
    show win0_4.index t (0 : Fin 2) * 256 + 1 * r.val = 256 * (t.val % 16) + r.val
    rw [(index_4 t).1]; omega
  | ⟨1, _⟩ =>
    show win0_4.index t (1 : Fin 2) * 128 + 1 * d.val = 128 * (t.val / 16) + d.val
    rw [(index_4 t).2]; omega

theorem blk_1 (t : Fin cfg0.N) (r : Fin 4096) (d : Fin 128) :
    (iblk m c 1 t : Vec Ideal S4096x128 .bf16) (ix2 r d)
      = aX m c (ix2 r ⟨1024 + 128 * (th t).val + d.val, by have := (th t).isLt; omega⟩) := by
  have e : (iblk m c 1 t : Vec Ideal S4096x128 .bf16) (ix2 r d)
      = (V m c main_arg0 : S4096x11264.Idx → EReal) (((cfg0.win 1).blk t).view.emb (ix2 r d)) := rfl
  rw [e, V_main_arg0]
  refine congrArg (aX m c) (funext fun a => Fin.ext ?_)
  match a with
  | ⟨0, _⟩ =>
    show win0_1.index t (0 : Fin 2) * 4096 + 1 * r.val = r.val
    rw [(index_1 t).1]; omega
  | ⟨1, _⟩ =>
    show win0_1.index t (1 : Fin 2) * 128 + 1 * d.val = 1024 + 128 * (t.val / 16) + d.val
    rw [(index_1 t).2]; omega

theorem blk_2 (t : Fin cfg0.N) (r : Fin 4096) (d : Fin 128) :
    (iblk m c 2 t : Vec Ideal S4096x128 .bf16) (ix2 r d)
      = aX m c (ix2 r ⟨2048 + 128 * (th t).val + d.val, by have := (th t).isLt; omega⟩) := by
  have e : (iblk m c 2 t : Vec Ideal S4096x128 .bf16) (ix2 r d)
      = (V m c main_arg0 : S4096x11264.Idx → EReal) (((cfg0.win 2).blk t).view.emb (ix2 r d)) := rfl
  rw [e, V_main_arg0]
  refine congrArg (aX m c) (funext fun a => Fin.ext ?_)
  match a with
  | ⟨0, _⟩ =>
    show win0_2.index t (0 : Fin 2) * 4096 + 1 * r.val = r.val
    rw [(index_2 t).1]; omega
  | ⟨1, _⟩ =>
    show win0_2.index t (1 : Fin 2) * 128 + 1 * d.val = 2048 + 128 * (t.val / 16) + d.val
    rw [(index_2 t).2]; omega

theorem blk_3 (t : Fin cfg0.N) (r : Fin 256) (j : Fin 768) :
    (iblk m c 3 t : Vec Ideal S1x256x768 .f32) (ix3 0 r j)
      = if r.val / 64 ≤ j.val / 64 ∧ j.val / 64 ≤ r.val / 64 + 8 then hb (aZ m c) (th t) (rel r.val j.val) else (⊥ : EReal) := by
  have e : (iblk m c 3 t : Vec Ideal S1x256x768 .f32) (ix3 0 r j)
      = (V m c main_v25 : S8x256x768.Idx → EReal) (((cfg0.win 3).blk t).view.emb (ix3 0 r j)) := rfl
  have e' : (((cfg0.win 3).blk t).view.emb (ix3 0 r j) : S8x256x768.Idx) = ix3 (th t) r j := by
    refine funext fun a => Fin.ext ?_
    match a with
    | ⟨0, _⟩ =>
      show win0_3.index t (0 : Fin 3) * 1 + 1 * 0 = t.val / 16
      rw [(index_3 t).1]; omega
    | ⟨1, _⟩ =>
      show win0_3.index t (1 : Fin 3) * 256 + 1 * r.val = r.val
      rw [(index_3 t).2.1]; omega
    | ⟨2, _⟩ =>
      show win0_3.index t (2 : Fin 3) * 768 + 1 * j.val = j.val
      rw [(index_3 t).2.2]; omega
  rw [e, e']
  exact bias_at m c (th t) r j

theorem pad_1 (t : Fin cfg0.N) (K : Fin 4608) (d : Fin 128) :
    pad (iblk m c 1 t : Vec Ideal S4096x128 .bf16) (ix2 K d) = hk (aX m c) (th t) K d := by
  unfold pad hk
  by_cases h : 512 ≤ K.val
  · rw [dif_pos (show 512 ≤ (ix2 K d 0).val from h), dif_pos h]
    exact blk_1 m c t ⟨K.val - 512, by omega⟩ d
  · rw [dif_neg (show ¬512 ≤ (ix2 K d 0).val from h), dif_neg h]

theorem pad_2 (t : Fin cfg0.N) (K : Fin 4608) (d : Fin 128) :
    pad (iblk m c 2 t : Vec Ideal S4096x128 .bf16) (ix2 K d) = hv (aX m c) (th t) K d := by
  unfold pad hv
  by_cases h : 512 ≤ K.val
  · rw [dif_pos (show 512 ≤ (ix2 K d 0).val from h), dif_pos h]
    exact blk_2 m c t ⟨K.val - 512, by omega⟩ d
  · rw [dif_neg (show ¬512 ≤ (ix2 K d 0).val from h), dif_neg h]

end Cert.Attn.Tile

end
-- ==== Proof.Attn.Fold.lean ====
/- The kernel's three results: what the carried scratch holds after every grid point, by going over a head's tiles, and
   the blocks written from it. -/
module

public import proofs.«01_k».proof.Proof.Attn.Points
public import proofs.«01_k».proof.Proof.Gen.KernelIdeal.Value

@[expose] public section

set_option maxRecDepth 16384

noncomputable section

namespace Cert.Attn.Tile

open Cert.KernelIdeal Cert.KernelIdeal.Gen Idealize.ShloMosaic.ValueIdx
open Idealize.ShloMosaic hiding ix1 ix2 ix3
open Idealize.ShloMosaic.TcCoe Idealize.SL.Sem

variable (m : (ℓ : Loc nD τ sig) → Buf (Elt Ideal) ℓ) (c : Dev nD)

/-- What tile `s` of head `h` adds to the gradients of the padded keys and values. -/
abbrev addK (h : Fin 8) (s : Fin 16) (K : Fin 4608) (d : Fin 128) : EReal :=
  cK (hq (aX m c) h) (ho (aY m c) h) (hk (aX m c) h) (hv (aX m c) h) (hb (aZ m c) h) s K d
abbrev addV (h : Fin 8) (s : Fin 16) (K : Fin 4608) (d : Fin 128) : EReal :=
  cV (hq (aX m c) h) (ho (aY m c) h) (hk (aX m c) h) (hb (aZ m c) h) s K d

/-- The carried scratch after tile `i` of head `h`. -/
structure After (h : Fin 8) (i : Fin 16) (s0 s1 : Vec Ideal S4608x128 .bf16) (s2 s3 : Vec Ideal S4608x128 .f32) : Prop where
  keys : ∀ K d, s0 (ix2 K d) = hk (aX m c) h K d
  vals : ∀ K d, s1 (ix2 K d) = hv (aX m c) h K d
  accK : ∀ K d, s2 (ix2 K d) = ∑ s : Fin 16, if s.val ≤ i.val then addK m c h s K d else 0
  accV : ∀ K d, s3 (ix2 K d) = ∑ s : Fin 16, if s.val ≤ i.val then addV m c h s K d else 0

/-- The first tile of a head, over cleared accumulators. -/
theorem after_first (t : Fin cfg0.N) (ht : t.val % 16 = 0) :
    After m c (th t) (ti t) (pad (iblk m c 1 t)) (pad (iblk m c 2 t))
      (tDk (grid0.coords t) (iblk m c 0 t) (iblk m c 3 t) (iblk m c 4 t) (pad (iblk m c 1 t)) (pad (iblk m c 2 t)) (fun _ => (0 : EReal)))
      (tDv (grid0.coords t) (iblk m c 0 t) (iblk m c 3 t) (iblk m c 4 t) (pad (iblk m c 1 t)) (fun _ => (0 : EReal))) where
  keys := pad_1 m c t
  vals := pad_2 m c t
  accK K d := (tDk_eq _ _ _ _ _ (grid0.coords t) (ti t) (coords_1 t) _ _ _ _ _ (blk_0 m c t) (blk_4 m c t) (pad_1 m c t) (pad_2 m c t) (blk_3 m c t) _ K d).trans
    (first_tile (fun s => addK m c (th t) s K d) (ti t) ht)
  accV K d := (tDv_eq _ _ _ _ (grid0.coords t) (ti t) (coords_1 t) _ _ _ _ (blk_0 m c t) (blk_4 m c t) (pad_1 m c t) (blk_3 m c t) _ K d).trans
    (first_tile (fun s => addV m c (th t) s K d) (ti t) ht)

/-- A later tile, over what the tile before left. -/
theorem after_next (t : Fin cfg0.N) (ht : ¬t.val % 16 = 0) (i' : Fin 16) (hi' : i'.val = (ti t).val - 1)
    (s0 s1 : Vec Ideal S4608x128 .bf16) (s2 s3 : Vec Ideal S4608x128 .f32) (hs : After m c (th t) i' s0 s1 s2 s3) :
    After m c (th t) (ti t) s0 s1
      (tDk (grid0.coords t) (iblk m c 0 t) (iblk m c 3 t) (iblk m c 4 t) s0 s1 s2)
      (tDv (grid0.coords t) (iblk m c 0 t) (iblk m c 3 t) (iblk m c 4 t) s0 s3) where
  keys := hs.keys
  vals := hs.vals
  accK K d := by
    refine (tDk_eq _ _ _ _ _ (grid0.coords t) (ti t) (coords_1 t) _ _ _ _ _ (blk_0 m c t) (blk_4 m c t) hs.keys hs.vals (blk_3 m c t) _ K d).trans ?_
    rw [hs.accK, hi']
    exact step_tiles (fun s => addK m c (th t) s K d) (ti t) (Nat.pos_of_ne_zero ht)
  accV K d := by
    refine (tDv_eq _ _ _ _ (grid0.coords t) (ti t) (coords_1 t) _ _ _ _ (blk_0 m c t) (blk_4 m c t) hs.keys (blk_3 m c t) _ K d).trans ?_
    rw [hs.accV, hi']
    exact step_tiles (fun s => addV m c (th t) s K d) (ti t) (Nat.pos_of_ne_zero ht)

/-- The scratch after a grid point, as the frame names it. -/
def Scr (t : Fin cfg0.N) : Prop :=
  After m c (th t) (ti t) (outsAt0 m c t.val t.isLt).2.2.2.2.1 (outsAt0 m c t.val t.isLt).2.2.2.2.2.1
    (outsAt0 m c t.val t.isLt).2.2.2.2.2.2.1 (outsAt0 m c t.val t.isLt).2.2.2.2.2.2.2

/-- The point before. -/
abbrev prev (t : Fin cfg0.N) : Fin cfg0.N := ⟨t.val - 1, Nat.lt_of_le_of_lt (Nat.sub_le _ _) t.isLt⟩

theorem scr_first (t : Fin cfg0.N) (h0 : t.val % 16 = 0) : Scr m c t := by
  unfold Scr
  rw [outsAt0_A m c t h0 (by omega)]
  dsimp only
  rw [sout0_A_0_eq, sout0_A_1_eq, sout0_A_2_eq, sout0_A_3_eq]
  exact after_first m c t h0

theorem scr_next (t : Fin cfg0.N) (h0 : ¬t.val % 16 = 0) (ih : Scr m c (prev t)) : Scr m c t := by
  have hh : th (prev t) = th t := Fin.ext (by show (t.val - 1) / 16 = t.val / 16; omega)
  have hi : (ti (prev t)).val = (ti t).val - 1 := by show (t.val - 1) % 16 = t.val % 16 - 1; omega
  unfold Scr at ih
  rw [hh] at ih
  have key := after_next m c t h0 (ti (prev t)) hi _ _ _ _ ih
  unfold Scr
  by_cases h1 : t.val % 16 = 15
  · rw [outsAt0_C m c t h0 h1]
    dsimp only
    rw [sout0_C_0_eq, sout0_C_1_eq, sout0_C_2_eq, sout0_C_3_eq]
    exact key
  · rw [outsAt0_B m c t h0 h1]
    dsimp only
    rw [sout0_B_0_eq, sout0_B_1_eq, sout0_B_2_eq, sout0_B_3_eq]
    exact key

theorem scr (n : ℕ) : ∀ (hn : n < cfg0.N), Scr m c ⟨n, hn⟩ := by
  induction n with
  | zero => exact fun hn => scr_first m c ⟨0, hn⟩ rfl
  | succ n ih =>
    intro hn
    by_cases h0 : (n + 1) % 16 = 0
    · exact scr_first m c ⟨n + 1, hn⟩ h0
    · exact scr_next m c ⟨n + 1, hn⟩ h0 (ih _)

/-- The queries' gradient a point writes. -/
theorem outQ (t : Fin cfg0.N) (r : Fin 256) (d : Fin 128) :
    (outsAt0 m c t.val t.isLt).1 (ix2 r d)
      = dq (hq (aX m c) (th t)) (ho (aY m c) (th t)) (hk (aX m c) (th t)) (hv (aX m c) (th t)) (hb (aZ m c) (th t)) (row (ti t) r) d := by
  by_cases h0 : t.val % 16 = 0
  · rw [outsAt0_A m c t h0 (by omega)]
    dsimp only
    rw [out0_A_5_eq]
    exact tDq_eq _ _ _ _ _ (grid0.coords t) (ti t) (coords_1 t) _ _ _ _ _ (blk_0 m c t) (blk_4 m c t) (pad_1 m c t) (pad_2 m c t) (blk_3 m c t) r d
  · have ih := scr m c (t.val - 1) (prev t).isLt
    have hh : th (prev t) = th t := Fin.ext (by show (t.val - 1) / 16 = t.val / 16; omega)
    unfold Scr at ih
    rw [hh] at ih
    by_cases h1 : t.val % 16 = 15
    · rw [outsAt0_C m c t h0 h1]
      dsimp only
      rw [out0_C_5_eq]
      exact tDq_eq _ _ _ _ _ (grid0.coords t) (ti t) (coords_1 t) _ _ _ _ _ (blk_0 m c t) (blk_4 m c t) ih.keys ih.vals (blk_3 m c t) r d
    · rw [outsAt0_B m c t h0 h1]
      dsimp only
      rw [out0_B_5_eq]
      exact tDq_eq _ _ _ _ _ (grid0.coords t) (ti t) (coords_1 t) _ _ _ _ _ (blk_0 m c t) (blk_4 m c t) ih.keys ih.vals (blk_3 m c t) r d

/-- The keys' gradient the last point of a head writes. -/
theorem outK (t : Fin cfg0.N) (h1 : t.val % 16 = 15) (r : Fin 4096) (d : Fin 128) :
    (outsAt0 m c t.val t.isLt).2.1 (ix2 r d)
      = dk (hq (aX m c) (th t)) (ho (aY m c) (th t)) (hk (aX m c) (th t)) (hv (aX m c) (th t)) (hb (aZ m c) (th t)) ⟨512 + r.val, by omega⟩ d := by
  have h0 : ¬t.val % 16 = 0 := by omega
  have s := scr m c t.val t.isLt
  unfold Scr at s
  have hti : (ti t).val = 15 := h1
  have e := s.accK ⟨512 + r.val, by omega⟩ d
  rw [hti, last_tile (fun s => addK m c (th t) s _ d), sum_cK] at e
  rw [← e, outsAt0_C m c t h0 h1]
  dsimp only
  rw [out0_C_6_eq, sout0_C_2_eq]
  rfl

theorem outV (t : Fin cfg0.N) (h1 : t.val % 16 = 15) (r : Fin 4096) (d : Fin 128) :
    (outsAt0 m c t.val t.isLt).2.2.1 (ix2 r d)
      = dv (hq (aX m c) (th t)) (ho (aY m c) (th t)) (hk (aX m c) (th t)) (hb (aZ m c) (th t)) ⟨512 + r.val, by omega⟩ d := by
  have h0 : ¬t.val % 16 = 0 := by omega
  have s := scr m c t.val t.isLt
  unfold Scr at s
  have hti : (ti t).val = 15 := h1
  have e := s.accV ⟨512 + r.val, by omega⟩ d
  rw [hti, last_tile (fun s => addV m c (th t) s _ d), sum_cV] at e
  rw [← e, outsAt0_C m c t h0 h1]
  dsimp only
  rw [out0_C_7_eq, sout0_C_3_eq]
  rfl

/-! ## The three results, entry by entry -/

open Cert.KernelIdeal.Value in
theorem G5_eq (Q : Fin 4096) (j : Fin 1024) :
    (G5 m c : S4096x1024.Idx → EReal) (ix2 Q j) = gq (aX m c) (aZ m c) (aY m c) Q j := by
  have hN : cfg0.N = 128 := N_0
  have hp : pt5Of (ix2 Q j) = 16 * (j.val / 128) + Q.val / 256 := by
    show 1 * (Q.val / 256 - 0) + 16 * (j.val / 128 - 0) = _; omega
  have hb' : pt5Of (ix2 Q j) < cfg0.N := by rw [hp, hN]; omega
  unfold G5
  rw [dif_pos hb', ← outsAt0_sweep]
  have e := outQ m c ⟨pt5Of (ix2 Q j), hb'⟩ ⟨Q.val % 256, by omega⟩ (lane j)
  have hl : loc5Of (ix2 Q j) = ix2 (⟨Q.val % 256, by omega⟩ : Fin 256) (lane j) := by
    funext a
    match a with
    | ⟨0, _⟩ => rfl
    | ⟨1, _⟩ => rfl
  rw [hl]
  refine e.trans ?_
  have hh : th ⟨pt5Of (ix2 Q j), hb'⟩ = hd j := Fin.ext (by show pt5Of (ix2 Q j) / 16 = j.val / 128; rw [hp]; omega)
  have hr : row (ti ⟨pt5Of (ix2 Q j), hb'⟩) ⟨Q.val % 256, by omega⟩ = Q := Fin.ext (by
    show 256 * (pt5Of (ix2 Q j) % 16) + Q.val % 256 = Q.val; rw [hp]; omega)
  rw [hh, hr]
  rfl

open Cert.KernelIdeal.Value in
theorem G6_eq (K : Fin 4096) (j : Fin 1024) :
    (G6 m c : S4096x1024.Idx → EReal) (ix2 K j) = gk (aX m c) (aZ m c) (aY m c) K j := by
  have hN : cfg0.N = 128 := N_0
  have hp : pt6Of (ix2 K j) = 16 * (j.val / 128) + 15 := by
    show 16 * (8 * (K.val / 4096 - 0) + 1 * (j.val / 128 - 0)) + 15 = _; omega
  have hb' : pt6Of (ix2 K j) < cfg0.N := by rw [hp, hN]; omega
  unfold G6
  rw [dif_pos hb', ← outsAt0_sweep]
  have e := outK m c ⟨pt6Of (ix2 K j), hb'⟩ (by show pt6Of (ix2 K j) % 16 = 15; rw [hp]; omega) K (lane j)
  have hl : loc6Of (ix2 K j) = ix2 K (lane j) := by
    funext a
    match a with
    | ⟨0, _⟩ => exact Fin.ext (by show K.val % 4096 = K.val; omega)
    | ⟨1, _⟩ => rfl
  rw [hl]
  refine e.trans ?_
  have hh : th ⟨pt6Of (ix2 K j), hb'⟩ = hd j := Fin.ext (by show pt6Of (ix2 K j) / 16 = j.val / 128; rw [hp]; omega)
  rw [hh]
  rfl

open Cert.KernelIdeal.Value in
theorem G7_eq (K : Fin 4096) (j : Fin 1024) :
    (G7 m c : S4096x1024.Idx → EReal) (ix2 K j) = gv (aX m c) (aZ m c) (aY m c) K j := by
  have hN : cfg0.N = 128 := N_0
  have hp : pt7Of (ix2 K j) = 16 * (j.val / 128) + 15 := by
    show 16 * (8 * (K.val / 4096 - 0) + 1 * (j.val / 128 - 0)) + 15 = _; omega
  have hb' : pt7Of (ix2 K j) < cfg0.N := by rw [hp, hN]; omega
  unfold G7
  rw [dif_pos hb', ← outsAt0_sweep]
  have e := outV m c ⟨pt7Of (ix2 K j), hb'⟩ (by show pt7Of (ix2 K j) % 16 = 15; rw [hp]; omega) K (lane j)
  have hl : loc7Of (ix2 K j) = ix2 K (lane j) := by
    funext a
    match a with
    | ⟨0, _⟩ => exact Fin.ext (by show K.val % 4096 = K.val; omega)
    | ⟨1, _⟩ => rfl
  rw [hl]
  refine e.trans ?_
  have hh : th ⟨pt7Of (ix2 K j), hb'⟩ = hd j := Fin.ext (by show pt7Of (ix2 K j) / 16 = j.val / 128; rw [hp]; omega)
  rw [hh]
  rfl

end Cert.Attn.Tile

end
-- ==== Proof.Attn.RefBand.lean ====
/- The reference's queries, key and value bands and incoming gradient, in the terms of the heads. -/
module

public import proofs.«01_k».proof.Proof.Attn.Head
public import proofs.«01_k».proof.Proof.Gen.ReferenceIdeal.Read

@[expose] public section

set_option maxRecDepth 16384

noncomputable section

namespace Cert.Attn.Band

open Cert.ReferenceIdeal Cert.ReferenceIdeal.Gen Cert.ReferenceIdeal.Read Idealize.ShloMosaic.ValueIdx
open Idealize.ShloMosaic
open Idealize.ShloMosaic.TcCoe Idealize.SL.Sem

/-- A rank-5 index from the values of its coordinates. -/
theorem ext5 {n0 n1 n2 n3 n4 : Nat} (i : (⟨5, ![n0, n1, n2, n3, n4]⟩ : Shape).Idx) (a : Fin n0) (b : Fin n1) (c : Fin n2) (d : Fin n3) (e : Fin n4)
    (h0 : (i 0).val = a.val) (h1 : (i 1).val = b.val) (h2 : (i 2).val = c.val) (h3 : (i 3).val = d.val) (h4 : (i 4).val = e.val) :
    i = ix5 a b c d e := by
  funext f
  match f with
  | ⟨0, _⟩ => exact Fin.ext h0
  | ⟨1, _⟩ => exact Fin.ext h1
  | ⟨2, _⟩ => exact Fin.ext h2
  | ⟨3, _⟩ => exact Fin.ext h3
  | ⟨4, _⟩ => exact Fin.ext h4
theorem ext4 {n0 n1 n2 n3 : Nat} (i : (⟨4, ![n0, n1, n2, n3]⟩ : Shape).Idx) (a : Fin n0) (b : Fin n1) (c : Fin n2) (d : Fin n3)
    (h0 : (i 0).val = a.val) (h1 : (i 1).val = b.val) (h2 : (i 2).val = c.val) (h3 : (i 3).val = d.val) :
    i = ix4 a b c d := by
  funext f
  match f with
  | ⟨0, _⟩ => exact Fin.ext h0
  | ⟨1, _⟩ => exact Fin.ext h1
  | ⟨2, _⟩ => exact Fin.ext h2
  | ⟨3, _⟩ => exact Fin.ext h3
theorem ext2 {n0 n1 : Nat} (i : (⟨2, ![n0, n1]⟩ : Shape).Idx) (a : Fin n0) (b : Fin n1) (h0 : (i 0).val = a.val) (h1 : (i 1).val = b.val) :
    i = ix2 a b := by
  funext f
  match f with
  | ⟨0, _⟩ => exact Fin.ext h0
  | ⟨1, _⟩ => exact Fin.ext h1

/-- Row `q` of chunk `c`, and key `j` of its band. -/
abbrev cr (c q : Fin 64) : Fin 4096 := ⟨64 * c.val + q.val, by omega⟩
abbrev bk (c : Fin 64) (j : Fin 576) : Fin 4608 := ⟨64 * c.val + j.val, by omega⟩

variable (x0 : ProjA) (x2 : HeadsA)

theorem in_q (c q : Fin 64) (h : Fin 8) (d : Fin 128) : (val_main_v9 (F := Ideal) x0 : S1x64x64x8x128.Idx → EReal) (ix5 0 c q h d) = hq x0 h (cr c q) d := by
  rw [val_main_v9_apply, val_main_v2_apply, val_main_v1_apply, val_main_v0_apply]
  unfold hq
  show x0 _ = x0 _
  refine congrArg x0 (ext2 _ _ _ ?_ ?_)
  · show (((0 * 4096 + ((((0 * 64 + c.val) * 64 + q.val) * 8 + h.val) * 128 + d.val) / 1024 % 4096) * 8 + ((((0 * 64 + c.val) * 64 + q.val) * 8 + h.val) * 128 + d.val) / 128 % 8) * 128 + ((((0 * 64 + c.val) * 64 + q.val) * 8 + h.val) * 128 + d.val) % 128) / 1024 = 64 * c.val + q.val
    omega
  · show (((0 * 4096 + ((((0 * 64 + c.val) * 64 + q.val) * 8 + h.val) * 128 + d.val) / 1024 % 4096) * 8 + ((((0 * 64 + c.val) * 64 + q.val) * 8 + h.val) * 128 + d.val) / 128 % 8) * 128 + ((((0 * 64 + c.val) * 64 + q.val) * 8 + h.val) * 128 + d.val) % 128) % 1024 = 128 * h.val + d.val
    omega

theorem in_k (c q : Fin 64) (h : Fin 8) (d : Fin 128) : (val_main_v10 (F := Ideal) x0 : S1x64x64x8x128.Idx → EReal) (ix5 0 c q h d) = x0 (ix2 (cr c q) ⟨1024 + 128 * h.val + d.val, by omega⟩) := by
  rw [val_main_v10_apply, val_main_v5_apply, val_main_v4_apply, val_main_v3_apply]
  show x0 _ = x0 _
  refine congrArg x0 (ext2 _ _ _ ?_ ?_)
  · show (((0 * 4096 + ((((0 * 64 + c.val) * 64 + q.val) * 8 + h.val) * 128 + d.val) / 1024 % 4096) * 8 + ((((0 * 64 + c.val) * 64 + q.val) * 8 + h.val) * 128 + d.val) / 128 % 8) * 128 + ((((0 * 64 + c.val) * 64 + q.val) * 8 + h.val) * 128 + d.val) % 128) / 1024 = 64 * c.val + q.val
    omega
  · show 1024 + (((0 * 4096 + ((((0 * 64 + c.val) * 64 + q.val) * 8 + h.val) * 128 + d.val) / 1024 % 4096) * 8 + ((((0 * 64 + c.val) * 64 + q.val) * 8 + h.val) * 128 + d.val) / 128 % 8) * 128 + ((((0 * 64 + c.val) * 64 + q.val) * 8 + h.val) * 128 + d.val) % 128) % 1024 = 1024 + 128 * h.val + d.val
    omega

theorem in_v (c q : Fin 64) (h : Fin 8) (d : Fin 128) : (val_main_v11 (F := Ideal) x0 : S1x64x64x8x128.Idx → EReal) (ix5 0 c q h d) = x0 (ix2 (cr c q) ⟨2048 + 128 * h.val + d.val, by omega⟩) := by
  rw [val_main_v11_apply, val_main_v8_apply, val_main_v7_apply, val_main_v6_apply]
  show x0 _ = x0 _
  refine congrArg x0 (ext2 _ _ _ ?_ ?_)
  · show (((0 * 4096 + ((((0 * 64 + c.val) * 64 + q.val) * 8 + h.val) * 128 + d.val) / 1024 % 4096) * 8 + ((((0 * 64 + c.val) * 64 + q.val) * 8 + h.val) * 128 + d.val) / 128 % 8) * 128 + ((((0 * 64 + c.val) * 64 + q.val) * 8 + h.val) * 128 + d.val) % 128) / 1024 = 64 * c.val + q.val
    omega
  · show 2048 + (((0 * 4096 + ((((0 * 64 + c.val) * 64 + q.val) * 8 + h.val) * 128 + d.val) / 1024 % 4096) * 8 + ((((0 * 64 + c.val) * 64 + q.val) * 8 + h.val) * 128 + d.val) / 128 % 8) * 128 + ((((0 * 64 + c.val) * 64 + q.val) * 8 + h.val) * 128 + d.val) % 128) % 1024 = 2048 + 128 * h.val + d.val
    omega

theorem in_o (c q : Fin 64) (h : Fin 8) (d : Fin 128) : (val_main_v109 (F := Ideal) x2 : S1x64x8x128x64.Idx → EReal) (ix5 0 c h d q) = ho x2 h (cr c q) d := by
  rw [val_main_v109_apply, val_main_v108_apply, val_main_v107_apply, val_main_v106_apply]
  unfold ho
  show x2 _ = x2 _
  refine congrArg x2 (ext2 _ _ _ ?_ ?_)
  · show ((((0 * 64 + c.val) * 64 + q.val) * 8 + h.val) * 128 + d.val) / 1024 % 4096 = 64 * c.val + q.val
    omega
  · show ((((0 * 64 + c.val) * 64 + q.val) * 8 + h.val) * 128 + d.val) % 1024 = 128 * h.val + d.val
    omega

/-- The zeros the keys and values are padded by. -/
theorem zeros (i : S1x8x64x8x128.Idx) : (val_main_v12 (F := Ideal) i : EReal) = 0 := by
  rw [val_main_v12_apply, val_main_cst_0_apply]
  exact Ideal.ofBits_zero_f32

/-- A row of the padded keys or values, by chunks. -/
theorem padded (f : S1x64x64x8x128.Idx → EReal) (z : S1x8x64x8x128.Idx → EReal)
    (hc : Shape.Concatenates [S1x8x64x8x128, S1x64x64x8x128] S1x72x64x8x128 1) (cc : Fin 72) (r : Fin 64) (h : Fin 8) (d : Fin 128) :
    (concatenate S1x72x64x8x128 1 [⟨S1x8x64x8x128, z⟩, ⟨S1x64x64x8x128, f⟩] hc) (ix5 0 cc r h d)
      = if hh : 8 ≤ cc.val then f (ix5 0 ⟨cc.val - 8, by omega⟩ r h d) else z (ix5 0 ⟨cc.val, by omega⟩ r h d) := by
  by_cases hh : 8 ≤ cc.val
  · rw [dif_pos hh]
    refine concatenate_pair_apply_right (t := S1x72x64x8x128) (s₁ := S1x8x64x8x128) (s₂ := S1x64x64x8x128) 1 z f hc (ix5 0 cc r h d) rfl rfl (ix5 0 ⟨cc.val - 8, by omega⟩ r h d) (fun b hb => ?_) ?_
    · match b with
      | ⟨0, _⟩ => rfl
      | ⟨1, _⟩ => exact absurd rfl hb
      | ⟨2, _⟩ => rfl
      | ⟨3, _⟩ => rfl
      | ⟨4, _⟩ => rfl
    · show cc.val - 8 + 8 = cc.val
      omega
  · rw [dif_neg hh]
    refine concatenate_pair_apply_left (t := S1x72x64x8x128) (s₁ := S1x8x64x8x128) (s₂ := S1x64x64x8x128) 1 z f hc (ix5 0 cc r h d) rfl (ix5 0 ⟨cc.val, by omega⟩ r h d) (fun b => ?_)
    match b with
    | ⟨0, _⟩ => rfl
    | ⟨1, _⟩ => rfl
    | ⟨2, _⟩ => rfl
    | ⟨3, _⟩ => rfl
    | ⟨4, _⟩ => rfl

/-- Nine blocks of 64 keys end to end, read at a key. -/
theorem nine (f : Fin 9 → S1x64x64x8x128.Idx → EReal)
    (hc : Shape.Concatenates ((List.ofFn fun n : Fin 9 => (⟨S1x64x64x8x128, f n⟩ : (s : Shape) × (s.Idx → EReal))).map (·.1)) S1x64x576x8x128 2)
    (c : Fin 64) (j : Fin 576) (h : Fin 8) (d : Fin 128) :
    concatenate S1x64x576x8x128 2 (List.ofFn fun n : Fin 9 => (⟨S1x64x64x8x128, f n⟩ : (s : Shape) × (s.Idx → EReal))) hc (ix5 0 c j h d)
      = f ⟨j.val / 64, by omega⟩ (ix5 0 c ⟨j.val % 64, by omega⟩ h d) := by
  refine concatenate_ofFn_apply (t := S1x64x576x8x128) (s₁ := S1x64x64x8x128) 2 f hc rfl 64 rfl _ ⟨j.val / 64, by omega⟩ rfl _ rfl (fun b hb => ?_)
  match b with
  | ⟨0, _⟩ => rfl
  | ⟨1, _⟩ => rfl
  | ⟨2, _⟩ => exact absurd rfl hb
  | ⟨3, _⟩ => rfl
  | ⟨4, _⟩ => rfl

/-- The padded keys by chunks. -/
theorem pad_k (cc : Fin 72) (r : Fin 64) (h : Fin 8) (d : Fin 128) :
    (val_main_v13 (F := Ideal) x0 : S1x72x64x8x128.Idx → EReal) (ix5 0 cc r h d) = hk x0 h ⟨64 * cc.val + r.val, by omega⟩ d := by
  unfold val_main_v13
  refine (padded _ _ _ cc r h d).trans ?_
  unfold hk
  by_cases hh : 8 ≤ cc.val
  · rw [dif_pos hh, dif_pos (show 512 ≤ 64 * cc.val + r.val by omega), in_k]
    refine congrArg x0 (congrArg (ix2 · _) (Fin.ext ?_))
    show 64 * (cc.val - 8) + r.val = 64 * cc.val + r.val - 512
    omega
  · rw [dif_neg hh, dif_neg (show ¬512 ≤ 64 * cc.val + r.val by omega), zeros]

/-- Slot `n` of the band: the padded chunks from the `n`th on. -/
theorem slot_k (n : Fin 9) (c r : Fin 64) (h : Fin 8) (d : Fin 128) :
    (![val_main_v17 (F := Ideal) x0, val_main_v18 (F := Ideal) x0, val_main_v19 (F := Ideal) x0, val_main_v20 (F := Ideal) x0, val_main_v21 (F := Ideal) x0, val_main_v22 (F := Ideal) x0, val_main_v23 (F := Ideal) x0, val_main_v24 (F := Ideal) x0, val_main_v25 (F := Ideal) x0] : Fin 9 → S1x64x64x8x128.Idx → EReal) n (ix5 0 c r h d)
      = (val_main_v13 (F := Ideal) x0 : S1x72x64x8x128.Idx → EReal) (ix5 0 ⟨n.val + c.val, by omega⟩ r h d) := by
  match n with
  | ⟨0, _⟩ => exact (val_main_v17_apply (F := Ideal) x0 (ix5 0 c r h d)).trans (congrArg (val_main_v13 (F := Ideal) x0) (ext5 _ 0 ⟨0 + c.val, by omega⟩ r h d rfl (Nat.zero_add c.val).symm rfl rfl rfl))
  | ⟨1, _⟩ => exact (val_main_v18_apply (F := Ideal) x0 (ix5 0 c r h d)).trans (congrArg (val_main_v13 (F := Ideal) x0) (ext5 _ 0 ⟨1 + c.val, by omega⟩ r h d rfl rfl rfl rfl rfl))
  | ⟨2, _⟩ => exact (val_main_v19_apply (F := Ideal) x0 (ix5 0 c r h d)).trans (congrArg (val_main_v13 (F := Ideal) x0) (ext5 _ 0 ⟨2 + c.val, by omega⟩ r h d rfl rfl rfl rfl rfl))
  | ⟨3, _⟩ => exact (val_main_v20_apply (F := Ideal) x0 (ix5 0 c r h d)).trans (congrArg (val_main_v13 (F := Ideal) x0) (ext5 _ 0 ⟨3 + c.val, by omega⟩ r h d rfl rfl rfl rfl rfl))
  | ⟨4, _⟩ => exact (val_main_v21_apply (F := Ideal) x0 (ix5 0 c r h d)).trans (congrArg (val_main_v13 (F := Ideal) x0) (ext5 _ 0 ⟨4 + c.val, by omega⟩ r h d rfl rfl rfl rfl rfl))
  | ⟨5, _⟩ => exact (val_main_v22_apply (F := Ideal) x0 (ix5 0 c r h d)).trans (congrArg (val_main_v13 (F := Ideal) x0) (ext5 _ 0 ⟨5 + c.val, by omega⟩ r h d rfl rfl rfl rfl rfl))
  | ⟨6, _⟩ => exact (val_main_v23_apply (F := Ideal) x0 (ix5 0 c r h d)).trans (congrArg (val_main_v13 (F := Ideal) x0) (ext5 _ 0 ⟨6 + c.val, by omega⟩ r h d rfl rfl rfl rfl rfl))
  | ⟨7, _⟩ => exact (val_main_v24_apply (F := Ideal) x0 (ix5 0 c r h d)).trans (congrArg (val_main_v13 (F := Ideal) x0) (ext5 _ 0 ⟨7 + c.val, by omega⟩ r h d rfl rfl rfl rfl rfl))
  | ⟨8, _⟩ => exact (val_main_v25_apply (F := Ideal) x0 (ix5 0 c r h d)).trans (congrArg (val_main_v13 (F := Ideal) x0) (ext5 _ 0 ⟨8 + c.val, by omega⟩ r h d rfl rfl rfl rfl rfl))

/-- The key band. -/
theorem band_k (c : Fin 64) (j : Fin 576) (h : Fin 8) (d : Fin 128) :
    (val_main_v26 (F := Ideal) x0 : S1x64x576x8x128.Idx → EReal) (ix5 0 c j h d) = hk x0 h (bk c j) d := by
  unfold val_main_v26
  refine (nine (![val_main_v17 (F := Ideal) x0, val_main_v18 (F := Ideal) x0, val_main_v19 (F := Ideal) x0, val_main_v20 (F := Ideal) x0, val_main_v21 (F := Ideal) x0, val_main_v22 (F := Ideal) x0, val_main_v23 (F := Ideal) x0, val_main_v24 (F := Ideal) x0, val_main_v25 (F := Ideal) x0] : Fin 9 → S1x64x64x8x128.Idx → EReal) _ c j h d).trans ?_
  rw [slot_k, pad_k]
  refine congrArg (hk x0 h · d) (Fin.ext ?_)
  show 64 * (j.val / 64 + c.val) + j.val % 64 = 64 * c.val + j.val
  omega

/-- The padded values by chunks. -/
theorem pad_v (cc : Fin 72) (r : Fin 64) (h : Fin 8) (d : Fin 128) :
    (val_main_v15 (F := Ideal) x0 : S1x72x64x8x128.Idx → EReal) (ix5 0 cc r h d) = hv x0 h ⟨64 * cc.val + r.val, by omega⟩ d := by
  unfold val_main_v15
  refine (padded _ _ _ cc r h d).trans ?_
  unfold hv
  by_cases hh : 8 ≤ cc.val
  · rw [dif_pos hh, dif_pos (show 512 ≤ 64 * cc.val + r.val by omega), in_v]
    refine congrArg x0 (congrArg (ix2 · _) (Fin.ext ?_))
    show 64 * (cc.val - 8) + r.val = 64 * cc.val + r.val - 512
    omega
  · rw [dif_neg hh, dif_neg (show ¬512 ≤ 64 * cc.val + r.val by omega), zeros]

/-- Slot `n` of the band: the padded chunks from the `n`th on. -/
theorem slot_v (n : Fin 9) (c r : Fin 64) (h : Fin 8) (d : Fin 128) :
    (![val_main_v27 (F := Ideal) x0, val_main_v28 (F := Ideal) x0, val_main_v29 (F := Ideal) x0, val_main_v30 (F := Ideal) x0, val_main_v31 (F := Ideal) x0, val_main_v32 (F := Ideal) x0, val_main_v33 (F := Ideal) x0, val_main_v34 (F := Ideal) x0, val_main_v35 (F := Ideal) x0] : Fin 9 → S1x64x64x8x128.Idx → EReal) n (ix5 0 c r h d)
      = (val_main_v15 (F := Ideal) x0 : S1x72x64x8x128.Idx → EReal) (ix5 0 ⟨n.val + c.val, by omega⟩ r h d) := by
  match n with
  | ⟨0, _⟩ => exact (val_main_v27_apply (F := Ideal) x0 (ix5 0 c r h d)).trans (congrArg (val_main_v15 (F := Ideal) x0) (ext5 _ 0 ⟨0 + c.val, by omega⟩ r h d rfl (Nat.zero_add c.val).symm rfl rfl rfl))
  | ⟨1, _⟩ => exact (val_main_v28_apply (F := Ideal) x0 (ix5 0 c r h d)).trans (congrArg (val_main_v15 (F := Ideal) x0) (ext5 _ 0 ⟨1 + c.val, by omega⟩ r h d rfl rfl rfl rfl rfl))
  | ⟨2, _⟩ => exact (val_main_v29_apply (F := Ideal) x0 (ix5 0 c r h d)).trans (congrArg (val_main_v15 (F := Ideal) x0) (ext5 _ 0 ⟨2 + c.val, by omega⟩ r h d rfl rfl rfl rfl rfl))
  | ⟨3, _⟩ => exact (val_main_v30_apply (F := Ideal) x0 (ix5 0 c r h d)).trans (congrArg (val_main_v15 (F := Ideal) x0) (ext5 _ 0 ⟨3 + c.val, by omega⟩ r h d rfl rfl rfl rfl rfl))
  | ⟨4, _⟩ => exact (val_main_v31_apply (F := Ideal) x0 (ix5 0 c r h d)).trans (congrArg (val_main_v15 (F := Ideal) x0) (ext5 _ 0 ⟨4 + c.val, by omega⟩ r h d rfl rfl rfl rfl rfl))
  | ⟨5, _⟩ => exact (val_main_v32_apply (F := Ideal) x0 (ix5 0 c r h d)).trans (congrArg (val_main_v15 (F := Ideal) x0) (ext5 _ 0 ⟨5 + c.val, by omega⟩ r h d rfl rfl rfl rfl rfl))
  | ⟨6, _⟩ => exact (val_main_v33_apply (F := Ideal) x0 (ix5 0 c r h d)).trans (congrArg (val_main_v15 (F := Ideal) x0) (ext5 _ 0 ⟨6 + c.val, by omega⟩ r h d rfl rfl rfl rfl rfl))
  | ⟨7, _⟩ => exact (val_main_v34_apply (F := Ideal) x0 (ix5 0 c r h d)).trans (congrArg (val_main_v15 (F := Ideal) x0) (ext5 _ 0 ⟨7 + c.val, by omega⟩ r h d rfl rfl rfl rfl rfl))
  | ⟨8, _⟩ => exact (val_main_v35_apply (F := Ideal) x0 (ix5 0 c r h d)).trans (congrArg (val_main_v15 (F := Ideal) x0) (ext5 _ 0 ⟨8 + c.val, by omega⟩ r h d rfl rfl rfl rfl rfl))

/-- The value band. -/
theorem band_v (c : Fin 64) (j : Fin 576) (h : Fin 8) (d : Fin 128) :
    (val_main_v36 (F := Ideal) x0 : S1x64x576x8x128.Idx → EReal) (ix5 0 c j h d) = hv x0 h (bk c j) d := by
  unfold val_main_v36
  refine (nine (![val_main_v27 (F := Ideal) x0, val_main_v28 (F := Ideal) x0, val_main_v29 (F := Ideal) x0, val_main_v30 (F := Ideal) x0, val_main_v31 (F := Ideal) x0, val_main_v32 (F := Ideal) x0, val_main_v33 (F := Ideal) x0, val_main_v34 (F := Ideal) x0, val_main_v35 (F := Ideal) x0] : Fin 9 → S1x64x64x8x128.Idx → EReal) _ c j h d).trans ?_
  rw [slot_v, pad_v]
  refine congrArg (hv x0 h · d) (Fin.ext ?_)
  show 64 * (j.val / 64 + c.val) + j.val % 64 = 64 * c.val + j.val
  omega

end Cert.Attn.Band

end
-- ==== Proof.Attn.RefScore.lean ====
/- The reference's scores and softmax gradient over a chunk's band, in the terms of the heads. -/
module

public import proofs.«01_k».proof.Proof.Attn.RefBand
public import proofs.«01_k».proof.Proof.Attn.Table

@[expose] public section

set_option maxRecDepth 16384

noncomputable section

namespace Cert.Attn.Band

open Cert.ReferenceIdeal Cert.ReferenceIdeal.Gen Cert.ReferenceIdeal.Read Idealize.ShloMosaic.ValueIdx
open Idealize.ShloMosaic
open Idealize.ShloMosaic.TcCoe Idealize.SL.Sem

variable (x0 : ProjA) (x1 : BiasA) (x2 : HeadsA)

/-- The test that a band key is a real one. -/
theorem valid_at (c : Fin 64) (j : Fin 576) :
    (val_main_v69 (F := Ideal) : S64x576.Idx → BitVec 1) (ix2 c j) = if 8 ≤ c.val + j.val / 64 then 1#1 else 0#1 := by
  refine Eq.trans ?_ (validWord_eq c.val j.val c.isLt j.isLt)
  simp only [val_main_v69_apply, val_main_v68_apply, val_main_c_11_apply, val_main_v67_apply, val_main_v66_apply, val_main_v65_apply,
    val_main_v64_apply, val_main_v63_apply, val_main_v62_apply, val_main_c_10_apply, val_main_v61_apply, val_main_v60_apply, val_main_v59_apply,
    val_main_call1_v11_apply, val_main_call1_v6_apply, val_main_call1_v5_apply, val_main_call1_v10_apply, val_main_call1_v9_apply,
    val_main_call1_v8_apply, val_main_call1_v7_apply, val_main_call1_v13_apply, val_main_call1_v12_apply, val_main_call1_v2_apply,
    val_main_call1_v1_apply, val_main_call1_v0_apply, val_main_call1_c_apply, val_main_call1_c_0_apply, val_main_c_9_apply, val_main_v43_apply]
  unfold val_main_call1_v3 val_main_call1_v4
  rfl

/-- The column the bias is looked up at. -/
theorem rel_at (q : Fin 64) (j : Fin 576) :
    ((val_main_v57 (F := Ideal) : S64x576x1.Idx → BitVec 32) (ix3 q j (0 : Fin 1))).toInt.toNat = min 256 (q.val + 640 - j.val) := by
  refine Eq.trans (congrArg (fun w : BitVec 32 => w.toInt.toNat) ?_) (relWord_nat q.val j.val (by omega) (by omega))
  simp only [val_main_v57_apply, val_main_v56_apply, val_main_v55_apply, val_main_v54_apply, val_main_v53_apply, val_main_v52_apply,
    val_main_v51_apply, val_main_v50_apply, val_main_v49_apply, val_main_v48_apply, val_main_v47_apply, val_main_v46_apply, val_main_v45_apply,
    val_main_v44_apply, val_main_v43_apply, val_main_v42_apply, val_main_v41_apply, val_main_v40_apply, val_main_c_apply, val_main_c_4_apply,
    val_main_c_5_apply, val_main_c_6_apply, val_main_c_7_apply, val_main_c_8_apply, val_main_call0_v0_apply, val_main_call0_v1_apply,
    val_main_call0_v2_apply, val_main_call0_v3_apply, val_main_call0_v4_apply]
  rfl

/-- The bias of a query of a chunk against a key of its band. -/
theorem bias_ref (h : Fin 8) (q : Fin 64) (j : Fin 576) :
    (val_main_v58 (F := Ideal) x1 : S8x64x576.Idx → EReal) (ix3 h q j) = hb x1 h (rel q.val j.val) := by
  unfold val_main_v58 hb
  refine (lookup_apply (H := 8) (N := 257) (R := 64) (C := 576) (by omega) _ x1 (val_main_v57 (F := Ideal)) h q j).trans ?_
  refine congrArg x1 (congrArg (ix2 h) (Fin.ext ?_))
  show min (BitVec.toInt _).toNat 256 = min 256 (q.val + 640 - j.val)
  rw [rel_at]
  omega

theorem dot_qk (h : Fin 8) (c q : Fin 64) (j : Fin 576) :
    (val_main_v37 (F := Ideal) x0 : S1x8x64x64x576.Idx → EReal) (ix5 0 h c q j) = ∑ d, hq x0 h (cr c q) d * hk x0 h (bk c j) d := by
  rw [val_main_v37_apply]
  refine Finset.sum_congr rfl fun d _ => congrArg₂ (· * ·) ?_ ?_
  · exact (congrArg (val_main_v9 (F := Ideal) x0) (ext5 _ 0 c q h d rfl rfl rfl rfl rfl)).trans (in_q x0 c q h d)
  · exact (congrArg (val_main_v26 (F := Ideal) x0) (ext5 _ 0 c j h d rfl rfl rfl rfl rfl)).trans (band_k x0 c j h d)

theorem valid_iff (c q : Fin 64) (j : Fin 576) : Valid (cr c q) (bk c j) ↔ 8 ≤ c.val + j.val / 64 := by
  show 512 ≤ 64 * c.val + j.val ∧ (64 * c.val + q.val) / 64 ≤ (64 * c.val + j.val) / 64 ∧ (64 * c.val + j.val) / 64 ≤ (64 * c.val + q.val) / 64 + 8 ↔ _
  omega

/-- The masked scores. -/
theorem score (h : Fin 8) (c q : Fin 64) (j : Fin 576) :
    (val_main_v74_0 (F := Ideal) x0 x1 : S1x8x64x64x576.Idx → EReal) (ix5 0 h c q j)
      = sc (hq x0 h) (hk x0 h) (hb x1 h) (cr c q) (bk c j) := by
  rw [val_main_v74_0_apply, val_main_v74_1_apply, val_main_v73_apply]
  have e1 : (val_main_v69 (F := Ideal) : S64x576.Idx → BitVec 1) (idx_main_v73 (idx_main_v74_1 (ix5 0 h c q j))) = if 8 ≤ c.val + j.val / 64 then 1#1 else 0#1 :=
    (congrArg (val_main_v69 (F := Ideal)) (ext2 _ c j rfl rfl)).trans (valid_at c j)
  rw [e1]
  unfold sc
  by_cases hv : 8 ≤ c.val + j.val / 64
  · rw [if_pos hv, if_pos ((valid_iff c q j).mpr hv)]
    show (val_main_v72 (F := Ideal) x0 x1 : S1x8x64x64x576.Idx → EReal) (ix5 0 h c q j) = _
    rw [val_main_v72_apply, val_main_v71_apply, val_main_v70_apply, val_main_v39_apply, val_main_v38_apply, val_main_cst_3_apply]
    refine congrArg₂ (fun a b : EReal => a * scl + b) (dot_qk x0 h c q j) ?_
    have hr : rel (cr c q).val (bk c j).val = rel q.val j.val := Fin.ext (by
      show min 256 (64 * c.val + q.val + 640 - (64 * c.val + j.val)) = min 256 (q.val + 640 - j.val)
      omega)
    rw [hr]
    refine (congrArg (val_main_v58 (F := Ideal) x1) (funext fun a => Fin.ext ?_)).trans (bias_ref x1 h q j)
    match a with
    | ⟨0, _⟩ => rfl
    | ⟨1, _⟩ => rfl
    | ⟨2, _⟩ => rfl
  · rw [if_neg hv, if_neg (fun hh => hv ((valid_iff c q j).mp hh))]
    show (val_main_call2_v1 (F := Ideal) : S1x8x64x64x576.Idx → EReal) (ix5 0 h c q j) = ⊥
    rw [val_main_call2_v1_apply, val_main_cst_apply]
    show Ideal.ofBits .f32 0xFF800000#32 = ⊥
    simp [Ideal.ofBits, Ideal.ieee]

/-- The gradient of the softmax. -/
theorem dot_ov (h : Fin 8) (c q : Fin 64) (j : Fin 576) :
    (val_main_v111 (F := Ideal) x0 x2 : S1x8x64x64x576.Idx → EReal) (ix5 0 h c q j) = dp (ho x2 h) (hv x0 h) (cr c q) (bk c j) := by
  rw [val_main_v111_apply, val_main_v110_apply]
  unfold dp
  refine Finset.sum_congr rfl fun d _ => congrArg₂ (· * ·) ?_ ?_
  · exact (congrArg (val_main_v109 (F := Ideal) x2) (ext5 _ 0 c h d q rfl rfl rfl rfl rfl)).trans (in_o x2 c q h d)
  · exact (congrArg (val_main_v36 (F := Ideal) x0) (ext5 _ 0 c j h d rfl rfl rfl rfl rfl)).trans (band_v x0 c j h d)

end Cert.Attn.Band

end
-- ==== Proof.Attn.RefSoft.lean ====
/- The reference's softmax and its gradient over a chunk's band, in the terms of the heads. -/
module

public import proofs.«01_k».proof.Proof.Attn.RefScore

@[expose] public section

set_option maxRecDepth 16384

noncomputable section

namespace Cert.Attn.Band

open Cert.ReferenceIdeal Cert.ReferenceIdeal.Gen Cert.ReferenceIdeal.Read Idealize.ShloMosaic.ValueIdx
open Idealize.ShloMosaic
open Idealize.ShloMosaic.TcCoe Idealize.SL.Sem

variable (x0 : ProjA) (x1 : BiasA) (x2 : HeadsA)

/-- A query's scores against all keys, and those of its chunk's band. -/
abbrev rowS (h : Fin 8) (Q : Fin 4096) : Fin 4608 → EReal := sc (hq x0 h) (hk x0 h) (hb x1 h) Q

abbrev bandS (h : Fin 8) (c q : Fin 64) : Fin 576 → EReal := fun j => rowS x0 x1 h (cr c q) ⟨64 * c.val + j.val, by omega⟩

abbrev bandD (h : Fin 8) (c q : Fin 64) : Fin 576 → EReal := fun j => dp (ho x2 h) (hv x0 h) (cr c q) ⟨64 * c.val + j.val, by omega⟩

/-- Outside the band a chunk's scores are −∞. -/
theorem off_band (h : Fin 8) (c q : Fin 64) (P : Fin 4608) (hP : ¬(64 * c.val ≤ P.val ∧ P.val < 64 * c.val + 576)) :
    rowS x0 x1 h (cr c q) P = ⊥ := by
  refine if_neg fun hv => hP ?_
  have h2 : (64 * c.val + q.val) / 64 ≤ P.val / 64 := hv.2.1
  have h3 : P.val / 64 ≤ (64 * c.val + q.val) / 64 + 8 := hv.2.2
  omega

theorem max_at (h : Fin 8) (c q : Fin 64) :
    (val_main_v82 (F := Ideal) x0 x1 : S1x8x64x64.Idx → EReal) (ix4 0 h c q) = rowMax (bandS x0 x1 h c q) := by
  rw [val_main_v82_apply]
  have e : (val_main_v75 (F := Ideal) x0 x1 : S1x8x64x64.Idx → EReal) (ix4 0 h c q) = rowMax (bandS x0 x1 h c q) := by
    unfold val_main_v75
    have hR : S1x8x64x64x576.Reduces [4] S1x8x64x64 := by decide
    refine (Host.reduce_eq_fold_single (α := EReal) max _ _ _ hR _ _).trans ?_
    have hb : (val_main_cst_12 (F := Ideal) : S_.Idx → EReal) (Shape.Idx.first h_S_) = ⊥ := by
      rw [val_main_cst_12_apply]
      show Ideal.ofBits .f32 0xFF800000#32 = ⊥
      simp [Ideal.ofBits, Ideal.ieee]
    rw [hb]
    refine Finset.fold_congr fun j _ => ?_
    exact (congrArg (val_main_v74_0 (F := Ideal) x0 x1) (ext5 _ 0 h c q j rfl rfl rfl rfl rfl)).trans (score x0 x1 h c q j)
  have hb : (val_main_v81 (F := Ideal) : S1x8x64x64.Idx → EReal) (ix4 0 h c q) = ⊥ := by
    rw [val_main_v81_apply, val_main_cst_14_apply]
    show Ideal.ofBits .f32 0xFF800000#32 = ⊥
    simp [Ideal.ofBits, Ideal.ieee]
  show max ((val_main_v81 (F := Ideal) : S1x8x64x64.Idx → EReal) (ix4 0 h c q)) ((val_main_v75 (F := Ideal) x0 x1 : S1x8x64x64.Idx → EReal) (ix4 0 h c q)) = _
  rw [e, hb]
  exact bot_sup_eq _

theorem exp_at (h : Fin 8) (c q : Fin 64) (j : Fin 576) :
    (val_main_v95 (F := Ideal) x0 x1 : S1x8x64x64x576.Idx → EReal) (ix5 0 h c q j) = rowExp (bandS x0 x1 h c q) j := by
  rw [val_main_v95_apply, val_main_v94_apply, val_main_v93_apply, val_main_v92_apply, score]
  refine congrArg (fun m : EReal => Ideal.exp (rowS x0 x1 h (cr c q) (bk c j) - m)) ?_
  exact (congrArg (val_main_v82 (F := Ideal) x0 x1) (ext4 _ 0 h c q rfl rfl rfl rfl)).trans (max_at x0 x1 h c q)

theorem sum_at (h : Fin 8) (c q : Fin 64) (i : S1x8x64x64.Idx) (hi : i = ix4 0 h c q) :
    (val_main_v96 (F := Ideal) x0 x1 : S1x8x64x64.Idx → EReal) i = rowSum (bandS x0 x1 h c q) := by
  subst hi
  rw [val_main_v96_apply]
  have hz : (val_main_cst_20 (F := Ideal) : S_.Idx → EReal) (Shape.Idx.first h_S_) = 0 := by
    rw [val_main_cst_20_apply]; exact Ideal.ofBits_zero_f32
  rw [hz, zero_add]
  refine Finset.sum_congr rfl fun j _ => ?_
  exact (congrArg (val_main_v95 (F := Ideal) x0 x1) (ext5 _ 0 h c q j rfl rfl rfl rfl rfl)).trans (exp_at x0 x1 h c q j)

/-! The coordinates that summing out the outer axes keeps. -/

theorem drop_0 (i : S1x8x64x64x1.Idx) : (reducesTo_S1x8x64x64x1_S8x64x64_d0_4.drop i 0).val = (i 1).val :=
  Shape.ReducesTo.drop_apply_val_of_eq _ i 0 1

theorem drop_1 (i : S1x8x64x64x1.Idx) : (reducesTo_S1x8x64x64x1_S8x64x64_d0_4.drop i 1).val = (i 2).val :=
  Shape.ReducesTo.drop_apply_val_of_eq _ i 1 2

theorem drop_2 (i : S1x8x64x64x1.Idx) : (reducesTo_S1x8x64x64x1_S8x64x64_d0_4.drop i 2).val = (i 3).val :=
  Shape.ReducesTo.drop_apply_val_of_eq _ i 2 3

theorem drop_unit (h : Fin 8) (c q : Fin 64) :
    reducesTo_S1x8x64x64x1_S8x64x64_d0_4.drop (ix5 (0 : Fin 1) h c q (0 : Fin 1)) = ix3 h c q := by
  refine funext fun a => Fin.ext ?_
  match a with
  | ⟨0, _⟩ => exact drop_0 _
  | ⟨1, _⟩ => exact drop_1 _
  | ⟨2, _⟩ => exact drop_2 _

/-! ## Rows that are finite -/

section finite

variable (h : Fin 8) (c q : Fin 64) (h1 : ∀ j, bandS x0 x1 h c q j ≠ ⊤) (h2 : ∃ j, bandS x0 x1 h c q j ≠ ⊥)

include h1 h2

/-- The softmax. -/
theorem soft_at (j : Fin 576) :
    (val_main_v99 (F := Ideal) x0 x1 : S1x8x64x64x576.Idx → EReal) (ix5 0 h c q j)
      = p (hq x0 h) (hk x0 h) (hb x1 h) (cr c q) (bk c j) := by
  rw [val_main_v99_apply, val_main_v98_apply, val_main_v97_apply, exp_at]
  refine (congrArg (fun s : EReal => Ideal.div (rowExp (bandS x0 x1 h c q) j) s)
    (sum_at x0 x1 h c q _ (ext4 _ 0 h c q rfl rfl rfl rfl))).trans ?_
  rw [rowP_eq_div _ h1 h2]
  exact rowP_window (64 * c.val) (by omega) (rowS x0 x1 h (cr c q)) (off_band x0 x1 h c q) j

/-- The weighted sum that the softmax's gradient takes off. -/
theorem inner_at (i : S1x8x64x64.Idx) (hi : i = ix4 0 h c q) :
    (val_main_v117 (F := Ideal) x0 x1 x2 : S1x8x64x64.Idx → EReal) i
      = ∑ k, bandD x0 x2 h c q k * Ideal.div 1 (rowSum (bandS x0 x1 h c q) * rowSum (bandS x0 x1 h c q)) * rowExp (bandS x0 x1 h c q) k := by
  subst hi
  rw [val_main_v117_apply]
  have hz : (val_main_cst_22 (F := Ideal) : S_.Idx → EReal) (Shape.Idx.first h_S_) = 0 := by
    rw [val_main_cst_22_apply]; exact Ideal.ofBits_zero_f32
  rw [hz, zero_add]
  refine Finset.sum_congr rfl fun k _ => ?_
  refine (congrArg (val_main_v116 (F := Ideal) x0 x1 x2) (ext5 _ 0 h c q k rfl rfl rfl rfl rfl)).trans ?_
  rw [val_main_v116_apply, val_main_v115_apply, exp_at, dot_ov, val_main_v114_apply, val_main_v102_apply, val_main_v101_apply,
    val_main_v100_apply, val_main_cst_21_apply, val_main_v97_apply]
  have e := sum_at x0 x1 h c q (idx_main_v97 (idx_main_v114 (ix5 0 h c q k))) (ext4 _ 0 h c q rfl rfl rfl rfl)
  rw [e]
  have ho : Ideal.ofBits .f32 0x3F800000#32 = (1 : EReal) := by simp [Ideal.ofBits, Ideal.ieee, -EReal.coe_mul]; norm_num
  show _ * Ideal.div (Ideal.ofBits .f32 0x3F800000#32) _ * _ = _
  rw [ho]
  rfl

theorem corr_at (i : S8x64x64.Idx) (hi : i = ix3 h c q) :
    (val_main_v122 (F := Ideal) x0 x1 x2 : S8x64x64.Idx → EReal) i
      = -∑ k, bandD x0 x2 h c q k * Ideal.div 1 (rowSum (bandS x0 x1 h c q) * rowSum (bandS x0 x1 h c q)) * rowExp (bandS x0 x1 h c q) k := by
  subst hi
  unfold val_main_v122
  show Ideal.hostReduceAdd reducesTo_S1x8x64x64x1_S8x64x64_d0_4 (val_main_v119 (F := Ideal) x0 x1 x2)
    ((val_main_cst_23 (F := Ideal) : S_.Idx → EReal) (Shape.Idx.first h_S_)) (ix3 h c q) = _
  have hz : (val_main_cst_23 (F := Ideal) : S_.Idx → EReal) (Shape.Idx.first h_S_) = 0 := by
    rw [val_main_cst_23_apply]; exact Ideal.ofBits_zero_f32
  rw [hz]
  unfold Ideal.hostReduceAdd
  rw [zero_add, Finset.sum_eq_single (ix5 (0 : Fin 1) h c q (0 : Fin 1))]
  · rw [val_main_v119_apply, val_main_v118_apply]
    refine congrArg (fun y : EReal => -y) (inner_at x0 x1 x2 h c q h1 h2 _ (ext4 _ 0 h c q rfl ?_ ?_ ?_))
    · show ((((0 * 8 + h.val) * 64 + c.val) * 64 + q.val) * 1 + 0) / 4096 % 8 = h.val
      omega
    · show ((((0 * 8 + h.val) * 64 + c.val) * 64 + q.val) * 1 + 0) / 64 % 64 = c.val
      omega
    · show ((((0 * 8 + h.val) * 64 + c.val) * 64 + q.val) * 1 + 0) % 64 = q.val
      omega
  · intro i hi hne
    refine absurd (ext5 i 0 h c q 0 ?_ ?_ ?_ ?_ ?_) hne
    · have : (i 0).val < 1 := (i 0).isLt
      show (i 0).val = 0
      omega
    · rw [← drop_0 i, (Finset.mem_filter.1 hi).2]
    · rw [← drop_1 i, (Finset.mem_filter.1 hi).2]
    · rw [← drop_2 i, (Finset.mem_filter.1 hi).2]
    · have : (i 4).val < 1 := (i 4).isLt
      show (i 4).val = 0
      omega
  · intro hn
    rw [Finset.mem_filter] at hn
    exact absurd (And.intro (Finset.mem_univ _) (drop_unit h c q)) hn

/-- The gradient of the scores. -/
theorem grad_at (j : Fin 576) :
    (val_main_v127 (F := Ideal) x0 x1 x2 : S1x8x64x64x576.Idx → EReal) (ix5 0 h c q j)
      = ds (hq x0 h) (ho x2 h) (hk x0 h) (hv x0 h) (hb x1 h) (cr c q) (bk c j) := by
  rw [val_main_v127_apply, val_main_v74_1_apply, val_main_v73_apply]
  have e1 : (val_main_v69 (F := Ideal) : S64x576.Idx → BitVec 1) (idx_main_v73 (idx_main_v74_1 (ix5 0 h c q j))) = if 8 ≤ c.val + j.val / 64 then 1#1 else 0#1 :=
    (congrArg (val_main_v69 (F := Ideal)) (ext2 _ c j rfl rfl)).trans (valid_at c j)
  rw [e1]
  by_cases hval : 8 ≤ c.val + j.val / 64
  · rw [if_pos hval]
    show (val_main_v126 (F := Ideal) x0 x1 x2 : S1x8x64x64x576.Idx → EReal) (ix5 0 h c q j) = _
    rw [val_main_v126_apply, val_main_v125_apply, val_main_v121_apply, val_main_v124_apply, val_main_v123_apply, val_main_v120_apply,
      val_main_v97_apply, exp_at, dot_ov]
    have es := sum_at x0 x1 h c q (idx_main_v97 (idx_main_v120 (ix5 0 h c q j))) (ext4 _ 0 h c q rfl rfl rfl rfl)
    have ec := corr_at x0 x1 x2 h c q h1 h2 (idx_main_v123 (idx_main_v124 (ix5 0 h c q j))) (funext fun a => Fin.ext (by
      match a with
      | ⟨0, _⟩ => rfl
      | ⟨1, _⟩ => rfl
      | ⟨2, _⟩ => rfl))
    rw [es, ec]
    refine (rowDs_eq (bandS x0 x1 h c q) h1 h2 (bandD x0 x2 h c q) j).trans ?_
    exact rowDs_window (64 * c.val) (by omega) (rowS x0 x1 h (cr c q)) (off_band x0 x1 h c q) (dp (ho x2 h) (hv x0 h) (cr c q)) j
  · rw [if_neg hval]
    show (val_main_call3_v0 (F := Ideal) : S1x8x64x64x576.Idx → EReal) (ix5 0 h c q j) = _
    rw [val_main_call3_v0_apply, val_main_call3_cst_apply]
    refine Ideal.ofBits_zero_f32.trans ?_
    exact (rowDs_off _ _ _ (if_neg fun hh => hval ((valid_iff c q j).mp hh))).symm

end finite

end Cert.Attn.Band

end
-- ==== Proof.Attn.RefGrad.lean ====
/- The reference's gradients of the queries, keys and values, in the terms of the heads. -/
module

public import proofs.«01_k».proof.Proof.Attn.RefSoft
public import Idealize.ShloMosaic.Lib.KernelVsHost

@[expose] public section

set_option maxRecDepth 16384

noncomputable section

namespace Cert.Attn.Band

open Cert.ReferenceIdeal Cert.ReferenceIdeal.Gen Cert.ReferenceIdeal.Read Idealize.ShloMosaic.ValueIdx
open Idealize.ShloMosaic
open Idealize.ShloMosaic.TcCoe Idealize.SL.Sem

/-- Every query's scores are finite or masked, and some are not masked. -/
def Rows (x0 : ProjA) (x1 : BiasA) : Prop :=
  ∀ (h : Fin 8) (c q : Fin 64), (∀ j, bandS x0 x1 h c q j ≠ ⊤) ∧ ∃ j, bandS x0 x1 h c q j ≠ ⊥

/-! ## Sums over the chunks -/

/-- A sum over the queries by chunks. -/
theorem sum_chunks (f : Fin 4096 → EReal) : ∑ Q, f Q = ∑ c : Fin 64, ∑ q : Fin 64, f (cr c q) := by
  rw [← Fintype.sum_prod_type']
  refine (Fintype.sum_equiv (finProdFinEquiv (m := 64) (n := 64)) _ _ fun x => ?_).symm
  exact congrArg f (Fin.ext (Nat.add_comm _ _))

/-- The part of a band that lands on a row of a padded chunk. -/
def slotTerm (G : Fin 64 → Fin 576 → EReal) (cc : Fin 72) (r : Fin 64) (l : Fin 9) : EReal :=
  if hc : l.val ≤ cc.val ∧ cc.val < l.val + 64 then G ⟨cc.val - l.val, by omega⟩ ⟨64 * l.val + r.val, by omega⟩ else 0

/-- The nine parts together are the sum over all queries. -/
theorem sum_slots (G : Fin 64 → Fin 576 → EReal) (f : Fin 4608 → Fin 4096 → EReal) (hG : ∀ c j, G c j = ∑ q, f (bk c j) (cr c q))
    (hf : ∀ K Q, ¬(Q.val / 64 ≤ K.val / 64 ∧ K.val / 64 ≤ Q.val / 64 + 8) → f K Q = 0) (cc : Fin 72) (r : Fin 64) :
    ∑ l, slotTerm G cc r l = ∑ Q, f ⟨64 * cc.val + r.val, by omega⟩ Q := by
  rw [sum_chunks]
  have e : ∀ l : Fin 9, slotTerm G cc r l
      = ∑ c : Fin 64, if c.val + l.val = cc.val then ∑ q, f ⟨64 * cc.val + r.val, by omega⟩ (cr c q) else 0 := by
    intro l
    unfold slotTerm
    by_cases hc : l.val ≤ cc.val ∧ cc.val < l.val + 64
    · rw [dif_pos hc, Finset.sum_eq_single (⟨cc.val - l.val, by omega⟩ : Fin 64)]
      · rw [if_pos (by show cc.val - l.val + l.val = cc.val; omega), hG]
        refine Finset.sum_congr rfl fun q _ => congrArg (f · _) (Fin.ext ?_)
        show 64 * (cc.val - l.val) + (64 * l.val + r.val) = 64 * cc.val + r.val
        omega
      · intro c _ hne
        refine if_neg fun h => hne (Fin.ext ?_)
        show c.val = cc.val - l.val
        omega
      · intro h; exact absurd (Finset.mem_univ _) h
    · rw [dif_neg hc]
      refine (Finset.sum_eq_zero fun c _ => if_neg fun h => hc ?_).symm
      have := c.isLt
      omega
  rw [Finset.sum_congr rfl fun l _ => e l, Finset.sum_comm]
  refine Finset.sum_congr rfl fun c _ => ?_
  by_cases hb : c.val ≤ cc.val ∧ cc.val ≤ c.val + 8
  · rw [Finset.sum_eq_single (⟨cc.val - c.val, by omega⟩ : Fin 9)]
    · exact if_pos (by show c.val + (cc.val - c.val) = cc.val; omega)
    · intro l _ hne
      refine if_neg fun h => hne (Fin.ext ?_)
      show l.val = cc.val - c.val
      omega
    · intro h; exact absurd (Finset.mem_univ _) h
  · rw [Finset.sum_eq_zero fun l _ => if_neg fun h => hb (by have := l.isLt; omega)]
    refine (Finset.sum_eq_zero fun q _ => hf _ _ fun h => hb ?_).symm
    have h1 : (64 * c.val + q.val) / 64 ≤ (64 * cc.val + r.val) / 64 := h.1
    have h2 : (64 * cc.val + r.val) / 64 ≤ (64 * c.val + q.val) / 64 + 8 := h.2
    omega

/-- A part of a band, padded to all chunks. -/
theorem pad_slot (l u : ℕ) (hl : l < 9) (x : S1x64x64x8x128.Idx → EReal) (v : S_.Idx → EReal)
    (wf : S1x64x64x8x128.Pads ![0, l, 0, 0, 0] ![0, u, 0, 0, 0] ![0, 0, 0, 0, 0] S1x72x64x8x128)
    (hv : v (Shape.Idx.first h_S_) = 0) (G : Fin 64 → Fin 576 → EReal) (cc : Fin 72) (r : Fin 64) (h : Fin 8) (d : Fin 128)
    (hx : ∀ c : Fin 64, x (ix5 (0 : Fin 1) c r h d) = G c ⟨64 * l + r.val, by omega⟩) :
    pad S1x72x64x8x128 ![0, l, 0, 0, 0] ![0, u, 0, 0, 0] ![0, 0, 0, 0, 0] x v wf h_S_ (ix5 (0 : Fin 1) cc r h d)
      = slotTerm G cc r ⟨l, hl⟩ := by
  unfold slotTerm
  by_cases hc : l ≤ cc.val ∧ cc.val < l + 64
  · rw [dif_pos (show (⟨l, hl⟩ : Fin 9).val ≤ cc.val ∧ cc.val < (⟨l, hl⟩ : Fin 9).val + 64 from hc)]
    rw [pad_apply_of_inside _ _ _ x v wf h_S_ _ (ix5 (0 : Fin 1) (⟨cc.val - l, by omega⟩ : Fin 64) r h d) (fun a => by
      match a with
      | ⟨0, _⟩ => rfl
      | ⟨1, _⟩ => show cc.val = l + (cc.val - l) * (0 + 1); omega
      | ⟨2, _⟩ => show r.val = 0 + r.val * (0 + 1); omega
      | ⟨3, _⟩ => show h.val = 0 + h.val * (0 + 1); omega
      | ⟨4, _⟩ => show d.val = 0 + d.val * (0 + 1); omega)]
    exact hx _
  · rw [dif_neg (show ¬((⟨l, hl⟩ : Fin 9).val ≤ cc.val ∧ cc.val < (⟨l, hl⟩ : Fin 9).val + 64) from hc)]
    rw [pad_apply_of_not_inside _ _ _ x v wf h_S_ _ 1 (by
      show ¬(l ≤ cc.val ∧ (cc.val - l) % (0 + 1) = 0 ∧ (cc.val - l) / (0 + 1) < 64)
      omega), hv]

variable (x0 : ProjA) (x1 : BiasA) (x2 : HeadsA) (hR : Rows x0 x1)

/-- Where a key is out of a query's reach, the score is −∞. -/
theorem off_reach (h : Fin 8) (Q : Fin 4096) (K : Fin 4608) (hn : ¬(Q.val / 64 ≤ K.val / 64 ∧ K.val / 64 ≤ Q.val / 64 + 8)) :
    sc (hq x0 h) (hk x0 h) (hb x1 h) Q K = ⊥ :=
  if_neg fun hv => hn hv.2

include hR

/-- The scaled gradient of the scores. -/
theorem scaled_at (h : Fin 8) (c q : Fin 64) (j : Fin 576) :
    (val_main_v129 (F := Ideal) x0 x1 x2 : S1x8x64x64x576.Idx → EReal) (ix5 0 h c q j)
      = ds (hq x0 h) (ho x2 h) (hk x0 h) (hv x0 h) (hb x1 h) (cr c q) (bk c j) * scl := by
  rw [val_main_v129_apply, grad_at x0 x1 x2 h c q (hR h c q).1 (hR h c q).2, val_main_v128_apply, val_main_cst_24_apply]
  rfl

/-- The gradient of the queries. -/
theorem queries_at (c q : Fin 64) (h : Fin 8) (d : Fin 128) :
    (val_main_v133 (F := Ideal) x0 x1 x2 : S1x64x64x8x128.Idx → EReal) (ix5 0 c q h d)
      = dq (hq x0 h) (ho x2 h) (hk x0 h) (hv x0 h) (hb x1 h) (cr c q) d := by
  rw [val_main_v133_apply, val_main_v132_apply]
  unfold dq
  rw [sum_mul_real _ _ scl_nonneg scl_ne_top,
    FinSumWindow.sum_window (64 * c.val) (by omega : 64 * c.val + 576 ≤ 4608)
      (fun K => ds (hq x0 h) (ho x2 h) (hk x0 h) (hv x0 h) (hb x1 h) (cr c q) K * hk x0 h K d * scl)
      (fun P hP => by
        show rowDs _ _ _ * _ * _ = (0 : EReal)
        rw [rowDs_off _ _ P (off_band x0 x1 h c q P hP), zero_mul, zero_mul])]
  refine Finset.sum_congr rfl fun j _ => ?_
  have e1 := (congrArg (val_main_v129 (F := Ideal) x0 x1 x2) (ext5 (lidx_main_v132 (idx_main_v133 (ix5 0 c q h d)) j) 0 h c q j rfl rfl rfl rfl rfl)).trans
    (scaled_at x0 x1 x2 hR h c q j)
  have e2 := (congrArg (val_main_v26 (F := Ideal) x0) (ext5 (ridx_main_v132 (idx_main_v133 (ix5 0 c q h d)) j) 0 c j h d rfl rfl rfl rfl rfl)).trans
    (band_k x0 c j h d)
  rw [e1, e2]
  exact mul_right_comm _ _ _

/-- A chunk's part of the gradient of the values of its band. -/
theorem values_at (c : Fin 64) (j : Fin 576) (h : Fin 8) (d : Fin 128) :
    (val_main_v113 (F := Ideal) x0 x1 x2 : S1x64x576x8x128.Idx → EReal) (ix5 0 c j h d)
      = ∑ q, p (hq x0 h) (hk x0 h) (hb x1 h) (cr c q) (bk c j) * ho x2 h (cr c q) d := by
  rw [val_main_v113_apply, val_main_v112_apply]
  refine Finset.sum_congr rfl fun q _ => ?_
  have e1 := (congrArg (val_main_v109 (F := Ideal) x2) (ext5 (lidx_main_v112 (idx_main_v113 (ix5 0 c j h d)) q) 0 c h d q rfl rfl rfl rfl rfl)).trans
    (in_o x2 c q h d)
  have e2 := (congrArg (val_main_v99 (F := Ideal) x0 x1) (ext5 (ridx_main_v112 (idx_main_v113 (ix5 0 c j h d)) q) 0 h c q j rfl rfl rfl rfl rfl)).trans
    (soft_at x0 x1 h c q (hR h c q).1 (hR h c q).2 j)
  rw [e1, e2]
  exact mul_comm _ _

/-- A chunk's part of the gradient of the keys of its band. -/
theorem keys_at (c : Fin 64) (j : Fin 576) (h : Fin 8) (d : Fin 128) :
    (val_main_v131 (F := Ideal) x0 x1 x2 : S1x64x576x8x128.Idx → EReal) (ix5 0 c j h d)
      = ∑ q, ds (hq x0 h) (ho x2 h) (hk x0 h) (hv x0 h) (hb x1 h) (cr c q) (bk c j) * hq x0 h (cr c q) d * scl := by
  rw [val_main_v131_apply, val_main_v130_apply]
  refine Finset.sum_congr rfl fun q _ => ?_
  have e1 := (congrArg (val_main_v129 (F := Ideal) x0 x1 x2) (ext5 (lidx_main_v130 (idx_main_v131 (ix5 0 c j h d)) q) 0 h c q j rfl rfl rfl rfl rfl)).trans
    (scaled_at x0 x1 x2 hR h c q j)
  have e2 := (congrArg (val_main_v9 (F := Ideal) x0) (ext5 (ridx_main_v130 (idx_main_v131 (ix5 0 c j h d)) q) 0 c q h d rfl rfl rfl rfl rfl)).trans
    (in_q x0 c q h d)
  rw [e1, e2]
  exact mul_right_comm _ _ _

omit hR

theorem val_slot8 (cc : Fin 72) (r : Fin 64) (h : Fin 8) (d : Fin 128) :
    (val_main_v143 (F := Ideal) x0 x1 x2 : S1x72x64x8x128.Idx → EReal) (ix5 0 cc r h d)
      = slotTerm (fun c j => (val_main_v113 (F := Ideal) x0 x1 x2 : S1x64x576x8x128.Idx → EReal) (ix5 0 c j h d)) cc r ⟨8, by omega⟩ := by
  unfold val_main_v143
  refine pad_slot 8 0 (by omega) _ _ _ (by rw [val_main_cst_25_apply]; exact Ideal.ofBits_zero_f32) _ cc r h d fun c => ?_
  rw [val_main_v142_apply]
  exact congrArg (val_main_v113 (F := Ideal) x0 x1 x2) (ext5 _ 0 c ⟨64 * 8 + r.val, by omega⟩ h d rfl rfl rfl rfl rfl)

theorem val_slot7 (cc : Fin 72) (r : Fin 64) (h : Fin 8) (d : Fin 128) :
    (val_main_v144 (F := Ideal) x0 x1 x2 : S1x72x64x8x128.Idx → EReal) (ix5 0 cc r h d)
      = slotTerm (fun c j => (val_main_v113 (F := Ideal) x0 x1 x2 : S1x64x576x8x128.Idx → EReal) (ix5 0 c j h d)) cc r ⟨7, by omega⟩ := by
  unfold val_main_v144
  refine pad_slot 7 1 (by omega) _ _ _ (by rw [val_main_cst_26_apply]; exact Ideal.ofBits_zero_f32) _ cc r h d fun c => ?_
  rw [val_main_v141_apply]
  exact congrArg (val_main_v113 (F := Ideal) x0 x1 x2) (ext5 _ 0 c ⟨64 * 7 + r.val, by omega⟩ h d rfl rfl rfl rfl rfl)

theorem val_slot6 (cc : Fin 72) (r : Fin 64) (h : Fin 8) (d : Fin 128) :
    (val_main_v146 (F := Ideal) x0 x1 x2 : S1x72x64x8x128.Idx → EReal) (ix5 0 cc r h d)
      = slotTerm (fun c j => (val_main_v113 (F := Ideal) x0 x1 x2 : S1x64x576x8x128.Idx → EReal) (ix5 0 c j h d)) cc r ⟨6, by omega⟩ := by
  unfold val_main_v146
  refine pad_slot 6 2 (by omega) _ _ _ (by rw [val_main_cst_27_apply]; exact Ideal.ofBits_zero_f32) _ cc r h d fun c => ?_
  rw [val_main_v140_apply]
  exact congrArg (val_main_v113 (F := Ideal) x0 x1 x2) (ext5 _ 0 c ⟨64 * 6 + r.val, by omega⟩ h d rfl rfl rfl rfl rfl)

theorem val_slot5 (cc : Fin 72) (r : Fin 64) (h : Fin 8) (d : Fin 128) :
    (val_main_v148 (F := Ideal) x0 x1 x2 : S1x72x64x8x128.Idx → EReal) (ix5 0 cc r h d)
      = slotTerm (fun c j => (val_main_v113 (F := Ideal) x0 x1 x2 : S1x64x576x8x128.Idx → EReal) (ix5 0 c j h d)) cc r ⟨5, by omega⟩ := by
  unfold val_main_v148
  refine pad_slot 5 3 (by omega) _ _ _ (by rw [val_main_cst_28_apply]; exact Ideal.ofBits_zero_f32) _ cc r h d fun c => ?_
  rw [val_main_v139_apply]
  exact congrArg (val_main_v113 (F := Ideal) x0 x1 x2) (ext5 _ 0 c ⟨64 * 5 + r.val, by omega⟩ h d rfl rfl rfl rfl rfl)

theorem val_slot4 (cc : Fin 72) (r : Fin 64) (h : Fin 8) (d : Fin 128) :
    (val_main_v150 (F := Ideal) x0 x1 x2 : S1x72x64x8x128.Idx → EReal) (ix5 0 cc r h d)
      = slotTerm (fun c j => (val_main_v113 (F := Ideal) x0 x1 x2 : S1x64x576x8x128.Idx → EReal) (ix5 0 c j h d)) cc r ⟨4, by omega⟩ := by
  unfold val_main_v150
  refine pad_slot 4 4 (by omega) _ _ _ (by rw [val_main_cst_29_apply]; exact Ideal.ofBits_zero_f32) _ cc r h d fun c => ?_
  rw [val_main_v138_apply]
  exact congrArg (val_main_v113 (F := Ideal) x0 x1 x2) (ext5 _ 0 c ⟨64 * 4 + r.val, by omega⟩ h d rfl rfl rfl rfl rfl)

theorem val_slot3 (cc : Fin 72) (r : Fin 64) (h : Fin 8) (d : Fin 128) :
    (val_main_v152 (F := Ideal) x0 x1 x2 : S1x72x64x8x128.Idx → EReal) (ix5 0 cc r h d)
      = slotTerm (fun c j => (val_main_v113 (F := Ideal) x0 x1 x2 : S1x64x576x8x128.Idx → EReal) (ix5 0 c j h d)) cc r ⟨3, by omega⟩ := by
  unfold val_main_v152
  refine pad_slot 3 5 (by omega) _ _ _ (by rw [val_main_cst_30_apply]; exact Ideal.ofBits_zero_f32) _ cc r h d fun c => ?_
  rw [val_main_v137_apply]
  exact congrArg (val_main_v113 (F := Ideal) x0 x1 x2) (ext5 _ 0 c ⟨64 * 3 + r.val, by omega⟩ h d rfl rfl rfl rfl rfl)

theorem val_slot2 (cc : Fin 72) (r : Fin 64) (h : Fin 8) (d : Fin 128) :
    (val_main_v154 (F := Ideal) x0 x1 x2 : S1x72x64x8x128.Idx → EReal) (ix5 0 cc r h d)
      = slotTerm (fun c j => (val_main_v113 (F := Ideal) x0 x1 x2 : S1x64x576x8x128.Idx → EReal) (ix5 0 c j h d)) cc r ⟨2, by omega⟩ := by
  unfold val_main_v154
  refine pad_slot 2 6 (by omega) _ _ _ (by rw [val_main_cst_31_apply]; exact Ideal.ofBits_zero_f32) _ cc r h d fun c => ?_
  rw [val_main_v136_apply]
  exact congrArg (val_main_v113 (F := Ideal) x0 x1 x2) (ext5 _ 0 c ⟨64 * 2 + r.val, by omega⟩ h d rfl rfl rfl rfl rfl)

theorem val_slot1 (cc : Fin 72) (r : Fin 64) (h : Fin 8) (d : Fin 128) :
    (val_main_v156 (F := Ideal) x0 x1 x2 : S1x72x64x8x128.Idx → EReal) (ix5 0 cc r h d)
      = slotTerm (fun c j => (val_main_v113 (F := Ideal) x0 x1 x2 : S1x64x576x8x128.Idx → EReal) (ix5 0 c j h d)) cc r ⟨1, by omega⟩ := by
  unfold val_main_v156
  refine pad_slot 1 7 (by omega) _ _ _ (by rw [val_main_cst_32_apply]; exact Ideal.ofBits_zero_f32) _ cc r h d fun c => ?_
  rw [val_main_v135_apply]
  exact congrArg (val_main_v113 (F := Ideal) x0 x1 x2) (ext5 _ 0 c ⟨64 * 1 + r.val, by omega⟩ h d rfl rfl rfl rfl rfl)

theorem val_slot0 (cc : Fin 72) (r : Fin 64) (h : Fin 8) (d : Fin 128) :
    (val_main_v158 (F := Ideal) x0 x1 x2 : S1x72x64x8x128.Idx → EReal) (ix5 0 cc r h d)
      = slotTerm (fun c j => (val_main_v113 (F := Ideal) x0 x1 x2 : S1x64x576x8x128.Idx → EReal) (ix5 0 c j h d)) cc r ⟨0, by omega⟩ := by
  unfold val_main_v158
  refine pad_slot 0 8 (by omega) _ _ _ (by rw [val_main_cst_33_apply]; exact Ideal.ofBits_zero_f32) _ cc r h d fun c => ?_
  rw [val_main_v134_apply]
  exact congrArg (val_main_v113 (F := Ideal) x0 x1 x2) (ext5 _ 0 c ⟨64 * 0 + r.val, by omega⟩ h d rfl rfl (by show r.val = 64 * 0 + r.val; omega) rfl rfl)

theorem val_nine (cc : Fin 72) (r : Fin 64) (h : Fin 8) (d : Fin 128) :
    (val_main_v159 (F := Ideal) x0 x1 x2 : S1x72x64x8x128.Idx → EReal) (ix5 0 cc r h d)
      = ∑ l, slotTerm (fun c j => (val_main_v113 (F := Ideal) x0 x1 x2 : S1x64x576x8x128.Idx → EReal) (ix5 0 c j h d)) cc r l := by
  rw [val_main_v159_apply, val_main_v157_apply, val_main_v155_apply, val_main_v153_apply, val_main_v151_apply, val_main_v149_apply, val_main_v147_apply, val_main_v145_apply]
  rw [val_slot0 x0 x1 x2 cc r h d, val_slot1 x0 x1 x2 cc r h d, val_slot2 x0 x1 x2 cc r h d, val_slot3 x0 x1 x2 cc r h d, val_slot4 x0 x1 x2 cc r h d, val_slot5 x0 x1 x2 cc r h d, val_slot6 x0 x1 x2 cc r h d, val_slot7 x0 x1 x2 cc r h d, val_slot8 x0 x1 x2 cc r h d]
  simp only [Fin.sum_univ_succ, Fin.sum_univ_zero]
  generalize (fun c j => (val_main_v113 (F := Ideal) x0 x1 x2 : S1x64x576x8x128.Idx → EReal) (ix5 0 c j h d)) = G
  show ((((((((slotTerm G cc r 8 + slotTerm G cc r 7) + slotTerm G cc r 6) + slotTerm G cc r 5) + slotTerm G cc r 4) + slotTerm G cc r 3)
    + slotTerm G cc r 2) + slotTerm G cc r 1) + slotTerm G cc r 0)
    = slotTerm G cc r 0 + (slotTerm G cc r 1 + (slotTerm G cc r 2 + (slotTerm G cc r 3 + (slotTerm G cc r 4 + (slotTerm G cc r 5
      + (slotTerm G cc r 6 + (slotTerm G cc r 7 + (slotTerm G cc r 8 + 0))))))))
  abel

theorem key_slot8 (cc : Fin 72) (r : Fin 64) (h : Fin 8) (d : Fin 128) :
    (val_main_v169 (F := Ideal) x0 x1 x2 : S1x72x64x8x128.Idx → EReal) (ix5 0 cc r h d)
      = slotTerm (fun c j => (val_main_v131 (F := Ideal) x0 x1 x2 : S1x64x576x8x128.Idx → EReal) (ix5 0 c j h d)) cc r ⟨8, by omega⟩ := by
  unfold val_main_v169
  refine pad_slot 8 0 (by omega) _ _ _ (by rw [val_main_cst_34_apply]; exact Ideal.ofBits_zero_f32) _ cc r h d fun c => ?_
  rw [val_main_v168_apply]
  exact congrArg (val_main_v131 (F := Ideal) x0 x1 x2) (ext5 _ 0 c ⟨64 * 8 + r.val, by omega⟩ h d rfl rfl rfl rfl rfl)

theorem key_slot7 (cc : Fin 72) (r : Fin 64) (h : Fin 8) (d : Fin 128) :
    (val_main_v170 (F := Ideal) x0 x1 x2 : S1x72x64x8x128.Idx → EReal) (ix5 0 cc r h d)
      = slotTerm (fun c j => (val_main_v131 (F := Ideal) x0 x1 x2 : S1x64x576x8x128.Idx → EReal) (ix5 0 c j h d)) cc r ⟨7, by omega⟩ := by
  unfold val_main_v170
  refine pad_slot 7 1 (by omega) _ _ _ (by rw [val_main_cst_35_apply]; exact Ideal.ofBits_zero_f32) _ cc r h d fun c => ?_
  rw [val_main_v167_apply]
  exact congrArg (val_main_v131 (F := Ideal) x0 x1 x2) (ext5 _ 0 c ⟨64 * 7 + r.val, by omega⟩ h d rfl rfl rfl rfl rfl)

theorem key_slot6 (cc : Fin 72) (r : Fin 64) (h : Fin 8) (d : Fin 128) :
    (val_main_v172 (F := Ideal) x0 x1 x2 : S1x72x64x8x128.Idx → EReal) (ix5 0 cc r h d)
      = slotTerm (fun c j => (val_main_v131 (F := Ideal) x0 x1 x2 : S1x64x576x8x128.Idx → EReal) (ix5 0 c j h d)) cc r ⟨6, by omega⟩ := by
  unfold val_main_v172
  refine pad_slot 6 2 (by omega) _ _ _ (by rw [val_main_cst_36_apply]; exact Ideal.ofBits_zero_f32) _ cc r h d fun c => ?_
  rw [val_main_v166_apply]
  exact congrArg (val_main_v131 (F := Ideal) x0 x1 x2) (ext5 _ 0 c ⟨64 * 6 + r.val, by omega⟩ h d rfl rfl rfl rfl rfl)

theorem key_slot5 (cc : Fin 72) (r : Fin 64) (h : Fin 8) (d : Fin 128) :
    (val_main_v174 (F := Ideal) x0 x1 x2 : S1x72x64x8x128.Idx → EReal) (ix5 0 cc r h d)
      = slotTerm (fun c j => (val_main_v131 (F := Ideal) x0 x1 x2 : S1x64x576x8x128.Idx → EReal) (ix5 0 c j h d)) cc r ⟨5, by omega⟩ := by
  unfold val_main_v174
  refine pad_slot 5 3 (by omega) _ _ _ (by rw [val_main_cst_37_apply]; exact Ideal.ofBits_zero_f32) _ cc r h d fun c => ?_
  rw [val_main_v165_apply]
  exact congrArg (val_main_v131 (F := Ideal) x0 x1 x2) (ext5 _ 0 c ⟨64 * 5 + r.val, by omega⟩ h d rfl rfl rfl rfl rfl)

theorem key_slot4 (cc : Fin 72) (r : Fin 64) (h : Fin 8) (d : Fin 128) :
    (val_main_v176 (F := Ideal) x0 x1 x2 : S1x72x64x8x128.Idx → EReal) (ix5 0 cc r h d)
      = slotTerm (fun c j => (val_main_v131 (F := Ideal) x0 x1 x2 : S1x64x576x8x128.Idx → EReal) (ix5 0 c j h d)) cc r ⟨4, by omega⟩ := by
  unfold val_main_v176
  refine pad_slot 4 4 (by omega) _ _ _ (by rw [val_main_cst_38_apply]; exact Ideal.ofBits_zero_f32) _ cc r h d fun c => ?_
  rw [val_main_v164_apply]
  exact congrArg (val_main_v131 (F := Ideal) x0 x1 x2) (ext5 _ 0 c ⟨64 * 4 + r.val, by omega⟩ h d rfl rfl rfl rfl rfl)

theorem key_slot3 (cc : Fin 72) (r : Fin 64) (h : Fin 8) (d : Fin 128) :
    (val_main_v178 (F := Ideal) x0 x1 x2 : S1x72x64x8x128.Idx → EReal) (ix5 0 cc r h d)
      = slotTerm (fun c j => (val_main_v131 (F := Ideal) x0 x1 x2 : S1x64x576x8x128.Idx → EReal) (ix5 0 c j h d)) cc r ⟨3, by omega⟩ := by
  unfold val_main_v178
  refine pad_slot 3 5 (by omega) _ _ _ (by rw [val_main_cst_39_apply]; exact Ideal.ofBits_zero_f32) _ cc r h d fun c => ?_
  rw [val_main_v163_apply]
  exact congrArg (val_main_v131 (F := Ideal) x0 x1 x2) (ext5 _ 0 c ⟨64 * 3 + r.val, by omega⟩ h d rfl rfl rfl rfl rfl)

theorem key_slot2 (cc : Fin 72) (r : Fin 64) (h : Fin 8) (d : Fin 128) :
    (val_main_v180 (F := Ideal) x0 x1 x2 : S1x72x64x8x128.Idx → EReal) (ix5 0 cc r h d)
      = slotTerm (fun c j => (val_main_v131 (F := Ideal) x0 x1 x2 : S1x64x576x8x128.Idx → EReal) (ix5 0 c j h d)) cc r ⟨2, by omega⟩ := by
  unfold val_main_v180
  refine pad_slot 2 6 (by omega) _ _ _ (by rw [val_main_cst_40_apply]; exact Ideal.ofBits_zero_f32) _ cc r h d fun c => ?_
  rw [val_main_v162_apply]
  exact congrArg (val_main_v131 (F := Ideal) x0 x1 x2) (ext5 _ 0 c ⟨64 * 2 + r.val, by omega⟩ h d rfl rfl rfl rfl rfl)

theorem key_slot1 (cc : Fin 72) (r : Fin 64) (h : Fin 8) (d : Fin 128) :
    (val_main_v182 (F := Ideal) x0 x1 x2 : S1x72x64x8x128.Idx → EReal) (ix5 0 cc r h d)
      = slotTerm (fun c j => (val_main_v131 (F := Ideal) x0 x1 x2 : S1x64x576x8x128.Idx → EReal) (ix5 0 c j h d)) cc r ⟨1, by omega⟩ := by
  unfold val_main_v182
  refine pad_slot 1 7 (by omega) _ _ _ (by rw [val_main_cst_41_apply]; exact Ideal.ofBits_zero_f32) _ cc r h d fun c => ?_
  rw [val_main_v161_apply]
  exact congrArg (val_main_v131 (F := Ideal) x0 x1 x2) (ext5 _ 0 c ⟨64 * 1 + r.val, by omega⟩ h d rfl rfl rfl rfl rfl)

theorem key_slot0 (cc : Fin 72) (r : Fin 64) (h : Fin 8) (d : Fin 128) :
    (val_main_v184 (F := Ideal) x0 x1 x2 : S1x72x64x8x128.Idx → EReal) (ix5 0 cc r h d)
      = slotTerm (fun c j => (val_main_v131 (F := Ideal) x0 x1 x2 : S1x64x576x8x128.Idx → EReal) (ix5 0 c j h d)) cc r ⟨0, by omega⟩ := by
  unfold val_main_v184
  refine pad_slot 0 8 (by omega) _ _ _ (by rw [val_main_cst_42_apply]; exact Ideal.ofBits_zero_f32) _ cc r h d fun c => ?_
  rw [val_main_v160_apply]
  exact congrArg (val_main_v131 (F := Ideal) x0 x1 x2) (ext5 _ 0 c ⟨64 * 0 + r.val, by omega⟩ h d rfl rfl (by show r.val = 64 * 0 + r.val; omega) rfl rfl)

theorem key_nine (cc : Fin 72) (r : Fin 64) (h : Fin 8) (d : Fin 128) :
    (val_main_v185 (F := Ideal) x0 x1 x2 : S1x72x64x8x128.Idx → EReal) (ix5 0 cc r h d)
      = ∑ l, slotTerm (fun c j => (val_main_v131 (F := Ideal) x0 x1 x2 : S1x64x576x8x128.Idx → EReal) (ix5 0 c j h d)) cc r l := by
  rw [val_main_v185_apply, val_main_v183_apply, val_main_v181_apply, val_main_v179_apply, val_main_v177_apply, val_main_v175_apply, val_main_v173_apply, val_main_v171_apply]
  rw [key_slot0 x0 x1 x2 cc r h d, key_slot1 x0 x1 x2 cc r h d, key_slot2 x0 x1 x2 cc r h d, key_slot3 x0 x1 x2 cc r h d, key_slot4 x0 x1 x2 cc r h d, key_slot5 x0 x1 x2 cc r h d, key_slot6 x0 x1 x2 cc r h d, key_slot7 x0 x1 x2 cc r h d, key_slot8 x0 x1 x2 cc r h d]
  simp only [Fin.sum_univ_succ, Fin.sum_univ_zero]
  generalize (fun c j => (val_main_v131 (F := Ideal) x0 x1 x2 : S1x64x576x8x128.Idx → EReal) (ix5 0 c j h d)) = G
  show ((((((((slotTerm G cc r 8 + slotTerm G cc r 7) + slotTerm G cc r 6) + slotTerm G cc r 5) + slotTerm G cc r 4) + slotTerm G cc r 3)
    + slotTerm G cc r 2) + slotTerm G cc r 1) + slotTerm G cc r 0)
    = slotTerm G cc r 0 + (slotTerm G cc r 1 + (slotTerm G cc r 2 + (slotTerm G cc r 3 + (slotTerm G cc r 4 + (slotTerm G cc r 5
      + (slotTerm G cc r 6 + (slotTerm G cc r 7 + (slotTerm G cc r 8 + 0))))))))
  abel

include hR

/-- The gradient of the values, chunk by chunk. -/
theorem values_sum (cc : Fin 72) (r : Fin 64) (h : Fin 8) (d : Fin 128) :
    (val_main_v159 (F := Ideal) x0 x1 x2 : S1x72x64x8x128.Idx → EReal) (ix5 0 cc r h d)
      = dv (hq x0 h) (ho x2 h) (hk x0 h) (hb x1 h) ⟨64 * cc.val + r.val, by omega⟩ d := by
  rw [val_nine]
  exact sum_slots _ (fun K Q => p (hq x0 h) (hk x0 h) (hb x1 h) Q K * ho x2 h Q d) (fun c j => values_at x0 x1 x2 hR c j h d)
    (fun K Q hn => by
      show rowP _ _ * _ = (0 : EReal)
      rw [rowP_off _ K (off_reach x0 x1 h Q K hn), zero_mul]) cc r

/-- The gradient of the keys, chunk by chunk. -/
theorem keys_sum (cc : Fin 72) (r : Fin 64) (h : Fin 8) (d : Fin 128) :
    (val_main_v185 (F := Ideal) x0 x1 x2 : S1x72x64x8x128.Idx → EReal) (ix5 0 cc r h d)
      = dk (hq x0 h) (ho x2 h) (hk x0 h) (hv x0 h) (hb x1 h) ⟨64 * cc.val + r.val, by omega⟩ d := by
  rw [key_nine]
  unfold dk
  rw [sum_mul_real _ _ scl_nonneg scl_ne_top]
  exact sum_slots _ (fun K Q => ds (hq x0 h) (ho x2 h) (hk x0 h) (hv x0 h) (hb x1 h) Q K * hq x0 h Q d * scl) (fun c j => keys_at x0 x1 x2 hR c j h d)
    (fun K Q hn => by
      show rowDs _ _ _ * _ * _ = (0 : EReal)
      rw [rowDs_off _ _ K (off_reach x0 x1 h Q K hn), zero_mul, zero_mul]) cc r

/-- The gradient of the queries, as the reference returns it. -/
theorem q_result (Q : Fin 4096) (j : Fin 1024) :
    (val_main_v194 (F := Ideal) x0 x1 x2 : S4096x1024.Idx → EReal) (ix2 Q j) = gq x0 x1 x2 Q j := by
  rw [val_main_v194_apply, val_main_v193_apply, val_main_v192_apply]
  show (val_main_v133 (F := Ideal) x0 x1 x2 : S1x64x64x8x128.Idx → EReal) _ = _
  have hQ := Q.isLt
  have hj := j.isLt
  have e : idx_main_v192 (idx_main_v193 (ix2 Q j)) = ix5 (0 : Fin 1) (⟨Q.val / 64, by omega⟩ : Fin 64) (⟨Q.val % 64, by omega⟩ : Fin 64) (hd j) (lane j) := by
    refine ext5 _ 0 ⟨Q.val / 64, by omega⟩ ⟨Q.val % 64, by omega⟩ (hd j) (lane j) rfl ?_ ?_ ?_ ?_
    · show (((0 * 4096 + (Q.val * 1024 + j.val) / 1024 % 4096) * 8 + (Q.val * 1024 + j.val) / 128 % 8) * 128 + (Q.val * 1024 + j.val) % 128) / 65536 % 64 = Q.val / 64
      omega
    · show (((0 * 4096 + (Q.val * 1024 + j.val) / 1024 % 4096) * 8 + (Q.val * 1024 + j.val) / 128 % 8) * 128 + (Q.val * 1024 + j.val) % 128) / 1024 % 64 = Q.val % 64
      omega
    · show (((0 * 4096 + (Q.val * 1024 + j.val) / 1024 % 4096) * 8 + (Q.val * 1024 + j.val) / 128 % 8) * 128 + (Q.val * 1024 + j.val) % 128) / 128 % 8 = j.val / 128
      omega
    · show (((0 * 4096 + (Q.val * 1024 + j.val) / 1024 % 4096) * 8 + (Q.val * 1024 + j.val) / 128 % 8) * 128 + (Q.val * 1024 + j.val) % 128) % 128 = j.val % 128
      omega
  rw [e]
  rw [queries_at x0 x1 x2 hR]
  refine congrArg (fun P => dq (hq x0 (hd j)) (ho x2 (hd j)) (hk x0 (hd j)) (hv x0 (hd j)) (hb x1 (hd j)) P (lane j)) (Fin.ext ?_)
  show 64 * (Q.val / 64) + Q.val % 64 = Q.val
  omega

/-- The gradient of the keys, as the reference returns it. -/
theorem k_result (Q : Fin 4096) (j : Fin 1024) :
    (val_main_v196 (F := Ideal) x0 x1 x2 : S4096x1024.Idx → EReal) (ix2 Q j) = gk x0 x1 x2 Q j := by
  rw [val_main_v196_apply, val_main_v195_apply, val_main_v191_apply]
  show (val_main_v189 (F := Ideal) x0 x1 x2 : S1x64x64x8x128.Idx → EReal) _ = _
  have hQ := Q.isLt
  have hj := j.isLt
  have e : idx_main_v191 (idx_main_v195 (ix2 Q j)) = ix5 (0 : Fin 1) (⟨Q.val / 64, by omega⟩ : Fin 64) (⟨Q.val % 64, by omega⟩ : Fin 64) (hd j) (lane j) := by
    refine ext5 _ 0 ⟨Q.val / 64, by omega⟩ ⟨Q.val % 64, by omega⟩ (hd j) (lane j) rfl ?_ ?_ ?_ ?_
    · show (((0 * 4096 + (Q.val * 1024 + j.val) / 1024 % 4096) * 8 + (Q.val * 1024 + j.val) / 128 % 8) * 128 + (Q.val * 1024 + j.val) % 128) / 65536 % 64 = Q.val / 64
      omega
    · show (((0 * 4096 + (Q.val * 1024 + j.val) / 1024 % 4096) * 8 + (Q.val * 1024 + j.val) / 128 % 8) * 128 + (Q.val * 1024 + j.val) % 128) / 1024 % 64 = Q.val % 64
      omega
    · show (((0 * 4096 + (Q.val * 1024 + j.val) / 1024 % 4096) * 8 + (Q.val * 1024 + j.val) / 128 % 8) * 128 + (Q.val * 1024 + j.val) % 128) / 128 % 8 = j.val / 128
      omega
    · show (((0 * 4096 + (Q.val * 1024 + j.val) / 1024 % 4096) * 8 + (Q.val * 1024 + j.val) / 128 % 8) * 128 + (Q.val * 1024 + j.val) % 128) % 128 = j.val % 128
      omega
  rw [e]
  rw [val_main_v189_apply]
  refine (congrArg (val_main_v185 (F := Ideal) x0 x1 x2) (ext5 _ 0 (⟨8 + Q.val / 64, by omega⟩ : Fin 72) (⟨Q.val % 64, by omega⟩ : Fin 64) (hd j) (lane j) rfl rfl rfl rfl rfl)).trans ?_
  rw [keys_sum x0 x1 x2 hR]
  refine congrArg (fun P => dk (hq x0 (hd j)) (ho x2 (hd j)) (hk x0 (hd j)) (hv x0 (hd j)) (hb x1 (hd j)) P (lane j)) (Fin.ext ?_)
  show 64 * (8 + Q.val / 64) + Q.val % 64 = 512 + Q.val
  omega

/-- The gradient of the values, as the reference returns it. -/
theorem v_result (Q : Fin 4096) (j : Fin 1024) :
    (val_main_v198 (F := Ideal) x0 x1 x2 : S4096x1024.Idx → EReal) (ix2 Q j) = gv x0 x1 x2 Q j := by
  rw [val_main_v198_apply, val_main_v197_apply, val_main_v190_apply]
  show (val_main_v187 (F := Ideal) x0 x1 x2 : S1x64x64x8x128.Idx → EReal) _ = _
  have hQ := Q.isLt
  have hj := j.isLt
  have e : idx_main_v190 (idx_main_v197 (ix2 Q j)) = ix5 (0 : Fin 1) (⟨Q.val / 64, by omega⟩ : Fin 64) (⟨Q.val % 64, by omega⟩ : Fin 64) (hd j) (lane j) := by
    refine ext5 _ 0 ⟨Q.val / 64, by omega⟩ ⟨Q.val % 64, by omega⟩ (hd j) (lane j) rfl ?_ ?_ ?_ ?_
    · show (((0 * 4096 + (Q.val * 1024 + j.val) / 1024 % 4096) * 8 + (Q.val * 1024 + j.val) / 128 % 8) * 128 + (Q.val * 1024 + j.val) % 128) / 65536 % 64 = Q.val / 64
      omega
    · show (((0 * 4096 + (Q.val * 1024 + j.val) / 1024 % 4096) * 8 + (Q.val * 1024 + j.val) / 128 % 8) * 128 + (Q.val * 1024 + j.val) % 128) / 1024 % 64 = Q.val % 64
      omega
    · show (((0 * 4096 + (Q.val * 1024 + j.val) / 1024 % 4096) * 8 + (Q.val * 1024 + j.val) / 128 % 8) * 128 + (Q.val * 1024 + j.val) % 128) / 128 % 8 = j.val / 128
      omega
    · show (((0 * 4096 + (Q.val * 1024 + j.val) / 1024 % 4096) * 8 + (Q.val * 1024 + j.val) / 128 % 8) * 128 + (Q.val * 1024 + j.val) % 128) % 128 = j.val % 128
      omega
  rw [e]
  rw [val_main_v187_apply]
  refine (congrArg (val_main_v159 (F := Ideal) x0 x1 x2) (ext5 _ 0 (⟨8 + Q.val / 64, by omega⟩ : Fin 72) (⟨Q.val % 64, by omega⟩ : Fin 64) (hd j) (lane j) rfl rfl rfl rfl rfl)).trans ?_
  rw [values_sum x0 x1 x2 hR]
  refine congrArg (fun P => dv (hq x0 (hd j)) (ho x2 (hd j)) (hk x0 (hd j)) (hb x1 (hd j)) P (lane j)) (Fin.ext ?_)
  show 64 * (8 + Q.val / 64) + Q.val % 64 = 512 + Q.val
  omega

end Cert.Attn.Band

end
-- ==== Proof.Attn.RefRows.lean ====
/- Finite queries, keys and biases give every query a row of scores without +∞ and with one above −∞. -/
module

public import proofs.«01_k».proof.Pre_finite
public import proofs.«01_k».proof.Proof.Attn.RefGrad

@[expose] public section

set_option maxRecDepth 16384

noncomputable section

namespace Cert.Pre_finite

/-- The shapes `finite` states fit. -/
theorem facts : Facts where
  slices_S4096x11264_S4096x2048_0_0 := by decide
  bcast_S_S4096x2048 := by decide
  bcast_S_S8x257 := by decide

end Cert.Pre_finite

namespace Cert.Attn.Band

open Idealize.ShloMosaic.ValueIdx
open Idealize.ShloMosaic
open Idealize.ShloMosaic.TcCoe Idealize.SL.Sem

/-- The size of a number. -/
abbrev size (x : EReal) : EReal := max x (-x)

/-- A number whose size is below +∞ is a real one. -/
theorem real_of_abs_lt (x : EReal) (h : size x < ⊤) : ∃ r : ℝ, x = r := by
  induction x with
  | bot => exact absurd h (by simp [size])
  | coe r => exact ⟨r, rfl⟩
  | top => exact absurd h (by simp [size])

theorem lt_of_bit {a b : EReal} (h : Ideal.cmp .olt a b = 1#1) : a < b := by
  by_contra hn
  have : Ideal.cmp .olt a b = 0#1 := by simp [Ideal.cmp, hn]
  rw [this] at h
  exact absurd h (by decide)

section pre

variable [Cert.Pre_finite.Facts] (x0 : ProjA) (x1 : BiasA) (x2 : HeadsA)

theorem proj_real (hp : (Cert.Pre_finite.fn (F := Ideal) x0 x1 x2).1 = fun _ => 1#1) (Q : Fin 4096) (n : Fin 11264) (hn : n.val < 2048) :
    ∃ r : ℝ, x0 (ix2 Q n) = r := by
  have h := congrFun hp (ix2 Q (⟨n.val, hn⟩ : Fin 2048))
  have ht : Ideal.ofBits .bf16 0x7F80#16 = ⊤ := by simp [Ideal.ofBits, Ideal.ieee]
  refine real_of_abs_lt _ ?_
  have h' : Ideal.cmp .olt (size (extractStridedSlice Cert.Pre_finite.S4096x2048 ![0, 0] x0
      Cert.Pre_finite.Facts.slices_S4096x11264_S4096x2048_0_0 (ix2 Q (⟨n.val, hn⟩ : Fin 2048)))) (Ideal.ofBits .bf16 0x7F80#16) = 1#1 := h
  have e := extractStridedSlice_apply ![0, 0] x0 Cert.Pre_finite.Facts.slices_S4096x11264_S4096x2048_0_0 (ix2 Q (⟨n.val, hn⟩ : Fin 2048)) (ix2 Q n) (fun a => by
    match a with
    | ⟨0, _⟩ => show Q.val = 0 + Q.val; omega
    | ⟨1, _⟩ => show n.val = 0 + n.val; omega)
  rw [ht, e] at h'
  exact lt_of_bit h'

theorem bias_real (hp : (Cert.Pre_finite.fn (F := Ideal) x0 x1 x2).2 = fun _ => 1#1) (h : Fin 8) (n : Fin 257) :
    ∃ r : ℝ, x1 (ix2 h n) = r := by
  have e := congrFun hp (ix2 h n)
  have ht : Ideal.ofBits .f32 0x7F800000#32 = ⊤ := by simp [Ideal.ofBits, Ideal.ieee]
  refine real_of_abs_lt _ ?_
  have e' : Ideal.cmp .olt (size (x1 (ix2 h n))) (Ideal.ofBits .f32 0x7F800000#32) = 1#1 := e
  rw [ht] at e'
  exact lt_of_bit e'

/-- The rows of scores are finite under the precondition. -/
theorem rows_of_pre (hp : (Cert.Pre_finite.fn (F := Ideal) x0 x1 x2).1 = (fun _ => 1#1) ∧ (Cert.Pre_finite.fn (F := Ideal) x0 x1 x2).2 = fun _ => 1#1) :
    Rows x0 x1 := by
  have rq : ∀ h Q d, ∃ r : ℝ, hq x0 h Q d = r := fun h Q d => proj_real x0 x1 x2 hp.1 Q _ (by show 128 * h.val + d.val < 2048; omega)
  have rk : ∀ h K d, ∃ r : ℝ, hk x0 h K d = r := by
    intro h K d
    unfold hk
    split
    · exact proj_real x0 x1 x2 hp.1 _ _ (by show 1024 + 128 * h.val + d.val < 2048; omega)
    · exact ⟨0, rfl⟩
  have rs : ∀ h Q K, Valid Q K → ∃ r : ℝ, sc (hq x0 h) (hk x0 h) (hb x1 h) Q K = r := by
    intro h Q K hv
    obtain ⟨b, hb'⟩ := bias_real x0 x1 x2 hp.2 h (rel Q K)
    choose f hf using rq h Q
    choose g hg using rk h K
    refine ⟨(∑ d, f d * g d) * (11863283 * (2 ^ 27)⁻¹ : ℝ) + b, ?_⟩
    unfold sc
    rw [if_pos hv, scl_eq]
    have e : (∑ d, hq x0 h Q d * hk x0 h K d) = ((∑ d, f d * g d : ℝ) : EReal) := by
      rw [coe_sum]
      exact Finset.sum_congr rfl fun d _ => by rw [hf d, hg d, EReal.coe_mul]
    rw [e, show hb x1 h (rel Q K) = b from hb', EReal.coe_add, ← EReal.coe_mul]
  intro h c q
  refine ⟨fun j => ?_, ⟨⟨512 + q.val, by omega⟩, ?_⟩⟩
  · by_cases hv : Valid (cr c q) ⟨64 * c.val + j.val, by omega⟩
    · obtain ⟨r, hr⟩ := rs h _ _ hv
      show sc _ _ _ _ _ ≠ ⊤
      rw [hr]
      exact EReal.coe_ne_top r
    · show sc _ _ _ _ _ ≠ ⊤
      unfold sc
      rw [if_neg hv]
      exact bot_ne_top
  · have hv : Valid (cr c q) ⟨64 * c.val + (512 + q.val), by omega⟩ := by
      show 512 ≤ 64 * c.val + (512 + q.val) ∧ (64 * c.val + q.val) / 64 ≤ (64 * c.val + (512 + q.val)) / 64
        ∧ (64 * c.val + (512 + q.val)) / 64 ≤ (64 * c.val + q.val) / 64 + 8
      omega
    obtain ⟨r, hr⟩ := rs h _ _ hv
    show sc _ _ _ _ _ ≠ ⊥
    rw [hr]
    exact EReal.coe_ne_bot r

end pre

end Cert.Attn.Band

end
-- ==== Proof.lean ====
/- The claims about the backward pass of the banded attention and about the products of the feed-forwards and of the input
   projection, and of the gradients of two norms: the programs and the references run and give the arguments back unchanged with every semaphore at rest, and
   over the extended reals each kernel's results are its reference's. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel22.Frame
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel23.Frame
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Kernel24.Frame
public import proofs.«01_k».proof.Proof.Gen.Kernel24Ideal.Value
public import proofs.«01_k».proof.Proof.Gen.Reference24Ideal.Run
public import proofs.«01_k».proof.Proof.Gen.Kernel25.Frame
public import proofs.«01_k».proof.Proof.Gen.Kernel25Ideal.Value
public import proofs.«01_k».proof.Proof.Gen.Reference25Ideal.Run
public import proofs.«01_k».proof.Proof.Gen.Kernel26.Frame
public import proofs.«01_k».proof.Proof.Gen.Kernel26Ideal.Value
public import proofs.«01_k».proof.Proof.Gen.Reference26Ideal.Run
public import proofs.«01_k».proof.Proof.Gen.Kernel27.Frame
public import proofs.«01_k».proof.Proof.Gen.Kernel27Ideal.Value
public import proofs.«01_k».proof.Proof.Gen.Reference27Ideal.Run
public import proofs.«01_k».proof.Proof.Gen.Kernel28.Frame
public import proofs.«01_k».proof.Proof.Gen.Kernel28Ideal.Value
public import proofs.«01_k».proof.Proof.Gen.Reference28Ideal.Run
public import proofs.«01_k».proof.Proof.Gen.Kernel29.Frame
public import proofs.«01_k».proof.Proof.Gen.Kernel29Ideal.Value
public import proofs.«01_k».proof.Proof.Gen.Reference29Ideal.Run
public import proofs.«01_k».proof.Proof.Ffn.K2
public import proofs.«01_k».proof.Proof.Ffn.K3
public import proofs.«01_k».proof.Proof.Ffn.K4
public import proofs.«01_k».proof.Proof.Ffn.K5
public import proofs.«01_k».proof.Proof.Ffn.K6
public import proofs.«01_k».proof.Proof.Ffn.K7
public import proofs.«01_k».proof.Proof.Ffn.K8
public import proofs.«01_k».proof.Proof.Ffn.K9
public import proofs.«01_k».proof.Proof.Ffn.K10
public import proofs.«01_k».proof.Proof.Ffn.K11
public import proofs.«01_k».proof.Proof.Ffn.K12
public import proofs.«01_k».proof.Proof.Ffn.K13
public import proofs.«01_k».proof.Proof.Ffn.K14
public import proofs.«01_k».proof.Proof.Ffn.K15
public import proofs.«01_k».proof.Proof.Ffn.K16
public import proofs.«01_k».proof.Proof.Ffn.K17
public import proofs.«01_k».proof.Proof.Ffn.K18
public import proofs.«01_k».proof.Proof.Ffn.K19
public import proofs.«01_k».proof.Proof.Ffn.K22
public import proofs.«01_k».proof.Proof.Ffn.K23
public import proofs.«01_k».proof.Proof.Ffn.K24
public import proofs.«01_k».proof.Proof.Ffn.K25
public import proofs.«01_k».proof.Proof.Ffn.K26
public import proofs.«01_k».proof.Proof.Ffn.K27
public import proofs.«01_k».proof.Proof.Ffn.K28
public import proofs.«01_k».proof.Proof.Ffn.K29
public import proofs.«01_k».proof.Proof.Attn.Fold
public import proofs.«01_k».proof.Proof.Attn.RefRows
public import Idealize.ShloMosaic.Adequacy
public import Idealize.ShloMosaic.Init

@[expose] public section

noncomputable section

namespace Cert.Proof

open Idealize.ShloMosaic Idealize.SL.Sem

/-- Two arrays that agree at every row and column are equal. -/
theorem ext_rows {a b : Cert.Attn.HeadsA} (h : ∀ Q j, a (ValueIdx.ix2 Q j) = b (ValueIdx.ix2 Q j)) : a = b :=
  funext fun i => by rw [ValueIdx.eq_ix2 i]; exact h _ _

/-- The kernel and the reference return the same gradients. -/
theorem gradients : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hp ha
  refine ⟨fun c => Cert.KernelIdeal.Value.G5 m c, fun c => Cert.KernelIdeal.Value.G6 m c, fun c => Cert.KernelIdeal.Value.G7 m c, ?_, ?_⟩
  · exact (θ_run _ _ _).mono (fun r h c => ⟨(h c).1, (h c).2.1, (h c).2.2.1, (h c).2.2.2.2⟩) (Cert.KernelIdeal.Value.run m g)
  · refine (θ_run _ _ _).mono (fun r h c => ?_) (Cert.ReferenceIdeal.Value.run m' g')
    obtain ⟨h0, h1, h2, h3⟩ := h c
    have hR := @Cert.Attn.Band.rows_of_pre Cert.Pre_finite.facts _ _ _ (hp c)
    obtain ⟨a0, a1, a2⟩ := ha c
    refine ⟨h0.trans ?_, h1.trans ?_, h2.trans ?_, h3⟩
    · refine (Cert.ReferenceIdeal.Read.val_main_v194_eq _).trans (ext_rows fun Q j => ?_)
      refine Eq.trans ?_ ((Cert.Attn.Band.q_result _ _ _ hR Q j).trans (Cert.Attn.Tile.G5_eq m c Q j).symm)
      exact congrFun (congr (congrArg₂ (Cert.ReferenceIdeal.Read.val_main_v194 (F := Idealize.ShloMosaic.Ideal)) a0 a1) a2) _
    · refine (Cert.ReferenceIdeal.Read.val_main_v196_eq _).trans (ext_rows fun Q j => ?_)
      refine Eq.trans ?_ ((Cert.Attn.Band.k_result _ _ _ hR Q j).trans (Cert.Attn.Tile.G6_eq m c Q j).symm)
      exact congrFun (congr (congrArg₂ (Cert.ReferenceIdeal.Read.val_main_v196 (F := Idealize.ShloMosaic.Ideal)) a0 a1) a2) _
    · refine (Cert.ReferenceIdeal.Read.val_main_v198_eq _).trans (ext_rows fun Q j => ?_)
      refine Eq.trans ?_ ((Cert.Attn.Band.v_result _ _ _ hR Q j).trans (Cert.Attn.Tile.G7_eq m c Q j).symm)
      exact congrFun (congr (congrArg₂ (Cert.ReferenceIdeal.Read.val_main_v198 (F := Idealize.ShloMosaic.Ideal)) a0 a1) a2) _

/-- The reference runs, gives its arguments back and, having no semaphores, leaves none raised. -/
theorem reference_runs : Cert.quiescent_ReferenceIdeal (hReferenceIdeal := Cert.ReferenceIdeal.Gen.facts) := fun m ρ _ =>
  (θ_run _ _ _).mono (fun _ h => And.intro (fun c => (h c).2.2.2) (sem_eq_zero_of_no_sems (by decide) _)) (Cert.ReferenceIdeal.Value.run m ρ)

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts,
  Cert.Kernel6Ideal.Gen.facts, Cert.Reference6Ideal.Gen.facts, Cert.Kernel7.Gen.facts, Cert.Kernel7Ideal.Gen.facts,
  Cert.Reference7Ideal.Gen.facts, Cert.Kernel8.Gen.facts, Cert.Kernel8Ideal.Gen.facts, Cert.Reference8Ideal.Gen.facts,
  Cert.Kernel9.Gen.facts, Cert.Kernel9Ideal.Gen.facts, Cert.Reference9Ideal.Gen.facts, Cert.Kernel10.Gen.facts,
  Cert.Kernel10Ideal.Gen.facts, Cert.Reference10Ideal.Gen.facts, Cert.Kernel11.Gen.facts,
  Cert.Kernel11Ideal.Gen.facts, Cert.Reference11Ideal.Gen.facts, Cert.Kernel12.Gen.facts,
  Cert.Kernel12Ideal.Gen.facts, Cert.Reference12Ideal.Gen.facts, Cert.Kernel13.Gen.facts,
  Cert.Kernel13Ideal.Gen.facts, Cert.Reference13Ideal.Gen.facts, Cert.Kernel14.Gen.facts,
  Cert.Kernel14Ideal.Gen.facts, Cert.Reference14Ideal.Gen.facts, Cert.Kernel15.Gen.facts,
  Cert.Kernel15Ideal.Gen.facts, Cert.Reference15Ideal.Gen.facts, Cert.Kernel16.Gen.facts,
  Cert.Kernel16Ideal.Gen.facts, Cert.Reference16Ideal.Gen.facts, Cert.Kernel17.Gen.facts,
  Cert.Kernel17Ideal.Gen.facts, Cert.Reference17Ideal.Gen.facts, Cert.Kernel18.Gen.facts,
  Cert.Kernel18Ideal.Gen.facts, Cert.Reference18Ideal.Gen.facts, Cert.Kernel19.Gen.facts,
  Cert.Kernel19Ideal.Gen.facts, Cert.Reference19Ideal.Gen.facts, Cert.Kernel22.Gen.facts,
  Cert.Kernel22Ideal.Gen.facts, Cert.Reference22Ideal.Gen.facts, Cert.Kernel23.Gen.facts,
  Cert.Kernel23Ideal.Gen.facts, Cert.Reference23Ideal.Gen.facts, Cert.Kernel24.Gen.facts,
  Cert.Kernel24Ideal.Gen.facts, Cert.Reference24Ideal.Gen.facts, Cert.Kernel25.Gen.facts,
  Cert.Kernel25Ideal.Gen.facts, Cert.Reference25Ideal.Gen.facts, Cert.Kernel26.Gen.facts,
  Cert.Kernel26Ideal.Gen.facts, Cert.Reference26Ideal.Gen.facts, Cert.Kernel27.Gen.facts,
  Cert.Kernel27Ideal.Gen.facts, Cert.Reference27Ideal.Gen.facts, Cert.Kernel28.Gen.facts,
  Cert.Kernel28Ideal.Gen.facts, Cert.Reference28Ideal.Gen.facts, Cert.Kernel29.Gen.facts,
  Cert.Kernel29Ideal.Gen.facts, Cert.Reference29Ideal.Gen.facts, Cert.Pre_finite.facts, Cert.Pre_finite9.facts,
  fun m ρ _ => Cert.Kernel.Gen.frame m ρ,
  fun m ρ _ => Cert.KernelIdeal.Gen.frame m ρ,
  fun m ρ _ => Cert.KernelIdeal.Gen.frame m ρ,
  reference_runs,
  fun m ρ _ => reference_runs m ρ trivial,
  fun m ρ _ => Cert.Kernel2.Gen.frame m ρ,
  fun m ρ _ => Cert.Kernel2Ideal.Gen.frame m ρ,
  Cert.Mat.K2.reference_runs,
  fun m ρ _ => Cert.Kernel3.Gen.frame m ρ,
  fun m ρ _ => Cert.Kernel3Ideal.Gen.frame m ρ,
  Cert.Mat.K3.reference_runs,
  fun m ρ _ => Cert.Kernel4.Gen.frame m ρ,
  fun m ρ _ => Cert.Kernel4Ideal.Gen.frame m ρ,
  Cert.Mat.K4.reference_runs,
  fun m ρ _ => Cert.Kernel5.Gen.frame m ρ,
  fun m ρ _ => Cert.Kernel5Ideal.Gen.frame m ρ,
  Cert.Mat.K5.reference_runs,
  fun m ρ _ => Cert.Kernel6.Gen.frame m ρ,
  fun m ρ _ => Cert.Kernel6Ideal.Gen.frame m ρ,
  Cert.Mat.K6.reference_runs,
  fun m ρ _ => Cert.Kernel7.Gen.frame m ρ,
  fun m ρ _ => Cert.Kernel7Ideal.Gen.frame m ρ,
  Cert.Mat.K7.reference_runs,
  fun m ρ _ => Cert.Kernel8.Gen.frame m ρ,
  fun m ρ _ => Cert.Kernel8Ideal.Gen.frame m ρ,
  Cert.Mat.K8.reference_runs,
  fun m ρ _ => Cert.Kernel9.Gen.frame m ρ,
  fun m ρ _ => Cert.Kernel9Ideal.Gen.frame m ρ,
  fun m ρ _ => Cert.Kernel9Ideal.Gen.frame m ρ,
  Cert.Mat.K9.reference_runs,
  fun m ρ _ => Cert.Mat.K9.reference_runs m ρ trivial,
  fun m ρ _ => Cert.Kernel10.Gen.frame m ρ,
  fun m ρ _ => Cert.Kernel10Ideal.Gen.frame m ρ,
  Cert.Mat.K10.reference_runs,
  fun m ρ _ => Cert.Kernel11.Gen.frame m ρ,
  fun m ρ _ => Cert.Kernel11Ideal.Gen.frame m ρ,
  Cert.Mat.K11.reference_runs,
  fun m ρ _ => Cert.Kernel12.Gen.frame m ρ,
  fun m ρ _ => Cert.Kernel12Ideal.Gen.frame m ρ,
  Cert.Mat.K12.reference_runs,
  fun m ρ _ => Cert.Kernel13.Gen.frame m ρ,
  fun m ρ _ => Cert.Kernel13Ideal.Gen.frame m ρ,
  Cert.Mat.K13.reference_runs,
  fun m ρ _ => Cert.Kernel14.Gen.frame m ρ,
  fun m ρ _ => Cert.Kernel14Ideal.Gen.frame m ρ,
  Cert.Mat.K14.reference_runs,
  fun m ρ _ => Cert.Kernel15.Gen.frame m ρ,
  fun m ρ _ => Cert.Kernel15Ideal.Gen.frame m ρ,
  Cert.Mat.K15.reference_runs,
  fun m ρ _ => Cert.Kernel16.Gen.frame m ρ,
  fun m ρ _ => Cert.Kernel16Ideal.Gen.frame m ρ,
  Cert.Mat.K16.reference_runs,
  fun m ρ _ => Cert.Kernel17.Gen.frame m ρ,
  fun m ρ _ => Cert.Kernel17Ideal.Gen.frame m ρ,
  Cert.Mat.K17.reference_runs,
  fun m ρ _ => Cert.Kernel18.Gen.frame m ρ,
  fun m ρ _ => Cert.Kernel18Ideal.Gen.frame m ρ,
  Cert.Mat.K18.reference_runs,
  fun m ρ _ => Cert.Kernel19.Gen.frame m ρ,
  fun m ρ _ => Cert.Kernel19Ideal.Gen.frame m ρ,
  Cert.Mat.K19.reference_runs,
  fun m ρ _ => Cert.Kernel22.Gen.frame m ρ,
  fun m ρ _ => Cert.Kernel22Ideal.Gen.frame m ρ,
  Cert.Mat.K22.reference_runs,
  fun m ρ _ => Cert.Kernel23.Gen.frame m ρ,
  fun m ρ _ => Cert.Kernel23Ideal.Gen.frame m ρ,
  Cert.Mat.K23.reference_runs,
  fun m ρ _ => Cert.Kernel24.Gen.frame m ρ,
  fun m ρ _ => Cert.Kernel24Ideal.Gen.frame m ρ,
  Cert.Mat.K24.reference_runs,
  fun m ρ _ => Cert.Kernel25.Gen.frame m ρ,
  fun m ρ _ => Cert.Kernel25Ideal.Gen.frame m ρ,
  fun m ρ _ => Cert.Kernel25Ideal.Gen.frame m ρ,
  Cert.Mat.K25.reference_runs,
  fun m ρ _ => Cert.Mat.K25.reference_runs m ρ trivial,
  fun m ρ _ => Cert.Kernel26.Gen.frame m ρ,
  fun m ρ _ => Cert.Kernel26Ideal.Gen.frame m ρ,
  Cert.Mat.K26.reference_runs,
  fun m ρ _ => Cert.Kernel27.Gen.frame m ρ,
  fun m ρ _ => Cert.Kernel27Ideal.Gen.frame m ρ,
  Cert.Mat.K27.reference_runs,
  fun m ρ _ => Cert.Kernel28.Gen.frame m ρ,
  fun m ρ _ => Cert.Kernel28Ideal.Gen.frame m ρ,
  Cert.Mat.K28.reference_runs,
  fun m ρ _ => Cert.Kernel29.Gen.frame m ρ,
  fun m ρ _ => Cert.Kernel29Ideal.Gen.frame m ρ,
  Cert.Mat.K29.reference_runs,
  IdealRules.named_const.statement Cert.KernelIdeal.κ "mask" .f32 0xF149F2CA#32 ⊥ rfl,
  gradients,
  trivial,
  Cert.Mat.K2.equal,
  trivial,
  Cert.Mat.K3.equal,
  trivial,
  Cert.Mat.K4.equal,
  trivial,
  Cert.Mat.K5.equal,
  trivial,
  Cert.Mat.K6.equal,
  trivial,
  Cert.Mat.K7.equal,
  trivial,
  Cert.Mat.K8.equal,
  trivial,
  Cert.Mat.K9.equal,
  trivial,
  Cert.Mat.K10.equal,
  trivial,
  Cert.Mat.K11.equal,
  trivial,
  Cert.Mat.K12.equal,
  trivial,
  Cert.Mat.K13.equal,
  trivial,
  Cert.Mat.K14.equal,
  trivial,
  Cert.Mat.K15.equal,
  trivial,
  Cert.Mat.K16.equal,
  trivial,
  Cert.Mat.K17.equal,
  trivial,
  Cert.Mat.K18.equal,
  trivial,
  Cert.Mat.K19.equal,
  trivial,
  Cert.Mat.K22.equal,
  trivial,
  Cert.Mat.K23.equal,
  trivial,
  Cert.Mat.K24.equal,
  trivial,
  Cert.Mat.K25.equal,
  trivial,
  Cert.Mat.K26.equal,
  trivial,
  Cert.Mat.K27.equal,
  trivial,
  Cert.Mat.K28.equal,
  trivial,
  Cert.Mat.K29.equal⟩

end Cert.Proof

end
